-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_W1Grad (m : (ℓ : Loc Cert.W1Grad.nD Cert.W1Grad.τ Cert.W1Grad.sig) → Buf (Elt Bits) ℓ) : Prop :=
  True

def Pre_W1GradIdeal (m : (ℓ : Loc Cert.W1GradIdeal.nD Cert.W1GradIdeal.τ Cert.W1GradIdeal.sig) → Buf (Elt Ideal) ℓ) : Prop :=
  True

def Pre_RefW1GradIdeal (m : (ℓ : Loc Cert.RefW1GradIdeal.nD Cert.RefW1GradIdeal.τ Cert.RefW1GradIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_RefUpBwdIdeal (m : (ℓ : Loc Cert.RefUpBwdIdeal.nD Cert.RefUpBwdIdeal.τ Cert.RefUpBwdIdeal.sig) → Buf (Elt Ideal) ℓ) : Prop :=
  True

def Pre_W2Grad (m : (ℓ : Loc Cert.W2Grad.nD Cert.W2Grad.τ Cert.W2Grad.sig) → Buf (Elt Bits) ℓ) : Prop :=
  True

def Pre_W2GradIdeal (m : (ℓ : Loc Cert.W2GradIdeal.nD Cert.W2GradIdeal.τ Cert.W2GradIdeal.sig) → Buf (Elt Ideal) ℓ) : Prop :=
  True

def Pre_RefW2GradIdeal (m : (ℓ : Loc Cert.RefW2GradIdeal.nD Cert.RefW2GradIdeal.τ Cert.RefW2GradIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_RefDownBwdIdeal (m : (ℓ : Loc Cert.RefDownBwdIdeal.nD Cert.RefDownBwdIdeal.τ Cert.RefDownBwdIdeal.sig) → Buf (Elt Ideal) ℓ) : Prop :=
  True

def Pre_WinGrad (m : (ℓ : Loc Cert.WinGrad.nD Cert.WinGrad.τ Cert.WinGrad.sig) → Buf (Elt Bits) ℓ) : Prop :=
  True

def Pre_WinGradIdeal (m : (ℓ : Loc Cert.WinGradIdeal.nD Cert.WinGradIdeal.τ Cert.WinGradIdeal.sig) → Buf (Elt Ideal) ℓ) : Prop :=
  True

def Pre_RefWinGradIdeal (m : (ℓ : Loc Cert.RefWinGradIdeal.nD Cert.RefWinGradIdeal.τ Cert.RefWinGradIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_RefInBwdIdeal (m : (ℓ : Loc Cert.RefInBwdIdeal.nD Cert.RefInBwdIdeal.τ Cert.RefInBwdIdeal.sig) → Buf (Elt Ideal) ℓ) : Prop :=
  True

def Pre_WoutGrad (m : (ℓ : Loc Cert.WoutGrad.nD Cert.WoutGrad.τ Cert.WoutGrad.sig) → Buf (Elt Bits) ℓ) : Prop :=
  True

def Pre_WoutGradIdeal (m : (ℓ : Loc Cert.WoutGradIdeal.nD Cert.WoutGradIdeal.τ Cert.WoutGradIdeal.sig) → Buf (Elt Ideal) ℓ) : Prop :=
  True

def Pre_RefWoutGradIdeal (m : (ℓ : Loc Cert.RefWoutGradIdeal.nD Cert.RefWoutGradIdeal.τ Cert.RefWoutGradIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_RefOutBwdIdeal (m : (ℓ : Loc Cert.RefOutBwdIdeal.nD Cert.RefOutBwdIdeal.τ Cert.RefOutBwdIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_RefMlpUpIdeal (m : (ℓ : Loc Cert.RefMlpUpIdeal.nD Cert.RefMlpUpIdeal.τ Cert.RefMlpUpIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_RefMlpDownIdeal (m : (ℓ : Loc Cert.RefMlpDownIdeal.nD Cert.RefMlpDownIdeal.τ Cert.RefMlpDownIdeal.sig) → Buf (Elt Ideal) ℓ) : Prop :=
  True

def Pre_GmlpOut (m : (ℓ : Loc Cert.GmlpOut.nD Cert.GmlpOut.τ Cert.GmlpOut.sig) → Buf (Elt Bits) ℓ) : Prop :=
  True

def Pre_GmlpOutIdeal (m : (ℓ : Loc Cert.GmlpOutIdeal.nD Cert.GmlpOutIdeal.τ Cert.GmlpOutIdeal.sig) → Buf (Elt Ideal) ℓ) : Prop :=
  True

def Pre_RefGmlpOutIdeal (m : (ℓ : Loc Cert.RefGmlpOutIdeal.nD Cert.RefGmlpOutIdeal.τ Cert.RefGmlpOutIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_RefGmlpInIdeal (m : (ℓ : Loc Cert.RefGmlpInIdeal.nD Cert.RefGmlpInIdeal.τ Cert.RefGmlpInIdeal.sig) → Buf (Elt Ideal) ℓ) : Prop :=
  True

def Pre_WoGrad (m : (ℓ : Loc Cert.WoGrad.nD Cert.WoGrad.τ Cert.WoGrad.sig) → Buf (Elt Bits) ℓ) : Prop :=
  True

def Pre_WoGradIdeal (m : (ℓ : Loc Cert.WoGradIdeal.nD Cert.WoGradIdeal.τ Cert.WoGradIdeal.sig) → Buf (Elt Ideal) ℓ) : Prop :=
  True

def Pre_RefWoGradIdeal (m : (ℓ : Loc Cert.RefWoGradIdeal.nD Cert.RefWoGradIdeal.τ Cert.RefWoGradIdeal.sig) → Buf (Elt Ideal) ℓ) : Prop :=
  True

def Pre_OBwd (m : (ℓ : Loc Cert.OBwd.nD Cert.OBwd.τ Cert.OBwd.sig) → Buf (Elt Bits) ℓ) : Prop :=
  True

def Pre_OBwdIdeal (m : (ℓ : Loc Cert.OBwdIdeal.nD Cert.OBwdIdeal.τ Cert.OBwdIdeal.sig) → Buf (Elt Ideal) ℓ) : Prop :=
  True

def Pre_RefOBwdIdeal (m : (ℓ : Loc Cert.RefOBwdIdeal.nD Cert.RefOBwdIdeal.τ Cert.RefOBwdIdeal.sig) → Buf (Elt Ideal) ℓ) : Prop :=
  True

def Pre_AttnO (m : (ℓ : Loc Cert.AttnO.nD Cert.AttnO.τ Cert.AttnO.sig) → Buf (Elt Bits) ℓ) : Prop :=
  True

def Pre_AttnOIdeal (m : (ℓ : Loc Cert.AttnOIdeal.nD Cert.AttnOIdeal.τ Cert.AttnOIdeal.sig) → Buf (Elt Ideal) ℓ) : Prop :=
  True

def Pre_RefAttnOIdeal (m : (ℓ : Loc Cert.RefAttnOIdeal.nD Cert.RefAttnOIdeal.τ Cert.RefAttnOIdeal.sig) → Buf (Elt Ideal) ℓ) : Prop :=
  True

def Pre_WqGrad (m : (ℓ : Loc Cert.WqGrad.nD Cert.WqGrad.τ Cert.WqGrad.sig) → Buf (Elt Bits) ℓ) : Prop :=
  True

def Pre_WqGradIdeal (m : (ℓ : Loc Cert.WqGradIdeal.nD Cert.WqGradIdeal.τ Cert.WqGradIdeal.sig) → Buf (Elt Ideal) ℓ) : Prop :=
  True

def Pre_RefWqGradIdeal (m : (ℓ : Loc Cert.RefWqGradIdeal.nD Cert.RefWqGradIdeal.τ Cert.RefWqGradIdeal.sig) → Buf (Elt Ideal) ℓ) : Prop :=
  True

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_RefQBwdIdeal (m : (ℓ : Loc Cert.RefQBwdIdeal.nD Cert.RefQBwdIdeal.τ Cert.RefQBwdIdeal.sig) → Buf (Elt Ideal) ℓ) : Prop :=
  True

def Pre_KvGrad (m : (ℓ : Loc Cert.KvGrad.nD Cert.KvGrad.τ Cert.KvGrad.sig) → Buf (Elt Bits) ℓ) : Prop :=
  True

def Pre_KvGradIdeal (m : (ℓ : Loc Cert.KvGradIdeal.nD Cert.KvGradIdeal.τ Cert.KvGradIdeal.sig) → Buf (Elt Ideal) ℓ) : Prop :=
  True

def Pre_RefKvGradIdeal (m : (ℓ : Loc Cert.RefKvGradIdeal.nD Cert.RefKvGradIdeal.τ Cert.RefKvGradIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_RefKvBwdIdeal (m : (ℓ : Loc Cert.RefKvBwdIdeal.nD Cert.RefKvBwdIdeal.τ Cert.RefKvBwdIdeal.sig) → Buf (Elt Ideal) ℓ) : Prop :=
  True

def Pre_KvV (m : (ℓ : Loc Cert.KvV.nD Cert.KvV.τ Cert.KvV.sig) → Buf (Elt Bits) ℓ) : Prop :=
  True

def Pre_KvVIdeal (m : (ℓ : Loc Cert.KvVIdeal.nD Cert.KvVIdeal.τ Cert.KvVIdeal.sig) → Buf (Elt Ideal) ℓ) : Prop :=
  True

def Pre_RefKvVIdeal (m : (ℓ : Loc Cert.RefKvVIdeal.nD Cert.RefKvVIdeal.τ Cert.RefKvVIdeal.sig) → Buf (Elt Ideal) ℓ) : Prop :=
  True

def Pre_AdamBig1 (m : (ℓ : Loc Cert.AdamBig1.nD Cert.AdamBig1.τ Cert.AdamBig1.sig) → Buf (Elt Bits) ℓ) : Prop :=
  True

def Pre_AdamBig1Ideal (m : (ℓ : Loc Cert.AdamBig1Ideal.nD Cert.AdamBig1Ideal.τ Cert.AdamBig1Ideal.sig) → Buf (Elt Ideal) ℓ) : Prop :=
  True

def Pre_RefAdamBig1Ideal (m : (ℓ : Loc Cert.RefAdamBig1Ideal.nD Cert.RefAdamBig1Ideal.τ Cert.RefAdamBig1Ideal.sig) → Buf (Elt Ideal) ℓ) : Prop :=
  True

def Pre_AdamBig2 (m : (ℓ : Loc Cert.AdamBig2.nD Cert.AdamBig2.τ Cert.AdamBig2.sig) → Buf (Elt Bits) ℓ) : Prop :=
  True

def Pre_AdamBig2Ideal (m : (ℓ : Loc Cert.AdamBig2Ideal.nD Cert.AdamBig2Ideal.τ Cert.AdamBig2Ideal.sig) → Buf (Elt Ideal) ℓ) : Prop :=
  True

def Pre_RefAdamBig2Ideal (m : (ℓ : Loc Cert.RefAdamBig2Ideal.nD Cert.RefAdamBig2Ideal.τ Cert.RefAdamBig2Ideal.sig) → Buf (Elt Ideal) ℓ) : Prop :=
  True

def Pre_AdamBig3 (m : (ℓ : Loc Cert.AdamBig3.nD Cert.AdamBig3.τ Cert.AdamBig3.sig) → Buf (Elt Bits) ℓ) : Prop :=
  True

def Pre_AdamBig3Ideal (m : (ℓ : Loc Cert.AdamBig3Ideal.nD Cert.AdamBig3Ideal.τ Cert.AdamBig3Ideal.sig) → Buf (Elt Ideal) ℓ) : Prop :=
  True

def Pre_RefAdamBig3Ideal (m : (ℓ : Loc Cert.RefAdamBig3Ideal.nD Cert.RefAdamBig3Ideal.τ Cert.RefAdamBig3Ideal.sig) → Buf (Elt Ideal) ℓ) : Prop :=
  True

def Pre_AdamBig4 (m : (ℓ : Loc Cert.AdamBig4.nD Cert.AdamBig4.τ Cert.AdamBig4.sig) → Buf (Elt Bits) ℓ) : Prop :=
  True

def Pre_AdamBig4Ideal (m : (ℓ : Loc Cert.AdamBig4Ideal.nD Cert.AdamBig4Ideal.τ Cert.AdamBig4Ideal.sig) → Buf (Elt Ideal) ℓ) : Prop :=
  True

def Pre_RefAdamBig4Ideal (m : (ℓ : Loc Cert.RefAdamBig4Ideal.nD Cert.RefAdamBig4Ideal.τ Cert.RefAdamBig4Ideal.sig) → Buf (Elt Ideal) ℓ) : Prop :=
  True

def Pre_AdamBig5 (m : (ℓ : Loc Cert.AdamBig5.nD Cert.AdamBig5.τ Cert.AdamBig5.sig) → Buf (Elt Bits) ℓ) : Prop :=
  True

def Pre_AdamBig5Ideal (m : (ℓ : Loc Cert.AdamBig5Ideal.nD Cert.AdamBig5Ideal.τ Cert.AdamBig5Ideal.sig) → Buf (Elt Ideal) ℓ) : Prop :=
  True

def Pre_RefAdamBig5Ideal (m : (ℓ : Loc Cert.RefAdamBig5Ideal.nD Cert.RefAdamBig5Ideal.τ Cert.RefAdamBig5Ideal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_RefAdamAdaBIdeal (m : (ℓ : Loc Cert.RefAdamAdaBIdeal.nD Cert.RefAdamAdaBIdeal.τ Cert.RefAdamAdaBIdeal.sig) → Buf (Elt Ideal) ℓ) : Prop :=
  True

def Pre_AdamNormG (m : (ℓ : Loc Cert.AdamNormG.nD Cert.AdamNormG.τ Cert.AdamNormG.sig) → Buf (Elt Bits) ℓ) : Prop :=
  True

def Pre_AdamNormGIdeal (m : (ℓ : Loc Cert.AdamNormGIdeal.nD Cert.AdamNormGIdeal.τ Cert.AdamNormGIdeal.sig) → Buf (Elt Ideal) ℓ) : Prop :=
  True

def Pre_RefAdamNormGIdeal (m : (ℓ : Loc Cert.RefAdamNormGIdeal.nD Cert.RefAdamNormGIdeal.τ Cert.RefAdamNormGIdeal.sig) → Buf (Elt Ideal) ℓ) : Prop :=
  True

def Pre_AdamLnG (m : (ℓ : Loc Cert.AdamLnG.nD Cert.AdamLnG.τ Cert.AdamLnG.sig) → Buf (Elt Bits) ℓ) : Prop :=
  True

def Pre_AdamLnGIdeal (m : (ℓ : Loc Cert.AdamLnGIdeal.nD Cert.AdamLnGIdeal.τ Cert.AdamLnGIdeal.sig) → Buf (Elt Ideal) ℓ) : Prop :=
  True

def Pre_RefAdamLnGIdeal (m : (ℓ : Loc Cert.RefAdamLnGIdeal.nD Cert.RefAdamLnGIdeal.τ Cert.RefAdamLnGIdeal.sig) → Buf (Elt Ideal) ℓ) : Prop :=
  True

def Pre_AdamWs (m : (ℓ : Loc Cert.AdamWs.nD Cert.AdamWs.τ Cert.AdamWs.sig) → Buf (Elt Bits) ℓ) : Prop :=
  True

def Pre_AdamWsIdeal (m : (ℓ : Loc Cert.AdamWsIdeal.nD Cert.AdamWsIdeal.τ Cert.AdamWsIdeal.sig) → Buf (Elt Ideal) ℓ) : Prop :=
  True

def Pre_RefAdamWsIdeal (m : (ℓ : Loc Cert.RefAdamWsIdeal.nD Cert.RefAdamWsIdeal.τ Cert.RefAdamWsIdeal.sig) → Buf (Elt Ideal) ℓ) : Prop :=
  True

def Pre_AdamBs (m : (ℓ : Loc Cert.AdamBs.nD Cert.AdamBs.τ Cert.AdamBs.sig) → Buf (Elt Bits) ℓ) : Prop :=
  True

def Pre_AdamBsIdeal (m : (ℓ : Loc Cert.AdamBsIdeal.nD Cert.AdamBsIdeal.τ Cert.AdamBsIdeal.sig) → Buf (Elt Ideal) ℓ) : Prop :=
  True

def Pre_RefAdamBsIdeal (m : (ℓ : Loc Cert.RefAdamBsIdeal.nD Cert.RefAdamBsIdeal.τ Cert.RefAdamBsIdeal.sig) → Buf (Elt Ideal) ℓ) : Prop :=
  True

def Pre_AdamKvNormG (m : (ℓ : Loc Cert.AdamKvNormG.nD Cert.AdamKvNormG.τ Cert.AdamKvNormG.sig) → Buf (Elt Bits) ℓ) : Prop :=
  True

def Pre_AdamKvNormGIdeal (m : (ℓ : Loc Cert.AdamKvNormGIdeal.nD Cert.AdamKvNormGIdeal.τ Cert.AdamKvNormGIdeal.sig) → Buf (Elt Ideal) ℓ) : Prop :=
  True

def Pre_RefAdamKvNormGIdeal (m : (ℓ : Loc Cert.RefAdamKvNormGIdeal.nD Cert.RefAdamKvNormGIdeal.τ Cert.RefAdamKvNormGIdeal.sig) → Buf (Elt Ideal) ℓ) : Prop :=
  True

def Pre_AdamKvAdaB (m : (ℓ : Loc Cert.AdamKvAdaB.nD Cert.AdamKvAdaB.τ Cert.AdamKvAdaB.sig) → Buf (Elt Bits) ℓ) : Prop :=
  True

def Pre_AdamKvAdaBIdeal (m : (ℓ : Loc Cert.AdamKvAdaBIdeal.nD Cert.AdamKvAdaBIdeal.τ Cert.AdamKvAdaBIdeal.sig) → Buf (Elt Ideal) ℓ) : Prop :=
  True

def Pre_RefAdamKvAdaBIdeal (m : (ℓ : Loc Cert.RefAdamKvAdaBIdeal.nD Cert.RefAdamKvAdaBIdeal.τ Cert.RefAdamKvAdaBIdeal.sig) → Buf (Elt Ideal) ℓ) : Prop :=
  True

def Pre_AdamKNormG (m : (ℓ : Loc Cert.AdamKNormG.nD Cert.AdamKNormG.τ Cert.AdamKNormG.sig) → Buf (Elt Bits) ℓ) : Prop :=
  True

def Pre_AdamKNormGIdeal (m : (ℓ : Loc Cert.AdamKNormGIdeal.nD Cert.AdamKNormGIdeal.τ Cert.AdamKNormGIdeal.sig) → Buf (Elt Ideal) ℓ) : Prop :=
  True

def Pre_RefAdamKNormGIdeal (m : (ℓ : Loc Cert.RefAdamKNormGIdeal.nD Cert.RefAdamKNormGIdeal.τ Cert.RefAdamKNormGIdeal.sig) → Buf (Elt Ideal) ℓ) : Prop :=
  True

def Pre_AdamWf (m : (ℓ : Loc Cert.AdamWf.nD Cert.AdamWf.τ Cert.AdamWf.sig) → Buf (Elt Bits) ℓ) : Prop :=
  True

def Pre_AdamWfIdeal (m : (ℓ : Loc Cert.AdamWfIdeal.nD Cert.AdamWfIdeal.τ Cert.AdamWfIdeal.sig) → Buf (Elt Ideal) ℓ) : Prop :=
  True

def Pre_RefAdamWfIdeal (m : (ℓ : Loc Cert.RefAdamWfIdeal.nD Cert.RefAdamWfIdeal.τ Cert.RefAdamWfIdeal.sig) → Buf (Elt Ideal) ℓ) : Prop :=
  True

def Pre_AdamBf (m : (ℓ : Loc Cert.AdamBf.nD Cert.AdamBf.τ Cert.AdamBf.sig) → Buf (Elt Bits) ℓ) : Prop :=
  True

def Pre_AdamBfIdeal (m : (ℓ : Loc Cert.AdamBfIdeal.nD Cert.AdamBfIdeal.τ Cert.AdamBfIdeal.sig) → Buf (Elt Ideal) ℓ) : Prop :=
  True

def Pre_RefAdamBfIdeal (m : (ℓ : Loc Cert.RefAdamBfIdeal.nD Cert.RefAdamBfIdeal.τ Cert.RefAdamBfIdeal.sig) → Buf (Elt Ideal) ℓ) : Prop :=
  True

def Pre_AdamQNormG (m : (ℓ : Loc Cert.AdamQNormG.nD Cert.AdamQNormG.τ Cert.AdamQNormG.sig) → Buf (Elt Bits) ℓ) : Prop :=
  True

def Pre_AdamQNormGIdeal (m : (ℓ : Loc Cert.AdamQNormGIdeal.nD Cert.AdamQNormGIdeal.τ Cert.AdamQNormGIdeal.sig) → Buf (Elt Ideal) ℓ) : Prop :=
  True

def Pre_RefAdamQNormGIdeal (m : (ℓ : Loc Cert.RefAdamQNormGIdeal.nD Cert.RefAdamQNormGIdeal.τ Cert.RefAdamQNormGIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_RefAdamAdaIdeal (m : (ℓ : Loc Cert.RefAdamAdaIdeal.nD Cert.RefAdamAdaIdeal.τ Cert.RefAdamAdaIdeal.sig) → Buf (Elt Ideal) ℓ) : Prop :=
  True

def Pre_AdamKvAda (m : (ℓ : Loc Cert.AdamKvAda.nD Cert.AdamKvAda.τ Cert.AdamKvAda.sig) → Buf (Elt Bits) ℓ) : Prop :=
  True

def Pre_AdamKvAdaIdeal (m : (ℓ : Loc Cert.AdamKvAdaIdeal.nD Cert.AdamKvAdaIdeal.τ Cert.AdamKvAdaIdeal.sig) → Buf (Elt Ideal) ℓ) : Prop :=
  True

def Pre_RefAdamKvAdaIdeal (m : (ℓ : Loc Cert.RefAdamKvAdaIdeal.nD Cert.RefAdamKvAdaIdeal.τ Cert.RefAdamKvAdaIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_RefMixBwdIdeal (m : (ℓ : Loc Cert.RefMixBwdIdeal.nD Cert.RefMixBwdIdeal.τ Cert.RefMixBwdIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_RefMixFwdIdeal (m : (ℓ : Loc Cert.RefMixFwdIdeal.nD Cert.RefMixFwdIdeal.τ Cert.RefMixFwdIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_RefGateBwdIdeal (m : (ℓ : Loc Cert.RefGateBwdIdeal.nD Cert.RefGateBwdIdeal.τ Cert.RefGateBwdIdeal.sig) → Buf (Elt Ideal) ℓ) : Prop :=
  True

def Pre_ModNorm (m : (ℓ : Loc Cert.ModNorm.nD Cert.ModNorm.τ Cert.ModNorm.sig) → Buf (Elt Bits) ℓ) : Prop :=
  True

def Pre_ModNormIdeal (m : (ℓ : Loc Cert.ModNormIdeal.nD Cert.ModNormIdeal.τ Cert.ModNormIdeal.sig) → Buf (Elt Ideal) ℓ) : Prop :=
  True

def Pre_RefModNormIdeal (m : (ℓ : Loc Cert.RefModNormIdeal.nD Cert.RefModNormIdeal.τ Cert.RefModNormIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_RefLnFwdIdeal (m : (ℓ : Loc Cert.RefLnFwdIdeal.nD Cert.RefLnFwdIdeal.τ Cert.RefLnFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_W1Grad [hW1Grad : Cert.W1Grad.Facts] : Prop :=
  ∀ (m : (ℓ : Loc Cert.W1Grad.nD Cert.W1Grad.τ Cert.W1Grad.sig) → Buf (Elt Bits) ℓ) (g : Dev Cert.W1Grad.nD → PrngReg), Pre_W1Grad m →
    θ_run (Cert.W1Grad.defs (F := Bits)) (onTc (τ := Cert.W1Grad.τ) (Cert.W1Grad.main (F := Bits))) ⟨m, fun _ => 0, g⟩ (fun r => (∀ c : Dev Cert.W1Grad.nD,
      r.2.mem ((c.tc : Thread Cert.W1Grad.nD Cert.W1Grad.τ).loc Cert.W1Grad.main_arg0) = m ((c.tc : Thread Cert.W1Grad.nD Cert.W1Grad.τ).loc Cert.W1Grad.main_arg0)
      ∧ r.2.mem ((c.tc : Thread Cert.W1Grad.nD Cert.W1Grad.τ).loc Cert.W1Grad.main_arg1) = m ((c.tc : Thread Cert.W1Grad.nD Cert.W1Grad.τ).loc Cert.W1Grad.main_arg1))
      ∧ r.2.sem = fun _ => 0)

def quiescent_W1GradIdeal [hW1GradIdeal : Cert.W1GradIdeal.Facts] : Prop :=
  ∀ (m : (ℓ : Loc Cert.W1GradIdeal.nD Cert.W1GradIdeal.τ Cert.W1GradIdeal.sig) → Buf (Elt Ideal) ℓ) (g : Dev Cert.W1GradIdeal.nD → PrngReg), Pre_W1GradIdeal m →
    θ_run (Cert.W1GradIdeal.defs (F := Ideal)) (onTc (τ := Cert.W1GradIdeal.τ) (Cert.W1GradIdeal.main (F := Ideal))) ⟨m, fun _ => 0, g⟩ (fun r => (∀ c : Dev Cert.W1GradIdeal.nD,
      r.2.mem ((c.tc : Thread Cert.W1GradIdeal.nD Cert.W1GradIdeal.τ).loc Cert.W1GradIdeal.main_arg0) = m ((c.tc : Thread Cert.W1GradIdeal.nD Cert.W1GradIdeal.τ).loc Cert.W1GradIdeal.main_arg0)
      ∧ r.2.mem ((c.tc : Thread Cert.W1GradIdeal.nD Cert.W1GradIdeal.τ).loc Cert.W1GradIdeal.main_arg1) = m ((c.tc : Thread Cert.W1GradIdeal.nD Cert.W1GradIdeal.τ).loc Cert.W1GradIdeal.main_arg1))
      ∧ r.2.sem = fun _ => 0)

def quiescent_RefW1GradIdeal [hRefW1GradIdeal : Cert.RefW1GradIdeal.Facts] : Prop :=
  ∀ (m : (ℓ : Loc Cert.RefW1GradIdeal.nD Cert.RefW1GradIdeal.τ Cert.RefW1GradIdeal.sig) → Buf (Elt Ideal) ℓ) (g : Dev Cert.RefW1GradIdeal.nD → PrngReg), Pre_RefW1GradIdeal m →
    θ_run (Cert.RefW1GradIdeal.defs (F := Ideal)) (onTc (τ := Cert.RefW1GradIdeal.τ) (Cert.RefW1GradIdeal.main (F := Ideal))) ⟨m, fun _ => 0, g⟩ (fun r => (∀ c : Dev Cert.RefW1GradIdeal.nD,
      r.2.mem ((c.tc : Thread Cert.RefW1GradIdeal.nD Cert.RefW1GradIdeal.τ).loc Cert.RefW1GradIdeal.main_arg0) = m ((c.tc : Thread Cert.RefW1GradIdeal.nD Cert.RefW1GradIdeal.τ).loc Cert.RefW1GradIdeal.main_arg0)
      ∧ r.2.mem ((c.tc : Thread Cert.RefW1GradIdeal.nD Cert.RefW1GradIdeal.τ).loc Cert.RefW1GradIdeal.main_arg1) = m ((c.tc : Thread Cert.RefW1GradIdeal.nD Cert.RefW1GradIdeal.τ).loc Cert.RefW1GradIdeal.main_arg1))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1))
      ∧ r.2.sem = fun _ => 0)

def quiescent_RefUpBwdIdeal [hRefUpBwdIdeal : Cert.RefUpBwdIdeal.Facts] : Prop :=
  ∀ (m : (ℓ : Loc Cert.RefUpBwdIdeal.nD Cert.RefUpBwdIdeal.τ Cert.RefUpBwdIdeal.sig) → Buf (Elt Ideal) ℓ) (g : Dev Cert.RefUpBwdIdeal.nD → PrngReg), Pre_RefUpBwdIdeal m →
    θ_run (Cert.RefUpBwdIdeal.defs (F := Ideal)) (onTc (τ := Cert.RefUpBwdIdeal.τ) (Cert.RefUpBwdIdeal.main (F := Ideal))) ⟨m, fun _ => 0, g⟩ (fun r => (∀ c : Dev Cert.RefUpBwdIdeal.nD,
      r.2.mem ((c.tc : Thread Cert.RefUpBwdIdeal.nD Cert.RefUpBwdIdeal.τ).loc Cert.RefUpBwdIdeal.main_arg0) = m ((c.tc : Thread Cert.RefUpBwdIdeal.nD Cert.RefUpBwdIdeal.τ).loc Cert.RefUpBwdIdeal.main_arg0)
      ∧ r.2.mem ((c.tc : Thread Cert.RefUpBwdIdeal.nD Cert.RefUpBwdIdeal.τ).loc Cert.RefUpBwdIdeal.main_arg1) = m ((c.tc : Thread Cert.RefUpBwdIdeal.nD Cert.RefUpBwdIdeal.τ).loc Cert.RefUpBwdIdeal.main_arg1))
      ∧ r.2.sem = fun _ => 0)

def quiescent_W2Grad [hW2Grad : Cert.W2Grad.Facts] : Prop :=
  ∀ (m : (ℓ : Loc Cert.W2Grad.nD Cert.W2Grad.τ Cert.W2Grad.sig) → Buf (Elt Bits) ℓ) (g : Dev Cert.W2Grad.nD → PrngReg), Pre_W2Grad m →
    θ_run (Cert.W2Grad.defs (F := Bits)) (onTc (τ := Cert.W2Grad.τ) (Cert.W2Grad.main (F := Bits))) ⟨m, fun _ => 0, g⟩ (fun r => (∀ c : Dev Cert.W2Grad.nD,
      r.2.mem ((c.tc : Thread Cert.W2Grad.nD Cert.W2Grad.τ).loc Cert.W2Grad.main_arg0) = m ((c.tc : Thread Cert.W2Grad.nD Cert.W2Grad.τ).loc Cert.W2Grad.main_arg0)
      ∧ r.2.mem ((c.tc : Thread Cert.W2Grad.nD Cert.W2Grad.τ).loc Cert.W2Grad.main_arg1) = m ((c.tc : Thread Cert.W2Grad.nD Cert.W2Grad.τ).loc Cert.W2Grad.main_arg1)
      ∧ r.2.mem ((c.tc : Thread Cert.W2Grad.nD Cert.W2Grad.τ).loc Cert.W2Grad.main_arg2) = m ((c.tc : Thread Cert.W2Grad.nD Cert.W2Grad.τ).loc Cert.W2Grad.main_arg2))
      ∧ r.2.sem = fun _ => 0)

def quiescent_W2GradIdeal [hW2GradIdeal : Cert.W2GradIdeal.Facts] : Prop :=
  ∀ (m : (ℓ : Loc Cert.W2GradIdeal.nD Cert.W2GradIdeal.τ Cert.W2GradIdeal.sig) → Buf (Elt Ideal) ℓ) (g : Dev Cert.W2GradIdeal.nD → PrngReg), Pre_W2GradIdeal m →
    θ_run (Cert.W2GradIdeal.defs (F := Ideal)) (onTc (τ := Cert.W2GradIdeal.τ) (Cert.W2GradIdeal.main (F := Ideal))) ⟨m, fun _ => 0, g⟩ (fun r => (∀ c : Dev Cert.W2GradIdeal.nD,
      r.2.mem ((c.tc : Thread Cert.W2GradIdeal.nD Cert.W2GradIdeal.τ).loc Cert.W2GradIdeal.main_arg0) = m ((c.tc : Thread Cert.W2GradIdeal.nD Cert.W2GradIdeal.τ).loc Cert.W2GradIdeal.main_arg0)
      ∧ r.2.mem ((c.tc : Thread Cert.W2GradIdeal.nD Cert.W2GradIdeal.τ).loc Cert.W2GradIdeal.main_arg1) = m ((c.tc : Thread Cert.W2GradIdeal.nD Cert.W2GradIdeal.τ).loc Cert.W2GradIdeal.main_arg1)
      ∧ r.2.mem ((c.tc : Thread Cert.W2GradIdeal.nD Cert.W2GradIdeal.τ).loc Cert.W2GradIdeal.main_arg2) = m ((c.tc : Thread Cert.W2GradIdeal.nD Cert.W2GradIdeal.τ).loc Cert.W2GradIdeal.main_arg2))
      ∧ r.2.sem = fun _ => 0)

def quiescent_RefW2GradIdeal [hRefW2GradIdeal : Cert.RefW2GradIdeal.Facts] : Prop :=
  ∀ (m : (ℓ : Loc Cert.RefW2GradIdeal.nD Cert.RefW2GradIdeal.τ Cert.RefW2GradIdeal.sig) → Buf (Elt Ideal) ℓ) (g : Dev Cert.RefW2GradIdeal.nD → PrngReg), Pre_RefW2GradIdeal m →
    θ_run (Cert.RefW2GradIdeal.defs (F := Ideal)) (onTc (τ := Cert.RefW2GradIdeal.τ) (Cert.RefW2GradIdeal.main (F := Ideal))) ⟨m, fun _ => 0, g⟩ (fun r => (∀ c : Dev Cert.RefW2GradIdeal.nD,
      r.2.mem ((c.tc : Thread Cert.RefW2GradIdeal.nD Cert.RefW2GradIdeal.τ).loc Cert.RefW2GradIdeal.main_arg0) = m ((c.tc : Thread Cert.RefW2GradIdeal.nD Cert.RefW2GradIdeal.τ).loc Cert.RefW2GradIdeal.main_arg0)
      ∧ r.2.mem ((c.tc : Thread Cert.RefW2GradIdeal.nD Cert.RefW2GradIdeal.τ).loc Cert.RefW2GradIdeal.main_arg1) = m ((c.tc : Thread Cert.RefW2GradIdeal.nD Cert.RefW2GradIdeal.τ).loc Cert.RefW2GradIdeal.main_arg1)
      ∧ r.2.mem ((c.tc : Thread Cert.RefW2GradIdeal.nD Cert.RefW2GradIdeal.τ).loc Cert.RefW2GradIdeal.main_arg2) = m ((c.tc : Thread Cert.RefW2GradIdeal.nD Cert.RefW2GradIdeal.τ).loc Cert.RefW2GradIdeal.main_arg2))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_RefDownBwdIdeal [hRefDownBwdIdeal : Cert.RefDownBwdIdeal.Facts] : Prop :=
  ∀ (m : (ℓ : Loc Cert.RefDownBwdIdeal.nD Cert.RefDownBwdIdeal.τ Cert.RefDownBwdIdeal.sig) → Buf (Elt Ideal) ℓ) (g : Dev Cert.RefDownBwdIdeal.nD → PrngReg), Pre_RefDownBwdIdeal m →
    θ_run (Cert.RefDownBwdIdeal.defs (F := Ideal)) (onTc (τ := Cert.RefDownBwdIdeal.τ) (Cert.RefDownBwdIdeal.main (F := Ideal))) ⟨m, fun _ => 0, g⟩ (fun r => (∀ c : Dev Cert.RefDownBwdIdeal.nD,
      r.2.mem ((c.tc : Thread Cert.RefDownBwdIdeal.nD Cert.RefDownBwdIdeal.τ).loc Cert.RefDownBwdIdeal.main_arg0) = m ((c.tc : Thread Cert.RefDownBwdIdeal.nD Cert.RefDownBwdIdeal.τ).loc Cert.RefDownBwdIdeal.main_arg0)
      ∧ r.2.mem ((c.tc : Thread Cert.RefDownBwdIdeal.nD Cert.RefDownBwdIdeal.τ).loc Cert.RefDownBwdIdeal.main_arg1) = m ((c.tc : Thread Cert.RefDownBwdIdeal.nD Cert.RefDownBwdIdeal.τ).loc Cert.RefDownBwdIdeal.main_arg1)
      ∧ r.2.mem ((c.tc : Thread Cert.RefDownBwdIdeal.nD Cert.RefDownBwdIdeal.τ).loc Cert.RefDownBwdIdeal.main_arg2) = m ((c.tc : Thread Cert.RefDownBwdIdeal.nD Cert.RefDownBwdIdeal.τ).loc Cert.RefDownBwdIdeal.main_arg2)
      ∧ r.2.mem ((c.tc : Thread Cert.RefDownBwdIdeal.nD Cert.RefDownBwdIdeal.τ).loc Cert.RefDownBwdIdeal.main_arg3) = m ((c.tc : Thread Cert.RefDownBwdIdeal.nD Cert.RefDownBwdIdeal.τ).loc Cert.RefDownBwdIdeal.main_arg3))
      ∧ r.2.sem = fun _ => 0)

def quiescent_WinGrad [hWinGrad : Cert.WinGrad.Facts] : Prop :=
  ∀ (m : (ℓ : Loc Cert.WinGrad.nD Cert.WinGrad.τ Cert.WinGrad.sig) → Buf (Elt Bits) ℓ) (g : Dev Cert.WinGrad.nD → PrngReg), Pre_WinGrad m →
    θ_run (Cert.WinGrad.defs (F := Bits)) (onTc (τ := Cert.WinGrad.τ) (Cert.WinGrad.main (F := Bits))) ⟨m, fun _ => 0, g⟩ (fun r => (∀ c : Dev Cert.WinGrad.nD,
      r.2.mem ((c.tc : Thread Cert.WinGrad.nD Cert.WinGrad.τ).loc Cert.WinGrad.main_arg0) = m ((c.tc : Thread Cert.WinGrad.nD Cert.WinGrad.τ).loc Cert.WinGrad.main_arg0)
      ∧ r.2.mem ((c.tc : Thread Cert.WinGrad.nD Cert.WinGrad.τ).loc Cert.WinGrad.main_arg1) = m ((c.tc : Thread Cert.WinGrad.nD Cert.WinGrad.τ).loc Cert.WinGrad.main_arg1))
      ∧ r.2.sem = fun _ => 0)

def quiescent_WinGradIdeal [hWinGradIdeal : Cert.WinGradIdeal.Facts] : Prop :=
  ∀ (m : (ℓ : Loc Cert.WinGradIdeal.nD Cert.WinGradIdeal.τ Cert.WinGradIdeal.sig) → Buf (Elt Ideal) ℓ) (g : Dev Cert.WinGradIdeal.nD → PrngReg), Pre_WinGradIdeal m →
    θ_run (Cert.WinGradIdeal.defs (F := Ideal)) (onTc (τ := Cert.WinGradIdeal.τ) (Cert.WinGradIdeal.main (F := Ideal))) ⟨m, fun _ => 0, g⟩ (fun r => (∀ c : Dev Cert.WinGradIdeal.nD,
      r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
      ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1))
      ∧ r.2.sem = fun _ => 0)

def quiescent_RefWinGradIdeal [hRefWinGradIdeal : Cert.RefWinGradIdeal.Facts] : Prop :=
  ∀ (m : (ℓ : Loc Cert.RefWinGradIdeal.nD Cert.RefWinGradIdeal.τ Cert.RefWinGradIdeal.sig) → Buf (Elt Ideal) ℓ) (g : Dev Cert.RefWinGradIdeal.nD → PrngReg), Pre_RefWinGradIdeal m →
    θ_run (Cert.RefWinGradIdeal.defs (F := Ideal)) (onTc (τ := Cert.RefWinGradIdeal.τ) (Cert.RefWinGradIdeal.main (F := Ideal))) ⟨m, fun _ => 0, g⟩ (fun r => (∀ c : Dev Cert.RefWinGradIdeal.nD,
      r.2.mem ((c.tc : Thread Cert.RefWinGradIdeal.nD Cert.RefWinGradIdeal.τ).loc Cert.RefWinGradIdeal.main_arg0) = m ((c.tc : Thread Cert.RefWinGradIdeal.nD Cert.RefWinGradIdeal.τ).loc Cert.RefWinGradIdeal.main_arg0)
      ∧ r.2.mem ((c.tc : Thread Cert.RefWinGradIdeal.nD Cert.RefWinGradIdeal.τ).loc Cert.RefWinGradIdeal.main_arg1) = m ((c.tc : Thread Cert.RefWinGradIdeal.nD Cert.RefWinGradIdeal.τ).loc Cert.RefWinGradIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ r.2.sem = fun _ => 0)

def quiescent_RefInBwdIdeal [hRefInBwdIdeal : Cert.RefInBwdIdeal.Facts] : Prop :=
  ∀ (m : (ℓ : Loc Cert.RefInBwdIdeal.nD Cert.RefInBwdIdeal.τ Cert.RefInBwdIdeal.sig) → Buf (Elt Ideal) ℓ) (g : Dev Cert.RefInBwdIdeal.nD → PrngReg), Pre_RefInBwdIdeal m →
    θ_run (Cert.RefInBwdIdeal.defs (F := Ideal)) (onTc (τ := Cert.RefInBwdIdeal.τ) (Cert.RefInBwdIdeal.main (F := Ideal))) ⟨m, fun _ => 0, g⟩ (fun r => (∀ c : Dev Cert.RefInBwdIdeal.nD,
      r.2.mem ((c.tc : Thread Cert.RefInBwdIdeal.nD Cert.RefInBwdIdeal.τ).loc Cert.RefInBwdIdeal.main_arg0) = m ((c.tc : Thread Cert.RefInBwdIdeal.nD Cert.RefInBwdIdeal.τ).loc Cert.RefInBwdIdeal.main_arg0)
      ∧ r.2.mem ((c.tc : Thread Cert.RefInBwdIdeal.nD Cert.RefInBwdIdeal.τ).loc Cert.RefInBwdIdeal.main_arg1) = m ((c.tc : Thread Cert.RefInBwdIdeal.nD Cert.RefInBwdIdeal.τ).loc Cert.RefInBwdIdeal.main_arg1))
      ∧ r.2.sem = fun _ => 0)

def quiescent_WoutGrad [hWoutGrad : Cert.WoutGrad.Facts] : Prop :=
  ∀ (m : (ℓ : Loc Cert.WoutGrad.nD Cert.WoutGrad.τ Cert.WoutGrad.sig) → Buf (Elt Bits) ℓ) (g : Dev Cert.WoutGrad.nD → PrngReg), Pre_WoutGrad m →
    θ_run (Cert.WoutGrad.defs (F := Bits)) (onTc (τ := Cert.WoutGrad.τ) (Cert.WoutGrad.main (F := Bits))) ⟨m, fun _ => 0, g⟩ (fun r => (∀ c : Dev Cert.WoutGrad.nD,
      r.2.mem ((c.tc : Thread Cert.WoutGrad.nD Cert.WoutGrad.τ).loc Cert.WoutGrad.main_arg0) = m ((c.tc : Thread Cert.WoutGrad.nD Cert.WoutGrad.τ).loc Cert.WoutGrad.main_arg0)
      ∧ r.2.mem ((c.tc : Thread Cert.WoutGrad.nD Cert.WoutGrad.τ).loc Cert.WoutGrad.main_arg1) = m ((c.tc : Thread Cert.WoutGrad.nD Cert.WoutGrad.τ).loc Cert.WoutGrad.main_arg1)
      ∧ r.2.mem ((c.tc : Thread Cert.WoutGrad.nD Cert.WoutGrad.τ).loc Cert.WoutGrad.main_arg2) = m ((c.tc : Thread Cert.WoutGrad.nD Cert.WoutGrad.τ).loc Cert.WoutGrad.main_arg2))
      ∧ r.2.sem = fun _ => 0)

def quiescent_WoutGradIdeal [hWoutGradIdeal : Cert.WoutGradIdeal.Facts] : Prop :=
  ∀ (m : (ℓ : Loc Cert.WoutGradIdeal.nD Cert.WoutGradIdeal.τ Cert.WoutGradIdeal.sig) → Buf (Elt Ideal) ℓ) (g : Dev Cert.WoutGradIdeal.nD → PrngReg), Pre_WoutGradIdeal m →
    θ_run (Cert.WoutGradIdeal.defs (F := Ideal)) (onTc (τ := Cert.WoutGradIdeal.τ) (Cert.WoutGradIdeal.main (F := Ideal))) ⟨m, fun _ => 0, g⟩ (fun r => (∀ c : Dev Cert.WoutGradIdeal.nD,
      r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
      ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1)
      ∧ r.2.mem ((c.tc : Thread Cert.WoutGradIdeal.nD Cert.WoutGradIdeal.τ).loc Cert.WoutGradIdeal.main_arg2) = m ((c.tc : Thread Cert.WoutGradIdeal.nD Cert.WoutGradIdeal.τ).loc Cert.WoutGradIdeal.main_arg2))
      ∧ r.2.sem = fun _ => 0)

def quiescent_RefWoutGradIdeal [hRefWoutGradIdeal : Cert.RefWoutGradIdeal.Facts] : Prop :=
  ∀ (m : (ℓ : Loc Cert.RefWoutGradIdeal.nD Cert.RefWoutGradIdeal.τ Cert.RefWoutGradIdeal.sig) → Buf (Elt Ideal) ℓ) (g : Dev Cert.RefWoutGradIdeal.nD → PrngReg), Pre_RefWoutGradIdeal m →
    θ_run (Cert.RefWoutGradIdeal.defs (F := Ideal)) (onTc (τ := Cert.RefWoutGradIdeal.τ) (Cert.RefWoutGradIdeal.main (F := Ideal))) ⟨m, fun _ => 0, g⟩ (fun r => (∀ c : Dev Cert.RefWoutGradIdeal.nD,
      r.2.mem ((c.tc : Thread Cert.RefWoutGradIdeal.nD Cert.RefWoutGradIdeal.τ).loc Cert.RefWoutGradIdeal.main_arg0) = m ((c.tc : Thread Cert.RefWoutGradIdeal.nD Cert.RefWoutGradIdeal.τ).loc Cert.RefWoutGradIdeal.main_arg0)
      ∧ r.2.mem ((c.tc : Thread Cert.RefWoutGradIdeal.nD Cert.RefWoutGradIdeal.τ).loc Cert.RefWoutGradIdeal.main_arg1) = m ((c.tc : Thread Cert.RefWoutGradIdeal.nD Cert.RefWoutGradIdeal.τ).loc Cert.RefWoutGradIdeal.main_arg1)
      ∧ r.2.mem ((c.tc : Thread Cert.RefWoutGradIdeal.nD Cert.RefWoutGradIdeal.τ).loc Cert.RefWoutGradIdeal.main_arg2) = m ((c.tc : Thread Cert.RefWoutGradIdeal.nD Cert.RefWoutGradIdeal.τ).loc Cert.RefWoutGradIdeal.main_arg2))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_RefOutBwdIdeal [hRefOutBwdIdeal : Cert.RefOutBwdIdeal.Facts] : Prop :=
  ∀ (m : (ℓ : Loc Cert.RefOutBwdIdeal.nD Cert.RefOutBwdIdeal.τ Cert.RefOutBwdIdeal.sig) → Buf (Elt Ideal) ℓ) (g : Dev Cert.RefOutBwdIdeal.nD → PrngReg), Pre_RefOutBwdIdeal m →
    θ_run (Cert.RefOutBwdIdeal.defs (F := Ideal)) (onTc (τ := Cert.RefOutBwdIdeal.τ) (Cert.RefOutBwdIdeal.main (F := Ideal))) ⟨m, fun _ => 0, g⟩ (fun r => (∀ c : Dev Cert.RefOutBwdIdeal.nD,
      r.2.mem ((c.tc : Thread Cert.RefOutBwdIdeal.nD Cert.RefOutBwdIdeal.τ).loc Cert.RefOutBwdIdeal.main_arg0) = m ((c.tc : Thread Cert.RefOutBwdIdeal.nD Cert.RefOutBwdIdeal.τ).loc Cert.RefOutBwdIdeal.main_arg0)
      ∧ r.2.mem ((c.tc : Thread Cert.RefOutBwdIdeal.nD Cert.RefOutBwdIdeal.τ).loc Cert.RefOutBwdIdeal.main_arg1) = m ((c.tc : Thread Cert.RefOutBwdIdeal.nD Cert.RefOutBwdIdeal.τ).loc Cert.RefOutBwdIdeal.main_arg1)
      ∧ r.2.mem ((c.tc : Thread Cert.RefOutBwdIdeal.nD Cert.RefOutBwdIdeal.τ).loc Cert.RefOutBwdIdeal.main_arg2) = m ((c.tc : Thread Cert.RefOutBwdIdeal.nD Cert.RefOutBwdIdeal.τ).loc Cert.RefOutBwdIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_RefMlpUpIdeal [hRefMlpUpIdeal : Cert.RefMlpUpIdeal.Facts] : Prop :=
  ∀ (m : (ℓ : Loc Cert.RefMlpUpIdeal.nD Cert.RefMlpUpIdeal.τ Cert.RefMlpUpIdeal.sig) → Buf (Elt Ideal) ℓ) (g : Dev Cert.RefMlpUpIdeal.nD → PrngReg), Pre_RefMlpUpIdeal m →
    θ_run (Cert.RefMlpUpIdeal.defs (F := Ideal)) (onTc (τ := Cert.RefMlpUpIdeal.τ) (Cert.RefMlpUpIdeal.main (F := Ideal))) ⟨m, fun _ => 0, g⟩ (fun r => (∀ c : Dev Cert.RefMlpUpIdeal.nD,
      r.2.mem ((c.tc : Thread Cert.RefMlpUpIdeal.nD Cert.RefMlpUpIdeal.τ).loc Cert.RefMlpUpIdeal.main_arg0) = m ((c.tc : Thread Cert.RefMlpUpIdeal.nD Cert.RefMlpUpIdeal.τ).loc Cert.RefMlpUpIdeal.main_arg0)
      ∧ r.2.mem ((c.tc : Thread Cert.RefMlpUpIdeal.nD Cert.RefMlpUpIdeal.τ).loc Cert.RefMlpUpIdeal.main_arg1) = m ((c.tc : Thread Cert.RefMlpUpIdeal.nD Cert.RefMlpUpIdeal.τ).loc Cert.RefMlpUpIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_RefMlpDownIdeal [hRefMlpDownIdeal : Cert.RefMlpDownIdeal.Facts] : Prop :=
  ∀ (m : (ℓ : Loc Cert.RefMlpDownIdeal.nD Cert.RefMlpDownIdeal.τ Cert.RefMlpDownIdeal.sig) → Buf (Elt Ideal) ℓ) (g : Dev Cert.RefMlpDownIdeal.nD → PrngReg), Pre_RefMlpDownIdeal m →
    θ_run (Cert.RefMlpDownIdeal.defs (F := Ideal)) (onTc (τ := Cert.RefMlpDownIdeal.τ) (Cert.RefMlpDownIdeal.main (F := Ideal))) ⟨m, fun _ => 0, g⟩ (fun r => (∀ c : Dev Cert.RefMlpDownIdeal.nD,
      r.2.mem ((c.tc : Thread Cert.RefMlpDownIdeal.nD Cert.RefMlpDownIdeal.τ).loc Cert.RefMlpDownIdeal.main_arg0) = m ((c.tc : Thread Cert.RefMlpDownIdeal.nD Cert.RefMlpDownIdeal.τ).loc Cert.RefMlpDownIdeal.main_arg0)
      ∧ r.2.mem ((c.tc : Thread Cert.RefMlpDownIdeal.nD Cert.RefMlpDownIdeal.τ).loc Cert.RefMlpDownIdeal.main_arg1) = m ((c.tc : Thread Cert.RefMlpDownIdeal.nD Cert.RefMlpDownIdeal.τ).loc Cert.RefMlpDownIdeal.main_arg1)
      ∧ r.2.mem ((c.tc : Thread Cert.RefMlpDownIdeal.nD Cert.RefMlpDownIdeal.τ).loc Cert.RefMlpDownIdeal.main_arg2) = m ((c.tc : Thread Cert.RefMlpDownIdeal.nD Cert.RefMlpDownIdeal.τ).loc Cert.RefMlpDownIdeal.main_arg2)
      ∧ r.2.mem ((c.tc : Thread Cert.RefMlpDownIdeal.nD Cert.RefMlpDownIdeal.τ).loc Cert.RefMlpDownIdeal.main_arg3) = m ((c.tc : Thread Cert.RefMlpDownIdeal.nD Cert.RefMlpDownIdeal.τ).loc Cert.RefMlpDownIdeal.main_arg3))
      ∧ r.2.sem = fun _ => 0)

def quiescent_GmlpOut [hGmlpOut : Cert.GmlpOut.Facts] : Prop :=
  ∀ (m : (ℓ : Loc Cert.GmlpOut.nD Cert.GmlpOut.τ Cert.GmlpOut.sig) → Buf (Elt Bits) ℓ) (g : Dev Cert.GmlpOut.nD → PrngReg), Pre_GmlpOut m →
    θ_run (Cert.GmlpOut.defs (F := Bits)) (onTc (τ := Cert.GmlpOut.τ) (Cert.GmlpOut.main (F := Bits))) ⟨m, fun _ => 0, g⟩ (fun r => (∀ c : Dev Cert.GmlpOut.nD,
      r.2.mem ((c.tc : Thread Cert.GmlpOut.nD Cert.GmlpOut.τ).loc Cert.GmlpOut.main_arg0) = m ((c.tc : Thread Cert.GmlpOut.nD Cert.GmlpOut.τ).loc Cert.GmlpOut.main_arg0)
      ∧ r.2.mem ((c.tc : Thread Cert.GmlpOut.nD Cert.GmlpOut.τ).loc Cert.GmlpOut.main_arg1) = m ((c.tc : Thread Cert.GmlpOut.nD Cert.GmlpOut.τ).loc Cert.GmlpOut.main_arg1)
      ∧ r.2.mem ((c.tc : Thread Cert.GmlpOut.nD Cert.GmlpOut.τ).loc Cert.GmlpOut.main_arg2) = m ((c.tc : Thread Cert.GmlpOut.nD Cert.GmlpOut.τ).loc Cert.GmlpOut.main_arg2)
      ∧ r.2.mem ((c.tc : Thread Cert.GmlpOut.nD Cert.GmlpOut.τ).loc Cert.GmlpOut.main_arg3) = m ((c.tc : Thread Cert.GmlpOut.nD Cert.GmlpOut.τ).loc Cert.GmlpOut.main_arg3))
      ∧ r.2.sem = fun _ => 0)

def quiescent_GmlpOutIdeal [hGmlpOutIdeal : Cert.GmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg), Pre_GmlpOutIdeal m →
    θ_run (Cert.GmlpOutIdeal.defs (F := Ideal)) (onTc (τ := Cert.GmlpOutIdeal.τ) (Cert.GmlpOutIdeal.main (F := Ideal))) ⟨m, fun _ => 0, g⟩ (fun r => (∀ c : Dev Cert.GmlpOutIdeal.nD,
      r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
      ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
      ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2)
      ∧ r.2.mem ((c.tc : Thread Cert.GmlpOutIdeal.nD Cert.GmlpOutIdeal.τ).loc Cert.GmlpOutIdeal.main_arg3) = m ((c.tc : Thread Cert.GmlpOutIdeal.nD Cert.GmlpOutIdeal.τ).loc Cert.GmlpOutIdeal.main_arg3))
      ∧ r.2.sem = fun _ => 0)

def quiescent_RefGmlpOutIdeal [hRefGmlpOutIdeal : Cert.RefGmlpOutIdeal.Facts] : Prop :=
  ∀ (m : (ℓ : Loc Cert.RefGmlpOutIdeal.nD Cert.RefGmlpOutIdeal.τ Cert.RefGmlpOutIdeal.sig) → Buf (Elt Ideal) ℓ) (g : Dev Cert.RefGmlpOutIdeal.nD → PrngReg), Pre_RefGmlpOutIdeal m →
    θ_run (Cert.RefGmlpOutIdeal.defs (F := Ideal)) (onTc (τ := Cert.RefGmlpOutIdeal.τ) (Cert.RefGmlpOutIdeal.main (F := Ideal))) ⟨m, fun _ => 0, g⟩ (fun r => (∀ c : Dev Cert.RefGmlpOutIdeal.nD,
      r.2.mem ((c.tc : Thread Cert.RefGmlpOutIdeal.nD Cert.RefGmlpOutIdeal.τ).loc Cert.RefGmlpOutIdeal.main_arg0) = m ((c.tc : Thread Cert.RefGmlpOutIdeal.nD Cert.RefGmlpOutIdeal.τ).loc Cert.RefGmlpOutIdeal.main_arg0)
      ∧ r.2.mem ((c.tc : Thread Cert.RefGmlpOutIdeal.nD Cert.RefGmlpOutIdeal.τ).loc Cert.RefGmlpOutIdeal.main_arg1) = m ((c.tc : Thread Cert.RefGmlpOutIdeal.nD Cert.RefGmlpOutIdeal.τ).loc Cert.RefGmlpOutIdeal.main_arg1)
      ∧ r.2.mem ((c.tc : Thread Cert.RefGmlpOutIdeal.nD Cert.RefGmlpOutIdeal.τ).loc Cert.RefGmlpOutIdeal.main_arg2) = m ((c.tc : Thread Cert.RefGmlpOutIdeal.nD Cert.RefGmlpOutIdeal.τ).loc Cert.RefGmlpOutIdeal.main_arg2)
      ∧ r.2.mem ((c.tc : Thread Cert.RefGmlpOutIdeal.nD Cert.RefGmlpOutIdeal.τ).loc Cert.RefGmlpOutIdeal.main_arg3) = m ((c.tc : Thread Cert.RefGmlpOutIdeal.nD Cert.RefGmlpOutIdeal.τ).loc Cert.RefGmlpOutIdeal.main_arg3))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ r.2.sem = fun _ => 0)

def quiescent_RefGmlpInIdeal [hRefGmlpInIdeal : Cert.RefGmlpInIdeal.Facts] : Prop :=
  ∀ (m : (ℓ : Loc Cert.RefGmlpInIdeal.nD Cert.RefGmlpInIdeal.τ Cert.RefGmlpInIdeal.sig) → Buf (Elt Ideal) ℓ) (g : Dev Cert.RefGmlpInIdeal.nD → PrngReg), Pre_RefGmlpInIdeal m →
    θ_run (Cert.RefGmlpInIdeal.defs (F := Ideal)) (onTc (τ := Cert.RefGmlpInIdeal.τ) (Cert.RefGmlpInIdeal.main (F := Ideal))) ⟨m, fun _ => 0, g⟩ (fun r => (∀ c : Dev Cert.RefGmlpInIdeal.nD,
      r.2.mem ((c.tc : Thread Cert.RefGmlpInIdeal.nD Cert.RefGmlpInIdeal.τ).loc Cert.RefGmlpInIdeal.main_arg0) = m ((c.tc : Thread Cert.RefGmlpInIdeal.nD Cert.RefGmlpInIdeal.τ).loc Cert.RefGmlpInIdeal.main_arg0)
      ∧ r.2.mem ((c.tc : Thread Cert.RefGmlpInIdeal.nD Cert.RefGmlpInIdeal.τ).loc Cert.RefGmlpInIdeal.main_arg1) = m ((c.tc : Thread Cert.RefGmlpInIdeal.nD Cert.RefGmlpInIdeal.τ).loc Cert.RefGmlpInIdeal.main_arg1))
      ∧ r.2.sem = fun _ => 0)

def quiescent_WoGrad [hWoGrad : Cert.WoGrad.Facts] : Prop :=
  ∀ (m : (ℓ : Loc Cert.WoGrad.nD Cert.WoGrad.τ Cert.WoGrad.sig) → Buf (Elt Bits) ℓ) (g : Dev Cert.WoGrad.nD → PrngReg), Pre_WoGrad m →
    θ_run (Cert.WoGrad.defs (F := Bits)) (onTc (τ := Cert.WoGrad.τ) (Cert.WoGrad.main (F := Bits))) ⟨m, fun _ => 0, g⟩ (fun r => (∀ c : Dev Cert.WoGrad.nD,
      r.2.mem ((c.tc : Thread Cert.WoGrad.nD Cert.WoGrad.τ).loc Cert.WoGrad.main_arg0) = m ((c.tc : Thread Cert.WoGrad.nD Cert.WoGrad.τ).loc Cert.WoGrad.main_arg0)
      ∧ r.2.mem ((c.tc : Thread Cert.WoGrad.nD Cert.WoGrad.τ).loc Cert.WoGrad.main_arg1) = m ((c.tc : Thread Cert.WoGrad.nD Cert.WoGrad.τ).loc Cert.WoGrad.main_arg1)
      ∧ r.2.mem ((c.tc : Thread Cert.WoGrad.nD Cert.WoGrad.τ).loc Cert.WoGrad.main_arg2) = m ((c.tc : Thread Cert.WoGrad.nD Cert.WoGrad.τ).loc Cert.WoGrad.main_arg2))
      ∧ r.2.sem = fun _ => 0)

def quiescent_WoGradIdeal [hWoGradIdeal : Cert.WoGradIdeal.Facts] : Prop :=
  ∀ (m : (ℓ : Loc Cert.WoGradIdeal.nD Cert.WoGradIdeal.τ Cert.WoGradIdeal.sig) → Buf (Elt Ideal) ℓ) (g : Dev Cert.WoGradIdeal.nD → PrngReg), Pre_WoGradIdeal m →
    θ_run (Cert.WoGradIdeal.defs (F := Ideal)) (onTc (τ := Cert.WoGradIdeal.τ) (Cert.WoGradIdeal.main (F := Ideal))) ⟨m, fun _ => 0, g⟩ (fun r => (∀ c : Dev Cert.WoGradIdeal.nD,
      r.2.mem ((c.tc : Thread Cert.WoGradIdeal.nD Cert.WoGradIdeal.τ).loc Cert.WoGradIdeal.main_arg0) = m ((c.tc : Thread Cert.WoGradIdeal.nD Cert.WoGradIdeal.τ).loc Cert.WoGradIdeal.main_arg0)
      ∧ r.2.mem ((c.tc : Thread Cert.WoGradIdeal.nD Cert.WoGradIdeal.τ).loc Cert.WoGradIdeal.main_arg1) = m ((c.tc : Thread Cert.WoGradIdeal.nD Cert.WoGradIdeal.τ).loc Cert.WoGradIdeal.main_arg1)
      ∧ r.2.mem ((c.tc : Thread Cert.WoGradIdeal.nD Cert.WoGradIdeal.τ).loc Cert.WoGradIdeal.main_arg2) = m ((c.tc : Thread Cert.WoGradIdeal.nD Cert.WoGradIdeal.τ).loc Cert.WoGradIdeal.main_arg2))
      ∧ r.2.sem = fun _ => 0)

def quiescent_RefWoGradIdeal [hRefWoGradIdeal : Cert.RefWoGradIdeal.Facts] : Prop :=
  ∀ (m : (ℓ : Loc Cert.RefWoGradIdeal.nD Cert.RefWoGradIdeal.τ Cert.RefWoGradIdeal.sig) → Buf (Elt Ideal) ℓ) (g : Dev Cert.RefWoGradIdeal.nD → PrngReg), Pre_RefWoGradIdeal m →
    θ_run (Cert.RefWoGradIdeal.defs (F := Ideal)) (onTc (τ := Cert.RefWoGradIdeal.τ) (Cert.RefWoGradIdeal.main (F := Ideal))) ⟨m, fun _ => 0, g⟩ (fun r => (∀ c : Dev Cert.RefWoGradIdeal.nD,
      r.2.mem ((c.tc : Thread Cert.RefWoGradIdeal.nD Cert.RefWoGradIdeal.τ).loc Cert.RefWoGradIdeal.main_arg0) = m ((c.tc : Thread Cert.RefWoGradIdeal.nD Cert.RefWoGradIdeal.τ).loc Cert.RefWoGradIdeal.main_arg0)
      ∧ r.2.mem ((c.tc : Thread Cert.RefWoGradIdeal.nD Cert.RefWoGradIdeal.τ).loc Cert.RefWoGradIdeal.main_arg1) = m ((c.tc : Thread Cert.RefWoGradIdeal.nD Cert.RefWoGradIdeal.τ).loc Cert.RefWoGradIdeal.main_arg1)
      ∧ r.2.mem ((c.tc : Thread Cert.RefWoGradIdeal.nD Cert.RefWoGradIdeal.τ).loc Cert.RefWoGradIdeal.main_arg2) = m ((c.tc : Thread Cert.RefWoGradIdeal.nD Cert.RefWoGradIdeal.τ).loc Cert.RefWoGradIdeal.main_arg2))
      ∧ r.2.sem = fun _ => 0)

def quiescent_OBwd [hOBwd : Cert.OBwd.Facts] : Prop :=
  ∀ (m : (ℓ : Loc Cert.OBwd.nD Cert.OBwd.τ Cert.OBwd.sig) → Buf (Elt Bits) ℓ) (g : Dev Cert.OBwd.nD → PrngReg), Pre_OBwd m →
    θ_run (Cert.OBwd.defs (F := Bits)) (onTc (τ := Cert.OBwd.τ) (Cert.OBwd.main (F := Bits))) ⟨m, fun _ => 0, g⟩ (fun r => (∀ c : Dev Cert.OBwd.nD,
      r.2.mem ((c.tc : Thread Cert.OBwd.nD Cert.OBwd.τ).loc Cert.OBwd.main_arg0) = m ((c.tc : Thread Cert.OBwd.nD Cert.OBwd.τ).loc Cert.OBwd.main_arg0)
      ∧ r.2.mem ((c.tc : Thread Cert.OBwd.nD Cert.OBwd.τ).loc Cert.OBwd.main_arg1) = m ((c.tc : Thread Cert.OBwd.nD Cert.OBwd.τ).loc Cert.OBwd.main_arg1)
      ∧ r.2.mem ((c.tc : Thread Cert.OBwd.nD Cert.OBwd.τ).loc Cert.OBwd.main_arg2) = m ((c.tc : Thread Cert.OBwd.nD Cert.OBwd.τ).loc Cert.OBwd.main_arg2))
      ∧ r.2.sem = fun _ => 0)

def quiescent_OBwdIdeal [hOBwdIdeal : Cert.OBwdIdeal.Facts] : Prop :=
  ∀ (m : (ℓ : Loc Cert.OBwdIdeal.nD Cert.OBwdIdeal.τ Cert.OBwdIdeal.sig) → Buf (Elt Ideal) ℓ) (g : Dev Cert.OBwdIdeal.nD → PrngReg), Pre_OBwdIdeal m →
    θ_run (Cert.OBwdIdeal.defs (F := Ideal)) (onTc (τ := Cert.OBwdIdeal.τ) (Cert.OBwdIdeal.main (F := Ideal))) ⟨m, fun _ => 0, g⟩ (fun r => (∀ c : Dev Cert.OBwdIdeal.nD,
      r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
      ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1)
      ∧ r.2.mem ((c.tc : Thread Cert.OBwdIdeal.nD Cert.OBwdIdeal.τ).loc Cert.OBwdIdeal.main_arg2) = m ((c.tc : Thread Cert.OBwdIdeal.nD Cert.OBwdIdeal.τ).loc Cert.OBwdIdeal.main_arg2))
      ∧ r.2.sem = fun _ => 0)

def quiescent_RefOBwdIdeal [hRefOBwdIdeal : Cert.RefOBwdIdeal.Facts] : Prop :=
  ∀ (m : (ℓ : Loc Cert.RefOBwdIdeal.nD Cert.RefOBwdIdeal.τ Cert.RefOBwdIdeal.sig) → Buf (Elt Ideal) ℓ) (g : Dev Cert.RefOBwdIdeal.nD → PrngReg), Pre_RefOBwdIdeal m →
    θ_run (Cert.RefOBwdIdeal.defs (F := Ideal)) (onTc (τ := Cert.RefOBwdIdeal.τ) (Cert.RefOBwdIdeal.main (F := Ideal))) ⟨m, fun _ => 0, g⟩ (fun r => (∀ c : Dev Cert.RefOBwdIdeal.nD,
      r.2.mem ((c.tc : Thread Cert.RefOBwdIdeal.nD Cert.RefOBwdIdeal.τ).loc Cert.RefOBwdIdeal.main_arg0) = m ((c.tc : Thread Cert.RefOBwdIdeal.nD Cert.RefOBwdIdeal.τ).loc Cert.RefOBwdIdeal.main_arg0)
      ∧ r.2.mem ((c.tc : Thread Cert.RefOBwdIdeal.nD Cert.RefOBwdIdeal.τ).loc Cert.RefOBwdIdeal.main_arg1) = m ((c.tc : Thread Cert.RefOBwdIdeal.nD Cert.RefOBwdIdeal.τ).loc Cert.RefOBwdIdeal.main_arg1)
      ∧ r.2.mem ((c.tc : Thread Cert.RefOBwdIdeal.nD Cert.RefOBwdIdeal.τ).loc Cert.RefOBwdIdeal.main_arg2) = m ((c.tc : Thread Cert.RefOBwdIdeal.nD Cert.RefOBwdIdeal.τ).loc Cert.RefOBwdIdeal.main_arg2))
      ∧ r.2.sem = fun _ => 0)

def quiescent_AttnO [hAttnO : Cert.AttnO.Facts] : Prop :=
  ∀ (m : (ℓ : Loc Cert.AttnO.nD Cert.AttnO.τ Cert.AttnO.sig) → Buf (Elt Bits) ℓ) (g : Dev Cert.AttnO.nD → PrngReg), Pre_AttnO m →
    θ_run (Cert.AttnO.defs (F := Bits)) (onTc (τ := Cert.AttnO.τ) (Cert.AttnO.main (F := Bits))) ⟨m, fun _ => 0, g⟩ (fun r => (∀ c : Dev Cert.AttnO.nD,
      r.2.mem ((c.tc : Thread Cert.AttnO.nD Cert.AttnO.τ).loc Cert.AttnO.main_arg0) = m ((c.tc : Thread Cert.AttnO.nD Cert.AttnO.τ).loc Cert.AttnO.main_arg0)
      ∧ r.2.mem ((c.tc : Thread Cert.AttnO.nD Cert.AttnO.τ).loc Cert.AttnO.main_arg1) = m ((c.tc : Thread Cert.AttnO.nD Cert.AttnO.τ).loc Cert.AttnO.main_arg1)
      ∧ r.2.mem ((c.tc : Thread Cert.AttnO.nD Cert.AttnO.τ).loc Cert.AttnO.main_arg2) = m ((c.tc : Thread Cert.AttnO.nD Cert.AttnO.τ).loc Cert.AttnO.main_arg2)
      ∧ r.2.mem ((c.tc : Thread Cert.AttnO.nD Cert.AttnO.τ).loc Cert.AttnO.main_arg3) = m ((c.tc : Thread Cert.AttnO.nD Cert.AttnO.τ).loc Cert.AttnO.main_arg3))
      ∧ r.2.sem = fun _ => 0)

def quiescent_AttnOIdeal [hAttnOIdeal : Cert.AttnOIdeal.Facts] : Prop :=
  ∀ (m : (ℓ : Loc Cert.AttnOIdeal.nD Cert.AttnOIdeal.τ Cert.AttnOIdeal.sig) → Buf (Elt Ideal) ℓ) (g : Dev Cert.AttnOIdeal.nD → PrngReg), Pre_AttnOIdeal m →
    θ_run (Cert.AttnOIdeal.defs (F := Ideal)) (onTc (τ := Cert.AttnOIdeal.τ) (Cert.AttnOIdeal.main (F := Ideal))) ⟨m, fun _ => 0, g⟩ (fun r => (∀ c : Dev Cert.AttnOIdeal.nD,
      r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
      ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1)
      ∧ r.2.mem ((c.tc : Thread Cert.AttnOIdeal.nD Cert.AttnOIdeal.τ).loc Cert.AttnOIdeal.main_arg2) = m ((c.tc : Thread Cert.AttnOIdeal.nD Cert.AttnOIdeal.τ).loc Cert.AttnOIdeal.main_arg2)
      ∧ r.2.mem ((c.tc : Thread Cert.AttnOIdeal.nD Cert.AttnOIdeal.τ).loc Cert.AttnOIdeal.main_arg3) = m ((c.tc : Thread Cert.AttnOIdeal.nD Cert.AttnOIdeal.τ).loc Cert.AttnOIdeal.main_arg3))
      ∧ r.2.sem = fun _ => 0)

def quiescent_RefAttnOIdeal [hRefAttnOIdeal : Cert.RefAttnOIdeal.Facts] : Prop :=
  ∀ (m : (ℓ : Loc Cert.RefAttnOIdeal.nD Cert.RefAttnOIdeal.τ Cert.RefAttnOIdeal.sig) → Buf (Elt Ideal) ℓ) (g : Dev Cert.RefAttnOIdeal.nD → PrngReg), Pre_RefAttnOIdeal m →
    θ_run (Cert.RefAttnOIdeal.defs (F := Ideal)) (onTc (τ := Cert.RefAttnOIdeal.τ) (Cert.RefAttnOIdeal.main (F := Ideal))) ⟨m, fun _ => 0, g⟩ (fun r => (∀ c : Dev Cert.RefAttnOIdeal.nD,
      r.2.mem ((c.tc : Thread Cert.RefAttnOIdeal.nD Cert.RefAttnOIdeal.τ).loc Cert.RefAttnOIdeal.main_arg0) = m ((c.tc : Thread Cert.RefAttnOIdeal.nD Cert.RefAttnOIdeal.τ).loc Cert.RefAttnOIdeal.main_arg0)
      ∧ r.2.mem ((c.tc : Thread Cert.RefAttnOIdeal.nD Cert.RefAttnOIdeal.τ).loc Cert.RefAttnOIdeal.main_arg1) = m ((c.tc : Thread Cert.RefAttnOIdeal.nD Cert.RefAttnOIdeal.τ).loc Cert.RefAttnOIdeal.main_arg1)
      ∧ r.2.mem ((c.tc : Thread Cert.RefAttnOIdeal.nD Cert.RefAttnOIdeal.τ).loc Cert.RefAttnOIdeal.main_arg2) = m ((c.tc : Thread Cert.RefAttnOIdeal.nD Cert.RefAttnOIdeal.τ).loc Cert.RefAttnOIdeal.main_arg2)
      ∧ r.2.mem ((c.tc : Thread Cert.RefAttnOIdeal.nD Cert.RefAttnOIdeal.τ).loc Cert.RefAttnOIdeal.main_arg3) = m ((c.tc : Thread Cert.RefAttnOIdeal.nD Cert.RefAttnOIdeal.τ).loc Cert.RefAttnOIdeal.main_arg3))
      ∧ r.2.sem = fun _ => 0)

def quiescent_WqGrad [hWqGrad : Cert.WqGrad.Facts] : Prop :=
  ∀ (m : (ℓ : Loc Cert.WqGrad.nD Cert.WqGrad.τ Cert.WqGrad.sig) → Buf (Elt Bits) ℓ) (g : Dev Cert.WqGrad.nD → PrngReg), Pre_WqGrad m →
    θ_run (Cert.WqGrad.defs (F := Bits)) (onTc (τ := Cert.WqGrad.τ) (Cert.WqGrad.main (F := Bits))) ⟨m, fun _ => 0, g⟩ (fun r => (∀ c : Dev Cert.WqGrad.nD,
      r.2.mem ((c.tc : Thread Cert.WqGrad.nD Cert.WqGrad.τ).loc Cert.WqGrad.main_arg0) = m ((c.tc : Thread Cert.WqGrad.nD Cert.WqGrad.τ).loc Cert.WqGrad.main_arg0)
      ∧ r.2.mem ((c.tc : Thread Cert.WqGrad.nD Cert.WqGrad.τ).loc Cert.WqGrad.main_arg1) = m ((c.tc : Thread Cert.WqGrad.nD Cert.WqGrad.τ).loc Cert.WqGrad.main_arg1))
      ∧ r.2.sem = fun _ => 0)

def quiescent_WqGradIdeal [hWqGradIdeal : Cert.WqGradIdeal.Facts] : Prop :=
  ∀ (m : (ℓ : Loc Cert.WqGradIdeal.nD Cert.WqGradIdeal.τ Cert.WqGradIdeal.sig) → Buf (Elt Ideal) ℓ) (g : Dev Cert.WqGradIdeal.nD → PrngReg), Pre_WqGradIdeal m →
    θ_run (Cert.WqGradIdeal.defs (F := Ideal)) (onTc (τ := Cert.WqGradIdeal.τ) (Cert.WqGradIdeal.main (F := Ideal))) ⟨m, fun _ => 0, g⟩ (fun r => (∀ c : Dev Cert.WqGradIdeal.nD,
      r.2.mem ((c.tc : Thread Cert.WqGradIdeal.nD Cert.WqGradIdeal.τ).loc Cert.WqGradIdeal.main_arg0) = m ((c.tc : Thread Cert.WqGradIdeal.nD Cert.WqGradIdeal.τ).loc Cert.WqGradIdeal.main_arg0)
      ∧ r.2.mem ((c.tc : Thread Cert.WqGradIdeal.nD Cert.WqGradIdeal.τ).loc Cert.WqGradIdeal.main_arg1) = m ((c.tc : Thread Cert.WqGradIdeal.nD Cert.WqGradIdeal.τ).loc Cert.WqGradIdeal.main_arg1))
      ∧ r.2.sem = fun _ => 0)

def quiescent_RefWqGradIdeal [hRefWqGradIdeal : Cert.RefWqGradIdeal.Facts] : Prop :=
  ∀ (m : (ℓ : Loc Cert.RefWqGradIdeal.nD Cert.RefWqGradIdeal.τ Cert.RefWqGradIdeal.sig) → Buf (Elt Ideal) ℓ) (g : Dev Cert.RefWqGradIdeal.nD → PrngReg), Pre_RefWqGradIdeal m →
    θ_run (Cert.RefWqGradIdeal.defs (F := Ideal)) (onTc (τ := Cert.RefWqGradIdeal.τ) (Cert.RefWqGradIdeal.main (F := Ideal))) ⟨m, fun _ => 0, g⟩ (fun r => (∀ c : Dev Cert.RefWqGradIdeal.nD,
      r.2.mem ((c.tc : Thread Cert.RefWqGradIdeal.nD Cert.RefWqGradIdeal.τ).loc Cert.RefWqGradIdeal.main_arg0) = m ((c.tc : Thread Cert.RefWqGradIdeal.nD Cert.RefWqGradIdeal.τ).loc Cert.RefWqGradIdeal.main_arg0)
      ∧ r.2.mem ((c.tc : Thread Cert.RefWqGradIdeal.nD Cert.RefWqGradIdeal.τ).loc Cert.RefWqGradIdeal.main_arg1) = m ((c.tc : Thread Cert.RefWqGradIdeal.nD Cert.RefWqGradIdeal.τ).loc Cert.RefWqGradIdeal.main_arg1))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1))
      ∧ r.2.sem = fun _ => 0)

def quiescent_RefQBwdIdeal [hRefQBwdIdeal : Cert.RefQBwdIdeal.Facts] : Prop :=
  ∀ (m : (ℓ : Loc Cert.RefQBwdIdeal.nD Cert.RefQBwdIdeal.τ Cert.RefQBwdIdeal.sig) → Buf (Elt Ideal) ℓ) (g : Dev Cert.RefQBwdIdeal.nD → PrngReg), Pre_RefQBwdIdeal m →
    θ_run (Cert.RefQBwdIdeal.defs (F := Ideal)) (onTc (τ := Cert.RefQBwdIdeal.τ) (Cert.RefQBwdIdeal.main (F := Ideal))) ⟨m, fun _ => 0, g⟩ (fun r => (∀ c : Dev Cert.RefQBwdIdeal.nD,
      r.2.mem ((c.tc : Thread Cert.RefQBwdIdeal.nD Cert.RefQBwdIdeal.τ).loc Cert.RefQBwdIdeal.main_arg0) = m ((c.tc : Thread Cert.RefQBwdIdeal.nD Cert.RefQBwdIdeal.τ).loc Cert.RefQBwdIdeal.main_arg0)
      ∧ r.2.mem ((c.tc : Thread Cert.RefQBwdIdeal.nD Cert.RefQBwdIdeal.τ).loc Cert.RefQBwdIdeal.main_arg1) = m ((c.tc : Thread Cert.RefQBwdIdeal.nD Cert.RefQBwdIdeal.τ).loc Cert.RefQBwdIdeal.main_arg1))
      ∧ r.2.sem = fun _ => 0)

def quiescent_KvGrad [hKvGrad : Cert.KvGrad.Facts] : Prop :=
  ∀ (m : (ℓ : Loc Cert.KvGrad.nD Cert.KvGrad.τ Cert.KvGrad.sig) → Buf (Elt Bits) ℓ) (g : Dev Cert.KvGrad.nD → PrngReg), Pre_KvGrad m →
    θ_run (Cert.KvGrad.defs (F := Bits)) (onTc (τ := Cert.KvGrad.τ) (Cert.KvGrad.main (F := Bits))) ⟨m, fun _ => 0, g⟩ (fun r => (∀ c : Dev Cert.KvGrad.nD,
      r.2.mem ((c.tc : Thread Cert.KvGrad.nD Cert.KvGrad.τ).loc Cert.KvGrad.main_arg0) = m ((c.tc : Thread Cert.KvGrad.nD Cert.KvGrad.τ).loc Cert.KvGrad.main_arg0)
      ∧ r.2.mem ((c.tc : Thread Cert.KvGrad.nD Cert.KvGrad.τ).loc Cert.KvGrad.main_arg1) = m ((c.tc : Thread Cert.KvGrad.nD Cert.KvGrad.τ).loc Cert.KvGrad.main_arg1))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ r.2.sem = fun _ => 0)

def quiescent_RefKvGradIdeal [hRefKvGradIdeal : Cert.RefKvGradIdeal.Facts] : Prop :=
  ∀ (m : (ℓ : Loc Cert.RefKvGradIdeal.nD Cert.RefKvGradIdeal.τ Cert.RefKvGradIdeal.sig) → Buf (Elt Ideal) ℓ) (g : Dev Cert.RefKvGradIdeal.nD → PrngReg), Pre_RefKvGradIdeal m →
    θ_run (Cert.RefKvGradIdeal.defs (F := Ideal)) (onTc (τ := Cert.RefKvGradIdeal.τ) (Cert.RefKvGradIdeal.main (F := Ideal))) ⟨m, fun _ => 0, g⟩ (fun r => (∀ c : Dev Cert.RefKvGradIdeal.nD,
      r.2.mem ((c.tc : Thread Cert.RefKvGradIdeal.nD Cert.RefKvGradIdeal.τ).loc Cert.RefKvGradIdeal.main_arg0) = m ((c.tc : Thread Cert.RefKvGradIdeal.nD Cert.RefKvGradIdeal.τ).loc Cert.RefKvGradIdeal.main_arg0)
      ∧ r.2.mem ((c.tc : Thread Cert.RefKvGradIdeal.nD Cert.RefKvGradIdeal.τ).loc Cert.RefKvGradIdeal.main_arg1) = m ((c.tc : Thread Cert.RefKvGradIdeal.nD Cert.RefKvGradIdeal.τ).loc Cert.RefKvGradIdeal.main_arg1))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2))
      ∧ r.2.sem = fun _ => 0)

def quiescent_RefKvBwdIdeal [hRefKvBwdIdeal : Cert.RefKvBwdIdeal.Facts] : Prop :=
  ∀ (m : (ℓ : Loc Cert.RefKvBwdIdeal.nD Cert.RefKvBwdIdeal.τ Cert.RefKvBwdIdeal.sig) → Buf (Elt Ideal) ℓ) (g : Dev Cert.RefKvBwdIdeal.nD → PrngReg), Pre_RefKvBwdIdeal m →
    θ_run (Cert.RefKvBwdIdeal.defs (F := Ideal)) (onTc (τ := Cert.RefKvBwdIdeal.τ) (Cert.RefKvBwdIdeal.main (F := Ideal))) ⟨m, fun _ => 0, g⟩ (fun r => (∀ c : Dev Cert.RefKvBwdIdeal.nD,
      r.2.mem ((c.tc : Thread Cert.RefKvBwdIdeal.nD Cert.RefKvBwdIdeal.τ).loc Cert.RefKvBwdIdeal.main_arg0) = m ((c.tc : Thread Cert.RefKvBwdIdeal.nD Cert.RefKvBwdIdeal.τ).loc Cert.RefKvBwdIdeal.main_arg0)
      ∧ r.2.mem ((c.tc : Thread Cert.RefKvBwdIdeal.nD Cert.RefKvBwdIdeal.τ).loc Cert.RefKvBwdIdeal.main_arg1) = m ((c.tc : Thread Cert.RefKvBwdIdeal.nD Cert.RefKvBwdIdeal.τ).loc Cert.RefKvBwdIdeal.main_arg1)
      ∧ r.2.mem ((c.tc : Thread Cert.RefKvBwdIdeal.nD Cert.RefKvBwdIdeal.τ).loc Cert.RefKvBwdIdeal.main_arg2) = m ((c.tc : Thread Cert.RefKvBwdIdeal.nD Cert.RefKvBwdIdeal.τ).loc Cert.RefKvBwdIdeal.main_arg2))
      ∧ r.2.sem = fun _ => 0)

def quiescent_KvV [hKvV : Cert.KvV.Facts] : Prop :=
  ∀ (m : (ℓ : Loc Cert.KvV.nD Cert.KvV.τ Cert.KvV.sig) → Buf (Elt Bits) ℓ) (g : Dev Cert.KvV.nD → PrngReg), Pre_KvV m →
    θ_run (Cert.KvV.defs (F := Bits)) (onTc (τ := Cert.KvV.τ) (Cert.KvV.main (F := Bits))) ⟨m, fun _ => 0, g⟩ (fun r => (∀ c : Dev Cert.KvV.nD,
      r.2.mem ((c.tc : Thread Cert.KvV.nD Cert.KvV.τ).loc Cert.KvV.main_arg0) = m ((c.tc : Thread Cert.KvV.nD Cert.KvV.τ).loc Cert.KvV.main_arg0)
      ∧ r.2.mem ((c.tc : Thread Cert.KvV.nD Cert.KvV.τ).loc Cert.KvV.main_arg1) = m ((c.tc : Thread Cert.KvV.nD Cert.KvV.τ).loc Cert.KvV.main_arg1))
      ∧ r.2.sem = fun _ => 0)

def quiescent_KvVIdeal [hKvVIdeal : Cert.KvVIdeal.Facts] : Prop :=
  ∀ (m : (ℓ : Loc Cert.KvVIdeal.nD Cert.KvVIdeal.τ Cert.KvVIdeal.sig) → Buf (Elt Ideal) ℓ) (g : Dev Cert.KvVIdeal.nD → PrngReg), Pre_KvVIdeal m →
    θ_run (Cert.KvVIdeal.defs (F := Ideal)) (onTc (τ := Cert.KvVIdeal.τ) (Cert.KvVIdeal.main (F := Ideal))) ⟨m, fun _ => 0, g⟩ (fun r => (∀ c : Dev Cert.KvVIdeal.nD,
      r.2.mem ((c.tc : Thread Cert.KvVIdeal.nD Cert.KvVIdeal.τ).loc Cert.KvVIdeal.main_arg0) = m ((c.tc : Thread Cert.KvVIdeal.nD Cert.KvVIdeal.τ).loc Cert.KvVIdeal.main_arg0)
      ∧ r.2.mem ((c.tc : Thread Cert.KvVIdeal.nD Cert.KvVIdeal.τ).loc Cert.KvVIdeal.main_arg1) = m ((c.tc : Thread Cert.KvVIdeal.nD Cert.KvVIdeal.τ).loc Cert.KvVIdeal.main_arg1))
      ∧ r.2.sem = fun _ => 0)

def quiescent_RefKvVIdeal [hRefKvVIdeal : Cert.RefKvVIdeal.Facts] : Prop :=
  ∀ (m : (ℓ : Loc Cert.RefKvVIdeal.nD Cert.RefKvVIdeal.τ Cert.RefKvVIdeal.sig) → Buf (Elt Ideal) ℓ) (g : Dev Cert.RefKvVIdeal.nD → PrngReg), Pre_RefKvVIdeal m →
    θ_run (Cert.RefKvVIdeal.defs (F := Ideal)) (onTc (τ := Cert.RefKvVIdeal.τ) (Cert.RefKvVIdeal.main (F := Ideal))) ⟨m, fun _ => 0, g⟩ (fun r => (∀ c : Dev Cert.RefKvVIdeal.nD,
      r.2.mem ((c.tc : Thread Cert.RefKvVIdeal.nD Cert.RefKvVIdeal.τ).loc Cert.RefKvVIdeal.main_arg0) = m ((c.tc : Thread Cert.RefKvVIdeal.nD Cert.RefKvVIdeal.τ).loc Cert.RefKvVIdeal.main_arg0)
      ∧ r.2.mem ((c.tc : Thread Cert.RefKvVIdeal.nD Cert.RefKvVIdeal.τ).loc Cert.RefKvVIdeal.main_arg1) = m ((c.tc : Thread Cert.RefKvVIdeal.nD Cert.RefKvVIdeal.τ).loc Cert.RefKvVIdeal.main_arg1))
      ∧ r.2.sem = fun _ => 0)

def quiescent_AdamBig1 [hAdamBig1 : Cert.AdamBig1.Facts] : Prop :=
  ∀ (m : (ℓ : Loc Cert.AdamBig1.nD Cert.AdamBig1.τ Cert.AdamBig1.sig) → Buf (Elt Bits) ℓ) (g : Dev Cert.AdamBig1.nD → PrngReg), Pre_AdamBig1 m →
    θ_run (Cert.AdamBig1.defs (F := Bits)) (onTc (τ := Cert.AdamBig1.τ) (Cert.AdamBig1.main (F := Bits))) ⟨m, fun _ => 0, g⟩ (fun r => (∀ c : Dev Cert.AdamBig1.nD,
      r.2.mem ((c.tc : Thread Cert.AdamBig1.nD Cert.AdamBig1.τ).loc Cert.AdamBig1.main_arg0) = m ((c.tc : Thread Cert.AdamBig1.nD Cert.AdamBig1.τ).loc Cert.AdamBig1.main_arg0)
      ∧ r.2.mem ((c.tc : Thread Cert.AdamBig1.nD Cert.AdamBig1.τ).loc Cert.AdamBig1.main_arg1) = m ((c.tc : Thread Cert.AdamBig1.nD Cert.AdamBig1.τ).loc Cert.AdamBig1.main_arg1)
      ∧ r.2.mem ((c.tc : Thread Cert.AdamBig1.nD Cert.AdamBig1.τ).loc Cert.AdamBig1.main_arg2) = m ((c.tc : Thread Cert.AdamBig1.nD Cert.AdamBig1.τ).loc Cert.AdamBig1.main_arg2)
      ∧ r.2.mem ((c.tc : Thread Cert.AdamBig1.nD Cert.AdamBig1.τ).loc Cert.AdamBig1.main_arg3) = m ((c.tc : Thread Cert.AdamBig1.nD Cert.AdamBig1.τ).loc Cert.AdamBig1.main_arg3))
      ∧ r.2.sem = fun _ => 0)

def quiescent_AdamBig1Ideal [hAdamBig1Ideal : Cert.AdamBig1Ideal.Facts] : Prop :=
  ∀ (m : (ℓ : Loc Cert.AdamBig1Ideal.nD Cert.AdamBig1Ideal.τ Cert.AdamBig1Ideal.sig) → Buf (Elt Ideal) ℓ) (g : Dev Cert.AdamBig1Ideal.nD → PrngReg), Pre_AdamBig1Ideal m →
    θ_run (Cert.AdamBig1Ideal.defs (F := Ideal)) (onTc (τ := Cert.AdamBig1Ideal.τ) (Cert.AdamBig1Ideal.main (F := Ideal))) ⟨m, fun _ => 0, g⟩ (fun r => (∀ c : Dev Cert.AdamBig1Ideal.nD,
      r.2.mem ((c.tc : Thread Cert.AdamBig1Ideal.nD Cert.AdamBig1Ideal.τ).loc Cert.AdamBig1Ideal.main_arg0) = m ((c.tc : Thread Cert.AdamBig1Ideal.nD Cert.AdamBig1Ideal.τ).loc Cert.AdamBig1Ideal.main_arg0)
      ∧ r.2.mem ((c.tc : Thread Cert.AdamBig1Ideal.nD Cert.AdamBig1Ideal.τ).loc Cert.AdamBig1Ideal.main_arg1) = m ((c.tc : Thread Cert.AdamBig1Ideal.nD Cert.AdamBig1Ideal.τ).loc Cert.AdamBig1Ideal.main_arg1)
      ∧ r.2.mem ((c.tc : Thread Cert.AdamBig1Ideal.nD Cert.AdamBig1Ideal.τ).loc Cert.AdamBig1Ideal.main_arg2) = m ((c.tc : Thread Cert.AdamBig1Ideal.nD Cert.AdamBig1Ideal.τ).loc Cert.AdamBig1Ideal.main_arg2)
      ∧ r.2.mem ((c.tc : Thread Cert.AdamBig1Ideal.nD Cert.AdamBig1Ideal.τ).loc Cert.AdamBig1Ideal.main_arg3) = m ((c.tc : Thread Cert.AdamBig1Ideal.nD Cert.AdamBig1Ideal.τ).loc Cert.AdamBig1Ideal.main_arg3))
      ∧ r.2.sem = fun _ => 0)

def quiescent_RefAdamBig1Ideal [hRefAdamBig1Ideal : Cert.RefAdamBig1Ideal.Facts] : Prop :=
  ∀ (m : (ℓ : Loc Cert.RefAdamBig1Ideal.nD Cert.RefAdamBig1Ideal.τ Cert.RefAdamBig1Ideal.sig) → Buf (Elt Ideal) ℓ) (g : Dev Cert.RefAdamBig1Ideal.nD → PrngReg), Pre_RefAdamBig1Ideal m →
    θ_run (Cert.RefAdamBig1Ideal.defs (F := Ideal)) (onTc (τ := Cert.RefAdamBig1Ideal.τ) (Cert.RefAdamBig1Ideal.main (F := Ideal))) ⟨m, fun _ => 0, g⟩ (fun r => (∀ c : Dev Cert.RefAdamBig1Ideal.nD,
      r.2.mem ((c.tc : Thread Cert.RefAdamBig1Ideal.nD Cert.RefAdamBig1Ideal.τ).loc Cert.RefAdamBig1Ideal.main_arg0) = m ((c.tc : Thread Cert.RefAdamBig1Ideal.nD Cert.RefAdamBig1Ideal.τ).loc Cert.RefAdamBig1Ideal.main_arg0)
      ∧ r.2.mem ((c.tc : Thread Cert.RefAdamBig1Ideal.nD Cert.RefAdamBig1Ideal.τ).loc Cert.RefAdamBig1Ideal.main_arg1) = m ((c.tc : Thread Cert.RefAdamBig1Ideal.nD Cert.RefAdamBig1Ideal.τ).loc Cert.RefAdamBig1Ideal.main_arg1)
      ∧ r.2.mem ((c.tc : Thread Cert.RefAdamBig1Ideal.nD Cert.RefAdamBig1Ideal.τ).loc Cert.RefAdamBig1Ideal.main_arg2) = m ((c.tc : Thread Cert.RefAdamBig1Ideal.nD Cert.RefAdamBig1Ideal.τ).loc Cert.RefAdamBig1Ideal.main_arg2)
      ∧ r.2.mem ((c.tc : Thread Cert.RefAdamBig1Ideal.nD Cert.RefAdamBig1Ideal.τ).loc Cert.RefAdamBig1Ideal.main_arg3) = m ((c.tc : Thread Cert.RefAdamBig1Ideal.nD Cert.RefAdamBig1Ideal.τ).loc Cert.RefAdamBig1Ideal.main_arg3))
      ∧ r.2.sem = fun _ => 0)

def quiescent_AdamBig2 [hAdamBig2 : Cert.AdamBig2.Facts] : Prop :=
  ∀ (m : (ℓ : Loc Cert.AdamBig2.nD Cert.AdamBig2.τ Cert.AdamBig2.sig) → Buf (Elt Bits) ℓ) (g : Dev Cert.AdamBig2.nD → PrngReg), Pre_AdamBig2 m →
    θ_run (Cert.AdamBig2.defs (F := Bits)) (onTc (τ := Cert.AdamBig2.τ) (Cert.AdamBig2.main (F := Bits))) ⟨m, fun _ => 0, g⟩ (fun r => (∀ c : Dev Cert.AdamBig2.nD,
      r.2.mem ((c.tc : Thread Cert.AdamBig2.nD Cert.AdamBig2.τ).loc Cert.AdamBig2.main_arg0) = m ((c.tc : Thread Cert.AdamBig2.nD Cert.AdamBig2.τ).loc Cert.AdamBig2.main_arg0)
      ∧ r.2.mem ((c.tc : Thread Cert.AdamBig2.nD Cert.AdamBig2.τ).loc Cert.AdamBig2.main_arg1) = m ((c.tc : Thread Cert.AdamBig2.nD Cert.AdamBig2.τ).loc Cert.AdamBig2.main_arg1)
      ∧ r.2.mem ((c.tc : Thread Cert.AdamBig2.nD Cert.AdamBig2.τ).loc Cert.AdamBig2.main_arg2) = m ((c.tc : Thread Cert.AdamBig2.nD Cert.AdamBig2.τ).loc Cert.AdamBig2.main_arg2)
      ∧ r.2.mem ((c.tc : Thread Cert.AdamBig2.nD Cert.AdamBig2.τ).loc Cert.AdamBig2.main_arg3) = m ((c.tc : Thread Cert.AdamBig2.nD Cert.AdamBig2.τ).loc Cert.AdamBig2.main_arg3))
      ∧ r.2.sem = fun _ => 0)

def quiescent_AdamBig2Ideal [hAdamBig2Ideal : Cert.AdamBig2Ideal.Facts] : Prop :=
  ∀ (m : (ℓ : Loc Cert.AdamBig2Ideal.nD Cert.AdamBig2Ideal.τ Cert.AdamBig2Ideal.sig) → Buf (Elt Ideal) ℓ) (g : Dev Cert.AdamBig2Ideal.nD → PrngReg), Pre_AdamBig2Ideal m →
    θ_run (Cert.AdamBig2Ideal.defs (F := Ideal)) (onTc (τ := Cert.AdamBig2Ideal.τ) (Cert.AdamBig2Ideal.main (F := Ideal))) ⟨m, fun _ => 0, g⟩ (fun r => (∀ c : Dev Cert.AdamBig2Ideal.nD,
      r.2.mem ((c.tc : Thread Cert.AdamBig2Ideal.nD Cert.AdamBig2Ideal.τ).loc Cert.AdamBig2Ideal.main_arg0) = m ((c.tc : Thread Cert.AdamBig2Ideal.nD Cert.AdamBig2Ideal.τ).loc Cert.AdamBig2Ideal.main_arg0)
      ∧ r.2.mem ((c.tc : Thread Cert.AdamBig2Ideal.nD Cert.AdamBig2Ideal.τ).loc Cert.AdamBig2Ideal.main_arg1) = m ((c.tc : Thread Cert.AdamBig2Ideal.nD Cert.AdamBig2Ideal.τ).loc Cert.AdamBig2Ideal.main_arg1)
      ∧ r.2.mem ((c.tc : Thread Cert.AdamBig2Ideal.nD Cert.AdamBig2Ideal.τ).loc Cert.AdamBig2Ideal.main_arg2) = m ((c.tc : Thread Cert.AdamBig2Ideal.nD Cert.AdamBig2Ideal.τ).loc Cert.AdamBig2Ideal.main_arg2)
      ∧ r.2.mem ((c.tc : Thread Cert.AdamBig2Ideal.nD Cert.AdamBig2Ideal.τ).loc Cert.AdamBig2Ideal.main_arg3) = m ((c.tc : Thread Cert.AdamBig2Ideal.nD Cert.AdamBig2Ideal.τ).loc Cert.AdamBig2Ideal.main_arg3))
      ∧ r.2.sem = fun _ => 0)

def quiescent_RefAdamBig2Ideal [hRefAdamBig2Ideal : Cert.RefAdamBig2Ideal.Facts] : Prop :=
  ∀ (m : (ℓ : Loc Cert.RefAdamBig2Ideal.nD Cert.RefAdamBig2Ideal.τ Cert.RefAdamBig2Ideal.sig) → Buf (Elt Ideal) ℓ) (g : Dev Cert.RefAdamBig2Ideal.nD → PrngReg), Pre_RefAdamBig2Ideal m →
    θ_run (Cert.RefAdamBig2Ideal.defs (F := Ideal)) (onTc (τ := Cert.RefAdamBig2Ideal.τ) (Cert.RefAdamBig2Ideal.main (F := Ideal))) ⟨m, fun _ => 0, g⟩ (fun r => (∀ c : Dev Cert.RefAdamBig2Ideal.nD,
      r.2.mem ((c.tc : Thread Cert.RefAdamBig2Ideal.nD Cert.RefAdamBig2Ideal.τ).loc Cert.RefAdamBig2Ideal.main_arg0) = m ((c.tc : Thread Cert.RefAdamBig2Ideal.nD Cert.RefAdamBig2Ideal.τ).loc Cert.RefAdamBig2Ideal.main_arg0)
      ∧ r.2.mem ((c.tc : Thread Cert.RefAdamBig2Ideal.nD Cert.RefAdamBig2Ideal.τ).loc Cert.RefAdamBig2Ideal.main_arg1) = m ((c.tc : Thread Cert.RefAdamBig2Ideal.nD Cert.RefAdamBig2Ideal.τ).loc Cert.RefAdamBig2Ideal.main_arg1)
      ∧ r.2.mem ((c.tc : Thread Cert.RefAdamBig2Ideal.nD Cert.RefAdamBig2Ideal.τ).loc Cert.RefAdamBig2Ideal.main_arg2) = m ((c.tc : Thread Cert.RefAdamBig2Ideal.nD Cert.RefAdamBig2Ideal.τ).loc Cert.RefAdamBig2Ideal.main_arg2)
      ∧ r.2.mem ((c.tc : Thread Cert.RefAdamBig2Ideal.nD Cert.RefAdamBig2Ideal.τ).loc Cert.RefAdamBig2Ideal.main_arg3) = m ((c.tc : Thread Cert.RefAdamBig2Ideal.nD Cert.RefAdamBig2Ideal.τ).loc Cert.RefAdamBig2Ideal.main_arg3))
      ∧ r.2.sem = fun _ => 0)

def quiescent_AdamBig3 [hAdamBig3 : Cert.AdamBig3.Facts] : Prop :=
  ∀ (m : (ℓ : Loc Cert.AdamBig3.nD Cert.AdamBig3.τ Cert.AdamBig3.sig) → Buf (Elt Bits) ℓ) (g : Dev Cert.AdamBig3.nD → PrngReg), Pre_AdamBig3 m →
    θ_run (Cert.AdamBig3.defs (F := Bits)) (onTc (τ := Cert.AdamBig3.τ) (Cert.AdamBig3.main (F := Bits))) ⟨m, fun _ => 0, g⟩ (fun r => (∀ c : Dev Cert.AdamBig3.nD,
      r.2.mem ((c.tc : Thread Cert.AdamBig3.nD Cert.AdamBig3.τ).loc Cert.AdamBig3.main_arg0) = m ((c.tc : Thread Cert.AdamBig3.nD Cert.AdamBig3.τ).loc Cert.AdamBig3.main_arg0)
      ∧ r.2.mem ((c.tc : Thread Cert.AdamBig3.nD Cert.AdamBig3.τ).loc Cert.AdamBig3.main_arg1) = m ((c.tc : Thread Cert.AdamBig3.nD Cert.AdamBig3.τ).loc Cert.AdamBig3.main_arg1)
      ∧ r.2.mem ((c.tc : Thread Cert.AdamBig3.nD Cert.AdamBig3.τ).loc Cert.AdamBig3.main_arg2) = m ((c.tc : Thread Cert.AdamBig3.nD Cert.AdamBig3.τ).loc Cert.AdamBig3.main_arg2)
      ∧ r.2.mem ((c.tc : Thread Cert.AdamBig3.nD Cert.AdamBig3.τ).loc Cert.AdamBig3.main_arg3) = m ((c.tc : Thread Cert.AdamBig3.nD Cert.AdamBig3.τ).loc Cert.AdamBig3.main_arg3))
      ∧ r.2.sem = fun _ => 0)

def quiescent_AdamBig3Ideal [hAdamBig3Ideal : Cert.AdamBig3Ideal.Facts] : Prop :=
  ∀ (m : (ℓ : Loc Cert.AdamBig3Ideal.nD Cert.AdamBig3Ideal.τ Cert.AdamBig3Ideal.sig) → Buf (Elt Ideal) ℓ) (g : Dev Cert.AdamBig3Ideal.nD → PrngReg), Pre_AdamBig3Ideal m →
    θ_run (Cert.AdamBig3Ideal.defs (F := Ideal)) (onTc (τ := Cert.AdamBig3Ideal.τ) (Cert.AdamBig3Ideal.main (F := Ideal))) ⟨m, fun _ => 0, g⟩ (fun r => (∀ c : Dev Cert.AdamBig3Ideal.nD,
      r.2.mem ((c.tc : Thread Cert.AdamBig3Ideal.nD Cert.AdamBig3Ideal.τ).loc Cert.AdamBig3Ideal.main_arg0) = m ((c.tc : Thread Cert.AdamBig3Ideal.nD Cert.AdamBig3Ideal.τ).loc Cert.AdamBig3Ideal.main_arg0)
      ∧ r.2.mem ((c.tc : Thread Cert.AdamBig3Ideal.nD Cert.AdamBig3Ideal.τ).loc Cert.AdamBig3Ideal.main_arg1) = m ((c.tc : Thread Cert.AdamBig3Ideal.nD Cert.AdamBig3Ideal.τ).loc Cert.AdamBig3Ideal.main_arg1)
      ∧ r.2.mem ((c.tc : Thread Cert.AdamBig3Ideal.nD Cert.AdamBig3Ideal.τ).loc Cert.AdamBig3Ideal.main_arg2) = m ((c.tc : Thread Cert.AdamBig3Ideal.nD Cert.AdamBig3Ideal.τ).loc Cert.AdamBig3Ideal.main_arg2)
      ∧ r.2.mem ((c.tc : Thread Cert.AdamBig3Ideal.nD Cert.AdamBig3Ideal.τ).loc Cert.AdamBig3Ideal.main_arg3) = m ((c.tc : Thread Cert.AdamBig3Ideal.nD Cert.AdamBig3Ideal.τ).loc Cert.AdamBig3Ideal.main_arg3))
      ∧ r.2.sem = fun _ => 0)

def quiescent_RefAdamBig3Ideal [hRefAdamBig3Ideal : Cert.RefAdamBig3Ideal.Facts] : Prop :=
  ∀ (m : (ℓ : Loc Cert.RefAdamBig3Ideal.nD Cert.RefAdamBig3Ideal.τ Cert.RefAdamBig3Ideal.sig) → Buf (Elt Ideal) ℓ) (g : Dev Cert.RefAdamBig3Ideal.nD → PrngReg), Pre_RefAdamBig3Ideal m →
    θ_run (Cert.RefAdamBig3Ideal.defs (F := Ideal)) (onTc (τ := Cert.RefAdamBig3Ideal.τ) (Cert.RefAdamBig3Ideal.main (F := Ideal))) ⟨m, fun _ => 0, g⟩ (fun r => (∀ c : Dev Cert.RefAdamBig3Ideal.nD,
      r.2.mem ((c.tc : Thread Cert.RefAdamBig3Ideal.nD Cert.RefAdamBig3Ideal.τ).loc Cert.RefAdamBig3Ideal.main_arg0) = m ((c.tc : Thread Cert.RefAdamBig3Ideal.nD Cert.RefAdamBig3Ideal.τ).loc Cert.RefAdamBig3Ideal.main_arg0)
      ∧ r.2.mem ((c.tc : Thread Cert.RefAdamBig3Ideal.nD Cert.RefAdamBig3Ideal.τ).loc Cert.RefAdamBig3Ideal.main_arg1) = m ((c.tc : Thread Cert.RefAdamBig3Ideal.nD Cert.RefAdamBig3Ideal.τ).loc Cert.RefAdamBig3Ideal.main_arg1)
      ∧ r.2.mem ((c.tc : Thread Cert.RefAdamBig3Ideal.nD Cert.RefAdamBig3Ideal.τ).loc Cert.RefAdamBig3Ideal.main_arg2) = m ((c.tc : Thread Cert.RefAdamBig3Ideal.nD Cert.RefAdamBig3Ideal.τ).loc Cert.RefAdamBig3Ideal.main_arg2)
      ∧ r.2.mem ((c.tc : Thread Cert.RefAdamBig3Ideal.nD Cert.RefAdamBig3Ideal.τ).loc Cert.RefAdamBig3Ideal.main_arg3) = m ((c.tc : Thread Cert.RefAdamBig3Ideal.nD Cert.RefAdamBig3Ideal.τ).loc Cert.RefAdamBig3Ideal.main_arg3))
      ∧ r.2.sem = fun _ => 0)

def quiescent_AdamBig4 [hAdamBig4 : Cert.AdamBig4.Facts] : Prop :=
  ∀ (m : (ℓ : Loc Cert.AdamBig4.nD Cert.AdamBig4.τ Cert.AdamBig4.sig) → Buf (Elt Bits) ℓ) (g : Dev Cert.AdamBig4.nD → PrngReg), Pre_AdamBig4 m →
    θ_run (Cert.AdamBig4.defs (F := Bits)) (onTc (τ := Cert.AdamBig4.τ) (Cert.AdamBig4.main (F := Bits))) ⟨m, fun _ => 0, g⟩ (fun r => (∀ c : Dev Cert.AdamBig4.nD,
      r.2.mem ((c.tc : Thread Cert.AdamBig4.nD Cert.AdamBig4.τ).loc Cert.AdamBig4.main_arg0) = m ((c.tc : Thread Cert.AdamBig4.nD Cert.AdamBig4.τ).loc Cert.AdamBig4.main_arg0)
      ∧ r.2.mem ((c.tc : Thread Cert.AdamBig4.nD Cert.AdamBig4.τ).loc Cert.AdamBig4.main_arg1) = m ((c.tc : Thread Cert.AdamBig4.nD Cert.AdamBig4.τ).loc Cert.AdamBig4.main_arg1)
      ∧ r.2.mem ((c.tc : Thread Cert.AdamBig4.nD Cert.AdamBig4.τ).loc Cert.AdamBig4.main_arg2) = m ((c.tc : Thread Cert.AdamBig4.nD Cert.AdamBig4.τ).loc Cert.AdamBig4.main_arg2)
      ∧ r.2.mem ((c.tc : Thread Cert.AdamBig4.nD Cert.AdamBig4.τ).loc Cert.AdamBig4.main_arg3) = m ((c.tc : Thread Cert.AdamBig4.nD Cert.AdamBig4.τ).loc Cert.AdamBig4.main_arg3))
      ∧ r.2.sem = fun _ => 0)

def quiescent_AdamBig4Ideal [hAdamBig4Ideal : Cert.AdamBig4Ideal.Facts] : Prop :=
  ∀ (m : (ℓ : Loc Cert.AdamBig4Ideal.nD Cert.AdamBig4Ideal.τ Cert.AdamBig4Ideal.sig) → Buf (Elt Ideal) ℓ) (g : Dev Cert.AdamBig4Ideal.nD → PrngReg), Pre_AdamBig4Ideal m →
    θ_run (Cert.AdamBig4Ideal.defs (F := Ideal)) (onTc (τ := Cert.AdamBig4Ideal.τ) (Cert.AdamBig4Ideal.main (F := Ideal))) ⟨m, fun _ => 0, g⟩ (fun r => (∀ c : Dev Cert.AdamBig4Ideal.nD,
      r.2.mem ((c.tc : Thread Cert.AdamBig4Ideal.nD Cert.AdamBig4Ideal.τ).loc Cert.AdamBig4Ideal.main_arg0) = m ((c.tc : Thread Cert.AdamBig4Ideal.nD Cert.AdamBig4Ideal.τ).loc Cert.AdamBig4Ideal.main_arg0)
      ∧ r.2.mem ((c.tc : Thread Cert.AdamBig4Ideal.nD Cert.AdamBig4Ideal.τ).loc Cert.AdamBig4Ideal.main_arg1) = m ((c.tc : Thread Cert.AdamBig4Ideal.nD Cert.AdamBig4Ideal.τ).loc Cert.AdamBig4Ideal.main_arg1)
      ∧ r.2.mem ((c.tc : Thread Cert.AdamBig4Ideal.nD Cert.AdamBig4Ideal.τ).loc Cert.AdamBig4Ideal.main_arg2) = m ((c.tc : Thread Cert.AdamBig4Ideal.nD Cert.AdamBig4Ideal.τ).loc Cert.AdamBig4Ideal.main_arg2)
      ∧ r.2.mem ((c.tc : Thread Cert.AdamBig4Ideal.nD Cert.AdamBig4Ideal.τ).loc Cert.AdamBig4Ideal.main_arg3) = m ((c.tc : Thread Cert.AdamBig4Ideal.nD Cert.AdamBig4Ideal.τ).loc Cert.AdamBig4Ideal.main_arg3))
      ∧ r.2.sem = fun _ => 0)

def quiescent_RefAdamBig4Ideal [hRefAdamBig4Ideal : Cert.RefAdamBig4Ideal.Facts] : Prop :=
  ∀ (m : (ℓ : Loc Cert.RefAdamBig4Ideal.nD Cert.RefAdamBig4Ideal.τ Cert.RefAdamBig4Ideal.sig) → Buf (Elt Ideal) ℓ) (g : Dev Cert.RefAdamBig4Ideal.nD → PrngReg), Pre_RefAdamBig4Ideal m →
    θ_run (Cert.RefAdamBig4Ideal.defs (F := Ideal)) (onTc (τ := Cert.RefAdamBig4Ideal.τ) (Cert.RefAdamBig4Ideal.main (F := Ideal))) ⟨m, fun _ => 0, g⟩ (fun r => (∀ c : Dev Cert.RefAdamBig4Ideal.nD,
      r.2.mem ((c.tc : Thread Cert.RefAdamBig4Ideal.nD Cert.RefAdamBig4Ideal.τ).loc Cert.RefAdamBig4Ideal.main_arg0) = m ((c.tc : Thread Cert.RefAdamBig4Ideal.nD Cert.RefAdamBig4Ideal.τ).loc Cert.RefAdamBig4Ideal.main_arg0)
      ∧ r.2.mem ((c.tc : Thread Cert.RefAdamBig4Ideal.nD Cert.RefAdamBig4Ideal.τ).loc Cert.RefAdamBig4Ideal.main_arg1) = m ((c.tc : Thread Cert.RefAdamBig4Ideal.nD Cert.RefAdamBig4Ideal.τ).loc Cert.RefAdamBig4Ideal.main_arg1)
      ∧ r.2.mem ((c.tc : Thread Cert.RefAdamBig4Ideal.nD Cert.RefAdamBig4Ideal.τ).loc Cert.RefAdamBig4Ideal.main_arg2) = m ((c.tc : Thread Cert.RefAdamBig4Ideal.nD Cert.RefAdamBig4Ideal.τ).loc Cert.RefAdamBig4Ideal.main_arg2)
      ∧ r.2.mem ((c.tc : Thread Cert.RefAdamBig4Ideal.nD Cert.RefAdamBig4Ideal.τ).loc Cert.RefAdamBig4Ideal.main_arg3) = m ((c.tc : Thread Cert.RefAdamBig4Ideal.nD Cert.RefAdamBig4Ideal.τ).loc Cert.RefAdamBig4Ideal.main_arg3))
      ∧ r.2.sem = fun _ => 0)

def quiescent_AdamBig5 [hAdamBig5 : Cert.AdamBig5.Facts] : Prop :=
  ∀ (m : (ℓ : Loc Cert.AdamBig5.nD Cert.AdamBig5.τ Cert.AdamBig5.sig) → Buf (Elt Bits) ℓ) (g : Dev Cert.AdamBig5.nD → PrngReg), Pre_AdamBig5 m →
    θ_run (Cert.AdamBig5.defs (F := Bits)) (onTc (τ := Cert.AdamBig5.τ) (Cert.AdamBig5.main (F := Bits))) ⟨m, fun _ => 0, g⟩ (fun r => (∀ c : Dev Cert.AdamBig5.nD,
      r.2.mem ((c.tc : Thread Cert.AdamBig5.nD Cert.AdamBig5.τ).loc Cert.AdamBig5.main_arg0) = m ((c.tc : Thread Cert.AdamBig5.nD Cert.AdamBig5.τ).loc Cert.AdamBig5.main_arg0)
      ∧ r.2.mem ((c.tc : Thread Cert.AdamBig5.nD Cert.AdamBig5.τ).loc Cert.AdamBig5.main_arg1) = m ((c.tc : Thread Cert.AdamBig5.nD Cert.AdamBig5.τ).loc Cert.AdamBig5.main_arg1)
      ∧ r.2.mem ((c.tc : Thread Cert.AdamBig5.nD Cert.AdamBig5.τ).loc Cert.AdamBig5.main_arg2) = m ((c.tc : Thread Cert.AdamBig5.nD Cert.AdamBig5.τ).loc Cert.AdamBig5.main_arg2)
      ∧ r.2.mem ((c.tc : Thread Cert.AdamBig5.nD Cert.AdamBig5.τ).loc Cert.AdamBig5.main_arg3) = m ((c.tc : Thread Cert.AdamBig5.nD Cert.AdamBig5.τ).loc Cert.AdamBig5.main_arg3))
      ∧ r.2.sem = fun _ => 0)

def quiescent_AdamBig5Ideal [hAdamBig5Ideal : Cert.AdamBig5Ideal.Facts] : Prop :=
  ∀ (m : (ℓ : Loc Cert.AdamBig5Ideal.nD Cert.AdamBig5Ideal.τ Cert.AdamBig5Ideal.sig) → Buf (Elt Ideal) ℓ) (g : Dev Cert.AdamBig5Ideal.nD → PrngReg), Pre_AdamBig5Ideal m →
    θ_run (Cert.AdamBig5Ideal.defs (F := Ideal)) (onTc (τ := Cert.AdamBig5Ideal.τ) (Cert.AdamBig5Ideal.main (F := Ideal))) ⟨m, fun _ => 0, g⟩ (fun r => (∀ c : Dev Cert.AdamBig5Ideal.nD,
      r.2.mem ((c.tc : Thread Cert.AdamBig5Ideal.nD Cert.AdamBig5Ideal.τ).loc Cert.AdamBig5Ideal.main_arg0) = m ((c.tc : Thread Cert.AdamBig5Ideal.nD Cert.AdamBig5Ideal.τ).loc Cert.AdamBig5Ideal.main_arg0)
      ∧ r.2.mem ((c.tc : Thread Cert.AdamBig5Ideal.nD Cert.AdamBig5Ideal.τ).loc Cert.AdamBig5Ideal.main_arg1) = m ((c.tc : Thread Cert.AdamBig5Ideal.nD Cert.AdamBig5Ideal.τ).loc Cert.AdamBig5Ideal.main_arg1)
      ∧ r.2.mem ((c.tc : Thread Cert.AdamBig5Ideal.nD Cert.AdamBig5Ideal.τ).loc Cert.AdamBig5Ideal.main_arg2) = m ((c.tc : Thread Cert.AdamBig5Ideal.nD Cert.AdamBig5Ideal.τ).loc Cert.AdamBig5Ideal.main_arg2)
      ∧ r.2.mem ((c.tc : Thread Cert.AdamBig5Ideal.nD Cert.AdamBig5Ideal.τ).loc Cert.AdamBig5Ideal.main_arg3) = m ((c.tc : Thread Cert.AdamBig5Ideal.nD Cert.AdamBig5Ideal.τ).loc Cert.AdamBig5Ideal.main_arg3))
      ∧ r.2.sem = fun _ => 0)

def quiescent_RefAdamBig5Ideal [hRefAdamBig5Ideal : Cert.RefAdamBig5Ideal.Facts] : Prop :=
  ∀ (m : (ℓ : Loc Cert.RefAdamBig5Ideal.nD Cert.RefAdamBig5Ideal.τ Cert.RefAdamBig5Ideal.sig) → Buf (Elt Ideal) ℓ) (g : Dev Cert.RefAdamBig5Ideal.nD → PrngReg), Pre_RefAdamBig5Ideal m →
    θ_run (Cert.RefAdamBig5Ideal.defs (F := Ideal)) (onTc (τ := Cert.RefAdamBig5Ideal.τ) (Cert.RefAdamBig5Ideal.main (F := Ideal))) ⟨m, fun _ => 0, g⟩ (fun r => (∀ c : Dev Cert.RefAdamBig5Ideal.nD,
      r.2.mem ((c.tc : Thread Cert.RefAdamBig5Ideal.nD Cert.RefAdamBig5Ideal.τ).loc Cert.RefAdamBig5Ideal.main_arg0) = m ((c.tc : Thread Cert.RefAdamBig5Ideal.nD Cert.RefAdamBig5Ideal.τ).loc Cert.RefAdamBig5Ideal.main_arg0)
      ∧ r.2.mem ((c.tc : Thread Cert.RefAdamBig5Ideal.nD Cert.RefAdamBig5Ideal.τ).loc Cert.RefAdamBig5Ideal.main_arg1) = m ((c.tc : Thread Cert.RefAdamBig5Ideal.nD Cert.RefAdamBig5Ideal.τ).loc Cert.RefAdamBig5Ideal.main_arg1)
      ∧ r.2.mem ((c.tc : Thread Cert.RefAdamBig5Ideal.nD Cert.RefAdamBig5Ideal.τ).loc Cert.RefAdamBig5Ideal.main_arg2) = m ((c.tc : Thread Cert.RefAdamBig5Ideal.nD Cert.RefAdamBig5Ideal.τ).loc Cert.RefAdamBig5Ideal.main_arg2)
      ∧ r.2.mem ((c.tc : Thread Cert.RefAdamBig5Ideal.nD Cert.RefAdamBig5Ideal.τ).loc Cert.RefAdamBig5Ideal.main_arg3) = m ((c.tc : Thread Cert.RefAdamBig5Ideal.nD Cert.RefAdamBig5Ideal.τ).loc Cert.RefAdamBig5Ideal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_RefAdamAdaBIdeal [hRefAdamAdaBIdeal : Cert.RefAdamAdaBIdeal.Facts] : Prop :=
  ∀ (m : (ℓ : Loc Cert.RefAdamAdaBIdeal.nD Cert.RefAdamAdaBIdeal.τ Cert.RefAdamAdaBIdeal.sig) → Buf (Elt Ideal) ℓ) (g : Dev Cert.RefAdamAdaBIdeal.nD → PrngReg), Pre_RefAdamAdaBIdeal m →
    θ_run (Cert.RefAdamAdaBIdeal.defs (F := Ideal)) (onTc (τ := Cert.RefAdamAdaBIdeal.τ) (Cert.RefAdamAdaBIdeal.main (F := Ideal))) ⟨m, fun _ => 0, g⟩ (fun r => (∀ c : Dev Cert.RefAdamAdaBIdeal.nD,
      r.2.mem ((c.tc : Thread Cert.RefAdamAdaBIdeal.nD Cert.RefAdamAdaBIdeal.τ).loc Cert.RefAdamAdaBIdeal.main_arg0) = m ((c.tc : Thread Cert.RefAdamAdaBIdeal.nD Cert.RefAdamAdaBIdeal.τ).loc Cert.RefAdamAdaBIdeal.main_arg0)
      ∧ r.2.mem ((c.tc : Thread Cert.RefAdamAdaBIdeal.nD Cert.RefAdamAdaBIdeal.τ).loc Cert.RefAdamAdaBIdeal.main_arg1) = m ((c.tc : Thread Cert.RefAdamAdaBIdeal.nD Cert.RefAdamAdaBIdeal.τ).loc Cert.RefAdamAdaBIdeal.main_arg1)
      ∧ r.2.mem ((c.tc : Thread Cert.RefAdamAdaBIdeal.nD Cert.RefAdamAdaBIdeal.τ).loc Cert.RefAdamAdaBIdeal.main_arg2) = m ((c.tc : Thread Cert.RefAdamAdaBIdeal.nD Cert.RefAdamAdaBIdeal.τ).loc Cert.RefAdamAdaBIdeal.main_arg2)
      ∧ r.2.mem ((c.tc : Thread Cert.RefAdamAdaBIdeal.nD Cert.RefAdamAdaBIdeal.τ).loc Cert.RefAdamAdaBIdeal.main_arg3) = m ((c.tc : Thread Cert.RefAdamAdaBIdeal.nD Cert.RefAdamAdaBIdeal.τ).loc Cert.RefAdamAdaBIdeal.main_arg3))
      ∧ r.2.sem = fun _ => 0)

def quiescent_AdamNormG [hAdamNormG : Cert.AdamNormG.Facts] : Prop :=
  ∀ (m : (ℓ : Loc Cert.AdamNormG.nD Cert.AdamNormG.τ Cert.AdamNormG.sig) → Buf (Elt Bits) ℓ) (g : Dev Cert.AdamNormG.nD → PrngReg), Pre_AdamNormG m →
    θ_run (Cert.AdamNormG.defs (F := Bits)) (onTc (τ := Cert.AdamNormG.τ) (Cert.AdamNormG.main (F := Bits))) ⟨m, fun _ => 0, g⟩ (fun r => (∀ c : Dev Cert.AdamNormG.nD,
      r.2.mem ((c.tc : Thread Cert.AdamNormG.nD Cert.AdamNormG.τ).loc Cert.AdamNormG.main_arg0) = m ((c.tc : Thread Cert.AdamNormG.nD Cert.AdamNormG.τ).loc Cert.AdamNormG.main_arg0)
      ∧ r.2.mem ((c.tc : Thread Cert.AdamNormG.nD Cert.AdamNormG.τ).loc Cert.AdamNormG.main_arg1) = m ((c.tc : Thread Cert.AdamNormG.nD Cert.AdamNormG.τ).loc Cert.AdamNormG.main_arg1)
      ∧ r.2.mem ((c.tc : Thread Cert.AdamNormG.nD Cert.AdamNormG.τ).loc Cert.AdamNormG.main_arg2) = m ((c.tc : Thread Cert.AdamNormG.nD Cert.AdamNormG.τ).loc Cert.AdamNormG.main_arg2)
      ∧ r.2.mem ((c.tc : Thread Cert.AdamNormG.nD Cert.AdamNormG.τ).loc Cert.AdamNormG.main_arg3) = m ((c.tc : Thread Cert.AdamNormG.nD Cert.AdamNormG.τ).loc Cert.AdamNormG.main_arg3))
      ∧ r.2.sem = fun _ => 0)

def quiescent_AdamNormGIdeal [hAdamNormGIdeal : Cert.AdamNormGIdeal.Facts] : Prop :=
  ∀ (m : (ℓ : Loc Cert.AdamNormGIdeal.nD Cert.AdamNormGIdeal.τ Cert.AdamNormGIdeal.sig) → Buf (Elt Ideal) ℓ) (g : Dev Cert.AdamNormGIdeal.nD → PrngReg), Pre_AdamNormGIdeal m →
    θ_run (Cert.AdamNormGIdeal.defs (F := Ideal)) (onTc (τ := Cert.AdamNormGIdeal.τ) (Cert.AdamNormGIdeal.main (F := Ideal))) ⟨m, fun _ => 0, g⟩ (fun r => (∀ c : Dev Cert.AdamNormGIdeal.nD,
      r.2.mem ((c.tc : Thread Cert.AdamNormGIdeal.nD Cert.AdamNormGIdeal.τ).loc Cert.AdamNormGIdeal.main_arg0) = m ((c.tc : Thread Cert.AdamNormGIdeal.nD Cert.AdamNormGIdeal.τ).loc Cert.AdamNormGIdeal.main_arg0)
      ∧ r.2.mem ((c.tc : Thread Cert.AdamNormGIdeal.nD Cert.AdamNormGIdeal.τ).loc Cert.AdamNormGIdeal.main_arg1) = m ((c.tc : Thread Cert.AdamNormGIdeal.nD Cert.AdamNormGIdeal.τ).loc Cert.AdamNormGIdeal.main_arg1)
      ∧ r.2.mem ((c.tc : Thread Cert.AdamNormGIdeal.nD Cert.AdamNormGIdeal.τ).loc Cert.AdamNormGIdeal.main_arg2) = m ((c.tc : Thread Cert.AdamNormGIdeal.nD Cert.AdamNormGIdeal.τ).loc Cert.AdamNormGIdeal.main_arg2)
      ∧ r.2.mem ((c.tc : Thread Cert.AdamNormGIdeal.nD Cert.AdamNormGIdeal.τ).loc Cert.AdamNormGIdeal.main_arg3) = m ((c.tc : Thread Cert.AdamNormGIdeal.nD Cert.AdamNormGIdeal.τ).loc Cert.AdamNormGIdeal.main_arg3))
      ∧ r.2.sem = fun _ => 0)

def quiescent_RefAdamNormGIdeal [hRefAdamNormGIdeal : Cert.RefAdamNormGIdeal.Facts] : Prop :=
  ∀ (m : (ℓ : Loc Cert.RefAdamNormGIdeal.nD Cert.RefAdamNormGIdeal.τ Cert.RefAdamNormGIdeal.sig) → Buf (Elt Ideal) ℓ) (g : Dev Cert.RefAdamNormGIdeal.nD → PrngReg), Pre_RefAdamNormGIdeal m →
    θ_run (Cert.RefAdamNormGIdeal.defs (F := Ideal)) (onTc (τ := Cert.RefAdamNormGIdeal.τ) (Cert.RefAdamNormGIdeal.main (F := Ideal))) ⟨m, fun _ => 0, g⟩ (fun r => (∀ c : Dev Cert.RefAdamNormGIdeal.nD,
      r.2.mem ((c.tc : Thread Cert.RefAdamNormGIdeal.nD Cert.RefAdamNormGIdeal.τ).loc Cert.RefAdamNormGIdeal.main_arg0) = m ((c.tc : Thread Cert.RefAdamNormGIdeal.nD Cert.RefAdamNormGIdeal.τ).loc Cert.RefAdamNormGIdeal.main_arg0)
      ∧ r.2.mem ((c.tc : Thread Cert.RefAdamNormGIdeal.nD Cert.RefAdamNormGIdeal.τ).loc Cert.RefAdamNormGIdeal.main_arg1) = m ((c.tc : Thread Cert.RefAdamNormGIdeal.nD Cert.RefAdamNormGIdeal.τ).loc Cert.RefAdamNormGIdeal.main_arg1)
      ∧ r.2.mem ((c.tc : Thread Cert.RefAdamNormGIdeal.nD Cert.RefAdamNormGIdeal.τ).loc Cert.RefAdamNormGIdeal.main_arg2) = m ((c.tc : Thread Cert.RefAdamNormGIdeal.nD Cert.RefAdamNormGIdeal.τ).loc Cert.RefAdamNormGIdeal.main_arg2)
      ∧ r.2.mem ((c.tc : Thread Cert.RefAdamNormGIdeal.nD Cert.RefAdamNormGIdeal.τ).loc Cert.RefAdamNormGIdeal.main_arg3) = m ((c.tc : Thread Cert.RefAdamNormGIdeal.nD Cert.RefAdamNormGIdeal.τ).loc Cert.RefAdamNormGIdeal.main_arg3))
      ∧ r.2.sem = fun _ => 0)

def quiescent_AdamLnG [hAdamLnG : Cert.AdamLnG.Facts] : Prop :=
  ∀ (m : (ℓ : Loc Cert.AdamLnG.nD Cert.AdamLnG.τ Cert.AdamLnG.sig) → Buf (Elt Bits) ℓ) (g : Dev Cert.AdamLnG.nD → PrngReg), Pre_AdamLnG m →
    θ_run (Cert.AdamLnG.defs (F := Bits)) (onTc (τ := Cert.AdamLnG.τ) (Cert.AdamLnG.main (F := Bits))) ⟨m, fun _ => 0, g⟩ (fun r => (∀ c : Dev Cert.AdamLnG.nD,
      r.2.mem ((c.tc : Thread Cert.AdamLnG.nD Cert.AdamLnG.τ).loc Cert.AdamLnG.main_arg0) = m ((c.tc : Thread Cert.AdamLnG.nD Cert.AdamLnG.τ).loc Cert.AdamLnG.main_arg0)
      ∧ r.2.mem ((c.tc : Thread Cert.AdamLnG.nD Cert.AdamLnG.τ).loc Cert.AdamLnG.main_arg1) = m ((c.tc : Thread Cert.AdamLnG.nD Cert.AdamLnG.τ).loc Cert.AdamLnG.main_arg1)
      ∧ r.2.mem ((c.tc : Thread Cert.AdamLnG.nD Cert.AdamLnG.τ).loc Cert.AdamLnG.main_arg2) = m ((c.tc : Thread Cert.AdamLnG.nD Cert.AdamLnG.τ).loc Cert.AdamLnG.main_arg2)
      ∧ r.2.mem ((c.tc : Thread Cert.AdamLnG.nD Cert.AdamLnG.τ).loc Cert.AdamLnG.main_arg3) = m ((c.tc : Thread Cert.AdamLnG.nD Cert.AdamLnG.τ).loc Cert.AdamLnG.main_arg3))
      ∧ r.2.sem = fun _ => 0)

def quiescent_AdamLnGIdeal [hAdamLnGIdeal : Cert.AdamLnGIdeal.Facts] : Prop :=
  ∀ (m : (ℓ : Loc Cert.AdamLnGIdeal.nD Cert.AdamLnGIdeal.τ Cert.AdamLnGIdeal.sig) → Buf (Elt Ideal) ℓ) (g : Dev Cert.AdamLnGIdeal.nD → PrngReg), Pre_AdamLnGIdeal m →
    θ_run (Cert.AdamLnGIdeal.defs (F := Ideal)) (onTc (τ := Cert.AdamLnGIdeal.τ) (Cert.AdamLnGIdeal.main (F := Ideal))) ⟨m, fun _ => 0, g⟩ (fun r => (∀ c : Dev Cert.AdamLnGIdeal.nD,
      r.2.mem ((c.tc : Thread Cert.AdamLnGIdeal.nD Cert.AdamLnGIdeal.τ).loc Cert.AdamLnGIdeal.main_arg0) = m ((c.tc : Thread Cert.AdamLnGIdeal.nD Cert.AdamLnGIdeal.τ).loc Cert.AdamLnGIdeal.main_arg0)
      ∧ r.2.mem ((c.tc : Thread Cert.AdamLnGIdeal.nD Cert.AdamLnGIdeal.τ).loc Cert.AdamLnGIdeal.main_arg1) = m ((c.tc : Thread Cert.AdamLnGIdeal.nD Cert.AdamLnGIdeal.τ).loc Cert.AdamLnGIdeal.main_arg1)
      ∧ r.2.mem ((c.tc : Thread Cert.AdamLnGIdeal.nD Cert.AdamLnGIdeal.τ).loc Cert.AdamLnGIdeal.main_arg2) = m ((c.tc : Thread Cert.AdamLnGIdeal.nD Cert.AdamLnGIdeal.τ).loc Cert.AdamLnGIdeal.main_arg2)
      ∧ r.2.mem ((c.tc : Thread Cert.AdamLnGIdeal.nD Cert.AdamLnGIdeal.τ).loc Cert.AdamLnGIdeal.main_arg3) = m ((c.tc : Thread Cert.AdamLnGIdeal.nD Cert.AdamLnGIdeal.τ).loc Cert.AdamLnGIdeal.main_arg3))
      ∧ r.2.sem = fun _ => 0)

def quiescent_RefAdamLnGIdeal [hRefAdamLnGIdeal : Cert.RefAdamLnGIdeal.Facts] : Prop :=
  ∀ (m : (ℓ : Loc Cert.RefAdamLnGIdeal.nD Cert.RefAdamLnGIdeal.τ Cert.RefAdamLnGIdeal.sig) → Buf (Elt Ideal) ℓ) (g : Dev Cert.RefAdamLnGIdeal.nD → PrngReg), Pre_RefAdamLnGIdeal m →
    θ_run (Cert.RefAdamLnGIdeal.defs (F := Ideal)) (onTc (τ := Cert.RefAdamLnGIdeal.τ) (Cert.RefAdamLnGIdeal.main (F := Ideal))) ⟨m, fun _ => 0, g⟩ (fun r => (∀ c : Dev Cert.RefAdamLnGIdeal.nD,
      r.2.mem ((c.tc : Thread Cert.RefAdamLnGIdeal.nD Cert.RefAdamLnGIdeal.τ).loc Cert.RefAdamLnGIdeal.main_arg0) = m ((c.tc : Thread Cert.RefAdamLnGIdeal.nD Cert.RefAdamLnGIdeal.τ).loc Cert.RefAdamLnGIdeal.main_arg0)
      ∧ r.2.mem ((c.tc : Thread Cert.RefAdamLnGIdeal.nD Cert.RefAdamLnGIdeal.τ).loc Cert.RefAdamLnGIdeal.main_arg1) = m ((c.tc : Thread Cert.RefAdamLnGIdeal.nD Cert.RefAdamLnGIdeal.τ).loc Cert.RefAdamLnGIdeal.main_arg1)
      ∧ r.2.mem ((c.tc : Thread Cert.RefAdamLnGIdeal.nD Cert.RefAdamLnGIdeal.τ).loc Cert.RefAdamLnGIdeal.main_arg2) = m ((c.tc : Thread Cert.RefAdamLnGIdeal.nD Cert.RefAdamLnGIdeal.τ).loc Cert.RefAdamLnGIdeal.main_arg2)
      ∧ r.2.mem ((c.tc : Thread Cert.RefAdamLnGIdeal.nD Cert.RefAdamLnGIdeal.τ).loc Cert.RefAdamLnGIdeal.main_arg3) = m ((c.tc : Thread Cert.RefAdamLnGIdeal.nD Cert.RefAdamLnGIdeal.τ).loc Cert.RefAdamLnGIdeal.main_arg3))
      ∧ r.2.sem = fun _ => 0)

def quiescent_AdamWs [hAdamWs : Cert.AdamWs.Facts] : Prop :=
  ∀ (m : (ℓ : Loc Cert.AdamWs.nD Cert.AdamWs.τ Cert.AdamWs.sig) → Buf (Elt Bits) ℓ) (g : Dev Cert.AdamWs.nD → PrngReg), Pre_AdamWs m →
    θ_run (Cert.AdamWs.defs (F := Bits)) (onTc (τ := Cert.AdamWs.τ) (Cert.AdamWs.main (F := Bits))) ⟨m, fun _ => 0, g⟩ (fun r => (∀ c : Dev Cert.AdamWs.nD,
      r.2.mem ((c.tc : Thread Cert.AdamWs.nD Cert.AdamWs.τ).loc Cert.AdamWs.main_arg0) = m ((c.tc : Thread Cert.AdamWs.nD Cert.AdamWs.τ).loc Cert.AdamWs.main_arg0)
      ∧ r.2.mem ((c.tc : Thread Cert.AdamWs.nD Cert.AdamWs.τ).loc Cert.AdamWs.main_arg1) = m ((c.tc : Thread Cert.AdamWs.nD Cert.AdamWs.τ).loc Cert.AdamWs.main_arg1)
      ∧ r.2.mem ((c.tc : Thread Cert.AdamWs.nD Cert.AdamWs.τ).loc Cert.AdamWs.main_arg2) = m ((c.tc : Thread Cert.AdamWs.nD Cert.AdamWs.τ).loc Cert.AdamWs.main_arg2)
      ∧ r.2.mem ((c.tc : Thread Cert.AdamWs.nD Cert.AdamWs.τ).loc Cert.AdamWs.main_arg3) = m ((c.tc : Thread Cert.AdamWs.nD Cert.AdamWs.τ).loc Cert.AdamWs.main_arg3))
      ∧ r.2.sem = fun _ => 0)

def quiescent_AdamWsIdeal [hAdamWsIdeal : Cert.AdamWsIdeal.Facts] : Prop :=
  ∀ (m : (ℓ : Loc Cert.AdamWsIdeal.nD Cert.AdamWsIdeal.τ Cert.AdamWsIdeal.sig) → Buf (Elt Ideal) ℓ) (g : Dev Cert.AdamWsIdeal.nD → PrngReg), Pre_AdamWsIdeal m →
    θ_run (Cert.AdamWsIdeal.defs (F := Ideal)) (onTc (τ := Cert.AdamWsIdeal.τ) (Cert.AdamWsIdeal.main (F := Ideal))) ⟨m, fun _ => 0, g⟩ (fun r => (∀ c : Dev Cert.AdamWsIdeal.nD,
      r.2.mem ((c.tc : Thread Cert.AdamWsIdeal.nD Cert.AdamWsIdeal.τ).loc Cert.AdamWsIdeal.main_arg0) = m ((c.tc : Thread Cert.AdamWsIdeal.nD Cert.AdamWsIdeal.τ).loc Cert.AdamWsIdeal.main_arg0)
      ∧ r.2.mem ((c.tc : Thread Cert.AdamWsIdeal.nD Cert.AdamWsIdeal.τ).loc Cert.AdamWsIdeal.main_arg1) = m ((c.tc : Thread Cert.AdamWsIdeal.nD Cert.AdamWsIdeal.τ).loc Cert.AdamWsIdeal.main_arg1)
      ∧ r.2.mem ((c.tc : Thread Cert.AdamWsIdeal.nD Cert.AdamWsIdeal.τ).loc Cert.AdamWsIdeal.main_arg2) = m ((c.tc : Thread Cert.AdamWsIdeal.nD Cert.AdamWsIdeal.τ).loc Cert.AdamWsIdeal.main_arg2)
      ∧ r.2.mem ((c.tc : Thread Cert.AdamWsIdeal.nD Cert.AdamWsIdeal.τ).loc Cert.AdamWsIdeal.main_arg3) = m ((c.tc : Thread Cert.AdamWsIdeal.nD Cert.AdamWsIdeal.τ).loc Cert.AdamWsIdeal.main_arg3))
      ∧ r.2.sem = fun _ => 0)

def quiescent_RefAdamWsIdeal [hRefAdamWsIdeal : Cert.RefAdamWsIdeal.Facts] : Prop :=
  ∀ (m : (ℓ : Loc Cert.RefAdamWsIdeal.nD Cert.RefAdamWsIdeal.τ Cert.RefAdamWsIdeal.sig) → Buf (Elt Ideal) ℓ) (g : Dev Cert.RefAdamWsIdeal.nD → PrngReg), Pre_RefAdamWsIdeal m →
    θ_run (Cert.RefAdamWsIdeal.defs (F := Ideal)) (onTc (τ := Cert.RefAdamWsIdeal.τ) (Cert.RefAdamWsIdeal.main (F := Ideal))) ⟨m, fun _ => 0, g⟩ (fun r => (∀ c : Dev Cert.RefAdamWsIdeal.nD,
      r.2.mem ((c.tc : Thread Cert.RefAdamWsIdeal.nD Cert.RefAdamWsIdeal.τ).loc Cert.RefAdamWsIdeal.main_arg0) = m ((c.tc : Thread Cert.RefAdamWsIdeal.nD Cert.RefAdamWsIdeal.τ).loc Cert.RefAdamWsIdeal.main_arg0)
      ∧ r.2.mem ((c.tc : Thread Cert.RefAdamWsIdeal.nD Cert.RefAdamWsIdeal.τ).loc Cert.RefAdamWsIdeal.main_arg1) = m ((c.tc : Thread Cert.RefAdamWsIdeal.nD Cert.RefAdamWsIdeal.τ).loc Cert.RefAdamWsIdeal.main_arg1)
      ∧ r.2.mem ((c.tc : Thread Cert.RefAdamWsIdeal.nD Cert.RefAdamWsIdeal.τ).loc Cert.RefAdamWsIdeal.main_arg2) = m ((c.tc : Thread Cert.RefAdamWsIdeal.nD Cert.RefAdamWsIdeal.τ).loc Cert.RefAdamWsIdeal.main_arg2)
      ∧ r.2.mem ((c.tc : Thread Cert.RefAdamWsIdeal.nD Cert.RefAdamWsIdeal.τ).loc Cert.RefAdamWsIdeal.main_arg3) = m ((c.tc : Thread Cert.RefAdamWsIdeal.nD Cert.RefAdamWsIdeal.τ).loc Cert.RefAdamWsIdeal.main_arg3))
      ∧ r.2.sem = fun _ => 0)

def quiescent_AdamBs [hAdamBs : Cert.AdamBs.Facts] : Prop :=
  ∀ (m : (ℓ : Loc Cert.AdamBs.nD Cert.AdamBs.τ Cert.AdamBs.sig) → Buf (Elt Bits) ℓ) (g : Dev Cert.AdamBs.nD → PrngReg), Pre_AdamBs m →
    θ_run (Cert.AdamBs.defs (F := Bits)) (onTc (τ := Cert.AdamBs.τ) (Cert.AdamBs.main (F := Bits))) ⟨m, fun _ => 0, g⟩ (fun r => (∀ c : Dev Cert.AdamBs.nD,
      r.2.mem ((c.tc : Thread Cert.AdamBs.nD Cert.AdamBs.τ).loc Cert.AdamBs.main_arg0) = m ((c.tc : Thread Cert.AdamBs.nD Cert.AdamBs.τ).loc Cert.AdamBs.main_arg0)
      ∧ r.2.mem ((c.tc : Thread Cert.AdamBs.nD Cert.AdamBs.τ).loc Cert.AdamBs.main_arg1) = m ((c.tc : Thread Cert.AdamBs.nD Cert.AdamBs.τ).loc Cert.AdamBs.main_arg1)
      ∧ r.2.mem ((c.tc : Thread Cert.AdamBs.nD Cert.AdamBs.τ).loc Cert.AdamBs.main_arg2) = m ((c.tc : Thread Cert.AdamBs.nD Cert.AdamBs.τ).loc Cert.AdamBs.main_arg2)
      ∧ r.2.mem ((c.tc : Thread Cert.AdamBs.nD Cert.AdamBs.τ).loc Cert.AdamBs.main_arg3) = m ((c.tc : Thread Cert.AdamBs.nD Cert.AdamBs.τ).loc Cert.AdamBs.main_arg3))
      ∧ r.2.sem = fun _ => 0)

def quiescent_AdamBsIdeal [hAdamBsIdeal : Cert.AdamBsIdeal.Facts] : Prop :=
  ∀ (m : (ℓ : Loc Cert.AdamBsIdeal.nD Cert.AdamBsIdeal.τ Cert.AdamBsIdeal.sig) → Buf (Elt Ideal) ℓ) (g : Dev Cert.AdamBsIdeal.nD → PrngReg), Pre_AdamBsIdeal m →
    θ_run (Cert.AdamBsIdeal.defs (F := Ideal)) (onTc (τ := Cert.AdamBsIdeal.τ) (Cert.AdamBsIdeal.main (F := Ideal))) ⟨m, fun _ => 0, g⟩ (fun r => (∀ c : Dev Cert.AdamBsIdeal.nD,
      r.2.mem ((c.tc : Thread Cert.AdamBsIdeal.nD Cert.AdamBsIdeal.τ).loc Cert.AdamBsIdeal.main_arg0) = m ((c.tc : Thread Cert.AdamBsIdeal.nD Cert.AdamBsIdeal.τ).loc Cert.AdamBsIdeal.main_arg0)
      ∧ r.2.mem ((c.tc : Thread Cert.AdamBsIdeal.nD Cert.AdamBsIdeal.τ).loc Cert.AdamBsIdeal.main_arg1) = m ((c.tc : Thread Cert.AdamBsIdeal.nD Cert.AdamBsIdeal.τ).loc Cert.AdamBsIdeal.main_arg1)
      ∧ r.2.mem ((c.tc : Thread Cert.AdamBsIdeal.nD Cert.AdamBsIdeal.τ).loc Cert.AdamBsIdeal.main_arg2) = m ((c.tc : Thread Cert.AdamBsIdeal.nD Cert.AdamBsIdeal.τ).loc Cert.AdamBsIdeal.main_arg2)
      ∧ r.2.mem ((c.tc : Thread Cert.AdamBsIdeal.nD Cert.AdamBsIdeal.τ).loc Cert.AdamBsIdeal.main_arg3) = m ((c.tc : Thread Cert.AdamBsIdeal.nD Cert.AdamBsIdeal.τ).loc Cert.AdamBsIdeal.main_arg3))
      ∧ r.2.sem = fun _ => 0)

def quiescent_RefAdamBsIdeal [hRefAdamBsIdeal : Cert.RefAdamBsIdeal.Facts] : Prop :=
  ∀ (m : (ℓ : Loc Cert.RefAdamBsIdeal.nD Cert.RefAdamBsIdeal.τ Cert.RefAdamBsIdeal.sig) → Buf (Elt Ideal) ℓ) (g : Dev Cert.RefAdamBsIdeal.nD → PrngReg), Pre_RefAdamBsIdeal m →
    θ_run (Cert.RefAdamBsIdeal.defs (F := Ideal)) (onTc (τ := Cert.RefAdamBsIdeal.τ) (Cert.RefAdamBsIdeal.main (F := Ideal))) ⟨m, fun _ => 0, g⟩ (fun r => (∀ c : Dev Cert.RefAdamBsIdeal.nD,
      r.2.mem ((c.tc : Thread Cert.RefAdamBsIdeal.nD Cert.RefAdamBsIdeal.τ).loc Cert.RefAdamBsIdeal.main_arg0) = m ((c.tc : Thread Cert.RefAdamBsIdeal.nD Cert.RefAdamBsIdeal.τ).loc Cert.RefAdamBsIdeal.main_arg0)
      ∧ r.2.mem ((c.tc : Thread Cert.RefAdamBsIdeal.nD Cert.RefAdamBsIdeal.τ).loc Cert.RefAdamBsIdeal.main_arg1) = m ((c.tc : Thread Cert.RefAdamBsIdeal.nD Cert.RefAdamBsIdeal.τ).loc Cert.RefAdamBsIdeal.main_arg1)
      ∧ r.2.mem ((c.tc : Thread Cert.RefAdamBsIdeal.nD Cert.RefAdamBsIdeal.τ).loc Cert.RefAdamBsIdeal.main_arg2) = m ((c.tc : Thread Cert.RefAdamBsIdeal.nD Cert.RefAdamBsIdeal.τ).loc Cert.RefAdamBsIdeal.main_arg2)
      ∧ r.2.mem ((c.tc : Thread Cert.RefAdamBsIdeal.nD Cert.RefAdamBsIdeal.τ).loc Cert.RefAdamBsIdeal.main_arg3) = m ((c.tc : Thread Cert.RefAdamBsIdeal.nD Cert.RefAdamBsIdeal.τ).loc Cert.RefAdamBsIdeal.main_arg3))
      ∧ r.2.sem = fun _ => 0)

def quiescent_AdamKvNormG [hAdamKvNormG : Cert.AdamKvNormG.Facts] : Prop :=
  ∀ (m : (ℓ : Loc Cert.AdamKvNormG.nD Cert.AdamKvNormG.τ Cert.AdamKvNormG.sig) → Buf (Elt Bits) ℓ) (g : Dev Cert.AdamKvNormG.nD → PrngReg), Pre_AdamKvNormG m →
    θ_run (Cert.AdamKvNormG.defs (F := Bits)) (onTc (τ := Cert.AdamKvNormG.τ) (Cert.AdamKvNormG.main (F := Bits))) ⟨m, fun _ => 0, g⟩ (fun r => (∀ c : Dev Cert.AdamKvNormG.nD,
      r.2.mem ((c.tc : Thread Cert.AdamKvNormG.nD Cert.AdamKvNormG.τ).loc Cert.AdamKvNormG.main_arg0) = m ((c.tc : Thread Cert.AdamKvNormG.nD Cert.AdamKvNormG.τ).loc Cert.AdamKvNormG.main_arg0)
      ∧ r.2.mem ((c.tc : Thread Cert.AdamKvNormG.nD Cert.AdamKvNormG.τ).loc Cert.AdamKvNormG.main_arg1) = m ((c.tc : Thread Cert.AdamKvNormG.nD Cert.AdamKvNormG.τ).loc Cert.AdamKvNormG.main_arg1)
      ∧ r.2.mem ((c.tc : Thread Cert.AdamKvNormG.nD Cert.AdamKvNormG.τ).loc Cert.AdamKvNormG.main_arg2) = m ((c.tc : Thread Cert.AdamKvNormG.nD Cert.AdamKvNormG.τ).loc Cert.AdamKvNormG.main_arg2)
      ∧ r.2.mem ((c.tc : Thread Cert.AdamKvNormG.nD Cert.AdamKvNormG.τ).loc Cert.AdamKvNormG.main_arg3) = m ((c.tc : Thread Cert.AdamKvNormG.nD Cert.AdamKvNormG.τ).loc Cert.AdamKvNormG.main_arg3))
      ∧ r.2.sem = fun _ => 0)

def quiescent_AdamKvNormGIdeal [hAdamKvNormGIdeal : Cert.AdamKvNormGIdeal.Facts] : Prop :=
  ∀ (m : (ℓ : Loc Cert.AdamKvNormGIdeal.nD Cert.AdamKvNormGIdeal.τ Cert.AdamKvNormGIdeal.sig) → Buf (Elt Ideal) ℓ) (g : Dev Cert.AdamKvNormGIdeal.nD → PrngReg), Pre_AdamKvNormGIdeal m →
    θ_run (Cert.AdamKvNormGIdeal.defs (F := Ideal)) (onTc (τ := Cert.AdamKvNormGIdeal.τ) (Cert.AdamKvNormGIdeal.main (F := Ideal))) ⟨m, fun _ => 0, g⟩ (fun r => (∀ c : Dev Cert.AdamKvNormGIdeal.nD,
      r.2.mem ((c.tc : Thread Cert.AdamKvNormGIdeal.nD Cert.AdamKvNormGIdeal.τ).loc Cert.AdamKvNormGIdeal.main_arg0) = m ((c.tc : Thread Cert.AdamKvNormGIdeal.nD Cert.AdamKvNormGIdeal.τ).loc Cert.AdamKvNormGIdeal.main_arg0)
      ∧ r.2.mem ((c.tc : Thread Cert.AdamKvNormGIdeal.nD Cert.AdamKvNormGIdeal.τ).loc Cert.AdamKvNormGIdeal.main_arg1) = m ((c.tc : Thread Cert.AdamKvNormGIdeal.nD Cert.AdamKvNormGIdeal.τ).loc Cert.AdamKvNormGIdeal.main_arg1)
      ∧ r.2.mem ((c.tc : Thread Cert.AdamKvNormGIdeal.nD Cert.AdamKvNormGIdeal.τ).loc Cert.AdamKvNormGIdeal.main_arg2) = m ((c.tc : Thread Cert.AdamKvNormGIdeal.nD Cert.AdamKvNormGIdeal.τ).loc Cert.AdamKvNormGIdeal.main_arg2)
      ∧ r.2.mem ((c.tc : Thread Cert.AdamKvNormGIdeal.nD Cert.AdamKvNormGIdeal.τ).loc Cert.AdamKvNormGIdeal.main_arg3) = m ((c.tc : Thread Cert.AdamKvNormGIdeal.nD Cert.AdamKvNormGIdeal.τ).loc Cert.AdamKvNormGIdeal.main_arg3))
      ∧ r.2.sem = fun _ => 0)

def quiescent_RefAdamKvNormGIdeal [hRefAdamKvNormGIdeal : Cert.RefAdamKvNormGIdeal.Facts] : Prop :=
  ∀ (m : (ℓ : Loc Cert.RefAdamKvNormGIdeal.nD Cert.RefAdamKvNormGIdeal.τ Cert.RefAdamKvNormGIdeal.sig) → Buf (Elt Ideal) ℓ) (g : Dev Cert.RefAdamKvNormGIdeal.nD → PrngReg), Pre_RefAdamKvNormGIdeal m →
    θ_run (Cert.RefAdamKvNormGIdeal.defs (F := Ideal)) (onTc (τ := Cert.RefAdamKvNormGIdeal.τ) (Cert.RefAdamKvNormGIdeal.main (F := Ideal))) ⟨m, fun _ => 0, g⟩ (fun r => (∀ c : Dev Cert.RefAdamKvNormGIdeal.nD,
      r.2.mem ((c.tc : Thread Cert.RefAdamKvNormGIdeal.nD Cert.RefAdamKvNormGIdeal.τ).loc Cert.RefAdamKvNormGIdeal.main_arg0) = m ((c.tc : Thread Cert.RefAdamKvNormGIdeal.nD Cert.RefAdamKvNormGIdeal.τ).loc Cert.RefAdamKvNormGIdeal.main_arg0)
      ∧ r.2.mem ((c.tc : Thread Cert.RefAdamKvNormGIdeal.nD Cert.RefAdamKvNormGIdeal.τ).loc Cert.RefAdamKvNormGIdeal.main_arg1) = m ((c.tc : Thread Cert.RefAdamKvNormGIdeal.nD Cert.RefAdamKvNormGIdeal.τ).loc Cert.RefAdamKvNormGIdeal.main_arg1)
      ∧ r.2.mem ((c.tc : Thread Cert.RefAdamKvNormGIdeal.nD Cert.RefAdamKvNormGIdeal.τ).loc Cert.RefAdamKvNormGIdeal.main_arg2) = m ((c.tc : Thread Cert.RefAdamKvNormGIdeal.nD Cert.RefAdamKvNormGIdeal.τ).loc Cert.RefAdamKvNormGIdeal.main_arg2)
      ∧ r.2.mem ((c.tc : Thread Cert.RefAdamKvNormGIdeal.nD Cert.RefAdamKvNormGIdeal.τ).loc Cert.RefAdamKvNormGIdeal.main_arg3) = m ((c.tc : Thread Cert.RefAdamKvNormGIdeal.nD Cert.RefAdamKvNormGIdeal.τ).loc Cert.RefAdamKvNormGIdeal.main_arg3))
      ∧ r.2.sem = fun _ => 0)

def quiescent_AdamKvAdaB [hAdamKvAdaB : Cert.AdamKvAdaB.Facts] : Prop :=
  ∀ (m : (ℓ : Loc Cert.AdamKvAdaB.nD Cert.AdamKvAdaB.τ Cert.AdamKvAdaB.sig) → Buf (Elt Bits) ℓ) (g : Dev Cert.AdamKvAdaB.nD → PrngReg), Pre_AdamKvAdaB m →
    θ_run (Cert.AdamKvAdaB.defs (F := Bits)) (onTc (τ := Cert.AdamKvAdaB.τ) (Cert.AdamKvAdaB.main (F := Bits))) ⟨m, fun _ => 0, g⟩ (fun r => (∀ c : Dev Cert.AdamKvAdaB.nD,
      r.2.mem ((c.tc : Thread Cert.AdamKvAdaB.nD Cert.AdamKvAdaB.τ).loc Cert.AdamKvAdaB.main_arg0) = m ((c.tc : Thread Cert.AdamKvAdaB.nD Cert.AdamKvAdaB.τ).loc Cert.AdamKvAdaB.main_arg0)
      ∧ r.2.mem ((c.tc : Thread Cert.AdamKvAdaB.nD Cert.AdamKvAdaB.τ).loc Cert.AdamKvAdaB.main_arg1) = m ((c.tc : Thread Cert.AdamKvAdaB.nD Cert.AdamKvAdaB.τ).loc Cert.AdamKvAdaB.main_arg1)
      ∧ r.2.mem ((c.tc : Thread Cert.AdamKvAdaB.nD Cert.AdamKvAdaB.τ).loc Cert.AdamKvAdaB.main_arg2) = m ((c.tc : Thread Cert.AdamKvAdaB.nD Cert.AdamKvAdaB.τ).loc Cert.AdamKvAdaB.main_arg2)
      ∧ r.2.mem ((c.tc : Thread Cert.AdamKvAdaB.nD Cert.AdamKvAdaB.τ).loc Cert.AdamKvAdaB.main_arg3) = m ((c.tc : Thread Cert.AdamKvAdaB.nD Cert.AdamKvAdaB.τ).loc Cert.AdamKvAdaB.main_arg3))
      ∧ r.2.sem = fun _ => 0)

def quiescent_AdamKvAdaBIdeal [hAdamKvAdaBIdeal : Cert.AdamKvAdaBIdeal.Facts] : Prop :=
  ∀ (m : (ℓ : Loc Cert.AdamKvAdaBIdeal.nD Cert.AdamKvAdaBIdeal.τ Cert.AdamKvAdaBIdeal.sig) → Buf (Elt Ideal) ℓ) (g : Dev Cert.AdamKvAdaBIdeal.nD → PrngReg), Pre_AdamKvAdaBIdeal m →
    θ_run (Cert.AdamKvAdaBIdeal.defs (F := Ideal)) (onTc (τ := Cert.AdamKvAdaBIdeal.τ) (Cert.AdamKvAdaBIdeal.main (F := Ideal))) ⟨m, fun _ => 0, g⟩ (fun r => (∀ c : Dev Cert.AdamKvAdaBIdeal.nD,
      r.2.mem ((c.tc : Thread Cert.AdamKvAdaBIdeal.nD Cert.AdamKvAdaBIdeal.τ).loc Cert.AdamKvAdaBIdeal.main_arg0) = m ((c.tc : Thread Cert.AdamKvAdaBIdeal.nD Cert.AdamKvAdaBIdeal.τ).loc Cert.AdamKvAdaBIdeal.main_arg0)
      ∧ r.2.mem ((c.tc : Thread Cert.AdamKvAdaBIdeal.nD Cert.AdamKvAdaBIdeal.τ).loc Cert.AdamKvAdaBIdeal.main_arg1) = m ((c.tc : Thread Cert.AdamKvAdaBIdeal.nD Cert.AdamKvAdaBIdeal.τ).loc Cert.AdamKvAdaBIdeal.main_arg1)
      ∧ r.2.mem ((c.tc : Thread Cert.AdamKvAdaBIdeal.nD Cert.AdamKvAdaBIdeal.τ).loc Cert.AdamKvAdaBIdeal.main_arg2) = m ((c.tc : Thread Cert.AdamKvAdaBIdeal.nD Cert.AdamKvAdaBIdeal.τ).loc Cert.AdamKvAdaBIdeal.main_arg2)
      ∧ r.2.mem ((c.tc : Thread Cert.AdamKvAdaBIdeal.nD Cert.AdamKvAdaBIdeal.τ).loc Cert.AdamKvAdaBIdeal.main_arg3) = m ((c.tc : Thread Cert.AdamKvAdaBIdeal.nD Cert.AdamKvAdaBIdeal.τ).loc Cert.AdamKvAdaBIdeal.main_arg3))
      ∧ r.2.sem = fun _ => 0)

def quiescent_RefAdamKvAdaBIdeal [hRefAdamKvAdaBIdeal : Cert.RefAdamKvAdaBIdeal.Facts] : Prop :=
  ∀ (m : (ℓ : Loc Cert.RefAdamKvAdaBIdeal.nD Cert.RefAdamKvAdaBIdeal.τ Cert.RefAdamKvAdaBIdeal.sig) → Buf (Elt Ideal) ℓ) (g : Dev Cert.RefAdamKvAdaBIdeal.nD → PrngReg), Pre_RefAdamKvAdaBIdeal m →
    θ_run (Cert.RefAdamKvAdaBIdeal.defs (F := Ideal)) (onTc (τ := Cert.RefAdamKvAdaBIdeal.τ) (Cert.RefAdamKvAdaBIdeal.main (F := Ideal))) ⟨m, fun _ => 0, g⟩ (fun r => (∀ c : Dev Cert.RefAdamKvAdaBIdeal.nD,
      r.2.mem ((c.tc : Thread Cert.RefAdamKvAdaBIdeal.nD Cert.RefAdamKvAdaBIdeal.τ).loc Cert.RefAdamKvAdaBIdeal.main_arg0) = m ((c.tc : Thread Cert.RefAdamKvAdaBIdeal.nD Cert.RefAdamKvAdaBIdeal.τ).loc Cert.RefAdamKvAdaBIdeal.main_arg0)
      ∧ r.2.mem ((c.tc : Thread Cert.RefAdamKvAdaBIdeal.nD Cert.RefAdamKvAdaBIdeal.τ).loc Cert.RefAdamKvAdaBIdeal.main_arg1) = m ((c.tc : Thread Cert.RefAdamKvAdaBIdeal.nD Cert.RefAdamKvAdaBIdeal.τ).loc Cert.RefAdamKvAdaBIdeal.main_arg1)
      ∧ r.2.mem ((c.tc : Thread Cert.RefAdamKvAdaBIdeal.nD Cert.RefAdamKvAdaBIdeal.τ).loc Cert.RefAdamKvAdaBIdeal.main_arg2) = m ((c.tc : Thread Cert.RefAdamKvAdaBIdeal.nD Cert.RefAdamKvAdaBIdeal.τ).loc Cert.RefAdamKvAdaBIdeal.main_arg2)
      ∧ r.2.mem ((c.tc : Thread Cert.RefAdamKvAdaBIdeal.nD Cert.RefAdamKvAdaBIdeal.τ).loc Cert.RefAdamKvAdaBIdeal.main_arg3) = m ((c.tc : Thread Cert.RefAdamKvAdaBIdeal.nD Cert.RefAdamKvAdaBIdeal.τ).loc Cert.RefAdamKvAdaBIdeal.main_arg3))
      ∧ r.2.sem = fun _ => 0)

def quiescent_AdamKNormG [hAdamKNormG : Cert.AdamKNormG.Facts] : Prop :=
  ∀ (m : (ℓ : Loc Cert.AdamKNormG.nD Cert.AdamKNormG.τ Cert.AdamKNormG.sig) → Buf (Elt Bits) ℓ) (g : Dev Cert.AdamKNormG.nD → PrngReg), Pre_AdamKNormG m →
    θ_run (Cert.AdamKNormG.defs (F := Bits)) (onTc (τ := Cert.AdamKNormG.τ) (Cert.AdamKNormG.main (F := Bits))) ⟨m, fun _ => 0, g⟩ (fun r => (∀ c : Dev Cert.AdamKNormG.nD,
      r.2.mem ((c.tc : Thread Cert.AdamKNormG.nD Cert.AdamKNormG.τ).loc Cert.AdamKNormG.main_arg0) = m ((c.tc : Thread Cert.AdamKNormG.nD Cert.AdamKNormG.τ).loc Cert.AdamKNormG.main_arg0)
      ∧ r.2.mem ((c.tc : Thread Cert.AdamKNormG.nD Cert.AdamKNormG.τ).loc Cert.AdamKNormG.main_arg1) = m ((c.tc : Thread Cert.AdamKNormG.nD Cert.AdamKNormG.τ).loc Cert.AdamKNormG.main_arg1)
      ∧ r.2.mem ((c.tc : Thread Cert.AdamKNormG.nD Cert.AdamKNormG.τ).loc Cert.AdamKNormG.main_arg2) = m ((c.tc : Thread Cert.AdamKNormG.nD Cert.AdamKNormG.τ).loc Cert.AdamKNormG.main_arg2)
      ∧ r.2.mem ((c.tc : Thread Cert.AdamKNormG.nD Cert.AdamKNormG.τ).loc Cert.AdamKNormG.main_arg3) = m ((c.tc : Thread Cert.AdamKNormG.nD Cert.AdamKNormG.τ).loc Cert.AdamKNormG.main_arg3))
      ∧ r.2.sem = fun _ => 0)

def quiescent_AdamKNormGIdeal [hAdamKNormGIdeal : Cert.AdamKNormGIdeal.Facts] : Prop :=
  ∀ (m : (ℓ : Loc Cert.AdamKNormGIdeal.nD Cert.AdamKNormGIdeal.τ Cert.AdamKNormGIdeal.sig) → Buf (Elt Ideal) ℓ) (g : Dev Cert.AdamKNormGIdeal.nD → PrngReg), Pre_AdamKNormGIdeal m →
    θ_run (Cert.AdamKNormGIdeal.defs (F := Ideal)) (onTc (τ := Cert.AdamKNormGIdeal.τ) (Cert.AdamKNormGIdeal.main (F := Ideal))) ⟨m, fun _ => 0, g⟩ (fun r => (∀ c : Dev Cert.AdamKNormGIdeal.nD,
      r.2.mem ((c.tc : Thread Cert.AdamKNormGIdeal.nD Cert.AdamKNormGIdeal.τ).loc Cert.AdamKNormGIdeal.main_arg0) = m ((c.tc : Thread Cert.AdamKNormGIdeal.nD Cert.AdamKNormGIdeal.τ).loc Cert.AdamKNormGIdeal.main_arg0)
      ∧ r.2.mem ((c.tc : Thread Cert.AdamKNormGIdeal.nD Cert.AdamKNormGIdeal.τ).loc Cert.AdamKNormGIdeal.main_arg1) = m ((c.tc : Thread Cert.AdamKNormGIdeal.nD Cert.AdamKNormGIdeal.τ).loc Cert.AdamKNormGIdeal.main_arg1)
      ∧ r.2.mem ((c.tc : Thread Cert.AdamKNormGIdeal.nD Cert.AdamKNormGIdeal.τ).loc Cert.AdamKNormGIdeal.main_arg2) = m ((c.tc : Thread Cert.AdamKNormGIdeal.nD Cert.AdamKNormGIdeal.τ).loc Cert.AdamKNormGIdeal.main_arg2)
      ∧ r.2.mem ((c.tc : Thread Cert.AdamKNormGIdeal.nD Cert.AdamKNormGIdeal.τ).loc Cert.AdamKNormGIdeal.main_arg3) = m ((c.tc : Thread Cert.AdamKNormGIdeal.nD Cert.AdamKNormGIdeal.τ).loc Cert.AdamKNormGIdeal.main_arg3))
      ∧ r.2.sem = fun _ => 0)

def quiescent_RefAdamKNormGIdeal [hRefAdamKNormGIdeal : Cert.RefAdamKNormGIdeal.Facts] : Prop :=
  ∀ (m : (ℓ : Loc Cert.RefAdamKNormGIdeal.nD Cert.RefAdamKNormGIdeal.τ Cert.RefAdamKNormGIdeal.sig) → Buf (Elt Ideal) ℓ) (g : Dev Cert.RefAdamKNormGIdeal.nD → PrngReg), Pre_RefAdamKNormGIdeal m →
    θ_run (Cert.RefAdamKNormGIdeal.defs (F := Ideal)) (onTc (τ := Cert.RefAdamKNormGIdeal.τ) (Cert.RefAdamKNormGIdeal.main (F := Ideal))) ⟨m, fun _ => 0, g⟩ (fun r => (∀ c : Dev Cert.RefAdamKNormGIdeal.nD,
      r.2.mem ((c.tc : Thread Cert.RefAdamKNormGIdeal.nD Cert.RefAdamKNormGIdeal.τ).loc Cert.RefAdamKNormGIdeal.main_arg0) = m ((c.tc : Thread Cert.RefAdamKNormGIdeal.nD Cert.RefAdamKNormGIdeal.τ).loc Cert.RefAdamKNormGIdeal.main_arg0)
      ∧ r.2.mem ((c.tc : Thread Cert.RefAdamKNormGIdeal.nD Cert.RefAdamKNormGIdeal.τ).loc Cert.RefAdamKNormGIdeal.main_arg1) = m ((c.tc : Thread Cert.RefAdamKNormGIdeal.nD Cert.RefAdamKNormGIdeal.τ).loc Cert.RefAdamKNormGIdeal.main_arg1)
      ∧ r.2.mem ((c.tc : Thread Cert.RefAdamKNormGIdeal.nD Cert.RefAdamKNormGIdeal.τ).loc Cert.RefAdamKNormGIdeal.main_arg2) = m ((c.tc : Thread Cert.RefAdamKNormGIdeal.nD Cert.RefAdamKNormGIdeal.τ).loc Cert.RefAdamKNormGIdeal.main_arg2)
      ∧ r.2.mem ((c.tc : Thread Cert.RefAdamKNormGIdeal.nD Cert.RefAdamKNormGIdeal.τ).loc Cert.RefAdamKNormGIdeal.main_arg3) = m ((c.tc : Thread Cert.RefAdamKNormGIdeal.nD Cert.RefAdamKNormGIdeal.τ).loc Cert.RefAdamKNormGIdeal.main_arg3))
      ∧ r.2.sem = fun _ => 0)

def quiescent_AdamWf [hAdamWf : Cert.AdamWf.Facts] : Prop :=
  ∀ (m : (ℓ : Loc Cert.AdamWf.nD Cert.AdamWf.τ Cert.AdamWf.sig) → Buf (Elt Bits) ℓ) (g : Dev Cert.AdamWf.nD → PrngReg), Pre_AdamWf m →
    θ_run (Cert.AdamWf.defs (F := Bits)) (onTc (τ := Cert.AdamWf.τ) (Cert.AdamWf.main (F := Bits))) ⟨m, fun _ => 0, g⟩ (fun r => (∀ c : Dev Cert.AdamWf.nD,
      r.2.mem ((c.tc : Thread Cert.AdamWf.nD Cert.AdamWf.τ).loc Cert.AdamWf.main_arg0) = m ((c.tc : Thread Cert.AdamWf.nD Cert.AdamWf.τ).loc Cert.AdamWf.main_arg0)
      ∧ r.2.mem ((c.tc : Thread Cert.AdamWf.nD Cert.AdamWf.τ).loc Cert.AdamWf.main_arg1) = m ((c.tc : Thread Cert.AdamWf.nD Cert.AdamWf.τ).loc Cert.AdamWf.main_arg1)
      ∧ r.2.mem ((c.tc : Thread Cert.AdamWf.nD Cert.AdamWf.τ).loc Cert.AdamWf.main_arg2) = m ((c.tc : Thread Cert.AdamWf.nD Cert.AdamWf.τ).loc Cert.AdamWf.main_arg2)
      ∧ r.2.mem ((c.tc : Thread Cert.AdamWf.nD Cert.AdamWf.τ).loc Cert.AdamWf.main_arg3) = m ((c.tc : Thread Cert.AdamWf.nD Cert.AdamWf.τ).loc Cert.AdamWf.main_arg3))
      ∧ r.2.sem = fun _ => 0)

def quiescent_AdamWfIdeal [hAdamWfIdeal : Cert.AdamWfIdeal.Facts] : Prop :=
  ∀ (m : (ℓ : Loc Cert.AdamWfIdeal.nD Cert.AdamWfIdeal.τ Cert.AdamWfIdeal.sig) → Buf (Elt Ideal) ℓ) (g : Dev Cert.AdamWfIdeal.nD → PrngReg), Pre_AdamWfIdeal m →
    θ_run (Cert.AdamWfIdeal.defs (F := Ideal)) (onTc (τ := Cert.AdamWfIdeal.τ) (Cert.AdamWfIdeal.main (F := Ideal))) ⟨m, fun _ => 0, g⟩ (fun r => (∀ c : Dev Cert.AdamWfIdeal.nD,
      r.2.mem ((c.tc : Thread Cert.AdamWfIdeal.nD Cert.AdamWfIdeal.τ).loc Cert.AdamWfIdeal.main_arg0) = m ((c.tc : Thread Cert.AdamWfIdeal.nD Cert.AdamWfIdeal.τ).loc Cert.AdamWfIdeal.main_arg0)
      ∧ r.2.mem ((c.tc : Thread Cert.AdamWfIdeal.nD Cert.AdamWfIdeal.τ).loc Cert.AdamWfIdeal.main_arg1) = m ((c.tc : Thread Cert.AdamWfIdeal.nD Cert.AdamWfIdeal.τ).loc Cert.AdamWfIdeal.main_arg1)
      ∧ r.2.mem ((c.tc : Thread Cert.AdamWfIdeal.nD Cert.AdamWfIdeal.τ).loc Cert.AdamWfIdeal.main_arg2) = m ((c.tc : Thread Cert.AdamWfIdeal.nD Cert.AdamWfIdeal.τ).loc Cert.AdamWfIdeal.main_arg2)
      ∧ r.2.mem ((c.tc : Thread Cert.AdamWfIdeal.nD Cert.AdamWfIdeal.τ).loc Cert.AdamWfIdeal.main_arg3) = m ((c.tc : Thread Cert.AdamWfIdeal.nD Cert.AdamWfIdeal.τ).loc Cert.AdamWfIdeal.main_arg3))
      ∧ r.2.sem = fun _ => 0)

def quiescent_RefAdamWfIdeal [hRefAdamWfIdeal : Cert.RefAdamWfIdeal.Facts] : Prop :=
  ∀ (m : (ℓ : Loc Cert.RefAdamWfIdeal.nD Cert.RefAdamWfIdeal.τ Cert.RefAdamWfIdeal.sig) → Buf (Elt Ideal) ℓ) (g : Dev Cert.RefAdamWfIdeal.nD → PrngReg), Pre_RefAdamWfIdeal m →
    θ_run (Cert.RefAdamWfIdeal.defs (F := Ideal)) (onTc (τ := Cert.RefAdamWfIdeal.τ) (Cert.RefAdamWfIdeal.main (F := Ideal))) ⟨m, fun _ => 0, g⟩ (fun r => (∀ c : Dev Cert.RefAdamWfIdeal.nD,
      r.2.mem ((c.tc : Thread Cert.RefAdamWfIdeal.nD Cert.RefAdamWfIdeal.τ).loc Cert.RefAdamWfIdeal.main_arg0) = m ((c.tc : Thread Cert.RefAdamWfIdeal.nD Cert.RefAdamWfIdeal.τ).loc Cert.RefAdamWfIdeal.main_arg0)
      ∧ r.2.mem ((c.tc : Thread Cert.RefAdamWfIdeal.nD Cert.RefAdamWfIdeal.τ).loc Cert.RefAdamWfIdeal.main_arg1) = m ((c.tc : Thread Cert.RefAdamWfIdeal.nD Cert.RefAdamWfIdeal.τ).loc Cert.RefAdamWfIdeal.main_arg1)
      ∧ r.2.mem ((c.tc : Thread Cert.RefAdamWfIdeal.nD Cert.RefAdamWfIdeal.τ).loc Cert.RefAdamWfIdeal.main_arg2) = m ((c.tc : Thread Cert.RefAdamWfIdeal.nD Cert.RefAdamWfIdeal.τ).loc Cert.RefAdamWfIdeal.main_arg2)
      ∧ r.2.mem ((c.tc : Thread Cert.RefAdamWfIdeal.nD Cert.RefAdamWfIdeal.τ).loc Cert.RefAdamWfIdeal.main_arg3) = m ((c.tc : Thread Cert.RefAdamWfIdeal.nD Cert.RefAdamWfIdeal.τ).loc Cert.RefAdamWfIdeal.main_arg3))
      ∧ r.2.sem = fun _ => 0)

def quiescent_AdamBf [hAdamBf : Cert.AdamBf.Facts] : Prop :=
  ∀ (m : (ℓ : Loc Cert.AdamBf.nD Cert.AdamBf.τ Cert.AdamBf.sig) → Buf (Elt Bits) ℓ) (g : Dev Cert.AdamBf.nD → PrngReg), Pre_AdamBf m →
    θ_run (Cert.AdamBf.defs (F := Bits)) (onTc (τ := Cert.AdamBf.τ) (Cert.AdamBf.main (F := Bits))) ⟨m, fun _ => 0, g⟩ (fun r => (∀ c : Dev Cert.AdamBf.nD,
      r.2.mem ((c.tc : Thread Cert.AdamBf.nD Cert.AdamBf.τ).loc Cert.AdamBf.main_arg0) = m ((c.tc : Thread Cert.AdamBf.nD Cert.AdamBf.τ).loc Cert.AdamBf.main_arg0)
      ∧ r.2.mem ((c.tc : Thread Cert.AdamBf.nD Cert.AdamBf.τ).loc Cert.AdamBf.main_arg1) = m ((c.tc : Thread Cert.AdamBf.nD Cert.AdamBf.τ).loc Cert.AdamBf.main_arg1)
      ∧ r.2.mem ((c.tc : Thread Cert.AdamBf.nD Cert.AdamBf.τ).loc Cert.AdamBf.main_arg2) = m ((c.tc : Thread Cert.AdamBf.nD Cert.AdamBf.τ).loc Cert.AdamBf.main_arg2)
      ∧ r.2.mem ((c.tc : Thread Cert.AdamBf.nD Cert.AdamBf.τ).loc Cert.AdamBf.main_arg3) = m ((c.tc : Thread Cert.AdamBf.nD Cert.AdamBf.τ).loc Cert.AdamBf.main_arg3))
      ∧ r.2.sem = fun _ => 0)

def quiescent_AdamBfIdeal [hAdamBfIdeal : Cert.AdamBfIdeal.Facts] : Prop :=
  ∀ (m : (ℓ : Loc Cert.AdamBfIdeal.nD Cert.AdamBfIdeal.τ Cert.AdamBfIdeal.sig) → Buf (Elt Ideal) ℓ) (g : Dev Cert.AdamBfIdeal.nD → PrngReg), Pre_AdamBfIdeal m →
    θ_run (Cert.AdamBfIdeal.defs (F := Ideal)) (onTc (τ := Cert.AdamBfIdeal.τ) (Cert.AdamBfIdeal.main (F := Ideal))) ⟨m, fun _ => 0, g⟩ (fun r => (∀ c : Dev Cert.AdamBfIdeal.nD,
      r.2.mem ((c.tc : Thread Cert.AdamBfIdeal.nD Cert.AdamBfIdeal.τ).loc Cert.AdamBfIdeal.main_arg0) = m ((c.tc : Thread Cert.AdamBfIdeal.nD Cert.AdamBfIdeal.τ).loc Cert.AdamBfIdeal.main_arg0)
      ∧ r.2.mem ((c.tc : Thread Cert.AdamBfIdeal.nD Cert.AdamBfIdeal.τ).loc Cert.AdamBfIdeal.main_arg1) = m ((c.tc : Thread Cert.AdamBfIdeal.nD Cert.AdamBfIdeal.τ).loc Cert.AdamBfIdeal.main_arg1)
      ∧ r.2.mem ((c.tc : Thread Cert.AdamBfIdeal.nD Cert.AdamBfIdeal.τ).loc Cert.AdamBfIdeal.main_arg2) = m ((c.tc : Thread Cert.AdamBfIdeal.nD Cert.AdamBfIdeal.τ).loc Cert.AdamBfIdeal.main_arg2)
      ∧ r.2.mem ((c.tc : Thread Cert.AdamBfIdeal.nD Cert.AdamBfIdeal.τ).loc Cert.AdamBfIdeal.main_arg3) = m ((c.tc : Thread Cert.AdamBfIdeal.nD Cert.AdamBfIdeal.τ).loc Cert.AdamBfIdeal.main_arg3))
      ∧ r.2.sem = fun _ => 0)

def quiescent_RefAdamBfIdeal [hRefAdamBfIdeal : Cert.RefAdamBfIdeal.Facts] : Prop :=
  ∀ (m : (ℓ : Loc Cert.RefAdamBfIdeal.nD Cert.RefAdamBfIdeal.τ Cert.RefAdamBfIdeal.sig) → Buf (Elt Ideal) ℓ) (g : Dev Cert.RefAdamBfIdeal.nD → PrngReg), Pre_RefAdamBfIdeal m →
    θ_run (Cert.RefAdamBfIdeal.defs (F := Ideal)) (onTc (τ := Cert.RefAdamBfIdeal.τ) (Cert.RefAdamBfIdeal.main (F := Ideal))) ⟨m, fun _ => 0, g⟩ (fun r => (∀ c : Dev Cert.RefAdamBfIdeal.nD,
      r.2.mem ((c.tc : Thread Cert.RefAdamBfIdeal.nD Cert.RefAdamBfIdeal.τ).loc Cert.RefAdamBfIdeal.main_arg0) = m ((c.tc : Thread Cert.RefAdamBfIdeal.nD Cert.RefAdamBfIdeal.τ).loc Cert.RefAdamBfIdeal.main_arg0)
      ∧ r.2.mem ((c.tc : Thread Cert.RefAdamBfIdeal.nD Cert.RefAdamBfIdeal.τ).loc Cert.RefAdamBfIdeal.main_arg1) = m ((c.tc : Thread Cert.RefAdamBfIdeal.nD Cert.RefAdamBfIdeal.τ).loc Cert.RefAdamBfIdeal.main_arg1)
      ∧ r.2.mem ((c.tc : Thread Cert.RefAdamBfIdeal.nD Cert.RefAdamBfIdeal.τ).loc Cert.RefAdamBfIdeal.main_arg2) = m ((c.tc : Thread Cert.RefAdamBfIdeal.nD Cert.RefAdamBfIdeal.τ).loc Cert.RefAdamBfIdeal.main_arg2)
      ∧ r.2.mem ((c.tc : Thread Cert.RefAdamBfIdeal.nD Cert.RefAdamBfIdeal.τ).loc Cert.RefAdamBfIdeal.main_arg3) = m ((c.tc : Thread Cert.RefAdamBfIdeal.nD Cert.RefAdamBfIdeal.τ).loc Cert.RefAdamBfIdeal.main_arg3))
      ∧ r.2.sem = fun _ => 0)

def quiescent_AdamQNormG [hAdamQNormG : Cert.AdamQNormG.Facts] : Prop :=
  ∀ (m : (ℓ : Loc Cert.AdamQNormG.nD Cert.AdamQNormG.τ Cert.AdamQNormG.sig) → Buf (Elt Bits) ℓ) (g : Dev Cert.AdamQNormG.nD → PrngReg), Pre_AdamQNormG m →
    θ_run (Cert.AdamQNormG.defs (F := Bits)) (onTc (τ := Cert.AdamQNormG.τ) (Cert.AdamQNormG.main (F := Bits))) ⟨m, fun _ => 0, g⟩ (fun r => (∀ c : Dev Cert.AdamQNormG.nD,
      r.2.mem ((c.tc : Thread Cert.AdamQNormG.nD Cert.AdamQNormG.τ).loc Cert.AdamQNormG.main_arg0) = m ((c.tc : Thread Cert.AdamQNormG.nD Cert.AdamQNormG.τ).loc Cert.AdamQNormG.main_arg0)
      ∧ r.2.mem ((c.tc : Thread Cert.AdamQNormG.nD Cert.AdamQNormG.τ).loc Cert.AdamQNormG.main_arg1) = m ((c.tc : Thread Cert.AdamQNormG.nD Cert.AdamQNormG.τ).loc Cert.AdamQNormG.main_arg1)
      ∧ r.2.mem ((c.tc : Thread Cert.AdamQNormG.nD Cert.AdamQNormG.τ).loc Cert.AdamQNormG.main_arg2) = m ((c.tc : Thread Cert.AdamQNormG.nD Cert.AdamQNormG.τ).loc Cert.AdamQNormG.main_arg2)
      ∧ r.2.mem ((c.tc : Thread Cert.AdamQNormG.nD Cert.AdamQNormG.τ).loc Cert.AdamQNormG.main_arg3) = m ((c.tc : Thread Cert.AdamQNormG.nD Cert.AdamQNormG.τ).loc Cert.AdamQNormG.main_arg3))
      ∧ r.2.sem = fun _ => 0)

def quiescent_AdamQNormGIdeal [hAdamQNormGIdeal : Cert.AdamQNormGIdeal.Facts] : Prop :=
  ∀ (m : (ℓ : Loc Cert.AdamQNormGIdeal.nD Cert.AdamQNormGIdeal.τ Cert.AdamQNormGIdeal.sig) → Buf (Elt Ideal) ℓ) (g : Dev Cert.AdamQNormGIdeal.nD → PrngReg), Pre_AdamQNormGIdeal m →
    θ_run (Cert.AdamQNormGIdeal.defs (F := Ideal)) (onTc (τ := Cert.AdamQNormGIdeal.τ) (Cert.AdamQNormGIdeal.main (F := Ideal))) ⟨m, fun _ => 0, g⟩ (fun r => (∀ c : Dev Cert.AdamQNormGIdeal.nD,
      r.2.mem ((c.tc : Thread Cert.AdamQNormGIdeal.nD Cert.AdamQNormGIdeal.τ).loc Cert.AdamQNormGIdeal.main_arg0) = m ((c.tc : Thread Cert.AdamQNormGIdeal.nD Cert.AdamQNormGIdeal.τ).loc Cert.AdamQNormGIdeal.main_arg0)
      ∧ r.2.mem ((c.tc : Thread Cert.AdamQNormGIdeal.nD Cert.AdamQNormGIdeal.τ).loc Cert.AdamQNormGIdeal.main_arg1) = m ((c.tc : Thread Cert.AdamQNormGIdeal.nD Cert.AdamQNormGIdeal.τ).loc Cert.AdamQNormGIdeal.main_arg1)
      ∧ r.2.mem ((c.tc : Thread Cert.AdamQNormGIdeal.nD Cert.AdamQNormGIdeal.τ).loc Cert.AdamQNormGIdeal.main_arg2) = m ((c.tc : Thread Cert.AdamQNormGIdeal.nD Cert.AdamQNormGIdeal.τ).loc Cert.AdamQNormGIdeal.main_arg2)
      ∧ r.2.mem ((c.tc : Thread Cert.AdamQNormGIdeal.nD Cert.AdamQNormGIdeal.τ).loc Cert.AdamQNormGIdeal.main_arg3) = m ((c.tc : Thread Cert.AdamQNormGIdeal.nD Cert.AdamQNormGIdeal.τ).loc Cert.AdamQNormGIdeal.main_arg3))
      ∧ r.2.sem = fun _ => 0)

def quiescent_RefAdamQNormGIdeal [hRefAdamQNormGIdeal : Cert.RefAdamQNormGIdeal.Facts] : Prop :=
  ∀ (m : (ℓ : Loc Cert.RefAdamQNormGIdeal.nD Cert.RefAdamQNormGIdeal.τ Cert.RefAdamQNormGIdeal.sig) → Buf (Elt Ideal) ℓ) (g : Dev Cert.RefAdamQNormGIdeal.nD → PrngReg), Pre_RefAdamQNormGIdeal m →
    θ_run (Cert.RefAdamQNormGIdeal.defs (F := Ideal)) (onTc (τ := Cert.RefAdamQNormGIdeal.τ) (Cert.RefAdamQNormGIdeal.main (F := Ideal))) ⟨m, fun _ => 0, g⟩ (fun r => (∀ c : Dev Cert.RefAdamQNormGIdeal.nD,
      r.2.mem ((c.tc : Thread Cert.RefAdamQNormGIdeal.nD Cert.RefAdamQNormGIdeal.τ).loc Cert.RefAdamQNormGIdeal.main_arg0) = m ((c.tc : Thread Cert.RefAdamQNormGIdeal.nD Cert.RefAdamQNormGIdeal.τ).loc Cert.RefAdamQNormGIdeal.main_arg0)
      ∧ r.2.mem ((c.tc : Thread Cert.RefAdamQNormGIdeal.nD Cert.RefAdamQNormGIdeal.τ).loc Cert.RefAdamQNormGIdeal.main_arg1) = m ((c.tc : Thread Cert.RefAdamQNormGIdeal.nD Cert.RefAdamQNormGIdeal.τ).loc Cert.RefAdamQNormGIdeal.main_arg1)
      ∧ r.2.mem ((c.tc : Thread Cert.RefAdamQNormGIdeal.nD Cert.RefAdamQNormGIdeal.τ).loc Cert.RefAdamQNormGIdeal.main_arg2) = m ((c.tc : Thread Cert.RefAdamQNormGIdeal.nD Cert.RefAdamQNormGIdeal.τ).loc Cert.RefAdamQNormGIdeal.main_arg2)
      ∧ r.2.mem ((c.tc : Thread Cert.RefAdamQNormGIdeal.nD Cert.RefAdamQNormGIdeal.τ).loc Cert.RefAdamQNormGIdeal.main_arg3) = m ((c.tc : Thread Cert.RefAdamQNormGIdeal.nD Cert.RefAdamQNormGIdeal.τ).loc Cert.RefAdamQNormGIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_RefAdamAdaIdeal [hRefAdamAdaIdeal : Cert.RefAdamAdaIdeal.Facts] : Prop :=
  ∀ (m : (ℓ : Loc Cert.RefAdamAdaIdeal.nD Cert.RefAdamAdaIdeal.τ Cert.RefAdamAdaIdeal.sig) → Buf (Elt Ideal) ℓ) (g : Dev Cert.RefAdamAdaIdeal.nD → PrngReg), Pre_RefAdamAdaIdeal m →
    θ_run (Cert.RefAdamAdaIdeal.defs (F := Ideal)) (onTc (τ := Cert.RefAdamAdaIdeal.τ) (Cert.RefAdamAdaIdeal.main (F := Ideal))) ⟨m, fun _ => 0, g⟩ (fun r => (∀ c : Dev Cert.RefAdamAdaIdeal.nD,
      r.2.mem ((c.tc : Thread Cert.RefAdamAdaIdeal.nD Cert.RefAdamAdaIdeal.τ).loc Cert.RefAdamAdaIdeal.main_arg0) = m ((c.tc : Thread Cert.RefAdamAdaIdeal.nD Cert.RefAdamAdaIdeal.τ).loc Cert.RefAdamAdaIdeal.main_arg0)
      ∧ r.2.mem ((c.tc : Thread Cert.RefAdamAdaIdeal.nD Cert.RefAdamAdaIdeal.τ).loc Cert.RefAdamAdaIdeal.main_arg1) = m ((c.tc : Thread Cert.RefAdamAdaIdeal.nD Cert.RefAdamAdaIdeal.τ).loc Cert.RefAdamAdaIdeal.main_arg1)
      ∧ r.2.mem ((c.tc : Thread Cert.RefAdamAdaIdeal.nD Cert.RefAdamAdaIdeal.τ).loc Cert.RefAdamAdaIdeal.main_arg2) = m ((c.tc : Thread Cert.RefAdamAdaIdeal.nD Cert.RefAdamAdaIdeal.τ).loc Cert.RefAdamAdaIdeal.main_arg2)
      ∧ r.2.mem ((c.tc : Thread Cert.RefAdamAdaIdeal.nD Cert.RefAdamAdaIdeal.τ).loc Cert.RefAdamAdaIdeal.main_arg3) = m ((c.tc : Thread Cert.RefAdamAdaIdeal.nD Cert.RefAdamAdaIdeal.τ).loc Cert.RefAdamAdaIdeal.main_arg3)
      ∧ r.2.mem ((c.tc : Thread Cert.RefAdamAdaIdeal.nD Cert.RefAdamAdaIdeal.τ).loc Cert.RefAdamAdaIdeal.main_arg4) = m ((c.tc : Thread Cert.RefAdamAdaIdeal.nD Cert.RefAdamAdaIdeal.τ).loc Cert.RefAdamAdaIdeal.main_arg4))
      ∧ r.2.sem = fun _ => 0)

def quiescent_AdamKvAda [hAdamKvAda : Cert.AdamKvAda.Facts] : Prop :=
  ∀ (m : (ℓ : Loc Cert.AdamKvAda.nD Cert.AdamKvAda.τ Cert.AdamKvAda.sig) → Buf (Elt Bits) ℓ) (g : Dev Cert.AdamKvAda.nD → PrngReg), Pre_AdamKvAda m →
    θ_run (Cert.AdamKvAda.defs (F := Bits)) (onTc (τ := Cert.AdamKvAda.τ) (Cert.AdamKvAda.main (F := Bits))) ⟨m, fun _ => 0, g⟩ (fun r => (∀ c : Dev Cert.AdamKvAda.nD,
      r.2.mem ((c.tc : Thread Cert.AdamKvAda.nD Cert.AdamKvAda.τ).loc Cert.AdamKvAda.main_arg0) = m ((c.tc : Thread Cert.AdamKvAda.nD Cert.AdamKvAda.τ).loc Cert.AdamKvAda.main_arg0)
      ∧ r.2.mem ((c.tc : Thread Cert.AdamKvAda.nD Cert.AdamKvAda.τ).loc Cert.AdamKvAda.main_arg1) = m ((c.tc : Thread Cert.AdamKvAda.nD Cert.AdamKvAda.τ).loc Cert.AdamKvAda.main_arg1)
      ∧ r.2.mem ((c.tc : Thread Cert.AdamKvAda.nD Cert.AdamKvAda.τ).loc Cert.AdamKvAda.main_arg2) = m ((c.tc : Thread Cert.AdamKvAda.nD Cert.AdamKvAda.τ).loc Cert.AdamKvAda.main_arg2)
      ∧ r.2.mem ((c.tc : Thread Cert.AdamKvAda.nD Cert.AdamKvAda.τ).loc Cert.AdamKvAda.main_arg3) = m ((c.tc : Thread Cert.AdamKvAda.nD Cert.AdamKvAda.τ).loc Cert.AdamKvAda.main_arg3)
      ∧ r.2.mem ((c.tc : Thread Cert.AdamKvAda.nD Cert.AdamKvAda.τ).loc Cert.AdamKvAda.main_arg4) = m ((c.tc : Thread Cert.AdamKvAda.nD Cert.AdamKvAda.τ).loc Cert.AdamKvAda.main_arg4))
      ∧ r.2.sem = fun _ => 0)

def quiescent_AdamKvAdaIdeal [hAdamKvAdaIdeal : Cert.AdamKvAdaIdeal.Facts] : Prop :=
  ∀ (m : (ℓ : Loc Cert.AdamKvAdaIdeal.nD Cert.AdamKvAdaIdeal.τ Cert.AdamKvAdaIdeal.sig) → Buf (Elt Ideal) ℓ) (g : Dev Cert.AdamKvAdaIdeal.nD → PrngReg), Pre_AdamKvAdaIdeal m →
    θ_run (Cert.AdamKvAdaIdeal.defs (F := Ideal)) (onTc (τ := Cert.AdamKvAdaIdeal.τ) (Cert.AdamKvAdaIdeal.main (F := Ideal))) ⟨m, fun _ => 0, g⟩ (fun r => (∀ c : Dev Cert.AdamKvAdaIdeal.nD,
      r.2.mem ((c.tc : Thread Cert.AdamKvAdaIdeal.nD Cert.AdamKvAdaIdeal.τ).loc Cert.AdamKvAdaIdeal.main_arg0) = m ((c.tc : Thread Cert.AdamKvAdaIdeal.nD Cert.AdamKvAdaIdeal.τ).loc Cert.AdamKvAdaIdeal.main_arg0)
      ∧ r.2.mem ((c.tc : Thread Cert.AdamKvAdaIdeal.nD Cert.AdamKvAdaIdeal.τ).loc Cert.AdamKvAdaIdeal.main_arg1) = m ((c.tc : Thread Cert.AdamKvAdaIdeal.nD Cert.AdamKvAdaIdeal.τ).loc Cert.AdamKvAdaIdeal.main_arg1)
      ∧ r.2.mem ((c.tc : Thread Cert.AdamKvAdaIdeal.nD Cert.AdamKvAdaIdeal.τ).loc Cert.AdamKvAdaIdeal.main_arg2) = m ((c.tc : Thread Cert.AdamKvAdaIdeal.nD Cert.AdamKvAdaIdeal.τ).loc Cert.AdamKvAdaIdeal.main_arg2)
      ∧ r.2.mem ((c.tc : Thread Cert.AdamKvAdaIdeal.nD Cert.AdamKvAdaIdeal.τ).loc Cert.AdamKvAdaIdeal.main_arg3) = m ((c.tc : Thread Cert.AdamKvAdaIdeal.nD Cert.AdamKvAdaIdeal.τ).loc Cert.AdamKvAdaIdeal.main_arg3)
      ∧ r.2.mem ((c.tc : Thread Cert.AdamKvAdaIdeal.nD Cert.AdamKvAdaIdeal.τ).loc Cert.AdamKvAdaIdeal.main_arg4) = m ((c.tc : Thread Cert.AdamKvAdaIdeal.nD Cert.AdamKvAdaIdeal.τ).loc Cert.AdamKvAdaIdeal.main_arg4))
      ∧ r.2.sem = fun _ => 0)

def quiescent_RefAdamKvAdaIdeal [hRefAdamKvAdaIdeal : Cert.RefAdamKvAdaIdeal.Facts] : Prop :=
  ∀ (m : (ℓ : Loc Cert.RefAdamKvAdaIdeal.nD Cert.RefAdamKvAdaIdeal.τ Cert.RefAdamKvAdaIdeal.sig) → Buf (Elt Ideal) ℓ) (g : Dev Cert.RefAdamKvAdaIdeal.nD → PrngReg), Pre_RefAdamKvAdaIdeal m →
    θ_run (Cert.RefAdamKvAdaIdeal.defs (F := Ideal)) (onTc (τ := Cert.RefAdamKvAdaIdeal.τ) (Cert.RefAdamKvAdaIdeal.main (F := Ideal))) ⟨m, fun _ => 0, g⟩ (fun r => (∀ c : Dev Cert.RefAdamKvAdaIdeal.nD,
      r.2.mem ((c.tc : Thread Cert.RefAdamKvAdaIdeal.nD Cert.RefAdamKvAdaIdeal.τ).loc Cert.RefAdamKvAdaIdeal.main_arg0) = m ((c.tc : Thread Cert.RefAdamKvAdaIdeal.nD Cert.RefAdamKvAdaIdeal.τ).loc Cert.RefAdamKvAdaIdeal.main_arg0)
      ∧ r.2.mem ((c.tc : Thread Cert.RefAdamKvAdaIdeal.nD Cert.RefAdamKvAdaIdeal.τ).loc Cert.RefAdamKvAdaIdeal.main_arg1) = m ((c.tc : Thread Cert.RefAdamKvAdaIdeal.nD Cert.RefAdamKvAdaIdeal.τ).loc Cert.RefAdamKvAdaIdeal.main_arg1)
      ∧ r.2.mem ((c.tc : Thread Cert.RefAdamKvAdaIdeal.nD Cert.RefAdamKvAdaIdeal.τ).loc Cert.RefAdamKvAdaIdeal.main_arg2) = m ((c.tc : Thread Cert.RefAdamKvAdaIdeal.nD Cert.RefAdamKvAdaIdeal.τ).loc Cert.RefAdamKvAdaIdeal.main_arg2)
      ∧ r.2.mem ((c.tc : Thread Cert.RefAdamKvAdaIdeal.nD Cert.RefAdamKvAdaIdeal.τ).loc Cert.RefAdamKvAdaIdeal.main_arg3) = m ((c.tc : Thread Cert.RefAdamKvAdaIdeal.nD Cert.RefAdamKvAdaIdeal.τ).loc Cert.RefAdamKvAdaIdeal.main_arg3)
      ∧ r.2.mem ((c.tc : Thread Cert.RefAdamKvAdaIdeal.nD Cert.RefAdamKvAdaIdeal.τ).loc Cert.RefAdamKvAdaIdeal.main_arg4) = m ((c.tc : Thread Cert.RefAdamKvAdaIdeal.nD Cert.RefAdamKvAdaIdeal.τ).loc Cert.RefAdamKvAdaIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_RefMixBwdIdeal [hRefMixBwdIdeal : Cert.RefMixBwdIdeal.Facts] : Prop :=
  ∀ (m : (ℓ : Loc Cert.RefMixBwdIdeal.nD Cert.RefMixBwdIdeal.τ Cert.RefMixBwdIdeal.sig) → Buf (Elt Ideal) ℓ) (g : Dev Cert.RefMixBwdIdeal.nD → PrngReg), Pre_RefMixBwdIdeal m →
    θ_run (Cert.RefMixBwdIdeal.defs (F := Ideal)) (onTc (τ := Cert.RefMixBwdIdeal.τ) (Cert.RefMixBwdIdeal.main (F := Ideal))) ⟨m, fun _ => 0, g⟩ (fun r => (∀ c : Dev Cert.RefMixBwdIdeal.nD,
      r.2.mem ((c.tc : Thread Cert.RefMixBwdIdeal.nD Cert.RefMixBwdIdeal.τ).loc Cert.RefMixBwdIdeal.main_arg0) = m ((c.tc : Thread Cert.RefMixBwdIdeal.nD Cert.RefMixBwdIdeal.τ).loc Cert.RefMixBwdIdeal.main_arg0)
      ∧ r.2.mem ((c.tc : Thread Cert.RefMixBwdIdeal.nD Cert.RefMixBwdIdeal.τ).loc Cert.RefMixBwdIdeal.main_arg1) = m ((c.tc : Thread Cert.RefMixBwdIdeal.nD Cert.RefMixBwdIdeal.τ).loc Cert.RefMixBwdIdeal.main_arg1)
      ∧ r.2.mem ((c.tc : Thread Cert.RefMixBwdIdeal.nD Cert.RefMixBwdIdeal.τ).loc Cert.RefMixBwdIdeal.main_arg2) = m ((c.tc : Thread Cert.RefMixBwdIdeal.nD Cert.RefMixBwdIdeal.τ).loc Cert.RefMixBwdIdeal.main_arg2)
      ∧ r.2.mem ((c.tc : Thread Cert.RefMixBwdIdeal.nD Cert.RefMixBwdIdeal.τ).loc Cert.RefMixBwdIdeal.main_arg3) = m ((c.tc : Thread Cert.RefMixBwdIdeal.nD Cert.RefMixBwdIdeal.τ).loc Cert.RefMixBwdIdeal.main_arg3)
      ∧ r.2.mem ((c.tc : Thread Cert.RefMixBwdIdeal.nD Cert.RefMixBwdIdeal.τ).loc Cert.RefMixBwdIdeal.main_arg4) = m ((c.tc : Thread Cert.RefMixBwdIdeal.nD Cert.RefMixBwdIdeal.τ).loc Cert.RefMixBwdIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ r.2.sem = fun _ => 0)

def quiescent_RefMixFwdIdeal [hRefMixFwdIdeal : Cert.RefMixFwdIdeal.Facts] : Prop :=
  ∀ (m : (ℓ : Loc Cert.RefMixFwdIdeal.nD Cert.RefMixFwdIdeal.τ Cert.RefMixFwdIdeal.sig) → Buf (Elt Ideal) ℓ) (g : Dev Cert.RefMixFwdIdeal.nD → PrngReg), Pre_RefMixFwdIdeal m →
    θ_run (Cert.RefMixFwdIdeal.defs (F := Ideal)) (onTc (τ := Cert.RefMixFwdIdeal.τ) (Cert.RefMixFwdIdeal.main (F := Ideal))) ⟨m, fun _ => 0, g⟩ (fun r => (∀ c : Dev Cert.RefMixFwdIdeal.nD,
      r.2.mem ((c.tc : Thread Cert.RefMixFwdIdeal.nD Cert.RefMixFwdIdeal.τ).loc Cert.RefMixFwdIdeal.main_arg0) = m ((c.tc : Thread Cert.RefMixFwdIdeal.nD Cert.RefMixFwdIdeal.τ).loc Cert.RefMixFwdIdeal.main_arg0)
      ∧ r.2.mem ((c.tc : Thread Cert.RefMixFwdIdeal.nD Cert.RefMixFwdIdeal.τ).loc Cert.RefMixFwdIdeal.main_arg1) = m ((c.tc : Thread Cert.RefMixFwdIdeal.nD Cert.RefMixFwdIdeal.τ).loc Cert.RefMixFwdIdeal.main_arg1)
      ∧ r.2.mem ((c.tc : Thread Cert.RefMixFwdIdeal.nD Cert.RefMixFwdIdeal.τ).loc Cert.RefMixFwdIdeal.main_arg2) = m ((c.tc : Thread Cert.RefMixFwdIdeal.nD Cert.RefMixFwdIdeal.τ).loc Cert.RefMixFwdIdeal.main_arg2)
      ∧ r.2.mem ((c.tc : Thread Cert.RefMixFwdIdeal.nD Cert.RefMixFwdIdeal.τ).loc Cert.RefMixFwdIdeal.main_arg3) = m ((c.tc : Thread Cert.RefMixFwdIdeal.nD Cert.RefMixFwdIdeal.τ).loc Cert.RefMixFwdIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_RefGateBwdIdeal [hRefGateBwdIdeal : Cert.RefGateBwdIdeal.Facts] : Prop :=
  ∀ (m : (ℓ : Loc Cert.RefGateBwdIdeal.nD Cert.RefGateBwdIdeal.τ Cert.RefGateBwdIdeal.sig) → Buf (Elt Ideal) ℓ) (g : Dev Cert.RefGateBwdIdeal.nD → PrngReg), Pre_RefGateBwdIdeal m →
    θ_run (Cert.RefGateBwdIdeal.defs (F := Ideal)) (onTc (τ := Cert.RefGateBwdIdeal.τ) (Cert.RefGateBwdIdeal.main (F := Ideal))) ⟨m, fun _ => 0, g⟩ (fun r => (∀ c : Dev Cert.RefGateBwdIdeal.nD,
      r.2.mem ((c.tc : Thread Cert.RefGateBwdIdeal.nD Cert.RefGateBwdIdeal.τ).loc Cert.RefGateBwdIdeal.main_arg0) = m ((c.tc : Thread Cert.RefGateBwdIdeal.nD Cert.RefGateBwdIdeal.τ).loc Cert.RefGateBwdIdeal.main_arg0)
      ∧ r.2.mem ((c.tc : Thread Cert.RefGateBwdIdeal.nD Cert.RefGateBwdIdeal.τ).loc Cert.RefGateBwdIdeal.main_arg1) = m ((c.tc : Thread Cert.RefGateBwdIdeal.nD Cert.RefGateBwdIdeal.τ).loc Cert.RefGateBwdIdeal.main_arg1)
      ∧ r.2.mem ((c.tc : Thread Cert.RefGateBwdIdeal.nD Cert.RefGateBwdIdeal.τ).loc Cert.RefGateBwdIdeal.main_arg2) = m ((c.tc : Thread Cert.RefGateBwdIdeal.nD Cert.RefGateBwdIdeal.τ).loc Cert.RefGateBwdIdeal.main_arg2))
      ∧ r.2.sem = fun _ => 0)

def quiescent_ModNorm [hModNorm : Cert.ModNorm.Facts] : Prop :=
  ∀ (m : (ℓ : Loc Cert.ModNorm.nD Cert.ModNorm.τ Cert.ModNorm.sig) → Buf (Elt Bits) ℓ) (g : Dev Cert.ModNorm.nD → PrngReg), Pre_ModNorm m →
    θ_run (Cert.ModNorm.defs (F := Bits)) (onTc (τ := Cert.ModNorm.τ) (Cert.ModNorm.main (F := Bits))) ⟨m, fun _ => 0, g⟩ (fun r => (∀ c : Dev Cert.ModNorm.nD,
      r.2.mem ((c.tc : Thread Cert.ModNorm.nD Cert.ModNorm.τ).loc Cert.ModNorm.main_arg0) = m ((c.tc : Thread Cert.ModNorm.nD Cert.ModNorm.τ).loc Cert.ModNorm.main_arg0)
      ∧ r.2.mem ((c.tc : Thread Cert.ModNorm.nD Cert.ModNorm.τ).loc Cert.ModNorm.main_arg1) = m ((c.tc : Thread Cert.ModNorm.nD Cert.ModNorm.τ).loc Cert.ModNorm.main_arg1)
      ∧ r.2.mem ((c.tc : Thread Cert.ModNorm.nD Cert.ModNorm.τ).loc Cert.ModNorm.main_arg2) = m ((c.tc : Thread Cert.ModNorm.nD Cert.ModNorm.τ).loc Cert.ModNorm.main_arg2)
      ∧ r.2.mem ((c.tc : Thread Cert.ModNorm.nD Cert.ModNorm.τ).loc Cert.ModNorm.main_arg3) = m ((c.tc : Thread Cert.ModNorm.nD Cert.ModNorm.τ).loc Cert.ModNorm.main_arg3))
      ∧ r.2.sem = fun _ => 0)

def quiescent_ModNormIdeal [hModNormIdeal : Cert.ModNormIdeal.Facts] : Prop :=
  ∀ (m : (ℓ : Loc Cert.ModNormIdeal.nD Cert.ModNormIdeal.τ Cert.ModNormIdeal.sig) → Buf (Elt Ideal) ℓ) (g : Dev Cert.ModNormIdeal.nD → PrngReg), Pre_ModNormIdeal m →
    θ_run (Cert.ModNormIdeal.defs (F := Ideal)) (onTc (τ := Cert.ModNormIdeal.τ) (Cert.ModNormIdeal.main (F := Ideal))) ⟨m, fun _ => 0, g⟩ (fun r => (∀ c : Dev Cert.ModNormIdeal.nD,
      r.2.mem ((c.tc : Thread Cert.ModNormIdeal.nD Cert.ModNormIdeal.τ).loc Cert.ModNormIdeal.main_arg0) = m ((c.tc : Thread Cert.ModNormIdeal.nD Cert.ModNormIdeal.τ).loc Cert.ModNormIdeal.main_arg0)
      ∧ r.2.mem ((c.tc : Thread Cert.ModNormIdeal.nD Cert.ModNormIdeal.τ).loc Cert.ModNormIdeal.main_arg1) = m ((c.tc : Thread Cert.ModNormIdeal.nD Cert.ModNormIdeal.τ).loc Cert.ModNormIdeal.main_arg1)
      ∧ r.2.mem ((c.tc : Thread Cert.ModNormIdeal.nD Cert.ModNormIdeal.τ).loc Cert.ModNormIdeal.main_arg2) = m ((c.tc : Thread Cert.ModNormIdeal.nD Cert.ModNormIdeal.τ).loc Cert.ModNormIdeal.main_arg2)
      ∧ r.2.mem ((c.tc : Thread Cert.ModNormIdeal.nD Cert.ModNormIdeal.τ).loc Cert.ModNormIdeal.main_arg3) = m ((c.tc : Thread Cert.ModNormIdeal.nD Cert.ModNormIdeal.τ).loc Cert.ModNormIdeal.main_arg3))
      ∧ r.2.sem = fun _ => 0)

def quiescent_RefModNormIdeal [hRefModNormIdeal : Cert.RefModNormIdeal.Facts] : Prop :=
  ∀ (m : (ℓ : Loc Cert.RefModNormIdeal.nD Cert.RefModNormIdeal.τ Cert.RefModNormIdeal.sig) → Buf (Elt Ideal) ℓ) (g : Dev Cert.RefModNormIdeal.nD → PrngReg), Pre_RefModNormIdeal m →
    θ_run (Cert.RefModNormIdeal.defs (F := Ideal)) (onTc (τ := Cert.RefModNormIdeal.τ) (Cert.RefModNormIdeal.main (F := Ideal))) ⟨m, fun _ => 0, g⟩ (fun r => (∀ c : Dev Cert.RefModNormIdeal.nD,
      r.2.mem ((c.tc : Thread Cert.RefModNormIdeal.nD Cert.RefModNormIdeal.τ).loc Cert.RefModNormIdeal.main_arg0) = m ((c.tc : Thread Cert.RefModNormIdeal.nD Cert.RefModNormIdeal.τ).loc Cert.RefModNormIdeal.main_arg0)
      ∧ r.2.mem ((c.tc : Thread Cert.RefModNormIdeal.nD Cert.RefModNormIdeal.τ).loc Cert.RefModNormIdeal.main_arg1) = m ((c.tc : Thread Cert.RefModNormIdeal.nD Cert.RefModNormIdeal.τ).loc Cert.RefModNormIdeal.main_arg1)
      ∧ r.2.mem ((c.tc : Thread Cert.RefModNormIdeal.nD Cert.RefModNormIdeal.τ).loc Cert.RefModNormIdeal.main_arg2) = m ((c.tc : Thread Cert.RefModNormIdeal.nD Cert.RefModNormIdeal.τ).loc Cert.RefModNormIdeal.main_arg2)
      ∧ r.2.mem ((c.tc : Thread Cert.RefModNormIdeal.nD Cert.RefModNormIdeal.τ).loc Cert.RefModNormIdeal.main_arg3) = m ((c.tc : Thread Cert.RefModNormIdeal.nD Cert.RefModNormIdeal.τ).loc Cert.RefModNormIdeal.main_arg3))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_RefLnFwdIdeal [hRefLnFwdIdeal : Cert.RefLnFwdIdeal.Facts] : Prop :=
  ∀ (m : (ℓ : Loc Cert.RefLnFwdIdeal.nD Cert.RefLnFwdIdeal.τ Cert.RefLnFwdIdeal.sig) → Buf (Elt Ideal) ℓ) (g : Dev Cert.RefLnFwdIdeal.nD → PrngReg), Pre_RefLnFwdIdeal m →
    θ_run (Cert.RefLnFwdIdeal.defs (F := Ideal)) (onTc (τ := Cert.RefLnFwdIdeal.τ) (Cert.RefLnFwdIdeal.main (F := Ideal))) ⟨m, fun _ => 0, g⟩ (fun r => (∀ c : Dev Cert.RefLnFwdIdeal.nD,
      r.2.mem ((c.tc : Thread Cert.RefLnFwdIdeal.nD Cert.RefLnFwdIdeal.τ).loc Cert.RefLnFwdIdeal.main_arg0) = m ((c.tc : Thread Cert.RefLnFwdIdeal.nD Cert.RefLnFwdIdeal.τ).loc Cert.RefLnFwdIdeal.main_arg0)
      ∧ r.2.mem ((c.tc : Thread Cert.RefLnFwdIdeal.nD Cert.RefLnFwdIdeal.τ).loc Cert.RefLnFwdIdeal.main_arg1) = m ((c.tc : Thread Cert.RefLnFwdIdeal.nD Cert.RefLnFwdIdeal.τ).loc Cert.RefLnFwdIdeal.main_arg1)
      ∧ r.2.mem ((c.tc : Thread Cert.RefLnFwdIdeal.nD Cert.RefLnFwdIdeal.τ).loc Cert.RefLnFwdIdeal.main_arg2) = m ((c.tc : Thread Cert.RefLnFwdIdeal.nD Cert.RefLnFwdIdeal.τ).loc Cert.RefLnFwdIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v11_0)) (v3 : (c : Dev Cert.KernelIdeal.nD) → Buf (Elt Ideal) ((c.tc : Thread Cert.KernelIdeal.nD Cert.KernelIdeal.τ).loc Cert.KernelIdeal.main_v11_1)) (v4 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v11_0) = v2 c
          ∧ r.2.mem ((c.tc : Thread Cert.KernelIdeal.nD Cert.KernelIdeal.τ).loc Cert.KernelIdeal.main_v11_1) = v3 c
          ∧ r.2.mem ((c.tc : Thread Cert.KernelIdeal.nD Cert.KernelIdeal.τ).loc Cert.KernelIdeal.main_v11_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_W1Grad_W1GradIdeal : Prop :=
  True

def algebraic_W1GradIdeal_RefW1GradIdeal [hW1GradIdeal : Cert.W1GradIdeal.Facts] [hRefW1GradIdeal : Cert.RefW1GradIdeal.Facts] : Prop :=
  ∀ (m : (ℓ : Loc Cert.W1GradIdeal.nD Cert.W1GradIdeal.τ Cert.W1GradIdeal.sig) → Buf (Elt Ideal) ℓ) (g : Dev Cert.W1GradIdeal.nD → PrngReg)
    (m' : (ℓ : Loc Cert.RefW1GradIdeal.nD Cert.RefW1GradIdeal.τ Cert.RefW1GradIdeal.sig) → Buf (Elt Ideal) ℓ) (g' : Dev Cert.RefW1GradIdeal.nD → PrngReg), Pre_W1GradIdeal m →
    (∀ c : Dev Cert.W1GradIdeal.nD,
      m' ((c.tc : Thread Cert.RefW1GradIdeal.nD Cert.RefW1GradIdeal.τ).loc Cert.RefW1GradIdeal.main_arg0) = m ((c.tc : Thread Cert.W1GradIdeal.nD Cert.W1GradIdeal.τ).loc Cert.W1GradIdeal.main_arg0)
      ∧ m' ((c.tc : Thread Cert.RefW1GradIdeal.nD Cert.RefW1GradIdeal.τ).loc Cert.RefW1GradIdeal.main_arg1) = m ((c.tc : Thread Cert.W1GradIdeal.nD Cert.W1GradIdeal.τ).loc Cert.W1GradIdeal.main_arg1)) →
    ∃ (v0 : (c : Dev Cert.W1GradIdeal.nD) → Buf (Elt Ideal) ((c.tc : Thread Cert.W1GradIdeal.nD Cert.W1GradIdeal.τ).loc Cert.W1GradIdeal.main_v2)),
      θ_run (Cert.W1GradIdeal.defs (F := Ideal)) (onTc (τ := Cert.W1GradIdeal.τ) (Cert.W1GradIdeal.main (F := Ideal))) ⟨m, fun _ => 0, g⟩ (fun r => ∀ c : Dev Cert.W1GradIdeal.nD,
          r.2.mem ((c.tc : Thread Cert.W1GradIdeal.nD Cert.W1GradIdeal.τ).loc Cert.W1GradIdeal.main_v2) = v0 c
          ∧ r.2.mem ((c.tc : Thread Cert.W1GradIdeal.nD Cert.W1GradIdeal.τ).loc Cert.W1GradIdeal.main_arg0) = m ((c.tc : Thread Cert.W1GradIdeal.nD Cert.W1GradIdeal.τ).loc Cert.W1GradIdeal.main_arg0)
          ∧ r.2.mem ((c.tc : Thread Cert.W1GradIdeal.nD Cert.W1GradIdeal.τ).loc Cert.W1GradIdeal.main_arg1) = m ((c.tc : Thread Cert.W1GradIdeal.nD Cert.W1GradIdeal.τ).loc Cert.W1GradIdeal.main_arg1))
      ∧ θ_run (Cert.RefW1GradIdeal.defs (F := Ideal)) (onTc (τ := Cert.RefW1GradIdeal.τ) (Cert.RefW1GradIdeal.main (F := Ideal))) ⟨m', fun _ => 0, g'⟩ (fun r => ∀ c : Dev Cert.RefW1GradIdeal.nD,
          r.2.mem ((c.tc : Thread Cert.RefW1GradIdeal.nD Cert.RefW1GradIdeal.τ).loc Cert.RefW1GradIdeal.main_v6) = v0 c
          ∧ r.2.mem ((c.tc : Thread Cert.RefW1GradIdeal.nD Cert.RefW1GradIdeal.τ).loc Cert.RefW1GradIdeal.main_arg0) = m' ((c.tc : Thread Cert.RefW1GradIdeal.nD Cert.RefW1GradIdeal.τ).loc Cert.RefW1GradIdeal.main_arg0)
          ∧ r.2.mem ((c.tc : Thread Cert.RefW1GradIdeal.nD Cert.RefW1GradIdeal.τ).loc Cert.RefW1GradIdeal.main_arg1) = m' ((c.tc : Thread Cert.RefW1GradIdeal.nD Cert.RefW1GradIdeal.τ).loc Cert.RefW1GradIdeal.main_arg1))

def preserves_UpBwd_UpBwdIdeal : Prop :=
  True

def algebraic_UpBwdIdeal_RefUpBwdIdeal [hUpBwdIdeal : Cert.UpBwdIdeal.Facts] [hRefUpBwdIdeal : Cert.RefUpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.RefUpBwdIdeal.nD Cert.RefUpBwdIdeal.τ Cert.RefUpBwdIdeal.sig) → Buf (Elt Ideal) ℓ) (g' : Dev Cert.RefUpBwdIdeal.nD → PrngReg), Pre_UpBwdIdeal m →
    (∀ c : Dev Cert.UpBwdIdeal.nD,
      m' ((c.tc : Thread Cert.RefUpBwdIdeal.nD Cert.RefUpBwdIdeal.τ).loc Cert.RefUpBwdIdeal.main_arg0) = m ((c.tc : Thread Cert.UpBwdIdeal.nD Cert.UpBwdIdeal.τ).loc Cert.UpBwdIdeal.main_arg0)
      ∧ m' ((c.tc : Thread Cert.RefUpBwdIdeal.nD Cert.RefUpBwdIdeal.τ).loc Cert.RefUpBwdIdeal.main_arg1) = m ((c.tc : Thread Cert.UpBwdIdeal.nD Cert.UpBwdIdeal.τ).loc Cert.UpBwdIdeal.main_arg1)) →
    ∃ (v0 : (c : Dev Cert.UpBwdIdeal.nD) → Buf (Elt Ideal) ((c.tc : Thread Cert.UpBwdIdeal.nD Cert.UpBwdIdeal.τ).loc Cert.UpBwdIdeal.main_v4)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v4) = v0 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1))
      ∧ θ_run (Cert.RefUpBwdIdeal.defs (F := Ideal)) (onTc (τ := Cert.RefUpBwdIdeal.τ) (Cert.RefUpBwdIdeal.main (F := Ideal))) ⟨m', fun _ => 0, g'⟩ (fun r => ∀ c : Dev Cert.RefUpBwdIdeal.nD,
          r.2.mem ((c.tc : Thread Cert.RefUpBwdIdeal.nD Cert.RefUpBwdIdeal.τ).loc Cert.RefUpBwdIdeal.main_v3) = v0 c
          ∧ r.2.mem ((c.tc : Thread Cert.RefUpBwdIdeal.nD Cert.RefUpBwdIdeal.τ).loc Cert.RefUpBwdIdeal.main_arg0) = m' ((c.tc : Thread Cert.RefUpBwdIdeal.nD Cert.RefUpBwdIdeal.τ).loc Cert.RefUpBwdIdeal.main_arg0)
          ∧ r.2.mem ((c.tc : Thread Cert.RefUpBwdIdeal.nD Cert.RefUpBwdIdeal.τ).loc Cert.RefUpBwdIdeal.main_arg1) = m' ((c.tc : Thread Cert.RefUpBwdIdeal.nD Cert.RefUpBwdIdeal.τ).loc Cert.RefUpBwdIdeal.main_arg1))

def preserves_W2Grad_W2GradIdeal : Prop :=
  True

def algebraic_W2GradIdeal_RefW2GradIdeal [hW2GradIdeal : Cert.W2GradIdeal.Facts] [hRefW2GradIdeal : Cert.RefW2GradIdeal.Facts] : Prop :=
  ∀ (m : (ℓ : Loc Cert.W2GradIdeal.nD Cert.W2GradIdeal.τ Cert.W2GradIdeal.sig) → Buf (Elt Ideal) ℓ) (g : Dev Cert.W2GradIdeal.nD → PrngReg)
    (m' : (ℓ : Loc Cert.RefW2GradIdeal.nD Cert.RefW2GradIdeal.τ Cert.RefW2GradIdeal.sig) → Buf (Elt Ideal) ℓ) (g' : Dev Cert.RefW2GradIdeal.nD → PrngReg), Pre_W2GradIdeal m →
    (∀ c : Dev Cert.W2GradIdeal.nD,
      m' ((c.tc : Thread Cert.RefW2GradIdeal.nD Cert.RefW2GradIdeal.τ).loc Cert.RefW2GradIdeal.main_arg0) = m ((c.tc : Thread Cert.W2GradIdeal.nD Cert.W2GradIdeal.τ).loc Cert.W2GradIdeal.main_arg0)
      ∧ m' ((c.tc : Thread Cert.RefW2GradIdeal.nD Cert.RefW2GradIdeal.τ).loc Cert.RefW2GradIdeal.main_arg1) = m ((c.tc : Thread Cert.W2GradIdeal.nD Cert.W2GradIdeal.τ).loc Cert.W2GradIdeal.main_arg1)
      ∧ m' ((c.tc : Thread Cert.RefW2GradIdeal.nD Cert.RefW2GradIdeal.τ).loc Cert.RefW2GradIdeal.main_arg2) = m ((c.tc : Thread Cert.W2GradIdeal.nD Cert.W2GradIdeal.τ).loc Cert.W2GradIdeal.main_arg2)) →
    ∃ (v0 : (c : Dev Cert.W2GradIdeal.nD) → Buf (Elt Ideal) ((c.tc : Thread Cert.W2GradIdeal.nD Cert.W2GradIdeal.τ).loc Cert.W2GradIdeal.main_v6)),
      θ_run (Cert.W2GradIdeal.defs (F := Ideal)) (onTc (τ := Cert.W2GradIdeal.τ) (Cert.W2GradIdeal.main (F := Ideal))) ⟨m, fun _ => 0, g⟩ (fun r => ∀ c : Dev Cert.W2GradIdeal.nD,
          r.2.mem ((c.tc : Thread Cert.W2GradIdeal.nD Cert.W2GradIdeal.τ).loc Cert.W2GradIdeal.main_v6) = v0 c
          ∧ r.2.mem ((c.tc : Thread Cert.W2GradIdeal.nD Cert.W2GradIdeal.τ).loc Cert.W2GradIdeal.main_arg0) = m ((c.tc : Thread Cert.W2GradIdeal.nD Cert.W2GradIdeal.τ).loc Cert.W2GradIdeal.main_arg0)
          ∧ r.2.mem ((c.tc : Thread Cert.W2GradIdeal.nD Cert.W2GradIdeal.τ).loc Cert.W2GradIdeal.main_arg1) = m ((c.tc : Thread Cert.W2GradIdeal.nD Cert.W2GradIdeal.τ).loc Cert.W2GradIdeal.main_arg1)
          ∧ r.2.mem ((c.tc : Thread Cert.W2GradIdeal.nD Cert.W2GradIdeal.τ).loc Cert.W2GradIdeal.main_arg2) = m ((c.tc : Thread Cert.W2GradIdeal.nD Cert.W2GradIdeal.τ).loc Cert.W2GradIdeal.main_arg2))
      ∧ θ_run (Cert.RefW2GradIdeal.defs (F := Ideal)) (onTc (τ := Cert.RefW2GradIdeal.τ) (Cert.RefW2GradIdeal.main (F := Ideal))) ⟨m', fun _ => 0, g'⟩ (fun r => ∀ c : Dev Cert.RefW2GradIdeal.nD,
          r.2.mem ((c.tc : Thread Cert.RefW2GradIdeal.nD Cert.RefW2GradIdeal.τ).loc Cert.RefW2GradIdeal.main_v10) = v0 c
          ∧ r.2.mem ((c.tc : Thread Cert.RefW2GradIdeal.nD Cert.RefW2GradIdeal.τ).loc Cert.RefW2GradIdeal.main_arg0) = m' ((c.tc : Thread Cert.RefW2GradIdeal.nD Cert.RefW2GradIdeal.τ).loc Cert.RefW2GradIdeal.main_arg0)
          ∧ r.2.mem ((c.tc : Thread Cert.RefW2GradIdeal.nD Cert.RefW2GradIdeal.τ).loc Cert.RefW2GradIdeal.main_arg1) = m' ((c.tc : Thread Cert.RefW2GradIdeal.nD Cert.RefW2GradIdeal.τ).loc Cert.RefW2GradIdeal.main_arg1)
          ∧ r.2.mem ((c.tc : Thread Cert.RefW2GradIdeal.nD Cert.RefW2GradIdeal.τ).loc Cert.RefW2GradIdeal.main_arg2) = m' ((c.tc : Thread Cert.RefW2GradIdeal.nD Cert.RefW2GradIdeal.τ).loc Cert.RefW2GradIdeal.main_arg2))

def preserves_DownBwd_DownBwdIdeal : Prop :=
  True

def algebraic_DownBwdIdeal_RefDownBwdIdeal [hDownBwdIdeal : Cert.DownBwdIdeal.Facts] [hRefDownBwdIdeal : Cert.RefDownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.RefDownBwdIdeal.nD Cert.RefDownBwdIdeal.τ Cert.RefDownBwdIdeal.sig) → Buf (Elt Ideal) ℓ) (g' : Dev Cert.RefDownBwdIdeal.nD → PrngReg), Pre_DownBwdIdeal m →
    (∀ c : Dev Cert.DownBwdIdeal.nD,
      m' ((c.tc : Thread Cert.RefDownBwdIdeal.nD Cert.RefDownBwdIdeal.τ).loc Cert.RefDownBwdIdeal.main_arg0) = m ((c.tc : Thread Cert.DownBwdIdeal.nD Cert.DownBwdIdeal.τ).loc Cert.DownBwdIdeal.main_arg0)
      ∧ m' ((c.tc : Thread Cert.RefDownBwdIdeal.nD Cert.RefDownBwdIdeal.τ).loc Cert.RefDownBwdIdeal.main_arg1) = m ((c.tc : Thread Cert.DownBwdIdeal.nD Cert.DownBwdIdeal.τ).loc Cert.DownBwdIdeal.main_arg1)
      ∧ m' ((c.tc : Thread Cert.RefDownBwdIdeal.nD Cert.RefDownBwdIdeal.τ).loc Cert.RefDownBwdIdeal.main_arg2) = m ((c.tc : Thread Cert.DownBwdIdeal.nD Cert.DownBwdIdeal.τ).loc Cert.DownBwdIdeal.main_arg2)
      ∧ m' ((c.tc : Thread Cert.RefDownBwdIdeal.nD Cert.RefDownBwdIdeal.τ).loc Cert.RefDownBwdIdeal.main_arg3) = m ((c.tc : Thread Cert.DownBwdIdeal.nD Cert.DownBwdIdeal.τ).loc Cert.DownBwdIdeal.main_arg3)) →
    ∃ (v0 : (c : Dev Cert.DownBwdIdeal.nD) → Buf (Elt Ideal) ((c.tc : Thread Cert.DownBwdIdeal.nD Cert.DownBwdIdeal.τ).loc Cert.DownBwdIdeal.main_v5)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v5) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ θ_run (Cert.RefDownBwdIdeal.defs (F := Ideal)) (onTc (τ := Cert.RefDownBwdIdeal.τ) (Cert.RefDownBwdIdeal.main (F := Ideal))) ⟨m', fun _ => 0, g'⟩ (fun r => ∀ c : Dev Cert.RefDownBwdIdeal.nD,
          r.2.mem ((c.tc : Thread Cert.RefDownBwdIdeal.nD Cert.RefDownBwdIdeal.τ).loc Cert.RefDownBwdIdeal.main_v16) = v0 c
          ∧ r.2.mem ((c.tc : Thread Cert.RefDownBwdIdeal.nD Cert.RefDownBwdIdeal.τ).loc Cert.RefDownBwdIdeal.main_arg0) = m' ((c.tc : Thread Cert.RefDownBwdIdeal.nD Cert.RefDownBwdIdeal.τ).loc Cert.RefDownBwdIdeal.main_arg0)
          ∧ r.2.mem ((c.tc : Thread Cert.RefDownBwdIdeal.nD Cert.RefDownBwdIdeal.τ).loc Cert.RefDownBwdIdeal.main_arg1) = m' ((c.tc : Thread Cert.RefDownBwdIdeal.nD Cert.RefDownBwdIdeal.τ).loc Cert.RefDownBwdIdeal.main_arg1)
          ∧ r.2.mem ((c.tc : Thread Cert.RefDownBwdIdeal.nD Cert.RefDownBwdIdeal.τ).loc Cert.RefDownBwdIdeal.main_arg2) = m' ((c.tc : Thread Cert.RefDownBwdIdeal.nD Cert.RefDownBwdIdeal.τ).loc Cert.RefDownBwdIdeal.main_arg2)
          ∧ r.2.mem ((c.tc : Thread Cert.RefDownBwdIdeal.nD Cert.RefDownBwdIdeal.τ).loc Cert.RefDownBwdIdeal.main_arg3) = m' ((c.tc : Thread Cert.RefDownBwdIdeal.nD Cert.RefDownBwdIdeal.τ).loc Cert.RefDownBwdIdeal.main_arg3))

def preserves_WinGrad_WinGradIdeal : Prop :=
  True

def algebraic_WinGradIdeal_RefWinGradIdeal [hWinGradIdeal : Cert.WinGradIdeal.Facts] [hRefWinGradIdeal : Cert.RefWinGradIdeal.Facts] : Prop :=
  ∀ (m : (ℓ : Loc Cert.WinGradIdeal.nD Cert.WinGradIdeal.τ Cert.WinGradIdeal.sig) → Buf (Elt Ideal) ℓ) (g : Dev Cert.WinGradIdeal.nD → PrngReg)
    (m' : (ℓ : Loc Cert.RefWinGradIdeal.nD Cert.RefWinGradIdeal.τ Cert.RefWinGradIdeal.sig) → Buf (Elt Ideal) ℓ) (g' : Dev Cert.RefWinGradIdeal.nD → PrngReg), Pre_WinGradIdeal m →
    (∀ c : Dev Cert.WinGradIdeal.nD,
      m' ((c.tc : Thread Cert.RefWinGradIdeal.nD Cert.RefWinGradIdeal.τ).loc Cert.RefWinGradIdeal.main_arg0) = m ((c.tc : Thread Cert.WinGradIdeal.nD Cert.WinGradIdeal.τ).loc Cert.WinGradIdeal.main_arg0)
      ∧ m' ((c.tc : Thread Cert.RefWinGradIdeal.nD Cert.RefWinGradIdeal.τ).loc Cert.RefWinGradIdeal.main_arg1) = m ((c.tc : Thread Cert.WinGradIdeal.nD Cert.WinGradIdeal.τ).loc Cert.WinGradIdeal.main_arg1)) →
    ∃ (v0 : (c : Dev Cert.WinGradIdeal.nD) → Buf (Elt Ideal) ((c.tc : Thread Cert.WinGradIdeal.nD Cert.WinGradIdeal.τ).loc Cert.WinGradIdeal.main_v2)),
      θ_run (Cert.WinGradIdeal.defs (F := Ideal)) (onTc (τ := Cert.WinGradIdeal.τ) (Cert.WinGradIdeal.main (F := Ideal))) ⟨m, fun _ => 0, g⟩ (fun r => ∀ c : Dev Cert.WinGradIdeal.nD,
          r.2.mem ((c.tc : Thread Cert.WinGradIdeal.nD Cert.WinGradIdeal.τ).loc Cert.WinGradIdeal.main_v2) = v0 c
          ∧ r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
          ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1))
      ∧ θ_run (Cert.RefWinGradIdeal.defs (F := Ideal)) (onTc (τ := Cert.RefWinGradIdeal.τ) (Cert.RefWinGradIdeal.main (F := Ideal))) ⟨m', fun _ => 0, g'⟩ (fun r => ∀ c : Dev Cert.RefWinGradIdeal.nD,
          r.2.mem ((c.tc : Thread Cert.RefWinGradIdeal.nD Cert.RefWinGradIdeal.τ).loc Cert.RefWinGradIdeal.main_v6) = v0 c
          ∧ r.2.mem ((c.tc : Thread Cert.RefWinGradIdeal.nD Cert.RefWinGradIdeal.τ).loc Cert.RefWinGradIdeal.main_arg0) = m' ((c.tc : Thread Cert.RefWinGradIdeal.nD Cert.RefWinGradIdeal.τ).loc Cert.RefWinGradIdeal.main_arg0)
          ∧ r.2.mem ((c.tc : Thread Cert.RefWinGradIdeal.nD Cert.RefWinGradIdeal.τ).loc Cert.RefWinGradIdeal.main_arg1) = m' ((c.tc : Thread Cert.RefWinGradIdeal.nD Cert.RefWinGradIdeal.τ).loc Cert.RefWinGradIdeal.main_arg1))

def preserves_InBwd_InBwdIdeal : Prop :=
  True

def algebraic_InBwdIdeal_RefInBwdIdeal [hInBwdIdeal : Cert.InBwdIdeal.Facts] [hRefInBwdIdeal : Cert.RefInBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.RefInBwdIdeal.nD Cert.RefInBwdIdeal.τ Cert.RefInBwdIdeal.sig) → Buf (Elt Ideal) ℓ) (g' : Dev Cert.RefInBwdIdeal.nD → PrngReg), Pre_InBwdIdeal m →
    (∀ c : Dev Cert.InBwdIdeal.nD,
      m' ((c.tc : Thread Cert.RefInBwdIdeal.nD Cert.RefInBwdIdeal.τ).loc Cert.RefInBwdIdeal.main_arg0) = m ((c.tc : Thread Cert.InBwdIdeal.nD Cert.InBwdIdeal.τ).loc Cert.InBwdIdeal.main_arg0)
      ∧ m' ((c.tc : Thread Cert.RefInBwdIdeal.nD Cert.RefInBwdIdeal.τ).loc Cert.RefInBwdIdeal.main_arg1) = m ((c.tc : Thread Cert.InBwdIdeal.nD Cert.InBwdIdeal.τ).loc Cert.InBwdIdeal.main_arg1)) →
    ∃ (v0 : (c : Dev Cert.InBwdIdeal.nD) → Buf (Elt Ideal) ((c.tc : Thread Cert.InBwdIdeal.nD Cert.InBwdIdeal.τ).loc Cert.InBwdIdeal.main_v4)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v4) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ θ_run (Cert.RefInBwdIdeal.defs (F := Ideal)) (onTc (τ := Cert.RefInBwdIdeal.τ) (Cert.RefInBwdIdeal.main (F := Ideal))) ⟨m', fun _ => 0, g'⟩ (fun r => ∀ c : Dev Cert.RefInBwdIdeal.nD,
          r.2.mem ((c.tc : Thread Cert.RefInBwdIdeal.nD Cert.RefInBwdIdeal.τ).loc Cert.RefInBwdIdeal.main_v3) = v0 c
          ∧ r.2.mem ((c.tc : Thread Cert.RefInBwdIdeal.nD Cert.RefInBwdIdeal.τ).loc Cert.RefInBwdIdeal.main_arg0) = m' ((c.tc : Thread Cert.RefInBwdIdeal.nD Cert.RefInBwdIdeal.τ).loc Cert.RefInBwdIdeal.main_arg0)
          ∧ r.2.mem ((c.tc : Thread Cert.RefInBwdIdeal.nD Cert.RefInBwdIdeal.τ).loc Cert.RefInBwdIdeal.main_arg1) = m' ((c.tc : Thread Cert.RefInBwdIdeal.nD Cert.RefInBwdIdeal.τ).loc Cert.RefInBwdIdeal.main_arg1))

def preserves_WoutGrad_WoutGradIdeal : Prop :=
  True

def algebraic_WoutGradIdeal_RefWoutGradIdeal [hWoutGradIdeal : Cert.WoutGradIdeal.Facts] [hRefWoutGradIdeal : Cert.RefWoutGradIdeal.Facts] : Prop :=
  ∀ (m : (ℓ : Loc Cert.WoutGradIdeal.nD Cert.WoutGradIdeal.τ Cert.WoutGradIdeal.sig) → Buf (Elt Ideal) ℓ) (g : Dev Cert.WoutGradIdeal.nD → PrngReg)
    (m' : (ℓ : Loc Cert.RefWoutGradIdeal.nD Cert.RefWoutGradIdeal.τ Cert.RefWoutGradIdeal.sig) → Buf (Elt Ideal) ℓ) (g' : Dev Cert.RefWoutGradIdeal.nD → PrngReg), Pre_WoutGradIdeal m →
    (∀ c : Dev Cert.WoutGradIdeal.nD,
      m' ((c.tc : Thread Cert.RefWoutGradIdeal.nD Cert.RefWoutGradIdeal.τ).loc Cert.RefWoutGradIdeal.main_arg0) = m ((c.tc : Thread Cert.WoutGradIdeal.nD Cert.WoutGradIdeal.τ).loc Cert.WoutGradIdeal.main_arg0)
      ∧ m' ((c.tc : Thread Cert.RefWoutGradIdeal.nD Cert.RefWoutGradIdeal.τ).loc Cert.RefWoutGradIdeal.main_arg1) = m ((c.tc : Thread Cert.WoutGradIdeal.nD Cert.WoutGradIdeal.τ).loc Cert.WoutGradIdeal.main_arg1)
      ∧ m' ((c.tc : Thread Cert.RefWoutGradIdeal.nD Cert.RefWoutGradIdeal.τ).loc Cert.RefWoutGradIdeal.main_arg2) = m ((c.tc : Thread Cert.WoutGradIdeal.nD Cert.WoutGradIdeal.τ).loc Cert.WoutGradIdeal.main_arg2)) →
    ∃ (v0 : (c : Dev Cert.WoutGradIdeal.nD) → Buf (Elt Ideal) ((c.tc : Thread Cert.WoutGradIdeal.nD Cert.WoutGradIdeal.τ).loc Cert.WoutGradIdeal.main_v4)),
      θ_run (Cert.WoutGradIdeal.defs (F := Ideal)) (onTc (τ := Cert.WoutGradIdeal.τ) (Cert.WoutGradIdeal.main (F := Ideal))) ⟨m, fun _ => 0, g⟩ (fun r => ∀ c : Dev Cert.WoutGradIdeal.nD,
          r.2.mem ((c.tc : Thread Cert.WoutGradIdeal.nD Cert.WoutGradIdeal.τ).loc Cert.WoutGradIdeal.main_v4) = v0 c
          ∧ r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
          ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1)
          ∧ r.2.mem ((c.tc : Thread Cert.WoutGradIdeal.nD Cert.WoutGradIdeal.τ).loc Cert.WoutGradIdeal.main_arg2) = m ((c.tc : Thread Cert.WoutGradIdeal.nD Cert.WoutGradIdeal.τ).loc Cert.WoutGradIdeal.main_arg2))
      ∧ θ_run (Cert.RefWoutGradIdeal.defs (F := Ideal)) (onTc (τ := Cert.RefWoutGradIdeal.τ) (Cert.RefWoutGradIdeal.main (F := Ideal))) ⟨m', fun _ => 0, g'⟩ (fun r => ∀ c : Dev Cert.RefWoutGradIdeal.nD,
          r.2.mem ((c.tc : Thread Cert.RefWoutGradIdeal.nD Cert.RefWoutGradIdeal.τ).loc Cert.RefWoutGradIdeal.main_v8) = v0 c
          ∧ r.2.mem ((c.tc : Thread Cert.RefWoutGradIdeal.nD Cert.RefWoutGradIdeal.τ).loc Cert.RefWoutGradIdeal.main_arg0) = m' ((c.tc : Thread Cert.RefWoutGradIdeal.nD Cert.RefWoutGradIdeal.τ).loc Cert.RefWoutGradIdeal.main_arg0)
          ∧ r.2.mem ((c.tc : Thread Cert.RefWoutGradIdeal.nD Cert.RefWoutGradIdeal.τ).loc Cert.RefWoutGradIdeal.main_arg1) = m' ((c.tc : Thread Cert.RefWoutGradIdeal.nD Cert.RefWoutGradIdeal.τ).loc Cert.RefWoutGradIdeal.main_arg1)
          ∧ r.2.mem ((c.tc : Thread Cert.RefWoutGradIdeal.nD Cert.RefWoutGradIdeal.τ).loc Cert.RefWoutGradIdeal.main_arg2) = m' ((c.tc : Thread Cert.RefWoutGradIdeal.nD Cert.RefWoutGradIdeal.τ).loc Cert.RefWoutGradIdeal.main_arg2))

def preserves_OutBwd_OutBwdIdeal : Prop :=
  True

def algebraic_OutBwdIdeal_RefOutBwdIdeal [hOutBwdIdeal : Cert.OutBwdIdeal.Facts] [hRefOutBwdIdeal : Cert.RefOutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.RefOutBwdIdeal.nD Cert.RefOutBwdIdeal.τ Cert.RefOutBwdIdeal.sig) → Buf (Elt Ideal) ℓ) (g' : Dev Cert.RefOutBwdIdeal.nD → PrngReg), Pre_OutBwdIdeal m →
    (∀ c : Dev Cert.OutBwdIdeal.nD,
      m' ((c.tc : Thread Cert.RefOutBwdIdeal.nD Cert.RefOutBwdIdeal.τ).loc Cert.RefOutBwdIdeal.main_arg0) = m ((c.tc : Thread Cert.OutBwdIdeal.nD Cert.OutBwdIdeal.τ).loc Cert.OutBwdIdeal.main_arg0)
      ∧ m' ((c.tc : Thread Cert.RefOutBwdIdeal.nD Cert.RefOutBwdIdeal.τ).loc Cert.RefOutBwdIdeal.main_arg1) = m ((c.tc : Thread Cert.OutBwdIdeal.nD Cert.OutBwdIdeal.τ).loc Cert.OutBwdIdeal.main_arg1)
      ∧ m' ((c.tc : Thread Cert.RefOutBwdIdeal.nD Cert.RefOutBwdIdeal.τ).loc Cert.RefOutBwdIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v4)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v4) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.RefOutBwdIdeal.defs (F := Ideal)) (onTc (τ := Cert.RefOutBwdIdeal.τ) (Cert.RefOutBwdIdeal.main (F := Ideal))) ⟨m', fun _ => 0, g'⟩ (fun r => ∀ c : Dev Cert.RefOutBwdIdeal.nD,
          r.2.mem ((c.tc : Thread Cert.RefOutBwdIdeal.nD Cert.RefOutBwdIdeal.τ).loc Cert.RefOutBwdIdeal.main_v7) = v0 c
          ∧ r.2.mem ((c.tc : Thread Cert.RefOutBwdIdeal.nD Cert.RefOutBwdIdeal.τ).loc Cert.RefOutBwdIdeal.main_arg0) = m' ((c.tc : Thread Cert.RefOutBwdIdeal.nD Cert.RefOutBwdIdeal.τ).loc Cert.RefOutBwdIdeal.main_arg0)
          ∧ r.2.mem ((c.tc : Thread Cert.RefOutBwdIdeal.nD Cert.RefOutBwdIdeal.τ).loc Cert.RefOutBwdIdeal.main_arg1) = m' ((c.tc : Thread Cert.RefOutBwdIdeal.nD Cert.RefOutBwdIdeal.τ).loc Cert.RefOutBwdIdeal.main_arg1)
          ∧ r.2.mem ((c.tc : Thread Cert.RefOutBwdIdeal.nD Cert.RefOutBwdIdeal.τ).loc Cert.RefOutBwdIdeal.main_arg2) = m' ((c.tc : Thread Cert.RefOutBwdIdeal.nD Cert.RefOutBwdIdeal.τ).loc Cert.RefOutBwdIdeal.main_arg2))

def preserves_MlpUp_MlpUpIdeal : Prop :=
  True

def algebraic_MlpUpIdeal_RefMlpUpIdeal [hMlpUpIdeal : Cert.MlpUpIdeal.Facts] [hRefMlpUpIdeal : Cert.RefMlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.RefMlpUpIdeal.nD Cert.RefMlpUpIdeal.τ Cert.RefMlpUpIdeal.sig) → Buf (Elt Ideal) ℓ) (g' : Dev Cert.RefMlpUpIdeal.nD → PrngReg), Pre_MlpUpIdeal m →
    (∀ c : Dev Cert.MlpUpIdeal.nD,
      m' ((c.tc : Thread Cert.RefMlpUpIdeal.nD Cert.RefMlpUpIdeal.τ).loc Cert.RefMlpUpIdeal.main_arg0) = m ((c.tc : Thread Cert.MlpUpIdeal.nD Cert.MlpUpIdeal.τ).loc Cert.MlpUpIdeal.main_arg0)
      ∧ m' ((c.tc : Thread Cert.RefMlpUpIdeal.nD Cert.RefMlpUpIdeal.τ).loc Cert.RefMlpUpIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v4_0)) (v1 : (c : Dev Cert.MlpUpIdeal.nD) → Buf (Elt Ideal) ((c.tc : Thread Cert.MlpUpIdeal.nD Cert.MlpUpIdeal.τ).loc Cert.MlpUpIdeal.main_v4_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4_0) = v0 c
          ∧ r.2.mem ((c.tc : Thread Cert.MlpUpIdeal.nD Cert.MlpUpIdeal.τ).loc Cert.MlpUpIdeal.main_v4_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.RefMlpUpIdeal.defs (F := Ideal)) (onTc (τ := Cert.RefMlpUpIdeal.τ) (Cert.RefMlpUpIdeal.main (F := Ideal))) ⟨m', fun _ => 0, g'⟩ (fun r => ∀ c : Dev Cert.RefMlpUpIdeal.nD,
          r.2.mem ((c.tc : Thread Cert.RefMlpUpIdeal.nD Cert.RefMlpUpIdeal.τ).loc Cert.RefMlpUpIdeal.main_v1) = v0 c
          ∧ r.2.mem ((c.tc : Thread Cert.RefMlpUpIdeal.nD Cert.RefMlpUpIdeal.τ).loc Cert.RefMlpUpIdeal.main_v4) = v1 c
          ∧ r.2.mem ((c.tc : Thread Cert.RefMlpUpIdeal.nD Cert.RefMlpUpIdeal.τ).loc Cert.RefMlpUpIdeal.main_arg0) = m' ((c.tc : Thread Cert.RefMlpUpIdeal.nD Cert.RefMlpUpIdeal.τ).loc Cert.RefMlpUpIdeal.main_arg0)
          ∧ r.2.mem ((c.tc : Thread Cert.RefMlpUpIdeal.nD Cert.RefMlpUpIdeal.τ).loc Cert.RefMlpUpIdeal.main_arg1) = m' ((c.tc : Thread Cert.RefMlpUpIdeal.nD Cert.RefMlpUpIdeal.τ).loc Cert.RefMlpUpIdeal.main_arg1))

def preserves_MlpDown_MlpDownIdeal : Prop :=
  True

def algebraic_MlpDownIdeal_RefMlpDownIdeal [hMlpDownIdeal : Cert.MlpDownIdeal.Facts] [hRefMlpDownIdeal : Cert.RefMlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.RefMlpDownIdeal.nD Cert.RefMlpDownIdeal.τ Cert.RefMlpDownIdeal.sig) → Buf (Elt Ideal) ℓ) (g' : Dev Cert.RefMlpDownIdeal.nD → PrngReg), Pre_MlpDownIdeal m →
    (∀ c : Dev Cert.MlpDownIdeal.nD,
      m' ((c.tc : Thread Cert.RefMlpDownIdeal.nD Cert.RefMlpDownIdeal.τ).loc Cert.RefMlpDownIdeal.main_arg0) = m ((c.tc : Thread Cert.MlpDownIdeal.nD Cert.MlpDownIdeal.τ).loc Cert.MlpDownIdeal.main_arg0)
      ∧ m' ((c.tc : Thread Cert.RefMlpDownIdeal.nD Cert.RefMlpDownIdeal.τ).loc Cert.RefMlpDownIdeal.main_arg1) = m ((c.tc : Thread Cert.MlpDownIdeal.nD Cert.MlpDownIdeal.τ).loc Cert.MlpDownIdeal.main_arg1)
      ∧ m' ((c.tc : Thread Cert.RefMlpDownIdeal.nD Cert.RefMlpDownIdeal.τ).loc Cert.RefMlpDownIdeal.main_arg2) = m ((c.tc : Thread Cert.MlpDownIdeal.nD Cert.MlpDownIdeal.τ).loc Cert.MlpDownIdeal.main_arg2)
      ∧ m' ((c.tc : Thread Cert.RefMlpDownIdeal.nD Cert.RefMlpDownIdeal.τ).loc Cert.RefMlpDownIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v4_0)) (v1 : (c : Dev Cert.MlpDownIdeal.nD) → Buf (Elt Ideal) ((c.tc : Thread Cert.MlpDownIdeal.nD Cert.MlpDownIdeal.τ).loc Cert.MlpDownIdeal.main_v4_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v4_0) = v0 c
          ∧ r.2.mem ((c.tc : Thread Cert.MlpDownIdeal.nD Cert.MlpDownIdeal.τ).loc Cert.MlpDownIdeal.main_v4_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.RefMlpDownIdeal.defs (F := Ideal)) (onTc (τ := Cert.RefMlpDownIdeal.τ) (Cert.RefMlpDownIdeal.main (F := Ideal))) ⟨m', fun _ => 0, g'⟩ (fun r => ∀ c : Dev Cert.RefMlpDownIdeal.nD,
          r.2.mem ((c.tc : Thread Cert.RefMlpDownIdeal.nD Cert.RefMlpDownIdeal.τ).loc Cert.RefMlpDownIdeal.main_v5) = v0 c
          ∧ r.2.mem ((c.tc : Thread Cert.RefMlpDownIdeal.nD Cert.RefMlpDownIdeal.τ).loc Cert.RefMlpDownIdeal.main_v6) = v1 c
          ∧ r.2.mem ((c.tc : Thread Cert.RefMlpDownIdeal.nD Cert.RefMlpDownIdeal.τ).loc Cert.RefMlpDownIdeal.main_arg0) = m' ((c.tc : Thread Cert.RefMlpDownIdeal.nD Cert.RefMlpDownIdeal.τ).loc Cert.RefMlpDownIdeal.main_arg0)
          ∧ r.2.mem ((c.tc : Thread Cert.RefMlpDownIdeal.nD Cert.RefMlpDownIdeal.τ).loc Cert.RefMlpDownIdeal.main_arg1) = m' ((c.tc : Thread Cert.RefMlpDownIdeal.nD Cert.RefMlpDownIdeal.τ).loc Cert.RefMlpDownIdeal.main_arg1)
          ∧ r.2.mem ((c.tc : Thread Cert.RefMlpDownIdeal.nD Cert.RefMlpDownIdeal.τ).loc Cert.RefMlpDownIdeal.main_arg2) = m' ((c.tc : Thread Cert.RefMlpDownIdeal.nD Cert.RefMlpDownIdeal.τ).loc Cert.RefMlpDownIdeal.main_arg2)
          ∧ r.2.mem ((c.tc : Thread Cert.RefMlpDownIdeal.nD Cert.RefMlpDownIdeal.τ).loc Cert.RefMlpDownIdeal.main_arg3) = m' ((c.tc : Thread Cert.RefMlpDownIdeal.nD Cert.RefMlpDownIdeal.τ).loc Cert.RefMlpDownIdeal.main_arg3))

def preserves_GmlpOut_GmlpOutIdeal : Prop :=
  True

def algebraic_GmlpOutIdeal_RefGmlpOutIdeal [hGmlpOutIdeal : Cert.GmlpOutIdeal.Facts] [hRefGmlpOutIdeal : Cert.RefGmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg)
    (m' : (ℓ : Loc Cert.RefGmlpOutIdeal.nD Cert.RefGmlpOutIdeal.τ Cert.RefGmlpOutIdeal.sig) → Buf (Elt Ideal) ℓ) (g' : Dev Cert.RefGmlpOutIdeal.nD → PrngReg), Pre_GmlpOutIdeal m →
    (∀ c : Dev Cert.GmlpOutIdeal.nD,
      m' ((c.tc : Thread Cert.RefGmlpOutIdeal.nD Cert.RefGmlpOutIdeal.τ).loc Cert.RefGmlpOutIdeal.main_arg0) = m ((c.tc : Thread Cert.GmlpOutIdeal.nD Cert.GmlpOutIdeal.τ).loc Cert.GmlpOutIdeal.main_arg0)
      ∧ m' ((c.tc : Thread Cert.RefGmlpOutIdeal.nD Cert.RefGmlpOutIdeal.τ).loc Cert.RefGmlpOutIdeal.main_arg1) = m ((c.tc : Thread Cert.GmlpOutIdeal.nD Cert.GmlpOutIdeal.τ).loc Cert.GmlpOutIdeal.main_arg1)
      ∧ m' ((c.tc : Thread Cert.RefGmlpOutIdeal.nD Cert.RefGmlpOutIdeal.τ).loc Cert.RefGmlpOutIdeal.main_arg2) = m ((c.tc : Thread Cert.GmlpOutIdeal.nD Cert.GmlpOutIdeal.τ).loc Cert.GmlpOutIdeal.main_arg2)
      ∧ m' ((c.tc : Thread Cert.RefGmlpOutIdeal.nD Cert.RefGmlpOutIdeal.τ).loc Cert.RefGmlpOutIdeal.main_arg3) = m ((c.tc : Thread Cert.GmlpOutIdeal.nD Cert.GmlpOutIdeal.τ).loc Cert.GmlpOutIdeal.main_arg3)) →
    ∃ (v0 : (c : Dev Cert.GmlpOutIdeal.nD) → Buf (Elt Ideal) ((c.tc : Thread Cert.GmlpOutIdeal.nD Cert.GmlpOutIdeal.τ).loc Cert.GmlpOutIdeal.main_v2_0)) (v1 : (c : Dev Cert.GmlpOutIdeal.nD) → Buf (Elt Ideal) ((c.tc : Thread Cert.GmlpOutIdeal.nD Cert.GmlpOutIdeal.τ).loc Cert.GmlpOutIdeal.main_v2_1)),
      θ_run (Cert.GmlpOutIdeal.defs (F := Ideal)) (onTc (τ := Cert.GmlpOutIdeal.τ) (Cert.GmlpOutIdeal.main (F := Ideal))) ⟨m, fun _ => 0, g⟩ (fun r => ∀ c : Dev Cert.GmlpOutIdeal.nD,
          r.2.mem ((c.tc : Thread Cert.GmlpOutIdeal.nD Cert.GmlpOutIdeal.τ).loc Cert.GmlpOutIdeal.main_v2_0) = v0 c
          ∧ r.2.mem ((c.tc : Thread Cert.GmlpOutIdeal.nD Cert.GmlpOutIdeal.τ).loc Cert.GmlpOutIdeal.main_v2_1) = v1 c
          ∧ r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
          ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
          ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2)
          ∧ r.2.mem ((c.tc : Thread Cert.GmlpOutIdeal.nD Cert.GmlpOutIdeal.τ).loc Cert.GmlpOutIdeal.main_arg3) = m ((c.tc : Thread Cert.GmlpOutIdeal.nD Cert.GmlpOutIdeal.τ).loc Cert.GmlpOutIdeal.main_arg3))
      ∧ θ_run (Cert.RefGmlpOutIdeal.defs (F := Ideal)) (onTc (τ := Cert.RefGmlpOutIdeal.τ) (Cert.RefGmlpOutIdeal.main (F := Ideal))) ⟨m', fun _ => 0, g'⟩ (fun r => ∀ c : Dev Cert.RefGmlpOutIdeal.nD,
          r.2.mem ((c.tc : Thread Cert.RefGmlpOutIdeal.nD Cert.RefGmlpOutIdeal.τ).loc Cert.RefGmlpOutIdeal.main_v3) = v0 c
          ∧ r.2.mem ((c.tc : Thread Cert.RefGmlpOutIdeal.nD Cert.RefGmlpOutIdeal.τ).loc Cert.RefGmlpOutIdeal.main_v4) = v1 c
          ∧ r.2.mem ((c.tc : Thread Cert.RefGmlpOutIdeal.nD Cert.RefGmlpOutIdeal.τ).loc Cert.RefGmlpOutIdeal.main_arg0) = m' ((c.tc : Thread Cert.RefGmlpOutIdeal.nD Cert.RefGmlpOutIdeal.τ).loc Cert.RefGmlpOutIdeal.main_arg0)
          ∧ r.2.mem ((c.tc : Thread Cert.RefGmlpOutIdeal.nD Cert.RefGmlpOutIdeal.τ).loc Cert.RefGmlpOutIdeal.main_arg1) = m' ((c.tc : Thread Cert.RefGmlpOutIdeal.nD Cert.RefGmlpOutIdeal.τ).loc Cert.RefGmlpOutIdeal.main_arg1)
          ∧ r.2.mem ((c.tc : Thread Cert.RefGmlpOutIdeal.nD Cert.RefGmlpOutIdeal.τ).loc Cert.RefGmlpOutIdeal.main_arg2) = m' ((c.tc : Thread Cert.RefGmlpOutIdeal.nD Cert.RefGmlpOutIdeal.τ).loc Cert.RefGmlpOutIdeal.main_arg2)
          ∧ r.2.mem ((c.tc : Thread Cert.RefGmlpOutIdeal.nD Cert.RefGmlpOutIdeal.τ).loc Cert.RefGmlpOutIdeal.main_arg3) = m' ((c.tc : Thread Cert.RefGmlpOutIdeal.nD Cert.RefGmlpOutIdeal.τ).loc Cert.RefGmlpOutIdeal.main_arg3))

def preserves_GmlpIn_GmlpInIdeal : Prop :=
  True

def algebraic_GmlpInIdeal_RefGmlpInIdeal [hGmlpInIdeal : Cert.GmlpInIdeal.Facts] [hRefGmlpInIdeal : Cert.RefGmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.RefGmlpInIdeal.nD Cert.RefGmlpInIdeal.τ Cert.RefGmlpInIdeal.sig) → Buf (Elt Ideal) ℓ) (g' : Dev Cert.RefGmlpInIdeal.nD → PrngReg), Pre_GmlpInIdeal m →
    (∀ c : Dev Cert.GmlpInIdeal.nD,
      m' ((c.tc : Thread Cert.RefGmlpInIdeal.nD Cert.RefGmlpInIdeal.τ).loc Cert.RefGmlpInIdeal.main_arg0) = m ((c.tc : Thread Cert.GmlpInIdeal.nD Cert.GmlpInIdeal.τ).loc Cert.GmlpInIdeal.main_arg0)
      ∧ m' ((c.tc : Thread Cert.RefGmlpInIdeal.nD Cert.RefGmlpInIdeal.τ).loc Cert.RefGmlpInIdeal.main_arg1) = m ((c.tc : Thread Cert.GmlpInIdeal.nD Cert.GmlpInIdeal.τ).loc Cert.GmlpInIdeal.main_arg1)) →
    ∃ (v0 : (c : Dev Cert.GmlpInIdeal.nD) → Buf (Elt Ideal) ((c.tc : Thread Cert.GmlpInIdeal.nD Cert.GmlpInIdeal.τ).loc Cert.GmlpInIdeal.main_v4_0)) (v1 : (c : Dev Cert.GmlpInIdeal.nD) → Buf (Elt Ideal) ((c.tc : Thread Cert.GmlpInIdeal.nD Cert.GmlpInIdeal.τ).loc Cert.GmlpInIdeal.main_v4_1)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v4_0) = v0 c
          ∧ r.2.mem ((c.tc : Thread Cert.GmlpInIdeal.nD Cert.GmlpInIdeal.τ).loc Cert.GmlpInIdeal.main_v4_1) = v1 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ θ_run (Cert.RefGmlpInIdeal.defs (F := Ideal)) (onTc (τ := Cert.RefGmlpInIdeal.τ) (Cert.RefGmlpInIdeal.main (F := Ideal))) ⟨m', fun _ => 0, g'⟩ (fun r => ∀ c : Dev Cert.RefGmlpInIdeal.nD,
          r.2.mem ((c.tc : Thread Cert.RefGmlpInIdeal.nD Cert.RefGmlpInIdeal.τ).loc Cert.RefGmlpInIdeal.main_v1) = v0 c
          ∧ r.2.mem ((c.tc : Thread Cert.RefGmlpInIdeal.nD Cert.RefGmlpInIdeal.τ).loc Cert.RefGmlpInIdeal.main_v9) = v1 c
          ∧ r.2.mem ((c.tc : Thread Cert.RefGmlpInIdeal.nD Cert.RefGmlpInIdeal.τ).loc Cert.RefGmlpInIdeal.main_arg0) = m' ((c.tc : Thread Cert.RefGmlpInIdeal.nD Cert.RefGmlpInIdeal.τ).loc Cert.RefGmlpInIdeal.main_arg0)
          ∧ r.2.mem ((c.tc : Thread Cert.RefGmlpInIdeal.nD Cert.RefGmlpInIdeal.τ).loc Cert.RefGmlpInIdeal.main_arg1) = m' ((c.tc : Thread Cert.RefGmlpInIdeal.nD Cert.RefGmlpInIdeal.τ).loc Cert.RefGmlpInIdeal.main_arg1))

def preserves_WoGrad_WoGradIdeal : Prop :=
  True

def algebraic_WoGradIdeal_RefWoGradIdeal [hWoGradIdeal : Cert.WoGradIdeal.Facts] [hRefWoGradIdeal : Cert.RefWoGradIdeal.Facts] : Prop :=
  ∀ (m : (ℓ : Loc Cert.WoGradIdeal.nD Cert.WoGradIdeal.τ Cert.WoGradIdeal.sig) → Buf (Elt Ideal) ℓ) (g : Dev Cert.WoGradIdeal.nD → PrngReg)
    (m' : (ℓ : Loc Cert.RefWoGradIdeal.nD Cert.RefWoGradIdeal.τ Cert.RefWoGradIdeal.sig) → Buf (Elt Ideal) ℓ) (g' : Dev Cert.RefWoGradIdeal.nD → PrngReg), Pre_WoGradIdeal m →
    (∀ c : Dev Cert.WoGradIdeal.nD,
      m' ((c.tc : Thread Cert.RefWoGradIdeal.nD Cert.RefWoGradIdeal.τ).loc Cert.RefWoGradIdeal.main_arg0) = m ((c.tc : Thread Cert.WoGradIdeal.nD Cert.WoGradIdeal.τ).loc Cert.WoGradIdeal.main_arg0)
      ∧ m' ((c.tc : Thread Cert.RefWoGradIdeal.nD Cert.RefWoGradIdeal.τ).loc Cert.RefWoGradIdeal.main_arg1) = m ((c.tc : Thread Cert.WoGradIdeal.nD Cert.WoGradIdeal.τ).loc Cert.WoGradIdeal.main_arg1)
      ∧ m' ((c.tc : Thread Cert.RefWoGradIdeal.nD Cert.RefWoGradIdeal.τ).loc Cert.RefWoGradIdeal.main_arg2) = m ((c.tc : Thread Cert.WoGradIdeal.nD Cert.WoGradIdeal.τ).loc Cert.WoGradIdeal.main_arg2)) →
    ∃ (v0 : (c : Dev Cert.WoGradIdeal.nD) → Buf (Elt Ideal) ((c.tc : Thread Cert.WoGradIdeal.nD Cert.WoGradIdeal.τ).loc Cert.WoGradIdeal.main_v4)),
      θ_run (Cert.WoGradIdeal.defs (F := Ideal)) (onTc (τ := Cert.WoGradIdeal.τ) (Cert.WoGradIdeal.main (F := Ideal))) ⟨m, fun _ => 0, g⟩ (fun r => ∀ c : Dev Cert.WoGradIdeal.nD,
          r.2.mem ((c.tc : Thread Cert.WoGradIdeal.nD Cert.WoGradIdeal.τ).loc Cert.WoGradIdeal.main_v4) = v0 c
          ∧ r.2.mem ((c.tc : Thread Cert.WoGradIdeal.nD Cert.WoGradIdeal.τ).loc Cert.WoGradIdeal.main_arg0) = m ((c.tc : Thread Cert.WoGradIdeal.nD Cert.WoGradIdeal.τ).loc Cert.WoGradIdeal.main_arg0)
          ∧ r.2.mem ((c.tc : Thread Cert.WoGradIdeal.nD Cert.WoGradIdeal.τ).loc Cert.WoGradIdeal.main_arg1) = m ((c.tc : Thread Cert.WoGradIdeal.nD Cert.WoGradIdeal.τ).loc Cert.WoGradIdeal.main_arg1)
          ∧ r.2.mem ((c.tc : Thread Cert.WoGradIdeal.nD Cert.WoGradIdeal.τ).loc Cert.WoGradIdeal.main_arg2) = m ((c.tc : Thread Cert.WoGradIdeal.nD Cert.WoGradIdeal.τ).loc Cert.WoGradIdeal.main_arg2))
      ∧ θ_run (Cert.RefWoGradIdeal.defs (F := Ideal)) (onTc (τ := Cert.RefWoGradIdeal.τ) (Cert.RefWoGradIdeal.main (F := Ideal))) ⟨m', fun _ => 0, g'⟩ (fun r => ∀ c : Dev Cert.RefWoGradIdeal.nD,
          r.2.mem ((c.tc : Thread Cert.RefWoGradIdeal.nD Cert.RefWoGradIdeal.τ).loc Cert.RefWoGradIdeal.main_v8) = v0 c
          ∧ r.2.mem ((c.tc : Thread Cert.RefWoGradIdeal.nD Cert.RefWoGradIdeal.τ).loc Cert.RefWoGradIdeal.main_arg0) = m' ((c.tc : Thread Cert.RefWoGradIdeal.nD Cert.RefWoGradIdeal.τ).loc Cert.RefWoGradIdeal.main_arg0)
          ∧ r.2.mem ((c.tc : Thread Cert.RefWoGradIdeal.nD Cert.RefWoGradIdeal.τ).loc Cert.RefWoGradIdeal.main_arg1) = m' ((c.tc : Thread Cert.RefWoGradIdeal.nD Cert.RefWoGradIdeal.τ).loc Cert.RefWoGradIdeal.main_arg1)
          ∧ r.2.mem ((c.tc : Thread Cert.RefWoGradIdeal.nD Cert.RefWoGradIdeal.τ).loc Cert.RefWoGradIdeal.main_arg2) = m' ((c.tc : Thread Cert.RefWoGradIdeal.nD Cert.RefWoGradIdeal.τ).loc Cert.RefWoGradIdeal.main_arg2))

def preserves_OBwd_OBwdIdeal : Prop :=
  True

def algebraic_OBwdIdeal_RefOBwdIdeal [hOBwdIdeal : Cert.OBwdIdeal.Facts] [hRefOBwdIdeal : Cert.RefOBwdIdeal.Facts] : Prop :=
  ∀ (m : (ℓ : Loc Cert.OBwdIdeal.nD Cert.OBwdIdeal.τ Cert.OBwdIdeal.sig) → Buf (Elt Ideal) ℓ) (g : Dev Cert.OBwdIdeal.nD → PrngReg)
    (m' : (ℓ : Loc Cert.RefOBwdIdeal.nD Cert.RefOBwdIdeal.τ Cert.RefOBwdIdeal.sig) → Buf (Elt Ideal) ℓ) (g' : Dev Cert.RefOBwdIdeal.nD → PrngReg), Pre_OBwdIdeal m →
    (∀ c : Dev Cert.OBwdIdeal.nD,
      m' ((c.tc : Thread Cert.RefOBwdIdeal.nD Cert.RefOBwdIdeal.τ).loc Cert.RefOBwdIdeal.main_arg0) = m ((c.tc : Thread Cert.OBwdIdeal.nD Cert.OBwdIdeal.τ).loc Cert.OBwdIdeal.main_arg0)
      ∧ m' ((c.tc : Thread Cert.RefOBwdIdeal.nD Cert.RefOBwdIdeal.τ).loc Cert.RefOBwdIdeal.main_arg1) = m ((c.tc : Thread Cert.OBwdIdeal.nD Cert.OBwdIdeal.τ).loc Cert.OBwdIdeal.main_arg1)
      ∧ m' ((c.tc : Thread Cert.RefOBwdIdeal.nD Cert.RefOBwdIdeal.τ).loc Cert.RefOBwdIdeal.main_arg2) = m ((c.tc : Thread Cert.OBwdIdeal.nD Cert.OBwdIdeal.τ).loc Cert.OBwdIdeal.main_arg2)) →
    ∃ (v0 : (c : Dev Cert.OBwdIdeal.nD) → Buf (Elt Ideal) ((c.tc : Thread Cert.OBwdIdeal.nD Cert.OBwdIdeal.τ).loc Cert.OBwdIdeal.main_v4)),
      θ_run (Cert.OBwdIdeal.defs (F := Ideal)) (onTc (τ := Cert.OBwdIdeal.τ) (Cert.OBwdIdeal.main (F := Ideal))) ⟨m, fun _ => 0, g⟩ (fun r => ∀ c : Dev Cert.OBwdIdeal.nD,
          r.2.mem ((c.tc : Thread Cert.OBwdIdeal.nD Cert.OBwdIdeal.τ).loc Cert.OBwdIdeal.main_v4) = v0 c
          ∧ r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
          ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1)
          ∧ r.2.mem ((c.tc : Thread Cert.OBwdIdeal.nD Cert.OBwdIdeal.τ).loc Cert.OBwdIdeal.main_arg2) = m ((c.tc : Thread Cert.OBwdIdeal.nD Cert.OBwdIdeal.τ).loc Cert.OBwdIdeal.main_arg2))
      ∧ θ_run (Cert.RefOBwdIdeal.defs (F := Ideal)) (onTc (τ := Cert.RefOBwdIdeal.τ) (Cert.RefOBwdIdeal.main (F := Ideal))) ⟨m', fun _ => 0, g'⟩ (fun r => ∀ c : Dev Cert.RefOBwdIdeal.nD,
          r.2.mem ((c.tc : Thread Cert.RefOBwdIdeal.nD Cert.RefOBwdIdeal.τ).loc Cert.RefOBwdIdeal.main_v7) = v0 c
          ∧ r.2.mem ((c.tc : Thread Cert.RefOBwdIdeal.nD Cert.RefOBwdIdeal.τ).loc Cert.RefOBwdIdeal.main_arg0) = m' ((c.tc : Thread Cert.RefOBwdIdeal.nD Cert.RefOBwdIdeal.τ).loc Cert.RefOBwdIdeal.main_arg0)
          ∧ r.2.mem ((c.tc : Thread Cert.RefOBwdIdeal.nD Cert.RefOBwdIdeal.τ).loc Cert.RefOBwdIdeal.main_arg1) = m' ((c.tc : Thread Cert.RefOBwdIdeal.nD Cert.RefOBwdIdeal.τ).loc Cert.RefOBwdIdeal.main_arg1)
          ∧ r.2.mem ((c.tc : Thread Cert.RefOBwdIdeal.nD Cert.RefOBwdIdeal.τ).loc Cert.RefOBwdIdeal.main_arg2) = m' ((c.tc : Thread Cert.RefOBwdIdeal.nD Cert.RefOBwdIdeal.τ).loc Cert.RefOBwdIdeal.main_arg2))

def preserves_AttnO_AttnOIdeal : Prop :=
  True

def algebraic_AttnOIdeal_RefAttnOIdeal [hAttnOIdeal : Cert.AttnOIdeal.Facts] [hRefAttnOIdeal : Cert.RefAttnOIdeal.Facts] : Prop :=
  ∀ (m : (ℓ : Loc Cert.AttnOIdeal.nD Cert.AttnOIdeal.τ Cert.AttnOIdeal.sig) → Buf (Elt Ideal) ℓ) (g : Dev Cert.AttnOIdeal.nD → PrngReg)
    (m' : (ℓ : Loc Cert.RefAttnOIdeal.nD Cert.RefAttnOIdeal.τ Cert.RefAttnOIdeal.sig) → Buf (Elt Ideal) ℓ) (g' : Dev Cert.RefAttnOIdeal.nD → PrngReg), Pre_AttnOIdeal m →
    (∀ c : Dev Cert.AttnOIdeal.nD,
      m' ((c.tc : Thread Cert.RefAttnOIdeal.nD Cert.RefAttnOIdeal.τ).loc Cert.RefAttnOIdeal.main_arg0) = m ((c.tc : Thread Cert.AttnOIdeal.nD Cert.AttnOIdeal.τ).loc Cert.AttnOIdeal.main_arg0)
      ∧ m' ((c.tc : Thread Cert.RefAttnOIdeal.nD Cert.RefAttnOIdeal.τ).loc Cert.RefAttnOIdeal.main_arg1) = m ((c.tc : Thread Cert.AttnOIdeal.nD Cert.AttnOIdeal.τ).loc Cert.AttnOIdeal.main_arg1)
      ∧ m' ((c.tc : Thread Cert.RefAttnOIdeal.nD Cert.RefAttnOIdeal.τ).loc Cert.RefAttnOIdeal.main_arg2) = m ((c.tc : Thread Cert.AttnOIdeal.nD Cert.AttnOIdeal.τ).loc Cert.AttnOIdeal.main_arg2)
      ∧ m' ((c.tc : Thread Cert.RefAttnOIdeal.nD Cert.RefAttnOIdeal.τ).loc Cert.RefAttnOIdeal.main_arg3) = m ((c.tc : Thread Cert.AttnOIdeal.nD Cert.AttnOIdeal.τ).loc Cert.AttnOIdeal.main_arg3)) →
    ∃ (v0 : (c : Dev Cert.AttnOIdeal.nD) → Buf (Elt Ideal) ((c.tc : Thread Cert.AttnOIdeal.nD Cert.AttnOIdeal.τ).loc Cert.AttnOIdeal.main_v2_0)) (v1 : (c : Dev Cert.AttnOIdeal.nD) → Buf (Elt Ideal) ((c.tc : Thread Cert.AttnOIdeal.nD Cert.AttnOIdeal.τ).loc Cert.AttnOIdeal.main_v2_1)),
      θ_run (Cert.AttnOIdeal.defs (F := Ideal)) (onTc (τ := Cert.AttnOIdeal.τ) (Cert.AttnOIdeal.main (F := Ideal))) ⟨m, fun _ => 0, g⟩ (fun r => ∀ c : Dev Cert.AttnOIdeal.nD,
          r.2.mem ((c.tc : Thread Cert.AttnOIdeal.nD Cert.AttnOIdeal.τ).loc Cert.AttnOIdeal.main_v2_0) = v0 c
          ∧ r.2.mem ((c.tc : Thread Cert.AttnOIdeal.nD Cert.AttnOIdeal.τ).loc Cert.AttnOIdeal.main_v2_1) = v1 c
          ∧ r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
          ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1)
          ∧ r.2.mem ((c.tc : Thread Cert.AttnOIdeal.nD Cert.AttnOIdeal.τ).loc Cert.AttnOIdeal.main_arg2) = m ((c.tc : Thread Cert.AttnOIdeal.nD Cert.AttnOIdeal.τ).loc Cert.AttnOIdeal.main_arg2)
          ∧ r.2.mem ((c.tc : Thread Cert.AttnOIdeal.nD Cert.AttnOIdeal.τ).loc Cert.AttnOIdeal.main_arg3) = m ((c.tc : Thread Cert.AttnOIdeal.nD Cert.AttnOIdeal.τ).loc Cert.AttnOIdeal.main_arg3))
      ∧ θ_run (Cert.RefAttnOIdeal.defs (F := Ideal)) (onTc (τ := Cert.RefAttnOIdeal.τ) (Cert.RefAttnOIdeal.main (F := Ideal))) ⟨m', fun _ => 0, g'⟩ (fun r => ∀ c : Dev Cert.RefAttnOIdeal.nD,
          r.2.mem ((c.tc : Thread Cert.RefAttnOIdeal.nD Cert.RefAttnOIdeal.τ).loc Cert.RefAttnOIdeal.main_v3) = v0 c
          ∧ r.2.mem ((c.tc : Thread Cert.RefAttnOIdeal.nD Cert.RefAttnOIdeal.τ).loc Cert.RefAttnOIdeal.main_v4) = v1 c
          ∧ r.2.mem ((c.tc : Thread Cert.RefAttnOIdeal.nD Cert.RefAttnOIdeal.τ).loc Cert.RefAttnOIdeal.main_arg0) = m' ((c.tc : Thread Cert.RefAttnOIdeal.nD Cert.RefAttnOIdeal.τ).loc Cert.RefAttnOIdeal.main_arg0)
          ∧ r.2.mem ((c.tc : Thread Cert.RefAttnOIdeal.nD Cert.RefAttnOIdeal.τ).loc Cert.RefAttnOIdeal.main_arg1) = m' ((c.tc : Thread Cert.RefAttnOIdeal.nD Cert.RefAttnOIdeal.τ).loc Cert.RefAttnOIdeal.main_arg1)
          ∧ r.2.mem ((c.tc : Thread Cert.RefAttnOIdeal.nD Cert.RefAttnOIdeal.τ).loc Cert.RefAttnOIdeal.main_arg2) = m' ((c.tc : Thread Cert.RefAttnOIdeal.nD Cert.RefAttnOIdeal.τ).loc Cert.RefAttnOIdeal.main_arg2)
          ∧ r.2.mem ((c.tc : Thread Cert.RefAttnOIdeal.nD Cert.RefAttnOIdeal.τ).loc Cert.RefAttnOIdeal.main_arg3) = m' ((c.tc : Thread Cert.RefAttnOIdeal.nD Cert.RefAttnOIdeal.τ).loc Cert.RefAttnOIdeal.main_arg3))

def preserves_WqGrad_WqGradIdeal : Prop :=
  True

def algebraic_WqGradIdeal_RefWqGradIdeal [hWqGradIdeal : Cert.WqGradIdeal.Facts] [hRefWqGradIdeal : Cert.RefWqGradIdeal.Facts] : Prop :=
  ∀ (m : (ℓ : Loc Cert.WqGradIdeal.nD Cert.WqGradIdeal.τ Cert.WqGradIdeal.sig) → Buf (Elt Ideal) ℓ) (g : Dev Cert.WqGradIdeal.nD → PrngReg)
    (m' : (ℓ : Loc Cert.RefWqGradIdeal.nD Cert.RefWqGradIdeal.τ Cert.RefWqGradIdeal.sig) → Buf (Elt Ideal) ℓ) (g' : Dev Cert.RefWqGradIdeal.nD → PrngReg), Pre_WqGradIdeal m →
    (∀ c : Dev Cert.WqGradIdeal.nD,
      m' ((c.tc : Thread Cert.RefWqGradIdeal.nD Cert.RefWqGradIdeal.τ).loc Cert.RefWqGradIdeal.main_arg0) = m ((c.tc : Thread Cert.WqGradIdeal.nD Cert.WqGradIdeal.τ).loc Cert.WqGradIdeal.main_arg0)
      ∧ m' ((c.tc : Thread Cert.RefWqGradIdeal.nD Cert.RefWqGradIdeal.τ).loc Cert.RefWqGradIdeal.main_arg1) = m ((c.tc : Thread Cert.WqGradIdeal.nD Cert.WqGradIdeal.τ).loc Cert.WqGradIdeal.main_arg1)) →
    ∃ (v0 : (c : Dev Cert.WqGradIdeal.nD) → Buf (Elt Ideal) ((c.tc : Thread Cert.WqGradIdeal.nD Cert.WqGradIdeal.τ).loc Cert.WqGradIdeal.main_v2)),
      θ_run (Cert.WqGradIdeal.defs (F := Ideal)) (onTc (τ := Cert.WqGradIdeal.τ) (Cert.WqGradIdeal.main (F := Ideal))) ⟨m, fun _ => 0, g⟩ (fun r => ∀ c : Dev Cert.WqGradIdeal.nD,
          r.2.mem ((c.tc : Thread Cert.WqGradIdeal.nD Cert.WqGradIdeal.τ).loc Cert.WqGradIdeal.main_v2) = v0 c
          ∧ r.2.mem ((c.tc : Thread Cert.WqGradIdeal.nD Cert.WqGradIdeal.τ).loc Cert.WqGradIdeal.main_arg0) = m ((c.tc : Thread Cert.WqGradIdeal.nD Cert.WqGradIdeal.τ).loc Cert.WqGradIdeal.main_arg0)
          ∧ r.2.mem ((c.tc : Thread Cert.WqGradIdeal.nD Cert.WqGradIdeal.τ).loc Cert.WqGradIdeal.main_arg1) = m ((c.tc : Thread Cert.WqGradIdeal.nD Cert.WqGradIdeal.τ).loc Cert.WqGradIdeal.main_arg1))
      ∧ θ_run (Cert.RefWqGradIdeal.defs (F := Ideal)) (onTc (τ := Cert.RefWqGradIdeal.τ) (Cert.RefWqGradIdeal.main (F := Ideal))) ⟨m', fun _ => 0, g'⟩ (fun r => ∀ c : Dev Cert.RefWqGradIdeal.nD,
          r.2.mem ((c.tc : Thread Cert.RefWqGradIdeal.nD Cert.RefWqGradIdeal.τ).loc Cert.RefWqGradIdeal.main_v4) = v0 c
          ∧ r.2.mem ((c.tc : Thread Cert.RefWqGradIdeal.nD Cert.RefWqGradIdeal.τ).loc Cert.RefWqGradIdeal.main_arg0) = m' ((c.tc : Thread Cert.RefWqGradIdeal.nD Cert.RefWqGradIdeal.τ).loc Cert.RefWqGradIdeal.main_arg0)
          ∧ r.2.mem ((c.tc : Thread Cert.RefWqGradIdeal.nD Cert.RefWqGradIdeal.τ).loc Cert.RefWqGradIdeal.main_arg1) = m' ((c.tc : Thread Cert.RefWqGradIdeal.nD Cert.RefWqGradIdeal.τ).loc Cert.RefWqGradIdeal.main_arg1))

def preserves_QBwd_QBwdIdeal : Prop :=
  True

def algebraic_QBwdIdeal_RefQBwdIdeal [hQBwdIdeal : Cert.QBwdIdeal.Facts] [hRefQBwdIdeal : Cert.RefQBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.RefQBwdIdeal.nD Cert.RefQBwdIdeal.τ Cert.RefQBwdIdeal.sig) → Buf (Elt Ideal) ℓ) (g' : Dev Cert.RefQBwdIdeal.nD → PrngReg), Pre_QBwdIdeal m →
    (∀ c : Dev Cert.QBwdIdeal.nD,
      m' ((c.tc : Thread Cert.RefQBwdIdeal.nD Cert.RefQBwdIdeal.τ).loc Cert.RefQBwdIdeal.main_arg0) = m ((c.tc : Thread Cert.QBwdIdeal.nD Cert.QBwdIdeal.τ).loc Cert.QBwdIdeal.main_arg0)
      ∧ m' ((c.tc : Thread Cert.RefQBwdIdeal.nD Cert.RefQBwdIdeal.τ).loc Cert.RefQBwdIdeal.main_arg1) = m ((c.tc : Thread Cert.QBwdIdeal.nD Cert.QBwdIdeal.τ).loc Cert.QBwdIdeal.main_arg1)) →
    ∃ (v0 : (c : Dev Cert.QBwdIdeal.nD) → Buf (Elt Ideal) ((c.tc : Thread Cert.QBwdIdeal.nD Cert.QBwdIdeal.τ).loc Cert.QBwdIdeal.main_v2)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v2) = v0 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1))
      ∧ θ_run (Cert.RefQBwdIdeal.defs (F := Ideal)) (onTc (τ := Cert.RefQBwdIdeal.τ) (Cert.RefQBwdIdeal.main (F := Ideal))) ⟨m', fun _ => 0, g'⟩ (fun r => ∀ c : Dev Cert.RefQBwdIdeal.nD,
          r.2.mem ((c.tc : Thread Cert.RefQBwdIdeal.nD Cert.RefQBwdIdeal.τ).loc Cert.RefQBwdIdeal.main_v3) = v0 c
          ∧ r.2.mem ((c.tc : Thread Cert.RefQBwdIdeal.nD Cert.RefQBwdIdeal.τ).loc Cert.RefQBwdIdeal.main_arg0) = m' ((c.tc : Thread Cert.RefQBwdIdeal.nD Cert.RefQBwdIdeal.τ).loc Cert.RefQBwdIdeal.main_arg0)
          ∧ r.2.mem ((c.tc : Thread Cert.RefQBwdIdeal.nD Cert.RefQBwdIdeal.τ).loc Cert.RefQBwdIdeal.main_arg1) = m' ((c.tc : Thread Cert.RefQBwdIdeal.nD Cert.RefQBwdIdeal.τ).loc Cert.RefQBwdIdeal.main_arg1))

def preserves_KvGrad_KvGradIdeal : Prop :=
  True

def algebraic_KvGradIdeal_RefKvGradIdeal [hKvGradIdeal : Cert.KvGradIdeal.Facts] [hRefKvGradIdeal : Cert.RefKvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg)
    (m' : (ℓ : Loc Cert.RefKvGradIdeal.nD Cert.RefKvGradIdeal.τ Cert.RefKvGradIdeal.sig) → Buf (Elt Ideal) ℓ) (g' : Dev Cert.RefKvGradIdeal.nD → PrngReg), Pre_KvGradIdeal m →
    (∀ c : Dev Cert.KvGradIdeal.nD,
      m' ((c.tc : Thread Cert.RefKvGradIdeal.nD Cert.RefKvGradIdeal.τ).loc Cert.RefKvGradIdeal.main_arg0) = m ((c.tc : Thread Cert.KvGradIdeal.nD Cert.KvGradIdeal.τ).loc Cert.KvGradIdeal.main_arg0)
      ∧ m' ((c.tc : Thread Cert.RefKvGradIdeal.nD Cert.RefKvGradIdeal.τ).loc Cert.RefKvGradIdeal.main_arg1) = m ((c.tc : Thread Cert.KvGradIdeal.nD Cert.KvGradIdeal.τ).loc Cert.KvGradIdeal.main_arg1)) →
    ∃ (v0 : (c : Dev Cert.KvGradIdeal.nD) → Buf (Elt Ideal) ((c.tc : Thread Cert.KvGradIdeal.nD Cert.KvGradIdeal.τ).loc Cert.KvGradIdeal.main_v2)),
      θ_run (Cert.KvGradIdeal.defs (F := Ideal)) (onTc (τ := Cert.KvGradIdeal.τ) (Cert.KvGradIdeal.main (F := Ideal))) ⟨m, fun _ => 0, g⟩ (fun r => ∀ c : Dev Cert.KvGradIdeal.nD,
          r.2.mem ((c.tc : Thread Cert.KvGradIdeal.nD Cert.KvGradIdeal.τ).loc Cert.KvGradIdeal.main_v2) = v0 c
          ∧ r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ θ_run (Cert.RefKvGradIdeal.defs (F := Ideal)) (onTc (τ := Cert.RefKvGradIdeal.τ) (Cert.RefKvGradIdeal.main (F := Ideal))) ⟨m', fun _ => 0, g'⟩ (fun r => ∀ c : Dev Cert.RefKvGradIdeal.nD,
          r.2.mem ((c.tc : Thread Cert.RefKvGradIdeal.nD Cert.RefKvGradIdeal.τ).loc Cert.RefKvGradIdeal.main_v6) = v0 c
          ∧ r.2.mem ((c.tc : Thread Cert.RefKvGradIdeal.nD Cert.RefKvGradIdeal.τ).loc Cert.RefKvGradIdeal.main_arg0) = m' ((c.tc : Thread Cert.RefKvGradIdeal.nD Cert.RefKvGradIdeal.τ).loc Cert.RefKvGradIdeal.main_arg0)
          ∧ r.2.mem ((c.tc : Thread Cert.RefKvGradIdeal.nD Cert.RefKvGradIdeal.τ).loc Cert.RefKvGradIdeal.main_arg1) = m' ((c.tc : Thread Cert.RefKvGradIdeal.nD Cert.RefKvGradIdeal.τ).loc Cert.RefKvGradIdeal.main_arg1))

def preserves_KvBwd_KvBwdIdeal : Prop :=
  True

def algebraic_KvBwdIdeal_RefKvBwdIdeal [hKvBwdIdeal : Cert.KvBwdIdeal.Facts] [hRefKvBwdIdeal : Cert.RefKvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.RefKvBwdIdeal.nD Cert.RefKvBwdIdeal.τ Cert.RefKvBwdIdeal.sig) → Buf (Elt Ideal) ℓ) (g' : Dev Cert.RefKvBwdIdeal.nD → PrngReg), Pre_KvBwdIdeal m →
    (∀ c : Dev Cert.KvBwdIdeal.nD,
      m' ((c.tc : Thread Cert.RefKvBwdIdeal.nD Cert.RefKvBwdIdeal.τ).loc Cert.RefKvBwdIdeal.main_arg0) = m ((c.tc : Thread Cert.KvBwdIdeal.nD Cert.KvBwdIdeal.τ).loc Cert.KvBwdIdeal.main_arg0)
      ∧ m' ((c.tc : Thread Cert.RefKvBwdIdeal.nD Cert.RefKvBwdIdeal.τ).loc Cert.RefKvBwdIdeal.main_arg1) = m ((c.tc : Thread Cert.KvBwdIdeal.nD Cert.KvBwdIdeal.τ).loc Cert.KvBwdIdeal.main_arg1)
      ∧ m' ((c.tc : Thread Cert.RefKvBwdIdeal.nD Cert.RefKvBwdIdeal.τ).loc Cert.RefKvBwdIdeal.main_arg2) = m ((c.tc : Thread Cert.KvBwdIdeal.nD Cert.KvBwdIdeal.τ).loc Cert.KvBwdIdeal.main_arg2)) →
    ∃ (v0 : (c : Dev Cert.KvBwdIdeal.nD) → Buf (Elt Ideal) ((c.tc : Thread Cert.KvBwdIdeal.nD Cert.KvBwdIdeal.τ).loc Cert.KvBwdIdeal.main_v5)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v5) = v0 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2))
      ∧ θ_run (Cert.RefKvBwdIdeal.defs (F := Ideal)) (onTc (τ := Cert.RefKvBwdIdeal.τ) (Cert.RefKvBwdIdeal.main (F := Ideal))) ⟨m', fun _ => 0, g'⟩ (fun r => ∀ c : Dev Cert.RefKvBwdIdeal.nD,
          r.2.mem ((c.tc : Thread Cert.RefKvBwdIdeal.nD Cert.RefKvBwdIdeal.τ).loc Cert.RefKvBwdIdeal.main_v4) = v0 c
          ∧ r.2.mem ((c.tc : Thread Cert.RefKvBwdIdeal.nD Cert.RefKvBwdIdeal.τ).loc Cert.RefKvBwdIdeal.main_arg0) = m' ((c.tc : Thread Cert.RefKvBwdIdeal.nD Cert.RefKvBwdIdeal.τ).loc Cert.RefKvBwdIdeal.main_arg0)
          ∧ r.2.mem ((c.tc : Thread Cert.RefKvBwdIdeal.nD Cert.RefKvBwdIdeal.τ).loc Cert.RefKvBwdIdeal.main_arg1) = m' ((c.tc : Thread Cert.RefKvBwdIdeal.nD Cert.RefKvBwdIdeal.τ).loc Cert.RefKvBwdIdeal.main_arg1)
          ∧ r.2.mem ((c.tc : Thread Cert.RefKvBwdIdeal.nD Cert.RefKvBwdIdeal.τ).loc Cert.RefKvBwdIdeal.main_arg2) = m' ((c.tc : Thread Cert.RefKvBwdIdeal.nD Cert.RefKvBwdIdeal.τ).loc Cert.RefKvBwdIdeal.main_arg2))

def preserves_KvV_KvVIdeal : Prop :=
  True

def algebraic_KvVIdeal_RefKvVIdeal [hKvVIdeal : Cert.KvVIdeal.Facts] [hRefKvVIdeal : Cert.RefKvVIdeal.Facts] : Prop :=
  ∀ (m : (ℓ : Loc Cert.KvVIdeal.nD Cert.KvVIdeal.τ Cert.KvVIdeal.sig) → Buf (Elt Ideal) ℓ) (g : Dev Cert.KvVIdeal.nD → PrngReg)
    (m' : (ℓ : Loc Cert.RefKvVIdeal.nD Cert.RefKvVIdeal.τ Cert.RefKvVIdeal.sig) → Buf (Elt Ideal) ℓ) (g' : Dev Cert.RefKvVIdeal.nD → PrngReg), Pre_KvVIdeal m →
    (∀ c : Dev Cert.KvVIdeal.nD,
      m' ((c.tc : Thread Cert.RefKvVIdeal.nD Cert.RefKvVIdeal.τ).loc Cert.RefKvVIdeal.main_arg0) = m ((c.tc : Thread Cert.KvVIdeal.nD Cert.KvVIdeal.τ).loc Cert.KvVIdeal.main_arg0)
      ∧ m' ((c.tc : Thread Cert.RefKvVIdeal.nD Cert.RefKvVIdeal.τ).loc Cert.RefKvVIdeal.main_arg1) = m ((c.tc : Thread Cert.KvVIdeal.nD Cert.KvVIdeal.τ).loc Cert.KvVIdeal.main_arg1)) →
    ∃ (v0 : (c : Dev Cert.KvVIdeal.nD) → Buf (Elt Ideal) ((c.tc : Thread Cert.KvVIdeal.nD Cert.KvVIdeal.τ).loc Cert.KvVIdeal.main_v5)),
      θ_run (Cert.KvVIdeal.defs (F := Ideal)) (onTc (τ := Cert.KvVIdeal.τ) (Cert.KvVIdeal.main (F := Ideal))) ⟨m, fun _ => 0, g⟩ (fun r => ∀ c : Dev Cert.KvVIdeal.nD,
          r.2.mem ((c.tc : Thread Cert.KvVIdeal.nD Cert.KvVIdeal.τ).loc Cert.KvVIdeal.main_v5) = v0 c
          ∧ r.2.mem ((c.tc : Thread Cert.KvVIdeal.nD Cert.KvVIdeal.τ).loc Cert.KvVIdeal.main_arg0) = m ((c.tc : Thread Cert.KvVIdeal.nD Cert.KvVIdeal.τ).loc Cert.KvVIdeal.main_arg0)
          ∧ r.2.mem ((c.tc : Thread Cert.KvVIdeal.nD Cert.KvVIdeal.τ).loc Cert.KvVIdeal.main_arg1) = m ((c.tc : Thread Cert.KvVIdeal.nD Cert.KvVIdeal.τ).loc Cert.KvVIdeal.main_arg1))
      ∧ θ_run (Cert.RefKvVIdeal.defs (F := Ideal)) (onTc (τ := Cert.RefKvVIdeal.τ) (Cert.RefKvVIdeal.main (F := Ideal))) ⟨m', fun _ => 0, g'⟩ (fun r => ∀ c : Dev Cert.RefKvVIdeal.nD,
          r.2.mem ((c.tc : Thread Cert.RefKvVIdeal.nD Cert.RefKvVIdeal.τ).loc Cert.RefKvVIdeal.main_v3) = v0 c
          ∧ r.2.mem ((c.tc : Thread Cert.RefKvVIdeal.nD Cert.RefKvVIdeal.τ).loc Cert.RefKvVIdeal.main_arg0) = m' ((c.tc : Thread Cert.RefKvVIdeal.nD Cert.RefKvVIdeal.τ).loc Cert.RefKvVIdeal.main_arg0)
          ∧ r.2.mem ((c.tc : Thread Cert.RefKvVIdeal.nD Cert.RefKvVIdeal.τ).loc Cert.RefKvVIdeal.main_arg1) = m' ((c.tc : Thread Cert.RefKvVIdeal.nD Cert.RefKvVIdeal.τ).loc Cert.RefKvVIdeal.main_arg1))

def preserves_AdamBig1_AdamBig1Ideal : Prop :=
  True

def algebraic_AdamBig1Ideal_RefAdamBig1Ideal [hAdamBig1Ideal : Cert.AdamBig1Ideal.Facts] [hRefAdamBig1Ideal : Cert.RefAdamBig1Ideal.Facts] : Prop :=
  ∀ (m : (ℓ : Loc Cert.AdamBig1Ideal.nD Cert.AdamBig1Ideal.τ Cert.AdamBig1Ideal.sig) → Buf (Elt Ideal) ℓ) (g : Dev Cert.AdamBig1Ideal.nD → PrngReg)
    (m' : (ℓ : Loc Cert.RefAdamBig1Ideal.nD Cert.RefAdamBig1Ideal.τ Cert.RefAdamBig1Ideal.sig) → Buf (Elt Ideal) ℓ) (g' : Dev Cert.RefAdamBig1Ideal.nD → PrngReg), Pre_AdamBig1Ideal m →
    (∀ c : Dev Cert.AdamBig1Ideal.nD,
      m' ((c.tc : Thread Cert.RefAdamBig1Ideal.nD Cert.RefAdamBig1Ideal.τ).loc Cert.RefAdamBig1Ideal.main_arg0) = m ((c.tc : Thread Cert.AdamBig1Ideal.nD Cert.AdamBig1Ideal.τ).loc Cert.AdamBig1Ideal.main_arg0)
      ∧ m' ((c.tc : Thread Cert.RefAdamBig1Ideal.nD Cert.RefAdamBig1Ideal.τ).loc Cert.RefAdamBig1Ideal.main_arg1) = m ((c.tc : Thread Cert.AdamBig1Ideal.nD Cert.AdamBig1Ideal.τ).loc Cert.AdamBig1Ideal.main_arg1)
      ∧ m' ((c.tc : Thread Cert.RefAdamBig1Ideal.nD Cert.RefAdamBig1Ideal.τ).loc Cert.RefAdamBig1Ideal.main_arg2) = m ((c.tc : Thread Cert.AdamBig1Ideal.nD Cert.AdamBig1Ideal.τ).loc Cert.AdamBig1Ideal.main_arg2)
      ∧ m' ((c.tc : Thread Cert.RefAdamBig1Ideal.nD Cert.RefAdamBig1Ideal.τ).loc Cert.RefAdamBig1Ideal.main_arg3) = m ((c.tc : Thread Cert.AdamBig1Ideal.nD Cert.AdamBig1Ideal.τ).loc Cert.AdamBig1Ideal.main_arg3)) →
    ∃ (v0 : (c : Dev Cert.AdamBig1Ideal.nD) → Buf (Elt Ideal) ((c.tc : Thread Cert.AdamBig1Ideal.nD Cert.AdamBig1Ideal.τ).loc Cert.AdamBig1Ideal.main_v4_0)) (v1 : (c : Dev Cert.AdamBig1Ideal.nD) → Buf (Elt Ideal) ((c.tc : Thread Cert.AdamBig1Ideal.nD Cert.AdamBig1Ideal.τ).loc Cert.AdamBig1Ideal.main_v4_1)) (v2 : (c : Dev Cert.AdamBig1Ideal.nD) → Buf (Elt Ideal) ((c.tc : Thread Cert.AdamBig1Ideal.nD Cert.AdamBig1Ideal.τ).loc Cert.AdamBig1Ideal.main_v4_2)) (v3 : (c : Dev Cert.AdamBig1Ideal.nD) → Buf (Elt Ideal) ((c.tc : Thread Cert.AdamBig1Ideal.nD Cert.AdamBig1Ideal.τ).loc Cert.AdamBig1Ideal.main_v4_3)),
      θ_run (Cert.AdamBig1Ideal.defs (F := Ideal)) (onTc (τ := Cert.AdamBig1Ideal.τ) (Cert.AdamBig1Ideal.main (F := Ideal))) ⟨m, fun _ => 0, g⟩ (fun r => ∀ c : Dev Cert.AdamBig1Ideal.nD,
          r.2.mem ((c.tc : Thread Cert.AdamBig1Ideal.nD Cert.AdamBig1Ideal.τ).loc Cert.AdamBig1Ideal.main_v4_0) = v0 c
          ∧ r.2.mem ((c.tc : Thread Cert.AdamBig1Ideal.nD Cert.AdamBig1Ideal.τ).loc Cert.AdamBig1Ideal.main_v4_1) = v1 c
          ∧ r.2.mem ((c.tc : Thread Cert.AdamBig1Ideal.nD Cert.AdamBig1Ideal.τ).loc Cert.AdamBig1Ideal.main_v4_2) = v2 c
          ∧ r.2.mem ((c.tc : Thread Cert.AdamBig1Ideal.nD Cert.AdamBig1Ideal.τ).loc Cert.AdamBig1Ideal.main_v4_3) = v3 c
          ∧ r.2.mem ((c.tc : Thread Cert.AdamBig1Ideal.nD Cert.AdamBig1Ideal.τ).loc Cert.AdamBig1Ideal.main_arg0) = m ((c.tc : Thread Cert.AdamBig1Ideal.nD Cert.AdamBig1Ideal.τ).loc Cert.AdamBig1Ideal.main_arg0)
          ∧ r.2.mem ((c.tc : Thread Cert.AdamBig1Ideal.nD Cert.AdamBig1Ideal.τ).loc Cert.AdamBig1Ideal.main_arg1) = m ((c.tc : Thread Cert.AdamBig1Ideal.nD Cert.AdamBig1Ideal.τ).loc Cert.AdamBig1Ideal.main_arg1)
          ∧ r.2.mem ((c.tc : Thread Cert.AdamBig1Ideal.nD Cert.AdamBig1Ideal.τ).loc Cert.AdamBig1Ideal.main_arg2) = m ((c.tc : Thread Cert.AdamBig1Ideal.nD Cert.AdamBig1Ideal.τ).loc Cert.AdamBig1Ideal.main_arg2)
          ∧ r.2.mem ((c.tc : Thread Cert.AdamBig1Ideal.nD Cert.AdamBig1Ideal.τ).loc Cert.AdamBig1Ideal.main_arg3) = m ((c.tc : Thread Cert.AdamBig1Ideal.nD Cert.AdamBig1Ideal.τ).loc Cert.AdamBig1Ideal.main_arg3))
      ∧ θ_run (Cert.RefAdamBig1Ideal.defs (F := Ideal)) (onTc (τ := Cert.RefAdamBig1Ideal.τ) (Cert.RefAdamBig1Ideal.main (F := Ideal))) ⟨m', fun _ => 0, g'⟩ (fun r => ∀ c : Dev Cert.RefAdamBig1Ideal.nD,
          r.2.mem ((c.tc : Thread Cert.RefAdamBig1Ideal.nD Cert.RefAdamBig1Ideal.τ).loc Cert.RefAdamBig1Ideal.main_v27) = v0 c
          ∧ r.2.mem ((c.tc : Thread Cert.RefAdamBig1Ideal.nD Cert.RefAdamBig1Ideal.τ).loc Cert.RefAdamBig1Ideal.main_v8) = v1 c
          ∧ r.2.mem ((c.tc : Thread Cert.RefAdamBig1Ideal.nD Cert.RefAdamBig1Ideal.τ).loc Cert.RefAdamBig1Ideal.main_v14) = v2 c
          ∧ r.2.mem ((c.tc : Thread Cert.RefAdamBig1Ideal.nD Cert.RefAdamBig1Ideal.τ).loc Cert.RefAdamBig1Ideal.main_v1) = v3 c
          ∧ r.2.mem ((c.tc : Thread Cert.RefAdamBig1Ideal.nD Cert.RefAdamBig1Ideal.τ).loc Cert.RefAdamBig1Ideal.main_arg0) = m' ((c.tc : Thread Cert.RefAdamBig1Ideal.nD Cert.RefAdamBig1Ideal.τ).loc Cert.RefAdamBig1Ideal.main_arg0)
          ∧ r.2.mem ((c.tc : Thread Cert.RefAdamBig1Ideal.nD Cert.RefAdamBig1Ideal.τ).loc Cert.RefAdamBig1Ideal.main_arg1) = m' ((c.tc : Thread Cert.RefAdamBig1Ideal.nD Cert.RefAdamBig1Ideal.τ).loc Cert.RefAdamBig1Ideal.main_arg1)
          ∧ r.2.mem ((c.tc : Thread Cert.RefAdamBig1Ideal.nD Cert.RefAdamBig1Ideal.τ).loc Cert.RefAdamBig1Ideal.main_arg2) = m' ((c.tc : Thread Cert.RefAdamBig1Ideal.nD Cert.RefAdamBig1Ideal.τ).loc Cert.RefAdamBig1Ideal.main_arg2)
          ∧ r.2.mem ((c.tc : Thread Cert.RefAdamBig1Ideal.nD Cert.RefAdamBig1Ideal.τ).loc Cert.RefAdamBig1Ideal.main_arg3) = m' ((c.tc : Thread Cert.RefAdamBig1Ideal.nD Cert.RefAdamBig1Ideal.τ).loc Cert.RefAdamBig1Ideal.main_arg3))

def preserves_AdamBig2_AdamBig2Ideal : Prop :=
  True

def algebraic_AdamBig2Ideal_RefAdamBig2Ideal [hAdamBig2Ideal : Cert.AdamBig2Ideal.Facts] [hRefAdamBig2Ideal : Cert.RefAdamBig2Ideal.Facts] : Prop :=
  ∀ (m : (ℓ : Loc Cert.AdamBig2Ideal.nD Cert.AdamBig2Ideal.τ Cert.AdamBig2Ideal.sig) → Buf (Elt Ideal) ℓ) (g : Dev Cert.AdamBig2Ideal.nD → PrngReg)
    (m' : (ℓ : Loc Cert.RefAdamBig2Ideal.nD Cert.RefAdamBig2Ideal.τ Cert.RefAdamBig2Ideal.sig) → Buf (Elt Ideal) ℓ) (g' : Dev Cert.RefAdamBig2Ideal.nD → PrngReg), Pre_AdamBig2Ideal m →
    (∀ c : Dev Cert.AdamBig2Ideal.nD,
      m' ((c.tc : Thread Cert.RefAdamBig2Ideal.nD Cert.RefAdamBig2Ideal.τ).loc Cert.RefAdamBig2Ideal.main_arg0) = m ((c.tc : Thread Cert.AdamBig2Ideal.nD Cert.AdamBig2Ideal.τ).loc Cert.AdamBig2Ideal.main_arg0)
      ∧ m' ((c.tc : Thread Cert.RefAdamBig2Ideal.nD Cert.RefAdamBig2Ideal.τ).loc Cert.RefAdamBig2Ideal.main_arg1) = m ((c.tc : Thread Cert.AdamBig2Ideal.nD Cert.AdamBig2Ideal.τ).loc Cert.AdamBig2Ideal.main_arg1)
      ∧ m' ((c.tc : Thread Cert.RefAdamBig2Ideal.nD Cert.RefAdamBig2Ideal.τ).loc Cert.RefAdamBig2Ideal.main_arg2) = m ((c.tc : Thread Cert.AdamBig2Ideal.nD Cert.AdamBig2Ideal.τ).loc Cert.AdamBig2Ideal.main_arg2)
      ∧ m' ((c.tc : Thread Cert.RefAdamBig2Ideal.nD Cert.RefAdamBig2Ideal.τ).loc Cert.RefAdamBig2Ideal.main_arg3) = m ((c.tc : Thread Cert.AdamBig2Ideal.nD Cert.AdamBig2Ideal.τ).loc Cert.AdamBig2Ideal.main_arg3)) →
    ∃ (v0 : (c : Dev Cert.AdamBig2Ideal.nD) → Buf (Elt Ideal) ((c.tc : Thread Cert.AdamBig2Ideal.nD Cert.AdamBig2Ideal.τ).loc Cert.AdamBig2Ideal.main_v4_0)) (v1 : (c : Dev Cert.AdamBig2Ideal.nD) → Buf (Elt Ideal) ((c.tc : Thread Cert.AdamBig2Ideal.nD Cert.AdamBig2Ideal.τ).loc Cert.AdamBig2Ideal.main_v4_1)) (v2 : (c : Dev Cert.AdamBig2Ideal.nD) → Buf (Elt Ideal) ((c.tc : Thread Cert.AdamBig2Ideal.nD Cert.AdamBig2Ideal.τ).loc Cert.AdamBig2Ideal.main_v4_2)) (v3 : (c : Dev Cert.AdamBig2Ideal.nD) → Buf (Elt Ideal) ((c.tc : Thread Cert.AdamBig2Ideal.nD Cert.AdamBig2Ideal.τ).loc Cert.AdamBig2Ideal.main_v4_3)),
      θ_run (Cert.AdamBig2Ideal.defs (F := Ideal)) (onTc (τ := Cert.AdamBig2Ideal.τ) (Cert.AdamBig2Ideal.main (F := Ideal))) ⟨m, fun _ => 0, g⟩ (fun r => ∀ c : Dev Cert.AdamBig2Ideal.nD,
          r.2.mem ((c.tc : Thread Cert.AdamBig2Ideal.nD Cert.AdamBig2Ideal.τ).loc Cert.AdamBig2Ideal.main_v4_0) = v0 c
          ∧ r.2.mem ((c.tc : Thread Cert.AdamBig2Ideal.nD Cert.AdamBig2Ideal.τ).loc Cert.AdamBig2Ideal.main_v4_1) = v1 c
          ∧ r.2.mem ((c.tc : Thread Cert.AdamBig2Ideal.nD Cert.AdamBig2Ideal.τ).loc Cert.AdamBig2Ideal.main_v4_2) = v2 c
          ∧ r.2.mem ((c.tc : Thread Cert.AdamBig2Ideal.nD Cert.AdamBig2Ideal.τ).loc Cert.AdamBig2Ideal.main_v4_3) = v3 c
          ∧ r.2.mem ((c.tc : Thread Cert.AdamBig2Ideal.nD Cert.AdamBig2Ideal.τ).loc Cert.AdamBig2Ideal.main_arg0) = m ((c.tc : Thread Cert.AdamBig2Ideal.nD Cert.AdamBig2Ideal.τ).loc Cert.AdamBig2Ideal.main_arg0)
          ∧ r.2.mem ((c.tc : Thread Cert.AdamBig2Ideal.nD Cert.AdamBig2Ideal.τ).loc Cert.AdamBig2Ideal.main_arg1) = m ((c.tc : Thread Cert.AdamBig2Ideal.nD Cert.AdamBig2Ideal.τ).loc Cert.AdamBig2Ideal.main_arg1)
          ∧ r.2.mem ((c.tc : Thread Cert.AdamBig2Ideal.nD Cert.AdamBig2Ideal.τ).loc Cert.AdamBig2Ideal.main_arg2) = m ((c.tc : Thread Cert.AdamBig2Ideal.nD Cert.AdamBig2Ideal.τ).loc Cert.AdamBig2Ideal.main_arg2)
          ∧ r.2.mem ((c.tc : Thread Cert.AdamBig2Ideal.nD Cert.AdamBig2Ideal.τ).loc Cert.AdamBig2Ideal.main_arg3) = m ((c.tc : Thread Cert.AdamBig2Ideal.nD Cert.AdamBig2Ideal.τ).loc Cert.AdamBig2Ideal.main_arg3))
      ∧ θ_run (Cert.RefAdamBig2Ideal.defs (F := Ideal)) (onTc (τ := Cert.RefAdamBig2Ideal.τ) (Cert.RefAdamBig2Ideal.main (F := Ideal))) ⟨m', fun _ => 0, g'⟩ (fun r => ∀ c : Dev Cert.RefAdamBig2Ideal.nD,
          r.2.mem ((c.tc : Thread Cert.RefAdamBig2Ideal.nD Cert.RefAdamBig2Ideal.τ).loc Cert.RefAdamBig2Ideal.main_v27) = v0 c
          ∧ r.2.mem ((c.tc : Thread Cert.RefAdamBig2Ideal.nD Cert.RefAdamBig2Ideal.τ).loc Cert.RefAdamBig2Ideal.main_v8) = v1 c
          ∧ r.2.mem ((c.tc : Thread Cert.RefAdamBig2Ideal.nD Cert.RefAdamBig2Ideal.τ).loc Cert.RefAdamBig2Ideal.main_v14) = v2 c
          ∧ r.2.mem ((c.tc : Thread Cert.RefAdamBig2Ideal.nD Cert.RefAdamBig2Ideal.τ).loc Cert.RefAdamBig2Ideal.main_v1) = v3 c
          ∧ r.2.mem ((c.tc : Thread Cert.RefAdamBig2Ideal.nD Cert.RefAdamBig2Ideal.τ).loc Cert.RefAdamBig2Ideal.main_arg0) = m' ((c.tc : Thread Cert.RefAdamBig2Ideal.nD Cert.RefAdamBig2Ideal.τ).loc Cert.RefAdamBig2Ideal.main_arg0)
          ∧ r.2.mem ((c.tc : Thread Cert.RefAdamBig2Ideal.nD Cert.RefAdamBig2Ideal.τ).loc Cert.RefAdamBig2Ideal.main_arg1) = m' ((c.tc : Thread Cert.RefAdamBig2Ideal.nD Cert.RefAdamBig2Ideal.τ).loc Cert.RefAdamBig2Ideal.main_arg1)
          ∧ r.2.mem ((c.tc : Thread Cert.RefAdamBig2Ideal.nD Cert.RefAdamBig2Ideal.τ).loc Cert.RefAdamBig2Ideal.main_arg2) = m' ((c.tc : Thread Cert.RefAdamBig2Ideal.nD Cert.RefAdamBig2Ideal.τ).loc Cert.RefAdamBig2Ideal.main_arg2)
          ∧ r.2.mem ((c.tc : Thread Cert.RefAdamBig2Ideal.nD Cert.RefAdamBig2Ideal.τ).loc Cert.RefAdamBig2Ideal.main_arg3) = m' ((c.tc : Thread Cert.RefAdamBig2Ideal.nD Cert.RefAdamBig2Ideal.τ).loc Cert.RefAdamBig2Ideal.main_arg3))

def preserves_AdamBig3_AdamBig3Ideal : Prop :=
  True

def algebraic_AdamBig3Ideal_RefAdamBig3Ideal [hAdamBig3Ideal : Cert.AdamBig3Ideal.Facts] [hRefAdamBig3Ideal : Cert.RefAdamBig3Ideal.Facts] : Prop :=
  ∀ (m : (ℓ : Loc Cert.AdamBig3Ideal.nD Cert.AdamBig3Ideal.τ Cert.AdamBig3Ideal.sig) → Buf (Elt Ideal) ℓ) (g : Dev Cert.AdamBig3Ideal.nD → PrngReg)
    (m' : (ℓ : Loc Cert.RefAdamBig3Ideal.nD Cert.RefAdamBig3Ideal.τ Cert.RefAdamBig3Ideal.sig) → Buf (Elt Ideal) ℓ) (g' : Dev Cert.RefAdamBig3Ideal.nD → PrngReg), Pre_AdamBig3Ideal m →
    (∀ c : Dev Cert.AdamBig3Ideal.nD,
      m' ((c.tc : Thread Cert.RefAdamBig3Ideal.nD Cert.RefAdamBig3Ideal.τ).loc Cert.RefAdamBig3Ideal.main_arg0) = m ((c.tc : Thread Cert.AdamBig3Ideal.nD Cert.AdamBig3Ideal.τ).loc Cert.AdamBig3Ideal.main_arg0)
      ∧ m' ((c.tc : Thread Cert.RefAdamBig3Ideal.nD Cert.RefAdamBig3Ideal.τ).loc Cert.RefAdamBig3Ideal.main_arg1) = m ((c.tc : Thread Cert.AdamBig3Ideal.nD Cert.AdamBig3Ideal.τ).loc Cert.AdamBig3Ideal.main_arg1)
      ∧ m' ((c.tc : Thread Cert.RefAdamBig3Ideal.nD Cert.RefAdamBig3Ideal.τ).loc Cert.RefAdamBig3Ideal.main_arg2) = m ((c.tc : Thread Cert.AdamBig3Ideal.nD Cert.AdamBig3Ideal.τ).loc Cert.AdamBig3Ideal.main_arg2)
      ∧ m' ((c.tc : Thread Cert.RefAdamBig3Ideal.nD Cert.RefAdamBig3Ideal.τ).loc Cert.RefAdamBig3Ideal.main_arg3) = m ((c.tc : Thread Cert.AdamBig3Ideal.nD Cert.AdamBig3Ideal.τ).loc Cert.AdamBig3Ideal.main_arg3)) →
    ∃ (v0 : (c : Dev Cert.AdamBig3Ideal.nD) → Buf (Elt Ideal) ((c.tc : Thread Cert.AdamBig3Ideal.nD Cert.AdamBig3Ideal.τ).loc Cert.AdamBig3Ideal.main_v4_0)) (v1 : (c : Dev Cert.AdamBig3Ideal.nD) → Buf (Elt Ideal) ((c.tc : Thread Cert.AdamBig3Ideal.nD Cert.AdamBig3Ideal.τ).loc Cert.AdamBig3Ideal.main_v4_1)) (v2 : (c : Dev Cert.AdamBig3Ideal.nD) → Buf (Elt Ideal) ((c.tc : Thread Cert.AdamBig3Ideal.nD Cert.AdamBig3Ideal.τ).loc Cert.AdamBig3Ideal.main_v4_2)) (v3 : (c : Dev Cert.AdamBig3Ideal.nD) → Buf (Elt Ideal) ((c.tc : Thread Cert.AdamBig3Ideal.nD Cert.AdamBig3Ideal.τ).loc Cert.AdamBig3Ideal.main_v4_3)),
      θ_run (Cert.AdamBig3Ideal.defs (F := Ideal)) (onTc (τ := Cert.AdamBig3Ideal.τ) (Cert.AdamBig3Ideal.main (F := Ideal))) ⟨m, fun _ => 0, g⟩ (fun r => ∀ c : Dev Cert.AdamBig3Ideal.nD,
          r.2.mem ((c.tc : Thread Cert.AdamBig3Ideal.nD Cert.AdamBig3Ideal.τ).loc Cert.AdamBig3Ideal.main_v4_0) = v0 c
          ∧ r.2.mem ((c.tc : Thread Cert.AdamBig3Ideal.nD Cert.AdamBig3Ideal.τ).loc Cert.AdamBig3Ideal.main_v4_1) = v1 c
          ∧ r.2.mem ((c.tc : Thread Cert.AdamBig3Ideal.nD Cert.AdamBig3Ideal.τ).loc Cert.AdamBig3Ideal.main_v4_2) = v2 c
          ∧ r.2.mem ((c.tc : Thread Cert.AdamBig3Ideal.nD Cert.AdamBig3Ideal.τ).loc Cert.AdamBig3Ideal.main_v4_3) = v3 c
          ∧ r.2.mem ((c.tc : Thread Cert.AdamBig3Ideal.nD Cert.AdamBig3Ideal.τ).loc Cert.AdamBig3Ideal.main_arg0) = m ((c.tc : Thread Cert.AdamBig3Ideal.nD Cert.AdamBig3Ideal.τ).loc Cert.AdamBig3Ideal.main_arg0)
          ∧ r.2.mem ((c.tc : Thread Cert.AdamBig3Ideal.nD Cert.AdamBig3Ideal.τ).loc Cert.AdamBig3Ideal.main_arg1) = m ((c.tc : Thread Cert.AdamBig3Ideal.nD Cert.AdamBig3Ideal.τ).loc Cert.AdamBig3Ideal.main_arg1)
          ∧ r.2.mem ((c.tc : Thread Cert.AdamBig3Ideal.nD Cert.AdamBig3Ideal.τ).loc Cert.AdamBig3Ideal.main_arg2) = m ((c.tc : Thread Cert.AdamBig3Ideal.nD Cert.AdamBig3Ideal.τ).loc Cert.AdamBig3Ideal.main_arg2)
          ∧ r.2.mem ((c.tc : Thread Cert.AdamBig3Ideal.nD Cert.AdamBig3Ideal.τ).loc Cert.AdamBig3Ideal.main_arg3) = m ((c.tc : Thread Cert.AdamBig3Ideal.nD Cert.AdamBig3Ideal.τ).loc Cert.AdamBig3Ideal.main_arg3))
      ∧ θ_run (Cert.RefAdamBig3Ideal.defs (F := Ideal)) (onTc (τ := Cert.RefAdamBig3Ideal.τ) (Cert.RefAdamBig3Ideal.main (F := Ideal))) ⟨m', fun _ => 0, g'⟩ (fun r => ∀ c : Dev Cert.RefAdamBig3Ideal.nD,
          r.2.mem ((c.tc : Thread Cert.RefAdamBig3Ideal.nD Cert.RefAdamBig3Ideal.τ).loc Cert.RefAdamBig3Ideal.main_v27) = v0 c
          ∧ r.2.mem ((c.tc : Thread Cert.RefAdamBig3Ideal.nD Cert.RefAdamBig3Ideal.τ).loc Cert.RefAdamBig3Ideal.main_v8) = v1 c
          ∧ r.2.mem ((c.tc : Thread Cert.RefAdamBig3Ideal.nD Cert.RefAdamBig3Ideal.τ).loc Cert.RefAdamBig3Ideal.main_v14) = v2 c
          ∧ r.2.mem ((c.tc : Thread Cert.RefAdamBig3Ideal.nD Cert.RefAdamBig3Ideal.τ).loc Cert.RefAdamBig3Ideal.main_v1) = v3 c
          ∧ r.2.mem ((c.tc : Thread Cert.RefAdamBig3Ideal.nD Cert.RefAdamBig3Ideal.τ).loc Cert.RefAdamBig3Ideal.main_arg0) = m' ((c.tc : Thread Cert.RefAdamBig3Ideal.nD Cert.RefAdamBig3Ideal.τ).loc Cert.RefAdamBig3Ideal.main_arg0)
          ∧ r.2.mem ((c.tc : Thread Cert.RefAdamBig3Ideal.nD Cert.RefAdamBig3Ideal.τ).loc Cert.RefAdamBig3Ideal.main_arg1) = m' ((c.tc : Thread Cert.RefAdamBig3Ideal.nD Cert.RefAdamBig3Ideal.τ).loc Cert.RefAdamBig3Ideal.main_arg1)
          ∧ r.2.mem ((c.tc : Thread Cert.RefAdamBig3Ideal.nD Cert.RefAdamBig3Ideal.τ).loc Cert.RefAdamBig3Ideal.main_arg2) = m' ((c.tc : Thread Cert.RefAdamBig3Ideal.nD Cert.RefAdamBig3Ideal.τ).loc Cert.RefAdamBig3Ideal.main_arg2)
          ∧ r.2.mem ((c.tc : Thread Cert.RefAdamBig3Ideal.nD Cert.RefAdamBig3Ideal.τ).loc Cert.RefAdamBig3Ideal.main_arg3) = m' ((c.tc : Thread Cert.RefAdamBig3Ideal.nD Cert.RefAdamBig3Ideal.τ).loc Cert.RefAdamBig3Ideal.main_arg3))

def preserves_AdamBig4_AdamBig4Ideal : Prop :=
  True

def algebraic_AdamBig4Ideal_RefAdamBig4Ideal [hAdamBig4Ideal : Cert.AdamBig4Ideal.Facts] [hRefAdamBig4Ideal : Cert.RefAdamBig4Ideal.Facts] : Prop :=
  ∀ (m : (ℓ : Loc Cert.AdamBig4Ideal.nD Cert.AdamBig4Ideal.τ Cert.AdamBig4Ideal.sig) → Buf (Elt Ideal) ℓ) (g : Dev Cert.AdamBig4Ideal.nD → PrngReg)
    (m' : (ℓ : Loc Cert.RefAdamBig4Ideal.nD Cert.RefAdamBig4Ideal.τ Cert.RefAdamBig4Ideal.sig) → Buf (Elt Ideal) ℓ) (g' : Dev Cert.RefAdamBig4Ideal.nD → PrngReg), Pre_AdamBig4Ideal m →
    (∀ c : Dev Cert.AdamBig4Ideal.nD,
      m' ((c.tc : Thread Cert.RefAdamBig4Ideal.nD Cert.RefAdamBig4Ideal.τ).loc Cert.RefAdamBig4Ideal.main_arg0) = m ((c.tc : Thread Cert.AdamBig4Ideal.nD Cert.AdamBig4Ideal.τ).loc Cert.AdamBig4Ideal.main_arg0)
      ∧ m' ((c.tc : Thread Cert.RefAdamBig4Ideal.nD Cert.RefAdamBig4Ideal.τ).loc Cert.RefAdamBig4Ideal.main_arg1) = m ((c.tc : Thread Cert.AdamBig4Ideal.nD Cert.AdamBig4Ideal.τ).loc Cert.AdamBig4Ideal.main_arg1)
      ∧ m' ((c.tc : Thread Cert.RefAdamBig4Ideal.nD Cert.RefAdamBig4Ideal.τ).loc Cert.RefAdamBig4Ideal.main_arg2) = m ((c.tc : Thread Cert.AdamBig4Ideal.nD Cert.AdamBig4Ideal.τ).loc Cert.AdamBig4Ideal.main_arg2)
      ∧ m' ((c.tc : Thread Cert.RefAdamBig4Ideal.nD Cert.RefAdamBig4Ideal.τ).loc Cert.RefAdamBig4Ideal.main_arg3) = m ((c.tc : Thread Cert.AdamBig4Ideal.nD Cert.AdamBig4Ideal.τ).loc Cert.AdamBig4Ideal.main_arg3)) →
    ∃ (v0 : (c : Dev Cert.AdamBig4Ideal.nD) → Buf (Elt Ideal) ((c.tc : Thread Cert.AdamBig4Ideal.nD Cert.AdamBig4Ideal.τ).loc Cert.AdamBig4Ideal.main_v0_0)) (v1 : (c : Dev Cert.AdamBig4Ideal.nD) → Buf (Elt Ideal) ((c.tc : Thread Cert.AdamBig4Ideal.nD Cert.AdamBig4Ideal.τ).loc Cert.AdamBig4Ideal.main_v0_1)) (v2 : (c : Dev Cert.AdamBig4Ideal.nD) → Buf (Elt Ideal) ((c.tc : Thread Cert.AdamBig4Ideal.nD Cert.AdamBig4Ideal.τ).loc Cert.AdamBig4Ideal.main_v0_2)) (v3 : (c : Dev Cert.AdamBig4Ideal.nD) → Buf (Elt Ideal) ((c.tc : Thread Cert.AdamBig4Ideal.nD Cert.AdamBig4Ideal.τ).loc Cert.AdamBig4Ideal.main_v0_3)),
      θ_run (Cert.AdamBig4Ideal.defs (F := Ideal)) (onTc (τ := Cert.AdamBig4Ideal.τ) (Cert.AdamBig4Ideal.main (F := Ideal))) ⟨m, fun _ => 0, g⟩ (fun r => ∀ c : Dev Cert.AdamBig4Ideal.nD,
          r.2.mem ((c.tc : Thread Cert.AdamBig4Ideal.nD Cert.AdamBig4Ideal.τ).loc Cert.AdamBig4Ideal.main_v0_0) = v0 c
          ∧ r.2.mem ((c.tc : Thread Cert.AdamBig4Ideal.nD Cert.AdamBig4Ideal.τ).loc Cert.AdamBig4Ideal.main_v0_1) = v1 c
          ∧ r.2.mem ((c.tc : Thread Cert.AdamBig4Ideal.nD Cert.AdamBig4Ideal.τ).loc Cert.AdamBig4Ideal.main_v0_2) = v2 c
          ∧ r.2.mem ((c.tc : Thread Cert.AdamBig4Ideal.nD Cert.AdamBig4Ideal.τ).loc Cert.AdamBig4Ideal.main_v0_3) = v3 c
          ∧ r.2.mem ((c.tc : Thread Cert.AdamBig4Ideal.nD Cert.AdamBig4Ideal.τ).loc Cert.AdamBig4Ideal.main_arg0) = m ((c.tc : Thread Cert.AdamBig4Ideal.nD Cert.AdamBig4Ideal.τ).loc Cert.AdamBig4Ideal.main_arg0)
          ∧ r.2.mem ((c.tc : Thread Cert.AdamBig4Ideal.nD Cert.AdamBig4Ideal.τ).loc Cert.AdamBig4Ideal.main_arg1) = m ((c.tc : Thread Cert.AdamBig4Ideal.nD Cert.AdamBig4Ideal.τ).loc Cert.AdamBig4Ideal.main_arg1)
          ∧ r.2.mem ((c.tc : Thread Cert.AdamBig4Ideal.nD Cert.AdamBig4Ideal.τ).loc Cert.AdamBig4Ideal.main_arg2) = m ((c.tc : Thread Cert.AdamBig4Ideal.nD Cert.AdamBig4Ideal.τ).loc Cert.AdamBig4Ideal.main_arg2)
          ∧ r.2.mem ((c.tc : Thread Cert.AdamBig4Ideal.nD Cert.AdamBig4Ideal.τ).loc Cert.AdamBig4Ideal.main_arg3) = m ((c.tc : Thread Cert.AdamBig4Ideal.nD Cert.AdamBig4Ideal.τ).loc Cert.AdamBig4Ideal.main_arg3))
      ∧ θ_run (Cert.RefAdamBig4Ideal.defs (F := Ideal)) (onTc (τ := Cert.RefAdamBig4Ideal.τ) (Cert.RefAdamBig4Ideal.main (F := Ideal))) ⟨m', fun _ => 0, g'⟩ (fun r => ∀ c : Dev Cert.RefAdamBig4Ideal.nD,
          r.2.mem ((c.tc : Thread Cert.RefAdamBig4Ideal.nD Cert.RefAdamBig4Ideal.τ).loc Cert.RefAdamBig4Ideal.main_v23) = v0 c
          ∧ r.2.mem ((c.tc : Thread Cert.RefAdamBig4Ideal.nD Cert.RefAdamBig4Ideal.τ).loc Cert.RefAdamBig4Ideal.main_v4) = v1 c
          ∧ r.2.mem ((c.tc : Thread Cert.RefAdamBig4Ideal.nD Cert.RefAdamBig4Ideal.τ).loc Cert.RefAdamBig4Ideal.main_v10) = v2 c
          ∧ r.2.mem ((c.tc : Thread Cert.RefAdamBig4Ideal.nD Cert.RefAdamBig4Ideal.τ).loc Cert.RefAdamBig4Ideal.main_arg1) = v3 c
          ∧ r.2.mem ((c.tc : Thread Cert.RefAdamBig4Ideal.nD Cert.RefAdamBig4Ideal.τ).loc Cert.RefAdamBig4Ideal.main_arg0) = m' ((c.tc : Thread Cert.RefAdamBig4Ideal.nD Cert.RefAdamBig4Ideal.τ).loc Cert.RefAdamBig4Ideal.main_arg0)
          ∧ r.2.mem ((c.tc : Thread Cert.RefAdamBig4Ideal.nD Cert.RefAdamBig4Ideal.τ).loc Cert.RefAdamBig4Ideal.main_arg1) = m' ((c.tc : Thread Cert.RefAdamBig4Ideal.nD Cert.RefAdamBig4Ideal.τ).loc Cert.RefAdamBig4Ideal.main_arg1)
          ∧ r.2.mem ((c.tc : Thread Cert.RefAdamBig4Ideal.nD Cert.RefAdamBig4Ideal.τ).loc Cert.RefAdamBig4Ideal.main_arg2) = m' ((c.tc : Thread Cert.RefAdamBig4Ideal.nD Cert.RefAdamBig4Ideal.τ).loc Cert.RefAdamBig4Ideal.main_arg2)
          ∧ r.2.mem ((c.tc : Thread Cert.RefAdamBig4Ideal.nD Cert.RefAdamBig4Ideal.τ).loc Cert.RefAdamBig4Ideal.main_arg3) = m' ((c.tc : Thread Cert.RefAdamBig4Ideal.nD Cert.RefAdamBig4Ideal.τ).loc Cert.RefAdamBig4Ideal.main_arg3))

def preserves_AdamBig5_AdamBig5Ideal : Prop :=
  True

def algebraic_AdamBig5Ideal_RefAdamBig5Ideal [hAdamBig5Ideal : Cert.AdamBig5Ideal.Facts] [hRefAdamBig5Ideal : Cert.RefAdamBig5Ideal.Facts] : Prop :=
  ∀ (m : (ℓ : Loc Cert.AdamBig5Ideal.nD Cert.AdamBig5Ideal.τ Cert.AdamBig5Ideal.sig) → Buf (Elt Ideal) ℓ) (g : Dev Cert.AdamBig5Ideal.nD → PrngReg)
    (m' : (ℓ : Loc Cert.RefAdamBig5Ideal.nD Cert.RefAdamBig5Ideal.τ Cert.RefAdamBig5Ideal.sig) → Buf (Elt Ideal) ℓ) (g' : Dev Cert.RefAdamBig5Ideal.nD → PrngReg), Pre_AdamBig5Ideal m →
    (∀ c : Dev Cert.AdamBig5Ideal.nD,
      m' ((c.tc : Thread Cert.RefAdamBig5Ideal.nD Cert.RefAdamBig5Ideal.τ).loc Cert.RefAdamBig5Ideal.main_arg0) = m ((c.tc : Thread Cert.AdamBig5Ideal.nD Cert.AdamBig5Ideal.τ).loc Cert.AdamBig5Ideal.main_arg0)
      ∧ m' ((c.tc : Thread Cert.RefAdamBig5Ideal.nD Cert.RefAdamBig5Ideal.τ).loc Cert.RefAdamBig5Ideal.main_arg1) = m ((c.tc : Thread Cert.AdamBig5Ideal.nD Cert.AdamBig5Ideal.τ).loc Cert.AdamBig5Ideal.main_arg1)
      ∧ m' ((c.tc : Thread Cert.RefAdamBig5Ideal.nD Cert.RefAdamBig5Ideal.τ).loc Cert.RefAdamBig5Ideal.main_arg2) = m ((c.tc : Thread Cert.AdamBig5Ideal.nD Cert.AdamBig5Ideal.τ).loc Cert.AdamBig5Ideal.main_arg2)
      ∧ m' ((c.tc : Thread Cert.RefAdamBig5Ideal.nD Cert.RefAdamBig5Ideal.τ).loc Cert.RefAdamBig5Ideal.main_arg3) = m ((c.tc : Thread Cert.AdamBig5Ideal.nD Cert.AdamBig5Ideal.τ).loc Cert.AdamBig5Ideal.main_arg3)) →
    ∃ (v0 : (c : Dev Cert.AdamBig5Ideal.nD) → Buf (Elt Ideal) ((c.tc : Thread Cert.AdamBig5Ideal.nD Cert.AdamBig5Ideal.τ).loc Cert.AdamBig5Ideal.main_v4_0)) (v1 : (c : Dev Cert.AdamBig5Ideal.nD) → Buf (Elt Ideal) ((c.tc : Thread Cert.AdamBig5Ideal.nD Cert.AdamBig5Ideal.τ).loc Cert.AdamBig5Ideal.main_v4_1)) (v2 : (c : Dev Cert.AdamBig5Ideal.nD) → Buf (Elt Ideal) ((c.tc : Thread Cert.AdamBig5Ideal.nD Cert.AdamBig5Ideal.τ).loc Cert.AdamBig5Ideal.main_v4_2)) (v3 : (c : Dev Cert.AdamBig5Ideal.nD) → Buf (Elt Ideal) ((c.tc : Thread Cert.AdamBig5Ideal.nD Cert.AdamBig5Ideal.τ).loc Cert.AdamBig5Ideal.main_v4_3)),
      θ_run (Cert.AdamBig5Ideal.defs (F := Ideal)) (onTc (τ := Cert.AdamBig5Ideal.τ) (Cert.AdamBig5Ideal.main (F := Ideal))) ⟨m, fun _ => 0, g⟩ (fun r => ∀ c : Dev Cert.AdamBig5Ideal.nD,
          r.2.mem ((c.tc : Thread Cert.AdamBig5Ideal.nD Cert.AdamBig5Ideal.τ).loc Cert.AdamBig5Ideal.main_v4_0) = v0 c
          ∧ r.2.mem ((c.tc : Thread Cert.AdamBig5Ideal.nD Cert.AdamBig5Ideal.τ).loc Cert.AdamBig5Ideal.main_v4_1) = v1 c
          ∧ r.2.mem ((c.tc : Thread Cert.AdamBig5Ideal.nD Cert.AdamBig5Ideal.τ).loc Cert.AdamBig5Ideal.main_v4_2) = v2 c
          ∧ r.2.mem ((c.tc : Thread Cert.AdamBig5Ideal.nD Cert.AdamBig5Ideal.τ).loc Cert.AdamBig5Ideal.main_v4_3) = v3 c
          ∧ r.2.mem ((c.tc : Thread Cert.AdamBig5Ideal.nD Cert.AdamBig5Ideal.τ).loc Cert.AdamBig5Ideal.main_arg0) = m ((c.tc : Thread Cert.AdamBig5Ideal.nD Cert.AdamBig5Ideal.τ).loc Cert.AdamBig5Ideal.main_arg0)
          ∧ r.2.mem ((c.tc : Thread Cert.AdamBig5Ideal.nD Cert.AdamBig5Ideal.τ).loc Cert.AdamBig5Ideal.main_arg1) = m ((c.tc : Thread Cert.AdamBig5Ideal.nD Cert.AdamBig5Ideal.τ).loc Cert.AdamBig5Ideal.main_arg1)
          ∧ r.2.mem ((c.tc : Thread Cert.AdamBig5Ideal.nD Cert.AdamBig5Ideal.τ).loc Cert.AdamBig5Ideal.main_arg2) = m ((c.tc : Thread Cert.AdamBig5Ideal.nD Cert.AdamBig5Ideal.τ).loc Cert.AdamBig5Ideal.main_arg2)
          ∧ r.2.mem ((c.tc : Thread Cert.AdamBig5Ideal.nD Cert.AdamBig5Ideal.τ).loc Cert.AdamBig5Ideal.main_arg3) = m ((c.tc : Thread Cert.AdamBig5Ideal.nD Cert.AdamBig5Ideal.τ).loc Cert.AdamBig5Ideal.main_arg3))
      ∧ θ_run (Cert.RefAdamBig5Ideal.defs (F := Ideal)) (onTc (τ := Cert.RefAdamBig5Ideal.τ) (Cert.RefAdamBig5Ideal.main (F := Ideal))) ⟨m', fun _ => 0, g'⟩ (fun r => ∀ c : Dev Cert.RefAdamBig5Ideal.nD,
          r.2.mem ((c.tc : Thread Cert.RefAdamBig5Ideal.nD Cert.RefAdamBig5Ideal.τ).loc Cert.RefAdamBig5Ideal.main_v27) = v0 c
          ∧ r.2.mem ((c.tc : Thread Cert.RefAdamBig5Ideal.nD Cert.RefAdamBig5Ideal.τ).loc Cert.RefAdamBig5Ideal.main_v8) = v1 c
          ∧ r.2.mem ((c.tc : Thread Cert.RefAdamBig5Ideal.nD Cert.RefAdamBig5Ideal.τ).loc Cert.RefAdamBig5Ideal.main_v14) = v2 c
          ∧ r.2.mem ((c.tc : Thread Cert.RefAdamBig5Ideal.nD Cert.RefAdamBig5Ideal.τ).loc Cert.RefAdamBig5Ideal.main_v1) = v3 c
          ∧ r.2.mem ((c.tc : Thread Cert.RefAdamBig5Ideal.nD Cert.RefAdamBig5Ideal.τ).loc Cert.RefAdamBig5Ideal.main_arg0) = m' ((c.tc : Thread Cert.RefAdamBig5Ideal.nD Cert.RefAdamBig5Ideal.τ).loc Cert.RefAdamBig5Ideal.main_arg0)
          ∧ r.2.mem ((c.tc : Thread Cert.RefAdamBig5Ideal.nD Cert.RefAdamBig5Ideal.τ).loc Cert.RefAdamBig5Ideal.main_arg1) = m' ((c.tc : Thread Cert.RefAdamBig5Ideal.nD Cert.RefAdamBig5Ideal.τ).loc Cert.RefAdamBig5Ideal.main_arg1)
          ∧ r.2.mem ((c.tc : Thread Cert.RefAdamBig5Ideal.nD Cert.RefAdamBig5Ideal.τ).loc Cert.RefAdamBig5Ideal.main_arg2) = m' ((c.tc : Thread Cert.RefAdamBig5Ideal.nD Cert.RefAdamBig5Ideal.τ).loc Cert.RefAdamBig5Ideal.main_arg2)
          ∧ r.2.mem ((c.tc : Thread Cert.RefAdamBig5Ideal.nD Cert.RefAdamBig5Ideal.τ).loc Cert.RefAdamBig5Ideal.main_arg3) = m' ((c.tc : Thread Cert.RefAdamBig5Ideal.nD Cert.RefAdamBig5Ideal.τ).loc Cert.RefAdamBig5Ideal.main_arg3))

def preserves_AdamAdaB_AdamAdaBIdeal : Prop :=
  True

def algebraic_AdamAdaBIdeal_RefAdamAdaBIdeal [hAdamAdaBIdeal : Cert.AdamAdaBIdeal.Facts] [hRefAdamAdaBIdeal : Cert.RefAdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.RefAdamAdaBIdeal.nD Cert.RefAdamAdaBIdeal.τ Cert.RefAdamAdaBIdeal.sig) → Buf (Elt Ideal) ℓ) (g' : Dev Cert.RefAdamAdaBIdeal.nD → PrngReg), Pre_AdamAdaBIdeal m →
    (∀ c : Dev Cert.AdamAdaBIdeal.nD,
      m' ((c.tc : Thread Cert.RefAdamAdaBIdeal.nD Cert.RefAdamAdaBIdeal.τ).loc Cert.RefAdamAdaBIdeal.main_arg0) = m ((c.tc : Thread Cert.AdamAdaBIdeal.nD Cert.AdamAdaBIdeal.τ).loc Cert.AdamAdaBIdeal.main_arg0)
      ∧ m' ((c.tc : Thread Cert.RefAdamAdaBIdeal.nD Cert.RefAdamAdaBIdeal.τ).loc Cert.RefAdamAdaBIdeal.main_arg1) = m ((c.tc : Thread Cert.AdamAdaBIdeal.nD Cert.AdamAdaBIdeal.τ).loc Cert.AdamAdaBIdeal.main_arg1)
      ∧ m' ((c.tc : Thread Cert.RefAdamAdaBIdeal.nD Cert.RefAdamAdaBIdeal.τ).loc Cert.RefAdamAdaBIdeal.main_arg2) = m ((c.tc : Thread Cert.AdamAdaBIdeal.nD Cert.AdamAdaBIdeal.τ).loc Cert.AdamAdaBIdeal.main_arg2)
      ∧ m' ((c.tc : Thread Cert.RefAdamAdaBIdeal.nD Cert.RefAdamAdaBIdeal.τ).loc Cert.RefAdamAdaBIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.RefAdamAdaBIdeal.defs (F := Ideal)) (onTc (τ := Cert.RefAdamAdaBIdeal.τ) (Cert.RefAdamAdaBIdeal.main (F := Ideal))) ⟨m', fun _ => 0, g'⟩ (fun r => ∀ c : Dev Cert.RefAdamAdaBIdeal.nD,
          r.2.mem ((c.tc : Thread Cert.RefAdamAdaBIdeal.nD Cert.RefAdamAdaBIdeal.τ).loc Cert.RefAdamAdaBIdeal.main_v23) = v0 c
          ∧ r.2.mem ((c.tc : Thread Cert.RefAdamAdaBIdeal.nD Cert.RefAdamAdaBIdeal.τ).loc Cert.RefAdamAdaBIdeal.main_v4) = v1 c
          ∧ r.2.mem ((c.tc : Thread Cert.RefAdamAdaBIdeal.nD Cert.RefAdamAdaBIdeal.τ).loc Cert.RefAdamAdaBIdeal.main_v10) = v2 c
          ∧ r.2.mem ((c.tc : Thread Cert.RefAdamAdaBIdeal.nD Cert.RefAdamAdaBIdeal.τ).loc Cert.RefAdamAdaBIdeal.main_arg0) = m' ((c.tc : Thread Cert.RefAdamAdaBIdeal.nD Cert.RefAdamAdaBIdeal.τ).loc Cert.RefAdamAdaBIdeal.main_arg0)
          ∧ r.2.mem ((c.tc : Thread Cert.RefAdamAdaBIdeal.nD Cert.RefAdamAdaBIdeal.τ).loc Cert.RefAdamAdaBIdeal.main_arg1) = m' ((c.tc : Thread Cert.RefAdamAdaBIdeal.nD Cert.RefAdamAdaBIdeal.τ).loc Cert.RefAdamAdaBIdeal.main_arg1)
          ∧ r.2.mem ((c.tc : Thread Cert.RefAdamAdaBIdeal.nD Cert.RefAdamAdaBIdeal.τ).loc Cert.RefAdamAdaBIdeal.main_arg2) = m' ((c.tc : Thread Cert.RefAdamAdaBIdeal.nD Cert.RefAdamAdaBIdeal.τ).loc Cert.RefAdamAdaBIdeal.main_arg2)
          ∧ r.2.mem ((c.tc : Thread Cert.RefAdamAdaBIdeal.nD Cert.RefAdamAdaBIdeal.τ).loc Cert.RefAdamAdaBIdeal.main_arg3) = m' ((c.tc : Thread Cert.RefAdamAdaBIdeal.nD Cert.RefAdamAdaBIdeal.τ).loc Cert.RefAdamAdaBIdeal.main_arg3))

def preserves_AdamNormG_AdamNormGIdeal : Prop :=
  True

def algebraic_AdamNormGIdeal_RefAdamNormGIdeal [hAdamNormGIdeal : Cert.AdamNormGIdeal.Facts] [hRefAdamNormGIdeal : Cert.RefAdamNormGIdeal.Facts] : Prop :=
  ∀ (m : (ℓ : Loc Cert.AdamNormGIdeal.nD Cert.AdamNormGIdeal.τ Cert.AdamNormGIdeal.sig) → Buf (Elt Ideal) ℓ) (g : Dev Cert.AdamNormGIdeal.nD → PrngReg)
    (m' : (ℓ : Loc Cert.RefAdamNormGIdeal.nD Cert.RefAdamNormGIdeal.τ Cert.RefAdamNormGIdeal.sig) → Buf (Elt Ideal) ℓ) (g' : Dev Cert.RefAdamNormGIdeal.nD → PrngReg), Pre_AdamNormGIdeal m →
    (∀ c : Dev Cert.AdamNormGIdeal.nD,
      m' ((c.tc : Thread Cert.RefAdamNormGIdeal.nD Cert.RefAdamNormGIdeal.τ).loc Cert.RefAdamNormGIdeal.main_arg0) = m ((c.tc : Thread Cert.AdamNormGIdeal.nD Cert.AdamNormGIdeal.τ).loc Cert.AdamNormGIdeal.main_arg0)
      ∧ m' ((c.tc : Thread Cert.RefAdamNormGIdeal.nD Cert.RefAdamNormGIdeal.τ).loc Cert.RefAdamNormGIdeal.main_arg1) = m ((c.tc : Thread Cert.AdamNormGIdeal.nD Cert.AdamNormGIdeal.τ).loc Cert.AdamNormGIdeal.main_arg1)
      ∧ m' ((c.tc : Thread Cert.RefAdamNormGIdeal.nD Cert.RefAdamNormGIdeal.τ).loc Cert.RefAdamNormGIdeal.main_arg2) = m ((c.tc : Thread Cert.AdamNormGIdeal.nD Cert.AdamNormGIdeal.τ).loc Cert.AdamNormGIdeal.main_arg2)
      ∧ m' ((c.tc : Thread Cert.RefAdamNormGIdeal.nD Cert.RefAdamNormGIdeal.τ).loc Cert.RefAdamNormGIdeal.main_arg3) = m ((c.tc : Thread Cert.AdamNormGIdeal.nD Cert.AdamNormGIdeal.τ).loc Cert.AdamNormGIdeal.main_arg3)) →
    ∃ (v0 : (c : Dev Cert.AdamNormGIdeal.nD) → Buf (Elt Ideal) ((c.tc : Thread Cert.AdamNormGIdeal.nD Cert.AdamNormGIdeal.τ).loc Cert.AdamNormGIdeal.main_v4_0)) (v1 : (c : Dev Cert.AdamNormGIdeal.nD) → Buf (Elt Ideal) ((c.tc : Thread Cert.AdamNormGIdeal.nD Cert.AdamNormGIdeal.τ).loc Cert.AdamNormGIdeal.main_v4_1)) (v2 : (c : Dev Cert.AdamNormGIdeal.nD) → Buf (Elt Ideal) ((c.tc : Thread Cert.AdamNormGIdeal.nD Cert.AdamNormGIdeal.τ).loc Cert.AdamNormGIdeal.main_v4_2)),
      θ_run (Cert.AdamNormGIdeal.defs (F := Ideal)) (onTc (τ := Cert.AdamNormGIdeal.τ) (Cert.AdamNormGIdeal.main (F := Ideal))) ⟨m, fun _ => 0, g⟩ (fun r => ∀ c : Dev Cert.AdamNormGIdeal.nD,
          r.2.mem ((c.tc : Thread Cert.AdamNormGIdeal.nD Cert.AdamNormGIdeal.τ).loc Cert.AdamNormGIdeal.main_v4_0) = v0 c
          ∧ r.2.mem ((c.tc : Thread Cert.AdamNormGIdeal.nD Cert.AdamNormGIdeal.τ).loc Cert.AdamNormGIdeal.main_v4_1) = v1 c
          ∧ r.2.mem ((c.tc : Thread Cert.AdamNormGIdeal.nD Cert.AdamNormGIdeal.τ).loc Cert.AdamNormGIdeal.main_v4_2) = v2 c
          ∧ r.2.mem ((c.tc : Thread Cert.AdamNormGIdeal.nD Cert.AdamNormGIdeal.τ).loc Cert.AdamNormGIdeal.main_arg0) = m ((c.tc : Thread Cert.AdamNormGIdeal.nD Cert.AdamNormGIdeal.τ).loc Cert.AdamNormGIdeal.main_arg0)
          ∧ r.2.mem ((c.tc : Thread Cert.AdamNormGIdeal.nD Cert.AdamNormGIdeal.τ).loc Cert.AdamNormGIdeal.main_arg1) = m ((c.tc : Thread Cert.AdamNormGIdeal.nD Cert.AdamNormGIdeal.τ).loc Cert.AdamNormGIdeal.main_arg1)
          ∧ r.2.mem ((c.tc : Thread Cert.AdamNormGIdeal.nD Cert.AdamNormGIdeal.τ).loc Cert.AdamNormGIdeal.main_arg2) = m ((c.tc : Thread Cert.AdamNormGIdeal.nD Cert.AdamNormGIdeal.τ).loc Cert.AdamNormGIdeal.main_arg2)
          ∧ r.2.mem ((c.tc : Thread Cert.AdamNormGIdeal.nD Cert.AdamNormGIdeal.τ).loc Cert.AdamNormGIdeal.main_arg3) = m ((c.tc : Thread Cert.AdamNormGIdeal.nD Cert.AdamNormGIdeal.τ).loc Cert.AdamNormGIdeal.main_arg3))
      ∧ θ_run (Cert.RefAdamNormGIdeal.defs (F := Ideal)) (onTc (τ := Cert.RefAdamNormGIdeal.τ) (Cert.RefAdamNormGIdeal.main (F := Ideal))) ⟨m', fun _ => 0, g'⟩ (fun r => ∀ c : Dev Cert.RefAdamNormGIdeal.nD,
          r.2.mem ((c.tc : Thread Cert.RefAdamNormGIdeal.nD Cert.RefAdamNormGIdeal.τ).loc Cert.RefAdamNormGIdeal.main_v27) = v0 c
          ∧ r.2.mem ((c.tc : Thread Cert.RefAdamNormGIdeal.nD Cert.RefAdamNormGIdeal.τ).loc Cert.RefAdamNormGIdeal.main_v8) = v1 c
          ∧ r.2.mem ((c.tc : Thread Cert.RefAdamNormGIdeal.nD Cert.RefAdamNormGIdeal.τ).loc Cert.RefAdamNormGIdeal.main_v14) = v2 c
          ∧ r.2.mem ((c.tc : Thread Cert.RefAdamNormGIdeal.nD Cert.RefAdamNormGIdeal.τ).loc Cert.RefAdamNormGIdeal.main_arg0) = m' ((c.tc : Thread Cert.RefAdamNormGIdeal.nD Cert.RefAdamNormGIdeal.τ).loc Cert.RefAdamNormGIdeal.main_arg0)
          ∧ r.2.mem ((c.tc : Thread Cert.RefAdamNormGIdeal.nD Cert.RefAdamNormGIdeal.τ).loc Cert.RefAdamNormGIdeal.main_arg1) = m' ((c.tc : Thread Cert.RefAdamNormGIdeal.nD Cert.RefAdamNormGIdeal.τ).loc Cert.RefAdamNormGIdeal.main_arg1)
          ∧ r.2.mem ((c.tc : Thread Cert.RefAdamNormGIdeal.nD Cert.RefAdamNormGIdeal.τ).loc Cert.RefAdamNormGIdeal.main_arg2) = m' ((c.tc : Thread Cert.RefAdamNormGIdeal.nD Cert.RefAdamNormGIdeal.τ).loc Cert.RefAdamNormGIdeal.main_arg2)
          ∧ r.2.mem ((c.tc : Thread Cert.RefAdamNormGIdeal.nD Cert.RefAdamNormGIdeal.τ).loc Cert.RefAdamNormGIdeal.main_arg3) = m' ((c.tc : Thread Cert.RefAdamNormGIdeal.nD Cert.RefAdamNormGIdeal.τ).loc Cert.RefAdamNormGIdeal.main_arg3))

def preserves_AdamLnG_AdamLnGIdeal : Prop :=
  True

def algebraic_AdamLnGIdeal_RefAdamLnGIdeal [hAdamLnGIdeal : Cert.AdamLnGIdeal.Facts] [hRefAdamLnGIdeal : Cert.RefAdamLnGIdeal.Facts] : Prop :=
  ∀ (m : (ℓ : Loc Cert.AdamLnGIdeal.nD Cert.AdamLnGIdeal.τ Cert.AdamLnGIdeal.sig) → Buf (Elt Ideal) ℓ) (g : Dev Cert.AdamLnGIdeal.nD → PrngReg)
    (m' : (ℓ : Loc Cert.RefAdamLnGIdeal.nD Cert.RefAdamLnGIdeal.τ Cert.RefAdamLnGIdeal.sig) → Buf (Elt Ideal) ℓ) (g' : Dev Cert.RefAdamLnGIdeal.nD → PrngReg), Pre_AdamLnGIdeal m →
    (∀ c : Dev Cert.AdamLnGIdeal.nD,
      m' ((c.tc : Thread Cert.RefAdamLnGIdeal.nD Cert.RefAdamLnGIdeal.τ).loc Cert.RefAdamLnGIdeal.main_arg0) = m ((c.tc : Thread Cert.AdamLnGIdeal.nD Cert.AdamLnGIdeal.τ).loc Cert.AdamLnGIdeal.main_arg0)
      ∧ m' ((c.tc : Thread Cert.RefAdamLnGIdeal.nD Cert.RefAdamLnGIdeal.τ).loc Cert.RefAdamLnGIdeal.main_arg1) = m ((c.tc : Thread Cert.AdamLnGIdeal.nD Cert.AdamLnGIdeal.τ).loc Cert.AdamLnGIdeal.main_arg1)
      ∧ m' ((c.tc : Thread Cert.RefAdamLnGIdeal.nD Cert.RefAdamLnGIdeal.τ).loc Cert.RefAdamLnGIdeal.main_arg2) = m ((c.tc : Thread Cert.AdamLnGIdeal.nD Cert.AdamLnGIdeal.τ).loc Cert.AdamLnGIdeal.main_arg2)
      ∧ m' ((c.tc : Thread Cert.RefAdamLnGIdeal.nD Cert.RefAdamLnGIdeal.τ).loc Cert.RefAdamLnGIdeal.main_arg3) = m ((c.tc : Thread Cert.AdamLnGIdeal.nD Cert.AdamLnGIdeal.τ).loc Cert.AdamLnGIdeal.main_arg3)) →
    ∃ (v0 : (c : Dev Cert.AdamLnGIdeal.nD) → Buf (Elt Ideal) ((c.tc : Thread Cert.AdamLnGIdeal.nD Cert.AdamLnGIdeal.τ).loc Cert.AdamLnGIdeal.main_v0_0)) (v1 : (c : Dev Cert.AdamLnGIdeal.nD) → Buf (Elt Ideal) ((c.tc : Thread Cert.AdamLnGIdeal.nD Cert.AdamLnGIdeal.τ).loc Cert.AdamLnGIdeal.main_v0_1)) (v2 : (c : Dev Cert.AdamLnGIdeal.nD) → Buf (Elt Ideal) ((c.tc : Thread Cert.AdamLnGIdeal.nD Cert.AdamLnGIdeal.τ).loc Cert.AdamLnGIdeal.main_v0_2)),
      θ_run (Cert.AdamLnGIdeal.defs (F := Ideal)) (onTc (τ := Cert.AdamLnGIdeal.τ) (Cert.AdamLnGIdeal.main (F := Ideal))) ⟨m, fun _ => 0, g⟩ (fun r => ∀ c : Dev Cert.AdamLnGIdeal.nD,
          r.2.mem ((c.tc : Thread Cert.AdamLnGIdeal.nD Cert.AdamLnGIdeal.τ).loc Cert.AdamLnGIdeal.main_v0_0) = v0 c
          ∧ r.2.mem ((c.tc : Thread Cert.AdamLnGIdeal.nD Cert.AdamLnGIdeal.τ).loc Cert.AdamLnGIdeal.main_v0_1) = v1 c
          ∧ r.2.mem ((c.tc : Thread Cert.AdamLnGIdeal.nD Cert.AdamLnGIdeal.τ).loc Cert.AdamLnGIdeal.main_v0_2) = v2 c
          ∧ r.2.mem ((c.tc : Thread Cert.AdamLnGIdeal.nD Cert.AdamLnGIdeal.τ).loc Cert.AdamLnGIdeal.main_arg0) = m ((c.tc : Thread Cert.AdamLnGIdeal.nD Cert.AdamLnGIdeal.τ).loc Cert.AdamLnGIdeal.main_arg0)
          ∧ r.2.mem ((c.tc : Thread Cert.AdamLnGIdeal.nD Cert.AdamLnGIdeal.τ).loc Cert.AdamLnGIdeal.main_arg1) = m ((c.tc : Thread Cert.AdamLnGIdeal.nD Cert.AdamLnGIdeal.τ).loc Cert.AdamLnGIdeal.main_arg1)
          ∧ r.2.mem ((c.tc : Thread Cert.AdamLnGIdeal.nD Cert.AdamLnGIdeal.τ).loc Cert.AdamLnGIdeal.main_arg2) = m ((c.tc : Thread Cert.AdamLnGIdeal.nD Cert.AdamLnGIdeal.τ).loc Cert.AdamLnGIdeal.main_arg2)
          ∧ r.2.mem ((c.tc : Thread Cert.AdamLnGIdeal.nD Cert.AdamLnGIdeal.τ).loc Cert.AdamLnGIdeal.main_arg3) = m ((c.tc : Thread Cert.AdamLnGIdeal.nD Cert.AdamLnGIdeal.τ).loc Cert.AdamLnGIdeal.main_arg3))
      ∧ θ_run (Cert.RefAdamLnGIdeal.defs (F := Ideal)) (onTc (τ := Cert.RefAdamLnGIdeal.τ) (Cert.RefAdamLnGIdeal.main (F := Ideal))) ⟨m', fun _ => 0, g'⟩ (fun r => ∀ c : Dev Cert.RefAdamLnGIdeal.nD,
          r.2.mem ((c.tc : Thread Cert.RefAdamLnGIdeal.nD Cert.RefAdamLnGIdeal.τ).loc Cert.RefAdamLnGIdeal.main_v23) = v0 c
          ∧ r.2.mem ((c.tc : Thread Cert.RefAdamLnGIdeal.nD Cert.RefAdamLnGIdeal.τ).loc Cert.RefAdamLnGIdeal.main_v4) = v1 c
          ∧ r.2.mem ((c.tc : Thread Cert.RefAdamLnGIdeal.nD Cert.RefAdamLnGIdeal.τ).loc Cert.RefAdamLnGIdeal.main_v10) = v2 c
          ∧ r.2.mem ((c.tc : Thread Cert.RefAdamLnGIdeal.nD Cert.RefAdamLnGIdeal.τ).loc Cert.RefAdamLnGIdeal.main_arg0) = m' ((c.tc : Thread Cert.RefAdamLnGIdeal.nD Cert.RefAdamLnGIdeal.τ).loc Cert.RefAdamLnGIdeal.main_arg0)
          ∧ r.2.mem ((c.tc : Thread Cert.RefAdamLnGIdeal.nD Cert.RefAdamLnGIdeal.τ).loc Cert.RefAdamLnGIdeal.main_arg1) = m' ((c.tc : Thread Cert.RefAdamLnGIdeal.nD Cert.RefAdamLnGIdeal.τ).loc Cert.RefAdamLnGIdeal.main_arg1)
          ∧ r.2.mem ((c.tc : Thread Cert.RefAdamLnGIdeal.nD Cert.RefAdamLnGIdeal.τ).loc Cert.RefAdamLnGIdeal.main_arg2) = m' ((c.tc : Thread Cert.RefAdamLnGIdeal.nD Cert.RefAdamLnGIdeal.τ).loc Cert.RefAdamLnGIdeal.main_arg2)
          ∧ r.2.mem ((c.tc : Thread Cert.RefAdamLnGIdeal.nD Cert.RefAdamLnGIdeal.τ).loc Cert.RefAdamLnGIdeal.main_arg3) = m' ((c.tc : Thread Cert.RefAdamLnGIdeal.nD Cert.RefAdamLnGIdeal.τ).loc Cert.RefAdamLnGIdeal.main_arg3))

def preserves_AdamWs_AdamWsIdeal : Prop :=
  True

def algebraic_AdamWsIdeal_RefAdamWsIdeal [hAdamWsIdeal : Cert.AdamWsIdeal.Facts] [hRefAdamWsIdeal : Cert.RefAdamWsIdeal.Facts] : Prop :=
  ∀ (m : (ℓ : Loc Cert.AdamWsIdeal.nD Cert.AdamWsIdeal.τ Cert.AdamWsIdeal.sig) → Buf (Elt Ideal) ℓ) (g : Dev Cert.AdamWsIdeal.nD → PrngReg)
    (m' : (ℓ : Loc Cert.RefAdamWsIdeal.nD Cert.RefAdamWsIdeal.τ Cert.RefAdamWsIdeal.sig) → Buf (Elt Ideal) ℓ) (g' : Dev Cert.RefAdamWsIdeal.nD → PrngReg), Pre_AdamWsIdeal m →
    (∀ c : Dev Cert.AdamWsIdeal.nD,
      m' ((c.tc : Thread Cert.RefAdamWsIdeal.nD Cert.RefAdamWsIdeal.τ).loc Cert.RefAdamWsIdeal.main_arg0) = m ((c.tc : Thread Cert.AdamWsIdeal.nD Cert.AdamWsIdeal.τ).loc Cert.AdamWsIdeal.main_arg0)
      ∧ m' ((c.tc : Thread Cert.RefAdamWsIdeal.nD Cert.RefAdamWsIdeal.τ).loc Cert.RefAdamWsIdeal.main_arg1) = m ((c.tc : Thread Cert.AdamWsIdeal.nD Cert.AdamWsIdeal.τ).loc Cert.AdamWsIdeal.main_arg1)
      ∧ m' ((c.tc : Thread Cert.RefAdamWsIdeal.nD Cert.RefAdamWsIdeal.τ).loc Cert.RefAdamWsIdeal.main_arg2) = m ((c.tc : Thread Cert.AdamWsIdeal.nD Cert.AdamWsIdeal.τ).loc Cert.AdamWsIdeal.main_arg2)
      ∧ m' ((c.tc : Thread Cert.RefAdamWsIdeal.nD Cert.RefAdamWsIdeal.τ).loc Cert.RefAdamWsIdeal.main_arg3) = m ((c.tc : Thread Cert.AdamWsIdeal.nD Cert.AdamWsIdeal.τ).loc Cert.AdamWsIdeal.main_arg3)) →
    ∃ (v0 : (c : Dev Cert.AdamWsIdeal.nD) → Buf (Elt Ideal) ((c.tc : Thread Cert.AdamWsIdeal.nD Cert.AdamWsIdeal.τ).loc Cert.AdamWsIdeal.main_v4_0)) (v1 : (c : Dev Cert.AdamWsIdeal.nD) → Buf (Elt Ideal) ((c.tc : Thread Cert.AdamWsIdeal.nD Cert.AdamWsIdeal.τ).loc Cert.AdamWsIdeal.main_v4_1)) (v2 : (c : Dev Cert.AdamWsIdeal.nD) → Buf (Elt Ideal) ((c.tc : Thread Cert.AdamWsIdeal.nD Cert.AdamWsIdeal.τ).loc Cert.AdamWsIdeal.main_v4_2)),
      θ_run (Cert.AdamWsIdeal.defs (F := Ideal)) (onTc (τ := Cert.AdamWsIdeal.τ) (Cert.AdamWsIdeal.main (F := Ideal))) ⟨m, fun _ => 0, g⟩ (fun r => ∀ c : Dev Cert.AdamWsIdeal.nD,
          r.2.mem ((c.tc : Thread Cert.AdamWsIdeal.nD Cert.AdamWsIdeal.τ).loc Cert.AdamWsIdeal.main_v4_0) = v0 c
          ∧ r.2.mem ((c.tc : Thread Cert.AdamWsIdeal.nD Cert.AdamWsIdeal.τ).loc Cert.AdamWsIdeal.main_v4_1) = v1 c
          ∧ r.2.mem ((c.tc : Thread Cert.AdamWsIdeal.nD Cert.AdamWsIdeal.τ).loc Cert.AdamWsIdeal.main_v4_2) = v2 c
          ∧ r.2.mem ((c.tc : Thread Cert.AdamWsIdeal.nD Cert.AdamWsIdeal.τ).loc Cert.AdamWsIdeal.main_arg0) = m ((c.tc : Thread Cert.AdamWsIdeal.nD Cert.AdamWsIdeal.τ).loc Cert.AdamWsIdeal.main_arg0)
          ∧ r.2.mem ((c.tc : Thread Cert.AdamWsIdeal.nD Cert.AdamWsIdeal.τ).loc Cert.AdamWsIdeal.main_arg1) = m ((c.tc : Thread Cert.AdamWsIdeal.nD Cert.AdamWsIdeal.τ).loc Cert.AdamWsIdeal.main_arg1)
          ∧ r.2.mem ((c.tc : Thread Cert.AdamWsIdeal.nD Cert.AdamWsIdeal.τ).loc Cert.AdamWsIdeal.main_arg2) = m ((c.tc : Thread Cert.AdamWsIdeal.nD Cert.AdamWsIdeal.τ).loc Cert.AdamWsIdeal.main_arg2)
          ∧ r.2.mem ((c.tc : Thread Cert.AdamWsIdeal.nD Cert.AdamWsIdeal.τ).loc Cert.AdamWsIdeal.main_arg3) = m ((c.tc : Thread Cert.AdamWsIdeal.nD Cert.AdamWsIdeal.τ).loc Cert.AdamWsIdeal.main_arg3))
      ∧ θ_run (Cert.RefAdamWsIdeal.defs (F := Ideal)) (onTc (τ := Cert.RefAdamWsIdeal.τ) (Cert.RefAdamWsIdeal.main (F := Ideal))) ⟨m', fun _ => 0, g'⟩ (fun r => ∀ c : Dev Cert.RefAdamWsIdeal.nD,
          r.2.mem ((c.tc : Thread Cert.RefAdamWsIdeal.nD Cert.RefAdamWsIdeal.τ).loc Cert.RefAdamWsIdeal.main_v27) = v0 c
          ∧ r.2.mem ((c.tc : Thread Cert.RefAdamWsIdeal.nD Cert.RefAdamWsIdeal.τ).loc Cert.RefAdamWsIdeal.main_v8) = v1 c
          ∧ r.2.mem ((c.tc : Thread Cert.RefAdamWsIdeal.nD Cert.RefAdamWsIdeal.τ).loc Cert.RefAdamWsIdeal.main_v14) = v2 c
          ∧ r.2.mem ((c.tc : Thread Cert.RefAdamWsIdeal.nD Cert.RefAdamWsIdeal.τ).loc Cert.RefAdamWsIdeal.main_arg0) = m' ((c.tc : Thread Cert.RefAdamWsIdeal.nD Cert.RefAdamWsIdeal.τ).loc Cert.RefAdamWsIdeal.main_arg0)
          ∧ r.2.mem ((c.tc : Thread Cert.RefAdamWsIdeal.nD Cert.RefAdamWsIdeal.τ).loc Cert.RefAdamWsIdeal.main_arg1) = m' ((c.tc : Thread Cert.RefAdamWsIdeal.nD Cert.RefAdamWsIdeal.τ).loc Cert.RefAdamWsIdeal.main_arg1)
          ∧ r.2.mem ((c.tc : Thread Cert.RefAdamWsIdeal.nD Cert.RefAdamWsIdeal.τ).loc Cert.RefAdamWsIdeal.main_arg2) = m' ((c.tc : Thread Cert.RefAdamWsIdeal.nD Cert.RefAdamWsIdeal.τ).loc Cert.RefAdamWsIdeal.main_arg2)
          ∧ r.2.mem ((c.tc : Thread Cert.RefAdamWsIdeal.nD Cert.RefAdamWsIdeal.τ).loc Cert.RefAdamWsIdeal.main_arg3) = m' ((c.tc : Thread Cert.RefAdamWsIdeal.nD Cert.RefAdamWsIdeal.τ).loc Cert.RefAdamWsIdeal.main_arg3))

def preserves_AdamBs_AdamBsIdeal : Prop :=
  True

def algebraic_AdamBsIdeal_RefAdamBsIdeal [hAdamBsIdeal : Cert.AdamBsIdeal.Facts] [hRefAdamBsIdeal : Cert.RefAdamBsIdeal.Facts] : Prop :=
  ∀ (m : (ℓ : Loc Cert.AdamBsIdeal.nD Cert.AdamBsIdeal.τ Cert.AdamBsIdeal.sig) → Buf (Elt Ideal) ℓ) (g : Dev Cert.AdamBsIdeal.nD → PrngReg)
    (m' : (ℓ : Loc Cert.RefAdamBsIdeal.nD Cert.RefAdamBsIdeal.τ Cert.RefAdamBsIdeal.sig) → Buf (Elt Ideal) ℓ) (g' : Dev Cert.RefAdamBsIdeal.nD → PrngReg), Pre_AdamBsIdeal m →
    (∀ c : Dev Cert.AdamBsIdeal.nD,
      m' ((c.tc : Thread Cert.RefAdamBsIdeal.nD Cert.RefAdamBsIdeal.τ).loc Cert.RefAdamBsIdeal.main_arg0) = m ((c.tc : Thread Cert.AdamBsIdeal.nD Cert.AdamBsIdeal.τ).loc Cert.AdamBsIdeal.main_arg0)
      ∧ m' ((c.tc : Thread Cert.RefAdamBsIdeal.nD Cert.RefAdamBsIdeal.τ).loc Cert.RefAdamBsIdeal.main_arg1) = m ((c.tc : Thread Cert.AdamBsIdeal.nD Cert.AdamBsIdeal.τ).loc Cert.AdamBsIdeal.main_arg1)
      ∧ m' ((c.tc : Thread Cert.RefAdamBsIdeal.nD Cert.RefAdamBsIdeal.τ).loc Cert.RefAdamBsIdeal.main_arg2) = m ((c.tc : Thread Cert.AdamBsIdeal.nD Cert.AdamBsIdeal.τ).loc Cert.AdamBsIdeal.main_arg2)
      ∧ m' ((c.tc : Thread Cert.RefAdamBsIdeal.nD Cert.RefAdamBsIdeal.τ).loc Cert.RefAdamBsIdeal.main_arg3) = m ((c.tc : Thread Cert.AdamBsIdeal.nD Cert.AdamBsIdeal.τ).loc Cert.AdamBsIdeal.main_arg3)) →
    ∃ (v0 : (c : Dev Cert.AdamBsIdeal.nD) → Buf (Elt Ideal) ((c.tc : Thread Cert.AdamBsIdeal.nD Cert.AdamBsIdeal.τ).loc Cert.AdamBsIdeal.main_v4_0)) (v1 : (c : Dev Cert.AdamBsIdeal.nD) → Buf (Elt Ideal) ((c.tc : Thread Cert.AdamBsIdeal.nD Cert.AdamBsIdeal.τ).loc Cert.AdamBsIdeal.main_v4_1)) (v2 : (c : Dev Cert.AdamBsIdeal.nD) → Buf (Elt Ideal) ((c.tc : Thread Cert.AdamBsIdeal.nD Cert.AdamBsIdeal.τ).loc Cert.AdamBsIdeal.main_v4_2)),
      θ_run (Cert.AdamBsIdeal.defs (F := Ideal)) (onTc (τ := Cert.AdamBsIdeal.τ) (Cert.AdamBsIdeal.main (F := Ideal))) ⟨m, fun _ => 0, g⟩ (fun r => ∀ c : Dev Cert.AdamBsIdeal.nD,
          r.2.mem ((c.tc : Thread Cert.AdamBsIdeal.nD Cert.AdamBsIdeal.τ).loc Cert.AdamBsIdeal.main_v4_0) = v0 c
          ∧ r.2.mem ((c.tc : Thread Cert.AdamBsIdeal.nD Cert.AdamBsIdeal.τ).loc Cert.AdamBsIdeal.main_v4_1) = v1 c
          ∧ r.2.mem ((c.tc : Thread Cert.AdamBsIdeal.nD Cert.AdamBsIdeal.τ).loc Cert.AdamBsIdeal.main_v4_2) = v2 c
          ∧ r.2.mem ((c.tc : Thread Cert.AdamBsIdeal.nD Cert.AdamBsIdeal.τ).loc Cert.AdamBsIdeal.main_arg0) = m ((c.tc : Thread Cert.AdamBsIdeal.nD Cert.AdamBsIdeal.τ).loc Cert.AdamBsIdeal.main_arg0)
          ∧ r.2.mem ((c.tc : Thread Cert.AdamBsIdeal.nD Cert.AdamBsIdeal.τ).loc Cert.AdamBsIdeal.main_arg1) = m ((c.tc : Thread Cert.AdamBsIdeal.nD Cert.AdamBsIdeal.τ).loc Cert.AdamBsIdeal.main_arg1)
          ∧ r.2.mem ((c.tc : Thread Cert.AdamBsIdeal.nD Cert.AdamBsIdeal.τ).loc Cert.AdamBsIdeal.main_arg2) = m ((c.tc : Thread Cert.AdamBsIdeal.nD Cert.AdamBsIdeal.τ).loc Cert.AdamBsIdeal.main_arg2)
          ∧ r.2.mem ((c.tc : Thread Cert.AdamBsIdeal.nD Cert.AdamBsIdeal.τ).loc Cert.AdamBsIdeal.main_arg3) = m ((c.tc : Thread Cert.AdamBsIdeal.nD Cert.AdamBsIdeal.τ).loc Cert.AdamBsIdeal.main_arg3))
      ∧ θ_run (Cert.RefAdamBsIdeal.defs (F := Ideal)) (onTc (τ := Cert.RefAdamBsIdeal.τ) (Cert.RefAdamBsIdeal.main (F := Ideal))) ⟨m', fun _ => 0, g'⟩ (fun r => ∀ c : Dev Cert.RefAdamBsIdeal.nD,
          r.2.mem ((c.tc : Thread Cert.RefAdamBsIdeal.nD Cert.RefAdamBsIdeal.τ).loc Cert.RefAdamBsIdeal.main_v27) = v0 c
          ∧ r.2.mem ((c.tc : Thread Cert.RefAdamBsIdeal.nD Cert.RefAdamBsIdeal.τ).loc Cert.RefAdamBsIdeal.main_v8) = v1 c
          ∧ r.2.mem ((c.tc : Thread Cert.RefAdamBsIdeal.nD Cert.RefAdamBsIdeal.τ).loc Cert.RefAdamBsIdeal.main_v14) = v2 c
          ∧ r.2.mem ((c.tc : Thread Cert.RefAdamBsIdeal.nD Cert.RefAdamBsIdeal.τ).loc Cert.RefAdamBsIdeal.main_arg0) = m' ((c.tc : Thread Cert.RefAdamBsIdeal.nD Cert.RefAdamBsIdeal.τ).loc Cert.RefAdamBsIdeal.main_arg0)
          ∧ r.2.mem ((c.tc : Thread Cert.RefAdamBsIdeal.nD Cert.RefAdamBsIdeal.τ).loc Cert.RefAdamBsIdeal.main_arg1) = m' ((c.tc : Thread Cert.RefAdamBsIdeal.nD Cert.RefAdamBsIdeal.τ).loc Cert.RefAdamBsIdeal.main_arg1)
          ∧ r.2.mem ((c.tc : Thread Cert.RefAdamBsIdeal.nD Cert.RefAdamBsIdeal.τ).loc Cert.RefAdamBsIdeal.main_arg2) = m' ((c.tc : Thread Cert.RefAdamBsIdeal.nD Cert.RefAdamBsIdeal.τ).loc Cert.RefAdamBsIdeal.main_arg2)
          ∧ r.2.mem ((c.tc : Thread Cert.RefAdamBsIdeal.nD Cert.RefAdamBsIdeal.τ).loc Cert.RefAdamBsIdeal.main_arg3) = m' ((c.tc : Thread Cert.RefAdamBsIdeal.nD Cert.RefAdamBsIdeal.τ).loc Cert.RefAdamBsIdeal.main_arg3))

def preserves_AdamKvNormG_AdamKvNormGIdeal : Prop :=
  True

def algebraic_AdamKvNormGIdeal_RefAdamKvNormGIdeal [hAdamKvNormGIdeal : Cert.AdamKvNormGIdeal.Facts] [hRefAdamKvNormGIdeal : Cert.RefAdamKvNormGIdeal.Facts] : Prop :=
  ∀ (m : (ℓ : Loc Cert.AdamKvNormGIdeal.nD Cert.AdamKvNormGIdeal.τ Cert.AdamKvNormGIdeal.sig) → Buf (Elt Ideal) ℓ) (g : Dev Cert.AdamKvNormGIdeal.nD → PrngReg)
    (m' : (ℓ : Loc Cert.RefAdamKvNormGIdeal.nD Cert.RefAdamKvNormGIdeal.τ Cert.RefAdamKvNormGIdeal.sig) → Buf (Elt Ideal) ℓ) (g' : Dev Cert.RefAdamKvNormGIdeal.nD → PrngReg), Pre_AdamKvNormGIdeal m →
    (∀ c : Dev Cert.AdamKvNormGIdeal.nD,
      m' ((c.tc : Thread Cert.RefAdamKvNormGIdeal.nD Cert.RefAdamKvNormGIdeal.τ).loc Cert.RefAdamKvNormGIdeal.main_arg0) = m ((c.tc : Thread Cert.AdamKvNormGIdeal.nD Cert.AdamKvNormGIdeal.τ).loc Cert.AdamKvNormGIdeal.main_arg0)
      ∧ m' ((c.tc : Thread Cert.RefAdamKvNormGIdeal.nD Cert.RefAdamKvNormGIdeal.τ).loc Cert.RefAdamKvNormGIdeal.main_arg1) = m ((c.tc : Thread Cert.AdamKvNormGIdeal.nD Cert.AdamKvNormGIdeal.τ).loc Cert.AdamKvNormGIdeal.main_arg1)
      ∧ m' ((c.tc : Thread Cert.RefAdamKvNormGIdeal.nD Cert.RefAdamKvNormGIdeal.τ).loc Cert.RefAdamKvNormGIdeal.main_arg2) = m ((c.tc : Thread Cert.AdamKvNormGIdeal.nD Cert.AdamKvNormGIdeal.τ).loc Cert.AdamKvNormGIdeal.main_arg2)
      ∧ m' ((c.tc : Thread Cert.RefAdamKvNormGIdeal.nD Cert.RefAdamKvNormGIdeal.τ).loc Cert.RefAdamKvNormGIdeal.main_arg3) = m ((c.tc : Thread Cert.AdamKvNormGIdeal.nD Cert.AdamKvNormGIdeal.τ).loc Cert.AdamKvNormGIdeal.main_arg3)) →
    ∃ (v0 : (c : Dev Cert.AdamKvNormGIdeal.nD) → Buf (Elt Ideal) ((c.tc : Thread Cert.AdamKvNormGIdeal.nD Cert.AdamKvNormGIdeal.τ).loc Cert.AdamKvNormGIdeal.main_v4_0)) (v1 : (c : Dev Cert.AdamKvNormGIdeal.nD) → Buf (Elt Ideal) ((c.tc : Thread Cert.AdamKvNormGIdeal.nD Cert.AdamKvNormGIdeal.τ).loc Cert.AdamKvNormGIdeal.main_v4_1)) (v2 : (c : Dev Cert.AdamKvNormGIdeal.nD) → Buf (Elt Ideal) ((c.tc : Thread Cert.AdamKvNormGIdeal.nD Cert.AdamKvNormGIdeal.τ).loc Cert.AdamKvNormGIdeal.main_v4_2)),
      θ_run (Cert.AdamKvNormGIdeal.defs (F := Ideal)) (onTc (τ := Cert.AdamKvNormGIdeal.τ) (Cert.AdamKvNormGIdeal.main (F := Ideal))) ⟨m, fun _ => 0, g⟩ (fun r => ∀ c : Dev Cert.AdamKvNormGIdeal.nD,
          r.2.mem ((c.tc : Thread Cert.AdamKvNormGIdeal.nD Cert.AdamKvNormGIdeal.τ).loc Cert.AdamKvNormGIdeal.main_v4_0) = v0 c
          ∧ r.2.mem ((c.tc : Thread Cert.AdamKvNormGIdeal.nD Cert.AdamKvNormGIdeal.τ).loc Cert.AdamKvNormGIdeal.main_v4_1) = v1 c
          ∧ r.2.mem ((c.tc : Thread Cert.AdamKvNormGIdeal.nD Cert.AdamKvNormGIdeal.τ).loc Cert.AdamKvNormGIdeal.main_v4_2) = v2 c
          ∧ r.2.mem ((c.tc : Thread Cert.AdamKvNormGIdeal.nD Cert.AdamKvNormGIdeal.τ).loc Cert.AdamKvNormGIdeal.main_arg0) = m ((c.tc : Thread Cert.AdamKvNormGIdeal.nD Cert.AdamKvNormGIdeal.τ).loc Cert.AdamKvNormGIdeal.main_arg0)
          ∧ r.2.mem ((c.tc : Thread Cert.AdamKvNormGIdeal.nD Cert.AdamKvNormGIdeal.τ).loc Cert.AdamKvNormGIdeal.main_arg1) = m ((c.tc : Thread Cert.AdamKvNormGIdeal.nD Cert.AdamKvNormGIdeal.τ).loc Cert.AdamKvNormGIdeal.main_arg1)
          ∧ r.2.mem ((c.tc : Thread Cert.AdamKvNormGIdeal.nD Cert.AdamKvNormGIdeal.τ).loc Cert.AdamKvNormGIdeal.main_arg2) = m ((c.tc : Thread Cert.AdamKvNormGIdeal.nD Cert.AdamKvNormGIdeal.τ).loc Cert.AdamKvNormGIdeal.main_arg2)
          ∧ r.2.mem ((c.tc : Thread Cert.AdamKvNormGIdeal.nD Cert.AdamKvNormGIdeal.τ).loc Cert.AdamKvNormGIdeal.main_arg3) = m ((c.tc : Thread Cert.AdamKvNormGIdeal.nD Cert.AdamKvNormGIdeal.τ).loc Cert.AdamKvNormGIdeal.main_arg3))
      ∧ θ_run (Cert.RefAdamKvNormGIdeal.defs (F := Ideal)) (onTc (τ := Cert.RefAdamKvNormGIdeal.τ) (Cert.RefAdamKvNormGIdeal.main (F := Ideal))) ⟨m', fun _ => 0, g'⟩ (fun r => ∀ c : Dev Cert.RefAdamKvNormGIdeal.nD,
          r.2.mem ((c.tc : Thread Cert.RefAdamKvNormGIdeal.nD Cert.RefAdamKvNormGIdeal.τ).loc Cert.RefAdamKvNormGIdeal.main_v27) = v0 c
          ∧ r.2.mem ((c.tc : Thread Cert.RefAdamKvNormGIdeal.nD Cert.RefAdamKvNormGIdeal.τ).loc Cert.RefAdamKvNormGIdeal.main_v8) = v1 c
          ∧ r.2.mem ((c.tc : Thread Cert.RefAdamKvNormGIdeal.nD Cert.RefAdamKvNormGIdeal.τ).loc Cert.RefAdamKvNormGIdeal.main_v14) = v2 c
          ∧ r.2.mem ((c.tc : Thread Cert.RefAdamKvNormGIdeal.nD Cert.RefAdamKvNormGIdeal.τ).loc Cert.RefAdamKvNormGIdeal.main_arg0) = m' ((c.tc : Thread Cert.RefAdamKvNormGIdeal.nD Cert.RefAdamKvNormGIdeal.τ).loc Cert.RefAdamKvNormGIdeal.main_arg0)
          ∧ r.2.mem ((c.tc : Thread Cert.RefAdamKvNormGIdeal.nD Cert.RefAdamKvNormGIdeal.τ).loc Cert.RefAdamKvNormGIdeal.main_arg1) = m' ((c.tc : Thread Cert.RefAdamKvNormGIdeal.nD Cert.RefAdamKvNormGIdeal.τ).loc Cert.RefAdamKvNormGIdeal.main_arg1)
          ∧ r.2.mem ((c.tc : Thread Cert.RefAdamKvNormGIdeal.nD Cert.RefAdamKvNormGIdeal.τ).loc Cert.RefAdamKvNormGIdeal.main_arg2) = m' ((c.tc : Thread Cert.RefAdamKvNormGIdeal.nD Cert.RefAdamKvNormGIdeal.τ).loc Cert.RefAdamKvNormGIdeal.main_arg2)
          ∧ r.2.mem ((c.tc : Thread Cert.RefAdamKvNormGIdeal.nD Cert.RefAdamKvNormGIdeal.τ).loc Cert.RefAdamKvNormGIdeal.main_arg3) = m' ((c.tc : Thread Cert.RefAdamKvNormGIdeal.nD Cert.RefAdamKvNormGIdeal.τ).loc Cert.RefAdamKvNormGIdeal.main_arg3))

def preserves_AdamKvAdaB_AdamKvAdaBIdeal : Prop :=
  True

def algebraic_AdamKvAdaBIdeal_RefAdamKvAdaBIdeal [hAdamKvAdaBIdeal : Cert.AdamKvAdaBIdeal.Facts] [hRefAdamKvAdaBIdeal : Cert.RefAdamKvAdaBIdeal.Facts] : Prop :=
  ∀ (m : (ℓ : Loc Cert.AdamKvAdaBIdeal.nD Cert.AdamKvAdaBIdeal.τ Cert.AdamKvAdaBIdeal.sig) → Buf (Elt Ideal) ℓ) (g : Dev Cert.AdamKvAdaBIdeal.nD → PrngReg)
    (m' : (ℓ : Loc Cert.RefAdamKvAdaBIdeal.nD Cert.RefAdamKvAdaBIdeal.τ Cert.RefAdamKvAdaBIdeal.sig) → Buf (Elt Ideal) ℓ) (g' : Dev Cert.RefAdamKvAdaBIdeal.nD → PrngReg), Pre_AdamKvAdaBIdeal m →
    (∀ c : Dev Cert.AdamKvAdaBIdeal.nD,
      m' ((c.tc : Thread Cert.RefAdamKvAdaBIdeal.nD Cert.RefAdamKvAdaBIdeal.τ).loc Cert.RefAdamKvAdaBIdeal.main_arg0) = m ((c.tc : Thread Cert.AdamKvAdaBIdeal.nD Cert.AdamKvAdaBIdeal.τ).loc Cert.AdamKvAdaBIdeal.main_arg0)
      ∧ m' ((c.tc : Thread Cert.RefAdamKvAdaBIdeal.nD Cert.RefAdamKvAdaBIdeal.τ).loc Cert.RefAdamKvAdaBIdeal.main_arg1) = m ((c.tc : Thread Cert.AdamKvAdaBIdeal.nD Cert.AdamKvAdaBIdeal.τ).loc Cert.AdamKvAdaBIdeal.main_arg1)
      ∧ m' ((c.tc : Thread Cert.RefAdamKvAdaBIdeal.nD Cert.RefAdamKvAdaBIdeal.τ).loc Cert.RefAdamKvAdaBIdeal.main_arg2) = m ((c.tc : Thread Cert.AdamKvAdaBIdeal.nD Cert.AdamKvAdaBIdeal.τ).loc Cert.AdamKvAdaBIdeal.main_arg2)
      ∧ m' ((c.tc : Thread Cert.RefAdamKvAdaBIdeal.nD Cert.RefAdamKvAdaBIdeal.τ).loc Cert.RefAdamKvAdaBIdeal.main_arg3) = m ((c.tc : Thread Cert.AdamKvAdaBIdeal.nD Cert.AdamKvAdaBIdeal.τ).loc Cert.AdamKvAdaBIdeal.main_arg3)) →
    ∃ (v0 : (c : Dev Cert.AdamKvAdaBIdeal.nD) → Buf (Elt Ideal) ((c.tc : Thread Cert.AdamKvAdaBIdeal.nD Cert.AdamKvAdaBIdeal.τ).loc Cert.AdamKvAdaBIdeal.main_v4_0)) (v1 : (c : Dev Cert.AdamKvAdaBIdeal.nD) → Buf (Elt Ideal) ((c.tc : Thread Cert.AdamKvAdaBIdeal.nD Cert.AdamKvAdaBIdeal.τ).loc Cert.AdamKvAdaBIdeal.main_v4_1)) (v2 : (c : Dev Cert.AdamKvAdaBIdeal.nD) → Buf (Elt Ideal) ((c.tc : Thread Cert.AdamKvAdaBIdeal.nD Cert.AdamKvAdaBIdeal.τ).loc Cert.AdamKvAdaBIdeal.main_v4_2)),
      θ_run (Cert.AdamKvAdaBIdeal.defs (F := Ideal)) (onTc (τ := Cert.AdamKvAdaBIdeal.τ) (Cert.AdamKvAdaBIdeal.main (F := Ideal))) ⟨m, fun _ => 0, g⟩ (fun r => ∀ c : Dev Cert.AdamKvAdaBIdeal.nD,
          r.2.mem ((c.tc : Thread Cert.AdamKvAdaBIdeal.nD Cert.AdamKvAdaBIdeal.τ).loc Cert.AdamKvAdaBIdeal.main_v4_0) = v0 c
          ∧ r.2.mem ((c.tc : Thread Cert.AdamKvAdaBIdeal.nD Cert.AdamKvAdaBIdeal.τ).loc Cert.AdamKvAdaBIdeal.main_v4_1) = v1 c
          ∧ r.2.mem ((c.tc : Thread Cert.AdamKvAdaBIdeal.nD Cert.AdamKvAdaBIdeal.τ).loc Cert.AdamKvAdaBIdeal.main_v4_2) = v2 c
          ∧ r.2.mem ((c.tc : Thread Cert.AdamKvAdaBIdeal.nD Cert.AdamKvAdaBIdeal.τ).loc Cert.AdamKvAdaBIdeal.main_arg0) = m ((c.tc : Thread Cert.AdamKvAdaBIdeal.nD Cert.AdamKvAdaBIdeal.τ).loc Cert.AdamKvAdaBIdeal.main_arg0)
          ∧ r.2.mem ((c.tc : Thread Cert.AdamKvAdaBIdeal.nD Cert.AdamKvAdaBIdeal.τ).loc Cert.AdamKvAdaBIdeal.main_arg1) = m ((c.tc : Thread Cert.AdamKvAdaBIdeal.nD Cert.AdamKvAdaBIdeal.τ).loc Cert.AdamKvAdaBIdeal.main_arg1)
          ∧ r.2.mem ((c.tc : Thread Cert.AdamKvAdaBIdeal.nD Cert.AdamKvAdaBIdeal.τ).loc Cert.AdamKvAdaBIdeal.main_arg2) = m ((c.tc : Thread Cert.AdamKvAdaBIdeal.nD Cert.AdamKvAdaBIdeal.τ).loc Cert.AdamKvAdaBIdeal.main_arg2)
          ∧ r.2.mem ((c.tc : Thread Cert.AdamKvAdaBIdeal.nD Cert.AdamKvAdaBIdeal.τ).loc Cert.AdamKvAdaBIdeal.main_arg3) = m ((c.tc : Thread Cert.AdamKvAdaBIdeal.nD Cert.AdamKvAdaBIdeal.τ).loc Cert.AdamKvAdaBIdeal.main_arg3))
      ∧ θ_run (Cert.RefAdamKvAdaBIdeal.defs (F := Ideal)) (onTc (τ := Cert.RefAdamKvAdaBIdeal.τ) (Cert.RefAdamKvAdaBIdeal.main (F := Ideal))) ⟨m', fun _ => 0, g'⟩ (fun r => ∀ c : Dev Cert.RefAdamKvAdaBIdeal.nD,
          r.2.mem ((c.tc : Thread Cert.RefAdamKvAdaBIdeal.nD Cert.RefAdamKvAdaBIdeal.τ).loc Cert.RefAdamKvAdaBIdeal.main_v27) = v0 c
          ∧ r.2.mem ((c.tc : Thread Cert.RefAdamKvAdaBIdeal.nD Cert.RefAdamKvAdaBIdeal.τ).loc Cert.RefAdamKvAdaBIdeal.main_v8) = v1 c
          ∧ r.2.mem ((c.tc : Thread Cert.RefAdamKvAdaBIdeal.nD Cert.RefAdamKvAdaBIdeal.τ).loc Cert.RefAdamKvAdaBIdeal.main_v14) = v2 c
          ∧ r.2.mem ((c.tc : Thread Cert.RefAdamKvAdaBIdeal.nD Cert.RefAdamKvAdaBIdeal.τ).loc Cert.RefAdamKvAdaBIdeal.main_arg0) = m' ((c.tc : Thread Cert.RefAdamKvAdaBIdeal.nD Cert.RefAdamKvAdaBIdeal.τ).loc Cert.RefAdamKvAdaBIdeal.main_arg0)
          ∧ r.2.mem ((c.tc : Thread Cert.RefAdamKvAdaBIdeal.nD Cert.RefAdamKvAdaBIdeal.τ).loc Cert.RefAdamKvAdaBIdeal.main_arg1) = m' ((c.tc : Thread Cert.RefAdamKvAdaBIdeal.nD Cert.RefAdamKvAdaBIdeal.τ).loc Cert.RefAdamKvAdaBIdeal.main_arg1)
          ∧ r.2.mem ((c.tc : Thread Cert.RefAdamKvAdaBIdeal.nD Cert.RefAdamKvAdaBIdeal.τ).loc Cert.RefAdamKvAdaBIdeal.main_arg2) = m' ((c.tc : Thread Cert.RefAdamKvAdaBIdeal.nD Cert.RefAdamKvAdaBIdeal.τ).loc Cert.RefAdamKvAdaBIdeal.main_arg2)
          ∧ r.2.mem ((c.tc : Thread Cert.RefAdamKvAdaBIdeal.nD Cert.RefAdamKvAdaBIdeal.τ).loc Cert.RefAdamKvAdaBIdeal.main_arg3) = m' ((c.tc : Thread Cert.RefAdamKvAdaBIdeal.nD Cert.RefAdamKvAdaBIdeal.τ).loc Cert.RefAdamKvAdaBIdeal.main_arg3))

def preserves_AdamKNormG_AdamKNormGIdeal : Prop :=
  True

def algebraic_AdamKNormGIdeal_RefAdamKNormGIdeal [hAdamKNormGIdeal : Cert.AdamKNormGIdeal.Facts] [hRefAdamKNormGIdeal : Cert.RefAdamKNormGIdeal.Facts] : Prop :=
  ∀ (m : (ℓ : Loc Cert.AdamKNormGIdeal.nD Cert.AdamKNormGIdeal.τ Cert.AdamKNormGIdeal.sig) → Buf (Elt Ideal) ℓ) (g : Dev Cert.AdamKNormGIdeal.nD → PrngReg)
    (m' : (ℓ : Loc Cert.RefAdamKNormGIdeal.nD Cert.RefAdamKNormGIdeal.τ Cert.RefAdamKNormGIdeal.sig) → Buf (Elt Ideal) ℓ) (g' : Dev Cert.RefAdamKNormGIdeal.nD → PrngReg), Pre_AdamKNormGIdeal m →
    (∀ c : Dev Cert.AdamKNormGIdeal.nD,
      m' ((c.tc : Thread Cert.RefAdamKNormGIdeal.nD Cert.RefAdamKNormGIdeal.τ).loc Cert.RefAdamKNormGIdeal.main_arg0) = m ((c.tc : Thread Cert.AdamKNormGIdeal.nD Cert.AdamKNormGIdeal.τ).loc Cert.AdamKNormGIdeal.main_arg0)
      ∧ m' ((c.tc : Thread Cert.RefAdamKNormGIdeal.nD Cert.RefAdamKNormGIdeal.τ).loc Cert.RefAdamKNormGIdeal.main_arg1) = m ((c.tc : Thread Cert.AdamKNormGIdeal.nD Cert.AdamKNormGIdeal.τ).loc Cert.AdamKNormGIdeal.main_arg1)
      ∧ m' ((c.tc : Thread Cert.RefAdamKNormGIdeal.nD Cert.RefAdamKNormGIdeal.τ).loc Cert.RefAdamKNormGIdeal.main_arg2) = m ((c.tc : Thread Cert.AdamKNormGIdeal.nD Cert.AdamKNormGIdeal.τ).loc Cert.AdamKNormGIdeal.main_arg2)
      ∧ m' ((c.tc : Thread Cert.RefAdamKNormGIdeal.nD Cert.RefAdamKNormGIdeal.τ).loc Cert.RefAdamKNormGIdeal.main_arg3) = m ((c.tc : Thread Cert.AdamKNormGIdeal.nD Cert.AdamKNormGIdeal.τ).loc Cert.AdamKNormGIdeal.main_arg3)) →
    ∃ (v0 : (c : Dev Cert.AdamKNormGIdeal.nD) → Buf (Elt Ideal) ((c.tc : Thread Cert.AdamKNormGIdeal.nD Cert.AdamKNormGIdeal.τ).loc Cert.AdamKNormGIdeal.main_v4_0)) (v1 : (c : Dev Cert.AdamKNormGIdeal.nD) → Buf (Elt Ideal) ((c.tc : Thread Cert.AdamKNormGIdeal.nD Cert.AdamKNormGIdeal.τ).loc Cert.AdamKNormGIdeal.main_v4_1)) (v2 : (c : Dev Cert.AdamKNormGIdeal.nD) → Buf (Elt Ideal) ((c.tc : Thread Cert.AdamKNormGIdeal.nD Cert.AdamKNormGIdeal.τ).loc Cert.AdamKNormGIdeal.main_v4_2)),
      θ_run (Cert.AdamKNormGIdeal.defs (F := Ideal)) (onTc (τ := Cert.AdamKNormGIdeal.τ) (Cert.AdamKNormGIdeal.main (F := Ideal))) ⟨m, fun _ => 0, g⟩ (fun r => ∀ c : Dev Cert.AdamKNormGIdeal.nD,
          r.2.mem ((c.tc : Thread Cert.AdamKNormGIdeal.nD Cert.AdamKNormGIdeal.τ).loc Cert.AdamKNormGIdeal.main_v4_0) = v0 c
          ∧ r.2.mem ((c.tc : Thread Cert.AdamKNormGIdeal.nD Cert.AdamKNormGIdeal.τ).loc Cert.AdamKNormGIdeal.main_v4_1) = v1 c
          ∧ r.2.mem ((c.tc : Thread Cert.AdamKNormGIdeal.nD Cert.AdamKNormGIdeal.τ).loc Cert.AdamKNormGIdeal.main_v4_2) = v2 c
          ∧ r.2.mem ((c.tc : Thread Cert.AdamKNormGIdeal.nD Cert.AdamKNormGIdeal.τ).loc Cert.AdamKNormGIdeal.main_arg0) = m ((c.tc : Thread Cert.AdamKNormGIdeal.nD Cert.AdamKNormGIdeal.τ).loc Cert.AdamKNormGIdeal.main_arg0)
          ∧ r.2.mem ((c.tc : Thread Cert.AdamKNormGIdeal.nD Cert.AdamKNormGIdeal.τ).loc Cert.AdamKNormGIdeal.main_arg1) = m ((c.tc : Thread Cert.AdamKNormGIdeal.nD Cert.AdamKNormGIdeal.τ).loc Cert.AdamKNormGIdeal.main_arg1)
          ∧ r.2.mem ((c.tc : Thread Cert.AdamKNormGIdeal.nD Cert.AdamKNormGIdeal.τ).loc Cert.AdamKNormGIdeal.main_arg2) = m ((c.tc : Thread Cert.AdamKNormGIdeal.nD Cert.AdamKNormGIdeal.τ).loc Cert.AdamKNormGIdeal.main_arg2)
          ∧ r.2.mem ((c.tc : Thread Cert.AdamKNormGIdeal.nD Cert.AdamKNormGIdeal.τ).loc Cert.AdamKNormGIdeal.main_arg3) = m ((c.tc : Thread Cert.AdamKNormGIdeal.nD Cert.AdamKNormGIdeal.τ).loc Cert.AdamKNormGIdeal.main_arg3))
      ∧ θ_run (Cert.RefAdamKNormGIdeal.defs (F := Ideal)) (onTc (τ := Cert.RefAdamKNormGIdeal.τ) (Cert.RefAdamKNormGIdeal.main (F := Ideal))) ⟨m', fun _ => 0, g'⟩ (fun r => ∀ c : Dev Cert.RefAdamKNormGIdeal.nD,
          r.2.mem ((c.tc : Thread Cert.RefAdamKNormGIdeal.nD Cert.RefAdamKNormGIdeal.τ).loc Cert.RefAdamKNormGIdeal.main_v27) = v0 c
          ∧ r.2.mem ((c.tc : Thread Cert.RefAdamKNormGIdeal.nD Cert.RefAdamKNormGIdeal.τ).loc Cert.RefAdamKNormGIdeal.main_v8) = v1 c
          ∧ r.2.mem ((c.tc : Thread Cert.RefAdamKNormGIdeal.nD Cert.RefAdamKNormGIdeal.τ).loc Cert.RefAdamKNormGIdeal.main_v14) = v2 c
          ∧ r.2.mem ((c.tc : Thread Cert.RefAdamKNormGIdeal.nD Cert.RefAdamKNormGIdeal.τ).loc Cert.RefAdamKNormGIdeal.main_arg0) = m' ((c.tc : Thread Cert.RefAdamKNormGIdeal.nD Cert.RefAdamKNormGIdeal.τ).loc Cert.RefAdamKNormGIdeal.main_arg0)
          ∧ r.2.mem ((c.tc : Thread Cert.RefAdamKNormGIdeal.nD Cert.RefAdamKNormGIdeal.τ).loc Cert.RefAdamKNormGIdeal.main_arg1) = m' ((c.tc : Thread Cert.RefAdamKNormGIdeal.nD Cert.RefAdamKNormGIdeal.τ).loc Cert.RefAdamKNormGIdeal.main_arg1)
          ∧ r.2.mem ((c.tc : Thread Cert.RefAdamKNormGIdeal.nD Cert.RefAdamKNormGIdeal.τ).loc Cert.RefAdamKNormGIdeal.main_arg2) = m' ((c.tc : Thread Cert.RefAdamKNormGIdeal.nD Cert.RefAdamKNormGIdeal.τ).loc Cert.RefAdamKNormGIdeal.main_arg2)
          ∧ r.2.mem ((c.tc : Thread Cert.RefAdamKNormGIdeal.nD Cert.RefAdamKNormGIdeal.τ).loc Cert.RefAdamKNormGIdeal.main_arg3) = m' ((c.tc : Thread Cert.RefAdamKNormGIdeal.nD Cert.RefAdamKNormGIdeal.τ).loc Cert.RefAdamKNormGIdeal.main_arg3))

def preserves_AdamWf_AdamWfIdeal : Prop :=
  True

def algebraic_AdamWfIdeal_RefAdamWfIdeal [hAdamWfIdeal : Cert.AdamWfIdeal.Facts] [hRefAdamWfIdeal : Cert.RefAdamWfIdeal.Facts] : Prop :=
  ∀ (m : (ℓ : Loc Cert.AdamWfIdeal.nD Cert.AdamWfIdeal.τ Cert.AdamWfIdeal.sig) → Buf (Elt Ideal) ℓ) (g : Dev Cert.AdamWfIdeal.nD → PrngReg)
    (m' : (ℓ : Loc Cert.RefAdamWfIdeal.nD Cert.RefAdamWfIdeal.τ Cert.RefAdamWfIdeal.sig) → Buf (Elt Ideal) ℓ) (g' : Dev Cert.RefAdamWfIdeal.nD → PrngReg), Pre_AdamWfIdeal m →
    (∀ c : Dev Cert.AdamWfIdeal.nD,
      m' ((c.tc : Thread Cert.RefAdamWfIdeal.nD Cert.RefAdamWfIdeal.τ).loc Cert.RefAdamWfIdeal.main_arg0) = m ((c.tc : Thread Cert.AdamWfIdeal.nD Cert.AdamWfIdeal.τ).loc Cert.AdamWfIdeal.main_arg0)
      ∧ m' ((c.tc : Thread Cert.RefAdamWfIdeal.nD Cert.RefAdamWfIdeal.τ).loc Cert.RefAdamWfIdeal.main_arg1) = m ((c.tc : Thread Cert.AdamWfIdeal.nD Cert.AdamWfIdeal.τ).loc Cert.AdamWfIdeal.main_arg1)
      ∧ m' ((c.tc : Thread Cert.RefAdamWfIdeal.nD Cert.RefAdamWfIdeal.τ).loc Cert.RefAdamWfIdeal.main_arg2) = m ((c.tc : Thread Cert.AdamWfIdeal.nD Cert.AdamWfIdeal.τ).loc Cert.AdamWfIdeal.main_arg2)
      ∧ m' ((c.tc : Thread Cert.RefAdamWfIdeal.nD Cert.RefAdamWfIdeal.τ).loc Cert.RefAdamWfIdeal.main_arg3) = m ((c.tc : Thread Cert.AdamWfIdeal.nD Cert.AdamWfIdeal.τ).loc Cert.AdamWfIdeal.main_arg3)) →
    ∃ (v0 : (c : Dev Cert.AdamWfIdeal.nD) → Buf (Elt Ideal) ((c.tc : Thread Cert.AdamWfIdeal.nD Cert.AdamWfIdeal.τ).loc Cert.AdamWfIdeal.main_v0_0)) (v1 : (c : Dev Cert.AdamWfIdeal.nD) → Buf (Elt Ideal) ((c.tc : Thread Cert.AdamWfIdeal.nD Cert.AdamWfIdeal.τ).loc Cert.AdamWfIdeal.main_v0_1)) (v2 : (c : Dev Cert.AdamWfIdeal.nD) → Buf (Elt Ideal) ((c.tc : Thread Cert.AdamWfIdeal.nD Cert.AdamWfIdeal.τ).loc Cert.AdamWfIdeal.main_v0_2)),
      θ_run (Cert.AdamWfIdeal.defs (F := Ideal)) (onTc (τ := Cert.AdamWfIdeal.τ) (Cert.AdamWfIdeal.main (F := Ideal))) ⟨m, fun _ => 0, g⟩ (fun r => ∀ c : Dev Cert.AdamWfIdeal.nD,
          r.2.mem ((c.tc : Thread Cert.AdamWfIdeal.nD Cert.AdamWfIdeal.τ).loc Cert.AdamWfIdeal.main_v0_0) = v0 c
          ∧ r.2.mem ((c.tc : Thread Cert.AdamWfIdeal.nD Cert.AdamWfIdeal.τ).loc Cert.AdamWfIdeal.main_v0_1) = v1 c
          ∧ r.2.mem ((c.tc : Thread Cert.AdamWfIdeal.nD Cert.AdamWfIdeal.τ).loc Cert.AdamWfIdeal.main_v0_2) = v2 c
          ∧ r.2.mem ((c.tc : Thread Cert.AdamWfIdeal.nD Cert.AdamWfIdeal.τ).loc Cert.AdamWfIdeal.main_arg0) = m ((c.tc : Thread Cert.AdamWfIdeal.nD Cert.AdamWfIdeal.τ).loc Cert.AdamWfIdeal.main_arg0)
          ∧ r.2.mem ((c.tc : Thread Cert.AdamWfIdeal.nD Cert.AdamWfIdeal.τ).loc Cert.AdamWfIdeal.main_arg1) = m ((c.tc : Thread Cert.AdamWfIdeal.nD Cert.AdamWfIdeal.τ).loc Cert.AdamWfIdeal.main_arg1)
          ∧ r.2.mem ((c.tc : Thread Cert.AdamWfIdeal.nD Cert.AdamWfIdeal.τ).loc Cert.AdamWfIdeal.main_arg2) = m ((c.tc : Thread Cert.AdamWfIdeal.nD Cert.AdamWfIdeal.τ).loc Cert.AdamWfIdeal.main_arg2)
          ∧ r.2.mem ((c.tc : Thread Cert.AdamWfIdeal.nD Cert.AdamWfIdeal.τ).loc Cert.AdamWfIdeal.main_arg3) = m ((c.tc : Thread Cert.AdamWfIdeal.nD Cert.AdamWfIdeal.τ).loc Cert.AdamWfIdeal.main_arg3))
      ∧ θ_run (Cert.RefAdamWfIdeal.defs (F := Ideal)) (onTc (τ := Cert.RefAdamWfIdeal.τ) (Cert.RefAdamWfIdeal.main (F := Ideal))) ⟨m', fun _ => 0, g'⟩ (fun r => ∀ c : Dev Cert.RefAdamWfIdeal.nD,
          r.2.mem ((c.tc : Thread Cert.RefAdamWfIdeal.nD Cert.RefAdamWfIdeal.τ).loc Cert.RefAdamWfIdeal.main_v23) = v0 c
          ∧ r.2.mem ((c.tc : Thread Cert.RefAdamWfIdeal.nD Cert.RefAdamWfIdeal.τ).loc Cert.RefAdamWfIdeal.main_v4) = v1 c
          ∧ r.2.mem ((c.tc : Thread Cert.RefAdamWfIdeal.nD Cert.RefAdamWfIdeal.τ).loc Cert.RefAdamWfIdeal.main_v10) = v2 c
          ∧ r.2.mem ((c.tc : Thread Cert.RefAdamWfIdeal.nD Cert.RefAdamWfIdeal.τ).loc Cert.RefAdamWfIdeal.main_arg0) = m' ((c.tc : Thread Cert.RefAdamWfIdeal.nD Cert.RefAdamWfIdeal.τ).loc Cert.RefAdamWfIdeal.main_arg0)
          ∧ r.2.mem ((c.tc : Thread Cert.RefAdamWfIdeal.nD Cert.RefAdamWfIdeal.τ).loc Cert.RefAdamWfIdeal.main_arg1) = m' ((c.tc : Thread Cert.RefAdamWfIdeal.nD Cert.RefAdamWfIdeal.τ).loc Cert.RefAdamWfIdeal.main_arg1)
          ∧ r.2.mem ((c.tc : Thread Cert.RefAdamWfIdeal.nD Cert.RefAdamWfIdeal.τ).loc Cert.RefAdamWfIdeal.main_arg2) = m' ((c.tc : Thread Cert.RefAdamWfIdeal.nD Cert.RefAdamWfIdeal.τ).loc Cert.RefAdamWfIdeal.main_arg2)
          ∧ r.2.mem ((c.tc : Thread Cert.RefAdamWfIdeal.nD Cert.RefAdamWfIdeal.τ).loc Cert.RefAdamWfIdeal.main_arg3) = m' ((c.tc : Thread Cert.RefAdamWfIdeal.nD Cert.RefAdamWfIdeal.τ).loc Cert.RefAdamWfIdeal.main_arg3))

def preserves_AdamBf_AdamBfIdeal : Prop :=
  True

def algebraic_AdamBfIdeal_RefAdamBfIdeal [hAdamBfIdeal : Cert.AdamBfIdeal.Facts] [hRefAdamBfIdeal : Cert.RefAdamBfIdeal.Facts] : Prop :=
  ∀ (m : (ℓ : Loc Cert.AdamBfIdeal.nD Cert.AdamBfIdeal.τ Cert.AdamBfIdeal.sig) → Buf (Elt Ideal) ℓ) (g : Dev Cert.AdamBfIdeal.nD → PrngReg)
    (m' : (ℓ : Loc Cert.RefAdamBfIdeal.nD Cert.RefAdamBfIdeal.τ Cert.RefAdamBfIdeal.sig) → Buf (Elt Ideal) ℓ) (g' : Dev Cert.RefAdamBfIdeal.nD → PrngReg), Pre_AdamBfIdeal m →
    (∀ c : Dev Cert.AdamBfIdeal.nD,
      m' ((c.tc : Thread Cert.RefAdamBfIdeal.nD Cert.RefAdamBfIdeal.τ).loc Cert.RefAdamBfIdeal.main_arg0) = m ((c.tc : Thread Cert.AdamBfIdeal.nD Cert.AdamBfIdeal.τ).loc Cert.AdamBfIdeal.main_arg0)
      ∧ m' ((c.tc : Thread Cert.RefAdamBfIdeal.nD Cert.RefAdamBfIdeal.τ).loc Cert.RefAdamBfIdeal.main_arg1) = m ((c.tc : Thread Cert.AdamBfIdeal.nD Cert.AdamBfIdeal.τ).loc Cert.AdamBfIdeal.main_arg1)
      ∧ m' ((c.tc : Thread Cert.RefAdamBfIdeal.nD Cert.RefAdamBfIdeal.τ).loc Cert.RefAdamBfIdeal.main_arg2) = m ((c.tc : Thread Cert.AdamBfIdeal.nD Cert.AdamBfIdeal.τ).loc Cert.AdamBfIdeal.main_arg2)
      ∧ m' ((c.tc : Thread Cert.RefAdamBfIdeal.nD Cert.RefAdamBfIdeal.τ).loc Cert.RefAdamBfIdeal.main_arg3) = m ((c.tc : Thread Cert.AdamBfIdeal.nD Cert.AdamBfIdeal.τ).loc Cert.AdamBfIdeal.main_arg3)) →
    ∃ (v0 : (c : Dev Cert.AdamBfIdeal.nD) → Buf (Elt Ideal) ((c.tc : Thread Cert.AdamBfIdeal.nD Cert.AdamBfIdeal.τ).loc Cert.AdamBfIdeal.main_v4_0)) (v1 : (c : Dev Cert.AdamBfIdeal.nD) → Buf (Elt Ideal) ((c.tc : Thread Cert.AdamBfIdeal.nD Cert.AdamBfIdeal.τ).loc Cert.AdamBfIdeal.main_v4_1)) (v2 : (c : Dev Cert.AdamBfIdeal.nD) → Buf (Elt Ideal) ((c.tc : Thread Cert.AdamBfIdeal.nD Cert.AdamBfIdeal.τ).loc Cert.AdamBfIdeal.main_v4_2)),
      θ_run (Cert.AdamBfIdeal.defs (F := Ideal)) (onTc (τ := Cert.AdamBfIdeal.τ) (Cert.AdamBfIdeal.main (F := Ideal))) ⟨m, fun _ => 0, g⟩ (fun r => ∀ c : Dev Cert.AdamBfIdeal.nD,
          r.2.mem ((c.tc : Thread Cert.AdamBfIdeal.nD Cert.AdamBfIdeal.τ).loc Cert.AdamBfIdeal.main_v4_0) = v0 c
          ∧ r.2.mem ((c.tc : Thread Cert.AdamBfIdeal.nD Cert.AdamBfIdeal.τ).loc Cert.AdamBfIdeal.main_v4_1) = v1 c
          ∧ r.2.mem ((c.tc : Thread Cert.AdamBfIdeal.nD Cert.AdamBfIdeal.τ).loc Cert.AdamBfIdeal.main_v4_2) = v2 c
          ∧ r.2.mem ((c.tc : Thread Cert.AdamBfIdeal.nD Cert.AdamBfIdeal.τ).loc Cert.AdamBfIdeal.main_arg0) = m ((c.tc : Thread Cert.AdamBfIdeal.nD Cert.AdamBfIdeal.τ).loc Cert.AdamBfIdeal.main_arg0)
          ∧ r.2.mem ((c.tc : Thread Cert.AdamBfIdeal.nD Cert.AdamBfIdeal.τ).loc Cert.AdamBfIdeal.main_arg1) = m ((c.tc : Thread Cert.AdamBfIdeal.nD Cert.AdamBfIdeal.τ).loc Cert.AdamBfIdeal.main_arg1)
          ∧ r.2.mem ((c.tc : Thread Cert.AdamBfIdeal.nD Cert.AdamBfIdeal.τ).loc Cert.AdamBfIdeal.main_arg2) = m ((c.tc : Thread Cert.AdamBfIdeal.nD Cert.AdamBfIdeal.τ).loc Cert.AdamBfIdeal.main_arg2)
          ∧ r.2.mem ((c.tc : Thread Cert.AdamBfIdeal.nD Cert.AdamBfIdeal.τ).loc Cert.AdamBfIdeal.main_arg3) = m ((c.tc : Thread Cert.AdamBfIdeal.nD Cert.AdamBfIdeal.τ).loc Cert.AdamBfIdeal.main_arg3))
      ∧ θ_run (Cert.RefAdamBfIdeal.defs (F := Ideal)) (onTc (τ := Cert.RefAdamBfIdeal.τ) (Cert.RefAdamBfIdeal.main (F := Ideal))) ⟨m', fun _ => 0, g'⟩ (fun r => ∀ c : Dev Cert.RefAdamBfIdeal.nD,
          r.2.mem ((c.tc : Thread Cert.RefAdamBfIdeal.nD Cert.RefAdamBfIdeal.τ).loc Cert.RefAdamBfIdeal.main_v27) = v0 c
          ∧ r.2.mem ((c.tc : Thread Cert.RefAdamBfIdeal.nD Cert.RefAdamBfIdeal.τ).loc Cert.RefAdamBfIdeal.main_v8) = v1 c
          ∧ r.2.mem ((c.tc : Thread Cert.RefAdamBfIdeal.nD Cert.RefAdamBfIdeal.τ).loc Cert.RefAdamBfIdeal.main_v14) = v2 c
          ∧ r.2.mem ((c.tc : Thread Cert.RefAdamBfIdeal.nD Cert.RefAdamBfIdeal.τ).loc Cert.RefAdamBfIdeal.main_arg0) = m' ((c.tc : Thread Cert.RefAdamBfIdeal.nD Cert.RefAdamBfIdeal.τ).loc Cert.RefAdamBfIdeal.main_arg0)
          ∧ r.2.mem ((c.tc : Thread Cert.RefAdamBfIdeal.nD Cert.RefAdamBfIdeal.τ).loc Cert.RefAdamBfIdeal.main_arg1) = m' ((c.tc : Thread Cert.RefAdamBfIdeal.nD Cert.RefAdamBfIdeal.τ).loc Cert.RefAdamBfIdeal.main_arg1)
          ∧ r.2.mem ((c.tc : Thread Cert.RefAdamBfIdeal.nD Cert.RefAdamBfIdeal.τ).loc Cert.RefAdamBfIdeal.main_arg2) = m' ((c.tc : Thread Cert.RefAdamBfIdeal.nD Cert.RefAdamBfIdeal.τ).loc Cert.RefAdamBfIdeal.main_arg2)
          ∧ r.2.mem ((c.tc : Thread Cert.RefAdamBfIdeal.nD Cert.RefAdamBfIdeal.τ).loc Cert.RefAdamBfIdeal.main_arg3) = m' ((c.tc : Thread Cert.RefAdamBfIdeal.nD Cert.RefAdamBfIdeal.τ).loc Cert.RefAdamBfIdeal.main_arg3))

def preserves_AdamQNormG_AdamQNormGIdeal : Prop :=
  True

def algebraic_AdamQNormGIdeal_RefAdamQNormGIdeal [hAdamQNormGIdeal : Cert.AdamQNormGIdeal.Facts] [hRefAdamQNormGIdeal : Cert.RefAdamQNormGIdeal.Facts] : Prop :=
  ∀ (m : (ℓ : Loc Cert.AdamQNormGIdeal.nD Cert.AdamQNormGIdeal.τ Cert.AdamQNormGIdeal.sig) → Buf (Elt Ideal) ℓ) (g : Dev Cert.AdamQNormGIdeal.nD → PrngReg)
    (m' : (ℓ : Loc Cert.RefAdamQNormGIdeal.nD Cert.RefAdamQNormGIdeal.τ Cert.RefAdamQNormGIdeal.sig) → Buf (Elt Ideal) ℓ) (g' : Dev Cert.RefAdamQNormGIdeal.nD → PrngReg), Pre_AdamQNormGIdeal m →
    (∀ c : Dev Cert.AdamQNormGIdeal.nD,
      m' ((c.tc : Thread Cert.RefAdamQNormGIdeal.nD Cert.RefAdamQNormGIdeal.τ).loc Cert.RefAdamQNormGIdeal.main_arg0) = m ((c.tc : Thread Cert.AdamQNormGIdeal.nD Cert.AdamQNormGIdeal.τ).loc Cert.AdamQNormGIdeal.main_arg0)
      ∧ m' ((c.tc : Thread Cert.RefAdamQNormGIdeal.nD Cert.RefAdamQNormGIdeal.τ).loc Cert.RefAdamQNormGIdeal.main_arg1) = m ((c.tc : Thread Cert.AdamQNormGIdeal.nD Cert.AdamQNormGIdeal.τ).loc Cert.AdamQNormGIdeal.main_arg1)
      ∧ m' ((c.tc : Thread Cert.RefAdamQNormGIdeal.nD Cert.RefAdamQNormGIdeal.τ).loc Cert.RefAdamQNormGIdeal.main_arg2) = m ((c.tc : Thread Cert.AdamQNormGIdeal.nD Cert.AdamQNormGIdeal.τ).loc Cert.AdamQNormGIdeal.main_arg2)
      ∧ m' ((c.tc : Thread Cert.RefAdamQNormGIdeal.nD Cert.RefAdamQNormGIdeal.τ).loc Cert.RefAdamQNormGIdeal.main_arg3) = m ((c.tc : Thread Cert.AdamQNormGIdeal.nD Cert.AdamQNormGIdeal.τ).loc Cert.AdamQNormGIdeal.main_arg3)) →
    ∃ (v0 : (c : Dev Cert.AdamQNormGIdeal.nD) → Buf (Elt Ideal) ((c.tc : Thread Cert.AdamQNormGIdeal.nD Cert.AdamQNormGIdeal.τ).loc Cert.AdamQNormGIdeal.main_v0_0)) (v1 : (c : Dev Cert.AdamQNormGIdeal.nD) → Buf (Elt Ideal) ((c.tc : Thread Cert.AdamQNormGIdeal.nD Cert.AdamQNormGIdeal.τ).loc Cert.AdamQNormGIdeal.main_v0_1)) (v2 : (c : Dev Cert.AdamQNormGIdeal.nD) → Buf (Elt Ideal) ((c.tc : Thread Cert.AdamQNormGIdeal.nD Cert.AdamQNormGIdeal.τ).loc Cert.AdamQNormGIdeal.main_v0_2)),
      θ_run (Cert.AdamQNormGIdeal.defs (F := Ideal)) (onTc (τ := Cert.AdamQNormGIdeal.τ) (Cert.AdamQNormGIdeal.main (F := Ideal))) ⟨m, fun _ => 0, g⟩ (fun r => ∀ c : Dev Cert.AdamQNormGIdeal.nD,
          r.2.mem ((c.tc : Thread Cert.AdamQNormGIdeal.nD Cert.AdamQNormGIdeal.τ).loc Cert.AdamQNormGIdeal.main_v0_0) = v0 c
          ∧ r.2.mem ((c.tc : Thread Cert.AdamQNormGIdeal.nD Cert.AdamQNormGIdeal.τ).loc Cert.AdamQNormGIdeal.main_v0_1) = v1 c
          ∧ r.2.mem ((c.tc : Thread Cert.AdamQNormGIdeal.nD Cert.AdamQNormGIdeal.τ).loc Cert.AdamQNormGIdeal.main_v0_2) = v2 c
          ∧ r.2.mem ((c.tc : Thread Cert.AdamQNormGIdeal.nD Cert.AdamQNormGIdeal.τ).loc Cert.AdamQNormGIdeal.main_arg0) = m ((c.tc : Thread Cert.AdamQNormGIdeal.nD Cert.AdamQNormGIdeal.τ).loc Cert.AdamQNormGIdeal.main_arg0)
          ∧ r.2.mem ((c.tc : Thread Cert.AdamQNormGIdeal.nD Cert.AdamQNormGIdeal.τ).loc Cert.AdamQNormGIdeal.main_arg1) = m ((c.tc : Thread Cert.AdamQNormGIdeal.nD Cert.AdamQNormGIdeal.τ).loc Cert.AdamQNormGIdeal.main_arg1)
          ∧ r.2.mem ((c.tc : Thread Cert.AdamQNormGIdeal.nD Cert.AdamQNormGIdeal.τ).loc Cert.AdamQNormGIdeal.main_arg2) = m ((c.tc : Thread Cert.AdamQNormGIdeal.nD Cert.AdamQNormGIdeal.τ).loc Cert.AdamQNormGIdeal.main_arg2)
          ∧ r.2.mem ((c.tc : Thread Cert.AdamQNormGIdeal.nD Cert.AdamQNormGIdeal.τ).loc Cert.AdamQNormGIdeal.main_arg3) = m ((c.tc : Thread Cert.AdamQNormGIdeal.nD Cert.AdamQNormGIdeal.τ).loc Cert.AdamQNormGIdeal.main_arg3))
      ∧ θ_run (Cert.RefAdamQNormGIdeal.defs (F := Ideal)) (onTc (τ := Cert.RefAdamQNormGIdeal.τ) (Cert.RefAdamQNormGIdeal.main (F := Ideal))) ⟨m', fun _ => 0, g'⟩ (fun r => ∀ c : Dev Cert.RefAdamQNormGIdeal.nD,
          r.2.mem ((c.tc : Thread Cert.RefAdamQNormGIdeal.nD Cert.RefAdamQNormGIdeal.τ).loc Cert.RefAdamQNormGIdeal.main_v23) = v0 c
          ∧ r.2.mem ((c.tc : Thread Cert.RefAdamQNormGIdeal.nD Cert.RefAdamQNormGIdeal.τ).loc Cert.RefAdamQNormGIdeal.main_v4) = v1 c
          ∧ r.2.mem ((c.tc : Thread Cert.RefAdamQNormGIdeal.nD Cert.RefAdamQNormGIdeal.τ).loc Cert.RefAdamQNormGIdeal.main_v10) = v2 c
          ∧ r.2.mem ((c.tc : Thread Cert.RefAdamQNormGIdeal.nD Cert.RefAdamQNormGIdeal.τ).loc Cert.RefAdamQNormGIdeal.main_arg0) = m' ((c.tc : Thread Cert.RefAdamQNormGIdeal.nD Cert.RefAdamQNormGIdeal.τ).loc Cert.RefAdamQNormGIdeal.main_arg0)
          ∧ r.2.mem ((c.tc : Thread Cert.RefAdamQNormGIdeal.nD Cert.RefAdamQNormGIdeal.τ).loc Cert.RefAdamQNormGIdeal.main_arg1) = m' ((c.tc : Thread Cert.RefAdamQNormGIdeal.nD Cert.RefAdamQNormGIdeal.τ).loc Cert.RefAdamQNormGIdeal.main_arg1)
          ∧ r.2.mem ((c.tc : Thread Cert.RefAdamQNormGIdeal.nD Cert.RefAdamQNormGIdeal.τ).loc Cert.RefAdamQNormGIdeal.main_arg2) = m' ((c.tc : Thread Cert.RefAdamQNormGIdeal.nD Cert.RefAdamQNormGIdeal.τ).loc Cert.RefAdamQNormGIdeal.main_arg2)
          ∧ r.2.mem ((c.tc : Thread Cert.RefAdamQNormGIdeal.nD Cert.RefAdamQNormGIdeal.τ).loc Cert.RefAdamQNormGIdeal.main_arg3) = m' ((c.tc : Thread Cert.RefAdamQNormGIdeal.nD Cert.RefAdamQNormGIdeal.τ).loc Cert.RefAdamQNormGIdeal.main_arg3))

def preserves_AdamAda_AdamAdaIdeal : Prop :=
  True

def algebraic_AdamAdaIdeal_RefAdamAdaIdeal [hAdamAdaIdeal : Cert.AdamAdaIdeal.Facts] [hRefAdamAdaIdeal : Cert.RefAdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.RefAdamAdaIdeal.nD Cert.RefAdamAdaIdeal.τ Cert.RefAdamAdaIdeal.sig) → Buf (Elt Ideal) ℓ) (g' : Dev Cert.RefAdamAdaIdeal.nD → PrngReg), Pre_AdamAdaIdeal m →
    (∀ c : Dev Cert.AdamAdaIdeal.nD,
      m' ((c.tc : Thread Cert.RefAdamAdaIdeal.nD Cert.RefAdamAdaIdeal.τ).loc Cert.RefAdamAdaIdeal.main_arg0) = m ((c.tc : Thread Cert.AdamAdaIdeal.nD Cert.AdamAdaIdeal.τ).loc Cert.AdamAdaIdeal.main_arg0)
      ∧ m' ((c.tc : Thread Cert.RefAdamAdaIdeal.nD Cert.RefAdamAdaIdeal.τ).loc Cert.RefAdamAdaIdeal.main_arg1) = m ((c.tc : Thread Cert.AdamAdaIdeal.nD Cert.AdamAdaIdeal.τ).loc Cert.AdamAdaIdeal.main_arg1)
      ∧ m' ((c.tc : Thread Cert.RefAdamAdaIdeal.nD Cert.RefAdamAdaIdeal.τ).loc Cert.RefAdamAdaIdeal.main_arg2) = m ((c.tc : Thread Cert.AdamAdaIdeal.nD Cert.AdamAdaIdeal.τ).loc Cert.AdamAdaIdeal.main_arg2)
      ∧ m' ((c.tc : Thread Cert.RefAdamAdaIdeal.nD Cert.RefAdamAdaIdeal.τ).loc Cert.RefAdamAdaIdeal.main_arg3) = m ((c.tc : Thread Cert.AdamAdaIdeal.nD Cert.AdamAdaIdeal.τ).loc Cert.AdamAdaIdeal.main_arg3)
      ∧ m' ((c.tc : Thread Cert.RefAdamAdaIdeal.nD Cert.RefAdamAdaIdeal.τ).loc Cert.RefAdamAdaIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v1_0)) (v1 : (c : Dev Cert.AdamAdaIdeal.nD) → Buf (Elt Ideal) ((c.tc : Thread Cert.AdamAdaIdeal.nD Cert.AdamAdaIdeal.τ).loc Cert.AdamAdaIdeal.main_v1_1)) (v2 : (c : Dev Cert.AdamAdaIdeal.nD) → Buf (Elt Ideal) ((c.tc : Thread Cert.AdamAdaIdeal.nD Cert.AdamAdaIdeal.τ).loc Cert.AdamAdaIdeal.main_v1_2)) (v3 : (c : Dev Cert.AdamAdaIdeal.nD) → Buf (Elt Ideal) ((c.tc : Thread Cert.AdamAdaIdeal.nD Cert.AdamAdaIdeal.τ).loc Cert.AdamAdaIdeal.main_v1_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v1_0) = v0 c
          ∧ r.2.mem ((c.tc : Thread Cert.AdamAdaIdeal.nD Cert.AdamAdaIdeal.τ).loc Cert.AdamAdaIdeal.main_v1_1) = v1 c
          ∧ r.2.mem ((c.tc : Thread Cert.AdamAdaIdeal.nD Cert.AdamAdaIdeal.τ).loc Cert.AdamAdaIdeal.main_v1_2) = v2 c
          ∧ r.2.mem ((c.tc : Thread Cert.AdamAdaIdeal.nD Cert.AdamAdaIdeal.τ).loc Cert.AdamAdaIdeal.main_v1_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.RefAdamAdaIdeal.defs (F := Ideal)) (onTc (τ := Cert.RefAdamAdaIdeal.τ) (Cert.RefAdamAdaIdeal.main (F := Ideal))) ⟨m', fun _ => 0, g'⟩ (fun r => ∀ c : Dev Cert.RefAdamAdaIdeal.nD,
          r.2.mem ((c.tc : Thread Cert.RefAdamAdaIdeal.nD Cert.RefAdamAdaIdeal.τ).loc Cert.RefAdamAdaIdeal.main_v5) = v0 c
          ∧ r.2.mem ((c.tc : Thread Cert.RefAdamAdaIdeal.nD Cert.RefAdamAdaIdeal.τ).loc Cert.RefAdamAdaIdeal.main_v29) = v1 c
          ∧ r.2.mem ((c.tc : Thread Cert.RefAdamAdaIdeal.nD Cert.RefAdamAdaIdeal.τ).loc Cert.RefAdamAdaIdeal.main_v10) = v2 c
          ∧ r.2.mem ((c.tc : Thread Cert.RefAdamAdaIdeal.nD Cert.RefAdamAdaIdeal.τ).loc Cert.RefAdamAdaIdeal.main_v16) = v3 c
          ∧ r.2.mem ((c.tc : Thread Cert.RefAdamAdaIdeal.nD Cert.RefAdamAdaIdeal.τ).loc Cert.RefAdamAdaIdeal.main_arg0) = m' ((c.tc : Thread Cert.RefAdamAdaIdeal.nD Cert.RefAdamAdaIdeal.τ).loc Cert.RefAdamAdaIdeal.main_arg0)
          ∧ r.2.mem ((c.tc : Thread Cert.RefAdamAdaIdeal.nD Cert.RefAdamAdaIdeal.τ).loc Cert.RefAdamAdaIdeal.main_arg1) = m' ((c.tc : Thread Cert.RefAdamAdaIdeal.nD Cert.RefAdamAdaIdeal.τ).loc Cert.RefAdamAdaIdeal.main_arg1)
          ∧ r.2.mem ((c.tc : Thread Cert.RefAdamAdaIdeal.nD Cert.RefAdamAdaIdeal.τ).loc Cert.RefAdamAdaIdeal.main_arg2) = m' ((c.tc : Thread Cert.RefAdamAdaIdeal.nD Cert.RefAdamAdaIdeal.τ).loc Cert.RefAdamAdaIdeal.main_arg2)
          ∧ r.2.mem ((c.tc : Thread Cert.RefAdamAdaIdeal.nD Cert.RefAdamAdaIdeal.τ).loc Cert.RefAdamAdaIdeal.main_arg3) = m' ((c.tc : Thread Cert.RefAdamAdaIdeal.nD Cert.RefAdamAdaIdeal.τ).loc Cert.RefAdamAdaIdeal.main_arg3)
          ∧ r.2.mem ((c.tc : Thread Cert.RefAdamAdaIdeal.nD Cert.RefAdamAdaIdeal.τ).loc Cert.RefAdamAdaIdeal.main_arg4) = m' ((c.tc : Thread Cert.RefAdamAdaIdeal.nD Cert.RefAdamAdaIdeal.τ).loc Cert.RefAdamAdaIdeal.main_arg4))

def preserves_AdamKvAda_AdamKvAdaIdeal : Prop :=
  True

def algebraic_AdamKvAdaIdeal_RefAdamKvAdaIdeal [hAdamKvAdaIdeal : Cert.AdamKvAdaIdeal.Facts] [hRefAdamKvAdaIdeal : Cert.RefAdamKvAdaIdeal.Facts] : Prop :=
  ∀ (m : (ℓ : Loc Cert.AdamKvAdaIdeal.nD Cert.AdamKvAdaIdeal.τ Cert.AdamKvAdaIdeal.sig) → Buf (Elt Ideal) ℓ) (g : Dev Cert.AdamKvAdaIdeal.nD → PrngReg)
    (m' : (ℓ : Loc Cert.RefAdamKvAdaIdeal.nD Cert.RefAdamKvAdaIdeal.τ Cert.RefAdamKvAdaIdeal.sig) → Buf (Elt Ideal) ℓ) (g' : Dev Cert.RefAdamKvAdaIdeal.nD → PrngReg), Pre_AdamKvAdaIdeal m →
    (∀ c : Dev Cert.AdamKvAdaIdeal.nD,
      m' ((c.tc : Thread Cert.RefAdamKvAdaIdeal.nD Cert.RefAdamKvAdaIdeal.τ).loc Cert.RefAdamKvAdaIdeal.main_arg0) = m ((c.tc : Thread Cert.AdamKvAdaIdeal.nD Cert.AdamKvAdaIdeal.τ).loc Cert.AdamKvAdaIdeal.main_arg0)
      ∧ m' ((c.tc : Thread Cert.RefAdamKvAdaIdeal.nD Cert.RefAdamKvAdaIdeal.τ).loc Cert.RefAdamKvAdaIdeal.main_arg1) = m ((c.tc : Thread Cert.AdamKvAdaIdeal.nD Cert.AdamKvAdaIdeal.τ).loc Cert.AdamKvAdaIdeal.main_arg1)
      ∧ m' ((c.tc : Thread Cert.RefAdamKvAdaIdeal.nD Cert.RefAdamKvAdaIdeal.τ).loc Cert.RefAdamKvAdaIdeal.main_arg2) = m ((c.tc : Thread Cert.AdamKvAdaIdeal.nD Cert.AdamKvAdaIdeal.τ).loc Cert.AdamKvAdaIdeal.main_arg2)
      ∧ m' ((c.tc : Thread Cert.RefAdamKvAdaIdeal.nD Cert.RefAdamKvAdaIdeal.τ).loc Cert.RefAdamKvAdaIdeal.main_arg3) = m ((c.tc : Thread Cert.AdamKvAdaIdeal.nD Cert.AdamKvAdaIdeal.τ).loc Cert.AdamKvAdaIdeal.main_arg3)
      ∧ m' ((c.tc : Thread Cert.RefAdamKvAdaIdeal.nD Cert.RefAdamKvAdaIdeal.τ).loc Cert.RefAdamKvAdaIdeal.main_arg4) = m ((c.tc : Thread Cert.AdamKvAdaIdeal.nD Cert.AdamKvAdaIdeal.τ).loc Cert.AdamKvAdaIdeal.main_arg4)) →
    ∃ (v0 : (c : Dev Cert.AdamKvAdaIdeal.nD) → Buf (Elt Ideal) ((c.tc : Thread Cert.AdamKvAdaIdeal.nD Cert.AdamKvAdaIdeal.τ).loc Cert.AdamKvAdaIdeal.main_v1_0)) (v1 : (c : Dev Cert.AdamKvAdaIdeal.nD) → Buf (Elt Ideal) ((c.tc : Thread Cert.AdamKvAdaIdeal.nD Cert.AdamKvAdaIdeal.τ).loc Cert.AdamKvAdaIdeal.main_v1_1)) (v2 : (c : Dev Cert.AdamKvAdaIdeal.nD) → Buf (Elt Ideal) ((c.tc : Thread Cert.AdamKvAdaIdeal.nD Cert.AdamKvAdaIdeal.τ).loc Cert.AdamKvAdaIdeal.main_v1_2)) (v3 : (c : Dev Cert.AdamKvAdaIdeal.nD) → Buf (Elt Ideal) ((c.tc : Thread Cert.AdamKvAdaIdeal.nD Cert.AdamKvAdaIdeal.τ).loc Cert.AdamKvAdaIdeal.main_v1_3)),
      θ_run (Cert.AdamKvAdaIdeal.defs (F := Ideal)) (onTc (τ := Cert.AdamKvAdaIdeal.τ) (Cert.AdamKvAdaIdeal.main (F := Ideal))) ⟨m, fun _ => 0, g⟩ (fun r => ∀ c : Dev Cert.AdamKvAdaIdeal.nD,
          r.2.mem ((c.tc : Thread Cert.AdamKvAdaIdeal.nD Cert.AdamKvAdaIdeal.τ).loc Cert.AdamKvAdaIdeal.main_v1_0) = v0 c
          ∧ r.2.mem ((c.tc : Thread Cert.AdamKvAdaIdeal.nD Cert.AdamKvAdaIdeal.τ).loc Cert.AdamKvAdaIdeal.main_v1_1) = v1 c
          ∧ r.2.mem ((c.tc : Thread Cert.AdamKvAdaIdeal.nD Cert.AdamKvAdaIdeal.τ).loc Cert.AdamKvAdaIdeal.main_v1_2) = v2 c
          ∧ r.2.mem ((c.tc : Thread Cert.AdamKvAdaIdeal.nD Cert.AdamKvAdaIdeal.τ).loc Cert.AdamKvAdaIdeal.main_v1_3) = v3 c
          ∧ r.2.mem ((c.tc : Thread Cert.AdamKvAdaIdeal.nD Cert.AdamKvAdaIdeal.τ).loc Cert.AdamKvAdaIdeal.main_arg0) = m ((c.tc : Thread Cert.AdamKvAdaIdeal.nD Cert.AdamKvAdaIdeal.τ).loc Cert.AdamKvAdaIdeal.main_arg0)
          ∧ r.2.mem ((c.tc : Thread Cert.AdamKvAdaIdeal.nD Cert.AdamKvAdaIdeal.τ).loc Cert.AdamKvAdaIdeal.main_arg1) = m ((c.tc : Thread Cert.AdamKvAdaIdeal.nD Cert.AdamKvAdaIdeal.τ).loc Cert.AdamKvAdaIdeal.main_arg1)
          ∧ r.2.mem ((c.tc : Thread Cert.AdamKvAdaIdeal.nD Cert.AdamKvAdaIdeal.τ).loc Cert.AdamKvAdaIdeal.main_arg2) = m ((c.tc : Thread Cert.AdamKvAdaIdeal.nD Cert.AdamKvAdaIdeal.τ).loc Cert.AdamKvAdaIdeal.main_arg2)
          ∧ r.2.mem ((c.tc : Thread Cert.AdamKvAdaIdeal.nD Cert.AdamKvAdaIdeal.τ).loc Cert.AdamKvAdaIdeal.main_arg3) = m ((c.tc : Thread Cert.AdamKvAdaIdeal.nD Cert.AdamKvAdaIdeal.τ).loc Cert.AdamKvAdaIdeal.main_arg3)
          ∧ r.2.mem ((c.tc : Thread Cert.AdamKvAdaIdeal.nD Cert.AdamKvAdaIdeal.τ).loc Cert.AdamKvAdaIdeal.main_arg4) = m ((c.tc : Thread Cert.AdamKvAdaIdeal.nD Cert.AdamKvAdaIdeal.τ).loc Cert.AdamKvAdaIdeal.main_arg4))
      ∧ θ_run (Cert.RefAdamKvAdaIdeal.defs (F := Ideal)) (onTc (τ := Cert.RefAdamKvAdaIdeal.τ) (Cert.RefAdamKvAdaIdeal.main (F := Ideal))) ⟨m', fun _ => 0, g'⟩ (fun r => ∀ c : Dev Cert.RefAdamKvAdaIdeal.nD,
          r.2.mem ((c.tc : Thread Cert.RefAdamKvAdaIdeal.nD Cert.RefAdamKvAdaIdeal.τ).loc Cert.RefAdamKvAdaIdeal.main_v5) = v0 c
          ∧ r.2.mem ((c.tc : Thread Cert.RefAdamKvAdaIdeal.nD Cert.RefAdamKvAdaIdeal.τ).loc Cert.RefAdamKvAdaIdeal.main_v29) = v1 c
          ∧ r.2.mem ((c.tc : Thread Cert.RefAdamKvAdaIdeal.nD Cert.RefAdamKvAdaIdeal.τ).loc Cert.RefAdamKvAdaIdeal.main_v10) = v2 c
          ∧ r.2.mem ((c.tc : Thread Cert.RefAdamKvAdaIdeal.nD Cert.RefAdamKvAdaIdeal.τ).loc Cert.RefAdamKvAdaIdeal.main_v16) = v3 c
          ∧ r.2.mem ((c.tc : Thread Cert.RefAdamKvAdaIdeal.nD Cert.RefAdamKvAdaIdeal.τ).loc Cert.RefAdamKvAdaIdeal.main_arg0) = m' ((c.tc : Thread Cert.RefAdamKvAdaIdeal.nD Cert.RefAdamKvAdaIdeal.τ).loc Cert.RefAdamKvAdaIdeal.main_arg0)
          ∧ r.2.mem ((c.tc : Thread Cert.RefAdamKvAdaIdeal.nD Cert.RefAdamKvAdaIdeal.τ).loc Cert.RefAdamKvAdaIdeal.main_arg1) = m' ((c.tc : Thread Cert.RefAdamKvAdaIdeal.nD Cert.RefAdamKvAdaIdeal.τ).loc Cert.RefAdamKvAdaIdeal.main_arg1)
          ∧ r.2.mem ((c.tc : Thread Cert.RefAdamKvAdaIdeal.nD Cert.RefAdamKvAdaIdeal.τ).loc Cert.RefAdamKvAdaIdeal.main_arg2) = m' ((c.tc : Thread Cert.RefAdamKvAdaIdeal.nD Cert.RefAdamKvAdaIdeal.τ).loc Cert.RefAdamKvAdaIdeal.main_arg2)
          ∧ r.2.mem ((c.tc : Thread Cert.RefAdamKvAdaIdeal.nD Cert.RefAdamKvAdaIdeal.τ).loc Cert.RefAdamKvAdaIdeal.main_arg3) = m' ((c.tc : Thread Cert.RefAdamKvAdaIdeal.nD Cert.RefAdamKvAdaIdeal.τ).loc Cert.RefAdamKvAdaIdeal.main_arg3)
          ∧ r.2.mem ((c.tc : Thread Cert.RefAdamKvAdaIdeal.nD Cert.RefAdamKvAdaIdeal.τ).loc Cert.RefAdamKvAdaIdeal.main_arg4) = m' ((c.tc : Thread Cert.RefAdamKvAdaIdeal.nD Cert.RefAdamKvAdaIdeal.τ).loc Cert.RefAdamKvAdaIdeal.main_arg4))

def preserves_MixBwd_MixBwdIdeal : Prop :=
  True

def algebraic_MixBwdIdeal_RefMixBwdIdeal [hMixBwdIdeal : Cert.MixBwdIdeal.Facts] [hRefMixBwdIdeal : Cert.RefMixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.RefMixBwdIdeal.nD Cert.RefMixBwdIdeal.τ Cert.RefMixBwdIdeal.sig) → Buf (Elt Ideal) ℓ) (g' : Dev Cert.RefMixBwdIdeal.nD → PrngReg), Pre_MixBwdIdeal m →
    (∀ c : Dev Cert.MixBwdIdeal.nD,
      m' ((c.tc : Thread Cert.RefMixBwdIdeal.nD Cert.RefMixBwdIdeal.τ).loc Cert.RefMixBwdIdeal.main_arg0) = m ((c.tc : Thread Cert.MixBwdIdeal.nD Cert.MixBwdIdeal.τ).loc Cert.MixBwdIdeal.main_arg0)
      ∧ m' ((c.tc : Thread Cert.RefMixBwdIdeal.nD Cert.RefMixBwdIdeal.τ).loc Cert.RefMixBwdIdeal.main_arg1) = m ((c.tc : Thread Cert.MixBwdIdeal.nD Cert.MixBwdIdeal.τ).loc Cert.MixBwdIdeal.main_arg1)
      ∧ m' ((c.tc : Thread Cert.RefMixBwdIdeal.nD Cert.RefMixBwdIdeal.τ).loc Cert.RefMixBwdIdeal.main_arg2) = m ((c.tc : Thread Cert.MixBwdIdeal.nD Cert.MixBwdIdeal.τ).loc Cert.MixBwdIdeal.main_arg2)
      ∧ m' ((c.tc : Thread Cert.RefMixBwdIdeal.nD Cert.RefMixBwdIdeal.τ).loc Cert.RefMixBwdIdeal.main_arg3) = m ((c.tc : Thread Cert.MixBwdIdeal.nD Cert.MixBwdIdeal.τ).loc Cert.MixBwdIdeal.main_arg3)
      ∧ m' ((c.tc : Thread Cert.RefMixBwdIdeal.nD Cert.RefMixBwdIdeal.τ).loc Cert.RefMixBwdIdeal.main_arg4) = m ((c.tc : Thread Cert.MixBwdIdeal.nD Cert.MixBwdIdeal.τ).loc Cert.MixBwdIdeal.main_arg4)) →
    ∃ (v0 : (c : Dev Cert.MixBwdIdeal.nD) → Buf (Elt Ideal) ((c.tc : Thread Cert.MixBwdIdeal.nD Cert.MixBwdIdeal.τ).loc Cert.MixBwdIdeal.main_v5_0)) (v1 : (c : Dev Cert.MixBwdIdeal.nD) → Buf (Elt Ideal) ((c.tc : Thread Cert.MixBwdIdeal.nD Cert.MixBwdIdeal.τ).loc Cert.MixBwdIdeal.main_v5_1)) (v2 : (c : Dev Cert.MixBwdIdeal.nD) → Buf (Elt Ideal) ((c.tc : Thread Cert.MixBwdIdeal.nD Cert.MixBwdIdeal.τ).loc Cert.MixBwdIdeal.main_v5_2)) (v3 : (c : Dev Cert.MixBwdIdeal.nD) → Buf (Elt Ideal) ((c.tc : Thread Cert.MixBwdIdeal.nD Cert.MixBwdIdeal.τ).loc Cert.MixBwdIdeal.main_v5_3)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v5_0) = v0 c
          ∧ r.2.mem ((c.tc : Thread Cert.MixBwdIdeal.nD Cert.MixBwdIdeal.τ).loc Cert.MixBwdIdeal.main_v5_1) = v1 c
          ∧ r.2.mem ((c.tc : Thread Cert.MixBwdIdeal.nD Cert.MixBwdIdeal.τ).loc Cert.MixBwdIdeal.main_v5_2) = v2 c
          ∧ r.2.mem ((c.tc : Thread Cert.MixBwdIdeal.nD Cert.MixBwdIdeal.τ).loc Cert.MixBwdIdeal.main_v5_3) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ θ_run (Cert.RefMixBwdIdeal.defs (F := Ideal)) (onTc (τ := Cert.RefMixBwdIdeal.τ) (Cert.RefMixBwdIdeal.main (F := Ideal))) ⟨m', fun _ => 0, g'⟩ (fun r => ∀ c : Dev Cert.RefMixBwdIdeal.nD,
          r.2.mem ((c.tc : Thread Cert.RefMixBwdIdeal.nD Cert.RefMixBwdIdeal.τ).loc Cert.RefMixBwdIdeal.main_v35) = v0 c
          ∧ r.2.mem ((c.tc : Thread Cert.RefMixBwdIdeal.nD Cert.RefMixBwdIdeal.τ).loc Cert.RefMixBwdIdeal.main_v36) = v1 c
          ∧ r.2.mem ((c.tc : Thread Cert.RefMixBwdIdeal.nD Cert.RefMixBwdIdeal.τ).loc Cert.RefMixBwdIdeal.main_v33) = v2 c
          ∧ r.2.mem ((c.tc : Thread Cert.RefMixBwdIdeal.nD Cert.RefMixBwdIdeal.τ).loc Cert.RefMixBwdIdeal.main_v38) = v3 c
          ∧ r.2.mem ((c.tc : Thread Cert.RefMixBwdIdeal.nD Cert.RefMixBwdIdeal.τ).loc Cert.RefMixBwdIdeal.main_arg0) = m' ((c.tc : Thread Cert.RefMixBwdIdeal.nD Cert.RefMixBwdIdeal.τ).loc Cert.RefMixBwdIdeal.main_arg0)
          ∧ r.2.mem ((c.tc : Thread Cert.RefMixBwdIdeal.nD Cert.RefMixBwdIdeal.τ).loc Cert.RefMixBwdIdeal.main_arg1) = m' ((c.tc : Thread Cert.RefMixBwdIdeal.nD Cert.RefMixBwdIdeal.τ).loc Cert.RefMixBwdIdeal.main_arg1)
          ∧ r.2.mem ((c.tc : Thread Cert.RefMixBwdIdeal.nD Cert.RefMixBwdIdeal.τ).loc Cert.RefMixBwdIdeal.main_arg2) = m' ((c.tc : Thread Cert.RefMixBwdIdeal.nD Cert.RefMixBwdIdeal.τ).loc Cert.RefMixBwdIdeal.main_arg2)
          ∧ r.2.mem ((c.tc : Thread Cert.RefMixBwdIdeal.nD Cert.RefMixBwdIdeal.τ).loc Cert.RefMixBwdIdeal.main_arg3) = m' ((c.tc : Thread Cert.RefMixBwdIdeal.nD Cert.RefMixBwdIdeal.τ).loc Cert.RefMixBwdIdeal.main_arg3)
          ∧ r.2.mem ((c.tc : Thread Cert.RefMixBwdIdeal.nD Cert.RefMixBwdIdeal.τ).loc Cert.RefMixBwdIdeal.main_arg4) = m' ((c.tc : Thread Cert.RefMixBwdIdeal.nD Cert.RefMixBwdIdeal.τ).loc Cert.RefMixBwdIdeal.main_arg4))

def preserves_MixFwd_MixFwdIdeal : Prop :=
  True

def algebraic_MixFwdIdeal_RefMixFwdIdeal [hMixFwdIdeal : Cert.MixFwdIdeal.Facts] [hRefMixFwdIdeal : Cert.RefMixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.RefMixFwdIdeal.nD Cert.RefMixFwdIdeal.τ Cert.RefMixFwdIdeal.sig) → Buf (Elt Ideal) ℓ) (g' : Dev Cert.RefMixFwdIdeal.nD → PrngReg), Pre_MixFwdIdeal m →
    (∀ c : Dev Cert.MixFwdIdeal.nD,
      m' ((c.tc : Thread Cert.RefMixFwdIdeal.nD Cert.RefMixFwdIdeal.τ).loc Cert.RefMixFwdIdeal.main_arg0) = m ((c.tc : Thread Cert.MixFwdIdeal.nD Cert.MixFwdIdeal.τ).loc Cert.MixFwdIdeal.main_arg0)
      ∧ m' ((c.tc : Thread Cert.RefMixFwdIdeal.nD Cert.RefMixFwdIdeal.τ).loc Cert.RefMixFwdIdeal.main_arg1) = m ((c.tc : Thread Cert.MixFwdIdeal.nD Cert.MixFwdIdeal.τ).loc Cert.MixFwdIdeal.main_arg1)
      ∧ m' ((c.tc : Thread Cert.RefMixFwdIdeal.nD Cert.RefMixFwdIdeal.τ).loc Cert.RefMixFwdIdeal.main_arg2) = m ((c.tc : Thread Cert.MixFwdIdeal.nD Cert.MixFwdIdeal.τ).loc Cert.MixFwdIdeal.main_arg2)
      ∧ m' ((c.tc : Thread Cert.RefMixFwdIdeal.nD Cert.RefMixFwdIdeal.τ).loc Cert.RefMixFwdIdeal.main_arg3) = m ((c.tc : Thread Cert.MixFwdIdeal.nD Cert.MixFwdIdeal.τ).loc Cert.MixFwdIdeal.main_arg3)) →
    ∃ (v0 : (c : Dev Cert.MixFwdIdeal.nD) → Buf (Elt Ideal) ((c.tc : Thread Cert.MixFwdIdeal.nD Cert.MixFwdIdeal.τ).loc Cert.MixFwdIdeal.main_v4)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ θ_run (Cert.RefMixFwdIdeal.defs (F := Ideal)) (onTc (τ := Cert.RefMixFwdIdeal.τ) (Cert.RefMixFwdIdeal.main (F := Ideal))) ⟨m', fun _ => 0, g'⟩ (fun r => ∀ c : Dev Cert.RefMixFwdIdeal.nD,
          r.2.mem ((c.tc : Thread Cert.RefMixFwdIdeal.nD Cert.RefMixFwdIdeal.τ).loc Cert.RefMixFwdIdeal.main_v20) = v0 c
          ∧ r.2.mem ((c.tc : Thread Cert.RefMixFwdIdeal.nD Cert.RefMixFwdIdeal.τ).loc Cert.RefMixFwdIdeal.main_arg0) = m' ((c.tc : Thread Cert.RefMixFwdIdeal.nD Cert.RefMixFwdIdeal.τ).loc Cert.RefMixFwdIdeal.main_arg0)
          ∧ r.2.mem ((c.tc : Thread Cert.RefMixFwdIdeal.nD Cert.RefMixFwdIdeal.τ).loc Cert.RefMixFwdIdeal.main_arg1) = m' ((c.tc : Thread Cert.RefMixFwdIdeal.nD Cert.RefMixFwdIdeal.τ).loc Cert.RefMixFwdIdeal.main_arg1)
          ∧ r.2.mem ((c.tc : Thread Cert.RefMixFwdIdeal.nD Cert.RefMixFwdIdeal.τ).loc Cert.RefMixFwdIdeal.main_arg2) = m' ((c.tc : Thread Cert.RefMixFwdIdeal.nD Cert.RefMixFwdIdeal.τ).loc Cert.RefMixFwdIdeal.main_arg2)
          ∧ r.2.mem ((c.tc : Thread Cert.RefMixFwdIdeal.nD Cert.RefMixFwdIdeal.τ).loc Cert.RefMixFwdIdeal.main_arg3) = m' ((c.tc : Thread Cert.RefMixFwdIdeal.nD Cert.RefMixFwdIdeal.τ).loc Cert.RefMixFwdIdeal.main_arg3))

def preserves_GateBwd_GateBwdIdeal : Prop :=
  True

def algebraic_GateBwdIdeal_RefGateBwdIdeal [hGateBwdIdeal : Cert.GateBwdIdeal.Facts] [hRefGateBwdIdeal : Cert.RefGateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.RefGateBwdIdeal.nD Cert.RefGateBwdIdeal.τ Cert.RefGateBwdIdeal.sig) → Buf (Elt Ideal) ℓ) (g' : Dev Cert.RefGateBwdIdeal.nD → PrngReg), Pre_GateBwdIdeal m →
    (∀ c : Dev Cert.GateBwdIdeal.nD,
      m' ((c.tc : Thread Cert.RefGateBwdIdeal.nD Cert.RefGateBwdIdeal.τ).loc Cert.RefGateBwdIdeal.main_arg0) = m ((c.tc : Thread Cert.GateBwdIdeal.nD Cert.GateBwdIdeal.τ).loc Cert.GateBwdIdeal.main_arg0)
      ∧ m' ((c.tc : Thread Cert.RefGateBwdIdeal.nD Cert.RefGateBwdIdeal.τ).loc Cert.RefGateBwdIdeal.main_arg1) = m ((c.tc : Thread Cert.GateBwdIdeal.nD Cert.GateBwdIdeal.τ).loc Cert.GateBwdIdeal.main_arg1)
      ∧ m' ((c.tc : Thread Cert.RefGateBwdIdeal.nD Cert.RefGateBwdIdeal.τ).loc Cert.RefGateBwdIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v1_0)) (v1 : (c : Dev Cert.GateBwdIdeal.nD) → Buf (Elt Ideal) ((c.tc : Thread Cert.GateBwdIdeal.nD Cert.GateBwdIdeal.τ).loc Cert.GateBwdIdeal.main_v1_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v1_0) = v0 c
          ∧ r.2.mem ((c.tc : Thread Cert.GateBwdIdeal.nD Cert.GateBwdIdeal.τ).loc Cert.GateBwdIdeal.main_v1_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.RefGateBwdIdeal.defs (F := Ideal)) (onTc (τ := Cert.RefGateBwdIdeal.τ) (Cert.RefGateBwdIdeal.main (F := Ideal))) ⟨m', fun _ => 0, g'⟩ (fun r => ∀ c : Dev Cert.RefGateBwdIdeal.nD,
          r.2.mem ((c.tc : Thread Cert.RefGateBwdIdeal.nD Cert.RefGateBwdIdeal.τ).loc Cert.RefGateBwdIdeal.main_v7) = v0 c
          ∧ r.2.mem ((c.tc : Thread Cert.RefGateBwdIdeal.nD Cert.RefGateBwdIdeal.τ).loc Cert.RefGateBwdIdeal.main_v6) = v1 c
          ∧ r.2.mem ((c.tc : Thread Cert.RefGateBwdIdeal.nD Cert.RefGateBwdIdeal.τ).loc Cert.RefGateBwdIdeal.main_arg0) = m' ((c.tc : Thread Cert.RefGateBwdIdeal.nD Cert.RefGateBwdIdeal.τ).loc Cert.RefGateBwdIdeal.main_arg0)
          ∧ r.2.mem ((c.tc : Thread Cert.RefGateBwdIdeal.nD Cert.RefGateBwdIdeal.τ).loc Cert.RefGateBwdIdeal.main_arg1) = m' ((c.tc : Thread Cert.RefGateBwdIdeal.nD Cert.RefGateBwdIdeal.τ).loc Cert.RefGateBwdIdeal.main_arg1)
          ∧ r.2.mem ((c.tc : Thread Cert.RefGateBwdIdeal.nD Cert.RefGateBwdIdeal.τ).loc Cert.RefGateBwdIdeal.main_arg2) = m' ((c.tc : Thread Cert.RefGateBwdIdeal.nD Cert.RefGateBwdIdeal.τ).loc Cert.RefGateBwdIdeal.main_arg2))

def preserves_ModNorm_ModNormIdeal : Prop :=
  True

def algebraic_ModNormIdeal_RefModNormIdeal [hModNormIdeal : Cert.ModNormIdeal.Facts] [hRefModNormIdeal : Cert.RefModNormIdeal.Facts] : Prop :=
  ∀ (m : (ℓ : Loc Cert.ModNormIdeal.nD Cert.ModNormIdeal.τ Cert.ModNormIdeal.sig) → Buf (Elt Ideal) ℓ) (g : Dev Cert.ModNormIdeal.nD → PrngReg)
    (m' : (ℓ : Loc Cert.RefModNormIdeal.nD Cert.RefModNormIdeal.τ Cert.RefModNormIdeal.sig) → Buf (Elt Ideal) ℓ) (g' : Dev Cert.RefModNormIdeal.nD → PrngReg), Pre_ModNormIdeal m →
    (∀ c : Dev Cert.ModNormIdeal.nD,
      m' ((c.tc : Thread Cert.RefModNormIdeal.nD Cert.RefModNormIdeal.τ).loc Cert.RefModNormIdeal.main_arg0) = m ((c.tc : Thread Cert.ModNormIdeal.nD Cert.ModNormIdeal.τ).loc Cert.ModNormIdeal.main_arg0)
      ∧ m' ((c.tc : Thread Cert.RefModNormIdeal.nD Cert.RefModNormIdeal.τ).loc Cert.RefModNormIdeal.main_arg1) = m ((c.tc : Thread Cert.ModNormIdeal.nD Cert.ModNormIdeal.τ).loc Cert.ModNormIdeal.main_arg1)
      ∧ m' ((c.tc : Thread Cert.RefModNormIdeal.nD Cert.RefModNormIdeal.τ).loc Cert.RefModNormIdeal.main_arg2) = m ((c.tc : Thread Cert.ModNormIdeal.nD Cert.ModNormIdeal.τ).loc Cert.ModNormIdeal.main_arg2)
      ∧ m' ((c.tc : Thread Cert.RefModNormIdeal.nD Cert.RefModNormIdeal.τ).loc Cert.RefModNormIdeal.main_arg3) = m ((c.tc : Thread Cert.ModNormIdeal.nD Cert.ModNormIdeal.τ).loc Cert.ModNormIdeal.main_arg3)) →
    ∃ (v0 : (c : Dev Cert.ModNormIdeal.nD) → Buf (Elt Ideal) ((c.tc : Thread Cert.ModNormIdeal.nD Cert.ModNormIdeal.τ).loc Cert.ModNormIdeal.main_v0)),
      θ_run (Cert.ModNormIdeal.defs (F := Ideal)) (onTc (τ := Cert.ModNormIdeal.τ) (Cert.ModNormIdeal.main (F := Ideal))) ⟨m, fun _ => 0, g⟩ (fun r => ∀ c : Dev Cert.ModNormIdeal.nD,
          r.2.mem ((c.tc : Thread Cert.ModNormIdeal.nD Cert.ModNormIdeal.τ).loc Cert.ModNormIdeal.main_v0) = v0 c
          ∧ r.2.mem ((c.tc : Thread Cert.ModNormIdeal.nD Cert.ModNormIdeal.τ).loc Cert.ModNormIdeal.main_arg0) = m ((c.tc : Thread Cert.ModNormIdeal.nD Cert.ModNormIdeal.τ).loc Cert.ModNormIdeal.main_arg0)
          ∧ r.2.mem ((c.tc : Thread Cert.ModNormIdeal.nD Cert.ModNormIdeal.τ).loc Cert.ModNormIdeal.main_arg1) = m ((c.tc : Thread Cert.ModNormIdeal.nD Cert.ModNormIdeal.τ).loc Cert.ModNormIdeal.main_arg1)
          ∧ r.2.mem ((c.tc : Thread Cert.ModNormIdeal.nD Cert.ModNormIdeal.τ).loc Cert.ModNormIdeal.main_arg2) = m ((c.tc : Thread Cert.ModNormIdeal.nD Cert.ModNormIdeal.τ).loc Cert.ModNormIdeal.main_arg2)
          ∧ r.2.mem ((c.tc : Thread Cert.ModNormIdeal.nD Cert.ModNormIdeal.τ).loc Cert.ModNormIdeal.main_arg3) = m ((c.tc : Thread Cert.ModNormIdeal.nD Cert.ModNormIdeal.τ).loc Cert.ModNormIdeal.main_arg3))
      ∧ θ_run (Cert.RefModNormIdeal.defs (F := Ideal)) (onTc (τ := Cert.RefModNormIdeal.τ) (Cert.RefModNormIdeal.main (F := Ideal))) ⟨m', fun _ => 0, g'⟩ (fun r => ∀ c : Dev Cert.RefModNormIdeal.nD,
          r.2.mem ((c.tc : Thread Cert.RefModNormIdeal.nD Cert.RefModNormIdeal.τ).loc Cert.RefModNormIdeal.main_v18) = v0 c
          ∧ r.2.mem ((c.tc : Thread Cert.RefModNormIdeal.nD Cert.RefModNormIdeal.τ).loc Cert.RefModNormIdeal.main_arg0) = m' ((c.tc : Thread Cert.RefModNormIdeal.nD Cert.RefModNormIdeal.τ).loc Cert.RefModNormIdeal.main_arg0)
          ∧ r.2.mem ((c.tc : Thread Cert.RefModNormIdeal.nD Cert.RefModNormIdeal.τ).loc Cert.RefModNormIdeal.main_arg1) = m' ((c.tc : Thread Cert.RefModNormIdeal.nD Cert.RefModNormIdeal.τ).loc Cert.RefModNormIdeal.main_arg1)
          ∧ r.2.mem ((c.tc : Thread Cert.RefModNormIdeal.nD Cert.RefModNormIdeal.τ).loc Cert.RefModNormIdeal.main_arg2) = m' ((c.tc : Thread Cert.RefModNormIdeal.nD Cert.RefModNormIdeal.τ).loc Cert.RefModNormIdeal.main_arg2)
          ∧ r.2.mem ((c.tc : Thread Cert.RefModNormIdeal.nD Cert.RefModNormIdeal.τ).loc Cert.RefModNormIdeal.main_arg3) = m' ((c.tc : Thread Cert.RefModNormIdeal.nD Cert.RefModNormIdeal.τ).loc Cert.RefModNormIdeal.main_arg3))

def preserves_LnFwd_LnFwdIdeal : Prop :=
  True

def algebraic_LnFwdIdeal_RefLnFwdIdeal [hLnFwdIdeal : Cert.LnFwdIdeal.Facts] [hRefLnFwdIdeal : Cert.RefLnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.RefLnFwdIdeal.nD Cert.RefLnFwdIdeal.τ Cert.RefLnFwdIdeal.sig) → Buf (Elt Ideal) ℓ) (g' : Dev Cert.RefLnFwdIdeal.nD → PrngReg), Pre_LnFwdIdeal m →
    (∀ c : Dev Cert.LnFwdIdeal.nD,
      m' ((c.tc : Thread Cert.RefLnFwdIdeal.nD Cert.RefLnFwdIdeal.τ).loc Cert.RefLnFwdIdeal.main_arg0) = m ((c.tc : Thread Cert.LnFwdIdeal.nD Cert.LnFwdIdeal.τ).loc Cert.LnFwdIdeal.main_arg0)
      ∧ m' ((c.tc : Thread Cert.RefLnFwdIdeal.nD Cert.RefLnFwdIdeal.τ).loc Cert.RefLnFwdIdeal.main_arg1) = m ((c.tc : Thread Cert.LnFwdIdeal.nD Cert.LnFwdIdeal.τ).loc Cert.LnFwdIdeal.main_arg1)
      ∧ m' ((c.tc : Thread Cert.RefLnFwdIdeal.nD Cert.RefLnFwdIdeal.τ).loc Cert.RefLnFwdIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v1) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.RefLnFwdIdeal.defs (F := Ideal)) (onTc (τ := Cert.RefLnFwdIdeal.τ) (Cert.RefLnFwdIdeal.main (F := Ideal))) ⟨m', fun _ => 0, g'⟩ (fun r => ∀ c : Dev Cert.RefLnFwdIdeal.nD,
          r.2.mem ((c.tc : Thread Cert.RefLnFwdIdeal.nD Cert.RefLnFwdIdeal.τ).loc Cert.RefLnFwdIdeal.main_v23) = v0 c
          ∧ r.2.mem ((c.tc : Thread Cert.RefLnFwdIdeal.nD Cert.RefLnFwdIdeal.τ).loc Cert.RefLnFwdIdeal.main_arg0) = m' ((c.tc : Thread Cert.RefLnFwdIdeal.nD Cert.RefLnFwdIdeal.τ).loc Cert.RefLnFwdIdeal.main_arg0)
          ∧ r.2.mem ((c.tc : Thread Cert.RefLnFwdIdeal.nD Cert.RefLnFwdIdeal.τ).loc Cert.RefLnFwdIdeal.main_arg1) = m' ((c.tc : Thread Cert.RefLnFwdIdeal.nD Cert.RefLnFwdIdeal.τ).loc Cert.RefLnFwdIdeal.main_arg1)
          ∧ r.2.mem ((c.tc : Thread Cert.RefLnFwdIdeal.nD Cert.RefLnFwdIdeal.τ).loc Cert.RefLnFwdIdeal.main_arg2) = m' ((c.tc : Thread Cert.RefLnFwdIdeal.nD Cert.RefLnFwdIdeal.τ).loc Cert.RefLnFwdIdeal.main_arg2))

def Claim : Prop :=
  ∃ (hKernel : Cert.Kernel.Facts) (hKernelIdeal : Cert.KernelIdeal.Facts) (hReferenceIdeal : Cert.ReferenceIdeal.Facts) (hW1Grad : Cert.W1Grad.Facts) (hW1GradIdeal : Cert.W1GradIdeal.Facts) (hRefW1GradIdeal : Cert.RefW1GradIdeal.Facts) (hUpBwd : Cert.UpBwd.Facts) (hUpBwdIdeal : Cert.UpBwdIdeal.Facts) (hRefUpBwdIdeal : Cert.RefUpBwdIdeal.Facts) (hW2Grad : Cert.W2Grad.Facts) (hW2GradIdeal : Cert.W2GradIdeal.Facts) (hRefW2GradIdeal : Cert.RefW2GradIdeal.Facts) (hDownBwd : Cert.DownBwd.Facts) (hDownBwdIdeal : Cert.DownBwdIdeal.Facts) (hRefDownBwdIdeal : Cert.RefDownBwdIdeal.Facts) (hWinGrad : Cert.WinGrad.Facts) (hWinGradIdeal : Cert.WinGradIdeal.Facts) (hRefWinGradIdeal : Cert.RefWinGradIdeal.Facts) (hInBwd : Cert.InBwd.Facts) (hInBwdIdeal : Cert.InBwdIdeal.Facts) (hRefInBwdIdeal : Cert.RefInBwdIdeal.Facts) (hWoutGrad : Cert.WoutGrad.Facts) (hWoutGradIdeal : Cert.WoutGradIdeal.Facts) (hRefWoutGradIdeal : Cert.RefWoutGradIdeal.Facts) (hOutBwd : Cert.OutBwd.Facts) (hOutBwdIdeal : Cert.OutBwdIdeal.Facts) (hRefOutBwdIdeal : Cert.RefOutBwdIdeal.Facts) (hMlpUp : Cert.MlpUp.Facts) (hMlpUpIdeal : Cert.MlpUpIdeal.Facts) (hRefMlpUpIdeal : Cert.RefMlpUpIdeal.Facts) (hMlpDown : Cert.MlpDown.Facts) (hMlpDownIdeal : Cert.MlpDownIdeal.Facts) (hRefMlpDownIdeal : Cert.RefMlpDownIdeal.Facts) (hGmlpOut : Cert.GmlpOut.Facts) (hGmlpOutIdeal : Cert.GmlpOutIdeal.Facts) (hRefGmlpOutIdeal : Cert.RefGmlpOutIdeal.Facts) (hGmlpIn : Cert.GmlpIn.Facts) (hGmlpInIdeal : Cert.GmlpInIdeal.Facts) (hRefGmlpInIdeal : Cert.RefGmlpInIdeal.Facts) (hWoGrad : Cert.WoGrad.Facts) (hWoGradIdeal : Cert.WoGradIdeal.Facts) (hRefWoGradIdeal : Cert.RefWoGradIdeal.Facts) (hOBwd : Cert.OBwd.Facts) (hOBwdIdeal : Cert.OBwdIdeal.Facts) (hRefOBwdIdeal : Cert.RefOBwdIdeal.Facts) (hAttnO : Cert.AttnO.Facts) (hAttnOIdeal : Cert.AttnOIdeal.Facts) (hRefAttnOIdeal : Cert.RefAttnOIdeal.Facts) (hWqGrad : Cert.WqGrad.Facts) (hWqGradIdeal : Cert.WqGradIdeal.Facts) (hRefWqGradIdeal : Cert.RefWqGradIdeal.Facts) (hQBwd : Cert.QBwd.Facts) (hQBwdIdeal : Cert.QBwdIdeal.Facts) (hRefQBwdIdeal : Cert.RefQBwdIdeal.Facts) (hKvGrad : Cert.KvGrad.Facts) (hKvGradIdeal : Cert.KvGradIdeal.Facts) (hRefKvGradIdeal : Cert.RefKvGradIdeal.Facts) (hKvBwd : Cert.KvBwd.Facts) (hKvBwdIdeal : Cert.KvBwdIdeal.Facts) (hRefKvBwdIdeal : Cert.RefKvBwdIdeal.Facts) (hKvV : Cert.KvV.Facts) (hKvVIdeal : Cert.KvVIdeal.Facts) (hRefKvVIdeal : Cert.RefKvVIdeal.Facts) (hAdamBig1 : Cert.AdamBig1.Facts) (hAdamBig1Ideal : Cert.AdamBig1Ideal.Facts) (hRefAdamBig1Ideal : Cert.RefAdamBig1Ideal.Facts) (hAdamBig2 : Cert.AdamBig2.Facts) (hAdamBig2Ideal : Cert.AdamBig2Ideal.Facts) (hRefAdamBig2Ideal : Cert.RefAdamBig2Ideal.Facts) (hAdamBig3 : Cert.AdamBig3.Facts) (hAdamBig3Ideal : Cert.AdamBig3Ideal.Facts) (hRefAdamBig3Ideal : Cert.RefAdamBig3Ideal.Facts) (hAdamBig4 : Cert.AdamBig4.Facts) (hAdamBig4Ideal : Cert.AdamBig4Ideal.Facts) (hRefAdamBig4Ideal : Cert.RefAdamBig4Ideal.Facts) (hAdamBig5 : Cert.AdamBig5.Facts) (hAdamBig5Ideal : Cert.AdamBig5Ideal.Facts) (hRefAdamBig5Ideal : Cert.RefAdamBig5Ideal.Facts) (hAdamAdaB : Cert.AdamAdaB.Facts) (hAdamAdaBIdeal : Cert.AdamAdaBIdeal.Facts) (hRefAdamAdaBIdeal : Cert.RefAdamAdaBIdeal.Facts) (hAdamNormG : Cert.AdamNormG.Facts) (hAdamNormGIdeal : Cert.AdamNormGIdeal.Facts) (hRefAdamNormGIdeal : Cert.RefAdamNormGIdeal.Facts) (hAdamLnG : Cert.AdamLnG.Facts) (hAdamLnGIdeal : Cert.AdamLnGIdeal.Facts) (hRefAdamLnGIdeal : Cert.RefAdamLnGIdeal.Facts) (hAdamWs : Cert.AdamWs.Facts) (hAdamWsIdeal : Cert.AdamWsIdeal.Facts) (hRefAdamWsIdeal : Cert.RefAdamWsIdeal.Facts) (hAdamBs : Cert.AdamBs.Facts) (hAdamBsIdeal : Cert.AdamBsIdeal.Facts) (hRefAdamBsIdeal : Cert.RefAdamBsIdeal.Facts) (hAdamKvNormG : Cert.AdamKvNormG.Facts) (hAdamKvNormGIdeal : Cert.AdamKvNormGIdeal.Facts) (hRefAdamKvNormGIdeal : Cert.RefAdamKvNormGIdeal.Facts) (hAdamKvAdaB : Cert.AdamKvAdaB.Facts) (hAdamKvAdaBIdeal : Cert.AdamKvAdaBIdeal.Facts) (hRefAdamKvAdaBIdeal : Cert.RefAdamKvAdaBIdeal.Facts) (hAdamKNormG : Cert.AdamKNormG.Facts) (hAdamKNormGIdeal : Cert.AdamKNormGIdeal.Facts) (hRefAdamKNormGIdeal : Cert.RefAdamKNormGIdeal.Facts) (hAdamWf : Cert.AdamWf.Facts) (hAdamWfIdeal : Cert.AdamWfIdeal.Facts) (hRefAdamWfIdeal : Cert.RefAdamWfIdeal.Facts) (hAdamBf : Cert.AdamBf.Facts) (hAdamBfIdeal : Cert.AdamBfIdeal.Facts) (hRefAdamBfIdeal : Cert.RefAdamBfIdeal.Facts) (hAdamQNormG : Cert.AdamQNormG.Facts) (hAdamQNormGIdeal : Cert.AdamQNormGIdeal.Facts) (hRefAdamQNormGIdeal : Cert.RefAdamQNormGIdeal.Facts) (hAdamAda : Cert.AdamAda.Facts) (hAdamAdaIdeal : Cert.AdamAdaIdeal.Facts) (hRefAdamAdaIdeal : Cert.RefAdamAdaIdeal.Facts) (hAdamKvAda : Cert.AdamKvAda.Facts) (hAdamKvAdaIdeal : Cert.AdamKvAdaIdeal.Facts) (hRefAdamKvAdaIdeal : Cert.RefAdamKvAdaIdeal.Facts) (hMixBwd : Cert.MixBwd.Facts) (hMixBwdIdeal : Cert.MixBwdIdeal.Facts) (hRefMixBwdIdeal : Cert.RefMixBwdIdeal.Facts) (hMixFwd : Cert.MixFwd.Facts) (hMixFwdIdeal : Cert.MixFwdIdeal.Facts) (hRefMixFwdIdeal : Cert.RefMixFwdIdeal.Facts) (hGateBwd : Cert.GateBwd.Facts) (hGateBwdIdeal : Cert.GateBwdIdeal.Facts) (hRefGateBwdIdeal : Cert.RefGateBwdIdeal.Facts) (hModNorm : Cert.ModNorm.Facts) (hModNormIdeal : Cert.ModNormIdeal.Facts) (hRefModNormIdeal : Cert.RefModNormIdeal.Facts) (hLnFwd : Cert.LnFwd.Facts) (hLnFwdIdeal : Cert.LnFwdIdeal.Facts) (hRefLnFwdIdeal : Cert.RefLnFwdIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_W1Grad (hW1Grad := hW1Grad)
    ∧ quiescent_W1GradIdeal (hW1GradIdeal := hW1GradIdeal)
    ∧ quiescent_RefW1GradIdeal (hRefW1GradIdeal := hRefW1GradIdeal)
    ∧ quiescent_UpBwd (hUpBwd := hUpBwd)
    ∧ quiescent_UpBwdIdeal (hUpBwdIdeal := hUpBwdIdeal)
    ∧ quiescent_RefUpBwdIdeal (hRefUpBwdIdeal := hRefUpBwdIdeal)
    ∧ quiescent_W2Grad (hW2Grad := hW2Grad)
    ∧ quiescent_W2GradIdeal (hW2GradIdeal := hW2GradIdeal)
    ∧ quiescent_RefW2GradIdeal (hRefW2GradIdeal := hRefW2GradIdeal)
    ∧ quiescent_DownBwd (hDownBwd := hDownBwd)
    ∧ quiescent_DownBwdIdeal (hDownBwdIdeal := hDownBwdIdeal)
    ∧ quiescent_RefDownBwdIdeal (hRefDownBwdIdeal := hRefDownBwdIdeal)
    ∧ quiescent_WinGrad (hWinGrad := hWinGrad)
    ∧ quiescent_WinGradIdeal (hWinGradIdeal := hWinGradIdeal)
    ∧ quiescent_RefWinGradIdeal (hRefWinGradIdeal := hRefWinGradIdeal)
    ∧ quiescent_InBwd (hInBwd := hInBwd)
    ∧ quiescent_InBwdIdeal (hInBwdIdeal := hInBwdIdeal)
    ∧ quiescent_RefInBwdIdeal (hRefInBwdIdeal := hRefInBwdIdeal)
    ∧ quiescent_WoutGrad (hWoutGrad := hWoutGrad)
    ∧ quiescent_WoutGradIdeal (hWoutGradIdeal := hWoutGradIdeal)
    ∧ quiescent_RefWoutGradIdeal (hRefWoutGradIdeal := hRefWoutGradIdeal)
    ∧ quiescent_OutBwd (hOutBwd := hOutBwd)
    ∧ quiescent_OutBwdIdeal (hOutBwdIdeal := hOutBwdIdeal)
    ∧ quiescent_RefOutBwdIdeal (hRefOutBwdIdeal := hRefOutBwdIdeal)
    ∧ quiescent_MlpUp (hMlpUp := hMlpUp)
    ∧ quiescent_MlpUpIdeal (hMlpUpIdeal := hMlpUpIdeal)
    ∧ quiescent_RefMlpUpIdeal (hRefMlpUpIdeal := hRefMlpUpIdeal)
    ∧ quiescent_MlpDown (hMlpDown := hMlpDown)
    ∧ quiescent_MlpDownIdeal (hMlpDownIdeal := hMlpDownIdeal)
    ∧ quiescent_RefMlpDownIdeal (hRefMlpDownIdeal := hRefMlpDownIdeal)
    ∧ quiescent_GmlpOut (hGmlpOut := hGmlpOut)
    ∧ quiescent_GmlpOutIdeal (hGmlpOutIdeal := hGmlpOutIdeal)
    ∧ quiescent_RefGmlpOutIdeal (hRefGmlpOutIdeal := hRefGmlpOutIdeal)
    ∧ quiescent_GmlpIn (hGmlpIn := hGmlpIn)
    ∧ quiescent_GmlpInIdeal (hGmlpInIdeal := hGmlpInIdeal)
    ∧ quiescent_RefGmlpInIdeal (hRefGmlpInIdeal := hRefGmlpInIdeal)
    ∧ quiescent_WoGrad (hWoGrad := hWoGrad)
    ∧ quiescent_WoGradIdeal (hWoGradIdeal := hWoGradIdeal)
    ∧ quiescent_RefWoGradIdeal (hRefWoGradIdeal := hRefWoGradIdeal)
    ∧ quiescent_OBwd (hOBwd := hOBwd)
    ∧ quiescent_OBwdIdeal (hOBwdIdeal := hOBwdIdeal)
    ∧ quiescent_RefOBwdIdeal (hRefOBwdIdeal := hRefOBwdIdeal)
    ∧ quiescent_AttnO (hAttnO := hAttnO)
    ∧ quiescent_AttnOIdeal (hAttnOIdeal := hAttnOIdeal)
    ∧ quiescent_RefAttnOIdeal (hRefAttnOIdeal := hRefAttnOIdeal)
    ∧ quiescent_WqGrad (hWqGrad := hWqGrad)
    ∧ quiescent_WqGradIdeal (hWqGradIdeal := hWqGradIdeal)
    ∧ quiescent_RefWqGradIdeal (hRefWqGradIdeal := hRefWqGradIdeal)
    ∧ quiescent_QBwd (hQBwd := hQBwd)
    ∧ quiescent_QBwdIdeal (hQBwdIdeal := hQBwdIdeal)
    ∧ quiescent_RefQBwdIdeal (hRefQBwdIdeal := hRefQBwdIdeal)
    ∧ quiescent_KvGrad (hKvGrad := hKvGrad)
    ∧ quiescent_KvGradIdeal (hKvGradIdeal := hKvGradIdeal)
    ∧ quiescent_RefKvGradIdeal (hRefKvGradIdeal := hRefKvGradIdeal)
    ∧ quiescent_KvBwd (hKvBwd := hKvBwd)
    ∧ quiescent_KvBwdIdeal (hKvBwdIdeal := hKvBwdIdeal)
    ∧ quiescent_RefKvBwdIdeal (hRefKvBwdIdeal := hRefKvBwdIdeal)
    ∧ quiescent_KvV (hKvV := hKvV)
    ∧ quiescent_KvVIdeal (hKvVIdeal := hKvVIdeal)
    ∧ quiescent_RefKvVIdeal (hRefKvVIdeal := hRefKvVIdeal)
    ∧ quiescent_AdamBig1 (hAdamBig1 := hAdamBig1)
    ∧ quiescent_AdamBig1Ideal (hAdamBig1Ideal := hAdamBig1Ideal)
    ∧ quiescent_RefAdamBig1Ideal (hRefAdamBig1Ideal := hRefAdamBig1Ideal)
    ∧ quiescent_AdamBig2 (hAdamBig2 := hAdamBig2)
    ∧ quiescent_AdamBig2Ideal (hAdamBig2Ideal := hAdamBig2Ideal)
    ∧ quiescent_RefAdamBig2Ideal (hRefAdamBig2Ideal := hRefAdamBig2Ideal)
    ∧ quiescent_AdamBig3 (hAdamBig3 := hAdamBig3)
    ∧ quiescent_AdamBig3Ideal (hAdamBig3Ideal := hAdamBig3Ideal)
    ∧ quiescent_RefAdamBig3Ideal (hRefAdamBig3Ideal := hRefAdamBig3Ideal)
    ∧ quiescent_AdamBig4 (hAdamBig4 := hAdamBig4)
    ∧ quiescent_AdamBig4Ideal (hAdamBig4Ideal := hAdamBig4Ideal)
    ∧ quiescent_RefAdamBig4Ideal (hRefAdamBig4Ideal := hRefAdamBig4Ideal)
    ∧ quiescent_AdamBig5 (hAdamBig5 := hAdamBig5)
    ∧ quiescent_AdamBig5Ideal (hAdamBig5Ideal := hAdamBig5Ideal)
    ∧ quiescent_RefAdamBig5Ideal (hRefAdamBig5Ideal := hRefAdamBig5Ideal)
    ∧ quiescent_AdamAdaB (hAdamAdaB := hAdamAdaB)
    ∧ quiescent_AdamAdaBIdeal (hAdamAdaBIdeal := hAdamAdaBIdeal)
    ∧ quiescent_RefAdamAdaBIdeal (hRefAdamAdaBIdeal := hRefAdamAdaBIdeal)
    ∧ quiescent_AdamNormG (hAdamNormG := hAdamNormG)
    ∧ quiescent_AdamNormGIdeal (hAdamNormGIdeal := hAdamNormGIdeal)
    ∧ quiescent_RefAdamNormGIdeal (hRefAdamNormGIdeal := hRefAdamNormGIdeal)
    ∧ quiescent_AdamLnG (hAdamLnG := hAdamLnG)
    ∧ quiescent_AdamLnGIdeal (hAdamLnGIdeal := hAdamLnGIdeal)
    ∧ quiescent_RefAdamLnGIdeal (hRefAdamLnGIdeal := hRefAdamLnGIdeal)
    ∧ quiescent_AdamWs (hAdamWs := hAdamWs)
    ∧ quiescent_AdamWsIdeal (hAdamWsIdeal := hAdamWsIdeal)
    ∧ quiescent_RefAdamWsIdeal (hRefAdamWsIdeal := hRefAdamWsIdeal)
    ∧ quiescent_AdamBs (hAdamBs := hAdamBs)
    ∧ quiescent_AdamBsIdeal (hAdamBsIdeal := hAdamBsIdeal)
    ∧ quiescent_RefAdamBsIdeal (hRefAdamBsIdeal := hRefAdamBsIdeal)
    ∧ quiescent_AdamKvNormG (hAdamKvNormG := hAdamKvNormG)
    ∧ quiescent_AdamKvNormGIdeal (hAdamKvNormGIdeal := hAdamKvNormGIdeal)
    ∧ quiescent_RefAdamKvNormGIdeal (hRefAdamKvNormGIdeal := hRefAdamKvNormGIdeal)
    ∧ quiescent_AdamKvAdaB (hAdamKvAdaB := hAdamKvAdaB)
    ∧ quiescent_AdamKvAdaBIdeal (hAdamKvAdaBIdeal := hAdamKvAdaBIdeal)
    ∧ quiescent_RefAdamKvAdaBIdeal (hRefAdamKvAdaBIdeal := hRefAdamKvAdaBIdeal)
    ∧ quiescent_AdamKNormG (hAdamKNormG := hAdamKNormG)
    ∧ quiescent_AdamKNormGIdeal (hAdamKNormGIdeal := hAdamKNormGIdeal)
    ∧ quiescent_RefAdamKNormGIdeal (hRefAdamKNormGIdeal := hRefAdamKNormGIdeal)
    ∧ quiescent_AdamWf (hAdamWf := hAdamWf)
    ∧ quiescent_AdamWfIdeal (hAdamWfIdeal := hAdamWfIdeal)
    ∧ quiescent_RefAdamWfIdeal (hRefAdamWfIdeal := hRefAdamWfIdeal)
    ∧ quiescent_AdamBf (hAdamBf := hAdamBf)
    ∧ quiescent_AdamBfIdeal (hAdamBfIdeal := hAdamBfIdeal)
    ∧ quiescent_RefAdamBfIdeal (hRefAdamBfIdeal := hRefAdamBfIdeal)
    ∧ quiescent_AdamQNormG (hAdamQNormG := hAdamQNormG)
    ∧ quiescent_AdamQNormGIdeal (hAdamQNormGIdeal := hAdamQNormGIdeal)
    ∧ quiescent_RefAdamQNormGIdeal (hRefAdamQNormGIdeal := hRefAdamQNormGIdeal)
    ∧ quiescent_AdamAda (hAdamAda := hAdamAda)
    ∧ quiescent_AdamAdaIdeal (hAdamAdaIdeal := hAdamAdaIdeal)
    ∧ quiescent_RefAdamAdaIdeal (hRefAdamAdaIdeal := hRefAdamAdaIdeal)
    ∧ quiescent_AdamKvAda (hAdamKvAda := hAdamKvAda)
    ∧ quiescent_AdamKvAdaIdeal (hAdamKvAdaIdeal := hAdamKvAdaIdeal)
    ∧ quiescent_RefAdamKvAdaIdeal (hRefAdamKvAdaIdeal := hRefAdamKvAdaIdeal)
    ∧ quiescent_MixBwd (hMixBwd := hMixBwd)
    ∧ quiescent_MixBwdIdeal (hMixBwdIdeal := hMixBwdIdeal)
    ∧ quiescent_RefMixBwdIdeal (hRefMixBwdIdeal := hRefMixBwdIdeal)
    ∧ quiescent_MixFwd (hMixFwd := hMixFwd)
    ∧ quiescent_MixFwdIdeal (hMixFwdIdeal := hMixFwdIdeal)
    ∧ quiescent_RefMixFwdIdeal (hRefMixFwdIdeal := hRefMixFwdIdeal)
    ∧ quiescent_GateBwd (hGateBwd := hGateBwd)
    ∧ quiescent_GateBwdIdeal (hGateBwdIdeal := hGateBwdIdeal)
    ∧ quiescent_RefGateBwdIdeal (hRefGateBwdIdeal := hRefGateBwdIdeal)
    ∧ quiescent_ModNorm (hModNorm := hModNorm)
    ∧ quiescent_ModNormIdeal (hModNormIdeal := hModNormIdeal)
    ∧ quiescent_RefModNormIdeal (hRefModNormIdeal := hRefModNormIdeal)
    ∧ quiescent_LnFwd (hLnFwd := hLnFwd)
    ∧ quiescent_LnFwdIdeal (hLnFwdIdeal := hLnFwdIdeal)
    ∧ quiescent_RefLnFwdIdeal (hRefLnFwdIdeal := hRefLnFwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_W1Grad_W1GradIdeal
    ∧ algebraic_W1GradIdeal_RefW1GradIdeal (hW1GradIdeal := hW1GradIdeal) (hRefW1GradIdeal := hRefW1GradIdeal)
    ∧ preserves_UpBwd_UpBwdIdeal
    ∧ algebraic_UpBwdIdeal_RefUpBwdIdeal (hUpBwdIdeal := hUpBwdIdeal) (hRefUpBwdIdeal := hRefUpBwdIdeal)
    ∧ preserves_W2Grad_W2GradIdeal
    ∧ algebraic_W2GradIdeal_RefW2GradIdeal (hW2GradIdeal := hW2GradIdeal) (hRefW2GradIdeal := hRefW2GradIdeal)
    ∧ preserves_DownBwd_DownBwdIdeal
    ∧ algebraic_DownBwdIdeal_RefDownBwdIdeal (hDownBwdIdeal := hDownBwdIdeal) (hRefDownBwdIdeal := hRefDownBwdIdeal)
    ∧ preserves_WinGrad_WinGradIdeal
    ∧ algebraic_WinGradIdeal_RefWinGradIdeal (hWinGradIdeal := hWinGradIdeal) (hRefWinGradIdeal := hRefWinGradIdeal)
    ∧ preserves_InBwd_InBwdIdeal
    ∧ algebraic_InBwdIdeal_RefInBwdIdeal (hInBwdIdeal := hInBwdIdeal) (hRefInBwdIdeal := hRefInBwdIdeal)
    ∧ preserves_WoutGrad_WoutGradIdeal
    ∧ algebraic_WoutGradIdeal_RefWoutGradIdeal (hWoutGradIdeal := hWoutGradIdeal) (hRefWoutGradIdeal := hRefWoutGradIdeal)
    ∧ preserves_OutBwd_OutBwdIdeal
    ∧ algebraic_OutBwdIdeal_RefOutBwdIdeal (hOutBwdIdeal := hOutBwdIdeal) (hRefOutBwdIdeal := hRefOutBwdIdeal)
    ∧ preserves_MlpUp_MlpUpIdeal
    ∧ algebraic_MlpUpIdeal_RefMlpUpIdeal (hMlpUpIdeal := hMlpUpIdeal) (hRefMlpUpIdeal := hRefMlpUpIdeal)
    ∧ preserves_MlpDown_MlpDownIdeal
    ∧ algebraic_MlpDownIdeal_RefMlpDownIdeal (hMlpDownIdeal := hMlpDownIdeal) (hRefMlpDownIdeal := hRefMlpDownIdeal)
    ∧ preserves_GmlpOut_GmlpOutIdeal
    ∧ algebraic_GmlpOutIdeal_RefGmlpOutIdeal (hGmlpOutIdeal := hGmlpOutIdeal) (hRefGmlpOutIdeal := hRefGmlpOutIdeal)
    ∧ preserves_GmlpIn_GmlpInIdeal
    ∧ algebraic_GmlpInIdeal_RefGmlpInIdeal (hGmlpInIdeal := hGmlpInIdeal) (hRefGmlpInIdeal := hRefGmlpInIdeal)
    ∧ preserves_WoGrad_WoGradIdeal
    ∧ algebraic_WoGradIdeal_RefWoGradIdeal (hWoGradIdeal := hWoGradIdeal) (hRefWoGradIdeal := hRefWoGradIdeal)
    ∧ preserves_OBwd_OBwdIdeal
    ∧ algebraic_OBwdIdeal_RefOBwdIdeal (hOBwdIdeal := hOBwdIdeal) (hRefOBwdIdeal := hRefOBwdIdeal)
    ∧ preserves_AttnO_AttnOIdeal
    ∧ algebraic_AttnOIdeal_RefAttnOIdeal (hAttnOIdeal := hAttnOIdeal) (hRefAttnOIdeal := hRefAttnOIdeal)
    ∧ preserves_WqGrad_WqGradIdeal
    ∧ algebraic_WqGradIdeal_RefWqGradIdeal (hWqGradIdeal := hWqGradIdeal) (hRefWqGradIdeal := hRefWqGradIdeal)
    ∧ preserves_QBwd_QBwdIdeal
    ∧ algebraic_QBwdIdeal_RefQBwdIdeal (hQBwdIdeal := hQBwdIdeal) (hRefQBwdIdeal := hRefQBwdIdeal)
    ∧ preserves_KvGrad_KvGradIdeal
    ∧ algebraic_KvGradIdeal_RefKvGradIdeal (hKvGradIdeal := hKvGradIdeal) (hRefKvGradIdeal := hRefKvGradIdeal)
    ∧ preserves_KvBwd_KvBwdIdeal
    ∧ algebraic_KvBwdIdeal_RefKvBwdIdeal (hKvBwdIdeal := hKvBwdIdeal) (hRefKvBwdIdeal := hRefKvBwdIdeal)
    ∧ preserves_KvV_KvVIdeal
    ∧ algebraic_KvVIdeal_RefKvVIdeal (hKvVIdeal := hKvVIdeal) (hRefKvVIdeal := hRefKvVIdeal)
    ∧ preserves_AdamBig1_AdamBig1Ideal
    ∧ algebraic_AdamBig1Ideal_RefAdamBig1Ideal (hAdamBig1Ideal := hAdamBig1Ideal) (hRefAdamBig1Ideal := hRefAdamBig1Ideal)
    ∧ preserves_AdamBig2_AdamBig2Ideal
    ∧ algebraic_AdamBig2Ideal_RefAdamBig2Ideal (hAdamBig2Ideal := hAdamBig2Ideal) (hRefAdamBig2Ideal := hRefAdamBig2Ideal)
    ∧ preserves_AdamBig3_AdamBig3Ideal
    ∧ algebraic_AdamBig3Ideal_RefAdamBig3Ideal (hAdamBig3Ideal := hAdamBig3Ideal) (hRefAdamBig3Ideal := hRefAdamBig3Ideal)
    ∧ preserves_AdamBig4_AdamBig4Ideal
    ∧ algebraic_AdamBig4Ideal_RefAdamBig4Ideal (hAdamBig4Ideal := hAdamBig4Ideal) (hRefAdamBig4Ideal := hRefAdamBig4Ideal)
    ∧ preserves_AdamBig5_AdamBig5Ideal
    ∧ algebraic_AdamBig5Ideal_RefAdamBig5Ideal (hAdamBig5Ideal := hAdamBig5Ideal) (hRefAdamBig5Ideal := hRefAdamBig5Ideal)
    ∧ preserves_AdamAdaB_AdamAdaBIdeal
    ∧ algebraic_AdamAdaBIdeal_RefAdamAdaBIdeal (hAdamAdaBIdeal := hAdamAdaBIdeal) (hRefAdamAdaBIdeal := hRefAdamAdaBIdeal)
    ∧ preserves_AdamNormG_AdamNormGIdeal
    ∧ algebraic_AdamNormGIdeal_RefAdamNormGIdeal (hAdamNormGIdeal := hAdamNormGIdeal) (hRefAdamNormGIdeal := hRefAdamNormGIdeal)
    ∧ preserves_AdamLnG_AdamLnGIdeal
    ∧ algebraic_AdamLnGIdeal_RefAdamLnGIdeal (hAdamLnGIdeal := hAdamLnGIdeal) (hRefAdamLnGIdeal := hRefAdamLnGIdeal)
    ∧ preserves_AdamWs_AdamWsIdeal
    ∧ algebraic_AdamWsIdeal_RefAdamWsIdeal (hAdamWsIdeal := hAdamWsIdeal) (hRefAdamWsIdeal := hRefAdamWsIdeal)
    ∧ preserves_AdamBs_AdamBsIdeal
    ∧ algebraic_AdamBsIdeal_RefAdamBsIdeal (hAdamBsIdeal := hAdamBsIdeal) (hRefAdamBsIdeal := hRefAdamBsIdeal)
    ∧ preserves_AdamKvNormG_AdamKvNormGIdeal
    ∧ algebraic_AdamKvNormGIdeal_RefAdamKvNormGIdeal (hAdamKvNormGIdeal := hAdamKvNormGIdeal) (hRefAdamKvNormGIdeal := hRefAdamKvNormGIdeal)
    ∧ preserves_AdamKvAdaB_AdamKvAdaBIdeal
    ∧ algebraic_AdamKvAdaBIdeal_RefAdamKvAdaBIdeal (hAdamKvAdaBIdeal := hAdamKvAdaBIdeal) (hRefAdamKvAdaBIdeal := hRefAdamKvAdaBIdeal)
    ∧ preserves_AdamKNormG_AdamKNormGIdeal
    ∧ algebraic_AdamKNormGIdeal_RefAdamKNormGIdeal (hAdamKNormGIdeal := hAdamKNormGIdeal) (hRefAdamKNormGIdeal := hRefAdamKNormGIdeal)
    ∧ preserves_AdamWf_AdamWfIdeal
    ∧ algebraic_AdamWfIdeal_RefAdamWfIdeal (hAdamWfIdeal := hAdamWfIdeal) (hRefAdamWfIdeal := hRefAdamWfIdeal)
    ∧ preserves_AdamBf_AdamBfIdeal
    ∧ algebraic_AdamBfIdeal_RefAdamBfIdeal (hAdamBfIdeal := hAdamBfIdeal) (hRefAdamBfIdeal := hRefAdamBfIdeal)
    ∧ preserves_AdamQNormG_AdamQNormGIdeal
    ∧ algebraic_AdamQNormGIdeal_RefAdamQNormGIdeal (hAdamQNormGIdeal := hAdamQNormGIdeal) (hRefAdamQNormGIdeal := hRefAdamQNormGIdeal)
    ∧ preserves_AdamAda_AdamAdaIdeal
    ∧ algebraic_AdamAdaIdeal_RefAdamAdaIdeal (hAdamAdaIdeal := hAdamAdaIdeal) (hRefAdamAdaIdeal := hRefAdamAdaIdeal)
    ∧ preserves_AdamKvAda_AdamKvAdaIdeal
    ∧ algebraic_AdamKvAdaIdeal_RefAdamKvAdaIdeal (hAdamKvAdaIdeal := hAdamKvAdaIdeal) (hRefAdamKvAdaIdeal := hRefAdamKvAdaIdeal)
    ∧ preserves_MixBwd_MixBwdIdeal
    ∧ algebraic_MixBwdIdeal_RefMixBwdIdeal (hMixBwdIdeal := hMixBwdIdeal) (hRefMixBwdIdeal := hRefMixBwdIdeal)
    ∧ preserves_MixFwd_MixFwdIdeal
    ∧ algebraic_MixFwdIdeal_RefMixFwdIdeal (hMixFwdIdeal := hMixFwdIdeal) (hRefMixFwdIdeal := hRefMixFwdIdeal)
    ∧ preserves_GateBwd_GateBwdIdeal
    ∧ algebraic_GateBwdIdeal_RefGateBwdIdeal (hGateBwdIdeal := hGateBwdIdeal) (hRefGateBwdIdeal := hRefGateBwdIdeal)
    ∧ preserves_ModNorm_ModNormIdeal
    ∧ algebraic_ModNormIdeal_RefModNormIdeal (hModNormIdeal := hModNormIdeal) (hRefModNormIdeal := hRefModNormIdeal)
    ∧ preserves_LnFwd_LnFwdIdeal
    ∧ algebraic_LnFwdIdeal_RefLnFwdIdeal (hLnFwdIdeal := hLnFwdIdeal) (hRefLnFwdIdeal := hRefLnFwdIdeal)
-- ==== Pre_finite.lean ====
abbrev S4096x2048 : Shape := ⟨2, ![4096, 2048]⟩
abbrev S16x4096 : Shape := ⟨2, ![16, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S4096x2048 .f32) (main_v3 : IVec S_ 1) (main_v7 : IVec S_ 1) (main_v11 : IVec S_ 1) (main_v15 : IVec S_ 1) : IVec S_ 1 :=
  let main_v16 : FVec F S4096x2048 .f32 := Host.absf main_arg4
  let main_cst_6 : FVec F S_ .f32 := constant S_ .f32 0x7F800000#32
  let main_v17 : FVec F S4096x2048 .f32 := broadcastInDim S4096x2048 ![] bcast_S_S4096x2048 main_cst_6
  let main_v18 : IVec S4096x2048 1 := cmpf .olt main_v16 main_v17
  let main_c_7 : IVec S_ 1 := constantI S_ 1 1#1
  let main_v19 : IVec S_ 1 := (fun x v => Host.reduce IntOp.andi x v reducesTo_S4096x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x2048 .f32) (main_arg1 : FVec F S4096x2048 .f32) (main_arg2 : FVec F S4096x2048 .f32) (main_arg3 : FVec F S16x4096 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : FVec F S4096x2048 .f32 := Host.absf main_arg2
  let main_cst_2 : FVec F S_ .f32 := constant S_ .f32 0x7F800000#32
  let main_v9 : FVec F S4096x2048 .f32 := broadcastInDim S4096x2048 ![] bcast_S_S4096x2048 main_cst_2
  let main_v10 : IVec S4096x2048 1 := cmpf .olt main_v8 main_v9
  let main_c_3 : IVec S_ 1 := constantI S_ 1 1#1
  let main_v11 : IVec S_ 1 := (fun x v => Host.reduce IntOp.andi x v reducesTo_S4096x2048_S_d0_1 h_S_) main_v10 main_c_3
  let main_v12 : FVec F S16x4096 .f32 := Host.absf main_arg3
  let main_cst_4 : FVec F S_ .f32 := constant S_ .f32 0x7F800000#32
  let main_v13 : FVec F S16x4096 .f32 := broadcastInDim S16x4096 ![] bcast_S_S16x4096 main_cst_4
  let main_v14 : IVec S16x4096 1 := cmpf .olt main_v12 main_v13
  let main_c_5 : IVec S_ 1 := constantI S_ 1 1#1
  let main_v15 : IVec S_ 1 := (fun x v => Host.reduce IntOp.andi x v reducesTo_S16x4096_S_d0_1 h_S_) main_v14 main_c_5
  fn_part1 (F := F) main_arg4 main_v3 main_v7 main_v11 main_v15
-- ==== Kernel.lean ====
abbrev S4096x2048 : Shape := ⟨2, ![4096, 2048]⟩
abbrev S16x4096 : Shape := ⟨2, ![16, 4096]⟩
abbrev S_ : Shape := ⟨0, ![]⟩
abbrev S128x4096 : Shape := ⟨2, ![128, 4096]⟩
abbrev S128x4x1024 : Shape := ⟨3, ![128, 4, 1024]⟩
abbrev S4x128x1024 : Shape := ⟨3, ![4, 128, 1024]⟩
abbrev S16x4096x128 : Shape := ⟨3, ![16, 4096, 128]⟩
abbrev S1024x128 : Shape := ⟨2, ![1024, 128]⟩
abbrev S4096x128 : Shape := ⟨2, ![4096, 128]⟩
abbrev S4x8x1024 : Shape := ⟨3, ![4, 8, 1024]⟩
abbrev S1x1024x128 : Shape := ⟨3, ![1, 1024, 128]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1x1024x1 : Shape := ⟨3, ![1, 1024, 1]⟩
abbrev S16x4x8x1024 : Shape := ⟨4, ![16, 4, 8, 1024]⟩
abbrev S1x4096x128 : Shape := ⟨3, ![1, 4096, 128]⟩
abbrev S1x8x1024 : Shape := ⟨3, ![1, 8, 1024]⟩
abbrev S1x1x8x1024 : Shape := ⟨4, ![1, 1, 8, 1024]⟩
abbrev S8x1024 : Shape := ⟨2, ![8, 1024]⟩

abbrev nBuf : Space → Nat
  | .hbm => 24
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x4096, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .hbm, ⟨10, _⟩ => ⟨S4096x2048, .bf16⟩
  | .hbm, ⟨11, _⟩ => ⟨S4096x2048, .bf16⟩
  | .hbm, ⟨12, _⟩ => ⟨S_, .i32⟩
  | .hbm, ⟨13, _⟩ => ⟨S_, .f32⟩
  | .hbm, ⟨14, _⟩ => ⟨S128x4096, .f32⟩
  | .hbm, ⟨15, _⟩ => ⟨S128x4x1024, .f32⟩
  | .hbm, ⟨16, _⟩ => ⟨S4x128x1024, .f32⟩
  | .hbm, ⟨17, _⟩ => ⟨S4096x2048, .bf16⟩
  | .hbm, ⟨18, _⟩ => ⟨S16x4096x128, .f32⟩
  | .hbm, ⟨19, _⟩ => ⟨S4096x2048, .bf16⟩
  | .hbm, ⟨20, _⟩ => ⟨S16x4096x128, .f32⟩
  | .hbm, ⟨21, _⟩ => ⟨S4096x2048, .bf16⟩
  | .hbm, ⟨22, _⟩ => ⟨S4096x2048, .bf16⟩
  | .hbm, ⟨23, _⟩ => ⟨S16x4x8x1024, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4x8x1024, .f32⟩
  | .local _ .vmem, ⟨7, _⟩ => ⟨S4x8x1024, .f32⟩
  | .local _ .vmem, ⟨8, _⟩ => ⟨S1024x128, .bf16⟩
  | .local _ .vmem, ⟨9, _⟩ => ⟨S1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1024x128, .bf16⟩
  | .local _ .vmem, ⟨13, _⟩ => ⟨S1024x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S1024x128, .bf16⟩
  | .local _ .vmem, ⟨19, _⟩ => ⟨S1024x128, .bf16⟩
  | .local _ .vmem, ⟨20, _⟩ => ⟨S1x1024x128, .f32⟩
  | .local _ .vmem, ⟨21, _⟩ => ⟨S1x1024x128, .f32⟩
  | .local _ .vmem, ⟨22, _⟩ => ⟨S4x8x1024, .f32⟩
  | .local _ .vmem, ⟨23, _⟩ => ⟨S4x8x1024, .f32⟩
  | .local _ .vmem, ⟨24, _⟩ => ⟨S1024x128, .bf16⟩
  | .local _ .vmem, ⟨25, _⟩ => ⟨S1024x128, .bf16⟩
  | .local _ .vmem, ⟨26, _⟩ => ⟨S1x1024x128, .f32⟩
  | .local _ .vmem, ⟨27, _⟩ => ⟨S1x1024x128, .f32⟩
  | .local _ .vmem, ⟨28, _⟩ => ⟨S4096x128, .bf16⟩
  | .local _ .vmem, ⟨29, _⟩ => ⟨S4096x128, .bf16⟩
  | .local _ .vmem, ⟨30, _⟩ => ⟨S1024x128, .bf16⟩
  | .local _ .vmem, ⟨31, _⟩ => ⟨S1024x128, .bf16⟩
  | .local _ .vmem, ⟨32, _⟩ => ⟨S1024x128, .bf16⟩
  | .local _ .vmem, ⟨33, _⟩ => ⟨S1024x128, .bf16⟩
  | .local _ .vmem, ⟨34, _⟩ => ⟨S4096x128, .bf16⟩
  | .local _ .vmem, ⟨35, _⟩ => ⟨S4096x128, .bf16⟩
  | .local _ .vmem, ⟨36, _⟩ => ⟨S1x4096x128, .f32⟩
  | .local _ .vmem, ⟨37, _⟩ => ⟨S1x4096x128, .f32⟩
  | .local _ .vmem, ⟨38, _⟩ => ⟨S1x4096x128, .f32⟩
  | .local _ .vmem, ⟨39, _⟩ => ⟨S1x4096x128, .f32⟩
  | .local _ .vmem, ⟨40, _⟩ => ⟨S1x8x1024, .f32⟩
  | .local _ .vmem, ⟨41, _⟩ => ⟨S1x8x1024, .f32⟩
  | .local _ .vmem, ⟨42, _⟩ => ⟨S1024x128, .bf16⟩
  | .local _ .vmem, ⟨43, _⟩ => ⟨S1024x128, .bf16⟩
  | .local _ .vmem, ⟨44, _⟩ => ⟨S1024x128, .bf16⟩
  | .local _ .vmem, ⟨45, _⟩ => ⟨S1024x128, .bf16⟩
  | .local _ .vmem, ⟨46, _⟩ => ⟨S1x1x8x1024, .f32⟩
  | .local _ .vmem, ⟨47, _⟩ => ⟨S1x1x8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10_0 : Ref sig .tc := ⟨.hbm, 19, rfl⟩
abbrev main_v10_1 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc2_sem7_0 : DmaSem sig := 42
abbrev cc2_sem7_1 : DmaSem sig := 43
abbrev cc2_sem8_0 : DmaSem sig := 44
abbrev cc2_sem8_1 : DmaSem sig := 45
abbrev cc2_sem9_0 : DmaSem sig := 46
abbrev cc2_sem9_1 : DmaSem sig := 47

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_8 : BitVec 32 := 1#32
  ⟨c0_i32_6, v19, c1_i32_8⟩
def k0_mult1 (i : grid0.Coords) (k0_t1 : Fin (k0_t1_loop i).trips) : BitVec 32 :=
  let c0_i32_6 : BitVec 32 := 0#32
  let c1_i32_8 : BitVec 32 := 1#32
  let arg8 : BitVec 32 := Scf.iv c0_i32_6 c1_i32_8 k0_t1
  let c1024_i32_23 : BitVec 32 := 1024#32
  let v70 : BitVec 32 := Scalar.muli arg8 c1024_i32_23
  v70
def k0_off1 (i : grid0.Coords) (k0_t1 : Fin (k0_t1_loop i).trips) : Fin 2 → Nat :=
  let c0_i32_6 : BitVec 32 := 0#32
  let c1_i32_8 : BitVec 32 := 1#32
  let arg8 : BitVec 32 := Scf.iv c0_i32_6 c1_i32_8 k0_t1
  let c1024_i32_23 : BitVec 32 := 1024#32
  let v70 : BitVec 32 := Scalar.muli arg8 c1024_i32_23
  let v71 : BitVec 32 := v70
  let v72 : Index := Scalar.indexCast v71
  let c0_24 : Index := 0#32
  ![v72.toNat, 0]
def k0_off2 (i : grid0.Coords) (k0_t1 : Fin (k0_t1_loop i).trips) : Fin 3 → Nat :=
  let c0_i32_6 : BitVec 32 := 0#32
  let c1_i32_8 : BitVec 32 := 1#32
  let arg8 : BitVec 32 := Scf.iv c0_i32_6 c1_i32_8 k0_t1
  let v79 : Index := Scalar.indexCast arg8
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v80 : Index := Scalar.indexCast v11
  let c0_27 : Index := 0#32
  ![v79.toNat, v80.toNat, 0]
@[reducible] def k0_t2_loop (i : grid0.Coords) : Scf.Loop 32 :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let v16 : BitVec 32 := Scalar.addi c0_i32_6 v15
  let c1_i32_9 : BitVec 32 := 1#32
  ⟨v19, v16, c1_i32_9⟩
def k0_mult2 (i : grid0.Coords) (k0_t2 : Fin (k0_t2_loop i).trips) : BitVec 32 :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_9 : BitVec 32 := 1#32
  let arg8 : BitVec 32 := Scf.iv v19 c1_i32_9 k0_t2
  let c1024_i32_23 : BitVec 32 := 1024#32
  let v70 : BitVec 32 := Scalar.muli arg8 c1024_i32_23
  v70
def k0_off3 (i : grid0.Coords) (k0_t2 : Fin (k0_t2_loop i).trips) : Fin 2 → Nat :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_9 : BitVec 32 := 1#32
  let arg8 : BitVec 32 := Scf.iv v19 c1_i32_9 k0_t2
  let c1024_i32_23 : BitVec 32 := 1024#32
  let v70 : BitVec 32 := Scalar.muli arg8 c1024_i32_23
  let v71 : BitVec 32 := v70
  let v72 : Index := Scalar.indexCast v71
  let c0_24 : Index := 0#32
  ![v72.toNat, 0]
def k0_off4 (i : grid0.Coords) (k0_t2 : Fin (k0_t2_loop i).trips) : Fin 3 → Nat :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_9 : BitVec 32 := 1#32
  let arg8 : BitVec 32 := Scf.iv v19 c1_i32_9 k0_t2
  let v79 : Index := Scalar.indexCast arg8
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v80 : Index := Scalar.indexCast v11
  let c0_27 : Index := 0#32
  ![v79.toNat, v80.toNat, 0]
def k0_mult3 (i : grid0.Coords) : BitVec 32 :=
  let arg1 : BitVec 32 := BitVec.ofNat 32 (i 1).val
  let c1024_i32 : BitVec 32 := 1024#32
  let v22 : BitVec 32 := Scalar.muli arg1 c1024_i32
  v22
def k0_off5 (i : grid0.Coords) : Fin 2 → Nat :=
  let arg1 : BitVec 32 := BitVec.ofNat 32 (i 1).val
  let c1024_i32 : BitVec 32 := 1024#32
  let v22 : BitVec 32 := Scalar.muli arg1 c1024_i32
  let v23 : BitVec 32 := v22
  let v24 : Index := Scalar.indexCast v23
  let c0_10 : Index := 0#32
  ![v24.toNat, 0]
def k0_off6 (i : grid0.Coords) : Fin 3 → Nat :=
  let arg1 : BitVec 32 := BitVec.ofNat 32 (i 1).val
  let v31 : Index := Scalar.indexCast arg1
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v32 : Index := Scalar.indexCast v11
  let c0_13 : Index := 0#32
  ![v31.toNat, v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![16, 4], ![false, false]⟩

@[reducible] def k1_t1_loop (i : grid1.Coords) : Scf.Loop 32 :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_11 : BitVec 32 := 1#32
  ⟨c0_i32_9, v21, c1_i32_11⟩
def k1_mult1 (i : grid1.Coords) (k1_t1 : Fin (k1_t1_loop i).trips) : BitVec 32 :=
  let c0_i32_9 : BitVec 32 := 0#32
  let c1_i32_11 : BitVec 32 := 1#32
  let arg10 : BitVec 32 := Scf.iv c0_i32_9 c1_i32_11 k1_t1
  let c1024_i32_40 : BitVec 32 := 1024#32
  let v103 : BitVec 32 := Scalar.muli arg10 c1024_i32_40
  v103
def k1_off1 (i : grid1.Coords) (k1_t1 : Fin (k1_t1_loop i).trips) : Fin 2 → Nat :=
  let c0_i32_9 : BitVec 32 := 0#32
  let c1_i32_11 : BitVec 32 := 1#32
  let arg10 : BitVec 32 := Scf.iv c0_i32_9 c1_i32_11 k1_t1
  let c1024_i32_40 : BitVec 32 := 1024#32
  let v103 : BitVec 32 := Scalar.muli arg10 c1024_i32_40
  let v104 : BitVec 32 := v103
  let v105 : Index := Scalar.indexCast v104
  let c0_41 : Index := 0#32
  ![v105.toNat, 0]
def k1_off2 (i : grid1.Coords) (k1_t1 : Fin (k1_t1_loop i).trips) : Fin 3 → Nat :=
  let c0_i32_9 : BitVec 32 := 0#32
  let c1_i32_11 : BitVec 32 := 1#32
  let arg10 : BitVec 32 := Scf.iv c0_i32_9 c1_i32_11 k1_t1
  let v112 : Index := Scalar.indexCast arg10
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v113 : Index := Scalar.indexCast v15
  let c0_44 : Index := 0#32
  ![v112.toNat, v113.toNat, 0]
@[reducible] def k1_t2_loop (i : grid1.Coords) : Scf.Loop 32 :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let v18 : BitVec 32 := Scalar.addi c0_i32_9 v17
  let c1_i32_12 : BitVec 32 := 1#32
  ⟨v21, v18, c1_i32_12⟩
def k1_mult2 (i : grid1.Coords) (k1_t2 : Fin (k1_t2_loop i).trips) : BitVec 32 :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_12 : BitVec 32 := 1#32
  let arg10 : BitVec 32 := Scf.iv v21 c1_i32_12 k1_t2
  let c1024_i32_40 : BitVec 32 := 1024#32
  let v103 : BitVec 32 := Scalar.muli arg10 c1024_i32_40
  v103
def k1_off3 (i : grid1.Coords) (k1_t2 : Fin (k1_t2_loop i).trips) : Fin 2 → Nat :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_12 : BitVec 32 := 1#32
  let arg10 : BitVec 32 := Scf.iv v21 c1_i32_12 k1_t2
  let c1024_i32_40 : BitVec 32 := 1024#32
  let v103 : BitVec 32 := Scalar.muli arg10 c1024_i32_40
  let v104 : BitVec 32 := v103
  let v105 : Index := Scalar.indexCast v104
  let c0_41 : Index := 0#32
  ![v105.toNat, 0]
def k1_off4 (i : grid1.Coords) (k1_t2 : Fin (k1_t2_loop i).trips) : Fin 3 → Nat :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_12 : BitVec 32 := 1#32
  let arg10 : BitVec 32 := Scf.iv v21 c1_i32_12 k1_t2
  let v112 : Index := Scalar.indexCast arg10
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v113 : Index := Scalar.indexCast v15
  let c0_44 : Index := 0#32
  ![v112.toNat, v113.toNat, 0]
def k1_mult3 (i : grid1.Coords) : BitVec 32 :=
  let arg1 : BitVec 32 := BitVec.ofNat 32 (i 1).val
  let c1024_i32 : BitVec 32 := 1024#32
  let v24 : BitVec 32 := Scalar.muli arg1 c1024_i32
  v24
def k1_off5 (i : grid1.Coords) : Fin 2 → Nat :=
  let arg1 : BitVec 32 := BitVec.ofNat 32 (i 1).val
  let c1024_i32 : BitVec 32 := 1024#32
  let v24 : BitVec 32 := Scalar.muli arg1 c1024_i32
  let v25 : BitVec 32 := v24
  let v26 : Index := Scalar.indexCast v25
  let c0_13 : Index := 0#32
  ![v26.toNat, 0]
def k1_off6 (i : grid1.Coords) : Fin 3 → Nat :=
  let arg1 : BitVec 32 := BitVec.ofNat 32 (i 1).val
  let v33 : Index := Scalar.indexCast arg1
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v34 : Index := Scalar.indexCast v15
  let c0_16 : Index := 0#32
  ![v33.toNat, v34.toNat, 0]
@[reducible] def k1_t3_loop (i : grid1.Coords) : Scf.Loop 32 :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_24 : BitVec 32 := 1#32
  ⟨c0_i32_22, v61, c1_i32_24⟩
def k1_mult4 (i : grid1.Coords) (k1_t3 : Fin (k1_t3_loop i).trips) : BitVec 32 :=
  let c0_i32_22 : BitVec 32 := 0#32
  let c1_i32_24 : BitVec 32 := 1#32
  let arg10 : BitVec 32 := Scf.iv c0_i32_22 c1_i32_24 k1_t3
  let c1024_i32_40 : BitVec 32 := 1024#32
  let v103 : BitVec 32 := Scalar.muli arg10 c1024_i32_40
  v103
def k1_off7 (i : grid1.Coords) (k1_t3 : Fin (k1_t3_loop i).trips) : Fin 2 → Nat :=
  let c0_i32_22 : BitVec 32 := 0#32
  let c1_i32_24 : BitVec 32 := 1#32
  let arg10 : BitVec 32 := Scf.iv c0_i32_22 c1_i32_24 k1_t3
  let c1024_i32_40 : BitVec 32 := 1024#32
  let v103 : BitVec 32 := Scalar.muli arg10 c1024_i32_40
  let v104 : BitVec 32 := v103
  let v105 : Index := Scalar.indexCast v104
  let c0_41 : Index := 0#32
  ![v105.toNat, 0]
def k1_off8 (i : grid1.Coords) (k1_t3 : Fin (k1_t3_loop i).trips) : Fin 3 → Nat :=
  let c0_i32_22 : BitVec 32 := 0#32
  let c1_i32_24 : BitVec 32 := 1#32
  let arg10 : BitVec 32 := Scf.iv c0_i32_22 c1_i32_24 k1_t3
  let v112 : Index := Scalar.indexCast arg10
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v113 : Index := Scalar.indexCast v15
  let c0_44 : Index := 0#32
  ![v112.toNat, v113.toNat, 0]
@[reducible] def k1_t4_loop (i : grid1.Coords) : Scf.Loop 32 :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let v58 : BitVec 32 := Scalar.addi c0_i32_22 v57
  let c1_i32_25 : BitVec 32 := 1#32
  ⟨v61, v58, c1_i32_25⟩
def k1_mult5 (i : grid1.Coords) (k1_t4 : Fin (k1_t4_loop i).trips) : BitVec 32 :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k1_t4
  let c1024_i32_40 : BitVec 32 := 1024#32
  let v103 : BitVec 32 := Scalar.muli arg10 c1024_i32_40
  v103
def k1_off9 (i : grid1.Coords) (k1_t4 : Fin (k1_t4_loop i).trips) : Fin 2 → Nat :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k1_t4
  let c1024_i32_40 : BitVec 32 := 1024#32
  let v103 : BitVec 32 := Scalar.muli arg10 c1024_i32_40
  let v104 : BitVec 32 := v103
  let v105 : Index := Scalar.indexCast v104
  let c0_41 : Index := 0#32
  ![v105.toNat, 0]
def k1_off10 (i : grid1.Coords) (k1_t4 : Fin (k1_t4_loop i).trips) : Fin 3 → Nat :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k1_t4
  let v112 : Index := Scalar.indexCast arg10
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v113 : Index := Scalar.indexCast v15
  let c0_44 : Index := 0#32
  ![v112.toNat, v113.toNat, 0]
def k1_mult6 (i : grid1.Coords) : BitVec 32 :=
  let arg1 : BitVec 32 := BitVec.ofNat 32 (i 1).val
  let c1024_i32_26 : BitVec 32 := 1024#32
  let v64 : BitVec 32 := Scalar.muli arg1 c1024_i32_26
  v64
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 4], ![false, false]⟩

def k2_off1 (i : grid2.Coords) : Fin 3 → Nat :=
  let c0_6 : Index := 0#32
  let arg0 : BitVec 32 := BitVec.ofNat 32 (i 0).val
  let c8_i32 : BitVec 32 := 8#32
  let c0_i32 : BitVec 32 := 0#32
  let v4 : BitVec 1 := Scalar.cmpi .eq c8_i32 c0_i32
  let c1_i32 : BitVec 32 := 1#32
  let v5 : BitVec 32 := Scalar.select v4 c1_i32 c8_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v14 : Index := Scalar.indexCast v13
  let c0_7 : Index := 0#32
  ![0, v14.toNat, 0]
def k2_mult1 (i : grid2.Coords) : BitVec 32 :=
  let arg1 : BitVec 32 := BitVec.ofNat 32 (i 1).val
  let c1024_i32 : BitVec 32 := 1024#32
  let v20 : BitVec 32 := Scalar.muli arg1 c1024_i32
  v20
def k2_off2 (i : grid2.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  let c0_10 : Index := 0#32
  ![v22.toNat, 0]
def k2_off3 (i : grid2.Coords) : Fin 3 → Nat :=
  let c0_12 : Index := 0#32
  let arg1 : BitVec 32 := BitVec.ofNat 32 (i 1).val
  let c1024_i32 : BitVec 32 := 1024#32
  let v20 : BitVec 32 := Scalar.muli arg1 c1024_i32
  let v21 : BitVec 32 := v20
  let v28 : Index := Scalar.indexCast v21
  let c0_13 : Index := 0#32
  ![0, v28.toNat, 0]
@[reducible] def k2_t1_loop (i : grid2.Coords) : Scf.Loop 32 :=
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let c1_i32_24 : BitVec 32 := 1#32
  ⟨v58, v63, c1_i32_24⟩
def k2_mult2 (i : grid2.Coords) (k2_t1 : Fin (k2_t1_loop i).trips) : BitVec 32 :=
  let arg1 : BitVec 32 := BitVec.ofNat 32 (i 1).val
  let c1_i32_22 : BitVec 32 := 1#32
  let v58 : BitVec 32 := Scalar.addi arg1 c1_i32_22
  let c1_i32_24 : BitVec 32 := 1#32
  let arg12 : BitVec 32 := Scf.iv v58 c1_i32_24 k2_t1
  let c1024_i32_34 : BitVec 32 := 1024#32
  let v75 : BitVec 32 := Scalar.muli arg12 c1024_i32_34
  v75
def k2_off4 (i : grid2.Coords) (k2_t1 : Fin (k2_t1_loop i).trips) : Fin 2 → Nat :=
  let arg1 : BitVec 32 := BitVec.ofNat 32 (i 1).val
  let c1_i32_22 : BitVec 32 := 1#32
  let v58 : BitVec 32 := Scalar.addi arg1 c1_i32_22
  let c1_i32_24 : BitVec 32 := 1#32
  let arg12 : BitVec 32 := Scf.iv v58 c1_i32_24 k2_t1
  let c1024_i32_34 : BitVec 32 := 1024#32
  let v75 : BitVec 32 := Scalar.muli arg12 c1024_i32_34
  let v76 : BitVec 32 := v75
  let v77 : Index := Scalar.indexCast v76
  let c0_35 : Index := 0#32
  ![v77.toNat, 0]
def k2_off5 (i : grid2.Coords) (k2_t1 : Fin (k2_t1_loop i).trips) : Fin 3 → Nat :=
  let c0_37 : Index := 0#32
  let arg1 : BitVec 32 := BitVec.ofNat 32 (i 1).val
  let c1_i32_22 : BitVec 32 := 1#32
  let v58 : BitVec 32 := Scalar.addi arg1 c1_i32_22
  let c1_i32_24 : BitVec 32 := 1#32
  let arg12 : BitVec 32 := Scf.iv v58 c1_i32_24 k2_t1
  let c1024_i32_34 : BitVec 32 := 1024#32
  let v75 : BitVec 32 := Scalar.muli arg12 c1024_i32_34
  let v76 : BitVec 32 := v75
  let v83 : Index := Scalar.indexCast v76
  let c0_38 : Index := 0#32
  ![0, v83.toNat, 0]
@[reducible] def k2_t2_loop (i : grid2.Coords) : Scf.Loop 32 :=
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let v60 : BitVec 32 := Scalar.addi v58 v59
  let c1_i32_25 : BitVec 32 := 1#32
  ⟨v63, v60, c1_i32_25⟩
def k2_mult3 (i : grid2.Coords) (k2_t2 : Fin (k2_t2_loop i).trips) : BitVec 32 :=
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let c1_i32_25 : BitVec 32 := 1#32
  let arg12 : BitVec 32 := Scf.iv v63 c1_i32_25 k2_t2
  let c1024_i32_34 : BitVec 32 := 1024#32
  let v75 : BitVec 32 := Scalar.muli arg12 c1024_i32_34
  v75
def k2_off6 (i : grid2.Coords) (k2_t2 : Fin (k2_t2_loop i).trips) : Fin 2 → Nat :=
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let c1_i32_25 : BitVec 32 := 1#32
  let arg12 : BitVec 32 := Scf.iv v63 c1_i32_25 k2_t2
  let c1024_i32_34 : BitVec 32 := 1024#32
  let v75 : BitVec 32 := Scalar.muli arg12 c1024_i32_34
  let v76 : BitVec 32 := v75
  let v77 : Index := Scalar.indexCast v76
  let c0_35 : Index := 0#32
  ![v77.toNat, 0]
def k2_off7 (i : grid2.Coords) (k2_t2 : Fin (k2_t2_loop i).trips) : Fin 3 → Nat :=
  let c0_37 : Index := 0#32
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let c1_i32_25 : BitVec 32 := 1#32
  let arg12 : BitVec 32 := Scf.iv v63 c1_i32_25 k2_t2
  let c1024_i32_34 : BitVec 32 := 1024#32
  let v75 : BitVec 32 := Scalar.muli arg12 c1024_i32_34
  let v76 : BitVec 32 := v75
  let v83 : Index := Scalar.indexCast v76
  let c0_38 : Index := 0#32
  ![0, v83.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg1.toNat, v16.toNat, c0_i32_4.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_9 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1024x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x1x8x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4x1x1024 : Shape := ⟨4, ![16, 4, 1, 1024]⟩
abbrev S16x4x8x1024 : Shape := ⟨4, ![16, 4, 8, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x4096, .f32⟩
  | .hbm, ⟨4, _⟩ => ⟨S4096x2048, .f32⟩
  | .hbm, ⟨5, _⟩ => ⟨S4096x16x128, .f32⟩
  | .hbm, ⟨6, _⟩ => ⟨S16x4096x128, .f32⟩
  | .hbm, ⟨7, _⟩ => ⟨S4096x16x128, .f32⟩
  | .hbm, ⟨8, _⟩ => ⟨S16x4096x128, .f32⟩
  | .hbm, ⟨9, _⟩ => ⟨S4096x16x128, .f32⟩
  | .hbm, ⟨10, _⟩ => ⟨S16x4096x128, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096x1, .f32⟩
  | .hbm, ⟨16, _⟩ => ⟨S16x1x4096, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .i1⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S16x4096, .i1⟩
  | .hbm, ⟨48, _⟩ => ⟨S_, .f32⟩
  | .hbm, ⟨49, _⟩ => ⟨S16x4096, .f32⟩
  | .hbm, ⟨50, _⟩ => ⟨S16x4096, .i1⟩
  | .hbm, ⟨51, _⟩ => ⟨S_, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S_, .f32⟩
  | .hbm, ⟨56, _⟩ => ⟨S16x4096, .f32⟩
  | .hbm, ⟨57, _⟩ => ⟨S16x4096, .f32⟩
  | .hbm, ⟨58, _⟩ => ⟨S16x4096, .f32⟩
  | .hbm, ⟨59, _⟩ => ⟨S16x4096x1, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S16x4096x4096, .f32⟩
  | .hbm, ⟨67, _⟩ => ⟨S16x4096x4096, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x4096x128, .f32⟩
  | .hbm, ⟨73, _⟩ => ⟨S4096x16x128, .f32⟩
  | .hbm, ⟨74, _⟩ => ⟨S4096x2048, .f32⟩
  | .hbm, ⟨75, _⟩ => ⟨S4096x16x128, .f32⟩
  | .hbm, ⟨76, _⟩ => ⟨S16x4096x128, .f32⟩
  | .hbm, ⟨77, _⟩ => ⟨S16x128x4096, .f32⟩
  | .hbm, ⟨78, _⟩ => ⟨S16x4096x128, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S16x4096x4096, .f32⟩
  | .hbm, ⟨83, _⟩ => ⟨S_, .f32⟩
  | .hbm, ⟨84, _⟩ => ⟨S16x4096, .f32⟩
  | .hbm, ⟨85, _⟩ => ⟨S16x4096x1, .f32⟩
  | .hbm, ⟨86, _⟩ => ⟨S16x4096x1, .f32⟩
  | .hbm, ⟨87, _⟩ => ⟨S16x4096x4096, .f32⟩
  | .hbm, ⟨88, _⟩ => ⟨S16x4096x4096, .f32⟩
  | .hbm, ⟨89, _⟩ => ⟨S_, .f32⟩
  | .hbm, ⟨90, _⟩ => ⟨S16x4096, .f32⟩
  | .hbm, ⟨91, _⟩ => ⟨S16x4096x4096, .f32⟩
  | .hbm, ⟨92, _⟩ => ⟨S16x4096x4096, .f32⟩
  | .hbm, ⟨93, _⟩ => ⟨S16x4096x4096, .f32⟩
  | .hbm, ⟨94, _⟩ => ⟨S_, .f32⟩
  | .hbm, ⟨95, _⟩ => ⟨S16x4096x4096, .f32⟩
  | .hbm, ⟨96, _⟩ => ⟨S16x4096x4096, .f32⟩
  | .hbm, ⟨97, _⟩ => ⟨S_, .f32⟩
  | .hbm, ⟨98, _⟩ => ⟨S16x4096, .f32⟩
  | .hbm, ⟨99, _⟩ => ⟨S16x4096x1, .f32⟩
  | .hbm, ⟨100, _⟩ => ⟨S16x4096x4096, .f32⟩
  | .hbm, ⟨101, _⟩ => ⟨S_, .f32⟩
  | .hbm, ⟨102, _⟩ => ⟨S16x4096, .f32⟩
  | .hbm, ⟨103, _⟩ => ⟨S16x1x4096, .f32⟩
  | .hbm, ⟨104, _⟩ => ⟨S_, .f32⟩
  | .hbm, ⟨105, _⟩ => ⟨S16x4096, .f32⟩
  | .hbm, ⟨106, _⟩ => ⟨S_, .f32⟩
  | .hbm, ⟨107, _⟩ => ⟨S16x4096, .f32⟩
  | .hbm, ⟨108, _⟩ => ⟨S16x4096, .f32⟩
  | .hbm, ⟨109, _⟩ => ⟨S_, .f32⟩
  | .hbm, ⟨110, _⟩ => ⟨S16x4096x4096, .f32⟩
  | .hbm, ⟨111, _⟩ => ⟨S16x4096x4096, .f32⟩
  | .hbm, ⟨112, _⟩ => ⟨S16x4096x128, .f32⟩
  | .hbm, ⟨113, _⟩ => ⟨S16x4096x128, .f32⟩
  | .hbm, ⟨114, _⟩ => ⟨S4096x16x128, .f32⟩
  | .hbm, ⟨115, _⟩ => ⟨S4096x2048, .f32⟩
  | .hbm, ⟨116, _⟩ => ⟨S4096x16x128, .f32⟩
  | .hbm, ⟨117, _⟩ => ⟨S4096x2048, .f32⟩
  | .hbm, ⟨118, _⟩ => ⟨S4096x16x128, .f32⟩
  | .hbm, ⟨119, _⟩ => ⟨S4096x2048, .f32⟩
  | .hbm, ⟨120, _⟩ => ⟨S16x4x1x1024, .f32⟩
  | .hbm, ⟨121, _⟩ => ⟨S16x4x8x1024, .f32⟩
  | .hbm, ⟨122, _⟩ => ⟨S4096x2048, .bf16⟩
  | .hbm, ⟨123, _⟩ => ⟨S4096x2048, .bf16⟩
  | .hbm, ⟨124, _⟩ => ⟨S4096x2048, .bf16⟩
  | .hbm, ⟨125, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== W1Grad.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== W1GradIdeal.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefW1GradIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x4x2048, .f32⟩
  | .hbm, ⟨8, _⟩ => ⟨S4x2048x2048, .f32⟩
  | .hbm, ⟨9, _⟩ => ⟨S4x2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpBwd.lean ====
abbrev S2048x8192 : Shape := ⟨2, ![2048, 8192]⟩
abbrev S4096x8192 : Shape := ⟨2, ![4096, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S4096x8192, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBwdIdeal.lean ====
abbrev S2048x8192 : Shape := ⟨2, ![2048, 8192]⟩
abbrev S4096x8192 : Shape := ⟨2, ![4096, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S4096x8192, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpBwdIdeal.lean ====
abbrev S2048x8192 : Shape := ⟨2, ![2048, 8192]⟩
abbrev S4096x8192 : Shape := ⟨2, ![4096, 8192]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | .hbm, ⟨6, _⟩ => ⟨S4096x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== W2Grad.lean ====
abbrev S4096x8192 : Shape := ⟨2, ![4096, 8192]⟩
abbrev S1x2048 : Shape := ⟨2, ![1, 2048]⟩
abbrev S4096x2048 : Shape := ⟨2, ![4096, 2048]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .f32⟩
  | .hbm, ⟨9, _⟩ => ⟨S4096x2048, .f32⟩
  | .hbm, ⟨10, _⟩ => ⟨S4096x2048, .bf16⟩
  | .hbm, ⟨11, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefW2GradIdeal.lean ====
abbrev S4096x8192 : Shape := ⟨2, ![4096, 8192]⟩
abbrev S1x2048 : Shape := ⟨2, ![1, 2048]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 17
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S2048x8192, .f32⟩
  | .hbm, ⟨15, _⟩ => ⟨S8192x2048, .f32⟩
  | .hbm, ⟨16, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== DownBwd.lean ====
abbrev S4096x8192 : Shape := ⟨2, ![4096, 8192]⟩
abbrev S8192x2048 : Shape := ⟨2, ![8192, 2048]⟩
abbrev S1x2048 : Shape := ⟨2, ![1, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S8192x2048, .bf16⟩
  | .hbm, ⟨8, _⟩ => ⟨S4096x8192, .bf16⟩
  | .hbm, ⟨9, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDownBwdIdeal.lean ====
abbrev S4096x8192 : Shape := ⟨2, ![4096, 8192]⟩
abbrev S8192x2048 : Shape := ⟨2, ![8192, 2048]⟩
abbrev S1x2048 : Shape := ⟨2, ![1, 2048]⟩
abbrev S4096x2048 : Shape := ⟨2, ![4096, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== WinGrad.lean ====
abbrev S4096x2048 : Shape := ⟨2, ![4096, 2048]⟩
abbrev S4096x12288 : Shape := ⟨2, ![4096, 12288]⟩
abbrev S4x2048x3072 : Shape := ⟨3, ![4, 2048, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x12288, .f32⟩
  | .hbm, ⟨2, _⟩ => ⟨S4096x2048, .bf16⟩
  | .hbm, ⟨3, _⟩ => ⟨S4096x12288, .bf16⟩
  | .hbm, ⟨4, _⟩ => ⟨S4x2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinGradIdeal.lean ====
abbrev S4096x2048 : Shape := ⟨2, ![4096, 2048]⟩
abbrev S4096x12288 : Shape := ⟨2, ![4096, 12288]⟩
abbrev S4x2048x3072 : Shape := ⟨3, ![4, 2048, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x12288, .f32⟩
  | .hbm, ⟨2, _⟩ => ⟨S4096x2048, .bf16⟩
  | .hbm, ⟨3, _⟩ => ⟨S4096x12288, .bf16⟩
  | .hbm, ⟨4, _⟩ => ⟨S4x2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWinGradIdeal.lean ====
abbrev S4096x2048 : Shape := ⟨2, ![4096, 2048]⟩
abbrev S4096x12288 : Shape := ⟨2, ![4096, 12288]⟩
abbrev S_ : Shape := ⟨0, ![]⟩
abbrev S2048x12288 : Shape := ⟨2, ![2048, 12288]⟩
abbrev S12288x2048 : Shape := ⟨2, ![12288, 2048]⟩
abbrev S2048x4x3072 : Shape := ⟨3, ![2048, 4, 3072]⟩
abbrev S4x2048x3072 : Shape := ⟨3, ![4, 2048, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x12288, .f32⟩
  | .hbm, ⟨2, _⟩ => ⟨S_, .f32⟩
  | .hbm, ⟨3, _⟩ => ⟨S2048x12288, .f32⟩
  | .hbm, ⟨4, _⟩ => ⟨S4096x12288, .f32⟩
  | .hbm, ⟨5, _⟩ => ⟨S12288x2048, .f32⟩
  | .hbm, ⟨6, _⟩ => ⟨S2048x12288, .f32⟩
  | .hbm, ⟨7, _⟩ => ⟨S2048x4x3072, .f32⟩
  | .hbm, ⟨8, _⟩ => ⟨S4x2048x3072, .f32⟩
  | .hbm, ⟨9, _⟩ => ⟨S4x2048x3072, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InBwd.lean ====
abbrev S2048x12288 : Shape := ⟨2, ![2048, 12288]⟩
abbrev S4096x12288 : Shape := ⟨2, ![4096, 12288]⟩
abbrev S2048x4x3072 : Shape := ⟨3, ![2048, 4, 3072]⟩
abbrev S4x2048x3072 : Shape := ⟨3, ![4, 2048, 3072]⟩
abbrev S4096x2048 : Shape := ⟨2, ![4096, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x12288, .f32⟩
  | .hbm, ⟨1, _⟩ => ⟨S4096x12288, .f32⟩
  | .hbm, ⟨2, _⟩ => ⟨S4096x12288, .bf16⟩
  | .hbm, ⟨3, _⟩ => ⟨S2048x12288, .bf16⟩
  | .hbm, ⟨4, _⟩ => ⟨S2048x4x3072, .bf16⟩
  | .hbm, ⟨5, _⟩ => ⟨S4x2048x3072, .bf16⟩
  | .hbm, ⟨6, _⟩ => ⟨S4096x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInBwdIdeal.lean ====
abbrev S2048x12288 : Shape := ⟨2, ![2048, 12288]⟩
abbrev S4096x12288 : Shape := ⟨2, ![4096, 12288]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S4096x12288, .f32⟩
  | .hbm, ⟨2, _⟩ => ⟨S_, .f32⟩
  | .hbm, ⟨3, _⟩ => ⟨S4096x2048, .f32⟩
  | .hbm, ⟨4, _⟩ => ⟨S4096x12288, .f32⟩
  | .hbm, ⟨5, _⟩ => ⟨S4096x2048, .f32⟩
  | .hbm, ⟨6, _⟩ => ⟨S4096x2048, .bf16⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WoutGrad.lean ====
abbrev S4096x6144 : Shape := ⟨2, ![4096, 6144]⟩
abbrev S1x2048 : Shape := ⟨2, ![1, 2048]⟩
abbrev S4096x2048 : Shape := ⟨2, ![4096, 2048]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S1x2048, .f32⟩
  | .hbm, ⟨2, _⟩ => ⟨S4096x2048, .f32⟩
  | .hbm, ⟨3, _⟩ => ⟨S4096x6144, .bf16⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutGradIdeal.lean ====
abbrev S4096x6144 : Shape := ⟨2, ![4096, 6144]⟩
abbrev S1x2048 : Shape := ⟨2, ![1, 2048]⟩
abbrev S4096x2048 : Shape := ⟨2, ![4096, 2048]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S1x2048, .f32⟩
  | .hbm, ⟨2, _⟩ => ⟨S4096x2048, .f32⟩
  | .hbm, ⟨3, _⟩ => ⟨S4096x6144, .bf16⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWoutGradIdeal.lean ====
abbrev S4096x6144 : Shape := ⟨2, ![4096, 6144]⟩
abbrev S1x2048 : Shape := ⟨2, ![1, 2048]⟩
abbrev S4096x2048 : Shape := ⟨2, ![4096, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 13
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S6144x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x6144, .f32⟩
  | .hbm, ⟨11, _⟩ => ⟨S6144x2048, .f32⟩
  | .hbm, ⟨12, _⟩ => ⟨S6144x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutBwd.lean ====
abbrev S6144x2048 : Shape := ⟨2, ![6144, 2048]⟩
abbrev S1x2048 : Shape := ⟨2, ![1, 2048]⟩
abbrev S4096x2048 : Shape := ⟨2, ![4096, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S6144x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S6144x2048, .bf16⟩
  | .hbm, ⟨7, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdIdeal.lean ====
abbrev S6144x2048 : Shape := ⟨2, ![6144, 2048]⟩
abbrev S1x2048 : Shape := ⟨2, ![1, 2048]⟩
abbrev S4096x2048 : Shape := ⟨2, ![4096, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S6144x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S6144x2048, .bf16⟩
  | .hbm, ⟨7, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutBwdIdeal.lean ====
abbrev S6144x2048 : Shape := ⟨2, ![6144, 2048]⟩
abbrev S1x2048 : Shape := ⟨2, ![1, 2048]⟩
abbrev S4096x2048 : Shape := ⟨2, ![4096, 2048]⟩
abbrev S_ : Shape := ⟨0, ![]⟩
abbrev S4096x6144 : Shape := ⟨2, ![4096, 6144]⟩

abbrev nBuf : Space → Nat
  | .hbm => 12
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096x6144, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x6144, .f32⟩
  | .hbm, ⟨11, _⟩ => ⟨S4096x6144, .bf16⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MlpUp.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMlpUpIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlpDown.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S8192x2048, .bf16⟩
  | .hbm, ⟨10, _⟩ => ⟨S4096x2048, .f32⟩
  | .hbm, ⟨11, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefMlpDownIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== GmlpOut.lean ====
abbrev S4096x6144 : Shape := ⟨2, ![4096, 6144]⟩
abbrev S6144x2048 : Shape := ⟨2, ![6144, 2048]⟩
abbrev S4096x2048 : Shape := ⟨2, ![4096, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x6144, .f32⟩
  | .hbm, ⟨1, _⟩ => ⟨S6144x2048, .f32⟩
  | .hbm, ⟨2, _⟩ => ⟨S4096x2048, .f32⟩
  | .hbm, ⟨3, _⟩ => ⟨S1x2048, .f32⟩
  | .hbm, ⟨4, _⟩ => ⟨S4096x6144, .bf16⟩
  | .hbm, ⟨5, _⟩ => ⟨S6144x2048, .bf16⟩
  | .hbm, ⟨6, _⟩ => ⟨S4096x2048, .f32⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GmlpOutIdeal.lean ====
abbrev S4096x6144 : Shape := ⟨2, ![4096, 6144]⟩
abbrev S6144x2048 : Shape := ⟨2, ![6144, 2048]⟩
abbrev S4096x2048 : Shape := ⟨2, ![4096, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x6144, .f32⟩
  | .hbm, ⟨1, _⟩ => ⟨S6144x2048, .f32⟩
  | .hbm, ⟨2, _⟩ => ⟨S4096x2048, .f32⟩
  | .hbm, ⟨3, _⟩ => ⟨S1x2048, .f32⟩
  | .hbm, ⟨4, _⟩ => ⟨S4096x6144, .bf16⟩
  | .hbm, ⟨5, _⟩ => ⟨S6144x2048, .bf16⟩
  | .hbm, ⟨6, _⟩ => ⟨S4096x2048, .f32⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefGmlpOutIdeal.lean ====
abbrev S4096x6144 : Shape := ⟨2, ![4096, 6144]⟩
abbrev S6144x2048 : Shape := ⟨2, ![6144, 2048]⟩
abbrev S4096x2048 : Shape := ⟨2, ![4096, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S6144x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GmlpIn.lean ====
abbrev S4096x2048 : Shape := ⟨2, ![4096, 2048]⟩
abbrev S2048x12288 : Shape := ⟨2, ![2048, 12288]⟩
abbrev S2048x4x3072 : Shape := ⟨3, ![2048, 4, 3072]⟩
abbrev S4x2048x3072 : Shape := ⟨3, ![4, 2048, 3072]⟩
abbrev S4096x12288 : Shape := ⟨2, ![4096, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x12288, .f32⟩
  | .hbm, ⟨2, _⟩ => ⟨S4096x2048, .bf16⟩
  | .hbm, ⟨3, _⟩ => ⟨S2048x12288, .bf16⟩
  | .hbm, ⟨4, _⟩ => ⟨S2048x4x3072, .bf16⟩
  | .hbm, ⟨5, _⟩ => ⟨S4x2048x3072, .bf16⟩
  | .hbm, ⟨6, _⟩ => ⟨S4096x12288, .bf16⟩
  | .hbm, ⟨7, _⟩ => ⟨S4096x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefGmlpInIdeal.lean ====
abbrev S4096x2048 : Shape := ⟨2, ![4096, 2048]⟩
abbrev S2048x12288 : Shape := ⟨2, ![2048, 12288]⟩
abbrev S4096x12288 : Shape := ⟨2, ![4096, 12288]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x12288, .f32⟩
  | .hbm, ⟨2, _⟩ => ⟨S4096x12288, .f32⟩
  | .hbm, ⟨3, _⟩ => ⟨S4096x12288, .bf16⟩
  | .hbm, ⟨4, _⟩ => ⟨S_, .f32⟩
  | .hbm, ⟨5, _⟩ => ⟨S4096x12288, .f32⟩
  | .hbm, ⟨6, _⟩ => ⟨S4096x12288, .f32⟩
  | .hbm, ⟨7, _⟩ => ⟨S4096x12288, .f32⟩
  | .hbm, ⟨8, _⟩ => ⟨S_, .f32⟩
  | .hbm, ⟨9, _⟩ => ⟨S4096x12288, .f32⟩
  | .hbm, ⟨10, _⟩ => ⟨S4096x12288, .f32⟩
  | .hbm, ⟨11, _⟩ => ⟨S4096x12288, .f32⟩
  | .hbm, ⟨12, _⟩ => ⟨S4096x12288, .f32⟩
  | .hbm, ⟨13, _⟩ => ⟨S4096x12288, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== WoGrad.lean ====
abbrev S4096x2048 : Shape := ⟨2, ![4096, 2048]⟩
abbrev S1x2048 : Shape := ⟨2, ![1, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWoGradIdeal.lean ====
abbrev S4096x2048 : Shape := ⟨2, ![4096, 2048]⟩
abbrev S1x2048 : Shape := ⟨2, ![1, 2048]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OBwd.lean ====
abbrev S2048x2048 : Shape := ⟨2, ![2048, 2048]⟩
abbrev S1x2048 : Shape := ⟨2, ![1, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S2048x2048, .bf16⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOBwdIdeal.lean ====
abbrev S2048x2048 : Shape := ⟨2, ![2048, 2048]⟩
abbrev S1x2048 : Shape := ⟨2, ![1, 2048]⟩
abbrev S4096x2048 : Shape := ⟨2, ![4096, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AttnO.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S2048x2048, .bf16⟩
  | .hbm, ⟨6, _⟩ => ⟨S4096x2048, .f32⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefAttnOIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== WqGrad.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWqGradIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QBwd.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefQBwdIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvGrad.lean ====
abbrev S4096x2048 : Shape := ⟨2, ![4096, 2048]⟩
abbrev S4096x4096 : Shape := ⟨2, ![4096, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S4096x4096, .bf16⟩
  | .hbm, ⟨4, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefKvGradIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S2048x4x1024, .f32⟩
  | .hbm, ⟨8, _⟩ => ⟨S4x2048x1024, .f32⟩
  | .hbm, ⟨9, _⟩ => ⟨S4x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvBwd.lean ====
abbrev S2048x4096 : Shape := ⟨2, ![2048, 4096]⟩
abbrev S4096x4096 : Shape := ⟨2, ![4096, 4096]⟩
abbrev S4096x2048 : Shape := ⟨2, ![4096, 2048]⟩
abbrev S2048x4x1024 : Shape := ⟨3, ![2048, 4, 1024]⟩
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x2048, .f32⟩
  | .hbm, ⟨3, _⟩ => ⟨S4096x4096, .bf16⟩
  | .hbm, ⟨4, _⟩ => ⟨S2048x4096, .bf16⟩
  | .hbm, ⟨5, _⟩ => ⟨S2048x4x1024, .bf16⟩
  | .hbm, ⟨6, _⟩ => ⟨S4x2048x1024, .bf16⟩
  | .hbm, ⟨7, _⟩ => ⟨S4096x2048, .bf16⟩
  | .hbm, ⟨8, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefKvBwdIdeal.lean ====
abbrev S2048x4096 : Shape := ⟨2, ![2048, 4096]⟩
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x4096, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KvV.lean ====
abbrev S4096x2048 : Shape := ⟨2, ![4096, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S2x2048x1024 : Shape := ⟨3, ![2, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S2048x4096, .bf16⟩
  | .hbm, ⟨4, _⟩ => ⟨S2048x4x1024, .bf16⟩
  | .hbm, ⟨5, _⟩ => ⟨S4x2048x1024, .bf16⟩
  | .hbm, ⟨6, _⟩ => ⟨S2x2048x1024, .bf16⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefKvVIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamBig1.lean ====
abbrev S4x2048x2048 : Shape := ⟨3, ![4, 2048, 2048]⟩
abbrev S8192x2048 : Shape := ⟨2, ![8192, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBig1Ideal.lean ====
abbrev S4x2048x2048 : Shape := ⟨3, ![4, 2048, 2048]⟩
abbrev S8192x2048 : Shape := ⟨2, ![8192, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamBig1Ideal.lean ====
abbrev S4x2048x2048 : Shape := ⟨3, ![4, 2048, 2048]⟩
abbrev S8192x2048 : Shape := ⟨2, ![8192, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamBig2.lean ====
abbrev S2x2048x3072 : Shape := ⟨3, ![2, 2048, 3072]⟩
abbrev S4096x3072 : Shape := ⟨2, ![4096, 3072]⟩
abbrev S128x3072 : Shape := ⟨2, ![128, 3072]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBig2Ideal.lean ====
abbrev S2x2048x3072 : Shape := ⟨3, ![2, 2048, 3072]⟩
abbrev S4096x3072 : Shape := ⟨2, ![4096, 3072]⟩
abbrev S128x3072 : Shape := ⟨2, ![128, 3072]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamBig2Ideal.lean ====
abbrev S2x2048x3072 : Shape := ⟨3, ![2, 2048, 3072]⟩
abbrev S4096x3072 : Shape := ⟨2, ![4096, 3072]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamBig3.lean ====
abbrev S2x1536x2048 : Shape := ⟨3, ![2, 1536, 2048]⟩
abbrev S3072x2048 : Shape := ⟨2, ![3072, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x1536x2048, .f32⟩
  | .hbm, ⟨1, _⟩ => ⟨S2x1536x2048, .f32⟩
  | .hbm, ⟨2, _⟩ => ⟨S2x1536x2048, .f32⟩
  | .hbm, ⟨3, _⟩ => ⟨S2x1536x2048, .f32⟩
  | .hbm, ⟨4, _⟩ => ⟨S3072x2048, .f32⟩
  | .hbm, ⟨5, _⟩ => ⟨S3072x2048, .f32⟩
  | .hbm, ⟨6, _⟩ => ⟨S3072x2048, .f32⟩
  | .hbm, ⟨7, _⟩ => ⟨S3072x2048, .f32⟩
  | .hbm, ⟨8, _⟩ => ⟨S3072x2048, .f32⟩
  | .hbm, ⟨9, _⟩ => ⟨S3072x2048, .f32⟩
  | .hbm, ⟨10, _⟩ => ⟨S3072x2048, .f32⟩
  | .hbm, ⟨11, _⟩ => ⟨S3072x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2x1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBig3Ideal.lean ====
abbrev S2x1536x2048 : Shape := ⟨3, ![2, 1536, 2048]⟩
abbrev S3072x2048 : Shape := ⟨2, ![3072, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x1536x2048, .f32⟩
  | .hbm, ⟨1, _⟩ => ⟨S2x1536x2048, .f32⟩
  | .hbm, ⟨2, _⟩ => ⟨S2x1536x2048, .f32⟩
  | .hbm, ⟨3, _⟩ => ⟨S2x1536x2048, .f32⟩
  | .hbm, ⟨4, _⟩ => ⟨S3072x2048, .f32⟩
  | .hbm, ⟨5, _⟩ => ⟨S3072x2048, .f32⟩
  | .hbm, ⟨6, _⟩ => ⟨S3072x2048, .f32⟩
  | .hbm, ⟨7, _⟩ => ⟨S3072x2048, .f32⟩
  | .hbm, ⟨8, _⟩ => ⟨S3072x2048, .f32⟩
  | .hbm, ⟨9, _⟩ => ⟨S3072x2048, .f32⟩
  | .hbm, ⟨10, _⟩ => ⟨S3072x2048, .f32⟩
  | .hbm, ⟨11, _⟩ => ⟨S3072x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2x1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamBig3Ideal.lean ====
abbrev S2x1536x2048 : Shape := ⟨3, ![2, 1536, 2048]⟩
abbrev S3072x2048 : Shape := ⟨2, ![3072, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1536x2048, .f32⟩
  | .hbm, ⟨1, _⟩ => ⟨S2x1536x2048, .f32⟩
  | .hbm, ⟨2, _⟩ => ⟨S2x1536x2048, .f32⟩
  | .hbm, ⟨3, _⟩ => ⟨S2x1536x2048, .f32⟩
  | .hbm, ⟨4, _⟩ => ⟨S3072x2048, .f32⟩
  | .hbm, ⟨5, _⟩ => ⟨S3072x2048, .f32⟩
  | .hbm, ⟨6, _⟩ => ⟨S3072x2048, .f32⟩
  | .hbm, ⟨7, _⟩ => ⟨S3072x2048, .f32⟩
  | .hbm, ⟨8, _⟩ => ⟨S_, .f32⟩
  | .hbm, ⟨9, _⟩ => ⟨S3072x2048, .f32⟩
  | .hbm, ⟨10, _⟩ => ⟨S3072x2048, .f32⟩
  | .hbm, ⟨11, _⟩ => ⟨S_, .f32⟩
  | .hbm, ⟨12, _⟩ => ⟨S3072x2048, .f32⟩
  | .hbm, ⟨13, _⟩ => ⟨S3072x2048, .f32⟩
  | .hbm, ⟨14, _⟩ => ⟨S3072x2048, .f32⟩
  | .hbm, ⟨15, _⟩ => ⟨S_, .f32⟩
  | .hbm, ⟨16, _⟩ => ⟨S3072x2048, .f32⟩
  | .hbm, ⟨17, _⟩ => ⟨S3072x2048, .f32⟩
  | .hbm, ⟨18, _⟩ => ⟨S3072x2048, .f32⟩
  | .hbm, ⟨19, _⟩ => ⟨S_, .f32⟩
  | .hbm, ⟨20, _⟩ => ⟨S3072x2048, .f32⟩
  | .hbm, ⟨21, _⟩ => ⟨S3072x2048, .f32⟩
  | .hbm, ⟨22, _⟩ => ⟨S3072x2048, .f32⟩
  | .hbm, ⟨23, _⟩ => ⟨S_, .f32⟩
  | .hbm, ⟨24, _⟩ => ⟨S3072x2048, .f32⟩
  | .hbm, ⟨25, _⟩ => ⟨S3072x2048, .f32⟩
  | .hbm, ⟨26, _⟩ => ⟨S_, .f32⟩
  | .hbm, ⟨27, _⟩ => ⟨S3072x2048, .f32⟩
  | .hbm, ⟨28, _⟩ => ⟨S3072x2048, .f32⟩
  | .hbm, ⟨29, _⟩ => ⟨S3072x2048, .f32⟩
  | .hbm, ⟨30, _⟩ => ⟨S_, .f32⟩
  | .hbm, ⟨31, _⟩ => ⟨S3072x2048, .f32⟩
  | .hbm, ⟨32, _⟩ => ⟨S3072x2048, .f32⟩
  | .hbm, ⟨33, _⟩ => ⟨S3072x2048, .f32⟩
  | .hbm, ⟨34, _⟩ => ⟨S_, .f32⟩
  | .hbm, ⟨35, _⟩ => ⟨S3072x2048, .f32⟩
  | .hbm, ⟨36, _⟩ => ⟨S3072x2048, .f32⟩
  | .hbm, ⟨37, _⟩ => ⟨S3072x2048, .f32⟩
  | .hbm, ⟨38, _⟩ => ⟨S_, .f32⟩
  | .hbm, ⟨39, _⟩ => ⟨S3072x2048, .f32⟩
  | .hbm, ⟨40, _⟩ => ⟨S3072x2048, .f32⟩
  | _, _ => ⟨S2x1536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamBig4.lean ====
abbrev S2048x1024 : Shape := ⟨2, ![2048, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBig4Ideal.lean ====
abbrev S2048x1024 : Shape := ⟨2, ![2048, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamBig4Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBig5.lean ====
abbrev S2x512x2048 : Shape := ⟨3, ![2, 512, 2048]⟩
abbrev S1024x2048 : Shape := ⟨2, ![1024, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamBig5Ideal.lean ====
abbrev S2x512x2048 : Shape := ⟨3, ![2, 512, 2048]⟩
abbrev S1024x2048 : Shape := ⟨2, ![1024, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamAdaB.lean ====
abbrev S4x12288 : Shape := ⟨2, ![4, 12288]⟩

abbrev nBuf : Space → Nat
  | .hbm => 7
  | .vmem => 7
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S4x12288, .f32⟩
  | .hbm, ⟨5, _⟩ => ⟨S4x12288, .f32⟩
  | .hbm, ⟨6, _⟩ => ⟨S4x12288, .f32⟩
  | .local _ .vmem, ⟨0, _⟩ => ⟨S4x12288, .f32⟩
  | .local _ .vmem, ⟨1, _⟩ => ⟨S4x12288, .f32⟩
  | .local _ .vmem, ⟨2, _⟩ => ⟨S4x12288, .f32⟩
  | .local _ .vmem, ⟨3, _⟩ => ⟨S4x12288, .f32⟩
  | .local _ .vmem, ⟨4, _⟩ => ⟨S4x12288, .f32⟩
  | .local _ .vmem, ⟨5, _⟩ => ⟨S4x12288, .f32⟩
  | .local _ .vmem, ⟨6, _⟩ => ⟨S4x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBIdeal.lean ====
abbrev S4x12288 : Shape := ⟨2, ![4, 12288]⟩

abbrev nBuf : Space → Nat
  | .hbm => 7
  | .vmem => 7
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S4x12288, .f32⟩
  | .hbm, ⟨5, _⟩ => ⟨S4x12288, .f32⟩
  | .hbm, ⟨6, _⟩ => ⟨S4x12288, .f32⟩
  | .local _ .vmem, ⟨0, _⟩ => ⟨S4x12288, .f32⟩
  | .local _ .vmem, ⟨1, _⟩ => ⟨S4x12288, .f32⟩
  | .local _ .vmem, ⟨2, _⟩ => ⟨S4x12288, .f32⟩
  | .local _ .vmem, ⟨3, _⟩ => ⟨S4x12288, .f32⟩
  | .local _ .vmem, ⟨4, _⟩ => ⟨S4x12288, .f32⟩
  | .local _ .vmem, ⟨5, _⟩ => ⟨S4x12288, .f32⟩
  | .local _ .vmem, ⟨6, _⟩ => ⟨S4x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamAdaBIdeal.lean ====
abbrev S4x12288 : Shape := ⟨2, ![4, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S_, .f32⟩
  | .hbm, ⟨5, _⟩ => ⟨S4x12288, .f32⟩
  | .hbm, ⟨6, _⟩ => ⟨S4x12288, .f32⟩
  | .hbm, ⟨7, _⟩ => ⟨S_, .f32⟩
  | .hbm, ⟨8, _⟩ => ⟨S4x12288, .f32⟩
  | .hbm, ⟨9, _⟩ => ⟨S4x12288, .f32⟩
  | .hbm, ⟨10, _⟩ => ⟨S4x12288, .f32⟩
  | .hbm, ⟨11, _⟩ => ⟨S_, .f32⟩
  | .hbm, ⟨12, _⟩ => ⟨S4x12288, .f32⟩
  | .hbm, ⟨13, _⟩ => ⟨S4x12288, .f32⟩
  | .hbm, ⟨14, _⟩ => ⟨S4x12288, .f32⟩
  | .hbm, ⟨15, _⟩ => ⟨S_, .f32⟩
  | .hbm, ⟨16, _⟩ => ⟨S4x12288, .f32⟩
  | .hbm, ⟨17, _⟩ => ⟨S4x12288, .f32⟩
  | .hbm, ⟨18, _⟩ => ⟨S4x12288, .f32⟩
  | .hbm, ⟨19, _⟩ => ⟨S_, .f32⟩
  | .hbm, ⟨20, _⟩ => ⟨S4x12288, .f32⟩
  | .hbm, ⟨21, _⟩ => ⟨S4x12288, .f32⟩
  | .hbm, ⟨22, _⟩ => ⟨S_, .f32⟩
  | .hbm, ⟨23, _⟩ => ⟨S4x12288, .f32⟩
  | .hbm, ⟨24, _⟩ => ⟨S4x12288, .f32⟩
  | .hbm, ⟨25, _⟩ => ⟨S4x12288, .f32⟩
  | .hbm, ⟨26, _⟩ => ⟨S_, .f32⟩
  | .hbm, ⟨27, _⟩ => ⟨S4x12288, .f32⟩
  | .hbm, ⟨28, _⟩ => ⟨S4x12288, .f32⟩
  | .hbm, ⟨29, _⟩ => ⟨S4x12288, .f32⟩
  | .hbm, ⟨30, _⟩ => ⟨S_, .f32⟩
  | .hbm, ⟨31, _⟩ => ⟨S4x12288, .f32⟩
  | .hbm, ⟨32, _⟩ => ⟨S4x12288, .f32⟩
  | .hbm, ⟨33, _⟩ => ⟨S4x12288, .f32⟩
  | .hbm, ⟨34, _⟩ => ⟨S_, .f32⟩
  | .hbm, ⟨35, _⟩ => ⟨S4x12288, .f32⟩
  | .hbm, ⟨36, _⟩ => ⟨S4x12288, .f32⟩
  | _, _ => ⟨S4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNormG.lean ====
abbrev S4x2x512 : Shape := ⟨3, ![4, 2, 512]⟩
abbrev S8x512 : Shape := ⟨2, ![8, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x2x512, .f32⟩
  | .hbm, ⟨1, _⟩ => ⟨S4x2x512, .f32⟩
  | .hbm, ⟨2, _⟩ => ⟨S4x2x512, .f32⟩
  | .hbm, ⟨3, _⟩ => ⟨S4x2x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S8x512, .f32⟩
  | .hbm, ⟨8, _⟩ => ⟨S8x512, .f32⟩
  | .hbm, ⟨9, _⟩ => ⟨S8x512, .f32⟩
  | .hbm, ⟨10, _⟩ => ⟨S8x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S4x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormGIdeal.lean ====
abbrev S4x2x512 : Shape := ⟨3, ![4, 2, 512]⟩
abbrev S8x512 : Shape := ⟨2, ![8, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x2x512, .f32⟩
  | .hbm, ⟨1, _⟩ => ⟨S4x2x512, .f32⟩
  | .hbm, ⟨2, _⟩ => ⟨S4x2x512, .f32⟩
  | .hbm, ⟨3, _⟩ => ⟨S4x2x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S8x512, .f32⟩
  | .hbm, ⟨8, _⟩ => ⟨S8x512, .f32⟩
  | .hbm, ⟨9, _⟩ => ⟨S8x512, .f32⟩
  | .hbm, ⟨10, _⟩ => ⟨S8x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S4x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamNormGIdeal.lean ====
abbrev S4x2x512 : Shape := ⟨3, ![4, 2, 512]⟩
abbrev S8x512 : Shape := ⟨2, ![8, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x2x512, .f32⟩
  | .hbm, ⟨1, _⟩ => ⟨S4x2x512, .f32⟩
  | .hbm, ⟨2, _⟩ => ⟨S4x2x512, .f32⟩
  | .hbm, ⟨3, _⟩ => ⟨S4x2x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S8x512, .f32⟩
  | .hbm, ⟨8, _⟩ => ⟨S_, .f32⟩
  | .hbm, ⟨9, _⟩ => ⟨S8x512, .f32⟩
  | .hbm, ⟨10, _⟩ => ⟨S8x512, .f32⟩
  | .hbm, ⟨11, _⟩ => ⟨S_, .f32⟩
  | .hbm, ⟨12, _⟩ => ⟨S8x512, .f32⟩
  | .hbm, ⟨13, _⟩ => ⟨S8x512, .f32⟩
  | .hbm, ⟨14, _⟩ => ⟨S8x512, .f32⟩
  | .hbm, ⟨15, _⟩ => ⟨S_, .f32⟩
  | .hbm, ⟨16, _⟩ => ⟨S8x512, .f32⟩
  | .hbm, ⟨17, _⟩ => ⟨S8x512, .f32⟩
  | .hbm, ⟨18, _⟩ => ⟨S8x512, .f32⟩
  | .hbm, ⟨19, _⟩ => ⟨S_, .f32⟩
  | .hbm, ⟨20, _⟩ => ⟨S8x512, .f32⟩
  | .hbm, ⟨21, _⟩ => ⟨S8x512, .f32⟩
  | .hbm, ⟨22, _⟩ => ⟨S8x512, .f32⟩
  | .hbm, ⟨23, _⟩ => ⟨S_, .f32⟩
  | .hbm, ⟨24, _⟩ => ⟨S8x512, .f32⟩
  | .hbm, ⟨25, _⟩ => ⟨S8x512, .f32⟩
  | .hbm, ⟨26, _⟩ => ⟨S_, .f32⟩
  | .hbm, ⟨27, _⟩ => ⟨S8x512, .f32⟩
  | .hbm, ⟨28, _⟩ => ⟨S8x512, .f32⟩
  | .hbm, ⟨29, _⟩ => ⟨S8x512, .f32⟩
  | .hbm, ⟨30, _⟩ => ⟨S_, .f32⟩
  | .hbm, ⟨31, _⟩ => ⟨S8x512, .f32⟩
  | .hbm, ⟨32, _⟩ => ⟨S8x512, .f32⟩
  | .hbm, ⟨33, _⟩ => ⟨S8x512, .f32⟩
  | .hbm, ⟨34, _⟩ => ⟨S_, .f32⟩
  | .hbm, ⟨35, _⟩ => ⟨S8x512, .f32⟩
  | .hbm, ⟨36, _⟩ => ⟨S8x512, .f32⟩
  | .hbm, ⟨37, _⟩ => ⟨S8x512, .f32⟩
  | .hbm, ⟨38, _⟩ => ⟨S_, .f32⟩
  | .hbm, ⟨39, _⟩ => ⟨S8x512, .f32⟩
  | .hbm, ⟨40, _⟩ => ⟨S8x512, .f32⟩
  | _, _ => ⟨S4x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamLnG.lean ====
abbrev S2x1536 : Shape := ⟨2, ![2, 1536]⟩

abbrev nBuf : Space → Nat
  | .hbm => 7
  | .vmem => 7
  | .smem => 0
  | _ => 0

abbrev bufTy : (tb : Table) → Fin (tcTables nBuf tb) → BufTy
  | .hbm, ⟨0, _⟩ => ⟨S2x1536, .f32⟩
  | .hbm, ⟨1, _⟩ => ⟨S2x1536, .f32⟩
  | .hbm, ⟨2, _⟩ => ⟨S2x1536, .f32⟩
  | .hbm, ⟨3, _⟩ => ⟨S2x1536, .f32⟩
  | .hbm, ⟨4, _⟩ => ⟨S2x1536, .f32⟩
  | .hbm, ⟨5, _⟩ => ⟨S2x1536, .f32⟩
  | .hbm, ⟨6, _⟩ => ⟨S2x1536, .f32⟩
  | .local _ .vmem, ⟨0, _⟩ => ⟨S2x1536, .f32⟩
  | .local _ .vmem, ⟨1, _⟩ => ⟨S2x1536, .f32⟩
  | .local _ .vmem, ⟨2, _⟩ => ⟨S2x1536, .f32⟩
  | .local _ .vmem, ⟨3, _⟩ => ⟨S2x1536, .f32⟩
  | .local _ .vmem, ⟨4, _⟩ => ⟨S2x1536, .f32⟩
  | .local _ .vmem, ⟨5, _⟩ => ⟨S2x1536, .f32⟩
  | .local _ .vmem, ⟨6, _⟩ => ⟨S2x1536, .f32⟩
  | _, _ => ⟨S2x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnGIdeal.lean ====
abbrev S2x1536 : Shape := ⟨2, ![2, 1536]⟩

abbrev nBuf : Space → Nat
  | .hbm => 7
  | .vmem => 7
  | .smem => 0
  | _ => 0

abbrev bufTy : (tb : Table) → Fin (tcTables nBuf tb) → BufTy
  | .hbm, ⟨0, _⟩ => ⟨S2x1536, .f32⟩
  | .hbm, ⟨1, _⟩ => ⟨S2x1536, .f32⟩
  | .hbm, ⟨2, _⟩ => ⟨S2x1536, .f32⟩
  | .hbm, ⟨3, _⟩ => ⟨S2x1536, .f32⟩
  | .hbm, ⟨4, _⟩ => ⟨S2x1536, .f32⟩
  | .hbm, ⟨5, _⟩ => ⟨S2x1536, .f32⟩
  | .hbm, ⟨6, _⟩ => ⟨S2x1536, .f32⟩
  | .local _ .vmem, ⟨0, _⟩ => ⟨S2x1536, .f32⟩
  | .local _ .vmem, ⟨1, _⟩ => ⟨S2x1536, .f32⟩
  | .local _ .vmem, ⟨2, _⟩ => ⟨S2x1536, .f32⟩
  | .local _ .vmem, ⟨3, _⟩ => ⟨S2x1536, .f32⟩
  | .local _ .vmem, ⟨4, _⟩ => ⟨S2x1536, .f32⟩
  | .local _ .vmem, ⟨5, _⟩ => ⟨S2x1536, .f32⟩
  | .local _ .vmem, ⟨6, _⟩ => ⟨S2x1536, .f32⟩
  | _, _ => ⟨S2x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamLnGIdeal.lean ====
abbrev S2x1536 : Shape := ⟨2, ![2, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1536, .f32⟩
  | .hbm, ⟨1, _⟩ => ⟨S2x1536, .f32⟩
  | .hbm, ⟨2, _⟩ => ⟨S2x1536, .f32⟩
  | .hbm, ⟨3, _⟩ => ⟨S2x1536, .f32⟩
  | .hbm, ⟨4, _⟩ => ⟨S_, .f32⟩
  | .hbm, ⟨5, _⟩ => ⟨S2x1536, .f32⟩
  | .hbm, ⟨6, _⟩ => ⟨S2x1536, .f32⟩
  | .hbm, ⟨7, _⟩ => ⟨S_, .f32⟩
  | .hbm, ⟨8, _⟩ => ⟨S2x1536, .f32⟩
  | .hbm, ⟨9, _⟩ => ⟨S2x1536, .f32⟩
  | .hbm, ⟨10, _⟩ => ⟨S2x1536, .f32⟩
  | .hbm, ⟨11, _⟩ => ⟨S_, .f32⟩
  | .hbm, ⟨12, _⟩ => ⟨S2x1536, .f32⟩
  | .hbm, ⟨13, _⟩ => ⟨S2x1536, .f32⟩
  | .hbm, ⟨14, _⟩ => ⟨S2x1536, .f32⟩
  | .hbm, ⟨15, _⟩ => ⟨S_, .f32⟩
  | .hbm, ⟨16, _⟩ => ⟨S2x1536, .f32⟩
  | .hbm, ⟨17, _⟩ => ⟨S2x1536, .f32⟩
  | .hbm, ⟨18, _⟩ => ⟨S2x1536, .f32⟩
  | .hbm, ⟨19, _⟩ => ⟨S_, .f32⟩
  | .hbm, ⟨20, _⟩ => ⟨S2x1536, .f32⟩
  | .hbm, ⟨21, _⟩ => ⟨S2x1536, .f32⟩
  | .hbm, ⟨22, _⟩ => ⟨S_, .f32⟩
  | .hbm, ⟨23, _⟩ => ⟨S2x1536, .f32⟩
  | .hbm, ⟨24, _⟩ => ⟨S2x1536, .f32⟩
  | .hbm, ⟨25, _⟩ => ⟨S2x1536, .f32⟩
  | .hbm, ⟨26, _⟩ => ⟨S_, .f32⟩
  | .hbm, ⟨27, _⟩ => ⟨S2x1536, .f32⟩
  | .hbm, ⟨28, _⟩ => ⟨S2x1536, .f32⟩
  | .hbm, ⟨29, _⟩ => ⟨S2x1536, .f32⟩
  | .hbm, ⟨30, _⟩ => ⟨S_, .f32⟩
  | .hbm, ⟨31, _⟩ => ⟨S2x1536, .f32⟩
  | .hbm, ⟨32, _⟩ => ⟨S2x1536, .f32⟩
  | .hbm, ⟨33, _⟩ => ⟨S2x1536, .f32⟩
  | .hbm, ⟨34, _⟩ => ⟨S_, .f32⟩
  | .hbm, ⟨35, _⟩ => ⟨S2x1536, .f32⟩
  | .hbm, ⟨36, _⟩ => ⟨S2x1536, .f32⟩
  | _, _ => ⟨S2x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWs.lean ====
abbrev S2x8x128x128 : Shape := ⟨4, ![2, 8, 128, 128]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWsIdeal.lean ====
abbrev S2x8x128x128 : Shape := ⟨4, ![2, 8, 128, 128]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamWsIdeal.lean ====
abbrev S2x8x128x128 : Shape := ⟨4, ![2, 8, 128, 128]⟩
abbrev S2048x128 : Shape := ⟨2, ![2048, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S_, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S_, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S_, .f32⟩
  | .hbm, ⟨39, _⟩ => ⟨S2048x128, .f32⟩
  | .hbm, ⟨40, _⟩ => ⟨S2048x128, .f32⟩
  | _, _ => ⟨S2x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamBs.lean ====
abbrev S2x8x128 : Shape := ⟨3, ![2, 8, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBsIdeal.lean ====
abbrev S2x8x128 : Shape := ⟨3, ![2, 8, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamBsIdeal.lean ====
abbrev S2x8x128 : Shape := ⟨3, ![2, 8, 128]⟩
abbrev S16x128 : Shape := ⟨2, ![16, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S_, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S16x128, .f32⟩
  | .hbm, ⟨23, _⟩ => ⟨S_, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S16x128, .f32⟩
  | .hbm, ⟨38, _⟩ => ⟨S_, .f32⟩
  | .hbm, ⟨39, _⟩ => ⟨S16x128, .f32⟩
  | .hbm, ⟨40, _⟩ => ⟨S16x128, .f32⟩
  | _, _ => ⟨S2x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamKvNormG.lean ====
abbrev S2048 : Shape := ⟨1, ![2048]⟩
abbrev S1x2048 : Shape := ⟨2, ![1, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvNormGIdeal.lean ====
abbrev S2048 : Shape := ⟨1, ![2048]⟩
abbrev S1x2048 : Shape := ⟨2, ![1, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamKvNormGIdeal.lean ====
abbrev S2048 : Shape := ⟨1, ![2048]⟩
abbrev S1x2048 : Shape := ⟨2, ![1, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamKvAdaB.lean ====
abbrev S4096 : Shape := ⟨1, ![4096]⟩
abbrev S1x4096 : Shape := ⟨2, ![1, 4096]⟩

abbrev nBuf : Space → Nat
  | .hbm => 11
  | .vmem => 7
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvAdaBIdeal.lean ====
abbrev S4096 : Shape := ⟨1, ![4096]⟩
abbrev S1x4096 : Shape := ⟨2, ![1, 4096]⟩

abbrev nBuf : Space → Nat
  | .hbm => 11
  | .vmem => 7
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamKvAdaBIdeal.lean ====
abbrev S4096 : Shape := ⟨1, ![4096]⟩
abbrev S1x4096 : Shape := ⟨2, ![1, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S_, .f32⟩
  | .hbm, ⟨39, _⟩ => ⟨S1x4096, .f32⟩
  | .hbm, ⟨40, _⟩ => ⟨S1x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamKNormG.lean ====
abbrev S128 : Shape := ⟨1, ![128]⟩
abbrev S1x128 : Shape := ⟨2, ![1, 128]⟩

abbrev nBuf : Space → Nat
  | .hbm => 11
  | .vmem => 7
  | .smem => 0
  | _ => 0

abbrev bufTy : (tb : Table) → Fin (tcTables nBuf tb) → BufTy
  | .hbm, ⟨0, _⟩ => ⟨S128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKNormGIdeal.lean ====
abbrev S128 : Shape := ⟨1, ![128]⟩
abbrev S1x128 : Shape := ⟨2, ![1, 128]⟩

abbrev nBuf : Space → Nat
  | .hbm => 11
  | .vmem => 7
  | .smem => 0
  | _ => 0

abbrev bufTy : (tb : Table) → Fin (tcTables nBuf tb) → BufTy
  | .hbm, ⟨0, _⟩ => ⟨S128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamKNormGIdeal.lean ====
abbrev S128 : Shape := ⟨1, ![128]⟩
abbrev S1x128 : Shape := ⟨2, ![1, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamWf.lean ====
abbrev S512x16 : Shape := ⟨2, ![512, 16]⟩

abbrev nBuf : Space → Nat
  | .hbm => 7
  | .vmem => 7
  | .smem => 0
  | _ => 0

abbrev bufTy : (tb : Table) → Fin (tcTables nBuf tb) → BufTy
  | .hbm, ⟨0, _⟩ => ⟨S512x16, .f32⟩
  | .hbm, ⟨1, _⟩ => ⟨S512x16, .f32⟩
  | .hbm, ⟨2, _⟩ => ⟨S512x16, .f32⟩
  | .hbm, ⟨3, _⟩ => ⟨S512x16, .f32⟩
  | .hbm, ⟨4, _⟩ => ⟨S512x16, .f32⟩
  | .hbm, ⟨5, _⟩ => ⟨S512x16, .f32⟩
  | .hbm, ⟨6, _⟩ => ⟨S512x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | _, _ => ⟨S512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWfIdeal.lean ====
abbrev S512x16 : Shape := ⟨2, ![512, 16]⟩

abbrev nBuf : Space → Nat
  | .hbm => 7
  | .vmem => 7
  | .smem => 0
  | _ => 0

abbrev bufTy : (tb : Table) → Fin (tcTables nBuf tb) → BufTy
  | .hbm, ⟨0, _⟩ => ⟨S512x16, .f32⟩
  | .hbm, ⟨1, _⟩ => ⟨S512x16, .f32⟩
  | .hbm, ⟨2, _⟩ => ⟨S512x16, .f32⟩
  | .hbm, ⟨3, _⟩ => ⟨S512x16, .f32⟩
  | .hbm, ⟨4, _⟩ => ⟨S512x16, .f32⟩
  | .hbm, ⟨5, _⟩ => ⟨S512x16, .f32⟩
  | .hbm, ⟨6, _⟩ => ⟨S512x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | _, _ => ⟨S512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamWfIdeal.lean ====
abbrev S512x16 : Shape := ⟨2, ![512, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x16, .f32⟩
  | .hbm, ⟨1, _⟩ => ⟨S512x16, .f32⟩
  | .hbm, ⟨2, _⟩ => ⟨S512x16, .f32⟩
  | .hbm, ⟨3, _⟩ => ⟨S512x16, .f32⟩
  | .hbm, ⟨4, _⟩ => ⟨S_, .f32⟩
  | .hbm, ⟨5, _⟩ => ⟨S512x16, .f32⟩
  | .hbm, ⟨6, _⟩ => ⟨S512x16, .f32⟩
  | .hbm, ⟨7, _⟩ => ⟨S_, .f32⟩
  | .hbm, ⟨8, _⟩ => ⟨S512x16, .f32⟩
  | .hbm, ⟨9, _⟩ => ⟨S512x16, .f32⟩
  | .hbm, ⟨10, _⟩ => ⟨S512x16, .f32⟩
  | .hbm, ⟨11, _⟩ => ⟨S_, .f32⟩
  | .hbm, ⟨12, _⟩ => ⟨S512x16, .f32⟩
  | .hbm, ⟨13, _⟩ => ⟨S512x16, .f32⟩
  | .hbm, ⟨14, _⟩ => ⟨S512x16, .f32⟩
  | .hbm, ⟨15, _⟩ => ⟨S_, .f32⟩
  | .hbm, ⟨16, _⟩ => ⟨S512x16, .f32⟩
  | .hbm, ⟨17, _⟩ => ⟨S512x16, .f32⟩
  | .hbm, ⟨18, _⟩ => ⟨S512x16, .f32⟩
  | .hbm, ⟨19, _⟩ => ⟨S_, .f32⟩
  | .hbm, ⟨20, _⟩ => ⟨S512x16, .f32⟩
  | .hbm, ⟨21, _⟩ => ⟨S512x16, .f32⟩
  | .hbm, ⟨22, _⟩ => ⟨S_, .f32⟩
  | .hbm, ⟨23, _⟩ => ⟨S512x16, .f32⟩
  | .hbm, ⟨24, _⟩ => ⟨S512x16, .f32⟩
  | .hbm, ⟨25, _⟩ => ⟨S512x16, .f32⟩
  | .hbm, ⟨26, _⟩ => ⟨S_, .f32⟩
  | .hbm, ⟨27, _⟩ => ⟨S512x16, .f32⟩
  | .hbm, ⟨28, _⟩ => ⟨S512x16, .f32⟩
  | .hbm, ⟨29, _⟩ => ⟨S512x16, .f32⟩
  | .hbm, ⟨30, _⟩ => ⟨S_, .f32⟩
  | .hbm, ⟨31, _⟩ => ⟨S512x16, .f32⟩
  | .hbm, ⟨32, _⟩ => ⟨S512x16, .f32⟩
  | .hbm, ⟨33, _⟩ => ⟨S512x16, .f32⟩
  | .hbm, ⟨34, _⟩ => ⟨S_, .f32⟩
  | .hbm, ⟨35, _⟩ => ⟨S512x16, .f32⟩
  | .hbm, ⟨36, _⟩ => ⟨S512x16, .f32⟩
  | _, _ => ⟨S512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBf.lean ====
abbrev S16 : Shape := ⟨1, ![16]⟩
abbrev S1x16 : Shape := ⟨2, ![1, 16]⟩

abbrev nBuf : Space → Nat
  | .hbm => 11
  | .vmem => 7
  | .smem => 0
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16, .f32⟩
  | .hbm, ⟨3, _⟩ => ⟨S16, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S1x16, .f32⟩
  | .hbm, ⟨10, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBfIdeal.lean ====
abbrev S16 : Shape := ⟨1, ![16]⟩
abbrev S1x16 : Shape := ⟨2, ![1, 16]⟩

abbrev nBuf : Space → Nat
  | .hbm => 11
  | .vmem => 7
  | .smem => 0
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16, .f32⟩
  | .hbm, ⟨3, _⟩ => ⟨S16, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S1x16, .f32⟩
  | .hbm, ⟨10, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamBfIdeal.lean ====
abbrev S16 : Shape := ⟨1, ![16]⟩
abbrev S1x16 : Shape := ⟨2, ![1, 16]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16, .f32⟩
  | .hbm, ⟨3, _⟩ => ⟨S16, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S_, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S_, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | .hbm, ⟨37, _⟩ => ⟨S1x16, .f32⟩
  | .hbm, ⟨38, _⟩ => ⟨S_, .f32⟩
  | .hbm, ⟨39, _⟩ => ⟨S1x16, .f32⟩
  | .hbm, ⟨40, _⟩ => ⟨S1x16, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamQNormG.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamQNormGIdeal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S4x2048x3072 : Shape := ⟨3, ![4, 2048, 3072]⟩
abbrev S8x2048 : Shape := ⟨2, ![8, 2048]⟩
abbrev S4x8x3072 : Shape := ⟨3, ![4, 8, 3072]⟩
abbrev S2048x8 : Shape := ⟨2, ![2048, 8]⟩
abbrev S1x256x3072 : Shape := ⟨3, ![1, 256, 3072]⟩
abbrev S256x8 : Shape := ⟨2, ![256, 8]⟩
abbrev S1x8x3072 : Shape := ⟨3, ![1, 8, 3072]⟩
abbrev S8x3072 : Shape := ⟨2, ![8, 3072]⟩
abbrev S256x3072 : Shape := ⟨2, ![256, 3072]⟩

abbrev nBuf : Space → Nat
  | .hbm => 10
  | .vmem => 18
  | .smem => 0
  | _ => 0

abbrev bufTy : (tb : Table) → Fin (tcTables nBuf tb) → BufTy
  | .hbm, ⟨0, _⟩ => ⟨S4x2048x3072, .f32⟩
  | .hbm, ⟨1, _⟩ => ⟨S8x2048, .f32⟩
  | .hbm, ⟨2, _⟩ => ⟨S4x8x3072, .f32⟩
  | .hbm, ⟨3, _⟩ => ⟨S4x2048x3072, .f32⟩
  | .hbm, ⟨4, _⟩ => ⟨S4x2048x3072, .f32⟩
  | .hbm, ⟨5, _⟩ => ⟨S2048x8, .f32⟩
  | .hbm, ⟨6, _⟩ => ⟨S4x2048x3072, .f32⟩
  | .hbm, ⟨7, _⟩ => ⟨S4x2048x3072, .f32⟩
  | .hbm, ⟨8, _⟩ => ⟨S4x2048x3072, .f32⟩
  | .hbm, ⟨9, _⟩ => ⟨S4x2048x3072, .f32⟩
  | .local _ .vmem, ⟨0, _⟩ => ⟨S1x256x3072, .f32⟩
  | .local _ .vmem, ⟨1, _⟩ => ⟨S1x256x3072, .f32⟩
  | .local _ .vmem, ⟨2, _⟩ => ⟨S256x8, .f32⟩
  | .local _ .vmem, ⟨3, _⟩ => ⟨S256x8, .f32⟩
  | .local _ .vmem, ⟨4, _⟩ => ⟨S1x8x3072, .f32⟩
  | .local _ .vmem, ⟨5, _⟩ => ⟨S1x8x3072, .f32⟩
  | .local _ .vmem, ⟨6, _⟩ => ⟨S1x256x3072, .f32⟩
  | .local _ .vmem, ⟨7, _⟩ => ⟨S1x256x3072, .f32⟩
  | .local _ .vmem, ⟨8, _⟩ => ⟨S1x256x3072, .f32⟩
  | .local _ .vmem, ⟨9, _⟩ => ⟨S1x256x3072, .f32⟩
  | .local _ .vmem, ⟨10, _⟩ => ⟨S1x256x3072, .f32⟩
  | .local _ .vmem, ⟨11, _⟩ => ⟨S1x256x3072, .f32⟩
  | .local _ .vmem, ⟨12, _⟩ => ⟨S1x256x3072, .f32⟩
  | .local _ .vmem, ⟨13, _⟩ => ⟨S1x256x3072, .f32⟩
  | .local _ .vmem, ⟨14, _⟩ => ⟨S1x256x3072, .f32⟩
  | .local _ .vmem, ⟨15, _⟩ => ⟨S1x256x3072, .f32⟩
  | .local _ .vmem, ⟨16, _⟩ => ⟨S1x256x3072, .f32⟩
  | .local _ .vmem, ⟨17, _⟩ => ⟨S1x256x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamAdaIdeal.lean ====
abbrev S4x2048x3072 : Shape := ⟨3, ![4, 2048, 3072]⟩
abbrev S8x2048 : Shape := ⟨2, ![8, 2048]⟩
abbrev S4x8x3072 : Shape := ⟨3, ![4, 8, 3072]⟩
abbrev S2048x8 : Shape := ⟨2, ![2048, 8]⟩
abbrev S1x256x3072 : Shape := ⟨3, ![1, 256, 3072]⟩
abbrev S256x8 : Shape := ⟨2, ![256, 8]⟩
abbrev S1x8x3072 : Shape := ⟨3, ![1, 8, 3072]⟩
abbrev S8x3072 : Shape := ⟨2, ![8, 3072]⟩
abbrev S256x3072 : Shape := ⟨2, ![256, 3072]⟩

abbrev nBuf : Space → Nat
  | .hbm => 10
  | .vmem => 18
  | .smem => 0
  | _ => 0

abbrev bufTy : (tb : Table) → Fin (tcTables nBuf tb) → BufTy
  | .hbm, ⟨0, _⟩ => ⟨S4x2048x3072, .f32⟩
  | .hbm, ⟨1, _⟩ => ⟨S8x2048, .f32⟩
  | .hbm, ⟨2, _⟩ => ⟨S4x8x3072, .f32⟩
  | .hbm, ⟨3, _⟩ => ⟨S4x2048x3072, .f32⟩
  | .hbm, ⟨4, _⟩ => ⟨S4x2048x3072, .f32⟩
  | .hbm, ⟨5, _⟩ => ⟨S2048x8, .f32⟩
  | .hbm, ⟨6, _⟩ => ⟨S4x2048x3072, .f32⟩
  | .hbm, ⟨7, _⟩ => ⟨S4x2048x3072, .f32⟩
  | .hbm, ⟨8, _⟩ => ⟨S4x2048x3072, .f32⟩
  | .hbm, ⟨9, _⟩ => ⟨S4x2048x3072, .f32⟩
  | .local _ .vmem, ⟨0, _⟩ => ⟨S1x256x3072, .f32⟩
  | .local _ .vmem, ⟨1, _⟩ => ⟨S1x256x3072, .f32⟩
  | .local _ .vmem, ⟨2, _⟩ => ⟨S256x8, .f32⟩
  | .local _ .vmem, ⟨3, _⟩ => ⟨S256x8, .f32⟩
  | .local _ .vmem, ⟨4, _⟩ => ⟨S1x8x3072, .f32⟩
  | .local _ .vmem, ⟨5, _⟩ => ⟨S1x8x3072, .f32⟩
  | .local _ .vmem, ⟨6, _⟩ => ⟨S1x256x3072, .f32⟩
  | .local _ .vmem, ⟨7, _⟩ => ⟨S1x256x3072, .f32⟩
  | .local _ .vmem, ⟨8, _⟩ => ⟨S1x256x3072, .f32⟩
  | .local _ .vmem, ⟨9, _⟩ => ⟨S1x256x3072, .f32⟩
  | .local _ .vmem, ⟨10, _⟩ => ⟨S1x256x3072, .f32⟩
  | .local _ .vmem, ⟨11, _⟩ => ⟨S1x256x3072, .f32⟩
  | .local _ .vmem, ⟨12, _⟩ => ⟨S1x256x3072, .f32⟩
  | .local _ .vmem, ⟨13, _⟩ => ⟨S1x256x3072, .f32⟩
  | .local _ .vmem, ⟨14, _⟩ => ⟨S1x256x3072, .f32⟩
  | .local _ .vmem, ⟨15, _⟩ => ⟨S1x256x3072, .f32⟩
  | .local _ .vmem, ⟨16, _⟩ => ⟨S1x256x3072, .f32⟩
  | .local _ .vmem, ⟨17, _⟩ => ⟨S1x256x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdamAdaIdeal.lean ====
abbrev S4x2048x3072 : Shape := ⟨3, ![4, 2048, 3072]⟩
abbrev S8x2048 : Shape := ⟨2, ![8, 2048]⟩
abbrev S4x8x3072 : Shape := ⟨3, ![4, 8, 3072]⟩
abbrev S_ : Shape := ⟨0, ![]⟩
abbrev S8x4x3072 : Shape := ⟨3, ![8, 4, 3072]⟩
abbrev S4x3072x2048 : Shape := ⟨3, ![4, 3072, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S8x2048, .f32⟩
  | .hbm, ⟨2, _⟩ => ⟨S4x8x3072, .f32⟩
  | .hbm, ⟨3, _⟩ => ⟨S4x2048x3072, .f32⟩
  | .hbm, ⟨4, _⟩ => ⟨S4x2048x3072, .f32⟩
  | .hbm, ⟨5, _⟩ => ⟨S_, .f32⟩
  | .hbm, ⟨6, _⟩ => ⟨S4x2048x3072, .f32⟩
  | .hbm, ⟨7, _⟩ => ⟨S8x4x3072, .f32⟩
  | .hbm, ⟨8, _⟩ => ⟨S4x8x3072, .f32⟩
  | .hbm, ⟨9, _⟩ => ⟨S8x4x3072, .f32⟩
  | .hbm, ⟨10, _⟩ => ⟨S4x3072x2048, .f32⟩
  | .hbm, ⟨11, _⟩ => ⟨S4x2048x3072, .f32⟩
  | .hbm, ⟨12, _⟩ => ⟨S_, .f32⟩
  | .hbm, ⟨13, _⟩ => ⟨S4x2048x3072, .f32⟩
  | .hbm, ⟨14, _⟩ => ⟨S4x2048x3072, .f32⟩
  | .hbm, ⟨15, _⟩ => ⟨S_, .f32⟩
  | .hbm, ⟨16, _⟩ => ⟨S4x2048x3072, .f32⟩
  | .hbm, ⟨17, _⟩ => ⟨S4x2048x3072, .f32⟩
  | .hbm, ⟨18, _⟩ => ⟨S4x2048x3072, .f32⟩
  | .hbm, ⟨19, _⟩ => ⟨S_, .f32⟩
  | .hbm, ⟨20, _⟩ => ⟨S4x2048x3072, .f32⟩
  | .hbm, ⟨21, _⟩ => ⟨S4x2048x3072, .f32⟩
  | .hbm, ⟨22, _⟩ => ⟨S4x2048x3072, .f32⟩
  | .hbm, ⟨23, _⟩ => ⟨S_, .f32⟩
  | .hbm, ⟨24, _⟩ => ⟨S4x2048x3072, .f32⟩
  | .hbm, ⟨25, _⟩ => ⟨S4x2048x3072, .f32⟩
  | .hbm, ⟨26, _⟩ => ⟨S4x2048x3072, .f32⟩
  | .hbm, ⟨27, _⟩ => ⟨S_, .f32⟩
  | .hbm, ⟨28, _⟩ => ⟨S4x2048x3072, .f32⟩
  | .hbm, ⟨29, _⟩ => ⟨S4x2048x3072, .f32⟩
  | .hbm, ⟨30, _⟩ => ⟨S_, .f32⟩
  | .hbm, ⟨31, _⟩ => ⟨S4x2048x3072, .f32⟩
  | .hbm, ⟨32, _⟩ => ⟨S4x2048x3072, .f32⟩
  | .hbm, ⟨33, _⟩ => ⟨S4x2048x3072, .f32⟩
  | .hbm, ⟨34, _⟩ => ⟨S_, .f32⟩
  | .hbm, ⟨35, _⟩ => ⟨S4x2048x3072, .f32⟩
  | .hbm, ⟨36, _⟩ => ⟨S4x2048x3072, .f32⟩
  | .hbm, ⟨37, _⟩ => ⟨S4x2048x3072, .f32⟩
  | .hbm, ⟨38, _⟩ => ⟨S_, .f32⟩
  | .hbm, ⟨39, _⟩ => ⟨S4x2048x3072, .f32⟩
  | .hbm, ⟨40, _⟩ => ⟨S4x2048x3072, .f32⟩
  | .hbm, ⟨41, _⟩ => ⟨S4x2048x3072, .f32⟩
  | .hbm, ⟨42, _⟩ => ⟨S_, .f32⟩
  | .hbm, ⟨43, _⟩ => ⟨S4x2048x3072, .f32⟩
  | .hbm, ⟨44, _⟩ => ⟨S4x2048x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamKvAda.lean ====
abbrev S1x2048x1024 : Shape := ⟨3, ![1, 2048, 1024]⟩
abbrev S8x2048 : Shape := ⟨2, ![8, 2048]⟩
abbrev S1x8x1024 : Shape := ⟨3, ![1, 8, 1024]⟩
abbrev S2048x8 : Shape := ⟨2, ![2048, 8]⟩
abbrev S1x256x1024 : Shape := ⟨3, ![1, 256, 1024]⟩
abbrev S256x8 : Shape := ⟨2, ![256, 8]⟩
abbrev S8x1024 : Shape := ⟨2, ![8, 1024]⟩
abbrev S256x1024 : Shape := ⟨2, ![256, 1024]⟩

abbrev nBuf : Space → Nat
  | .hbm => 10
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S8x2048, .f32⟩
  | .hbm, ⟨2, _⟩ => ⟨S1x8x1024, .f32⟩
  | .hbm, ⟨3, _⟩ => ⟨S1x2048x1024, .f32⟩
  | .hbm, ⟨4, _⟩ => ⟨S1x2048x1024, .f32⟩
  | .hbm, ⟨5, _⟩ => ⟨S2048x8, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x8, .f32⟩
  | .local _ .vmem, ⟨3, _⟩ => ⟨S256x8, .f32⟩
  | .local _ .vmem, ⟨4, _⟩ => ⟨S1x8x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdamKvAdaIdeal.lean ====
abbrev S1x2048x1024 : Shape := ⟨3, ![1, 2048, 1024]⟩
abbrev S8x2048 : Shape := ⟨2, ![8, 2048]⟩
abbrev S1x8x1024 : Shape := ⟨3, ![1, 8, 1024]⟩
abbrev S_ : Shape := ⟨0, ![]⟩
abbrev S8x1x1024 : Shape := ⟨3, ![8, 1, 1024]⟩
abbrev S1x1024x2048 : Shape := ⟨3, ![1, 1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S8x2048, .f32⟩
  | .hbm, ⟨2, _⟩ => ⟨S1x8x1024, .f32⟩
  | .hbm, ⟨3, _⟩ => ⟨S1x2048x1024, .f32⟩
  | .hbm, ⟨4, _⟩ => ⟨S1x2048x1024, .f32⟩
  | .hbm, ⟨5, _⟩ => ⟨S_, .f32⟩
  | .hbm, ⟨6, _⟩ => ⟨S1x2048x1024, .f32⟩
  | .hbm, ⟨7, _⟩ => ⟨S8x1x1024, .f32⟩
  | .hbm, ⟨8, _⟩ => ⟨S1x8x1024, .f32⟩
  | .hbm, ⟨9, _⟩ => ⟨S8x1x1024, .f32⟩
  | .hbm, ⟨10, _⟩ => ⟨S1x1024x2048, .f32⟩
  | .hbm, ⟨11, _⟩ => ⟨S1x2048x1024, .f32⟩
  | .hbm, ⟨12, _⟩ => ⟨S_, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S_, .f32⟩
  | .hbm, ⟨43, _⟩ => ⟨S1x2048x1024, .f32⟩
  | .hbm, ⟨44, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== MixBwd.lean ====
abbrev S4096x6144 : Shape := ⟨2, ![4096, 6144]⟩
abbrev S4096x12288 : Shape := ⟨2, ![4096, 12288]⟩
abbrev S8x128x128 : Shape := ⟨3, ![8, 128, 128]⟩
abbrev S8x128 : Shape := ⟨2, ![8, 128]⟩
abbrev S8x128x1 : Shape := ⟨3, ![8, 128, 1]⟩
abbrev S512x768 : Shape := ⟨2, ![512, 768]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x768 : Shape := ⟨2, ![128, 768]⟩
abbrev S128 : Shape := ⟨1, ![128]⟩

abbrev nBuf : Space → Nat
  | .hbm => 14
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S4096x12288, .f32⟩
  | .hbm, ⟨2, _⟩ => ⟨S4096x6144, .f32⟩
  | .hbm, ⟨3, _⟩ => ⟨S8x128x128, .f32⟩
  | .hbm, ⟨4, _⟩ => ⟨S8x128, .f32⟩
  | .hbm, ⟨5, _⟩ => ⟨S4096x6144, .bf16⟩
  | .hbm, ⟨6, _⟩ => ⟨S4096x12288, .bf16⟩
  | .hbm, ⟨7, _⟩ => ⟨S4096x6144, .bf16⟩
  | .hbm, ⟨8, _⟩ => ⟨S8x128x1, .f32⟩
  | .hbm, ⟨9, _⟩ => ⟨S8x128x128, .f32⟩
  | .hbm, ⟨10, _⟩ => ⟨S4096x6144, .bf16⟩
  | .hbm, ⟨11, _⟩ => ⟨S4096x6144, .bf16⟩
  | .hbm, ⟨12, _⟩ => ⟨S8x128x128, .f32⟩
  | .hbm, ⟨13, _⟩ => ⟨S8x128x128, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32_72 : BitVec 32 := 0#32
  let v160 : BitVec 1 := Scalar.cmpi .eq arg1 c0_i32_72
  let v161 : BitVec 32 := Scalar.extui v160
  let c0_i32_73 : BitVec 32 := 0#32
  let v162 : BitVec 1 := Scalar.cmpi .ne v161 c0_i32_73
  v162

def k0_cond2 (i : grid0.Coords) : BitVec 1 :=
  let arg1 : BitVec 32 := BitVec.ofNat 32 (i 1).val
  let c0_i32_74 : BitVec 32 := 0#32
  let v163 : BitVec 1 := Scalar.cmpi .sgt arg1 c0_i32_74
  let v164 : BitVec 32 := Scalar.extui v163
  let c0_i32_75 : BitVec 32 := 0#32
  let v165 : BitVec 1 := Scalar.cmpi .ne v164 c0_i32_75
  v165

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefMixBwdIdeal.lean ====
abbrev S4096x6144 : Shape := ⟨2, ![4096, 6144]⟩
abbrev S4096x12288 : Shape := ⟨2, ![4096, 12288]⟩
abbrev S8x128x128 : Shape := ⟨3, ![8, 128, 128]⟩
abbrev S8x128 : Shape := ⟨2, ![8, 128]⟩
abbrev S32x128x8x768 : Shape := ⟨4, ![32, 128, 8, 768]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x768x128 : Shape := ⟨4, ![8, 32, 768, 128]⟩
abbrev S128x8 : Shape := ⟨2, ![128, 8]⟩
abbrev S128x8x1 : Shape := ⟨3, ![128, 8, 1]⟩
abbrev S1x128x8x1 : Shape := ⟨4, ![1, 128, 8, 1]⟩
abbrev S8x128x1 : Shape := ⟨3, ![8, 128, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x12288, .f32⟩
  | .hbm, ⟨2, _⟩ => ⟨S4096x6144, .f32⟩
  | .hbm, ⟨3, _⟩ => ⟨S8x128x128, .f32⟩
  | .hbm, ⟨4, _⟩ => ⟨S8x128, .f32⟩
  | .hbm, ⟨5, _⟩ => ⟨S4096x6144, .f32⟩
  | .hbm, ⟨6, _⟩ => ⟨S32x128x8x768, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S1x128, .i32⟩
  | .hbm, ⟨27, _⟩ => ⟨S128x1, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S1x128x128, .i1⟩
  | .hbm, ⟨32, _⟩ => ⟨S_, .f32⟩
  | .hbm, ⟨33, _⟩ => ⟨S_, .f32⟩
  | .hbm, ⟨34, _⟩ => ⟨S8x128x128, .i1⟩
  | .hbm, ⟨35, _⟩ => ⟨S8x128x128, .f32⟩
  | .hbm, ⟨36, _⟩ => ⟨S8x128x128, .f32⟩
  | .hbm, ⟨37, _⟩ => ⟨S_, .f32⟩
  | .hbm, ⟨38, _⟩ => ⟨S8x128x128, .f32⟩
  | .hbm, ⟨39, _⟩ => ⟨S8x32x768x128, .f32⟩
  | .hbm, ⟨40, _⟩ => ⟨S32x128x8x768, .f32⟩
  | .hbm, ⟨41, _⟩ => ⟨S128x8, .f32⟩
  | .hbm, ⟨42, _⟩ => ⟨S128x8x1, .f32⟩
  | .hbm, ⟨43, _⟩ => ⟨S1x128x8x1, .f32⟩
  | .hbm, ⟨44, _⟩ => ⟨S32x128x8x768, .f32⟩
  | .hbm, ⟨45, _⟩ => ⟨S32x128x8x768, .f32⟩
  | .hbm, ⟨46, _⟩ => ⟨S4096x6144, .f32⟩
  | .hbm, ⟨47, _⟩ => ⟨S4096x6144, .f32⟩
  | .hbm, ⟨48, _⟩ => ⟨S4096x6144, .f32⟩
  | .hbm, ⟨49, _⟩ => ⟨S4096x6144, .f32⟩
  | .hbm, ⟨50, _⟩ => ⟨S32x128x8x768, .f32⟩
  | .hbm, ⟨51, _⟩ => ⟨S_, .f32⟩
  | .hbm, ⟨52, _⟩ => ⟨S128x8, .f32⟩
  | .hbm, ⟨53, _⟩ => ⟨S1x128x8x1, .f32⟩
  | .hbm, ⟨54, _⟩ => ⟨S_, .f32⟩
  | .hbm, ⟨55, _⟩ => ⟨S128x8, .f32⟩
  | .hbm, ⟨56, _⟩ => ⟨S128x8x1, .f32⟩
  | .hbm, ⟨57, _⟩ => ⟨S_, .f32⟩
  | .hbm, ⟨58, _⟩ => ⟨S128x8, .f32⟩
  | .hbm, ⟨59, _⟩ => ⟨S8x128, .f32⟩
  | .hbm, ⟨60, _⟩ => ⟨S8x32x768x128, .f32⟩
  | .hbm, ⟨61, _⟩ => ⟨S8x128x128, .f32⟩
  | .hbm, ⟨62, _⟩ => ⟨S8x32x768x128, .f32⟩
  | .hbm, ⟨63, _⟩ => ⟨S32x128x8x768, .f32⟩
  | .hbm, ⟨64, _⟩ => ⟨S_, .f32⟩
  | .hbm, ⟨65, _⟩ => ⟨S8x128x128, .f32⟩
  | .hbm, ⟨66, _⟩ => ⟨S8x128x128, .f32⟩
  | .hbm, ⟨67, _⟩ => ⟨S4096x6144, .f32⟩
  | .hbm, ⟨68, _⟩ => ⟨S4096x6144, .bf16⟩
  | .hbm, ⟨69, _⟩ => ⟨S4096x6144, .bf16⟩
  | .hbm, ⟨70, _⟩ => ⟨S8x128x1, .f32⟩
  | .hbm, ⟨71, _⟩ => ⟨S8x128x128, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_0 : Ref sig .tc := ⟨.hbm, 51, rfl⟩
abbrev main_v23 : Ref sig .tc := ⟨.hbm, 52, rfl⟩
abbrev main_v24 : Ref sig .tc := ⟨.hbm, 53, rfl⟩
abbrev main_cst_1 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call2_cst : Ref sig .tc := ⟨.hbm, 64, rfl⟩
abbrev main_call2_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== MixFwd.lean ====
abbrev S4096x12288 : Shape := ⟨2, ![4096, 12288]⟩
abbrev S4096x6144 : Shape := ⟨2, ![4096, 6144]⟩
abbrev S8x128x128 : Shape := ⟨3, ![8, 128, 128]⟩
abbrev S8x128 : Shape := ⟨2, ![8, 128]⟩
abbrev S8x128x1 : Shape := ⟨3, ![8, 128, 1]⟩
abbrev S512x768 : Shape := ⟨2, ![512, 768]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x768 : Shape := ⟨2, ![128, 768]⟩

abbrev nBuf : Space → Nat
  | .hbm => 9
  | .vmem => 10
  | .smem => 0
  | _ => 0

abbrev bufTy : (tb : Table) → Fin (tcTables nBuf tb) → BufTy
  | .hbm, ⟨0, _⟩ => ⟨S4096x12288, .f32⟩
  | .hbm, ⟨1, _⟩ => ⟨S4096x6144, .f32⟩
  | .hbm, ⟨2, _⟩ => ⟨S8x128x128, .f32⟩
  | .hbm, ⟨3, _⟩ => ⟨S8x128, .f32⟩
  | .hbm, ⟨4, _⟩ => ⟨S4096x12288, .bf16⟩
  | .hbm, ⟨5, _⟩ => ⟨S4096x6144, .bf16⟩
  | .hbm, ⟨6, _⟩ => ⟨S8x128x1, .f32⟩
  | .hbm, ⟨7, _⟩ => ⟨S8x128x128, .f32⟩
  | .hbm, ⟨8, _⟩ => ⟨S4096x6144, .bf16⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S512x768, .bf16⟩
  | .local _ .vmem, ⟨9, _⟩ => ⟨S512x768, .bf16⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefMixFwdIdeal.lean ====
abbrev S4096x12288 : Shape := ⟨2, ![4096, 12288]⟩
abbrev S4096x6144 : Shape := ⟨2, ![4096, 6144]⟩
abbrev S8x128x128 : Shape := ⟨3, ![8, 128, 128]⟩
abbrev S8x128 : Shape := ⟨2, ![8, 128]⟩
abbrev S32x128x8x768 : Shape := ⟨4, ![32, 128, 8, 768]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x768x128 : Shape := ⟨4, ![8, 32, 768, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4096x6144, .f32⟩
  | .hbm, ⟨2, _⟩ => ⟨S8x128x128, .f32⟩
  | .hbm, ⟨3, _⟩ => ⟨S8x128, .f32⟩
  | .hbm, ⟨4, _⟩ => ⟨S4096x6144, .f32⟩
  | .hbm, ⟨5, _⟩ => ⟨S32x128x8x768, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S1x128, .i32⟩
  | .hbm, ⟨26, _⟩ => ⟨S128x1, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S1x128x128, .i1⟩
  | .hbm, ⟨31, _⟩ => ⟨S_, .f32⟩
  | .hbm, ⟨32, _⟩ => ⟨S_, .f32⟩
  | .hbm, ⟨33, _⟩ => ⟨S8x128x128, .i1⟩
  | .hbm, ⟨34, _⟩ => ⟨S8x128x128, .f32⟩
  | .hbm, ⟨35, _⟩ => ⟨S8x128x128, .f32⟩
  | .hbm, ⟨36, _⟩ => ⟨S8x32x768x128, .f32⟩
  | .hbm, ⟨37, _⟩ => ⟨S32x128x8x768, .f32⟩
  | .hbm, ⟨38, _⟩ => ⟨S128x8, .f32⟩
  | .hbm, ⟨39, _⟩ => ⟨S128x8x1, .f32⟩
  | .hbm, ⟨40, _⟩ => ⟨S1x128x8x1, .f32⟩
  | .hbm, ⟨41, _⟩ => ⟨S32x128x8x768, .f32⟩
  | .hbm, ⟨42, _⟩ => ⟨S32x128x8x768, .f32⟩
  | .hbm, ⟨43, _⟩ => ⟨S4096x6144, .f32⟩
  | .hbm, ⟨44, _⟩ => ⟨S4096x6144, .f32⟩
  | .hbm, ⟨45, _⟩ => ⟨S4096x6144, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩

abbrev nD : Nat := 1
abbrev τ : Topo := Topo.v7x

variable {F : FTy → Type} [FloatOps F]
-- ==== GateBwd.lean ====
abbrev S4096x2048 : Shape := ⟨2, ![4096, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S4096x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefGateBwdIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ModNorm.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefModNormIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== LnFwd.lean ====
abbrev S4096x12288 : Shape := ⟨2, ![4096, 12288]⟩
abbrev S1x6144 : Shape := ⟨2, ![1, 6144]⟩
abbrev S4096x6144 : Shape := ⟨2, ![4096, 6144]⟩
abbrev S256x6144 : Shape := ⟨2, ![256, 6144]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x12288, .f32⟩
  | .hbm, ⟨1, _⟩ => ⟨S1x6144, .f32⟩
  | .hbm, ⟨2, _⟩ => ⟨S1x6144, .f32⟩
  | .hbm, ⟨3, _⟩ => ⟨S4096x12288, .bf16⟩
  | .hbm, ⟨4, _⟩ => ⟨S4096x6144, .bf16⟩
  | .local _ .vmem, ⟨0, _⟩ => ⟨S256x6144, .bf16⟩
  | .local _ .vmem, ⟨1, _⟩ => ⟨S256x6144, .bf16⟩
  | .local _ .vmem, ⟨2, _⟩ => ⟨S1x6144, .f32⟩
  | .local _ .vmem, ⟨3, _⟩ => ⟨S1x6144, .f32⟩
  | .local _ .vmem, ⟨4, _⟩ => ⟨S256x6144, .bf16⟩
  | .local _ .vmem, ⟨5, _⟩ => ⟨S256x6144, .bf16⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefLnFwdIdeal.lean ====
abbrev S4096x12288 : Shape := ⟨2, ![4096, 12288]⟩
abbrev S1x6144 : Shape := ⟨2, ![1, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S1x6144, .f32⟩
  | .hbm, ⟨2, _⟩ => ⟨S1x6144, .f32⟩
  | .hbm, ⟨3, _⟩ => ⟨S4096x6144, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x6144, .f32⟩
  | .hbm, ⟨11, _⟩ => ⟨S4096x6144, .f32⟩
  | .hbm, ⟨12, _⟩ => ⟨S4096x6144, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x6144, .f32⟩
  | .hbm, ⟨20, _⟩ => ⟨S4096x6144, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x6144, .f32⟩
  | .hbm, ⟨26, _⟩ => ⟨S4096x6144, .f32⟩
  | .hbm, ⟨27, _⟩ => ⟨S4096x6144, .f32⟩
  | .hbm, ⟨28, _⟩ => ⟨S4096x6144, .f32⟩
  | .hbm, ⟨29, _⟩ => ⟨S4096x6144, .f32⟩
  | .hbm, ⟨30, _⟩ => ⟨S4096x6144, .f32⟩
  | .hbm, ⟨31, _⟩ => ⟨S4096x6144, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Mm.lean ====
module

public import Idealize.ShloMosaic.Lib.Pipeline.ValueKit
public import Idealize.ShloMosaic.Lib.Pipeline.Value
public import Idealize.ShloMosaic.Lib.StableHlo.ReadAt
public import Idealize.ShloMosaic.PureOps.Ideal.Laws

/-! # A product of matrices summed in blocks -/

@[expose] public section

noncomputable section

namespace Cert.Mm

open Idealize.ShloMosaic

/-- A matrix as a function on the naturals, zero outside it. -/
def nat {a b : ℕ} {e : FTy} (x : FVec Ideal ⟨2, ![a, b]⟩ e) (i j : ℕ) : EReal :=
  if h : i < a ∧ j < b then x (ix2 ⟨i, h.1⟩ ⟨j, h.2⟩) else 0

theorem nat_val {a b : ℕ} {e : FTy} (x : FVec Ideal ⟨2, ![a, b]⟩ e) (i : Fin a) (j : Fin b) : nat x i.val j.val = x (ix2 i j) :=
  dif_pos ⟨i.isLt, j.isLt⟩

/-- The only row of a matrix of one row. -/
theorem nat_row {b : ℕ} {e : FTy} (x : FVec Ideal ⟨2, ![1, b]⟩ e) (j : Fin b) : nat x 0 j.val = x (ix2 0 j) := nat_val x 0 j

/-- The square of the positive part. -/
def sqr (x : EReal) : EReal := max x 0 * max x 0

/-- The exact GELU, with the constants both programs carry for one half and for `1 / sqrt 2`. -/
def gelu (x : EReal) : EReal :=
  Ideal.ofBits .f32 0x3F000000#32 * x * (1 + Ideal.erf (x * Ideal.ofBits .f32 0x3F3504F3#32))

/-- The first `n` terms of the product of the row `i` of `P` and the row `j` of `Q`. -/
def prod (P Q : ℕ → ℕ → EReal) (n i j : ℕ) : EReal := ∑ k ∈ Finset.range n, P i k * Q j k

/-- One more block of terms. -/
theorem prod_block (P Q : ℕ → ℕ → EReal) (b n i j : ℕ) {a : EReal} {t : Fin b → EReal} (ha : a = prod P Q (b * n) i j)
    (ht : ∀ k : Fin b, t k = P i (b * n + k.val) * Q j (b * n + k.val)) : a + ∑ k, t k = prod P Q (b * (n + 1)) i j := by
  unfold prod at *
  rw [Finset.sum_congr rfl fun k _ => ht k, ha, Nat.mul_succ, Finset.sum_range_add,
    Finset.sum_range (fun k => P i (b * n + k) * Q j (b * n + k))]

/-- The first block of terms. -/
theorem prod_first (P Q : ℕ → ℕ → EReal) (b i j : ℕ) {t : Fin b → EReal}
    (ht : ∀ k : Fin b, t k = P i k.val * Q j k.val) : ∑ k, t k = prod P Q b i j := by
  unfold prod
  rw [Finset.sum_congr rfl fun k _ => ht k, Finset.sum_range (fun k => P i k * Q j k)]

/-- The product with the factors exchanged. -/
theorem prod_comm (P Q : ℕ → ℕ → EReal) (n i j : ℕ) : prod P Q n i j = prod Q P n j i :=
  Finset.sum_congr rfl fun _ _ => mul_comm _ _

theorem hz2 : (![0, 0] : Fin 2 → ℕ) = fun _ => 0 := funext fun a => by fin_cases a <;> rfl
theorem hz3 : (![0, 0, 0] : Fin 3 → ℕ) = fun _ => 0 := funext fun a => by fin_cases a <;> rfl

end Cert.Mm
-- ==== Proof.W1GradV.lean ====
module

public import proofs.«01_k».proof.Proof.Gen.W1GradIdeal.Frame
public import proofs.«01_k».proof.Proof.Mm

/-! # The gradient of the first product's weights: what the kernel leaves -/

@[expose] public section

noncomputable section

set_option maxRecDepth 16384

namespace Cert.W1GradIdeal.Val

open Cert.W1GradIdeal Cert.W1GradIdeal.Gen Cert.Mm Idealize.ShloMosaic Idealize.ShloMosaic.TcCoe Idealize.SL.Sem

/-! ## The expressions of the kernel, read at an index -/

section Pay

variable (x0 x1 : Vec Ideal S2048x1024 .bf16) (s : Vec Ideal S1024x1024 .f32) (r d : Fin 1024)

theorem pay1_apply : k0_pay1 x0 x1 (ix2 r d) = ∑ k : Fin 2048, x0 (ix2 k r) * x1 (ix2 k d) := by pointwise [k0_pay1]
theorem pay2_apply : k0_pay2 x0 x1 (ix2 r d) = ∑ k : Fin 2048, x0 (ix2 k r) * x1 (ix2 k d) := by pointwise [k0_pay2, k0_pay1]
theorem pay4_apply : k0_pay4 x0 x1 s (ix3 0 r d) = s (ix2 r d) + ∑ k : Fin 2048, x0 (ix2 k r) * x1 (ix2 k d) := by
  pointwise [k0_pay4, k0_pay1]

end Pay

/-! ## What a point leaves -/

section Cases

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1x1024x1024 .bf16) (harg5 : arg5.IsWhole)
  (arg6 : Memref sig .tc .vmem S1024x1024 .f32) (harg6 : arg6.IsWhole) (x0 x1 : Vec Ideal S2048x1024 .bf16) (xs : Vec Ideal S1024x1024 .f32)

theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S2048x1024) hz2,
    View.ld_unit_zero (S := S1024x1024) hz2]

theorem out_B (hc0 : ¬cond0_0 i) (hc1 : ¬cond0_1 i) (hc2 : cond0_2 i) :
    out0_B_2 c i arg3 harg3 arg4 harg4 arg5 harg5 arg6 harg6 hc0 hc1 hc2 x0 x1 xs = k0_pay4 x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero hz3]
  simp only [View.readAt_eq_ld, harg3.read_unread, harg4.read_unread, harg6.read_unread, View.ld_unit_zero (S := S2048x1024) hz2,
    View.ld_unit_zero (S := S1024x1024) hz2]

end Cases

/-! ## The grid -/

theorem idx : ∀ t : Fin cfg0.N, win0_0.index t = ![t.val % 2, t.val / 16] ∧ win0_1.index t = ![t.val % 2, t.val / 2 % 8]
    ∧ win0_2.index t = ![t.val / 2 % 8 / 2, t.val / 16, t.val / 2 % 8 % 2] ∧ t.val < 32 :=
  (by decide +kernel : ∀ t : Fin grid0.N, _)

variable (m : (ℓ : Loc nD τ sig) → Buf (Elt Ideal) ℓ) (ρ : Dev nD → PrngReg) (c : Dev nD)

/-- The arrays the kernel reads, as functions on the naturals: the row of the result and of the contraction, and its column. -/
structure Ent (P Q : ℕ → ℕ → EReal) : Prop where
  a : ∀ (k : Fin 4096) (i : Fin 2048), (V m c main_v0 : FVec Ideal S4096x2048 .bf16) (ix2 k i) = P i.val k.val
  b : ∀ (k : Fin 4096) (j : Fin 8192), (V m c main_v1 : FVec Ideal S4096x8192 .bf16) (ix2 k j) = Q j.val k.val

variable {m c} {P Q : ℕ → ℕ → EReal} (E : Ent m c P Q) (t : Fin cfg0.N)

include E in
theorem rd0 (k : Fin 2048) (r : Fin 1024) :
    iblk m c 0 t (ix2 k r) = P (1024 * (t.val / 16) + r.val) (2048 * (t.val % 2) + k.val) := by
  have ht := (idx t).2.2.2
  refine Eq.trans ?_ (E.a ⟨2048 * (t.val % 2) + k.val, by omega⟩ ⟨1024 * (t.val / 16) + r.val, by omega⟩)
  blk_ext [iblk, idx t]

include E in
theorem rd1 (k : Fin 2048) (d : Fin 1024) :
    iblk m c 1 t (ix2 k d) = Q (1024 * (t.val / 2 % 8) + d.val) (2048 * (t.val % 2) + k.val) := by
  have ht := (idx t).2.2.2
  refine Eq.trans ?_ (E.b ⟨2048 * (t.val % 2) + k.val, by omega⟩ ⟨1024 * (t.val / 2 % 8) + d.val, by omega⟩)
  blk_ext [iblk, idx t]

include E in
/-- The accumulator after a point that is not the last of its block. -/
theorem acc (h : t.val % 2 = 0) (r d : Fin 1024) : (outsAt0 m c t.val t.isLt).2 (ix2 r d)
    = prod P Q (2048 * (t.val % 2 + 1)) (1024 * (t.val / 16) + r.val) (1024 * (t.val / 2 % 8) + d.val) := by
  rw [outsAt0_A m c t h (by omega)]
  dsimp only
  rw [acc_A, pay2_apply, h]
  exact prod_first _ _ _ _ _ fun k => by rw [rd0 E, rd1 E, h, Nat.mul_zero, Nat.zero_add]

include E in
theorem out (h : t.val % 2 = 1) (r d : Fin 1024) : (outsAt0 m c t.val t.isLt).1 (ix3 0 r d)
    = prod P Q 4096 (1024 * (t.val / 16) + r.val) (1024 * (t.val / 2 % 8) + d.val) := by
  rw [outsAt0_B m c t (by omega) h]
  dsimp only
  rw [out_B, pay4_apply]
  have ha := acc E ⟨t.val - 1, by omega⟩ (by simp only; omega) r d
  simp only at ha
  rw [show (t.val - 1) / 16 = t.val / 16 by omega, show (t.val - 1) / 2 = t.val / 2 by omega, show (t.val - 1) % 2 + 1 = 1 by omega] at ha
  exact prod_block P Q 2048 1 _ _ ha fun k => by rw [rd0 E, rd1 E, h]

/-- The array of the results. -/
def res (P Q : ℕ → ℕ → EReal) : FVec Ideal S4x2048x2048 .bf16 := fun y => prod P Q 4096 (y 1).val (2048 * (y 0).val + (y 2).val)

include E in
theorem point (h : t.val % 2 = 1) (y : S1x1024x1024.Idx) :
    (outsAt0 m c t.val t.isLt).1 y = res P Q (((cfg0.win 2).blk t).view.emb y) := by
  idx_vars y
  obtain rfl : y0 = 0 := Subsingleton.elim _ _
  refine (out E t h y1 y2).trans ?_
  unfold res
  blk_simp [idx t]
  have ht := (idx t).2.2.2
  congr 1 <;> omega

include E in
theorem final : (dats m 0 c).arrAt 2 cfg0.N = res P Q := by
  refine (dats m 0 c).arrAt_eq_of_covers 2 _ (by decide +kernel) fun t ht y => ?_
  blk_simp
  rw [after0_2]
  exact point E t ((flush0_2 t).mp ht) y

end Cert.W1GradIdeal.Val
-- ==== Proof.W1GradR.lean ====
module

public import proofs.«01_k».proof.Proof.Gen.RefW1GradIdeal.Read
public import proofs.«01_k».proof.Proof.Gen.RefW1GradIdeal.Run
public import proofs.«01_k».proof.Proof.W1GradV
public import proofs.«01_k».proof.Defs
public import Idealize.ShloMosaic.Lib.Quiescent

/-! # The gradient of the first product's weights: the kernel and the reference agree -/

@[expose] public section

noncomputable section

set_option maxRecDepth 16384

namespace Cert.W1GradIdeal.Val

open Cert.W1GradIdeal Cert.W1GradIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S4096x8192 .f32 := m ((c : Thread nD τ).loc main_arg1)

theorem ent : Ent m c (fun i k => nat (x0 m c) k i) (fun j k => nat (x1 m c) k j) where
  a k i := by
    refine Eq.trans ?_ (nat_val _ _ _).symm
    unfold V
    after_reads_at
  b k j := by
    refine Eq.trans ?_ (nat_val _ _ _).symm
    unfold V
    after_reads_at

/-- Every run ends with the product. -/
theorem run : θ_run defs (onTc (τ := τ) (main (F := Ideal))) ⟨m, fun _ => 0, ρ⟩ (fun r => ∀ c : Dev nD,
      r.2.mem ((c.tc : Thread nD τ).loc main_v2) = res (fun i k => nat (x0 m c) k i) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final (ent m c)), h.2 c⟩) (θ_run_and (run_main m ρ) (unchanged m ρ))

end Cert.W1GradIdeal.Val

namespace Cert.RefW1GradIdeal.Val

open Cert.RefW1GradIdeal Cert.RefW1GradIdeal.Gen Cert.RefW1GradIdeal.Read Cert.Mm Idealize.ShloMosaic

variable (x0 : FVec Ideal S4096x2048 .f32) (x1 : FVec Ideal S4096x8192 .f32)

theorem read2 (i : Fin 8192) (j : Fin 2048) : val_main_v2 (F := Ideal) x0 x1 (ix2 i j)
    = prod (fun j k => nat x1 k j) (fun i k => nat x0 k i) 4096 i.val j.val :=
  Eq.trans (by pointwise [val_main_v2]) (prod_first (t := fun k : Fin 4096 => x1 (ix2 k i) * x0 (ix2 k j)) _ _ _ _ _ fun k => by
    rw [nat_val x1 k i, nat_val x0 k j])

theorem read6 : val_main_v6 (F := Ideal) x0 x1 = Cert.W1GradIdeal.Val.res (fun i k => nat x0 k i) (fun j k => nat x1 k j) := by
  funext y
  idx_vars y
  unfold Cert.W1GradIdeal.Val.res
  rw [prod_comm]
  have h : 2048 * y0.val + y2.val < 8192 := by omega
  refine Eq.trans ?_ (read2 x0 x1 ⟨2048 * y0.val + y2.val, h⟩ y1)
  rw [val_main_v6_apply, val_main_v5_apply, val_main_v4_apply, val_main_v3_apply]
  show val_main_v2 (F := Ideal) x0 x1 _ = val_main_v2 (F := Ideal) x0 x1 _
  congr 1
  funext a
  apply Fin.ext
  fin_cases a <;> simp [ix2, ix3] <;> omega

end Cert.RefW1GradIdeal.Val

namespace Cert.W1GradIdeal.Val

open Idealize.ShloMosaic Idealize.SL.Sem

theorem frame_reference : Cert.quiescent_RefW1GradIdeal := fun m ρ _ =>
  (θ_run Cert.RefW1GradIdeal.defs _ _).mono (fun r h => ⟨fun c => (h c).2,
      Idealize.ShloMosaic.sem_eq_zero_of_no_sems (by decide) r.2⟩)
    (Cert.RefW1GradIdeal.Value.run (F := Ideal) m ρ)

theorem algebraic : Cert.algebraic_W1GradIdeal_RefW1GradIdeal := by
  intro m g m' g' _ hargs
  refine ⟨fun c => _, run m g, (θ_run Cert.RefW1GradIdeal.defs _ _).mono (fun r h c => ?_) (Cert.RefW1GradIdeal.Value.run (F := Ideal) m' g')⟩
  obtain ⟨a0, a1⟩ := hargs c
  refine ⟨(h c).1.trans ?_, (h c).2⟩
  rw [Cert.RefW1GradIdeal.Read.val_main_v6_eq, a0, a1]
  exact Cert.RefW1GradIdeal.Val.read6 _ _

end Cert.W1GradIdeal.Val
-- ==== Proof.UpBwdV.lean ====
module

public import proofs.«01_k».proof.Proof.Gen.UpBwdIdeal.Frame
public import proofs.«01_k».proof.Proof.Mm

/-! # The gradient of the first product's input: what the kernel leaves -/

@[expose] public section

noncomputable section

set_option maxRecDepth 16384

namespace Cert.UpBwdIdeal.Val

open Cert.UpBwdIdeal Cert.UpBwdIdeal.Gen Cert.Mm Idealize.ShloMosaic Idealize.ShloMosaic.TcCoe Idealize.SL.Sem

/-! ## The expressions of the kernel, read at an index -/

section Pay

variable (x0 : Vec Ideal S1024x2048 .bf16) (x1 : Vec Ideal S1x1024x2048 .bf16)
  (s : Vec Ideal S1024x1024 .f32) (r : Fin 1024) (d : Fin 1024)

theorem first_apply : k0_pay2 x0 x1 (ix2 r d) = ∑ k : Fin 2048, x0 (ix2 r k) * x1 (ix3 0 d k) := by
  pointwise [k0_pay2, k0_pay1]

theorem next_apply : k0_pay3 x0 x1 s (ix2 r d) = s (ix2 r d) + ∑ k : Fin 2048, x0 (ix2 r k) * x1 (ix3 0 d k) := by
  pointwise [k0_pay3, k0_pay1]

theorem out0_apply : k0_pay4 x0 x1 s (ix2 r d)
    = (s (ix2 r d) + ∑ k : Fin 2048, x0 (ix2 r k) * x1 (ix3 0 d k)) := by
  pointwise [k0_pay4, k0_pay1]

end Pay

/-! ## What a point leaves -/

section Cases

variable (c : Dev nD) (i : grid0.Coords) (arg3 : Memref sig .tc .vmem S1024x2048 .bf16) (harg3 : arg3.IsWhole) (arg4 : Memref sig .tc .vmem S1x1024x2048 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x2048 .bf16) (x1 : Vec Ideal S1x1024x2048 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S1024x1024) hz2, View.ld_unit_zero (S := S1024x2048) hz2, View.ld_unit_zero (S := S1x1024x2048) hz3]

theorem case_next (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero hz2]
  simp only [View.readAt_eq_ld, harg3.read_unread, harg4.read_unread, harg6.read_unread, View.ld_unit_zero (S := S1024x1024) hz2, View.ld_unit_zero (S := S1024x2048) hz2, View.ld_unit_zero (S := S1x1024x2048) hz3]

theorem case_out0 (hc0 : ¬cond0_0 i) (hc1 : ¬cond0_1 i) (hc2 : cond0_2 i) :
    out0_C_2 c i arg3 harg3 arg4 harg4 arg5 harg5 arg6 harg6 hc0 hc1 hc2 x0 x1 xs = k0_pay4 x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero hz2]
  simp only [View.readAt_eq_ld, harg3.read_unread, harg4.read_unread, harg6.read_unread, View.ld_unit_zero (S := S1024x1024) hz2, View.ld_unit_zero (S := S1024x2048) hz2, View.ld_unit_zero (S := S1x1024x2048) hz3]

end Cases

/-! ## The grid -/

theorem idx : ∀ t : Fin cfg0.N, win0_0.index t = ![t.val / 8, t.val % 4]
    ∧ win0_1.index t = ![t.val % 4, t.val / 4 % 2, 0]
    ∧ win0_2.index t = ![t.val / 8, t.val / 4 % 2] ∧ t.val < 32 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 4096) (k : Fin 8192), (V m c main_v0 : FVec Ideal S4096x8192 .bf16) (ix2 i k) = P i.val k.val
  b : ∀ (p : Fin 4) (j : Fin 2048) (k : Fin 2048), (V m c main_v3 : FVec Ideal S4x2048x2048 .bf16) (ix3 p j k) = Q j.val (2048 * p.val + k.val)

variable {m c} {P Q : ℕ → ℕ → EReal} (E : Ent m c P Q) (t : Fin cfg0.N)

include E in
theorem rd0 (r : Fin 1024) (k : Fin 2048) : iblk m c 0 t (ix2 r k) = P (1024 * (t.val / 8) + r.val) (2048 * (t.val % 4) + k.val) := by
  have ht := (idx t).2.2.2
  refine Eq.trans ?_ (E.a ⟨1024 * (t.val / 8) + r.val, by omega⟩ ⟨2048 * (t.val % 4) + k.val, by omega⟩)
  blk_ext [iblk, idx t]

include E in
theorem rd1 (d : Fin 1024) (k : Fin 2048) : iblk m c 1 t (ix3 0 d k) = Q (1024 * (t.val / 4 % 2) + d.val) (2048 * (t.val % 4) + k.val) := by
  have ht := (idx t).2.2.2
  refine Eq.trans ?_ ((E.b ⟨t.val % 4, by omega⟩ ⟨1024 * (t.val / 4 % 2) + d.val, by omega⟩ ⟨k.val, by omega⟩).trans (by simp only <;> congr 1 <;> omega))
  blk_ext [iblk, idx t]

include E in
/-- The accumulator after a point that is not the last of its block. -/
theorem acc_at : ∀ (u : ℕ) (t : Fin cfg0.N), t.val = u → t.val % 4 < 3 → ∀ (r : Fin 1024) (d : Fin 1024),
    (outsAt0 m c t.val t.isLt).2 (ix2 r d) = prod P Q (2048 * (t.val % 4 + 1)) (1024 * (t.val / 8) + r.val) (1024 * (t.val / 4 % 2) + d.val)
  | 0, t, hu, h, r, d => by
    have h0 : t.val % 4 = 0 := by omega
    rw [outsAt0_A m c t h0 (by omega) (by omega)]
    dsimp only
    rw [case_first, first_apply, h0]
    exact prod_first _ _ _ _ _ fun k => by rw [rd0 E, rd1 E, h0, Nat.mul_zero, Nat.zero_add]
  | u + 1, t, hu, h, r, d => by
    by_cases h0 : t.val % 4 = 0
    · rw [outsAt0_A m c t h0 (by omega) (by omega)]
      dsimp only
      rw [case_first, first_apply, h0]
      exact prod_first _ _ _ _ _ fun k => by rw [rd0 E, rd1 E, h0, Nat.mul_zero, Nat.zero_add]
    · have hN := t.isLt
      rw [outsAt0_B m c t h0 (by omega) (by omega)]
      dsimp only
      rw [case_next, next_apply]
      have ha := acc_at u ⟨t.val - 1, by omega⟩ (by simp only; omega) (by simp only; omega) r d
      simp only at ha
      rw [show (t.val - 1) / 8 = t.val / 8 by omega, show (t.val - 1) / 4 = t.val / 4 by omega, show (t.val - 1) % 4 + 1 = t.val % 4 by omega] at ha
      exact prod_block P Q 2048 _ _ _ ha fun k => by rw [rd0 E, rd1 E]

include E in
theorem acc (h : t.val % 4 < 3) (r : Fin 1024) (d : Fin 1024) : (outsAt0 m c t.val t.isLt).2 (ix2 r d)
    = prod P Q (2048 * (t.val % 4 + 1)) (1024 * (t.val / 8) + r.val) (1024 * (t.val / 4 % 2) + d.val) := acc_at E t.val t rfl h r d

include E in
theorem out0 (h : t.val % 4 = 3) (r : Fin 1024) (d : Fin 1024) : (outsAt0 m c t.val t.isLt).1 (ix2 r d)
    = prod P Q 8192 (1024 * (t.val / 8) + r.val) (1024 * (t.val / 4 % 2) + d.val) := by
  have hN := t.isLt
  rw [outsAt0_C m c t (by omega) (by omega) h]
  dsimp only
  rw [case_out0, out0_apply]
  have ha := acc E ⟨t.val - 1, by omega⟩ (by simp only; omega) r d
  simp only at ha
  rw [show (t.val - 1) / 8 = t.val / 8 by omega, show (t.val - 1) / 4 = t.val / 4 by omega, show (t.val - 1) % 4 + 1 = 3 by omega] at ha
  exact congrArg (fun v => v) (prod_block P Q 2048 3 _ _ ha fun k => by rw [rd0 E, rd1 E, h])

/-- The array of the results. -/
def res0 (P Q : ℕ → ℕ → EReal) : FVec Ideal S4096x2048 .bf16 := fun y => prod P Q 8192 (y 0).val (y 1).val

include E in
theorem point0 (h : t.val % 4 = 3) (y : S1024x1024.Idx) :
    (outsAt0 m c t.val t.isLt).1 y = res0 P Q (((cfg0.win 2).blk t).view.emb y) := by
  idx_vars y
  refine (out0 E t h y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t ((flush0_2 t).mp ht) y

end Cert.UpBwdIdeal.Val
-- ==== Proof.UpBwdR.lean ====
module

public import proofs.«01_k».proof.Proof.Gen.RefUpBwdIdeal.Read
public import proofs.«01_k».proof.Proof.Gen.RefUpBwdIdeal.Run
public import proofs.«01_k».proof.Proof.UpBwdV
public import proofs.«01_k».proof.Defs
public import Idealize.ShloMosaic.Lib.Quiescent

/-! # The gradient of the first product's input: the kernel and the reference agree -/

@[expose] public section

noncomputable section

set_option maxRecDepth 16384

namespace Cert.UpBwdIdeal.Val

open Cert.UpBwdIdeal Cert.UpBwdIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S2048x8192 .f32 := m ((c : Thread nD τ).loc main_arg0)
abbrev x1 : FVec Ideal S4096x8192 .f32 := m ((c : Thread nD τ).loc main_arg1)

theorem ent : Ent m c (fun i k => nat (x1 m c) i k) (fun j k => nat (x0 m c) j k) where
  a i k := by
    simp only [nat_val, nat_row]
    unfold V
    after_reads_at

  b p j k := by
    have h : 2048 * p.val + k.val < 8192 := by omega
    refine Eq.trans ?_ (nat_val (x0 m c) j ⟨2048 * p.val + k.val, h⟩).symm
    unfold V
    after_reads_at
    congr 1
    funext a
    apply Fin.ext
    fin_cases a <;> simp [ix2, ix3] <;> omega

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4) = res0 (fun i k => nat (x1 m c) i k) (fun j k => nat (x0 m c) j k)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), h.2 c⟩) (θ_run_and (run_main m ρ) (unchanged m ρ))

end Cert.UpBwdIdeal.Val

namespace Cert.RefUpBwdIdeal.Val

open Cert.RefUpBwdIdeal Cert.RefUpBwdIdeal.Gen Cert.RefUpBwdIdeal.Read Cert.Mm Idealize.ShloMosaic

variable (x0 : FVec Ideal S2048x8192 .f32) (x1 : FVec Ideal S4096x8192 .f32)

theorem read_dot (i : Fin 4096) (j : Fin 2048) : val_main_v2 (F := Ideal) x0 x1 (ix2 i j)
    = prod (fun i k => nat x1 i k) (fun j k => nat x0 j k) 8192 i.val j.val :=
  Eq.trans (by pointwise [val_main_v2]) (prod_first (t := fun k : Fin 8192 => (x1 (ix2 i k)) * (x0 (ix2 j k))) _ _ _ _ _ fun k => by
    simp only [nat_val, nat_row])

theorem read_res0 : val_main_v3 (F := Ideal) x0 x1 = Cert.UpBwdIdeal.Val.res0 (fun i k => nat x1 i k) (fun j k => nat x0 j k) := by
  funext y
  idx_vars y
  unfold Cert.UpBwdIdeal.Val.res0
  exact (val_main_v3_apply _ _ _).trans (read_dot x0 x1 y0 y1)

end Cert.RefUpBwdIdeal.Val

namespace Cert.UpBwdIdeal.Val

open Idealize.ShloMosaic Idealize.SL.Sem

theorem frame_reference : Cert.quiescent_RefUpBwdIdeal := fun m ρ _ =>
  (θ_run Cert.RefUpBwdIdeal.defs _ _).mono (fun r h => ⟨fun c => (h c).2,
      Idealize.ShloMosaic.sem_eq_zero_of_no_sems (by decide) r.2⟩)
    (Cert.RefUpBwdIdeal.Value.run (F := Ideal) m ρ)

theorem algebraic : Cert.algebraic_UpBwdIdeal_RefUpBwdIdeal := by
  intro m g m' g' _ hargs
  refine ⟨fun c => _, run m g, (θ_run Cert.RefUpBwdIdeal.defs _ _).mono (fun r h c => ?_) (Cert.RefUpBwdIdeal.Value.run (F := Ideal) m' g')⟩
  obtain ⟨a0, a1⟩ := hargs c
  refine ⟨(h c).1.trans ?_, (h c).2⟩
  · rw [Cert.RefUpBwdIdeal.Read.val_main_v3_eq, a0, a1]
    exact Cert.RefUpBwdIdeal.Val.read_res0 _ _

end Cert.UpBwdIdeal.Val
-- ==== Proof.W2GradV.lean ====
module

public import proofs.«01_k».proof.Proof.Gen.W2GradIdeal.Frame
public import proofs.«01_k».proof.Proof.Mm

/-! # The gradient of the second product's weights: what the kernel leaves -/

@[expose] public section

noncomputable section

set_option maxRecDepth 16384

namespace Cert.W2GradIdeal.Val

open Cert.W2GradIdeal Cert.W2GradIdeal.Gen Cert.Mm Idealize.ShloMosaic Idealize.ShloMosaic.TcCoe Idealize.SL.Sem

/-! ## The expressions of the kernel, read at an index -/

section Pay

variable (x0 : Vec Ideal S2048x1024 .bf16) (x1 : Vec Ideal S2048x1024 .bf16)
  (s : Vec Ideal S1024x1024 .f32) (r : Fin 1024) (d : Fin 1024)

theorem first_apply : k0_pay2 x0 x1 (ix2 r d) = ∑ k : Fin 2048, x0 (ix2 k r) * x1 (ix2 k d) := by
  pointwise [k0_pay2, k0_pay1]

theorem out0_apply : k0_pay4 x0 x1 s (ix2 r d)
    = (s (ix2 r d) + ∑ k : Fin 2048, x0 (ix2 k r) * x1 (ix2 k d)) := by
  pointwise [k0_pay4, k0_pay1]

end Pay

/-! ## What a point leaves -/

section Cases

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S1024x1024) hz2, View.ld_unit_zero (S := S2048x1024) hz2]

theorem case_out0 (hc0 : ¬cond0_0 i) (hc1 : ¬cond0_1 i) (hc2 : cond0_2 i) :
    out0_B_2 c i arg3 harg3 arg4 harg4 arg5 harg5 arg6 harg6 hc0 hc1 hc2 x0 x1 xs = k0_pay4 x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero hz2]
  simp only [View.readAt_eq_ld, harg3.read_unread, harg4.read_unread, harg6.read_unread, View.ld_unit_zero (S := S1024x1024) hz2, View.ld_unit_zero (S := S2048x1024) hz2]

end Cases

/-! ## The grid -/

theorem idx : ∀ t : Fin cfg0.N, win0_0.index t = ![t.val % 2, t.val / 4]
    ∧ win0_1.index t = ![t.val % 2, t.val / 2 % 2]
    ∧ win0_2.index t = ![t.val / 4, t.val / 2 % 2] ∧ t.val < 32 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 8192) (k : Fin 4096), (V m c main_v2 : FVec Ideal S4096x8192 .bf16) (ix2 k i) = P i.val k.val
  b : ∀ (j : Fin 2048) (k : Fin 4096), (V m c main_v5 : FVec Ideal S4096x2048 .bf16) (ix2 k j) = Q j.val k.val

variable {m c} {P Q : ℕ → ℕ → EReal} (E : Ent m c P Q) (t : Fin cfg0.N)

include E in
theorem rd0 (r : Fin 1024) (k : Fin 2048) : iblk m c 0 t (ix2 k r) = P (1024 * (t.val / 4) + r.val) (2048 * (t.val % 2) + k.val) := by
  have ht := (idx t).2.2.2
  refine Eq.trans ?_ (E.a ⟨1024 * (t.val / 4) + r.val, by omega⟩ ⟨2048 * (t.val % 2) + k.val, by omega⟩)
  blk_ext [iblk, idx t]

include E in
theorem rd1 (d : Fin 1024) (k : Fin 2048) : iblk m c 1 t (ix2 k d) = Q (1024 * (t.val / 2 % 2) + d.val) (2048 * (t.val % 2) + k.val) := by
  have ht := (idx t).2.2.2
  refine Eq.trans ?_ (E.b ⟨1024 * (t.val / 2 % 2) + d.val, by omega⟩ ⟨2048 * (t.val % 2) + k.val, by omega⟩)
  blk_ext [iblk, idx t]

include E in
/-- The accumulator after a point that is not the last of its block. -/
theorem acc (h : t.val % 2 = 0) (r : Fin 1024) (d : Fin 1024) : (outsAt0 m c t.val t.isLt).2 (ix2 r d)
    = prod P Q 2048 (1024 * (t.val / 4) + r.val) (1024 * (t.val / 2 % 2) + d.val) := by
  rw [outsAt0_A m c t h (by omega)]
  dsimp only
  rw [case_first, first_apply]
  exact prod_first _ _ _ _ _ fun k => by rw [rd0 E, rd1 E, h, Nat.mul_zero, Nat.zero_add]

include E in
theorem out0 (h : t.val % 2 = 1) (r : Fin 1024) (d : Fin 1024) : (outsAt0 m c t.val t.isLt).1 (ix2 r d)
    = prod P Q 4096 (1024 * (t.val / 4) + r.val) (1024 * (t.val / 2 % 2) + d.val) := by
  have hN := t.isLt
  rw [outsAt0_B m c t (by omega) h]
  dsimp only
  rw [case_out0, out0_apply]
  have ha := acc E ⟨t.val - 1, by omega⟩ (by simp only; omega) r d
  simp only at ha
  rw [show (t.val - 1) / 4 = t.val / 4 by omega, show (t.val - 1) / 2 = t.val / 2 by omega] at ha
  exact congrArg (fun v => v) (prod_block P Q 2048 1 _ _ ha fun k => by rw [rd0 E, rd1 E, h])

/-- The array of the results. -/
def res0 (P Q : ℕ → ℕ → EReal) : FVec Ideal S8192x2048 .bf16 := fun y => prod P Q 4096 (y 0).val (y 1).val

include E in
theorem point0 (h : t.val % 2 = 1) (y : S1024x1024.Idx) :
    (outsAt0 m c t.val t.isLt).1 y = res0 P Q (((cfg0.win 2).blk t).view.emb y) := by
  idx_vars y
  refine (out0 E t h y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t ((flush0_2 t).mp ht) y

end Cert.W2GradIdeal.Val
-- ==== Proof.W2GradR.lean ====
module

public import proofs.«01_k».proof.Proof.Gen.RefW2GradIdeal.Read
public import proofs.«01_k».proof.Proof.Gen.RefW2GradIdeal.Run
public import proofs.«01_k».proof.Proof.W2GradV
public import proofs.«01_k».proof.Defs
public import Idealize.ShloMosaic.Lib.Quiescent

/-! # The gradient of the second product's weights: the kernel and the reference agree -/

@[expose] public section

noncomputable section

set_option maxRecDepth 16384

namespace Cert.W2GradIdeal.Val

open Cert.W2GradIdeal Cert.W2GradIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x8192 .f32 := m ((c : Thread nD τ).loc main_arg0)
abbrev x1 : FVec Ideal S1x2048 .f32 := m ((c : Thread nD τ).loc main_arg1)
abbrev x2 : FVec Ideal S4096x2048 .f32 := m ((c : Thread nD τ).loc main_arg2)

theorem ent : Ent m c (fun i k => sqr (nat (x0 m c) k i)) (fun j k => nat (x1 m c) 0 j * nat (x2 m c) k j) where
  a i k := by
    simp only [nat_val, nat_row]
    unfold V
    after_reads_at
    rfl

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v6) = res0 (fun i k => sqr (nat (x0 m c) k i)) (fun j k => nat (x1 m c) 0 j * nat (x2 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final0 (ent m c)), h.2 c⟩) (θ_run_and (run_main m ρ) (unchanged m ρ))

end Cert.W2GradIdeal.Val

namespace Cert.RefW2GradIdeal.Val

open Cert.RefW2GradIdeal Cert.RefW2GradIdeal.Gen Cert.RefW2GradIdeal.Read Cert.Mm Idealize.ShloMosaic

variable (x0 : FVec Ideal S4096x8192 .f32) (x1 : FVec Ideal S1x2048 .f32) (x2 : FVec Ideal S4096x2048 .f32)

theorem read_dot (i : Fin 2048) (j : Fin 8192) : val_main_v8 (F := Ideal) x0 x1 x2 (ix2 i j)
    = prod (fun i k => nat x1 0 i * nat x2 k i) (fun j k => sqr (nat x0 k j)) 4096 i.val j.val :=
  Eq.trans (by pointwise [val_main_v8, val_main_v7, val_main_v6, val_main_v2, val_main_v1, val_main_call0_v0, val_main_call0_cst, sqr]) (prod_first (t := fun k : Fin 4096 => (x1 (ix2 0 i) * x2 (ix2 k i)) * (sqr (x0 (ix2 k j)))) _ _ _ _ _ fun k => by
    simp only [nat_val, nat_row])

theorem read_res0 : val_main_v10 (F := Ideal) x0 x1 x2 = Cert.W2GradIdeal.Val.res0 (fun i k => sqr (nat x0 k i)) (fun j k => nat x1 0 j * nat x2 k j) := by
  funext y
  idx_vars y
  unfold Cert.W2GradIdeal.Val.res0
  rw [prod_comm]
  refine Eq.trans ?_ (read_dot x0 x1 x2 y1 y0)
  rw [val_main_v10_apply, val_main_v9_apply]
  exact congrArg _ (by blk_ext [])

end Cert.RefW2GradIdeal.Val

namespace Cert.W2GradIdeal.Val

open Idealize.ShloMosaic Idealize.SL.Sem

theorem frame_reference : Cert.quiescent_RefW2GradIdeal := fun m ρ _ =>
  (θ_run Cert.RefW2GradIdeal.defs _ _).mono (fun r h => ⟨fun c => (h c).2,
      Idealize.ShloMosaic.sem_eq_zero_of_no_sems (by decide) r.2⟩)
    (Cert.RefW2GradIdeal.Value.run (F := Ideal) m ρ)

theorem algebraic : Cert.algebraic_W2GradIdeal_RefW2GradIdeal := by
  intro m g m' g' _ hargs
  refine ⟨fun c => _, run m g, (θ_run Cert.RefW2GradIdeal.defs _ _).mono (fun r h c => ?_) (Cert.RefW2GradIdeal.Value.run (F := Ideal) m' g')⟩
  obtain ⟨a0, a1, a2⟩ := hargs c
  refine ⟨(h c).1.trans ?_, (h c).2⟩
  · rw [Cert.RefW2GradIdeal.Read.val_main_v10_eq, a0, a1, a2]
    exact Cert.RefW2GradIdeal.Val.read_res0 _ _ _

end Cert.W2GradIdeal.Val
-- ==== Proof.DownBwdV.lean ====
module

public import proofs.«01_k».proof.Proof.Gen.DownBwdIdeal.Frame
public import proofs.«01_k».proof.Proof.Mm

/-! # The gradient of the second product's input: what the kernel leaves -/

@[expose] public section

noncomputable section

set_option maxRecDepth 16384

namespace Cert.DownBwdIdeal.Val

open Cert.DownBwdIdeal Cert.DownBwdIdeal.Gen Cert.Mm Idealize.ShloMosaic Idealize.ShloMosaic.TcCoe Idealize.SL.Sem

/-! ## The expressions of the kernel, read at an index -/

section Pay

variable (x0 : Vec Ideal S1024x2048 .bf16) (x1 : Vec Ideal S1024x2048 .bf16) (x2 : Vec Ideal S1024x1024 .bf16)
  (r : Fin 1024) (d : Fin 1024)

theorem out0_apply : k0_pay1 x0 x1 x2 (ix2 r d)
    = (∑ k : Fin 2048, x0 (ix2 r k) * x1 (ix2 d k)) * (Ideal.ofBits .f32 0x40000000#32 * max (x2 (ix2 r d)) 0) := by
  pointwise [k0_pay1]

end Pay

/-! ## The grid -/

theorem idx : ∀ t : Fin cfg0.N, win0_0.index t = ![t.val / 8, 0]
    ∧ win0_1.index t = ![t.val % 8, 0]
    ∧ win0_2.index t = ![t.val / 8, t.val % 8]
    ∧ win0_3.index t = ![t.val / 8, t.val % 8] ∧ t.val < 32 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q X0 : ℕ → ℕ → EReal) : Prop where
  a : ∀ (i : Fin 4096) (k : Fin 2048), (V m c main_v2 : FVec Ideal S4096x2048 .bf16) (ix2 i k) = P i.val k.val
  b : ∀ (j : Fin 8192) (k : Fin 2048), (V m c main_v3 : FVec Ideal S8192x2048 .bf16) (ix2 j k) = Q j.val k.val
  e0 : ∀ (i : Fin 4096) (j : Fin 8192), (V m c main_v4 : FVec Ideal S4096x8192 .bf16) (ix2 i j) = X0 i.val j.val

variable {m c} {P Q X0 : ℕ → ℕ → EReal} (E : Ent m c P Q X0) (t : Fin cfg0.N)

include E in
theorem rd0 (r : Fin 1024) (k : Fin 2048) : iblk m c 0 t (ix2 r k) = P (1024 * (t.val / 8) + r.val) (k.val) := by
  have ht := (idx t).2.2.2.2
  refine Eq.trans ?_ (E.a ⟨1024 * (t.val / 8) + r.val, by omega⟩ ⟨k.val, by omega⟩)
  blk_ext [iblk, idx t]

include E in
theorem rd1 (d : Fin 1024) (k : Fin 2048) : iblk m c 1 t (ix2 d k) = Q (1024 * (t.val % 8) + d.val) (k.val) := by
  have ht := (idx t).2.2.2.2
  refine Eq.trans ?_ (E.b ⟨1024 * (t.val % 8) + d.val, by omega⟩ ⟨k.val, by omega⟩)
  blk_ext [iblk, idx t]

include E in
theorem rd2 (r : Fin 1024) (d : Fin 1024) : iblk m c 2 t (ix2 r d) = X0 (1024 * (t.val / 8) + r.val) (1024 * (t.val % 8) + d.val) := by
  have ht := (idx t).2.2.2.2
  refine Eq.trans ?_ (E.e0 ⟨1024 * (t.val / 8) + r.val, by omega⟩ ⟨1024 * (t.val % 8) + d.val, by omega⟩)
  blk_ext [iblk, idx t]

include E in
theorem out0 (r : Fin 1024) (d : Fin 1024) : out0_3 (iblk m c 0 t) (iblk m c 1 t) (iblk m c 2 t) (ix2 r d)
    = (prod P Q 2048 (1024 * (t.val / 8) + r.val) (1024 * (t.val % 8) + d.val)) * (Ideal.ofBits .f32 0x40000000#32 * max (X0 (1024 * (t.val / 8) + r.val) (1024 * (t.val % 8) + d.val)) 0) := by
  unfold out0_3
  rw [View.canon_unit_zero hz2]
  simp only [View.ld_unit_zero (S := S1024x1024) hz2, View.ld_unit_zero (S := S1024x2048) hz2]
  rw [out0_apply, rd2 E]
  exact congrArg (fun v => v * (Ideal.ofBits .f32 0x40000000#32 * max (X0 (1024 * (t.val / 8) + r.val) (1024 * (t.val % 8) + d.val)) 0)) (prod_first (b := 2048) P Q _ _ fun k => by rw [rd0 E, rd1 E])

/-- The array of the results. -/
def res0 (P Q X0 : ℕ → ℕ → EReal) : FVec Ideal S4096x8192 .bf16 := fun y => (prod P Q 2048 (y 0).val (y 1).val) * (Ideal.ofBits .f32 0x40000000#32 * max (X0 (y 0).val (y 1).val) 0)

include E in
theorem point0 (y : S1024x1024.Idx) :
    out0_3 (iblk m c 0 t) (iblk m c 1 t) (iblk m c 2 t) y = res0 P Q X0 (((cfg0.win 3).blk t).view.emb y) := by
  idx_vars y
  refine (out0 E t y0 y1).trans ?_
  unfold res0
  blk_simp [idx t]
  have ht := (idx t).2.2.2.2
  simp only [Nat.mul_comm _ 1024]

include E in
theorem final0 : (dats m 0 c).arrAt 3 cfg0.N = res0 P Q X0 := by
  refine (dats m 0 c).arrAt_eq_of_covers 3 _ (by decide +kernel) fun t ht y => ?_
  blk_simp
  rw [after0_3]
  exact point0 E t y

end Cert.DownBwdIdeal.Val
-- ==== Proof.DownBwdR.lean ====
module

public import proofs.«01_k».proof.Proof.Gen.RefDownBwdIdeal.Read
public import proofs.«01_k».proof.Proof.Gen.RefDownBwdIdeal.Run
public import proofs.«01_k».proof.Proof.DownBwdV
public import proofs.«01_k».proof.Defs
public import Idealize.ShloMosaic.Lib.Quiescent

/-! # The gradient of the second product's input: the kernel and the reference agree -/

@[expose] public section

noncomputable section

set_option maxRecDepth 16384

namespace Cert.DownBwdIdeal.Val

open Cert.DownBwdIdeal Cert.DownBwdIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x8192 .f32 := m ((c : Thread nD τ).loc main_arg0)
abbrev x1 : FVec Ideal S8192x2048 .f32 := m ((c : Thread nD τ).loc main_arg1)
abbrev x2 : FVec Ideal S1x2048 .f32 := m ((c : Thread nD τ).loc main_arg2)
abbrev x3 : FVec Ideal S4096x2048 .f32 := m ((c : Thread nD τ).loc main_arg3)

theorem ent : Ent m c (fun i k => nat (x2 m c) 0 k * nat (x3 m c) i k) (fun j k => nat (x1 m c) j k) (fun i j => nat (x0 m c) i j) where
  a i k := by
    simp only [nat_val, nat_row]
    unfold V
    after_reads_at

  b j k := by
    simp only [nat_val, nat_row]
    unfold V
    after_reads_at

  e0 i j := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v5) = res0 (fun i k => nat (x2 m c) 0 k * nat (x3 m c) i k) (fun j k => nat (x1 m c) j k) (fun i j => nat (x0 m c) i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (final0 (ent m c)), h.2 c⟩) (θ_run_and (run_main m ρ) (unchanged m ρ))

end Cert.DownBwdIdeal.Val

namespace Cert.RefDownBwdIdeal.Val

open Cert.RefDownBwdIdeal Cert.RefDownBwdIdeal.Gen Cert.RefDownBwdIdeal.Read Cert.Mm Idealize.ShloMosaic

variable (x0 : FVec Ideal S4096x8192 .f32) (x1 : FVec Ideal S8192x2048 .f32) (x2 : FVec Ideal S1x2048 .f32) (x3 : FVec Ideal S4096x2048 .f32)

theorem read_dot (i : Fin 4096) (j : Fin 8192) : val_main_v12 (F := Ideal) x1 x2 x3 (ix2 i j)
    = prod (fun i k => nat x2 0 k * nat x3 i k) (fun j k => nat x1 j k) 2048 i.val j.val :=
  Eq.trans (by pointwise [val_main_v12, val_main_v11, val_main_v10]) (prod_first (t := fun k : Fin 2048 => (x2 (ix2 0 k) * x3 (ix2 i k)) * (x1 (ix2 j k))) _ _ _ _ _ fun k => by
    simp only [nat_val, nat_row])

theorem read_res0 : val_main_v16 (F := Ideal) x0 x1 x2 x3 = Cert.DownBwdIdeal.Val.res0 (fun i k => nat x2 0 k * nat x3 i k) (fun j k => nat x1 j k) (fun i j => nat x0 i j) := by
  funext y
  idx_vars y
  unfold Cert.DownBwdIdeal.Val.res0
  rw [val_main_v16_apply, val_main_v15_apply, val_main_v13_apply, read_dot x1 x2 x3 y0 y1]
  pointwise [val_main_v2, val_main_v1, val_main_cst, val_main_v6, val_main_v5, val_main_v0, val_main_cst_1, val_main_call0_v0, val_main_call0_cst, val_main_v14, val_main_cst_2]
  rw [nat_val x0 y0 y1]
  split_ifs with h
  · rfl
  · rw [max_eq_right (not_lt.mp h), mul_zero, mul_zero]

end Cert.RefDownBwdIdeal.Val

namespace Cert.DownBwdIdeal.Val

open Idealize.ShloMosaic Idealize.SL.Sem

theorem frame_reference : Cert.quiescent_RefDownBwdIdeal := fun m ρ _ =>
  (θ_run Cert.RefDownBwdIdeal.defs _ _).mono (fun r h => ⟨fun c => (h c).2,
      Idealize.ShloMosaic.sem_eq_zero_of_no_sems (by decide) r.2⟩)
    (Cert.RefDownBwdIdeal.Value.run (F := Ideal) m ρ)

theorem algebraic : Cert.algebraic_DownBwdIdeal_RefDownBwdIdeal := by
  intro m g m' g' _ hargs
  refine ⟨fun c => _, run m g, (θ_run Cert.RefDownBwdIdeal.defs _ _).mono (fun r h c => ?_) (Cert.RefDownBwdIdeal.Value.run (F := Ideal) m' g')⟩
  obtain ⟨a0, a1, a2, a3⟩ := hargs c
  refine ⟨(h c).1.trans ?_, (h c).2⟩
  · rw [Cert.RefDownBwdIdeal.Read.val_main_v16_eq, a0, a1, a2, a3]
    exact Cert.RefDownBwdIdeal.Val.read_res0 _ _ _ _

end Cert.DownBwdIdeal.Val
-- ==== Proof.WinGradV.lean ====
module

public import proofs.«01_k».proof.Proof.Gen.WinGradIdeal.Frame
public import proofs.«01_k».proof.Proof.Mm

/-! # The gradient of the mixer's input weights: what the kernel leaves -/

@[expose] public section

noncomputable section

set_option maxRecDepth 16384

namespace Cert.WinGradIdeal.Val

open Cert.WinGradIdeal Cert.WinGradIdeal.Gen Cert.Mm Idealize.ShloMosaic Idealize.ShloMosaic.TcCoe Idealize.SL.Sem

/-! ## The expressions of the kernel, read at an index -/

section Pay

variable (x0 : Vec Ideal S2048x1024 .bf16) (x1 : Vec Ideal S2048x1024 .bf16)
  (s : Vec Ideal S1024x1024 .f32) (r : Fin 1024) (d : Fin 1024)

theorem first_apply : k0_pay2 x0 x1 (ix2 r d) = ∑ k : Fin 2048, x0 (ix2 k r) * x1 (ix2 k d) := by
  pointwise [k0_pay2, k0_pay1]

theorem out0_apply : k0_pay4 x0 x1 s (ix3 0 r d)
    = (s (ix2 r d) + ∑ k : Fin 2048, x0 (ix2 k r) * x1 (ix2 k d)) := by
  pointwise [k0_pay4, k0_pay1]

end Pay

/-! ## What a point leaves -/

section Cases

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1x1024x1024 .bf16) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S1024x1024) hz2, View.ld_unit_zero (S := S2048x1024) hz2]

theorem case_out0 (hc0 : ¬cond0_0 i) (hc1 : ¬cond0_1 i) (hc2 : cond0_2 i) :
    out0_B_2 c i arg3 harg3 arg4 harg4 arg5 harg5 arg6 harg6 hc0 hc1 hc2 x0 x1 xs = k0_pay4 x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero hz3]
  simp only [View.readAt_eq_ld, harg3.read_unread, harg4.read_unread, harg6.read_unread, View.ld_unit_zero (S := S1024x1024) hz2, View.ld_unit_zero (S := S2048x1024) hz2]

end Cases

/-! ## The grid -/

theorem idx : ∀ t : Fin cfg0.N, win0_0.index t = ![t.val % 2, t.val / 24]
    ∧ win0_1.index t = ![t.val % 2, t.val / 2 % 12]
    ∧ win0_2.index t = ![(t.val / 2 % 12) / 3, t.val / 24, (t.val / 2 % 12) % 3] ∧ t.val < 48 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 2048) (k : Fin 4096), (V m c main_v0 : FVec Ideal S4096x2048 .bf16) (ix2 k i) = P i.val k.val
  b : ∀ (j : Fin 12288) (k : Fin 4096), (V m c main_v1 : FVec Ideal S4096x12288 .bf16) (ix2 k j) = Q j.val k.val

variable {m c} {P Q : ℕ → ℕ → EReal} (E : Ent m c P Q) (t : Fin cfg0.N)

include E in
theorem rd0 (r : Fin 1024) (k : Fin 2048) : iblk m c 0 t (ix2 k r) = P (1024 * (t.val / 24) + r.val) (2048 * (t.val % 2) + k.val) := by
  have ht := (idx t).2.2.2
  refine Eq.trans ?_ (E.a ⟨1024 * (t.val / 24) + r.val, by omega⟩ ⟨2048 * (t.val % 2) + k.val, by omega⟩)
  blk_ext [iblk, idx t]

include E in
theorem rd1 (d : Fin 1024) (k : Fin 2048) : iblk m c 1 t (ix2 k d) = Q (1024 * (t.val / 2 % 12) + d.val) (2048 * (t.val % 2) + k.val) := by
  have ht := (idx t).2.2.2
  refine Eq.trans ?_ (E.b ⟨1024 * (t.val / 2 % 12) + d.val, by omega⟩ ⟨2048 * (t.val % 2) + k.val, by omega⟩)
  blk_ext [iblk, idx t]

include E in
/-- The accumulator after a point that is not the last of its block. -/
theorem acc (h : t.val % 2 = 0) (r : Fin 1024) (d : Fin 1024) : (outsAt0 m c t.val t.isLt).2 (ix2 r d)
    = prod P Q 2048 (1024 * (t.val / 24) + r.val) (1024 * (t.val / 2 % 12) + d.val) := by
  rw [outsAt0_A m c t h (by omega)]
  dsimp only
  rw [case_first, first_apply]
  exact prod_first _ _ _ _ _ fun k => by rw [rd0 E, rd1 E, h, Nat.mul_zero, Nat.zero_add]

include E in
theorem out0 (h : t.val % 2 = 1) (r : Fin 1024) (d : Fin 1024) : (outsAt0 m c t.val t.isLt).1 (ix3 0 r d)
    = prod P Q 4096 (1024 * (t.val / 24) + r.val) (1024 * (t.val / 2 % 12) + d.val) := by
  have hN := t.isLt
  rw [outsAt0_B m c t (by omega) h]
  dsimp only
  rw [case_out0, out0_apply]
  have ha := acc E ⟨t.val - 1, by omega⟩ (by simp only; omega) r d
  simp only at ha
  rw [show (t.val - 1) / 24 = t.val / 24 by omega, show (t.val - 1) / 2 = t.val / 2 by omega] at ha
  exact congrArg (fun v => v) (prod_block P Q 2048 1 _ _ ha fun k => by rw [rd0 E, rd1 E, h])

/-- The array of the results. -/
def res0 (P Q : ℕ → ℕ → EReal) : FVec Ideal S4x2048x3072 .bf16 := fun y => prod P Q 4096 (y 1).val (3072 * (y 0).val + (y 2).val)

include E in
theorem point0 (h : t.val % 2 = 1) (y : S1x1024x1024.Idx) :
    (outsAt0 m c t.val t.isLt).1 y = res0 P Q (((cfg0.win 2).blk t).view.emb y) := by
  idx_vars y
  obtain rfl : y0 = 0 := Subsingleton.elim _ _
  refine (out0 E t h y1 y2).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t ((flush0_2 t).mp ht) y

end Cert.WinGradIdeal.Val
-- ==== Proof.WinGradR.lean ====
module

public import proofs.«01_k».proof.Proof.Gen.RefWinGradIdeal.Read
public import proofs.«01_k».proof.Proof.Gen.RefWinGradIdeal.Run
public import proofs.«01_k».proof.Proof.WinGradV
public import proofs.«01_k».proof.Defs
public import Idealize.ShloMosaic.Lib.Quiescent

/-! # The gradient of the mixer's input weights: the kernel and the reference agree -/

@[expose] public section

noncomputable section

set_option maxRecDepth 16384

namespace Cert.WinGradIdeal.Val

open Cert.WinGradIdeal Cert.WinGradIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S4096x12288 .f32 := m ((c : Thread nD τ).loc main_arg1)

theorem ent : Ent m c (fun i k => nat (x0 m c) k i) (fun j k => nat (x1 m c) k j) where
  a i k := by
    simp only [nat_val, nat_row]
    unfold V
    after_reads_at

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v2) = res0 (fun i k => nat (x0 m c) k i) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), h.2 c⟩) (θ_run_and (run_main m ρ) (unchanged m ρ))

end Cert.WinGradIdeal.Val

namespace Cert.RefWinGradIdeal.Val

open Cert.RefWinGradIdeal Cert.RefWinGradIdeal.Gen Cert.RefWinGradIdeal.Read Cert.Mm Idealize.ShloMosaic

variable (x0 : FVec Ideal S4096x2048 .f32) (x1 : FVec Ideal S4096x12288 .f32)

theorem read_dot (i : Fin 12288) (j : Fin 2048) : val_main_v2 (F := Ideal) x0 x1 (ix2 i j)
    = prod (fun i k => nat x1 k i) (fun j k => nat x0 k j) 4096 i.val j.val :=
  Eq.trans (by pointwise [val_main_v2]) (prod_first (t := fun k : Fin 4096 => (x1 (ix2 k i)) * (x0 (ix2 k j))) _ _ _ _ _ fun k => by
    simp only [nat_val, nat_row])

theorem read_res0 : val_main_v6 (F := Ideal) x0 x1 = Cert.WinGradIdeal.Val.res0 (fun i k => nat x0 k i) (fun j k => nat x1 k j) := by
  funext y
  idx_vars y
  unfold Cert.WinGradIdeal.Val.res0
  rw [prod_comm]
  have h : 3072 * y0.val + y2.val < 12288 := by omega
  refine Eq.trans ?_ (read_dot x0 x1 ⟨3072 * y0.val + y2.val, h⟩ y1)
  rw [val_main_v6_apply, val_main_v5_apply, val_main_v4_apply, val_main_v3_apply]
  show val_main_v2 (F := Ideal) x0 x1 _ = val_main_v2 (F := Ideal) x0 x1 _
  congr 1
  funext a
  apply Fin.ext
  fin_cases a <;> simp [ix2, ix3] <;> omega

end Cert.RefWinGradIdeal.Val

namespace Cert.WinGradIdeal.Val

open Idealize.ShloMosaic Idealize.SL.Sem

theorem frame_reference : Cert.quiescent_RefWinGradIdeal := fun m ρ _ =>
  (θ_run Cert.RefWinGradIdeal.defs _ _).mono (fun r h => ⟨fun c => (h c).2,
      Idealize.ShloMosaic.sem_eq_zero_of_no_sems (by decide) r.2⟩)
    (Cert.RefWinGradIdeal.Value.run (F := Ideal) m ρ)

theorem algebraic : Cert.algebraic_WinGradIdeal_RefWinGradIdeal := by
  intro m g m' g' _ hargs
  refine ⟨fun c => _, run m g, (θ_run Cert.RefWinGradIdeal.defs _ _).mono (fun r h c => ?_) (Cert.RefWinGradIdeal.Value.run (F := Ideal) m' g')⟩
  obtain ⟨a0, a1⟩ := hargs c
  refine ⟨(h c).1.trans ?_, (h c).2⟩
  · rw [Cert.RefWinGradIdeal.Read.val_main_v6_eq, a0, a1]
    exact Cert.RefWinGradIdeal.Val.read_res0 _ _

end Cert.WinGradIdeal.Val
-- ==== Proof.InBwdV.lean ====
module

public import proofs.«01_k».proof.Proof.Gen.InBwdIdeal.Frame
public import proofs.«01_k».proof.Proof.Mm

/-! # The gradient of the mixer's input: what the kernel leaves -/

@[expose] public section

noncomputable section

set_option maxRecDepth 16384

namespace Cert.InBwdIdeal.Val

open Cert.InBwdIdeal Cert.InBwdIdeal.Gen Cert.Mm Idealize.ShloMosaic Idealize.ShloMosaic.TcCoe Idealize.SL.Sem

/-! ## The expressions of the kernel, read at an index -/

section Pay

variable (x0 : Vec Ideal S1024x1536 .bf16) (x1 : Vec Ideal S1x1024x1536 .bf16)
  (s : Vec Ideal S1024x1024 .f32) (r : Fin 1024) (d : Fin 1024)

theorem first_apply : k0_pay2 x0 x1 (ix2 r d) = ∑ k : Fin 1536, x0 (ix2 r k) * x1 (ix3 0 d k) := by
  pointwise [k0_pay2, k0_pay1]

theorem next_apply : k0_pay3 x0 x1 s (ix2 r d) = s (ix2 r d) + ∑ k : Fin 1536, x0 (ix2 r k) * x1 (ix3 0 d k) := by
  pointwise [k0_pay3, k0_pay1]

theorem out0_apply : k0_pay4 x0 x1 s (ix2 r d)
    = (s (ix2 r d) + ∑ k : Fin 1536, x0 (ix2 r k) * x1 (ix3 0 d k)) := by
  pointwise [k0_pay4, k0_pay1]

end Pay

/-! ## What a point leaves -/

section Cases

variable (c : Dev nD) (i : grid0.Coords) (arg3 : Memref sig .tc .vmem S1024x1536 .bf16) (harg3 : arg3.IsWhole) (arg4 : Memref sig .tc .vmem S1x1024x1536 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1536 .bf16) (x1 : Vec Ideal S1x1024x1536 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S1024x1024) hz2, View.ld_unit_zero (S := S1024x1536) hz2, View.ld_unit_zero (S := S1x1024x1536) hz3]

theorem case_next (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero hz2]
  simp only [View.readAt_eq_ld, harg3.read_unread, harg4.read_unread, harg6.read_unread, View.ld_unit_zero (S := S1024x1024) hz2, View.ld_unit_zero (S := S1024x1536) hz2, View.ld_unit_zero (S := S1x1024x1536) hz3]

theorem case_out0 (hc0 : ¬cond0_0 i) (hc1 : ¬cond0_1 i) (hc2 : cond0_2 i) :
    out0_C_2 c i arg3 harg3 arg4 harg4 arg5 harg5 arg6 harg6 hc0 hc1 hc2 x0 x1 xs = k0_pay4 x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero hz2]
  simp only [View.readAt_eq_ld, harg3.read_unread, harg4.read_unread, harg6.read_unread, View.ld_unit_zero (S := S1024x1024) hz2, View.ld_unit_zero (S := S1024x1536) hz2, View.ld_unit_zero (S := S1x1024x1536) hz3]

end Cases

/-! ## The grid -/

theorem idx : ∀ t : Fin cfg0.N, win0_0.index t = ![t.val / 16, t.val % 8]
    ∧ win0_1.index t = ![(t.val % 8) / 2, t.val / 8 % 2, (t.val % 8) % 2]
    ∧ win0_2.index t = ![t.val / 16, t.val / 8 % 2] ∧ t.val < 64 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 4096) (k : Fin 12288), (V m c main_v0 : FVec Ideal S4096x12288 .bf16) (ix2 i k) = P i.val k.val
  b : ∀ (p : Fin 4) (j : Fin 2048) (k : Fin 3072), (V m c main_v3 : FVec Ideal S4x2048x3072 .bf16) (ix3 p j k) = Q j.val (3072 * p.val + k.val)

variable {m c} {P Q : ℕ → ℕ → EReal} (E : Ent m c P Q) (t : Fin cfg0.N)

include E in
theorem rd0 (r : Fin 1024) (k : Fin 1536) : iblk m c 0 t (ix2 r k) = P (1024 * (t.val / 16) + r.val) (1536 * (t.val % 8) + k.val) := by
  have ht := (idx t).2.2.2
  refine Eq.trans ?_ (E.a ⟨1024 * (t.val / 16) + r.val, by omega⟩ ⟨1536 * (t.val % 8) + k.val, by omega⟩)
  blk_ext [iblk, idx t]

include E in
theorem rd1 (d : Fin 1024) (k : Fin 1536) : iblk m c 1 t (ix3 0 d k) = Q (1024 * (t.val / 8 % 2) + d.val) (1536 * (t.val % 8) + k.val) := by
  have ht := (idx t).2.2.2
  refine Eq.trans ?_ ((E.b ⟨(t.val % 8) / 2, by omega⟩ ⟨1024 * (t.val / 8 % 2) + d.val, by omega⟩ ⟨1536 * ((t.val % 8) % 2) + k.val, by omega⟩).trans (by simp only <;> congr 1 <;> omega))
  blk_ext [iblk, idx t]

include E in
/-- The accumulator after a point that is not the last of its block. -/
theorem acc_at : ∀ (u : ℕ) (t : Fin cfg0.N), t.val = u → t.val % 8 < 7 → ∀ (r : Fin 1024) (d : Fin 1024),
    (outsAt0 m c t.val t.isLt).2 (ix2 r d) = prod P Q (1536 * (t.val % 8 + 1)) (1024 * (t.val / 16) + r.val) (1024 * (t.val / 8 % 2) + d.val)
  | 0, t, hu, h, r, d => by
    have h0 : t.val % 8 = 0 := by omega
    rw [outsAt0_A m c t h0 (by omega) (by omega)]
    dsimp only
    rw [case_first, first_apply, h0]
    exact prod_first _ _ _ _ _ fun k => by rw [rd0 E, rd1 E, h0, Nat.mul_zero, Nat.zero_add]
  | u + 1, t, hu, h, r, d => by
    by_cases h0 : t.val % 8 = 0
    · rw [outsAt0_A m c t h0 (by omega) (by omega)]
      dsimp only
      rw [case_first, first_apply, h0]
      exact prod_first _ _ _ _ _ fun k => by rw [rd0 E, rd1 E, h0, Nat.mul_zero, Nat.zero_add]
    · have hN := t.isLt
      rw [outsAt0_B m c t h0 (by omega) (by omega)]
      dsimp only
      rw [case_next, next_apply]
      have ha := acc_at u ⟨t.val - 1, by omega⟩ (by simp only; omega) (by simp only; omega) r d
      simp only at ha
      rw [show (t.val - 1) / 16 = t.val / 16 by omega, show (t.val - 1) / 8 = t.val / 8 by omega, show (t.val - 1) % 8 + 1 = t.val % 8 by omega] at ha
      exact prod_block P Q 1536 _ _ _ ha fun k => by rw [rd0 E, rd1 E]

include E in
theorem acc (h : t.val % 8 < 7) (r : Fin 1024) (d : Fin 1024) : (outsAt0 m c t.val t.isLt).2 (ix2 r d)
    = prod P Q (1536 * (t.val % 8 + 1)) (1024 * (t.val / 16) + r.val) (1024 * (t.val / 8 % 2) + d.val) := acc_at E t.val t rfl h r d

include E in
theorem out0 (h : t.val % 8 = 7) (r : Fin 1024) (d : Fin 1024) : (outsAt0 m c t.val t.isLt).1 (ix2 r d)
    = prod P Q 12288 (1024 * (t.val / 16) + r.val) (1024 * (t.val / 8 % 2) + d.val) := by
  have hN := t.isLt
  rw [outsAt0_C m c t (by omega) (by omega) h]
  dsimp only
  rw [case_out0, out0_apply]
  have ha := acc E ⟨t.val - 1, by omega⟩ (by simp only; omega) r d
  simp only at ha
  rw [show (t.val - 1) / 16 = t.val / 16 by omega, show (t.val - 1) / 8 = t.val / 8 by omega, show (t.val - 1) % 8 + 1 = 7 by omega] at ha
  exact congrArg (fun v => v) (prod_block P Q 1536 7 _ _ ha fun k => by rw [rd0 E, rd1 E, h])

/-- The array of the results. -/
def res0 (P Q : ℕ → ℕ → EReal) : FVec Ideal S4096x2048 .bf16 := fun y => prod P Q 12288 (y 0).val (y 1).val

include E in
theorem point0 (h : t.val % 8 = 7) (y : S1024x1024.Idx) :
    (outsAt0 m c t.val t.isLt).1 y = res0 P Q (((cfg0.win 2).blk t).view.emb y) := by
  idx_vars y
  refine (out0 E t h y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t ((flush0_2 t).mp ht) y

end Cert.InBwdIdeal.Val
-- ==== Proof.InBwdR.lean ====
module

public import proofs.«01_k».proof.Proof.Gen.RefInBwdIdeal.Read
public import proofs.«01_k».proof.Proof.Gen.RefInBwdIdeal.Run
public import proofs.«01_k».proof.Proof.InBwdV
public import proofs.«01_k».proof.Defs
public import Idealize.ShloMosaic.Lib.Quiescent

/-! # The gradient of the mixer's input: the kernel and the reference agree -/

@[expose] public section

noncomputable section

set_option maxRecDepth 16384

namespace Cert.InBwdIdeal.Val

open Cert.InBwdIdeal Cert.InBwdIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S2048x12288 .f32 := m ((c : Thread nD τ).loc main_arg0)
abbrev x1 : FVec Ideal S4096x12288 .f32 := m ((c : Thread nD τ).loc main_arg1)

theorem ent : Ent m c (fun i k => nat (x1 m c) i k) (fun j k => nat (x0 m c) j k) where
  a i k := by
    simp only [nat_val, nat_row]
    unfold V
    after_reads_at

  b p j k := by
    have h : 3072 * p.val + k.val < 12288 := by omega
    refine Eq.trans ?_ (nat_val (x0 m c) j ⟨3072 * p.val + k.val, h⟩).symm
    unfold V
    after_reads_at
    congr 1
    funext a
    apply Fin.ext
    fin_cases a <;> simp [ix2, ix3] <;> omega

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4) = res0 (fun i k => nat (x1 m c) i k) (fun j k => nat (x0 m c) j k)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), h.2 c⟩) (θ_run_and (run_main m ρ) (unchanged m ρ))

end Cert.InBwdIdeal.Val

namespace Cert.RefInBwdIdeal.Val

open Cert.RefInBwdIdeal Cert.RefInBwdIdeal.Gen Cert.RefInBwdIdeal.Read Cert.Mm Idealize.ShloMosaic

variable (x0 : FVec Ideal S2048x12288 .f32) (x1 : FVec Ideal S4096x12288 .f32)

theorem read_dot (i : Fin 4096) (j : Fin 2048) : val_main_v2 (F := Ideal) x0 x1 (ix2 i j)
    = prod (fun i k => nat x1 i k) (fun j k => nat x0 j k) 12288 i.val j.val :=
  Eq.trans (by pointwise [val_main_v2]) (prod_first (t := fun k : Fin 12288 => (x1 (ix2 i k)) * (x0 (ix2 j k))) _ _ _ _ _ fun k => by
    simp only [nat_val, nat_row])

theorem read_res0 : val_main_v3 (F := Ideal) x0 x1 = Cert.InBwdIdeal.Val.res0 (fun i k => nat x1 i k) (fun j k => nat x0 j k) := by
  funext y
  idx_vars y
  unfold Cert.InBwdIdeal.Val.res0
  exact (val_main_v3_apply _ _ _).trans (read_dot x0 x1 y0 y1)

end Cert.RefInBwdIdeal.Val

namespace Cert.InBwdIdeal.Val

open Idealize.ShloMosaic Idealize.SL.Sem

theorem frame_reference : Cert.quiescent_RefInBwdIdeal := fun m ρ _ =>
  (θ_run Cert.RefInBwdIdeal.defs _ _).mono (fun r h => ⟨fun c => (h c).2,
      Idealize.ShloMosaic.sem_eq_zero_of_no_sems (by decide) r.2⟩)
    (Cert.RefInBwdIdeal.Value.run (F := Ideal) m ρ)

theorem algebraic : Cert.algebraic_InBwdIdeal_RefInBwdIdeal := by
  intro m g m' g' _ hargs
  refine ⟨fun c => _, run m g, (θ_run Cert.RefInBwdIdeal.defs _ _).mono (fun r h c => ?_) (Cert.RefInBwdIdeal.Value.run (F := Ideal) m' g')⟩
  obtain ⟨a0, a1⟩ := hargs c
  refine ⟨(h c).1.trans ?_, (h c).2⟩
  · rw [Cert.RefInBwdIdeal.Read.val_main_v3_eq, a0, a1]
    exact Cert.RefInBwdIdeal.Val.read_res0 _ _

end Cert.InBwdIdeal.Val
-- ==== Proof.WoutGradV.lean ====
module

public import proofs.«01_k».proof.Proof.Gen.WoutGradIdeal.Frame
public import proofs.«01_k».proof.Proof.Mm

/-! # The gradient of the mixer's output weights: what the kernel leaves -/

@[expose] public section

noncomputable section

set_option maxRecDepth 16384

namespace Cert.WoutGradIdeal.Val

open Cert.WoutGradIdeal Cert.WoutGradIdeal.Gen Cert.Mm Idealize.ShloMosaic Idealize.ShloMosaic.TcCoe Idealize.SL.Sem

/-! ## The expressions of the kernel, read at an index -/

section Pay

variable (x0 : Vec Ideal S2048x1024 .bf16) (x1 : Vec Ideal S2048x1024 .bf16)
  (s : Vec Ideal S1024x1024 .f32) (r : Fin 1024) (d : Fin 1024)

theorem first_apply : k0_pay2 x0 x1 (ix2 r d) = ∑ k : Fin 2048, x0 (ix2 k r) * x1 (ix2 k d) := by
  pointwise [k0_pay2, k0_pay1]

theorem out0_apply : k0_pay4 x0 x1 s (ix2 r d)
    = (s (ix2 r d) + ∑ k : Fin 2048, x0 (ix2 k r) * x1 (ix2 k d)) := by
  pointwise [k0_pay4, k0_pay1]

end Pay

/-! ## What a point leaves -/

section Cases

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S1024x1024) hz2, View.ld_unit_zero (S := S2048x1024) hz2]

theorem case_out0 (hc0 : ¬cond0_0 i) (hc1 : ¬cond0_1 i) (hc2 : cond0_2 i) :
    out0_B_2 c i arg3 harg3 arg4 harg4 arg5 harg5 arg6 harg6 hc0 hc1 hc2 x0 x1 xs = k0_pay4 x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero hz2]
  simp only [View.readAt_eq_ld, harg3.read_unread, harg4.read_unread, harg6.read_unread, View.ld_unit_zero (S := S1024x1024) hz2, View.ld_unit_zero (S := S2048x1024) hz2]

end Cases

/-! ## The grid -/

theorem idx : ∀ t : Fin cfg0.N, win0_0.index t = ![t.val % 2, t.val / 4]
    ∧ win0_1.index t = ![t.val % 2, t.val / 2 % 2]
    ∧ win0_2.index t = ![t.val / 4, t.val / 2 % 2] ∧ t.val < 24 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 6144) (k : Fin 4096), (V m c main_v0 : FVec Ideal S4096x6144 .bf16) (ix2 k i) = P i.val k.val
  b : ∀ (j : Fin 2048) (k : Fin 4096), (V m c main_v3 : FVec Ideal S4096x2048 .bf16) (ix2 k j) = Q j.val k.val

variable {m c} {P Q : ℕ → ℕ → EReal} (E : Ent m c P Q) (t : Fin cfg0.N)

include E in
theorem rd0 (r : Fin 1024) (k : Fin 2048) : iblk m c 0 t (ix2 k r) = P (1024 * (t.val / 4) + r.val) (2048 * (t.val % 2) + k.val) := by
  have ht := (idx t).2.2.2
  refine Eq.trans ?_ (E.a ⟨1024 * (t.val / 4) + r.val, by omega⟩ ⟨2048 * (t.val % 2) + k.val, by omega⟩)
  blk_ext [iblk, idx t]

include E in
theorem rd1 (d : Fin 1024) (k : Fin 2048) : iblk m c 1 t (ix2 k d) = Q (1024 * (t.val / 2 % 2) + d.val) (2048 * (t.val % 2) + k.val) := by
  have ht := (idx t).2.2.2
  refine Eq.trans ?_ (E.b ⟨1024 * (t.val / 2 % 2) + d.val, by omega⟩ ⟨2048 * (t.val % 2) + k.val, by omega⟩)
  blk_ext [iblk, idx t]

include E in
/-- The accumulator after a point that is not the last of its block. -/
theorem acc (h : t.val % 2 = 0) (r : Fin 1024) (d : Fin 1024) : (outsAt0 m c t.val t.isLt).2 (ix2 r d)
    = prod P Q 2048 (1024 * (t.val / 4) + r.val) (1024 * (t.val / 2 % 2) + d.val) := by
  rw [outsAt0_A m c t h (by omega)]
  dsimp only
  rw [case_first, first_apply]
  exact prod_first _ _ _ _ _ fun k => by rw [rd0 E, rd1 E, h, Nat.mul_zero, Nat.zero_add]

include E in
theorem out0 (h : t.val % 2 = 1) (r : Fin 1024) (d : Fin 1024) : (outsAt0 m c t.val t.isLt).1 (ix2 r d)
    = prod P Q 4096 (1024 * (t.val / 4) + r.val) (1024 * (t.val / 2 % 2) + d.val) := by
  have hN := t.isLt
  rw [outsAt0_B m c t (by omega) h]
  dsimp only
  rw [case_out0, out0_apply]
  have ha := acc E ⟨t.val - 1, by omega⟩ (by simp only; omega) r d
  simp only at ha
  rw [show (t.val - 1) / 4 = t.val / 4 by omega, show (t.val - 1) / 2 = t.val / 2 by omega] at ha
  exact congrArg (fun v => v) (prod_block P Q 2048 1 _ _ ha fun k => by rw [rd0 E, rd1 E, h])

/-- The array of the results. -/
def res0 (P Q : ℕ → ℕ → EReal) : FVec Ideal S6144x2048 .bf16 := fun y => prod P Q 4096 (y 0).val (y 1).val

include E in
theorem point0 (h : t.val % 2 = 1) (y : S1024x1024.Idx) :
    (outsAt0 m c t.val t.isLt).1 y = res0 P Q (((cfg0.win 2).blk t).view.emb y) := by
  idx_vars y
  refine (out0 E t h y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t ((flush0_2 t).mp ht) y

end Cert.WoutGradIdeal.Val
-- ==== Proof.WoutGradR.lean ====
module

public import proofs.«01_k».proof.Proof.Gen.RefWoutGradIdeal.Read
public import proofs.«01_k».proof.Proof.Gen.RefWoutGradIdeal.Run
public import proofs.«01_k».proof.Proof.WoutGradV
public import proofs.«01_k».proof.Defs
public import Idealize.ShloMosaic.Lib.Quiescent

/-! # The gradient of the mixer's output weights: the kernel and the reference agree -/

@[expose] public section

noncomputable section

set_option maxRecDepth 16384

namespace Cert.WoutGradIdeal.Val

open Cert.WoutGradIdeal Cert.WoutGradIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x6144 .f32 := m ((c : Thread nD τ).loc main_arg0)
abbrev x1 : FVec Ideal S1x2048 .f32 := m ((c : Thread nD τ).loc main_arg1)
abbrev x2 : FVec Ideal S4096x2048 .f32 := m ((c : Thread nD τ).loc main_arg2)

theorem ent : Ent m c (fun i k => nat (x0 m c) k i) (fun j k => nat (x1 m c) 0 j * nat (x2 m c) k j) where
  a i k := by
    simp only [nat_val, nat_row]
    unfold V
    after_reads_at

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4) = res0 (fun i k => nat (x0 m c) k i) (fun j k => nat (x1 m c) 0 j * nat (x2 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final0 (ent m c)), h.2 c⟩) (θ_run_and (run_main m ρ) (unchanged m ρ))

end Cert.WoutGradIdeal.Val

namespace Cert.RefWoutGradIdeal.Val

open Cert.RefWoutGradIdeal Cert.RefWoutGradIdeal.Gen Cert.RefWoutGradIdeal.Read Cert.Mm Idealize.ShloMosaic

variable (x0 : FVec Ideal S4096x6144 .f32) (x1 : FVec Ideal S1x2048 .f32) (x2 : FVec Ideal S4096x2048 .f32)

theorem read_dot (i : Fin 2048) (j : Fin 6144) : val_main_v6 (F := Ideal) x0 x1 x2 (ix2 i j)
    = prod (fun i k => nat x1 0 i * nat x2 k i) (fun j k => nat x0 k j) 4096 i.val j.val :=
  Eq.trans (by pointwise [val_main_v6, val_main_v5, val_main_v4]) (prod_first (t := fun k : Fin 4096 => (x1 (ix2 0 i) * x2 (ix2 k i)) * (x0 (ix2 k j))) _ _ _ _ _ fun k => by
    simp only [nat_val, nat_row])

theorem read_res0 : val_main_v8 (F := Ideal) x0 x1 x2 = Cert.WoutGradIdeal.Val.res0 (fun i k => nat x0 k i) (fun j k => nat x1 0 j * nat x2 k j) := by
  funext y
  idx_vars y
  unfold Cert.WoutGradIdeal.Val.res0
  rw [prod_comm]
  refine Eq.trans ?_ (read_dot x0 x1 x2 y1 y0)
  rw [val_main_v8_apply, val_main_v7_apply]
  exact congrArg _ (by blk_ext [])

end Cert.RefWoutGradIdeal.Val

namespace Cert.WoutGradIdeal.Val

open Idealize.ShloMosaic Idealize.SL.Sem

theorem frame_reference : Cert.quiescent_RefWoutGradIdeal := fun m ρ _ =>
  (θ_run Cert.RefWoutGradIdeal.defs _ _).mono (fun r h => ⟨fun c => (h c).2,
      Idealize.ShloMosaic.sem_eq_zero_of_no_sems (by decide) r.2⟩)
    (Cert.RefWoutGradIdeal.Value.run (F := Ideal) m ρ)

theorem algebraic : Cert.algebraic_WoutGradIdeal_RefWoutGradIdeal := by
  intro m g m' g' _ hargs
  refine ⟨fun c => _, run m g, (θ_run Cert.RefWoutGradIdeal.defs _ _).mono (fun r h c => ?_) (Cert.RefWoutGradIdeal.Value.run (F := Ideal) m' g')⟩
  obtain ⟨a0, a1, a2⟩ := hargs c
  refine ⟨(h c).1.trans ?_, (h c).2⟩
  · rw [Cert.RefWoutGradIdeal.Read.val_main_v8_eq, a0, a1, a2]
    exact Cert.RefWoutGradIdeal.Val.read_res0 _ _ _

end Cert.WoutGradIdeal.Val
-- ==== Proof.OutBwdV.lean ====
module

public import proofs.«01_k».proof.Proof.Gen.OutBwdIdeal.Frame
public import proofs.«01_k».proof.Proof.Mm

/-! # The gradient of the mixer's output: what the kernel leaves -/

@[expose] public section

noncomputable section

set_option maxRecDepth 16384

namespace Cert.OutBwdIdeal.Val

open Cert.OutBwdIdeal Cert.OutBwdIdeal.Gen Cert.Mm Idealize.ShloMosaic Idealize.ShloMosaic.TcCoe Idealize.SL.Sem

/-! ## The expressions of the kernel, read at an index -/

section Pay

variable (x0 : Vec Ideal S1024x2048 .bf16) (x1 : Vec Ideal S1024x2048 .bf16)
  (r : Fin 1024) (d : Fin 1024)

theorem out0_apply : k0_pay1 x0 x1 (ix2 r d)
    = (∑ k : Fin 2048, x0 (ix2 r k) * x1 (ix2 d k)) := by
  pointwise [k0_pay1]

end Pay

/-! ## The grid -/

theorem idx : ∀ t : Fin cfg0.N, win0_0.index t = ![t.val / 6, 0]
    ∧ win0_1.index t = ![t.val % 6, 0]
    ∧ win0_2.index t = ![t.val / 6, t.val % 6] ∧ t.val < 24 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 4096) (k : Fin 2048), (V m c main_v2 : FVec Ideal S4096x2048 .bf16) (ix2 i k) = P i.val k.val
  b : ∀ (j : Fin 6144) (k : Fin 2048), (V m c main_v3 : FVec Ideal S6144x2048 .bf16) (ix2 j k) = Q j.val k.val

variable {m c} {P Q : ℕ → ℕ → EReal} (E : Ent m c P Q) (t : Fin cfg0.N)

include E in
theorem rd0 (r : Fin 1024) (k : Fin 2048) : iblk m c 0 t (ix2 r k) = P (1024 * (t.val / 6) + r.val) (k.val) := by
  have ht := (idx t).2.2.2
  refine Eq.trans ?_ (E.a ⟨1024 * (t.val / 6) + r.val, by omega⟩ ⟨k.val, by omega⟩)
  blk_ext [iblk, idx t]

include E in
theorem rd1 (d : Fin 1024) (k : Fin 2048) : iblk m c 1 t (ix2 d k) = Q (1024 * (t.val % 6) + d.val) (k.val) := by
  have ht := (idx t).2.2.2
  refine Eq.trans ?_ (E.b ⟨1024 * (t.val % 6) + d.val, by omega⟩ ⟨k.val, by omega⟩)
  blk_ext [iblk, idx t]

include E in
theorem out0 (r : Fin 1024) (d : Fin 1024) : out0_2 (iblk m c 0 t) (iblk m c 1 t) (ix2 r d)
    = prod P Q 2048 (1024 * (t.val / 6) + r.val) (1024 * (t.val % 6) + d.val) := by
  unfold out0_2
  rw [View.canon_unit_zero hz2]
  simp only [View.ld_unit_zero (S := S1024x2048) hz2]
  rw [out0_apply]
  exact congrArg (fun v => v) (prod_first (b := 2048) P Q _ _ fun k => by rw [rd0 E, rd1 E])

/-- The array of the results. -/
def res0 (P Q : ℕ → ℕ → EReal) : FVec Ideal S4096x6144 .bf16 := fun y => prod P Q 2048 (y 0).val (y 1).val

include E in
theorem point0 (y : S1024x1024.Idx) :
    out0_2 (iblk m c 0 t) (iblk m c 1 t) y = res0 P Q (((cfg0.win 2).blk t).view.emb y) := by
  idx_vars y
  refine (out0 E t y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t y

end Cert.OutBwdIdeal.Val
-- ==== Proof.OutBwdR.lean ====
module

public import proofs.«01_k».proof.Proof.Gen.RefOutBwdIdeal.Read
public import proofs.«01_k».proof.Proof.Gen.RefOutBwdIdeal.Run
public import proofs.«01_k».proof.Proof.OutBwdV
public import proofs.«01_k».proof.Defs
public import Idealize.ShloMosaic.Lib.Quiescent

/-! # The gradient of the mixer's output: the kernel and the reference agree -/

@[expose] public section

noncomputable section

set_option maxRecDepth 16384

namespace Cert.OutBwdIdeal.Val

open Cert.OutBwdIdeal Cert.OutBwdIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S6144x2048 .f32 := m ((c : Thread nD τ).loc main_arg0)
abbrev x1 : FVec Ideal S1x2048 .f32 := m ((c : Thread nD τ).loc main_arg1)
abbrev x2 : FVec Ideal S4096x2048 .f32 := m ((c : Thread nD τ).loc main_arg2)

theorem ent : Ent m c (fun i k => nat (x1 m c) 0 k * nat (x2 m c) i k) (fun j k => nat (x0 m c) j k) where
  a i k := by
    simp only [nat_val, nat_row]
    unfold V
    after_reads_at

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4) = res0 (fun i k => nat (x1 m c) 0 k * nat (x2 m c) i k) (fun j k => nat (x0 m c) j k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final0 (ent m c)), h.2 c⟩) (θ_run_and (run_main m ρ) (unchanged m ρ))

end Cert.OutBwdIdeal.Val

namespace Cert.RefOutBwdIdeal.Val

open Cert.RefOutBwdIdeal Cert.RefOutBwdIdeal.Gen Cert.RefOutBwdIdeal.Read Cert.Mm Idealize.ShloMosaic

variable (x0 : FVec Ideal S6144x2048 .f32) (x1 : FVec Ideal S1x2048 .f32) (x2 : FVec Ideal S4096x2048 .f32)

theorem read_dot (i : Fin 4096) (j : Fin 6144) : val_main_v6 (F := Ideal) x0 x1 x2 (ix2 i j)
    = prod (fun i k => nat x1 0 k * nat x2 i k) (fun j k => nat x0 j k) 2048 i.val j.val :=
  Eq.trans (by pointwise [val_main_v6, val_main_v5, val_main_v4]) (prod_first (t := fun k : Fin 2048 => (x1 (ix2 0 k) * x2 (ix2 i k)) * (x0 (ix2 j k))) _ _ _ _ _ fun k => by
    simp only [nat_val, nat_row])

theorem read_res0 : val_main_v7 (F := Ideal) x0 x1 x2 = Cert.OutBwdIdeal.Val.res0 (fun i k => nat x1 0 k * nat x2 i k) (fun j k => nat x0 j k) := by
  funext y
  idx_vars y
  unfold Cert.OutBwdIdeal.Val.res0
  exact (val_main_v7_apply _ _ _ _).trans (read_dot x0 x1 x2 y0 y1)

end Cert.RefOutBwdIdeal.Val

namespace Cert.OutBwdIdeal.Val

open Idealize.ShloMosaic Idealize.SL.Sem

theorem frame_reference : Cert.quiescent_RefOutBwdIdeal := fun m ρ _ =>
  (θ_run Cert.RefOutBwdIdeal.defs _ _).mono (fun r h => ⟨fun c => (h c).2,
      Idealize.ShloMosaic.sem_eq_zero_of_no_sems (by decide) r.2⟩)
    (Cert.RefOutBwdIdeal.Value.run (F := Ideal) m ρ)

theorem algebraic : Cert.algebraic_OutBwdIdeal_RefOutBwdIdeal := by
  intro m g m' g' _ hargs
  refine ⟨fun c => _, run m g, (θ_run Cert.RefOutBwdIdeal.defs _ _).mono (fun r h c => ?_) (Cert.RefOutBwdIdeal.Value.run (F := Ideal) m' g')⟩
  obtain ⟨a0, a1, a2⟩ := hargs c
  refine ⟨(h c).1.trans ?_, (h c).2⟩
  · rw [Cert.RefOutBwdIdeal.Read.val_main_v7_eq, a0, a1, a2]
    exact Cert.RefOutBwdIdeal.Val.read_res0 _ _ _

end Cert.OutBwdIdeal.Val
-- ==== Proof.MlpUpV.lean ====
module

public import proofs.«01_k».proof.Proof.Gen.MlpUpIdeal.Frame
public import proofs.«01_k».proof.Proof.Mm

/-! # The MLP's first product: what the kernel leaves -/

@[expose] public section

noncomputable section

set_option maxRecDepth 16384

namespace Cert.MlpUpIdeal.Val

open Cert.MlpUpIdeal Cert.MlpUpIdeal.Gen Cert.Mm Idealize.ShloMosaic Idealize.ShloMosaic.TcCoe Idealize.SL.Sem

/-! ## The expressions of the kernel, read at an index -/

section Pay

variable (x0 : Vec Ideal S1024x2048 .bf16) (x1 : Vec Ideal S1x2048x1024 .bf16)
  (r : Fin 1024) (d : Fin 1024)

theorem out0_apply : k0_pay2 x0 x1 (ix2 r d)
    = (∑ k : Fin 2048, x0 (ix2 r k) * x1 (ix3 0 k d)) := by
  pointwise [k0_pay2, k0_pay1, sqr]

theorem out1_apply : k0_pay3 x0 x1 (ix2 r d)
    = sqr ((∑ k : Fin 2048, x0 (ix2 r k) * x1 (ix3 0 k d))) := by
  pointwise [k0_pay3, k0_pay1, sqr]

end Pay

/-! ## The grid -/

theorem idx : ∀ t : Fin cfg0.N, win0_0.index t = ![t.val / 8, 0]
    ∧ win0_1.index t = ![(t.val % 8) / 2, 0, (t.val % 8) % 2]
    ∧ win0_2.index t = ![t.val / 8, t.val % 8]
    ∧ win0_3.index t = ![t.val / 8, t.val % 8] ∧ t.val < 32 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 4096) (k : Fin 2048), (V m c main_v0 : FVec Ideal S4096x2048 .bf16) (ix2 i k) = P i.val k.val
  b : ∀ (p : Fin 4) (k : Fin 2048) (j : Fin 2048), (V m c main_v3 : FVec Ideal S4x2048x2048 .bf16) (ix3 p k j) = Q (2048 * p.val + j.val) k.val

variable {m c} {P Q : ℕ → ℕ → EReal} (E : Ent m c P Q) (t : Fin cfg0.N)

include E in
theorem rd0 (r : Fin 1024) (k : Fin 2048) : iblk m c 0 t (ix2 r k) = P (1024 * (t.val / 8) + r.val) (k.val) := by
  have ht := (idx t).2.2.2.2
  refine Eq.trans ?_ (E.a ⟨1024 * (t.val / 8) + r.val, by omega⟩ ⟨k.val, by omega⟩)
  blk_ext [iblk, idx t]

include E in
theorem rd1 (d : Fin 1024) (k : Fin 2048) : iblk m c 1 t (ix3 0 k d) = Q (1024 * (t.val % 8) + d.val) (k.val) := by
  have ht := (idx t).2.2.2.2
  refine Eq.trans ?_ ((E.b ⟨(t.val % 8) / 2, by omega⟩ ⟨k.val, by omega⟩ ⟨1024 * ((t.val % 8) % 2) + d.val, by omega⟩).trans (by simp only <;> congr 1 <;> omega))
  blk_ext [iblk, idx t]

include E in
theorem out0 (r : Fin 1024) (d : Fin 1024) : out0_2 (iblk m c 0 t) (iblk m c 1 t) (ix2 r d)
    = prod P Q 2048 (1024 * (t.val / 8) + r.val) (1024 * (t.val % 8) + d.val) := by
  unfold out0_2
  rw [View.canon_unit_zero hz2]
  simp only [View.ld_unit_zero (S := S1024x2048) hz2, View.ld_unit_zero (S := S1x2048x1024) hz3]
  rw [out0_apply]
  exact congrArg (fun v => v) (prod_first (b := 2048) P Q _ _ fun k => by rw [rd0 E, rd1 E])

/-- The array of the results. -/
def res0 (P Q : ℕ → ℕ → EReal) : FVec Ideal S4096x8192 .bf16 := fun y => prod P Q 2048 (y 0).val (y 1).val

include E in
theorem point0 (y : S1024x1024.Idx) :
    out0_2 (iblk m c 0 t) (iblk m c 1 t) y = res0 P Q (((cfg0.win 2).blk t).view.emb y) := by
  idx_vars y
  refine (out0 E t y0 y1).trans ?_
  unfold res0
  blk_simp [idx t]
  have ht := (idx t).2.2.2.2
  simp only [Nat.mul_comm _ 1024]

include E in
theorem final0 : (dats m 0 c).arrAt 2 cfg0.N = res0 P Q := by
  refine (dats m 0 c).arrAt_eq_of_covers 2 _ (by decide +kernel) fun t ht y => ?_
  blk_simp
  rw [after0_2]
  exact point0 E t y

include E in
theorem out1 (r : Fin 1024) (d : Fin 1024) : out0_3 (iblk m c 0 t) (iblk m c 1 t) (ix2 r d)
    = sqr ((prod P Q 2048 (1024 * (t.val / 8) + r.val) (1024 * (t.val % 8) + d.val))) := by
  unfold out0_3
  rw [View.canon_unit_zero hz2]
  simp only [View.ld_unit_zero (S := S1024x2048) hz2, View.ld_unit_zero (S := S1x2048x1024) hz3]
  rw [out1_apply]
  exact congrArg (fun v => sqr (v)) (prod_first (b := 2048) P Q _ _ fun k => by rw [rd0 E, rd1 E])

/-- The array of the results. -/
def res1 (P Q : ℕ → ℕ → EReal) : FVec Ideal S4096x8192 .bf16 := fun y => sqr ((prod P Q 2048 (y 0).val (y 1).val))

include E in
theorem point1 (y : S1024x1024.Idx) :
    out0_3 (iblk m c 0 t) (iblk m c 1 t) y = res1 P Q (((cfg0.win 3).blk t).view.emb y) := by
  idx_vars y
  refine (out1 E t y0 y1).trans ?_
  unfold res1
  blk_simp [idx t]
  have ht := (idx t).2.2.2.2
  simp only [Nat.mul_comm _ 1024]

include E in
theorem final1 : (dats m 0 c).arrAt 3 cfg0.N = res1 P Q := by
  refine (dats m 0 c).arrAt_eq_of_covers 3 _ (by decide +kernel) fun t ht y => ?_
  blk_simp
  rw [after0_3]
  exact point1 E t y

end Cert.MlpUpIdeal.Val
-- ==== Proof.MlpUpR.lean ====
module

public import proofs.«01_k».proof.Proof.Gen.RefMlpUpIdeal.Read
public import proofs.«01_k».proof.Proof.Gen.RefMlpUpIdeal.Run
public import proofs.«01_k».proof.Proof.MlpUpV
public import proofs.«01_k».proof.Defs
public import Idealize.ShloMosaic.Lib.Quiescent

/-! # The MLP's first product: the kernel and the reference agree -/

@[expose] public section

noncomputable section

set_option maxRecDepth 16384

namespace Cert.MlpUpIdeal.Val

open Cert.MlpUpIdeal Cert.MlpUpIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S2048x8192 .f32 := m ((c : Thread nD τ).loc main_arg1)

theorem ent : Ent m c (fun i k => nat (x0 m c) i k) (fun j k => nat (x1 m c) k j) where
  a i k := by
    simp only [nat_val, nat_row]
    unfold V
    after_reads_at

  b p k j := by
    have h : 2048 * p.val + j.val < 8192 := by omega
    refine Eq.trans ?_ (nat_val (x1 m c) k ⟨2048 * p.val + j.val, h⟩).symm
    unfold V
    after_reads_at
    congr 1
    funext a
    apply Fin.ext
    fin_cases a <;> simp [ix2, ix3] <;> omega

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res0 (fun i k => nat (x0 m c) i k) (fun j k => nat (x1 m c) k j)
      ∧ r.2.mem ((c.tc : Thread nD τ).loc main_v4_1) = res1 (fun i k => nat (x0 m c) i k) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), ((h.1 c).1 3).trans (final1 (ent m c)), h.2 c⟩) (θ_run_and (run_main m ρ) (unchanged m ρ))

end Cert.MlpUpIdeal.Val

namespace Cert.RefMlpUpIdeal.Val

open Cert.RefMlpUpIdeal Cert.RefMlpUpIdeal.Gen Cert.RefMlpUpIdeal.Read Cert.Mm Idealize.ShloMosaic

variable (x0 : FVec Ideal S4096x2048 .f32) (x1 : FVec Ideal S2048x8192 .f32)

theorem read_dot (i : Fin 4096) (j : Fin 8192) : val_main_v0 (F := Ideal) x0 x1 (ix2 i j)
    = prod (fun i k => nat x0 i k) (fun j k => nat x1 k j) 2048 i.val j.val :=
  Eq.trans (by pointwise [val_main_v0]) (prod_first (t := fun k : Fin 2048 => (x0 (ix2 i k)) * (x1 (ix2 k j))) _ _ _ _ _ fun k => by
    simp only [nat_val, nat_row])

theorem read_res0 : val_main_v1 (F := Ideal) x0 x1 = Cert.MlpUpIdeal.Val.res0 (fun i k => nat x0 i k) (fun j k => nat x1 k j) := by
  funext y
  idx_vars y
  unfold Cert.MlpUpIdeal.Val.res0
  exact (val_main_v1_apply _ _ _).trans (read_dot x0 x1 y0 y1)

theorem read_res1 : val_main_v4 (F := Ideal) x0 x1 = Cert.MlpUpIdeal.Val.res1 (fun i k => nat x0 i k) (fun j k => nat x1 k j) := by
  funext y
  idx_vars y
  unfold Cert.MlpUpIdeal.Val.res1
  rw [val_main_v4_apply, val_main_v3_apply, val_main_v2_apply, read_dot x0 x1 y0 y1]
  pointwise [val_main_call0_v0, val_main_call0_cst, sqr]

end Cert.RefMlpUpIdeal.Val

namespace Cert.MlpUpIdeal.Val

open Idealize.ShloMosaic Idealize.SL.Sem

theorem frame_reference : Cert.quiescent_RefMlpUpIdeal := fun m ρ _ =>
  (θ_run Cert.RefMlpUpIdeal.defs _ _).mono (fun r h => ⟨fun c => (h c).2.2,
      Idealize.ShloMosaic.sem_eq_zero_of_no_sems (by decide) r.2⟩)
    (Cert.RefMlpUpIdeal.Value.run (F := Ideal) m ρ)

theorem algebraic : Cert.algebraic_MlpUpIdeal_RefMlpUpIdeal := by
  intro m g m' g' _ hargs
  refine ⟨fun c => _, fun c => _, run m g, (θ_run Cert.RefMlpUpIdeal.defs _ _).mono (fun r h c => ?_) (Cert.RefMlpUpIdeal.Value.run (F := Ideal) m' g')⟩
  obtain ⟨a0, a1⟩ := hargs c
  refine ⟨(h c).1.trans ?_, (h c).2.1.trans ?_, (h c).2.2⟩
  · rw [Cert.RefMlpUpIdeal.Read.val_main_v1_eq, a0, a1]
    exact Cert.RefMlpUpIdeal.Val.read_res0 _ _
  · rw [Cert.RefMlpUpIdeal.Read.val_main_v4_eq, a0, a1]
    exact Cert.RefMlpUpIdeal.Val.read_res1 _ _

end Cert.MlpUpIdeal.Val
-- ==== Proof.MlpDownV.lean ====
module

public import proofs.«01_k».proof.Proof.Gen.MlpDownIdeal.Frame
public import proofs.«01_k».proof.Proof.Mm

/-! # The MLP's second product: what the kernel leaves -/

@[expose] public section

noncomputable section

set_option maxRecDepth 16384

namespace Cert.MlpDownIdeal.Val

open Cert.MlpDownIdeal Cert.MlpDownIdeal.Gen Cert.Mm Idealize.ShloMosaic Idealize.ShloMosaic.TcCoe Idealize.SL.Sem

/-! ## The expressions of the kernel, read at an index -/

section Pay

variable (x0 : Vec Ideal S1024x2048 .bf16) (x1 : Vec Ideal S2048x1024 .bf16) (x2 : Vec Ideal S1024x1024 .f32) (x3 : Vec Ideal S1x1024 .f32)
  (s : Vec Ideal S1024x1024 .f32) (r : Fin 1024) (d : Fin 1024)

theorem first_apply : k0_pay2 x0 x1 (ix2 r d) = ∑ k : Fin 2048, x0 (ix2 r k) * x1 (ix2 k d) := by
  pointwise [k0_pay2, k0_pay1, k0_pay4]

theorem next_apply : k0_pay3 x0 x1 s (ix2 r d) = s (ix2 r d) + ∑ k : Fin 2048, x0 (ix2 r k) * x1 (ix2 k d) := by
  pointwise [k0_pay3, k0_pay1, k0_pay4]

theorem out0_apply : k0_pay5 x0 x1 s x2 x3 (ix2 r d)
    = x2 (ix2 r d) + x3 (ix2 0 d) * (s (ix2 r d) + ∑ k : Fin 2048, x0 (ix2 r k) * x1 (ix2 k d)) := by
  pointwise [k0_pay5, k0_pay1, k0_pay4]

theorem out1_apply : k0_pay6 x0 x1 s (ix2 r d)
    = (s (ix2 r d) + ∑ k : Fin 2048, x0 (ix2 r k) * x1 (ix2 k d)) := by
  pointwise [k0_pay6, k0_pay1, k0_pay4]

end Pay

/-! ## What a point leaves -/

section Cases

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x0 : Vec Ideal S1024x2048 .bf16) (x1 : Vec Ideal S2048x1024 .bf16) (x2 : Vec Ideal S1024x1024 .f32) (x3 : Vec Ideal S1x1024 .f32) (xs : Vec Ideal S1024x1024 .f32)

theorem case_first (hc0 : cond0_0 i) (hc1 : ¬cond0_1 i) (hc2 : ¬cond0_2 i) :
    sout0_A_0 c i arg3 harg3 arg4 harg4 arg5 harg5 arg6 harg6 arg7 harg7 arg8 harg8 arg9 harg9 hc0 hc1 hc2 x0 x1 x2 x3 = k0_pay2 x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  rw [View.canon_unit_zero hz2]
  simp only [View.readAt_eq_ld, harg3.read_unread, harg4.read_unread, harg5.read_unread, harg6.read_unread, harg9.read_unread, View.ld_unit_zero (S := S1024x1024) hz2, View.ld_unit_zero (S := S1024x2048) hz2, View.ld_unit_zero (S := S1x1024) hz2, View.ld_unit_zero (S := S2048x1024) hz2]

theorem case_next (hc0 : ¬cond0_0 i) (hc1 : cond0_1 i) (hc2 : ¬cond0_2 i) :
    sout0_B_0 c i arg3 harg3 arg4 harg4 arg5 harg5 arg6 harg6 arg7 harg7 arg8 harg8 arg9 harg9 hc0 hc1 hc2 x0 x1 x2 x3 xs = k0_pay3 x0 x1 xs := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 xs)]
  unfold kernelRun0_B
  dsimp only
  rw [View.canon_unit_zero hz2]
  simp only [View.readAt_eq_ld, harg3.read_unread, harg4.read_unread, harg5.read_unread, harg6.read_unread, harg9.read_unread, View.ld_unit_zero (S := S1024x1024) hz2, View.ld_unit_zero (S := S1024x2048) hz2, View.ld_unit_zero (S := S1x1024) hz2, View.ld_unit_zero (S := S2048x1024) hz2]

theorem case_out0 (hc0 : ¬cond0_0 i) (hc1 : ¬cond0_1 i) (hc2 : cond0_2 i) :
    out0_C_4 c i arg3 harg3 arg4 harg4 arg5 harg5 arg6 harg6 arg7 harg7 arg8 harg8 arg9 harg9 hc0 hc1 hc2 x0 x1 x2 x3 xs = k0_pay5 x0 x1 xs x2 x3 := by
  unfold out0_C_4
  rw [View.read_writes_eq_canon _ _ _ (cover0_C_4 c i arg3 harg3 arg4 harg4 arg5 harg5 arg6 harg6 arg7 harg7 arg8 harg8 arg9 harg9 hc0 hc1 hc2 x0 x1 x2 x3 xs)]
  unfold kernelRun0_C
  dsimp only
  rw [View.canon_unit_zero hz2]
  simp only [View.readAt_eq_ld, harg3.read_unread, harg4.read_unread, harg5.read_unread, harg6.read_unread, harg9.read_unread, View.ld_unit_zero (S := S1024x1024) hz2, View.ld_unit_zero (S := S1024x2048) hz2, View.ld_unit_zero (S := S1x1024) hz2, View.ld_unit_zero (S := S2048x1024) hz2]

theorem case_out1 (hc0 : ¬cond0_0 i) (hc1 : ¬cond0_1 i) (hc2 : cond0_2 i) :
    out0_C_5 c i arg3 harg3 arg4 harg4 arg5 harg5 arg6 harg6 arg7 harg7 arg8 harg8 arg9 harg9 hc0 hc1 hc2 x0 x1 x2 x3 xs = k0_pay6 x0 x1 xs := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 xs)]
  unfold kernelRun0_C
  dsimp only
  rw [View.canon_unit_zero hz2]
  simp only [View.readAt_eq_ld, harg3.read_unread, harg4.read_unread, harg5.read_unread, harg6.read_unread, harg9.read_unread, View.ld_unit_zero (S := S1024x1024) hz2, View.ld_unit_zero (S := S1024x2048) hz2, View.ld_unit_zero (S := S1x1024) hz2, View.ld_unit_zero (S := S2048x1024) hz2]

end Cases

/-! ## The grid -/

theorem idx : ∀ t : Fin cfg0.N, win0_0.index t = ![t.val / 8, t.val % 4]
    ∧ win0_1.index t = ![t.val % 4, t.val / 4 % 2]
    ∧ win0_2.index t = ![t.val / 8, t.val / 4 % 2]
    ∧ win0_3.index t = ![0, t.val / 4 % 2]
    ∧ win0_4.index t = ![t.val / 8, t.val / 4 % 2]
    ∧ win0_5.index t = ![t.val / 8, t.val / 4 % 2] ∧ t.val < 32 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q X0 X1 : ℕ → ℕ → EReal) : Prop where
  a : ∀ (i : Fin 4096) (k : Fin 8192), (V m c main_v2 : FVec Ideal S4096x8192 .bf16) (ix2 i k) = P i.val k.val
  b : ∀ (j : Fin 2048) (k : Fin 8192), (V m c main_v3 : FVec Ideal S8192x2048 .bf16) (ix2 k j) = Q j.val k.val
  e0 : ∀ (i : Fin 4096) (j : Fin 2048), (V m c main_arg2 : FVec Ideal S4096x2048 .f32) (ix2 i j) = X0 i.val j.val
  e1 : ∀ (i : Fin 1) (j : Fin 2048), (V m c main_arg3 : FVec Ideal S1x2048 .f32) (ix2 i j) = X1 i.val j.val

variable {m c} {P Q X0 X1 : ℕ → ℕ → EReal} (E : Ent m c P Q X0 X1) (t : Fin cfg0.N)

include E in
theorem rd0 (r : Fin 1024) (k : Fin 2048) : iblk m c 0 t (ix2 r k) = P (1024 * (t.val / 8) + r.val) (2048 * (t.val % 4) + k.val) := by
  have ht := (idx t).2.2.2.2.2.2
  refine Eq.trans ?_ (E.a ⟨1024 * (t.val / 8) + r.val, by omega⟩ ⟨2048 * (t.val % 4) + k.val, by omega⟩)
  blk_ext [iblk, idx t]

include E in
theorem rd1 (d : Fin 1024) (k : Fin 2048) : iblk m c 1 t (ix2 k d) = Q (1024 * (t.val / 4 % 2) + d.val) (2048 * (t.val % 4) + k.val) := by
  have ht := (idx t).2.2.2.2.2.2
  refine Eq.trans ?_ (E.b ⟨1024 * (t.val / 4 % 2) + d.val, by omega⟩ ⟨2048 * (t.val % 4) + k.val, by omega⟩)
  blk_ext [iblk, idx t]

include E in
theorem rd2 (r : Fin 1024) (d : Fin 1024) : iblk m c 2 t (ix2 r d) = X0 (1024 * (t.val / 8) + r.val) (1024 * (t.val / 4 % 2) + d.val) := by
  have ht := (idx t).2.2.2.2.2.2
  refine Eq.trans ?_ (E.e0 ⟨1024 * (t.val / 8) + r.val, by omega⟩ ⟨1024 * (t.val / 4 % 2) + d.val, by omega⟩)
  blk_ext [iblk, idx t]

include E in
theorem rd3 (d : Fin 1024) : iblk m c 3 t (ix2 0 d) = X1 0 (1024 * (t.val / 4 % 2) + d.val) := by
  have ht := (idx t).2.2.2.2.2.2
  refine Eq.trans ?_ (E.e1 0 ⟨1024 * (t.val / 4 % 2) + d.val, by omega⟩)
  blk_ext [iblk, idx t]

include E in
/-- The accumulator after a point that is not the last of its block. -/
theorem acc_at : ∀ (u : ℕ) (t : Fin cfg0.N), t.val = u → t.val % 4 < 3 → ∀ (r : Fin 1024) (d : Fin 1024),
    (outsAt0 m c t.val t.isLt).2.2 (ix2 r d) = prod P Q (2048 * (t.val % 4 + 1)) (1024 * (t.val / 8) + r.val) (1024 * (t.val / 4 % 2) + d.val)
  | 0, t, hu, h, r, d => by
    have h0 : t.val % 4 = 0 := by omega
    rw [outsAt0_A m c t h0 (by omega) (by omega)]
    dsimp only
    rw [case_first, first_apply, h0]
    exact prod_first _ _ _ _ _ fun k => by rw [rd0 E, rd1 E, h0, Nat.mul_zero, Nat.zero_add]
  | u + 1, t, hu, h, r, d => by
    by_cases h0 : t.val % 4 = 0
    · rw [outsAt0_A m c t h0 (by omega) (by omega)]
      dsimp only
      rw [case_first, first_apply, h0]
      exact prod_first _ _ _ _ _ fun k => by rw [rd0 E, rd1 E, h0, Nat.mul_zero, Nat.zero_add]
    · have hN := t.isLt
      rw [outsAt0_B m c t h0 (by omega) (by omega)]
      dsimp only
      rw [case_next, next_apply]
      have ha := acc_at u ⟨t.val - 1, by omega⟩ (by simp only; omega) (by simp only; omega) r d
      simp only at ha
      rw [show (t.val - 1) / 8 = t.val / 8 by omega, show (t.val - 1) / 4 = t.val / 4 by omega, show (t.val - 1) % 4 + 1 = t.val % 4 by omega] at ha
      exact prod_block P Q 2048 _ _ _ ha fun k => by rw [rd0 E, rd1 E]

include E in
theorem acc (h : t.val % 4 < 3) (r : Fin 1024) (d : Fin 1024) : (outsAt0 m c t.val t.isLt).2.2 (ix2 r d)
    = prod P Q (2048 * (t.val % 4 + 1)) (1024 * (t.val / 8) + r.val) (1024 * (t.val / 4 % 2) + d.val) := acc_at E t.val t rfl h r d

include E in
theorem out0 (h : t.val % 4 = 3) (r : Fin 1024) (d : Fin 1024) : (outsAt0 m c t.val t.isLt).1 (ix2 r d)
    = X0 (1024 * (t.val / 8) + r.val) (1024 * (t.val / 4 % 2) + d.val) + X1 0 (1024 * (t.val / 4 % 2) + d.val) * (prod P Q 8192 (1024 * (t.val / 8) + r.val) (1024 * (t.val / 4 % 2) + d.val)) := by
  have hN := t.isLt
  rw [outsAt0_C m c t (by omega) (by omega) h]
  dsimp only
  rw [case_out0, out0_apply, rd2 E, rd3 E]
  have ha := acc E ⟨t.val - 1, by omega⟩ (by simp only; omega) r d
  simp only at ha
  rw [show (t.val - 1) / 8 = t.val / 8 by omega, show (t.val - 1) / 4 = t.val / 4 by omega, show (t.val - 1) % 4 + 1 = 3 by omega] at ha
  exact congrArg (fun v => X0 (1024 * (t.val / 8) + r.val) (1024 * (t.val / 4 % 2) + d.val) + X1 0 (1024 * (t.val / 4 % 2) + d.val) * v) (prod_block P Q 2048 3 _ _ ha fun k => by rw [rd0 E, rd1 E, h])

/-- The array of the results. -/
def res0 (P Q X0 X1 : ℕ → ℕ → EReal) : FVec Ideal S4096x2048 .f32 := fun y => X0 (y 0).val (y 1).val + X1 0 (y 1).val * (prod P Q 8192 (y 0).val (y 1).val)

include E in
theorem point0 (h : t.val % 4 = 3) (y : S1024x1024.Idx) :
    (outsAt0 m c t.val t.isLt).1 y = res0 P Q X0 X1 (((cfg0.win 4).blk t).view.emb y) := by
  idx_vars y
  refine (out0 E t h y0 y1).trans ?_
  unfold res0
  blk_simp [idx t]
  have ht := (idx t).2.2.2.2.2.2
  simp only [Nat.mul_comm _ 1024]

include E in
theorem final0 : (dats m 0 c).arrAt 4 cfg0.N = res0 P Q X0 X1 := by
  refine (dats m 0 c).arrAt_eq_of_covers 4 _ (by decide +kernel) fun t ht y => ?_
  blk_simp
  rw [after0_4]
  exact point0 E t ((flush0_4 t).mp ht) y

include E in
theorem out1 (h : t.val % 4 = 3) (r : Fin 1024) (d : Fin 1024) : (outsAt0 m c t.val t.isLt).2.1 (ix2 r d)
    = prod P Q 8192 (1024 * (t.val / 8) + r.val) (1024 * (t.val / 4 % 2) + d.val) := by
  have hN := t.isLt
  rw [outsAt0_C m c t (by omega) (by omega) h]
  dsimp only
  rw [case_out1, out1_apply]
  have ha := acc E ⟨t.val - 1, by omega⟩ (by simp only; omega) r d
  simp only at ha
  rw [show (t.val - 1) / 8 = t.val / 8 by omega, show (t.val - 1) / 4 = t.val / 4 by omega, show (t.val - 1) % 4 + 1 = 3 by omega] at ha
  exact congrArg (fun v => v) (prod_block P Q 2048 3 _ _ ha fun k => by rw [rd0 E, rd1 E, h])

/-- The array of the results. -/
def res1 (P Q : ℕ → ℕ → EReal) : FVec Ideal S4096x2048 .bf16 := fun y => prod P Q 8192 (y 0).val (y 1).val

include E in
theorem point1 (h : t.val % 4 = 3) (y : S1024x1024.Idx) :
    (outsAt0 m c t.val t.isLt).2.1 y = res1 P Q (((cfg0.win 5).blk t).view.emb y) := by
  idx_vars y
  refine (out1 E t h y0 y1).trans ?_
  unfold res1
  blk_simp [idx t]
  have ht := (idx t).2.2.2.2.2.2
  simp only [Nat.mul_comm _ 1024]

include E in
theorem final1 : (dats m 0 c).arrAt 5 cfg0.N = res1 P Q := by
  refine (dats m 0 c).arrAt_eq_of_covers 5 _ (by decide +kernel) fun t ht y => ?_
  blk_simp
  rw [after0_5]
  exact point1 E t ((flush0_5 t).mp ht) y

end Cert.MlpDownIdeal.Val
-- ==== Proof.MlpDownR.lean ====
module

public import proofs.«01_k».proof.Proof.Gen.RefMlpDownIdeal.Read
public import proofs.«01_k».proof.Proof.Gen.RefMlpDownIdeal.Run
public import proofs.«01_k».proof.Proof.MlpDownV
public import proofs.«01_k».proof.Defs
public import Idealize.ShloMosaic.Lib.Quiescent

/-! # The MLP's second product: the kernel and the reference agree -/

@[expose] public section

noncomputable section

set_option maxRecDepth 16384

namespace Cert.MlpDownIdeal.Val

open Cert.MlpDownIdeal Cert.MlpDownIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x8192 .f32 := m ((c : Thread nD τ).loc main_arg0)
abbrev x1 : FVec Ideal S8192x2048 .f32 := m ((c : Thread nD τ).loc main_arg1)
abbrev x2 : FVec Ideal S4096x2048 .f32 := m ((c : Thread nD τ).loc main_arg2)
abbrev x3 : FVec Ideal S1x2048 .f32 := m ((c : Thread nD τ).loc main_arg3)

theorem ent : Ent m c (fun i k => sqr (nat (x0 m c) i k)) (fun j k => nat (x1 m c) k j) (fun i j => nat (x2 m c) i j) (fun i j => nat (x3 m c) 0 j) where
  a i k := by
    simp only [nat_val, nat_row]
    unfold V
    after_reads_at
    rfl

  b j k := by
    simp only [nat_val, nat_row]
    unfold V
    after_reads_at

  e0 i j := by
    simp only [nat_val, nat_row]
    unfold V
    after_reads_at

  e1 i j := by
    simp only [nat_val, nat_row]
    unfold V
    after_reads_at
    obtain rfl : i = 0 := Subsingleton.elim _ _
    rfl

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res0 (fun i k => sqr (nat (x0 m c) i k)) (fun j k => nat (x1 m c) k j) (fun i j => nat (x2 m c) i j) (fun i j => nat (x3 m c) 0 j)
      ∧ r.2.mem ((c.tc : Thread nD τ).loc main_v4_1) = res1 (fun i k => sqr (nat (x0 m c) i k)) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final0 (ent m c)), ((h.1 c).1 5).trans (final1 (ent m c)), h.2 c⟩) (θ_run_and (run_main m ρ) (unchanged m ρ))

end Cert.MlpDownIdeal.Val

namespace Cert.RefMlpDownIdeal.Val

open Cert.RefMlpDownIdeal Cert.RefMlpDownIdeal.Gen Cert.RefMlpDownIdeal.Read Cert.Mm Idealize.ShloMosaic

variable (x0 : FVec Ideal S4096x8192 .f32) (x1 : FVec Ideal S8192x2048 .f32) (x2 : FVec Ideal S4096x2048 .f32) (x3 : FVec Ideal S1x2048 .f32)

theorem read_dot (i : Fin 4096) (j : Fin 2048) : val_main_v2 (F := Ideal) x0 x1 (ix2 i j)
    = prod (fun i k => sqr (nat x0 i k)) (fun j k => nat x1 k j) 8192 i.val j.val :=
  Eq.trans (by pointwise [val_main_v2, val_main_v1, val_main_v0, val_main_call0_v0, val_main_call0_cst, sqr]) (prod_first (t := fun k : Fin 8192 => (sqr (x0 (ix2 i k))) * (x1 (ix2 k j))) _ _ _ _ _ fun k => by
    simp only [nat_val, nat_row])

theorem read_res0 : val_main_v5 (F := Ideal) x0 x1 x2 x3 = Cert.MlpDownIdeal.Val.res0 (fun i k => sqr (nat x0 i k)) (fun j k => nat x1 k j) (fun i j => nat x2 i j) (fun i j => nat x3 0 j) := by
  funext y
  idx_vars y
  unfold Cert.MlpDownIdeal.Val.res0
  rw [val_main_v5_apply, val_main_v4_apply, read_dot x0 x1 y0 y1]
  show _ = nat x2 y0.val y1.val + nat x3 0 y1.val * prod _ _ _ y0.val y1.val
  rw [nat_val x2 y0 y1, nat_row x3 y1]
  pointwise [val_main_v3]

theorem read_res1 : val_main_v6 (F := Ideal) x0 x1 = Cert.MlpDownIdeal.Val.res1 (fun i k => sqr (nat x0 i k)) (fun j k => nat x1 k j) := by
  funext y
  idx_vars y
  unfold Cert.MlpDownIdeal.Val.res1
  exact (val_main_v6_apply _ _ _).trans (read_dot x0 x1 y0 y1)

end Cert.RefMlpDownIdeal.Val

namespace Cert.MlpDownIdeal.Val

open Idealize.ShloMosaic Idealize.SL.Sem

theorem frame_reference : Cert.quiescent_RefMlpDownIdeal := fun m ρ _ =>
  (θ_run Cert.RefMlpDownIdeal.defs _ _).mono (fun r h => ⟨fun c => (h c).2.2,
      Idealize.ShloMosaic.sem_eq_zero_of_no_sems (by decide) r.2⟩)
    (Cert.RefMlpDownIdeal.Value.run (F := Ideal) m ρ)

theorem algebraic : Cert.algebraic_MlpDownIdeal_RefMlpDownIdeal := by
  intro m g m' g' _ hargs
  refine ⟨fun c => _, fun c => _, run m g, (θ_run Cert.RefMlpDownIdeal.defs _ _).mono (fun r h c => ?_) (Cert.RefMlpDownIdeal.Value.run (F := Ideal) m' g')⟩
  obtain ⟨a0, a1, a2, a3⟩ := hargs c
  refine ⟨(h c).1.trans ?_, (h c).2.1.trans ?_, (h c).2.2⟩
  · rw [Cert.RefMlpDownIdeal.Read.val_main_v5_eq, a0, a1, a2, a3]
    exact Cert.RefMlpDownIdeal.Val.read_res0 _ _ _ _
  · rw [Cert.RefMlpDownIdeal.Read.val_main_v6_eq, a0, a1]
    exact Cert.RefMlpDownIdeal.Val.read_res1 _ _

end Cert.MlpDownIdeal.Val
-- ==== Proof.GmlpOutV.lean ====
module

public import proofs.«01_k».proof.Proof.Gen.GmlpOutIdeal.Frame
public import proofs.«01_k».proof.Proof.Mm

/-! # The mixer's output product: what the kernel leaves -/

@[expose] public section

noncomputable section

set_option maxRecDepth 16384

namespace Cert.GmlpOutIdeal.Val

open Cert.GmlpOutIdeal Cert.GmlpOutIdeal.Gen Cert.Mm Idealize.ShloMosaic Idealize.ShloMosaic.TcCoe Idealize.SL.Sem

/-! ## The expressions of the kernel, read at an index -/

section Pay

variable (x0 : Vec Ideal S1024x2048 .bf16) (x1 : Vec Ideal S2048x1024 .bf16) (x2 : Vec Ideal S1024x1024 .f32) (x3 : Vec Ideal S1x1024 .f32)
  (s : Vec Ideal S1024x1024 .f32) (r : Fin 1024) (d : Fin 1024)

theorem first_apply : k0_pay2 x0 x1 (ix2 r d) = ∑ k : Fin 2048, x0 (ix2 r k) * x1 (ix2 k d) := by
  pointwise [k0_pay2, k0_pay1, k0_pay4]

theorem next_apply : k0_pay3 x0 x1 s (ix2 r d) = s (ix2 r d) + ∑ k : Fin 2048, x0 (ix2 r k) * x1 (ix2 k d) := by
  pointwise [k0_pay3, k0_pay1, k0_pay4]

theorem out0_apply : k0_pay5 x0 x1 s x2 x3 (ix2 r d)
    = x2 (ix2 r d) + x3 (ix2 0 d) * (s (ix2 r d) + ∑ k : Fin 2048, x0 (ix2 r k) * x1 (ix2 k d)) := by
  pointwise [k0_pay5, k0_pay1, k0_pay4]

theorem out1_apply : k0_pay6 x0 x1 s (ix2 r d)
    = (s (ix2 r d) + ∑ k : Fin 2048, x0 (ix2 r k) * x1 (ix2 k d)) := by
  pointwise [k0_pay6, k0_pay1, k0_pay4]

end Pay

/-! ## What a point leaves -/

section Cases

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x0 : Vec Ideal S1024x2048 .bf16) (x1 : Vec Ideal S2048x1024 .bf16) (x2 : Vec Ideal S1024x1024 .f32) (x3 : Vec Ideal S1x1024 .f32) (xs : Vec Ideal S1024x1024 .f32)

theorem case_first (hc0 : cond0_0 i) (hc1 : ¬cond0_1 i) (hc2 : ¬cond0_2 i) :
    sout0_A_0 c i arg3 harg3 arg4 harg4 arg5 harg5 arg6 harg6 arg7 harg7 arg8 harg8 arg9 harg9 hc0 hc1 hc2 x0 x1 x2 x3 = k0_pay2 x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  rw [View.canon_unit_zero hz2]
  simp only [View.readAt_eq_ld, harg3.read_unread, harg4.read_unread, harg5.read_unread, harg6.read_unread, harg9.read_unread, View.ld_unit_zero (S := S1024x1024) hz2, View.ld_unit_zero (S := S1024x2048) hz2, View.ld_unit_zero (S := S1x1024) hz2, View.ld_unit_zero (S := S2048x1024) hz2]

theorem case_next (hc0 : ¬cond0_0 i) (hc1 : cond0_1 i) (hc2 : ¬cond0_2 i) :
    sout0_B_0 c i arg3 harg3 arg4 harg4 arg5 harg5 arg6 harg6 arg7 harg7 arg8 harg8 arg9 harg9 hc0 hc1 hc2 x0 x1 x2 x3 xs = k0_pay3 x0 x1 xs := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 xs)]
  unfold kernelRun0_B
  dsimp only
  rw [View.canon_unit_zero hz2]
  simp only [View.readAt_eq_ld, harg3.read_unread, harg4.read_unread, harg5.read_unread, harg6.read_unread, harg9.read_unread, View.ld_unit_zero (S := S1024x1024) hz2, View.ld_unit_zero (S := S1024x2048) hz2, View.ld_unit_zero (S := S1x1024) hz2, View.ld_unit_zero (S := S2048x1024) hz2]

theorem case_out0 (hc0 : ¬cond0_0 i) (hc1 : ¬cond0_1 i) (hc2 : cond0_2 i) :
    out0_C_4 c i arg3 harg3 arg4 harg4 arg5 harg5 arg6 harg6 arg7 harg7 arg8 harg8 arg9 harg9 hc0 hc1 hc2 x0 x1 x2 x3 xs = k0_pay5 x0 x1 xs x2 x3 := by
  unfold out0_C_4
  rw [View.read_writes_eq_canon _ _ _ (cover0_C_4 c i arg3 harg3 arg4 harg4 arg5 harg5 arg6 harg6 arg7 harg7 arg8 harg8 arg9 harg9 hc0 hc1 hc2 x0 x1 x2 x3 xs)]
  unfold kernelRun0_C
  dsimp only
  rw [View.canon_unit_zero hz2]
  simp only [View.readAt_eq_ld, harg3.read_unread, harg4.read_unread, harg5.read_unread, harg6.read_unread, harg9.read_unread, View.ld_unit_zero (S := S1024x1024) hz2, View.ld_unit_zero (S := S1024x2048) hz2, View.ld_unit_zero (S := S1x1024) hz2, View.ld_unit_zero (S := S2048x1024) hz2]

theorem case_out1 (hc0 : ¬cond0_0 i) (hc1 : ¬cond0_1 i) (hc2 : cond0_2 i) :
    out0_C_5 c i arg3 harg3 arg4 harg4 arg5 harg5 arg6 harg6 arg7 harg7 arg8 harg8 arg9 harg9 hc0 hc1 hc2 x0 x1 x2 x3 xs = k0_pay6 x0 x1 xs := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 xs)]
  unfold kernelRun0_C
  dsimp only
  rw [View.canon_unit_zero hz2]
  simp only [View.readAt_eq_ld, harg3.read_unread, harg4.read_unread, harg5.read_unread, harg6.read_unread, harg9.read_unread, View.ld_unit_zero (S := S1024x1024) hz2, View.ld_unit_zero (S := S1024x2048) hz2, View.ld_unit_zero (S := S1x1024) hz2, View.ld_unit_zero (S := S2048x1024) hz2]

end Cases

/-! ## The grid -/

theorem idx : ∀ t : Fin cfg0.N, win0_0.index t = ![t.val / 6, t.val % 3]
    ∧ win0_1.index t = ![t.val % 3, t.val / 3 % 2]
    ∧ win0_2.index t = ![t.val / 6, t.val / 3 % 2]
    ∧ win0_3.index t = ![0, t.val / 3 % 2]
    ∧ win0_4.index t = ![t.val / 6, t.val / 3 % 2]
    ∧ win0_5.index t = ![t.val / 6, t.val / 3 % 2] ∧ t.val < 24 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q X0 X1 : ℕ → ℕ → EReal) : Prop where
  a : ∀ (i : Fin 4096) (k : Fin 6144), (V m c main_v0 : FVec Ideal S4096x6144 .bf16) (ix2 i k) = P i.val k.val
  b : ∀ (j : Fin 2048) (k : Fin 6144), (V m c main_v1 : FVec Ideal S6144x2048 .bf16) (ix2 k j) = Q j.val k.val
  e0 : ∀ (i : Fin 4096) (j : Fin 2048), (V m c main_arg2 : FVec Ideal S4096x2048 .f32) (ix2 i j) = X0 i.val j.val
  e1 : ∀ (i : Fin 1) (j : Fin 2048), (V m c main_arg3 : FVec Ideal S1x2048 .f32) (ix2 i j) = X1 i.val j.val

variable {m c} {P Q X0 X1 : ℕ → ℕ → EReal} (E : Ent m c P Q X0 X1) (t : Fin cfg0.N)

include E in
theorem rd0 (r : Fin 1024) (k : Fin 2048) : iblk m c 0 t (ix2 r k) = P (1024 * (t.val / 6) + r.val) (2048 * (t.val % 3) + k.val) := by
  have ht := (idx t).2.2.2.2.2.2
  refine Eq.trans ?_ (E.a ⟨1024 * (t.val / 6) + r.val, by omega⟩ ⟨2048 * (t.val % 3) + k.val, by omega⟩)
  blk_ext [iblk, idx t]

include E in
theorem rd1 (d : Fin 1024) (k : Fin 2048) : iblk m c 1 t (ix2 k d) = Q (1024 * (t.val / 3 % 2) + d.val) (2048 * (t.val % 3) + k.val) := by
  have ht := (idx t).2.2.2.2.2.2
  refine Eq.trans ?_ (E.b ⟨1024 * (t.val / 3 % 2) + d.val, by omega⟩ ⟨2048 * (t.val % 3) + k.val, by omega⟩)
  blk_ext [iblk, idx t]

include E in
theorem rd2 (r : Fin 1024) (d : Fin 1024) : iblk m c 2 t (ix2 r d) = X0 (1024 * (t.val / 6) + r.val) (1024 * (t.val / 3 % 2) + d.val) := by
  have ht := (idx t).2.2.2.2.2.2
  refine Eq.trans ?_ (E.e0 ⟨1024 * (t.val / 6) + r.val, by omega⟩ ⟨1024 * (t.val / 3 % 2) + d.val, by omega⟩)
  blk_ext [iblk, idx t]

include E in
theorem rd3 (d : Fin 1024) : iblk m c 3 t (ix2 0 d) = X1 0 (1024 * (t.val / 3 % 2) + d.val) := by
  have ht := (idx t).2.2.2.2.2.2
  refine Eq.trans ?_ (E.e1 0 ⟨1024 * (t.val / 3 % 2) + d.val, by omega⟩)
  blk_ext [iblk, idx t]

include E in
/-- The accumulator after a point that is not the last of its block. -/
theorem acc_at : ∀ (u : ℕ) (t : Fin cfg0.N), t.val = u → t.val % 3 < 2 → ∀ (r : Fin 1024) (d : Fin 1024),
    (outsAt0 m c t.val t.isLt).2.2 (ix2 r d) = prod P Q (2048 * (t.val % 3 + 1)) (1024 * (t.val / 6) + r.val) (1024 * (t.val / 3 % 2) + d.val)
  | 0, t, hu, h, r, d => by
    have h0 : t.val % 3 = 0 := by omega
    rw [outsAt0_A m c t h0 (by omega) (by omega)]
    dsimp only
    rw [case_first, first_apply, h0]
    exact prod_first _ _ _ _ _ fun k => by rw [rd0 E, rd1 E, h0, Nat.mul_zero, Nat.zero_add]
  | u + 1, t, hu, h, r, d => by
    by_cases h0 : t.val % 3 = 0
    · rw [outsAt0_A m c t h0 (by omega) (by omega)]
      dsimp only
      rw [case_first, first_apply, h0]
      exact prod_first _ _ _ _ _ fun k => by rw [rd0 E, rd1 E, h0, Nat.mul_zero, Nat.zero_add]
    · have hN := t.isLt
      rw [outsAt0_B m c t h0 (by omega) (by omega)]
      dsimp only
      rw [case_next, next_apply]
      have ha := acc_at u ⟨t.val - 1, by omega⟩ (by simp only; omega) (by simp only; omega) r d
      simp only at ha
      rw [show (t.val - 1) / 6 = t.val / 6 by omega, show (t.val - 1) / 3 = t.val / 3 by omega, show (t.val - 1) % 3 + 1 = t.val % 3 by omega] at ha
      exact prod_block P Q 2048 _ _ _ ha fun k => by rw [rd0 E, rd1 E]

include E in
theorem acc (h : t.val % 3 < 2) (r : Fin 1024) (d : Fin 1024) : (outsAt0 m c t.val t.isLt).2.2 (ix2 r d)
    = prod P Q (2048 * (t.val % 3 + 1)) (1024 * (t.val / 6) + r.val) (1024 * (t.val / 3 % 2) + d.val) := acc_at E t.val t rfl h r d

include E in
theorem out0 (h : t.val % 3 = 2) (r : Fin 1024) (d : Fin 1024) : (outsAt0 m c t.val t.isLt).1 (ix2 r d)
    = X0 (1024 * (t.val / 6) + r.val) (1024 * (t.val / 3 % 2) + d.val) + X1 0 (1024 * (t.val / 3 % 2) + d.val) * (prod P Q 6144 (1024 * (t.val / 6) + r.val) (1024 * (t.val / 3 % 2) + d.val)) := by
  have hN := t.isLt
  rw [outsAt0_C m c t (by omega) (by omega) h]
  dsimp only
  rw [case_out0, out0_apply, rd2 E, rd3 E]
  have ha := acc E ⟨t.val - 1, by omega⟩ (by simp only; omega) r d
  simp only at ha
  rw [show (t.val - 1) / 6 = t.val / 6 by omega, show (t.val - 1) / 3 = t.val / 3 by omega, show (t.val - 1) % 3 + 1 = 2 by omega] at ha
  exact congrArg (fun v => X0 (1024 * (t.val / 6) + r.val) (1024 * (t.val / 3 % 2) + d.val) + X1 0 (1024 * (t.val / 3 % 2) + d.val) * v) (prod_block P Q 2048 2 _ _ ha fun k => by rw [rd0 E, rd1 E, h])

/-- The array of the results. -/
def res0 (P Q X0 X1 : ℕ → ℕ → EReal) : FVec Ideal S4096x2048 .f32 := fun y => X0 (y 0).val (y 1).val + X1 0 (y 1).val * (prod P Q 6144 (y 0).val (y 1).val)

include E in
theorem point0 (h : t.val % 3 = 2) (y : S1024x1024.Idx) :
    (outsAt0 m c t.val t.isLt).1 y = res0 P Q X0 X1 (((cfg0.win 4).blk t).view.emb y) := by
  idx_vars y
  refine (out0 E t h y0 y1).trans ?_
  unfold res0
  blk_simp [idx t]
  have ht := (idx t).2.2.2.2.2.2
  simp only [Nat.mul_comm _ 1024]

include E in
theorem final0 : (dats m 0 c).arrAt 4 cfg0.N = res0 P Q X0 X1 := by
  refine (dats m 0 c).arrAt_eq_of_covers 4 _ (by decide +kernel) fun t ht y => ?_
  blk_simp
  rw [after0_4]
  exact point0 E t ((flush0_4 t).mp ht) y

include E in
theorem out1 (h : t.val % 3 = 2) (r : Fin 1024) (d : Fin 1024) : (outsAt0 m c t.val t.isLt).2.1 (ix2 r d)
    = prod P Q 6144 (1024 * (t.val / 6) + r.val) (1024 * (t.val / 3 % 2) + d.val) := by
  have hN := t.isLt
  rw [outsAt0_C m c t (by omega) (by omega) h]
  dsimp only
  rw [case_out1, out1_apply]
  have ha := acc E ⟨t.val - 1, by omega⟩ (by simp only; omega) r d
  simp only at ha
  rw [show (t.val - 1) / 6 = t.val / 6 by omega, show (t.val - 1) / 3 = t.val / 3 by omega, show (t.val - 1) % 3 + 1 = 2 by omega] at ha
  exact congrArg (fun v => v) (prod_block P Q 2048 2 _ _ ha fun k => by rw [rd0 E, rd1 E, h])

/-- The array of the results. -/
def res1 (P Q : ℕ → ℕ → EReal) : FVec Ideal S4096x2048 .bf16 := fun y => prod P Q 6144 (y 0).val (y 1).val

include E in
theorem point1 (h : t.val % 3 = 2) (y : S1024x1024.Idx) :
    (outsAt0 m c t.val t.isLt).2.1 y = res1 P Q (((cfg0.win 5).blk t).view.emb y) := by
  idx_vars y
  refine (out1 E t h y0 y1).trans ?_
  unfold res1
  blk_simp [idx t]
  have ht := (idx t).2.2.2.2.2.2
  simp only [Nat.mul_comm _ 1024]

include E in
theorem final1 : (dats m 0 c).arrAt 5 cfg0.N = res1 P Q := by
  refine (dats m 0 c).arrAt_eq_of_covers 5 _ (by decide +kernel) fun t ht y => ?_
  blk_simp
  rw [after0_5]
  exact point1 E t ((flush0_5 t).mp ht) y

end Cert.GmlpOutIdeal.Val
-- ==== Proof.GmlpOutR.lean ====
module

public import proofs.«01_k».proof.Proof.Gen.RefGmlpOutIdeal.Read
public import proofs.«01_k».proof.Proof.Gen.RefGmlpOutIdeal.Run
public import proofs.«01_k».proof.Proof.GmlpOutV
public import proofs.«01_k».proof.Defs
public import Idealize.ShloMosaic.Lib.Quiescent

/-! # The mixer's output product: the kernel and the reference agree -/

@[expose] public section

noncomputable section

set_option maxRecDepth 16384

namespace Cert.GmlpOutIdeal.Val

open Cert.GmlpOutIdeal Cert.GmlpOutIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x6144 .f32 := m ((c : Thread nD τ).loc main_arg0)
abbrev x1 : FVec Ideal S6144x2048 .f32 := m ((c : Thread nD τ).loc main_arg1)
abbrev x2 : FVec Ideal S4096x2048 .f32 := m ((c : Thread nD τ).loc main_arg2)
abbrev x3 : FVec Ideal S1x2048 .f32 := m ((c : Thread nD τ).loc main_arg3)

theorem ent : Ent m c (fun i k => nat (x0 m c) i k) (fun j k => nat (x1 m c) k j) (fun i j => nat (x2 m c) i j) (fun i j => nat (x3 m c) 0 j) where
  a i k := by
    simp only [nat_val, nat_row]
    unfold V
    after_reads_at

  b j k := by
    simp only [nat_val, nat_row]
    unfold V
    after_reads_at

  e0 i j := by
    simp only [nat_val, nat_row]
    unfold V
    after_reads_at

  e1 i j := by
    simp only [nat_val, nat_row]
    unfold V
    after_reads_at
    obtain rfl : i = 0 := Subsingleton.elim _ _
    rfl

/-- Every run ends with the results and the arguments unchanged. -/
theorem run : θ_run defs (onTc (τ := τ) (main (F := Ideal))) ⟨m, fun _ => 0, ρ⟩ (fun r => ∀ c : Dev nD,
      r.2.mem ((c.tc : Thread nD τ).loc main_v2_0) = res0 (fun i k => nat (x0 m c) i k) (fun j k => nat (x1 m c) k j) (fun i j => nat (x2 m c) i j) (fun i j => nat (x3 m c) 0 j)
      ∧ r.2.mem ((c.tc : Thread nD τ).loc main_v2_1) = res1 (fun i k => nat (x0 m c) i k) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final0 (ent m c)), ((h.1 c).1 5).trans (final1 (ent m c)), h.2 c⟩) (θ_run_and (run_main m ρ) (unchanged m ρ))

end Cert.GmlpOutIdeal.Val

namespace Cert.RefGmlpOutIdeal.Val

open Cert.RefGmlpOutIdeal Cert.RefGmlpOutIdeal.Gen Cert.RefGmlpOutIdeal.Read Cert.Mm Idealize.ShloMosaic

variable (x0 : FVec Ideal S4096x6144 .f32) (x1 : FVec Ideal S6144x2048 .f32) (x2 : FVec Ideal S4096x2048 .f32) (x3 : FVec Ideal S1x2048 .f32)

theorem read_dot (i : Fin 4096) (j : Fin 2048) : val_main_v0 (F := Ideal) x0 x1 (ix2 i j)
    = prod (fun i k => nat x0 i k) (fun j k => nat x1 k j) 6144 i.val j.val :=
  Eq.trans (by pointwise [val_main_v0]) (prod_first (t := fun k : Fin 6144 => (x0 (ix2 i k)) * (x1 (ix2 k j))) _ _ _ _ _ fun k => by
    simp only [nat_val, nat_row])

theorem read_res0 : val_main_v3 (F := Ideal) x0 x1 x2 x3 = Cert.GmlpOutIdeal.Val.res0 (fun i k => nat x0 i k) (fun j k => nat x1 k j) (fun i j => nat x2 i j) (fun i j => nat x3 0 j) := by
  funext y
  idx_vars y
  unfold Cert.GmlpOutIdeal.Val.res0
  rw [val_main_v3_apply, val_main_v2_apply, read_dot x0 x1 y0 y1]
  show _ = nat x2 y0.val y1.val + nat x3 0 y1.val * prod _ _ _ y0.val y1.val
  rw [nat_val x2 y0 y1, nat_row x3 y1]
  pointwise [val_main_v1]

theorem read_res1 : val_main_v4 (F := Ideal) x0 x1 = Cert.GmlpOutIdeal.Val.res1 (fun i k => nat x0 i k) (fun j k => nat x1 k j) := by
  funext y
  idx_vars y
  unfold Cert.GmlpOutIdeal.Val.res1
  exact (val_main_v4_apply _ _ _).trans (read_dot x0 x1 y0 y1)

end Cert.RefGmlpOutIdeal.Val

namespace Cert.GmlpOutIdeal.Val

open Idealize.ShloMosaic Idealize.SL.Sem

theorem frame_reference : Cert.quiescent_RefGmlpOutIdeal := fun m ρ _ =>
  (θ_run Cert.RefGmlpOutIdeal.defs _ _).mono (fun r h => ⟨fun c => (h c).2.2,
      Idealize.ShloMosaic.sem_eq_zero_of_no_sems (by decide) r.2⟩)
    (Cert.RefGmlpOutIdeal.Value.run (F := Ideal) m ρ)

theorem algebraic : Cert.algebraic_GmlpOutIdeal_RefGmlpOutIdeal := by
  intro m g m' g' _ hargs
  refine ⟨fun c => _, fun c => _, run m g, (θ_run Cert.RefGmlpOutIdeal.defs _ _).mono (fun r h c => ?_) (Cert.RefGmlpOutIdeal.Value.run (F := Ideal) m' g')⟩
  obtain ⟨a0, a1, a2, a3⟩ := hargs c
  refine ⟨(h c).1.trans ?_, (h c).2.1.trans ?_, (h c).2.2⟩
  · rw [Cert.RefGmlpOutIdeal.Read.val_main_v3_eq, a0, a1, a2, a3]
    exact Cert.RefGmlpOutIdeal.Val.read_res0 _ _ _ _
  · rw [Cert.RefGmlpOutIdeal.Read.val_main_v4_eq, a0, a1]
    exact Cert.RefGmlpOutIdeal.Val.read_res1 _ _

end Cert.GmlpOutIdeal.Val
-- ==== Proof.GmlpInV.lean ====
module

public import proofs.«01_k».proof.Proof.Gen.GmlpInIdeal.Frame
public import proofs.«01_k».proof.Proof.Mm

/-! # The mixer's input product: what the kernel leaves -/

@[expose] public section

noncomputable section

set_option maxRecDepth 16384

namespace Cert.GmlpInIdeal.Val

open Cert.GmlpInIdeal Cert.GmlpInIdeal.Gen Cert.Mm Idealize.ShloMosaic Idealize.ShloMosaic.TcCoe Idealize.SL.Sem

/-! ## The expressions of the kernel, read at an index -/

section Pay

variable (x0 : Vec Ideal S1024x2048 .bf16) (x1 : Vec Ideal S1x2048x1024 .bf16)
  (r : Fin 1024) (d : Fin 1024)

theorem out0_apply : k0_pay2 x0 x1 (ix2 r d)
    = (∑ k : Fin 2048, x0 (ix2 r k) * x1 (ix3 0 k d)) := by
  pointwise [k0_pay2, k0_pay1, gelu, Ideal.erf_def]

theorem out1_apply : k0_pay3 x0 x1 (ix2 r d)
    = gelu ((∑ k : Fin 2048, x0 (ix2 r k) * x1 (ix3 0 k d))) := by
  pointwise [k0_pay3, k0_pay1, gelu, Ideal.erf_def]

end Pay

/-! ## The grid -/

theorem idx : ∀ t : Fin cfg0.N, win0_0.index t = ![t.val / 12, 0]
    ∧ win0_1.index t = ![(t.val % 12) / 3, 0, (t.val % 12) % 3]
    ∧ win0_2.index t = ![t.val / 12, t.val % 12]
    ∧ win0_3.index t = ![t.val / 12, t.val % 12] ∧ t.val < 48 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 4096) (k : Fin 2048), (V m c main_v0 : FVec Ideal S4096x2048 .bf16) (ix2 i k) = P i.val k.val
  b : ∀ (p : Fin 4) (k : Fin 2048) (j : Fin 3072), (V m c main_v3 : FVec Ideal S4x2048x3072 .bf16) (ix3 p k j) = Q (3072 * p.val + j.val) k.val

variable {m c} {P Q : ℕ → ℕ → EReal} (E : Ent m c P Q) (t : Fin cfg0.N)

include E in
theorem rd0 (r : Fin 1024) (k : Fin 2048) : iblk m c 0 t (ix2 r k) = P (1024 * (t.val / 12) + r.val) (k.val) := by
  have ht := (idx t).2.2.2.2
  refine Eq.trans ?_ (E.a ⟨1024 * (t.val / 12) + r.val, by omega⟩ ⟨k.val, by omega⟩)
  blk_ext [iblk, idx t]

include E in
theorem rd1 (d : Fin 1024) (k : Fin 2048) : iblk m c 1 t (ix3 0 k d) = Q (1024 * (t.val % 12) + d.val) (k.val) := by
  have ht := (idx t).2.2.2.2
  refine Eq.trans ?_ ((E.b ⟨(t.val % 12) / 3, by omega⟩ ⟨k.val, by omega⟩ ⟨1024 * ((t.val % 12) % 3) + d.val, by omega⟩).trans (by simp only <;> congr 1 <;> omega))
  blk_ext [iblk, idx t]

include E in
theorem out0 (r : Fin 1024) (d : Fin 1024) : out0_2 (iblk m c 0 t) (iblk m c 1 t) (ix2 r d)
    = prod P Q 2048 (1024 * (t.val / 12) + r.val) (1024 * (t.val % 12) + d.val) := by
  unfold out0_2
  rw [View.canon_unit_zero hz2]
  simp only [View.ld_unit_zero (S := S1024x2048) hz2, View.ld_unit_zero (S := S1x2048x1024) hz3]
  rw [out0_apply]
  exact congrArg (fun v => v) (prod_first (b := 2048) P Q _ _ fun k => by rw [rd0 E, rd1 E])

/-- The array of the results. -/
def res0 (P Q : ℕ → ℕ → EReal) : FVec Ideal S4096x12288 .bf16 := fun y => prod P Q 2048 (y 0).val (y 1).val

include E in
theorem point0 (y : S1024x1024.Idx) :
    out0_2 (iblk m c 0 t) (iblk m c 1 t) y = res0 P Q (((cfg0.win 2).blk t).view.emb y) := by
  idx_vars y
  refine (out0 E t y0 y1).trans ?_
  unfold res0
  blk_simp [idx t]
  have ht := (idx t).2.2.2.2
  simp only [Nat.mul_comm _ 1024]

include E in
theorem final0 : (dats m 0 c).arrAt 2 cfg0.N = res0 P Q := by
  refine (dats m 0 c).arrAt_eq_of_covers 2 _ (by decide +kernel) fun t ht y => ?_
  blk_simp
  rw [after0_2]
  exact point0 E t y

include E in
theorem out1 (r : Fin 1024) (d : Fin 1024) : out0_3 (iblk m c 0 t) (iblk m c 1 t) (ix2 r d)
    = gelu ((prod P Q 2048 (1024 * (t.val / 12) + r.val) (1024 * (t.val % 12) + d.val))) := by
  unfold out0_3
  rw [View.canon_unit_zero hz2]
  simp only [View.ld_unit_zero (S := S1024x2048) hz2, View.ld_unit_zero (S := S1x2048x1024) hz3]
  rw [out1_apply]
  exact congrArg (fun v => gelu (v)) (prod_first (b := 2048) P Q _ _ fun k => by rw [rd0 E, rd1 E])

/-- The array of the results. -/
def res1 (P Q : ℕ → ℕ → EReal) : FVec Ideal S4096x12288 .bf16 := fun y => gelu ((prod P Q 2048 (y 0).val (y 1).val))

include E in
theorem point1 (y : S1024x1024.Idx) :
    out0_3 (iblk m c 0 t) (iblk m c 1 t) y = res1 P Q (((cfg0.win 3).blk t).view.emb y) := by
  idx_vars y
  refine (out1 E t y0 y1).trans ?_
  unfold res1
  blk_simp [idx t]
  have ht := (idx t).2.2.2.2
  simp only [Nat.mul_comm _ 1024]

include E in
theorem final1 : (dats m 0 c).arrAt 3 cfg0.N = res1 P Q := by
  refine (dats m 0 c).arrAt_eq_of_covers 3 _ (by decide +kernel) fun t ht y => ?_
  blk_simp
  rw [after0_3]
  exact point1 E t y

end Cert.GmlpInIdeal.Val
-- ==== Proof.GmlpInR.lean ====
module

public import proofs.«01_k».proof.Proof.Gen.RefGmlpInIdeal.Read
public import proofs.«01_k».proof.Proof.Gen.RefGmlpInIdeal.Run
public import proofs.«01_k».proof.Proof.GmlpInV
public import proofs.«01_k».proof.Defs
public import Idealize.ShloMosaic.Lib.Quiescent

/-! # The mixer's input product: the kernel and the reference agree -/

@[expose] public section

noncomputable section

set_option maxRecDepth 16384

namespace Cert.GmlpInIdeal.Val

open Cert.GmlpInIdeal Cert.GmlpInIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S2048x12288 .f32 := m ((c : Thread nD τ).loc main_arg1)

theorem ent : Ent m c (fun i k => nat (x0 m c) i k) (fun j k => nat (x1 m c) k j) where
  a i k := by
    simp only [nat_val, nat_row]
    unfold V
    after_reads_at

  b p k j := by
    have h : 3072 * p.val + j.val < 12288 := by omega
    refine Eq.trans ?_ (nat_val (x1 m c) k ⟨3072 * p.val + j.val, h⟩).symm
    unfold V
    after_reads_at
    congr 1
    funext a
    apply Fin.ext
    fin_cases a <;> simp [ix2, ix3] <;> omega

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res0 (fun i k => nat (x0 m c) i k) (fun j k => nat (x1 m c) k j)
      ∧ r.2.mem ((c.tc : Thread nD τ).loc main_v4_1) = res1 (fun i k => nat (x0 m c) i k) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), ((h.1 c).1 3).trans (final1 (ent m c)), h.2 c⟩) (θ_run_and (run_main m ρ) (unchanged m ρ))

end Cert.GmlpInIdeal.Val

namespace Cert.RefGmlpInIdeal.Val

open Cert.RefGmlpInIdeal Cert.RefGmlpInIdeal.Gen Cert.RefGmlpInIdeal.Read Cert.Mm Idealize.ShloMosaic

variable (x0 : FVec Ideal S4096x2048 .f32) (x1 : FVec Ideal S2048x12288 .f32)

theorem read_dot (i : Fin 4096) (j : Fin 12288) : val_main_v0 (F := Ideal) x0 x1 (ix2 i j)
    = prod (fun i k => nat x0 i k) (fun j k => nat x1 k j) 2048 i.val j.val :=
  Eq.trans (by pointwise [val_main_v0]) (prod_first (t := fun k : Fin 2048 => (x0 (ix2 i k)) * (x1 (ix2 k j))) _ _ _ _ _ fun k => by
    simp only [nat_val, nat_row])

theorem read_res0 : val_main_v1 (F := Ideal) x0 x1 = Cert.GmlpInIdeal.Val.res0 (fun i k => nat x0 i k) (fun j k => nat x1 k j) := by
  funext y
  idx_vars y
  unfold Cert.GmlpInIdeal.Val.res0
  exact (val_main_v1_apply _ _ _).trans (read_dot x0 x1 y0 y1)

theorem read_res1 : val_main_v9 (F := Ideal) x0 x1 = Cert.GmlpInIdeal.Val.res1 (fun i k => nat x0 i k) (fun j k => nat x1 k j) := by
  funext y
  idx_vars y
  unfold Cert.GmlpInIdeal.Val.res1
  rw [val_main_v9_apply, val_main_v8_apply, val_main_v7_apply, val_main_v6_apply, val_main_v4_apply, val_main_v3_apply, read_dot x0 x1 y0 y1]
  pointwise [val_main_v2, val_main_cst, val_main_v5, val_main_cst_0, gelu]
  rw [neg_mul, Ideal.erfc_neg]

end Cert.RefGmlpInIdeal.Val

namespace Cert.GmlpInIdeal.Val

open Idealize.ShloMosaic Idealize.SL.Sem

theorem frame_reference : Cert.quiescent_RefGmlpInIdeal := fun m ρ _ =>
  (θ_run Cert.RefGmlpInIdeal.defs _ _).mono (fun r h => ⟨fun c => (h c).2.2,
      Idealize.ShloMosaic.sem_eq_zero_of_no_sems (by decide) r.2⟩)
    (Cert.RefGmlpInIdeal.Value.run (F := Ideal) m ρ)

theorem algebraic : Cert.algebraic_GmlpInIdeal_RefGmlpInIdeal := by
  intro m g m' g' _ hargs
  refine ⟨fun c => _, fun c => _, run m g, (θ_run Cert.RefGmlpInIdeal.defs _ _).mono (fun r h c => ?_) (Cert.RefGmlpInIdeal.Value.run (F := Ideal) m' g')⟩
  obtain ⟨a0, a1⟩ := hargs c
  refine ⟨(h c).1.trans ?_, (h c).2.1.trans ?_, (h c).2.2⟩
  · rw [Cert.RefGmlpInIdeal.Read.val_main_v1_eq, a0, a1]
    exact Cert.RefGmlpInIdeal.Val.read_res0 _ _
  · rw [Cert.RefGmlpInIdeal.Read.val_main_v9_eq, a0, a1]
    exact Cert.RefGmlpInIdeal.Val.read_res1 _ _

end Cert.GmlpInIdeal.Val
-- ==== Proof.WoGradV.lean ====
module

public import proofs.«01_k».proof.Proof.Gen.WoGradIdeal.Frame
public import proofs.«01_k».proof.Proof.Mm

/-! # The gradient of the attention's output weights: what the kernel leaves -/

@[expose] public section

noncomputable section

set_option maxRecDepth 16384

namespace Cert.WoGradIdeal.Val

open Cert.WoGradIdeal Cert.WoGradIdeal.Gen Cert.Mm Idealize.ShloMosaic Idealize.ShloMosaic.TcCoe Idealize.SL.Sem

/-! ## The expressions of the kernel, read at an index -/

section Pay

variable (x0 : Vec Ideal S2048x1024 .bf16) (x1 : Vec Ideal S2048x1024 .bf16)
  (s : Vec Ideal S1024x1024 .f32) (r : Fin 1024) (d : Fin 1024)

theorem first_apply : k0_pay2 x0 x1 (ix2 r d) = ∑ k : Fin 2048, x0 (ix2 k r) * x1 (ix2 k d) := by
  pointwise [k0_pay2, k0_pay1]

theorem out0_apply : k0_pay4 x0 x1 s (ix2 r d)
    = (s (ix2 r d) + ∑ k : Fin 2048, x0 (ix2 k r) * x1 (ix2 k d)) := by
  pointwise [k0_pay4, k0_pay1]

end Pay

/-! ## What a point leaves -/

section Cases

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S1024x1024) hz2, View.ld_unit_zero (S := S2048x1024) hz2]

theorem case_out0 (hc0 : ¬cond0_0 i) (hc1 : ¬cond0_1 i) (hc2 : cond0_2 i) :
    out0_B_2 c i arg3 harg3 arg4 harg4 arg5 harg5 arg6 harg6 hc0 hc1 hc2 x0 x1 xs = k0_pay4 x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero hz2]
  simp only [View.readAt_eq_ld, harg3.read_unread, harg4.read_unread, harg6.read_unread, View.ld_unit_zero (S := S1024x1024) hz2, View.ld_unit_zero (S := S2048x1024) hz2]

end Cases

/-! ## The grid -/

theorem idx : ∀ t : Fin cfg0.N, win0_0.index t = ![t.val % 2, t.val / 4]
    ∧ win0_1.index t = ![t.val % 2, t.val / 2 % 2]
    ∧ win0_2.index t = ![t.val / 4, t.val / 2 % 2] ∧ t.val < 8 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 2048) (k : Fin 4096), (V m c main_v0 : FVec Ideal S4096x2048 .bf16) (ix2 k i) = P i.val k.val
  b : ∀ (j : Fin 2048) (k : Fin 4096), (V m c main_v3 : FVec Ideal S4096x2048 .bf16) (ix2 k j) = Q j.val k.val

variable {m c} {P Q : ℕ → ℕ → EReal} (E : Ent m c P Q) (t : Fin cfg0.N)

include E in
theorem rd0 (r : Fin 1024) (k : Fin 2048) : iblk m c 0 t (ix2 k r) = P (1024 * (t.val / 4) + r.val) (2048 * (t.val % 2) + k.val) := by
  have ht := (idx t).2.2.2
  refine Eq.trans ?_ (E.a ⟨1024 * (t.val / 4) + r.val, by omega⟩ ⟨2048 * (t.val % 2) + k.val, by omega⟩)
  blk_ext [iblk, idx t]

include E in
theorem rd1 (d : Fin 1024) (k : Fin 2048) : iblk m c 1 t (ix2 k d) = Q (1024 * (t.val / 2 % 2) + d.val) (2048 * (t.val % 2) + k.val) := by
  have ht := (idx t).2.2.2
  refine Eq.trans ?_ (E.b ⟨1024 * (t.val / 2 % 2) + d.val, by omega⟩ ⟨2048 * (t.val % 2) + k.val, by omega⟩)
  blk_ext [iblk, idx t]

include E in
/-- The accumulator after a point that is not the last of its block. -/
theorem acc (h : t.val % 2 = 0) (r : Fin 1024) (d : Fin 1024) : (outsAt0 m c t.val t.isLt).2 (ix2 r d)
    = prod P Q 2048 (1024 * (t.val / 4) + r.val) (1024 * (t.val / 2 % 2) + d.val) := by
  rw [outsAt0_A m c t h (by omega)]
  dsimp only
  rw [case_first, first_apply]
  exact prod_first _ _ _ _ _ fun k => by rw [rd0 E, rd1 E, h, Nat.mul_zero, Nat.zero_add]

include E in
theorem out0 (h : t.val % 2 = 1) (r : Fin 1024) (d : Fin 1024) : (outsAt0 m c t.val t.isLt).1 (ix2 r d)
    = prod P Q 4096 (1024 * (t.val / 4) + r.val) (1024 * (t.val / 2 % 2) + d.val) := by
  have hN := t.isLt
  rw [outsAt0_B m c t (by omega) h]
  dsimp only
  rw [case_out0, out0_apply]
  have ha := acc E ⟨t.val - 1, by omega⟩ (by simp only; omega) r d
  simp only at ha
  rw [show (t.val - 1) / 4 = t.val / 4 by omega, show (t.val - 1) / 2 = t.val / 2 by omega] at ha
  exact congrArg (fun v => v) (prod_block P Q 2048 1 _ _ ha fun k => by rw [rd0 E, rd1 E, h])

/-- The array of the results. -/
def res0 (P Q : ℕ → ℕ → EReal) : FVec Ideal S2048x2048 .bf16 := fun y => prod P Q 4096 (y 0).val (y 1).val

include E in
theorem point0 (h : t.val % 2 = 1) (y : S1024x1024.Idx) :
    (outsAt0 m c t.val t.isLt).1 y = res0 P Q (((cfg0.win 2).blk t).view.emb y) := by
  idx_vars y
  refine (out0 E t h y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t ((flush0_2 t).mp ht) y

end Cert.WoGradIdeal.Val
-- ==== Proof.WoGradR.lean ====
module

public import proofs.«01_k».proof.Proof.Gen.RefWoGradIdeal.Read
public import proofs.«01_k».proof.Proof.Gen.RefWoGradIdeal.Run
public import proofs.«01_k».proof.Proof.WoGradV
public import proofs.«01_k».proof.Defs
public import Idealize.ShloMosaic.Lib.Quiescent

/-! # The gradient of the attention's output weights: the kernel and the reference agree -/

@[expose] public section

noncomputable section

set_option maxRecDepth 16384

namespace Cert.WoGradIdeal.Val

open Cert.WoGradIdeal Cert.WoGradIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S1x2048 .f32 := m ((c : Thread nD τ).loc main_arg1)
abbrev x2 : FVec Ideal S4096x2048 .f32 := m ((c : Thread nD τ).loc main_arg2)

theorem ent : Ent m c (fun i k => nat (x0 m c) k i) (fun j k => nat (x1 m c) 0 j * nat (x2 m c) k j) where
  a i k := by
    simp only [nat_val, nat_row]
    unfold V
    after_reads_at

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4) = res0 (fun i k => nat (x0 m c) k i) (fun j k => nat (x1 m c) 0 j * nat (x2 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final0 (ent m c)), h.2 c⟩) (θ_run_and (run_main m ρ) (unchanged m ρ))

end Cert.WoGradIdeal.Val

namespace Cert.RefWoGradIdeal.Val

open Cert.RefWoGradIdeal Cert.RefWoGradIdeal.Gen Cert.RefWoGradIdeal.Read Cert.Mm Idealize.ShloMosaic

variable (x0 : FVec Ideal S4096x2048 .f32) (x1 : FVec Ideal S1x2048 .f32) (x2 : FVec Ideal S4096x2048 .f32)

theorem read_dot (i : Fin 2048) (j : Fin 2048) : val_main_v6 (F := Ideal) x0 x1 x2 (ix2 i j)
    = prod (fun i k => nat x1 0 i * nat x2 k i) (fun j k => nat x0 k j) 4096 i.val j.val :=
  Eq.trans (by pointwise [val_main_v6, val_main_v5, val_main_v4]) (prod_first (t := fun k : Fin 4096 => (x1 (ix2 0 i) * x2 (ix2 k i)) * (x0 (ix2 k j))) _ _ _ _ _ fun k => by
    simp only [nat_val, nat_row])

theorem read_res0 : val_main_v8 (F := Ideal) x0 x1 x2 = Cert.WoGradIdeal.Val.res0 (fun i k => nat x0 k i) (fun j k => nat x1 0 j * nat x2 k j) := by
  funext y
  idx_vars y
  unfold Cert.WoGradIdeal.Val.res0
  rw [prod_comm]
  refine Eq.trans ?_ (read_dot x0 x1 x2 y1 y0)
  rw [val_main_v8_apply, val_main_v7_apply]
  exact congrArg _ (by blk_ext [])

end Cert.RefWoGradIdeal.Val

namespace Cert.WoGradIdeal.Val

open Idealize.ShloMosaic Idealize.SL.Sem

theorem frame_reference : Cert.quiescent_RefWoGradIdeal := fun m ρ _ =>
  (θ_run Cert.RefWoGradIdeal.defs _ _).mono (fun r h => ⟨fun c => (h c).2,
      Idealize.ShloMosaic.sem_eq_zero_of_no_sems (by decide) r.2⟩)
    (Cert.RefWoGradIdeal.Value.run (F := Ideal) m ρ)

theorem algebraic : Cert.algebraic_WoGradIdeal_RefWoGradIdeal := by
  intro m g m' g' _ hargs
  refine ⟨fun c => _, run m g, (θ_run Cert.RefWoGradIdeal.defs _ _).mono (fun r h c => ?_) (Cert.RefWoGradIdeal.Value.run (F := Ideal) m' g')⟩
  obtain ⟨a0, a1, a2⟩ := hargs c
  refine ⟨(h c).1.trans ?_, (h c).2⟩
  · rw [Cert.RefWoGradIdeal.Read.val_main_v8_eq, a0, a1, a2]
    exact Cert.RefWoGradIdeal.Val.read_res0 _ _ _

end Cert.WoGradIdeal.Val
-- ==== Proof.OBwdV.lean ====
module

public import proofs.«01_k».proof.Proof.Gen.OBwdIdeal.Frame
public import proofs.«01_k».proof.Proof.Mm

/-! # The gradient of the attention's output: what the kernel leaves -/

@[expose] public section

noncomputable section

set_option maxRecDepth 16384

namespace Cert.OBwdIdeal.Val

open Cert.OBwdIdeal Cert.OBwdIdeal.Gen Cert.Mm Idealize.ShloMosaic Idealize.ShloMosaic.TcCoe Idealize.SL.Sem

/-! ## The expressions of the kernel, read at an index -/

section Pay

variable (x0 : Vec Ideal S1024x2048 .bf16) (x1 : Vec Ideal S1024x2048 .bf16)
  (r : Fin 1024) (d : Fin 1024)

theorem out0_apply : k0_pay1 x0 x1 (ix2 r d)
    = (∑ k : Fin 2048, x0 (ix2 r k) * x1 (ix2 d k)) := by
  pointwise [k0_pay1]

end Pay

/-! ## The grid -/

theorem idx : ∀ t : Fin cfg0.N, win0_0.index t = ![t.val / 2, 0]
    ∧ win0_1.index t = ![t.val % 2, 0]
    ∧ win0_2.index t = ![t.val / 2, t.val % 2] ∧ t.val < 8 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 4096) (k : Fin 2048), (V m c main_v2 : FVec Ideal S4096x2048 .bf16) (ix2 i k) = P i.val k.val
  b : ∀ (j : Fin 2048) (k : Fin 2048), (V m c main_v3 : FVec Ideal S2048x2048 .bf16) (ix2 j k) = Q j.val k.val

variable {m c} {P Q : ℕ → ℕ → EReal} (E : Ent m c P Q) (t : Fin cfg0.N)

include E in
theorem rd0 (r : Fin 1024) (k : Fin 2048) : iblk m c 0 t (ix2 r k) = P (1024 * (t.val / 2) + r.val) (k.val) := by
  have ht := (idx t).2.2.2
  refine Eq.trans ?_ (E.a ⟨1024 * (t.val / 2) + r.val, by omega⟩ ⟨k.val, by omega⟩)
  blk_ext [iblk, idx t]

include E in
theorem rd1 (d : Fin 1024) (k : Fin 2048) : iblk m c 1 t (ix2 d k) = Q (1024 * (t.val % 2) + d.val) (k.val) := by
  have ht := (idx t).2.2.2
  refine Eq.trans ?_ (E.b ⟨1024 * (t.val % 2) + d.val, by omega⟩ ⟨k.val, by omega⟩)
  blk_ext [iblk, idx t]

include E in
theorem out0 (r : Fin 1024) (d : Fin 1024) : out0_2 (iblk m c 0 t) (iblk m c 1 t) (ix2 r d)
    = prod P Q 2048 (1024 * (t.val / 2) + r.val) (1024 * (t.val % 2) + d.val) := by
  unfold out0_2
  rw [View.canon_unit_zero hz2]
  simp only [View.ld_unit_zero (S := S1024x2048) hz2]
  rw [out0_apply]
  exact congrArg (fun v => v) (prod_first (b := 2048) P Q _ _ fun k => by rw [rd0 E, rd1 E])

/-- The array of the results. -/
def res0 (P Q : ℕ → ℕ → EReal) : FVec Ideal S4096x2048 .bf16 := fun y => prod P Q 2048 (y 0).val (y 1).val

include E in
theorem point0 (y : S1024x1024.Idx) :
    out0_2 (iblk m c 0 t) (iblk m c 1 t) y = res0 P Q (((cfg0.win 2).blk t).view.emb y) := by
  idx_vars y
  refine (out0 E t y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t y

end Cert.OBwdIdeal.Val
-- ==== Proof.OBwdR.lean ====
module

public import proofs.«01_k».proof.Proof.Gen.RefOBwdIdeal.Read
public import proofs.«01_k».proof.Proof.Gen.RefOBwdIdeal.Run
public import proofs.«01_k».proof.Proof.OBwdV
public import proofs.«01_k».proof.Defs
public import Idealize.ShloMosaic.Lib.Quiescent

/-! # The gradient of the attention's output: the kernel and the reference agree -/

@[expose] public section

noncomputable section

set_option maxRecDepth 16384

namespace Cert.OBwdIdeal.Val

open Cert.OBwdIdeal Cert.OBwdIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S2048x2048 .f32 := m ((c : Thread nD τ).loc main_arg0)
abbrev x1 : FVec Ideal S1x2048 .f32 := m ((c : Thread nD τ).loc main_arg1)
abbrev x2 : FVec Ideal S4096x2048 .f32 := m ((c : Thread nD τ).loc main_arg2)

theorem ent : Ent m c (fun i k => nat (x1 m c) 0 k * nat (x2 m c) i k) (fun j k => nat (x0 m c) j k) where
  a i k := by
    simp only [nat_val, nat_row]
    unfold V
    after_reads_at

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4) = res0 (fun i k => nat (x1 m c) 0 k * nat (x2 m c) i k) (fun j k => nat (x0 m c) j k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final0 (ent m c)), h.2 c⟩) (θ_run_and (run_main m ρ) (unchanged m ρ))

end Cert.OBwdIdeal.Val

namespace Cert.RefOBwdIdeal.Val

open Cert.RefOBwdIdeal Cert.RefOBwdIdeal.Gen Cert.RefOBwdIdeal.Read Cert.Mm Idealize.ShloMosaic

variable (x0 : FVec Ideal S2048x2048 .f32) (x1 : FVec Ideal S1x2048 .f32) (x2 : FVec Ideal S4096x2048 .f32)

theorem read_dot (i : Fin 4096) (j : Fin 2048) : val_main_v6 (F := Ideal) x0 x1 x2 (ix2 i j)
    = prod (fun i k => nat x1 0 k * nat x2 i k) (fun j k => nat x0 j k) 2048 i.val j.val :=
  Eq.trans (by pointwise [val_main_v6, val_main_v5, val_main_v4]) (prod_first (t := fun k : Fin 2048 => (x1 (ix2 0 k) * x2 (ix2 i k)) * (x0 (ix2 j k))) _ _ _ _ _ fun k => by
    simp only [nat_val, nat_row])

theorem read_res0 : val_main_v7 (F := Ideal) x0 x1 x2 = Cert.OBwdIdeal.Val.res0 (fun i k => nat x1 0 k * nat x2 i k) (fun j k => nat x0 j k) := by
  funext y
  idx_vars y
  unfold Cert.OBwdIdeal.Val.res0
  exact (val_main_v7_apply _ _ _ _).trans (read_dot x0 x1 x2 y0 y1)

end Cert.RefOBwdIdeal.Val

namespace Cert.OBwdIdeal.Val

open Idealize.ShloMosaic Idealize.SL.Sem

theorem frame_reference : Cert.quiescent_RefOBwdIdeal := fun m ρ _ =>
  (θ_run Cert.RefOBwdIdeal.defs _ _).mono (fun r h => ⟨fun c => (h c).2,
      Idealize.ShloMosaic.sem_eq_zero_of_no_sems (by decide) r.2⟩)
    (Cert.RefOBwdIdeal.Value.run (F := Ideal) m ρ)

theorem algebraic : Cert.algebraic_OBwdIdeal_RefOBwdIdeal := by
  intro m g m' g' _ hargs
  refine ⟨fun c => _, run m g, (θ_run Cert.RefOBwdIdeal.defs _ _).mono (fun r h c => ?_) (Cert.RefOBwdIdeal.Value.run (F := Ideal) m' g')⟩
  obtain ⟨a0, a1, a2⟩ := hargs c
  refine ⟨(h c).1.trans ?_, (h c).2⟩
  · rw [Cert.RefOBwdIdeal.Read.val_main_v7_eq, a0, a1, a2]
    exact Cert.RefOBwdIdeal.Val.read_res0 _ _ _

end Cert.OBwdIdeal.Val
-- ==== Proof.AttnOV.lean ====
module

public import proofs.«01_k».proof.Proof.Gen.AttnOIdeal.Frame
public import proofs.«01_k».proof.Proof.Mm

/-! # The attention's output product: what the kernel leaves -/

@[expose] public section

noncomputable section

set_option maxRecDepth 16384

namespace Cert.AttnOIdeal.Val

open Cert.AttnOIdeal Cert.AttnOIdeal.Gen Cert.Mm Idealize.ShloMosaic Idealize.ShloMosaic.TcCoe Idealize.SL.Sem

/-! ## The expressions of the kernel, read at an index -/

section Pay

variable (x0 : Vec Ideal S1024x2048 .bf16) (x1 : Vec Ideal S2048x1024 .bf16) (x2 : Vec Ideal S1024x1024 .f32) (x3 : Vec Ideal S1x1024 .f32)
  (r : Fin 1024) (d : Fin 1024)

theorem out0_apply : k0_pay2 x0 x1 x2 x3 (ix2 r d)
    = x2 (ix2 r d) + x3 (ix2 0 d) * (∑ k : Fin 2048, x0 (ix2 r k) * x1 (ix2 k d)) := by
  pointwise [k0_pay2, k0_pay1]

theorem out1_apply : k0_pay3 x0 x1 (ix2 r d)
    = (∑ k : Fin 2048, x0 (ix2 r k) * x1 (ix2 k d)) := by
  pointwise [k0_pay3, k0_pay1]

end Pay

/-! ## The grid -/

theorem idx : ∀ t : Fin cfg0.N, win0_0.index t = ![t.val / 2, 0]
    ∧ win0_1.index t = ![0, t.val % 2]
    ∧ win0_2.index t = ![t.val / 2, t.val % 2]
    ∧ win0_3.index t = ![0, t.val % 2]
    ∧ win0_4.index t = ![t.val / 2, t.val % 2]
    ∧ win0_5.index t = ![t.val / 2, t.val % 2] ∧ t.val < 8 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q X0 X1 : ℕ → ℕ → EReal) : Prop where
  a : ∀ (i : Fin 4096) (k : Fin 2048), (V m c main_v0 : FVec Ideal S4096x2048 .bf16) (ix2 i k) = P i.val k.val
  b : ∀ (j : Fin 2048) (k : Fin 2048), (V m c main_v1 : FVec Ideal S2048x2048 .bf16) (ix2 k j) = Q j.val k.val
  e0 : ∀ (i : Fin 4096) (j : Fin 2048), (V m c main_arg2 : FVec Ideal S4096x2048 .f32) (ix2 i j) = X0 i.val j.val
  e1 : ∀ (i : Fin 1) (j : Fin 2048), (V m c main_arg3 : FVec Ideal S1x2048 .f32) (ix2 i j) = X1 i.val j.val

variable {m c} {P Q X0 X1 : ℕ → ℕ → EReal} (E : Ent m c P Q X0 X1) (t : Fin cfg0.N)

include E in
theorem rd0 (r : Fin 1024) (k : Fin 2048) : iblk m c 0 t (ix2 r k) = P (1024 * (t.val / 2) + r.val) (k.val) := by
  have ht := (idx t).2.2.2.2.2.2
  refine Eq.trans ?_ (E.a ⟨1024 * (t.val / 2) + r.val, by omega⟩ ⟨k.val, by omega⟩)
  blk_ext [iblk, idx t]

include E in
theorem rd1 (d : Fin 1024) (k : Fin 2048) : iblk m c 1 t (ix2 k d) = Q (1024 * (t.val % 2) + d.val) (k.val) := by
  have ht := (idx t).2.2.2.2.2.2
  refine Eq.trans ?_ (E.b ⟨1024 * (t.val % 2) + d.val, by omega⟩ ⟨k.val, by omega⟩)
  blk_ext [iblk, idx t]

include E in
theorem rd2 (r : Fin 1024) (d : Fin 1024) : iblk m c 2 t (ix2 r d) = X0 (1024 * (t.val / 2) + r.val) (1024 * (t.val % 2) + d.val) := by
  have ht := (idx t).2.2.2.2.2.2
  refine Eq.trans ?_ (E.e0 ⟨1024 * (t.val / 2) + r.val, by omega⟩ ⟨1024 * (t.val % 2) + d.val, by omega⟩)
  blk_ext [iblk, idx t]

include E in
theorem rd3 (d : Fin 1024) : iblk m c 3 t (ix2 0 d) = X1 0 (1024 * (t.val % 2) + d.val) := by
  have ht := (idx t).2.2.2.2.2.2
  refine Eq.trans ?_ (E.e1 0 ⟨1024 * (t.val % 2) + d.val, by omega⟩)
  blk_ext [iblk, idx t]

include E in
theorem out0 (r : Fin 1024) (d : Fin 1024) : out0_4 (iblk m c 0 t) (iblk m c 1 t) (iblk m c 2 t) (iblk m c 3 t) (ix2 r d)
    = X0 (1024 * (t.val / 2) + r.val) (1024 * (t.val % 2) + d.val) + X1 0 (1024 * (t.val % 2) + d.val) * (prod P Q 2048 (1024 * (t.val / 2) + r.val) (1024 * (t.val % 2) + d.val)) := by
  unfold out0_4
  rw [View.canon_unit_zero hz2]
  simp only [View.ld_unit_zero (S := S1024x1024) hz2, View.ld_unit_zero (S := S1024x2048) hz2, View.ld_unit_zero (S := S1x1024) hz2, View.ld_unit_zero (S := S2048x1024) hz2]
  rw [out0_apply, rd2 E, rd3 E]
  exact congrArg (fun v => X0 (1024 * (t.val / 2) + r.val) (1024 * (t.val % 2) + d.val) + X1 0 (1024 * (t.val % 2) + d.val) * v) (prod_first (b := 2048) P Q _ _ fun k => by rw [rd0 E, rd1 E])

/-- The array of the results. -/
def res0 (P Q X0 X1 : ℕ → ℕ → EReal) : FVec Ideal S4096x2048 .f32 := fun y => X0 (y 0).val (y 1).val + X1 0 (y 1).val * (prod P Q 2048 (y 0).val (y 1).val)

include E in
theorem point0 (y : S1024x1024.Idx) :
    out0_4 (iblk m c 0 t) (iblk m c 1 t) (iblk m c 2 t) (iblk m c 3 t) y = res0 P Q X0 X1 (((cfg0.win 4).blk t).view.emb y) := by
  idx_vars y
  refine (out0 E t y0 y1).trans ?_
  unfold res0
  blk_simp [idx t]
  have ht := (idx t).2.2.2.2.2.2
  simp only [Nat.mul_comm _ 1024]

include E in
theorem final0 : (dats m 0 c).arrAt 4 cfg0.N = res0 P Q X0 X1 := by
  refine (dats m 0 c).arrAt_eq_of_covers 4 _ (by decide +kernel) fun t ht y => ?_
  blk_simp
  rw [after0_4]
  exact point0 E t y

include E in
theorem out1 (r : Fin 1024) (d : Fin 1024) : out0_5 (iblk m c 0 t) (iblk m c 1 t) (iblk m c 2 t) (iblk m c 3 t) (ix2 r d)
    = prod P Q 2048 (1024 * (t.val / 2) + r.val) (1024 * (t.val % 2) + d.val) := by
  unfold out0_5
  rw [View.canon_unit_zero hz2]
  simp only [View.ld_unit_zero (S := S1024x1024) hz2, View.ld_unit_zero (S := S1024x2048) hz2, View.ld_unit_zero (S := S1x1024) hz2, View.ld_unit_zero (S := S2048x1024) hz2]
  rw [out1_apply]
  exact congrArg (fun v => v) (prod_first (b := 2048) P Q _ _ fun k => by rw [rd0 E, rd1 E])

/-- The array of the results. -/
def res1 (P Q : ℕ → ℕ → EReal) : FVec Ideal S4096x2048 .bf16 := fun y => prod P Q 2048 (y 0).val (y 1).val

include E in
theorem point1 (y : S1024x1024.Idx) :
    out0_5 (iblk m c 0 t) (iblk m c 1 t) (iblk m c 2 t) (iblk m c 3 t) y = res1 P Q (((cfg0.win 5).blk t).view.emb y) := by
  idx_vars y
  refine (out1 E t y0 y1).trans ?_
  unfold res1
  blk_simp [idx t]
  have ht := (idx t).2.2.2.2.2.2
  simp only [Nat.mul_comm _ 1024]

include E in
theorem final1 : (dats m 0 c).arrAt 5 cfg0.N = res1 P Q := by
  refine (dats m 0 c).arrAt_eq_of_covers 5 _ (by decide +kernel) fun t ht y => ?_
  blk_simp
  rw [after0_5]
  exact point1 E t y

end Cert.AttnOIdeal.Val
-- ==== Proof.AttnOR.lean ====
module

public import proofs.«01_k».proof.Proof.Gen.RefAttnOIdeal.Read
public import proofs.«01_k».proof.Proof.Gen.RefAttnOIdeal.Run
public import proofs.«01_k».proof.Proof.AttnOV
public import proofs.«01_k».proof.Defs
public import Idealize.ShloMosaic.Lib.Quiescent

/-! # The attention's output product: the kernel and the reference agree -/

@[expose] public section

noncomputable section

set_option maxRecDepth 16384

namespace Cert.AttnOIdeal.Val

open Cert.AttnOIdeal Cert.AttnOIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S2048x2048 .f32 := m ((c : Thread nD τ).loc main_arg1)
abbrev x2 : FVec Ideal S4096x2048 .f32 := m ((c : Thread nD τ).loc main_arg2)
abbrev x3 : FVec Ideal S1x2048 .f32 := m ((c : Thread nD τ).loc main_arg3)

theorem ent : Ent m c (fun i k => nat (x0 m c) i k) (fun j k => nat (x1 m c) k j) (fun i j => nat (x2 m c) i j) (fun i j => nat (x3 m c) 0 j) where
  a i k := by
    simp only [nat_val, nat_row]
    unfold V
    after_reads_at

  b j k := by
    simp only [nat_val, nat_row]
    unfold V
    after_reads_at

  e0 i j := by
    simp only [nat_val, nat_row]
    unfold V
    after_reads_at

  e1 i j := by
    simp only [nat_val, nat_row]
    unfold V
    after_reads_at
    obtain rfl : i = 0 := Subsingleton.elim _ _
    rfl

/-- Every run ends with the results and the arguments unchanged. -/
theorem run : θ_run defs (onTc (τ := τ) (main (F := Ideal))) ⟨m, fun _ => 0, ρ⟩ (fun r => ∀ c : Dev nD,
      r.2.mem ((c.tc : Thread nD τ).loc main_v2_0) = res0 (fun i k => nat (x0 m c) i k) (fun j k => nat (x1 m c) k j) (fun i j => nat (x2 m c) i j) (fun i j => nat (x3 m c) 0 j)
      ∧ r.2.mem ((c.tc : Thread nD τ).loc main_v2_1) = res1 (fun i k => nat (x0 m c) i k) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final0 (ent m c)), ((h.1 c).1 5).trans (final1 (ent m c)), h.2 c⟩) (θ_run_and (run_main m ρ) (unchanged m ρ))

end Cert.AttnOIdeal.Val

namespace Cert.RefAttnOIdeal.Val

open Cert.RefAttnOIdeal Cert.RefAttnOIdeal.Gen Cert.RefAttnOIdeal.Read Cert.Mm Idealize.ShloMosaic

variable (x0 : FVec Ideal S4096x2048 .f32) (x1 : FVec Ideal S2048x2048 .f32) (x2 : FVec Ideal S4096x2048 .f32) (x3 : FVec Ideal S1x2048 .f32)

theorem read_dot (i : Fin 4096) (j : Fin 2048) : val_main_v0 (F := Ideal) x0 x1 (ix2 i j)
    = prod (fun i k => nat x0 i k) (fun j k => nat x1 k j) 2048 i.val j.val :=
  Eq.trans (by pointwise [val_main_v0]) (prod_first (t := fun k : Fin 2048 => (x0 (ix2 i k)) * (x1 (ix2 k j))) _ _ _ _ _ fun k => by
    simp only [nat_val, nat_row])

theorem read_res0 : val_main_v3 (F := Ideal) x0 x1 x2 x3 = Cert.AttnOIdeal.Val.res0 (fun i k => nat x0 i k) (fun j k => nat x1 k j) (fun i j => nat x2 i j) (fun i j => nat x3 0 j) := by
  funext y
  idx_vars y
  unfold Cert.AttnOIdeal.Val.res0
  rw [val_main_v3_apply, val_main_v2_apply, read_dot x0 x1 y0 y1]
  show _ = nat x2 y0.val y1.val + nat x3 0 y1.val * prod _ _ _ y0.val y1.val
  rw [nat_val x2 y0 y1, nat_row x3 y1]
  pointwise [val_main_v1]

theorem read_res1 : val_main_v4 (F := Ideal) x0 x1 = Cert.AttnOIdeal.Val.res1 (fun i k => nat x0 i k) (fun j k => nat x1 k j) := by
  funext y
  idx_vars y
  unfold Cert.AttnOIdeal.Val.res1
  exact (val_main_v4_apply _ _ _).trans (read_dot x0 x1 y0 y1)

end Cert.RefAttnOIdeal.Val

namespace Cert.AttnOIdeal.Val

open Idealize.ShloMosaic Idealize.SL.Sem

theorem frame_reference : Cert.quiescent_RefAttnOIdeal := fun m ρ _ =>
  (θ_run Cert.RefAttnOIdeal.defs _ _).mono (fun r h => ⟨fun c => (h c).2.2,
      Idealize.ShloMosaic.sem_eq_zero_of_no_sems (by decide) r.2⟩)
    (Cert.RefAttnOIdeal.Value.run (F := Ideal) m ρ)

theorem algebraic : Cert.algebraic_AttnOIdeal_RefAttnOIdeal := by
  intro m g m' g' _ hargs
  refine ⟨fun c => _, fun c => _, run m g, (θ_run Cert.RefAttnOIdeal.defs _ _).mono (fun r h c => ?_) (Cert.RefAttnOIdeal.Value.run (F := Ideal) m' g')⟩
  obtain ⟨a0, a1, a2, a3⟩ := hargs c
  refine ⟨(h c).1.trans ?_, (h c).2.1.trans ?_, (h c).2.2⟩
  · rw [Cert.RefAttnOIdeal.Read.val_main_v3_eq, a0, a1, a2, a3]
    exact Cert.RefAttnOIdeal.Val.read_res0 _ _ _ _
  · rw [Cert.RefAttnOIdeal.Read.val_main_v4_eq, a0, a1]
    exact Cert.RefAttnOIdeal.Val.read_res1 _ _

end Cert.AttnOIdeal.Val
-- ==== Proof.WqGradV.lean ====
module

public import proofs.«01_k».proof.Proof.Gen.WqGradIdeal.Frame
public import proofs.«01_k».proof.Proof.Mm

/-! # The gradient of the queries' weights: what the kernel leaves -/

@[expose] public section

noncomputable section

set_option maxRecDepth 16384

namespace Cert.WqGradIdeal.Val

open Cert.WqGradIdeal Cert.WqGradIdeal.Gen Cert.Mm Idealize.ShloMosaic Idealize.ShloMosaic.TcCoe Idealize.SL.Sem

/-! ## The expressions of the kernel, read at an index -/

section Pay

variable (x0 : Vec Ideal S2048x1024 .bf16) (x1 : Vec Ideal S2048x1024 .bf16)
  (s : Vec Ideal S1024x1024 .f32) (r : Fin 1024) (d : Fin 1024)

theorem first_apply : k0_pay2 x0 x1 (ix2 r d) = ∑ k : Fin 2048, x0 (ix2 k r) * x1 (ix2 k d) := by
  pointwise [k0_pay2, k0_pay1]

theorem out0_apply : k0_pay4 x0 x1 s (ix2 r d)
    = (s (ix2 r d) + ∑ k : Fin 2048, x0 (ix2 k r) * x1 (ix2 k d)) := by
  pointwise [k0_pay4, k0_pay1]

end Pay

/-! ## What a point leaves -/

section Cases

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S1024x1024) hz2, View.ld_unit_zero (S := S2048x1024) hz2]

theorem case_out0 (hc0 : ¬cond0_0 i) (hc1 : ¬cond0_1 i) (hc2 : cond0_2 i) :
    out0_B_2 c i arg3 harg3 arg4 harg4 arg5 harg5 arg6 harg6 hc0 hc1 hc2 x0 x1 xs = k0_pay4 x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero hz2]
  simp only [View.readAt_eq_ld, harg3.read_unread, harg4.read_unread, harg6.read_unread, View.ld_unit_zero (S := S1024x1024) hz2, View.ld_unit_zero (S := S2048x1024) hz2]

end Cases

/-! ## The grid -/

theorem idx : ∀ t : Fin cfg0.N, win0_0.index t = ![t.val % 2, t.val / 4]
    ∧ win0_1.index t = ![t.val % 2, t.val / 2 % 2]
    ∧ win0_2.index t = ![t.val / 4, t.val / 2 % 2] ∧ t.val < 8 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 2048) (k : Fin 4096), (V m c main_v0 : FVec Ideal S4096x2048 .bf16) (ix2 k i) = P i.val k.val
  b : ∀ (j : Fin 2048) (k : Fin 4096), (V m c main_v1 : FVec Ideal S4096x2048 .bf16) (ix2 k j) = Q j.val k.val

variable {m c} {P Q : ℕ → ℕ → EReal} (E : Ent m c P Q) (t : Fin cfg0.N)

include E in
theorem rd0 (r : Fin 1024) (k : Fin 2048) : iblk m c 0 t (ix2 k r) = P (1024 * (t.val / 4) + r.val) (2048 * (t.val % 2) + k.val) := by
  have ht := (idx t).2.2.2
  refine Eq.trans ?_ (E.a ⟨1024 * (t.val / 4) + r.val, by omega⟩ ⟨2048 * (t.val % 2) + k.val, by omega⟩)
  blk_ext [iblk, idx t]

include E in
theorem rd1 (d : Fin 1024) (k : Fin 2048) : iblk m c 1 t (ix2 k d) = Q (1024 * (t.val / 2 % 2) + d.val) (2048 * (t.val % 2) + k.val) := by
  have ht := (idx t).2.2.2
  refine Eq.trans ?_ (E.b ⟨1024 * (t.val / 2 % 2) + d.val, by omega⟩ ⟨2048 * (t.val % 2) + k.val, by omega⟩)
  blk_ext [iblk, idx t]

include E in
/-- The accumulator after a point that is not the last of its block. -/
theorem acc (h : t.val % 2 = 0) (r : Fin 1024) (d : Fin 1024) : (outsAt0 m c t.val t.isLt).2 (ix2 r d)
    = prod P Q 2048 (1024 * (t.val / 4) + r.val) (1024 * (t.val / 2 % 2) + d.val) := by
  rw [outsAt0_A m c t h (by omega)]
  dsimp only
  rw [case_first, first_apply]
  exact prod_first _ _ _ _ _ fun k => by rw [rd0 E, rd1 E, h, Nat.mul_zero, Nat.zero_add]

include E in
theorem out0 (h : t.val % 2 = 1) (r : Fin 1024) (d : Fin 1024) : (outsAt0 m c t.val t.isLt).1 (ix2 r d)
    = prod P Q 4096 (1024 * (t.val / 4) + r.val) (1024 * (t.val / 2 % 2) + d.val) := by
  have hN := t.isLt
  rw [outsAt0_B m c t (by omega) h]
  dsimp only
  rw [case_out0, out0_apply]
  have ha := acc E ⟨t.val - 1, by omega⟩ (by simp only; omega) r d
  simp only at ha
  rw [show (t.val - 1) / 4 = t.val / 4 by omega, show (t.val - 1) / 2 = t.val / 2 by omega] at ha
  exact congrArg (fun v => v) (prod_block P Q 2048 1 _ _ ha fun k => by rw [rd0 E, rd1 E, h])

/-- The array of the results. -/
def res0 (P Q : ℕ → ℕ → EReal) : FVec Ideal S2048x2048 .bf16 := fun y => prod P Q 4096 (y 0).val (y 1).val

include E in
theorem point0 (h : t.val % 2 = 1) (y : S1024x1024.Idx) :
    (outsAt0 m c t.val t.isLt).1 y = res0 P Q (((cfg0.win 2).blk t).view.emb y) := by
  idx_vars y
  refine (out0 E t h y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t ((flush0_2 t).mp ht) y

end Cert.WqGradIdeal.Val
-- ==== Proof.WqGradR.lean ====
module

public import proofs.«01_k».proof.Proof.Gen.RefWqGradIdeal.Read
public import proofs.«01_k».proof.Proof.Gen.RefWqGradIdeal.Run
public import proofs.«01_k».proof.Proof.WqGradV
public import proofs.«01_k».proof.Defs
public import Idealize.ShloMosaic.Lib.Quiescent

/-! # The gradient of the queries' weights: the kernel and the reference agree -/

@[expose] public section

noncomputable section

set_option maxRecDepth 16384

namespace Cert.WqGradIdeal.Val

open Cert.WqGradIdeal Cert.WqGradIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S4096x2048 .f32 := m ((c : Thread nD τ).loc main_arg1)

theorem ent : Ent m c (fun i k => nat (x0 m c) k i) (fun j k => nat (x1 m c) k j) where
  a i k := by
    simp only [nat_val, nat_row]
    unfold V
    after_reads_at

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v2) = res0 (fun i k => nat (x0 m c) k i) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), h.2 c⟩) (θ_run_and (run_main m ρ) (unchanged m ρ))

end Cert.WqGradIdeal.Val

namespace Cert.RefWqGradIdeal.Val

open Cert.RefWqGradIdeal Cert.RefWqGradIdeal.Gen Cert.RefWqGradIdeal.Read Cert.Mm Idealize.ShloMosaic

variable (x0 : FVec Ideal S4096x2048 .f32) (x1 : FVec Ideal S4096x2048 .f32)

theorem read_dot (i : Fin 2048) (j : Fin 2048) : val_main_v2 (F := Ideal) x0 x1 (ix2 i j)
    = prod (fun i k => nat x1 k i) (fun j k => nat x0 k j) 4096 i.val j.val :=
  Eq.trans (by pointwise [val_main_v2]) (prod_first (t := fun k : Fin 4096 => (x1 (ix2 k i)) * (x0 (ix2 k j))) _ _ _ _ _ fun k => by
    simp only [nat_val, nat_row])

theorem read_res0 : val_main_v4 (F := Ideal) x0 x1 = Cert.WqGradIdeal.Val.res0 (fun i k => nat x0 k i) (fun j k => nat x1 k j) := by
  funext y
  idx_vars y
  unfold Cert.WqGradIdeal.Val.res0
  rw [prod_comm]
  refine Eq.trans ?_ (read_dot x0 x1 y1 y0)
  rw [val_main_v4_apply, val_main_v3_apply]
  exact congrArg _ (by blk_ext [])

end Cert.RefWqGradIdeal.Val

namespace Cert.WqGradIdeal.Val

open Idealize.ShloMosaic Idealize.SL.Sem

theorem frame_reference : Cert.quiescent_RefWqGradIdeal := fun m ρ _ =>
  (θ_run Cert.RefWqGradIdeal.defs _ _).mono (fun r h => ⟨fun c => (h c).2,
      Idealize.ShloMosaic.sem_eq_zero_of_no_sems (by decide) r.2⟩)
    (Cert.RefWqGradIdeal.Value.run (F := Ideal) m ρ)

theorem algebraic : Cert.algebraic_WqGradIdeal_RefWqGradIdeal := by
  intro m g m' g' _ hargs
  refine ⟨fun c => _, run m g, (θ_run Cert.RefWqGradIdeal.defs _ _).mono (fun r h c => ?_) (Cert.RefWqGradIdeal.Value.run (F := Ideal) m' g')⟩
  obtain ⟨a0, a1⟩ := hargs c
  refine ⟨(h c).1.trans ?_, (h c).2⟩
  · rw [Cert.RefWqGradIdeal.Read.val_main_v4_eq, a0, a1]
    exact Cert.RefWqGradIdeal.Val.read_res0 _ _

end Cert.WqGradIdeal.Val
-- ==== Proof.QBwdV.lean ====
module

public import proofs.«01_k».proof.Proof.Gen.QBwdIdeal.Frame
public import proofs.«01_k».proof.Proof.Mm

/-! # The gradient of the queries' input: what the kernel leaves -/

@[expose] public section

noncomputable section

set_option maxRecDepth 16384

namespace Cert.QBwdIdeal.Val

open Cert.QBwdIdeal Cert.QBwdIdeal.Gen Cert.Mm Idealize.ShloMosaic Idealize.ShloMosaic.TcCoe Idealize.SL.Sem

/-! ## The expressions of the kernel, read at an index -/

section Pay

variable (x0 : Vec Ideal S1024x2048 .bf16) (x1 : Vec Ideal S1024x2048 .bf16)
  (r : Fin 1024) (d : Fin 1024)

theorem out0_apply : k0_pay1 x0 x1 (ix2 r d)
    = (∑ k : Fin 2048, x0 (ix2 r k) * x1 (ix2 d k)) := by
  pointwise [k0_pay1]

end Pay

/-! ## The grid -/

theorem idx : ∀ t : Fin cfg0.N, win0_0.index t = ![t.val / 2, 0]
    ∧ win0_1.index t = ![t.val % 2, 0]
    ∧ win0_2.index t = ![t.val / 2, t.val % 2] ∧ t.val < 8 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 4096) (k : Fin 2048), (V m c main_v0 : FVec Ideal S4096x2048 .bf16) (ix2 i k) = P i.val k.val
  b : ∀ (j : Fin 2048) (k : Fin 2048), (V m c main_v1 : FVec Ideal S2048x2048 .bf16) (ix2 j k) = Q j.val k.val

variable {m c} {P Q : ℕ → ℕ → EReal} (E : Ent m c P Q) (t : Fin cfg0.N)

include E in
theorem rd0 (r : Fin 1024) (k : Fin 2048) : iblk m c 0 t (ix2 r k) = P (1024 * (t.val / 2) + r.val) (k.val) := by
  have ht := (idx t).2.2.2
  refine Eq.trans ?_ (E.a ⟨1024 * (t.val / 2) + r.val, by omega⟩ ⟨k.val, by omega⟩)
  blk_ext [iblk, idx t]

include E in
theorem rd1 (d : Fin 1024) (k : Fin 2048) : iblk m c 1 t (ix2 d k) = Q (1024 * (t.val % 2) + d.val) (k.val) := by
  have ht := (idx t).2.2.2
  refine Eq.trans ?_ (E.b ⟨1024 * (t.val % 2) + d.val, by omega⟩ ⟨k.val, by omega⟩)
  blk_ext [iblk, idx t]

include E in
theorem out0 (r : Fin 1024) (d : Fin 1024) : out0_2 (iblk m c 0 t) (iblk m c 1 t) (ix2 r d)
    = prod P Q 2048 (1024 * (t.val / 2) + r.val) (1024 * (t.val % 2) + d.val) := by
  unfold out0_2
  rw [View.canon_unit_zero hz2]
  simp only [View.ld_unit_zero (S := S1024x2048) hz2]
  rw [out0_apply]
  exact congrArg (fun v => v) (prod_first (b := 2048) P Q _ _ fun k => by rw [rd0 E, rd1 E])

/-- The array of the results. -/
def res0 (P Q : ℕ → ℕ → EReal) : FVec Ideal S4096x2048 .bf16 := fun y => prod P Q 2048 (y 0).val (y 1).val

include E in
theorem point0 (y : S1024x1024.Idx) :
    out0_2 (iblk m c 0 t) (iblk m c 1 t) y = res0 P Q (((cfg0.win 2).blk t).view.emb y) := by
  idx_vars y
  refine (out0 E t y0 y1).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t y

end Cert.QBwdIdeal.Val
-- ==== Proof.QBwdR.lean ====
module

public import proofs.«01_k».proof.Proof.Gen.RefQBwdIdeal.Read
public import proofs.«01_k».proof.Proof.Gen.RefQBwdIdeal.Run
public import proofs.«01_k».proof.Proof.QBwdV
public import proofs.«01_k».proof.Defs
public import Idealize.ShloMosaic.Lib.Quiescent

/-! # The gradient of the queries' input: the kernel and the reference agree -/

@[expose] public section

noncomputable section

set_option maxRecDepth 16384

namespace Cert.QBwdIdeal.Val

open Cert.QBwdIdeal Cert.QBwdIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S2048x2048 .f32 := m ((c : Thread nD τ).loc main_arg0)
abbrev x1 : FVec Ideal S4096x2048 .f32 := m ((c : Thread nD τ).loc main_arg1)

theorem ent : Ent m c (fun i k => nat (x1 m c) i k) (fun j k => nat (x0 m c) j k) where
  a i k := by
    simp only [nat_val, nat_row]
    unfold V
    after_reads_at

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v2) = res0 (fun i k => nat (x1 m c) i k) (fun j k => nat (x0 m c) j k)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), h.2 c⟩) (θ_run_and (run_main m ρ) (unchanged m ρ))

end Cert.QBwdIdeal.Val

namespace Cert.RefQBwdIdeal.Val

open Cert.RefQBwdIdeal Cert.RefQBwdIdeal.Gen Cert.RefQBwdIdeal.Read Cert.Mm Idealize.ShloMosaic

variable (x0 : FVec Ideal S2048x2048 .f32) (x1 : FVec Ideal S4096x2048 .f32)

theorem read_dot (i : Fin 4096) (j : Fin 2048) : val_main_v2 (F := Ideal) x0 x1 (ix2 i j)
    = prod (fun i k => nat x1 i k) (fun j k => nat x0 j k) 2048 i.val j.val :=
  Eq.trans (by pointwise [val_main_v2]) (prod_first (t := fun k : Fin 2048 => (x1 (ix2 i k)) * (x0 (ix2 j k))) _ _ _ _ _ fun k => by
    simp only [nat_val, nat_row])

theorem read_res0 : val_main_v3 (F := Ideal) x0 x1 = Cert.QBwdIdeal.Val.res0 (fun i k => nat x1 i k) (fun j k => nat x0 j k) := by
  funext y
  idx_vars y
  unfold Cert.QBwdIdeal.Val.res0
  exact (val_main_v3_apply _ _ _).trans (read_dot x0 x1 y0 y1)

end Cert.RefQBwdIdeal.Val

namespace Cert.QBwdIdeal.Val

open Idealize.ShloMosaic Idealize.SL.Sem

theorem frame_reference : Cert.quiescent_RefQBwdIdeal := fun m ρ _ =>
  (θ_run Cert.RefQBwdIdeal.defs _ _).mono (fun r h => ⟨fun c => (h c).2,
      Idealize.ShloMosaic.sem_eq_zero_of_no_sems (by decide) r.2⟩)
    (Cert.RefQBwdIdeal.Value.run (F := Ideal) m ρ)

theorem algebraic : Cert.algebraic_QBwdIdeal_RefQBwdIdeal := by
  intro m g m' g' _ hargs
  refine ⟨fun c => _, run m g, (θ_run Cert.RefQBwdIdeal.defs _ _).mono (fun r h c => ?_) (Cert.RefQBwdIdeal.Value.run (F := Ideal) m' g')⟩
  obtain ⟨a0, a1⟩ := hargs c
  refine ⟨(h c).1.trans ?_, (h c).2⟩
  · rw [Cert.RefQBwdIdeal.Read.val_main_v3_eq, a0, a1]
    exact Cert.RefQBwdIdeal.Val.read_res0 _ _

end Cert.QBwdIdeal.Val
-- ==== Proof.KvGradV.lean ====
module

public import proofs.«01_k».proof.Proof.Gen.KvGradIdeal.Frame
public import proofs.«01_k».proof.Proof.Mm

/-! # The gradient of the shared keys' and values' weights: what the kernel leaves -/

@[expose] public section

noncomputable section

set_option maxRecDepth 16384

namespace Cert.KvGradIdeal.Val

open Cert.KvGradIdeal Cert.KvGradIdeal.Gen Cert.Mm Idealize.ShloMosaic Idealize.ShloMosaic.TcCoe Idealize.SL.Sem

/-! ## The expressions of the kernel, read at an index -/

section Pay

variable (x0 : Vec Ideal S2048x1024 .bf16) (x1 : Vec Ideal S2048x1024 .bf16)
  (s : Vec Ideal S1024x1024 .f32) (r : Fin 1024) (d : Fin 1024)

theorem first_apply : k0_pay2 x0 x1 (ix2 r d) = ∑ k : Fin 2048, x0 (ix2 k r) * x1 (ix2 k d) := by
  pointwise [k0_pay2, k0_pay1]

theorem out0_apply : k0_pay4 x0 x1 s (ix3 0 r d)
    = (s (ix2 r d) + ∑ k : Fin 2048, x0 (ix2 k r) * x1 (ix2 k d)) := by
  pointwise [k0_pay4, k0_pay1]

end Pay

/-! ## What a point leaves -/

section Cases

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1x1024x1024 .bf16) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, harg6.read_unread, View.ld_unit_zero (S := S1024x1024) hz2, View.ld_unit_zero (S := S2048x1024) hz2]

theorem case_out0 (hc0 : ¬cond0_0 i) (hc1 : ¬cond0_1 i) (hc2 : cond0_2 i) :
    out0_B_2 c i arg3 harg3 arg4 harg4 arg5 harg5 arg6 harg6 hc0 hc1 hc2 x0 x1 xs = k0_pay4 x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero hz3]
  simp only [View.readAt_eq_ld, harg3.read_unread, harg4.read_unread, harg6.read_unread, View.ld_unit_zero (S := S1024x1024) hz2, View.ld_unit_zero (S := S2048x1024) hz2]

end Cases

/-! ## The grid -/

theorem idx : ∀ t : Fin cfg0.N, win0_0.index t = ![t.val % 2, t.val / 8]
    ∧ win0_1.index t = ![t.val % 2, t.val / 2 % 4]
    ∧ win0_2.index t = ![t.val / 2 % 4, t.val / 8, 0] ∧ t.val < 16 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 2048) (k : Fin 4096), (V m c main_v0 : FVec Ideal S4096x2048 .bf16) (ix2 k i) = P i.val k.val
  b : ∀ (j : Fin 4096) (k : Fin 4096), (V m c main_v1 : FVec Ideal S4096x4096 .bf16) (ix2 k j) = Q j.val k.val

variable {m c} {P Q : ℕ → ℕ → EReal} (E : Ent m c P Q) (t : Fin cfg0.N)

include E in
theorem rd0 (r : Fin 1024) (k : Fin 2048) : iblk m c 0 t (ix2 k r) = P (1024 * (t.val / 8) + r.val) (2048 * (t.val % 2) + k.val) := by
  have ht := (idx t).2.2.2
  refine Eq.trans ?_ (E.a ⟨1024 * (t.val / 8) + r.val, by omega⟩ ⟨2048 * (t.val % 2) + k.val, by omega⟩)
  blk_ext [iblk, idx t]

include E in
theorem rd1 (d : Fin 1024) (k : Fin 2048) : iblk m c 1 t (ix2 k d) = Q (1024 * (t.val / 2 % 4) + d.val) (2048 * (t.val % 2) + k.val) := by
  have ht := (idx t).2.2.2
  refine Eq.trans ?_ (E.b ⟨1024 * (t.val / 2 % 4) + d.val, by omega⟩ ⟨2048 * (t.val % 2) + k.val, by omega⟩)
  blk_ext [iblk, idx t]

include E in
/-- The accumulator after a point that is not the last of its block. -/
theorem acc (h : t.val % 2 = 0) (r : Fin 1024) (d : Fin 1024) : (outsAt0 m c t.val t.isLt).2 (ix2 r d)
    = prod P Q 2048 (1024 * (t.val / 8) + r.val) (1024 * (t.val / 2 % 4) + d.val) := by
  rw [outsAt0_A m c t h (by omega)]
  dsimp only
  rw [case_first, first_apply]
  exact prod_first _ _ _ _ _ fun k => by rw [rd0 E, rd1 E, h, Nat.mul_zero, Nat.zero_add]

include E in
theorem out0 (h : t.val % 2 = 1) (r : Fin 1024) (d : Fin 1024) : (outsAt0 m c t.val t.isLt).1 (ix3 0 r d)
    = prod P Q 4096 (1024 * (t.val / 8) + r.val) (1024 * (t.val / 2 % 4) + d.val) := by
  have hN := t.isLt
  rw [outsAt0_B m c t (by omega) h]
  dsimp only
  rw [case_out0, out0_apply]
  have ha := acc E ⟨t.val - 1, by omega⟩ (by simp only; omega) r d
  simp only at ha
  rw [show (t.val - 1) / 8 = t.val / 8 by omega, show (t.val - 1) / 2 = t.val / 2 by omega] at ha
  exact congrArg (fun v => v) (prod_block P Q 2048 1 _ _ ha fun k => by rw [rd0 E, rd1 E, h])

/-- The array of the results. -/
def res0 (P Q : ℕ → ℕ → EReal) : FVec Ideal S4x2048x1024 .bf16 := fun y => prod P Q 4096 (y 1).val (1024 * (y 0).val + (y 2).val)

include E in
theorem point0 (h : t.val % 2 = 1) (y : S1x1024x1024.Idx) :
    (outsAt0 m c t.val t.isLt).1 y = res0 P Q (((cfg0.win 2).blk t).view.emb y) := by
  idx_vars y
  obtain rfl : y0 = 0 := Subsingleton.elim _ _
  refine (out0 E t h y1 y2).trans ?_
  unfold res0
  blk_simp [idx t]
  have ht := (idx t).2.2.2
  congr 1 <;> omega

include E in
theorem final0 : (dats m 0 c).arrAt 2 cfg0.N = res0 P Q := by
  refine (dats m 0 c).arrAt_eq_of_covers 2 _ (by decide +kernel) fun t ht y => ?_
  blk_simp
  rw [after0_2]
  exact point0 E t ((flush0_2 t).mp ht) y

end Cert.KvGradIdeal.Val
-- ==== Proof.KvGradR.lean ====
module

public import proofs.«01_k».proof.Proof.Gen.RefKvGradIdeal.Read
public import proofs.«01_k».proof.Proof.Gen.RefKvGradIdeal.Run
public import proofs.«01_k».proof.Proof.KvGradV
public import proofs.«01_k».proof.Defs
public import Idealize.ShloMosaic.Lib.Quiescent

/-! # The gradient of the shared keys' and values' weights: the kernel and the reference agree -/

@[expose] public section

noncomputable section

set_option maxRecDepth 16384

namespace Cert.KvGradIdeal.Val

open Cert.KvGradIdeal Cert.KvGradIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S4096x4096 .f32 := m ((c : Thread nD τ).loc main_arg1)

theorem ent : Ent m c (fun i k => nat (x0 m c) k i) (fun j k => nat (x1 m c) k j) where
  a i k := by
    simp only [nat_val, nat_row]
    unfold V
    after_reads_at

  b j k := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v2) = res0 (fun i k => nat (x0 m c) k i) (fun j k => nat (x1 m c) k j)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), h.2 c⟩) (θ_run_and (run_main m ρ) (unchanged m ρ))

end Cert.KvGradIdeal.Val

namespace Cert.RefKvGradIdeal.Val

open Cert.RefKvGradIdeal Cert.RefKvGradIdeal.Gen Cert.RefKvGradIdeal.Read Cert.Mm Idealize.ShloMosaic

variable (x0 : FVec Ideal S4096x2048 .f32) (x1 : FVec Ideal S4096x4096 .f32)

theorem read_dot (i : Fin 4096) (j : Fin 2048) : val_main_v2 (F := Ideal) x0 x1 (ix2 i j)
    = prod (fun i k => nat x1 k i) (fun j k => nat x0 k j) 4096 i.val j.val :=
  Eq.trans (by pointwise [val_main_v2]) (prod_first (t := fun k : Fin 4096 => (x1 (ix2 k i)) * (x0 (ix2 k j))) _ _ _ _ _ fun k => by
    simp only [nat_val, nat_row])

theorem read_res0 : val_main_v6 (F := Ideal) x0 x1 = Cert.KvGradIdeal.Val.res0 (fun i k => nat x0 k i) (fun j k => nat x1 k j) := by
  funext y
  idx_vars y
  unfold Cert.KvGradIdeal.Val.res0
  rw [prod_comm]
  have h : 1024 * y0.val + y2.val < 4096 := by omega
  refine Eq.trans ?_ (read_dot x0 x1 ⟨1024 * y0.val + y2.val, h⟩ y1)
  rw [val_main_v6_apply, val_main_v5_apply, val_main_v4_apply, val_main_v3_apply]
  show val_main_v2 (F := Ideal) x0 x1 _ = val_main_v2 (F := Ideal) x0 x1 _
  congr 1
  funext a
  apply Fin.ext
  fin_cases a <;> simp [ix2, ix3] <;> omega

end Cert.RefKvGradIdeal.Val

namespace Cert.KvGradIdeal.Val

open Idealize.ShloMosaic Idealize.SL.Sem

theorem frame_reference : Cert.quiescent_RefKvGradIdeal := fun m ρ _ =>
  (θ_run Cert.RefKvGradIdeal.defs _ _).mono (fun r h => ⟨fun c => (h c).2,
      Idealize.ShloMosaic.sem_eq_zero_of_no_sems (by decide) r.2⟩)
    (Cert.RefKvGradIdeal.Value.run (F := Ideal) m ρ)

theorem algebraic : Cert.algebraic_KvGradIdeal_RefKvGradIdeal := by
  intro m g m' g' _ hargs
  refine ⟨fun c => _, run m g, (θ_run Cert.RefKvGradIdeal.defs _ _).mono (fun r h c => ?_) (Cert.RefKvGradIdeal.Value.run (F := Ideal) m' g')⟩
  obtain ⟨a0, a1⟩ := hargs c
  refine ⟨(h c).1.trans ?_, (h c).2⟩
  · rw [Cert.RefKvGradIdeal.Read.val_main_v6_eq, a0, a1]
    exact Cert.RefKvGradIdeal.Val.read_res0 _ _

end Cert.KvGradIdeal.Val
-- ==== Proof.KvBwdV.lean ====
module

public import proofs.«01_k».proof.Proof.Gen.KvBwdIdeal.Frame
public import proofs.«01_k».proof.Proof.Mm

/-! # The gradient of the input of the shared keys and values: what the kernel leaves -/

@[expose] public section

noncomputable section

set_option maxRecDepth 16384

namespace Cert.KvBwdIdeal.Val

open Cert.KvBwdIdeal Cert.KvBwdIdeal.Gen Cert.Mm Idealize.ShloMosaic Idealize.ShloMosaic.TcCoe Idealize.SL.Sem

/-! ## The expressions of the kernel, read at an index -/

section Pay

variable (x0 : Vec Ideal S1024x1024 .bf16) (x1 : Vec Ideal S1x1024x1024 .bf16) (x2 : Vec Ideal S1024x1024 .bf16)
  (s : Vec Ideal S1024x1024 .f32) (r : Fin 1024) (d : Fin 1024)

theorem first_apply : k0_pay2 x0 x1 (ix2 r d) = ∑ k : Fin 1024, x0 (ix2 r k) * x1 (ix3 0 d k) := by
  pointwise [k0_pay2, k0_pay1]

theorem next_apply : k0_pay3 x0 x1 s (ix2 r d) = s (ix2 r d) + ∑ k : Fin 1024, x0 (ix2 r k) * x1 (ix3 0 d k) := by
  pointwise [k0_pay3, k0_pay1]

theorem out0_apply : k0_pay4 x0 x1 s x2 (ix2 r d)
    = (s (ix2 r d) + ∑ k : Fin 1024, x0 (ix2 r k) * x1 (ix3 0 d k)) + x2 (ix2 r d) := by
  pointwise [k0_pay4, k0_pay1]

end Pay

/-! ## What a point leaves -/

section Cases

variable (c : Dev nD) (i : grid0.Coords) (arg3 : Memref sig .tc .vmem S1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
  (x0 : Vec Ideal S1024x1024 .bf16) (x1 : Vec Ideal S1x1024x1024 .bf16) (x2 : Vec Ideal S1024x1024 .bf16) (xs : Vec Ideal S1024x1024 .f32)

theorem case_first (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  rw [View.canon_unit_zero hz2]
  simp only [View.readAt_eq_ld, harg3.read_unread, harg4.read_unread, harg5.read_unread, harg7.read_unread, View.ld_unit_zero (S := S1024x1024) hz2, View.ld_unit_zero (S := S1x1024x1024) hz3]

theorem case_next (hc0 : ¬cond0_0 i) (hc1 : cond0_1 i) (hc2 : ¬cond0_2 i) :
    sout0_B_0 c i arg3 harg3 arg4 harg4 arg5 harg5 arg6 harg6 arg7 harg7 hc0 hc1 hc2 x0 x1 x2 xs = k0_pay3 x0 x1 xs := by
  unfold sout0_B_0
  rw [View.read_writes_eq_canon _ _ _ (scover0_B_0 c i arg3 harg3 arg4 harg4 arg5 harg5 arg6 harg6 arg7 harg7 hc0 hc1 hc2 x0 x1 x2 xs)]
  unfold kernelRun0_B
  dsimp only
  rw [View.canon_unit_zero hz2]
  simp only [View.readAt_eq_ld, harg3.read_unread, harg4.read_unread, harg5.read_unread, harg7.read_unread, View.ld_unit_zero (S := S1024x1024) hz2, View.ld_unit_zero (S := S1x1024x1024) hz3]

theorem case_out0 (hc0 : ¬cond0_0 i) (hc1 : ¬cond0_1 i) (hc2 : cond0_2 i) :
    out0_C_3 c i arg3 harg3 arg4 harg4 arg5 harg5 arg6 harg6 arg7 harg7 hc0 hc1 hc2 x0 x1 x2 xs = k0_pay4 x0 x1 xs x2 := by
  unfold out0_C_3
  rw [View.read_writes_eq_canon _ _ _ (cover0_C_3 c i arg3 harg3 arg4 harg4 arg5 harg5 arg6 harg6 arg7 harg7 hc0 hc1 hc2 x0 x1 x2 xs)]
  unfold kernelRun0_C
  dsimp only
  rw [View.canon_unit_zero hz2]
  simp only [View.readAt_eq_ld, harg3.read_unread, harg4.read_unread, harg5.read_unread, harg7.read_unread, View.ld_unit_zero (S := S1024x1024) hz2, View.ld_unit_zero (S := S1x1024x1024) hz3]

end Cases

/-! ## The grid -/

theorem idx : ∀ t : Fin cfg0.N, win0_0.index t = ![t.val / 8, t.val % 4]
    ∧ win0_1.index t = ![t.val % 4, t.val / 4 % 2, 0]
    ∧ win0_2.index t = ![t.val / 8, t.val / 4 % 2]
    ∧ win0_3.index t = ![t.val / 8, t.val / 4 % 2] ∧ t.val < 32 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q X0 : ℕ → ℕ → EReal) : Prop where
  a : ∀ (i : Fin 4096) (k : Fin 4096), (V m c main_v0 : FVec Ideal S4096x4096 .bf16) (ix2 i k) = P i.val k.val
  b : ∀ (p : Fin 4) (j : Fin 2048) (k : Fin 1024), (V m c main_v3 : FVec Ideal S4x2048x1024 .bf16) (ix3 p j k) = Q j.val (1024 * p.val + k.val)
  e0 : ∀ (i : Fin 4096) (j : Fin 2048), (V m c main_v4 : FVec Ideal S4096x2048 .bf16) (ix2 i j) = X0 i.val j.val

variable {m c} {P Q X0 : ℕ → ℕ → EReal} (E : Ent m c P Q X0) (t : Fin cfg0.N)

include E in
theorem rd0 (r : Fin 1024) (k : Fin 1024) : iblk m c 0 t (ix2 r k) = P (1024 * (t.val / 8) + r.val) (1024 * (t.val % 4) + k.val) := by
  have ht := (idx t).2.2.2.2
  refine Eq.trans ?_ (E.a ⟨1024 * (t.val / 8) + r.val, by omega⟩ ⟨1024 * (t.val % 4) + k.val, by omega⟩)
  blk_ext [iblk, idx t]

include E in
theorem rd1 (d : Fin 1024) (k : Fin 1024) : iblk m c 1 t (ix3 0 d k) = Q (1024 * (t.val / 4 % 2) + d.val) (1024 * (t.val % 4) + k.val) := by
  have ht := (idx t).2.2.2.2
  refine Eq.trans ?_ ((E.b ⟨t.val % 4, by omega⟩ ⟨1024 * (t.val / 4 % 2) + d.val, by omega⟩ ⟨k.val, by omega⟩).trans (by simp only <;> congr 1 <;> omega))
  blk_ext [iblk, idx t]

include E in
theorem rd2 (r : Fin 1024) (d : Fin 1024) : iblk m c 2 t (ix2 r d) = X0 (1024 * (t.val / 8) + r.val) (1024 * (t.val / 4 % 2) + d.val) := by
  have ht := (idx t).2.2.2.2
  refine Eq.trans ?_ (E.e0 ⟨1024 * (t.val / 8) + r.val, by omega⟩ ⟨1024 * (t.val / 4 % 2) + d.val, by omega⟩)
  blk_ext [iblk, idx t]

include E in
/-- The accumulator after a point that is not the last of its block. -/
theorem acc_at : ∀ (u : ℕ) (t : Fin cfg0.N), t.val = u → t.val % 4 < 3 → ∀ (r : Fin 1024) (d : Fin 1024),
    (outsAt0 m c t.val t.isLt).2 (ix2 r d) = prod P Q (1024 * (t.val % 4 + 1)) (1024 * (t.val / 8) + r.val) (1024 * (t.val / 4 % 2) + d.val)
  | 0, t, hu, h, r, d => by
    have h0 : t.val % 4 = 0 := by omega
    rw [outsAt0_A m c t h0 (by omega) (by omega)]
    dsimp only
    rw [case_first, first_apply, h0]
    exact prod_first _ _ _ _ _ fun k => by rw [rd0 E, rd1 E, h0, Nat.mul_zero, Nat.zero_add]
  | u + 1, t, hu, h, r, d => by
    by_cases h0 : t.val % 4 = 0
    · rw [outsAt0_A m c t h0 (by omega) (by omega)]
      dsimp only
      rw [case_first, first_apply, h0]
      exact prod_first _ _ _ _ _ fun k => by rw [rd0 E, rd1 E, h0, Nat.mul_zero, Nat.zero_add]
    · have hN := t.isLt
      rw [outsAt0_B m c t h0 (by omega) (by omega)]
      dsimp only
      rw [case_next, next_apply]
      have ha := acc_at u ⟨t.val - 1, by omega⟩ (by simp only; omega) (by simp only; omega) r d
      simp only at ha
      rw [show (t.val - 1) / 8 = t.val / 8 by omega, show (t.val - 1) / 4 = t.val / 4 by omega, show (t.val - 1) % 4 + 1 = t.val % 4 by omega] at ha
      exact prod_block P Q 1024 _ _ _ ha fun k => by rw [rd0 E, rd1 E]

include E in
theorem acc (h : t.val % 4 < 3) (r : Fin 1024) (d : Fin 1024) : (outsAt0 m c t.val t.isLt).2 (ix2 r d)
    = prod P Q (1024 * (t.val % 4 + 1)) (1024 * (t.val / 8) + r.val) (1024 * (t.val / 4 % 2) + d.val) := acc_at E t.val t rfl h r d

include E in
theorem out0 (h : t.val % 4 = 3) (r : Fin 1024) (d : Fin 1024) : (outsAt0 m c t.val t.isLt).1 (ix2 r d)
    = (prod P Q 4096 (1024 * (t.val / 8) + r.val) (1024 * (t.val / 4 % 2) + d.val)) + X0 (1024 * (t.val / 8) + r.val) (1024 * (t.val / 4 % 2) + d.val) := by
  have hN := t.isLt
  rw [outsAt0_C m c t (by omega) (by omega) h]
  dsimp only
  rw [case_out0, out0_apply, rd2 E]
  have ha := acc E ⟨t.val - 1, by omega⟩ (by simp only; omega) r d
  simp only at ha
  rw [show (t.val - 1) / 8 = t.val / 8 by omega, show (t.val - 1) / 4 = t.val / 4 by omega, show (t.val - 1) % 4 + 1 = 3 by omega] at ha
  exact congrArg (fun v => v + X0 (1024 * (t.val / 8) + r.val) (1024 * (t.val / 4 % 2) + d.val)) (prod_block P Q 1024 3 _ _ ha fun k => by rw [rd0 E, rd1 E, h])

/-- The array of the results. -/
def res0 (P Q X0 : ℕ → ℕ → EReal) : FVec Ideal S4096x2048 .bf16 := fun y => (prod P Q 4096 (y 0).val (y 1).val) + X0 (y 0).val (y 1).val

include E in
theorem point0 (h : t.val % 4 = 3) (y : S1024x1024.Idx) :
    (outsAt0 m c t.val t.isLt).1 y = res0 P Q X0 (((cfg0.win 3).blk t).view.emb y) := by
  idx_vars y
  refine (out0 E t h y0 y1).trans ?_
  unfold res0
  blk_simp [idx t]
  have ht := (idx t).2.2.2.2
  simp only [Nat.mul_comm _ 1024]

include E in
theorem final0 : (dats m 0 c).arrAt 3 cfg0.N = res0 P Q X0 := by
  refine (dats m 0 c).arrAt_eq_of_covers 3 _ (by decide +kernel) fun t ht y => ?_
  blk_simp
  rw [after0_3]
  exact point0 E t ((flush0_3 t).mp ht) y

end Cert.KvBwdIdeal.Val
-- ==== Proof.KvBwdR.lean ====
module

public import proofs.«01_k».proof.Proof.Gen.RefKvBwdIdeal.Read
public import proofs.«01_k».proof.Proof.Gen.RefKvBwdIdeal.Run
public import proofs.«01_k».proof.Proof.KvBwdV
public import proofs.«01_k».proof.Defs
public import Idealize.ShloMosaic.Lib.Quiescent

/-! # The gradient of the input of the shared keys and values: the kernel and the reference agree -/

@[expose] public section

noncomputable section

set_option maxRecDepth 16384

namespace Cert.KvBwdIdeal.Val

open Cert.KvBwdIdeal Cert.KvBwdIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S2048x4096 .f32 := m ((c : Thread nD τ).loc main_arg0)
abbrev x1 : FVec Ideal S4096x4096 .f32 := m ((c : Thread nD τ).loc main_arg1)
abbrev x2 : FVec Ideal S4096x2048 .f32 := m ((c : Thread nD τ).loc main_arg2)

theorem ent : Ent m c (fun i k => nat (x1 m c) i k) (fun j k => nat (x0 m c) j k) (fun i j => nat (x2 m c) i j) where
  a i k := by
    simp only [nat_val, nat_row]
    unfold V
    after_reads_at

  b p j k := by
    have h : 1024 * p.val + k.val < 4096 := by omega
    refine Eq.trans ?_ (nat_val (x0 m c) j ⟨1024 * p.val + k.val, h⟩).symm
    unfold V
    after_reads_at
    congr 1
    funext a
    apply Fin.ext
    fin_cases a <;> simp [ix2, ix3] <;> omega

  e0 i j := by
    simp only [nat_val, nat_row]
    unfold V
    after_reads_at

/-- Every run ends with the results and the arguments unchanged. -/
theorem run : θ_run defs (onTc (τ := τ) (main (F := Ideal))) ⟨m, fun _ => 0, ρ⟩ (fun r => ∀ c : Dev nD,
      r.2.mem ((c.tc : Thread nD τ).loc main_v5) = res0 (fun i k => nat (x1 m c) i k) (fun j k => nat (x0 m c) j k) (fun i j => nat (x2 m c) i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final0 (ent m c)), h.2 c⟩) (θ_run_and (run_main m ρ) (unchanged m ρ))

end Cert.KvBwdIdeal.Val

namespace Cert.RefKvBwdIdeal.Val

open Cert.RefKvBwdIdeal Cert.RefKvBwdIdeal.Gen Cert.RefKvBwdIdeal.Read Cert.Mm Idealize.ShloMosaic

variable (x0 : FVec Ideal S2048x4096 .f32) (x1 : FVec Ideal S4096x4096 .f32) (x2 : FVec Ideal S4096x2048 .f32)

theorem read_dot (i : Fin 4096) (j : Fin 2048) : val_main_v2 (F := Ideal) x0 x1 (ix2 i j)
    = prod (fun i k => nat x1 i k) (fun j k => nat x0 j k) 4096 i.val j.val :=
  Eq.trans (by pointwise [val_main_v2]) (prod_first (t := fun k : Fin 4096 => (x1 (ix2 i k)) * (x0 (ix2 j k))) _ _ _ _ _ fun k => by
    simp only [nat_val, nat_row])

theorem read_res0 : val_main_v4 (F := Ideal) x0 x1 x2 = Cert.KvBwdIdeal.Val.res0 (fun i k => nat x1 i k) (fun j k => nat x0 j k) (fun i j => nat x2 i j) := by
  funext y
  idx_vars y
  unfold Cert.KvBwdIdeal.Val.res0
  rw [val_main_v4_apply, val_main_v3_apply, read_dot x0 x1 y0 y1]
  show _ = prod _ _ _ y0.val y1.val + nat x2 y0.val y1.val
  rw [nat_val x2 y0 y1]
  rfl

end Cert.RefKvBwdIdeal.Val

namespace Cert.KvBwdIdeal.Val

open Idealize.ShloMosaic Idealize.SL.Sem

theorem frame_reference : Cert.quiescent_RefKvBwdIdeal := fun m ρ _ =>
  (θ_run Cert.RefKvBwdIdeal.defs _ _).mono (fun r h => ⟨fun c => (h c).2,
      Idealize.ShloMosaic.sem_eq_zero_of_no_sems (by decide) r.2⟩)
    (Cert.RefKvBwdIdeal.Value.run (F := Ideal) m ρ)

theorem algebraic : Cert.algebraic_KvBwdIdeal_RefKvBwdIdeal := by
  intro m g m' g' _ hargs
  refine ⟨fun c => _, run m g, (θ_run Cert.RefKvBwdIdeal.defs _ _).mono (fun r h c => ?_) (Cert.RefKvBwdIdeal.Value.run (F := Ideal) m' g')⟩
  obtain ⟨a0, a1, a2⟩ := hargs c
  refine ⟨(h c).1.trans ?_, (h c).2⟩
  · rw [Cert.RefKvBwdIdeal.Read.val_main_v4_eq, a0, a1, a2]
    exact Cert.RefKvBwdIdeal.Val.read_res0 _ _ _

end Cert.KvBwdIdeal.Val
-- ==== Proof.KvVV.lean ====
module

public import proofs.«01_k».proof.Proof.Gen.KvVIdeal.Frame
public import proofs.«01_k».proof.Proof.Mm

/-! # The shared values: what the kernel leaves -/

@[expose] public section

noncomputable section

set_option maxRecDepth 16384

namespace Cert.KvVIdeal.Val

open Cert.KvVIdeal Cert.KvVIdeal.Gen Cert.Mm Idealize.ShloMosaic Idealize.ShloMosaic.TcCoe Idealize.SL.Sem

/-! ## The expressions of the kernel, read at an index -/

section Pay

variable (x0 : Vec Ideal S1024x2048 .bf16) (x1 : Vec Ideal S1x2048x1024 .bf16)
  (r : Fin 1024) (d : Fin 1024)

theorem out0_apply : k0_pay1 x0 x1 (ix2 r d)
    = (∑ k : Fin 2048, x0 (ix2 r k) * x1 (ix3 0 k d)) := by
  pointwise [k0_pay1]

end Pay

/-! ## The grid -/

theorem idx : ∀ t : Fin cfg0.N, win0_0.index t = ![t.val / 2, 0]
    ∧ win0_1.index t = ![t.val % 2, 0, 0]
    ∧ win0_2.index t = ![t.val / 2, t.val % 2] ∧ t.val < 8 :=
  (by decide +kernel : ∀ t : Fin grid0.N, _)

variable (m : (ℓ : Loc nD τ sig) → Buf (Elt Ideal) ℓ) (ρ : Dev nD → PrngReg) (c : Dev nD)

/-- The arrays the kernel reads, as functions on the naturals. -/
structure Ent (P Q : ℕ → ℕ → EReal) : Prop where
  a : ∀ (i : Fin 4096) (k : Fin 2048), (V m c main_v0 : FVec Ideal S4096x2048 .bf16) (ix2 i k) = P i.val k.val
  b : ∀ (p : Fin 2) (k : Fin 2048) (j : Fin 1024), (V m c main_v4 : FVec Ideal S2x2048x1024 .bf16) (ix3 p k j) = Q (1024 * p.val + j.val) k.val

variable {m c} {P Q : ℕ → ℕ → EReal} (E : Ent m c P Q) (t : Fin cfg0.N)

include E in
theorem rd0 (r : Fin 1024) (k : Fin 2048) : iblk m c 0 t (ix2 r k) = P (1024 * (t.val / 2) + r.val) (k.val) := by
  have ht := (idx t).2.2.2
  refine Eq.trans ?_ (E.a ⟨1024 * (t.val / 2) + r.val, by omega⟩ ⟨k.val, by omega⟩)
  blk_ext [iblk, idx t]

include E in
theorem rd1 (d : Fin 1024) (k : Fin 2048) : iblk m c 1 t (ix3 0 k d) = Q (1024 * (t.val % 2) + d.val) (k.val) := by
  have ht := (idx t).2.2.2
  refine Eq.trans ?_ ((E.b ⟨t.val % 2, by omega⟩ ⟨k.val, by omega⟩ ⟨d.val, by omega⟩).trans (by simp only <;> congr 1 <;> omega))
  blk_ext [iblk, idx t]

include E in
theorem out0 (r : Fin 1024) (d : Fin 1024) : out0_2 (iblk m c 0 t) (iblk m c 1 t) (ix2 r d)
    = prod P Q 2048 (1024 * (t.val / 2) + r.val) (1024 * (t.val % 2) + d.val) := by
  unfold out0_2
  rw [View.canon_unit_zero hz2]
  simp only [View.ld_unit_zero (S := S1024x2048) hz2, View.ld_unit_zero (S := S1x2048x1024) hz3]
  rw [out0_apply]
  exact congrArg (fun v => v) (prod_first (b := 2048) P Q _ _ fun k => by rw [rd0 E, rd1 E])

/-- The array of the results. -/
def res0 (P Q : ℕ → ℕ → EReal) : FVec Ideal S4096x2048 .bf16 := fun y => prod P Q 2048 (y 0).val (y 1).val

include E in
theorem point0 (y : S1024x1024.Idx) :
    out0_2 (iblk m c 0 t) (iblk m c 1 t) y = res0 P Q (((cfg0.win 2).blk t).view.emb y) := by
  idx_vars y
  refine (out0 E t y0 y1).trans ?_
  unfold res0
  blk_simp [idx t]
  have ht := (idx t).2.2.2
  simp only [Nat.mul_comm _ 1024]

include E in
theorem final0 : (dats m 0 c).arrAt 2 cfg0.N = res0 P Q := by
  refine (dats m 0 c).arrAt_eq_of_covers 2 _ (by decide +kernel) fun t ht y => ?_
  blk_simp
  rw [after0_2]
  exact point0 E t y

end Cert.KvVIdeal.Val
-- ==== Proof.KvVR.lean ====
module

public import proofs.«01_k».proof.Proof.Gen.RefKvVIdeal.Read
public import proofs.«01_k».proof.Proof.Gen.RefKvVIdeal.Run
public import proofs.«01_k».proof.Proof.KvVV
public import proofs.«01_k».proof.Defs
public import Idealize.ShloMosaic.Lib.Quiescent

/-! # The shared values: the kernel and the reference agree -/

@[expose] public section

noncomputable section

set_option maxRecDepth 16384

namespace Cert.KvVIdeal.Val

open Cert.KvVIdeal Cert.KvVIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S2048x4096 .f32 := m ((c : Thread nD τ).loc main_arg1)

theorem ent : Ent m c (fun i k => nat (x0 m c) i k) (fun j k => nat (x1 m c) k (2048 + j)) where
  a i k := by
    simp only [nat_val, nat_row]
    unfold V
    after_reads_at

  b p k j := by
    have h : 1024 * p.val + j.val < 2048 := by omega
    refine Eq.trans ?_ (nat_val (x1 m c) k ⟨2048 + (1024 * p.val + j.val), by omega⟩).symm
    unfold V
    after_reads_at
    congr 1
    funext a
    apply Fin.ext
    fin_cases a <;> simp [ix2, ix3] <;> omega

/-- Every run ends with the results and the arguments unchanged. -/
theorem run : θ_run defs (onTc (τ := τ) (main (F := Ideal))) ⟨m, fun _ => 0, ρ⟩ (fun r => ∀ c : Dev nD,
      r.2.mem ((c.tc : Thread nD τ).loc main_v5) = res0 (fun i k => nat (x0 m c) i k) (fun j k => nat (x1 m c) k (2048 + j))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final0 (ent m c)), h.2 c⟩) (θ_run_and (run_main m ρ) (unchanged m ρ))

end Cert.KvVIdeal.Val

namespace Cert.RefKvVIdeal.Val

open Cert.RefKvVIdeal Cert.RefKvVIdeal.Gen Cert.RefKvVIdeal.Read Cert.Mm Idealize.ShloMosaic

variable (x0 : FVec Ideal S4096x2048 .f32) (x1 : FVec Ideal S2048x4096 .f32)

theorem read_dot (i : Fin 4096) (j : Fin 2048) :
    val_main_v0 (F := Ideal) x0 x1 (ix2 i ⟨2048 + j.val, by omega⟩)
    = prod (fun i k => nat x0 i k) (fun j k => nat x1 k (2048 + j)) 2048 i.val j.val :=
  Eq.trans (by pointwise [val_main_v0]) (prod_first (t := fun k : Fin 2048 => x0 (ix2 i k) * x1 (ix2 k ⟨2048 + j.val, by omega⟩)) _ _ _ _ _ fun k => by
    rw [nat_val, ← nat_val x1])

theorem read_res0 : val_main_v3 (F := Ideal) x0 x1 = Cert.KvVIdeal.Val.res0 (fun i k => nat x0 i k) (fun j k => nat x1 k (2048 + j)) := by
  funext y
  idx_vars y
  unfold Cert.KvVIdeal.Val.res0
  rw [val_main_v3_apply, val_main_v2_apply]
  exact (congrArg (val_main_v0 (F := Ideal) x0 x1) (by blk_ext [])).trans (read_dot x0 x1 y0 y1)

end Cert.RefKvVIdeal.Val

namespace Cert.KvVIdeal.Val

open Idealize.ShloMosaic Idealize.SL.Sem

theorem frame_reference : Cert.quiescent_RefKvVIdeal := fun m ρ _ =>
  (θ_run Cert.RefKvVIdeal.defs _ _).mono (fun r h => ⟨fun c => (h c).2,
      Idealize.ShloMosaic.sem_eq_zero_of_no_sems (by decide) r.2⟩)
    (Cert.RefKvVIdeal.Value.run (F := Ideal) m ρ)

theorem algebraic : Cert.algebraic_KvVIdeal_RefKvVIdeal := by
  intro m g m' g' _ hargs
  refine ⟨fun c => _, run m g, (θ_run Cert.RefKvVIdeal.defs _ _).mono (fun r h c => ?_) (Cert.RefKvVIdeal.Value.run (F := Ideal) m' g')⟩
  obtain ⟨a0, a1⟩ := hargs c
  refine ⟨(h c).1.trans ?_, (h c).2⟩
  · rw [Cert.RefKvVIdeal.Read.val_main_v3_eq, a0, a1]
    exact Cert.RefKvVIdeal.Val.read_res0 _ _

end Cert.KvVIdeal.Val
-- ==== Proof.Adam.lean ====
module

public import proofs.«01_k».proof.Proof.Mm

/-! # One step of AdamW at one weight -/

@[expose] public section

noncomputable section

namespace Cert.Adam

open Idealize.ShloMosaic

/-- The new first moment. -/
def mom1 (g m : EReal) : EReal := Ideal.ofBits .f32 0x3F666666#32 * m + Ideal.ofBits .f32 0x3DCCCCCD#32 * g

/-- The new second moment. -/
def mom2 (g v : EReal) : EReal := Ideal.ofBits .f32 0x3F7FBE77#32 * v + Ideal.ofBits .f32 0x3A83126F#32 * (g * g)

/-- The step of the weight. -/
def delta (w g m v : EReal) : EReal :=
  Ideal.ofBits .f32 0xBA83126F#32 * (Ideal.div (Ideal.div (mom1 g m) (Ideal.ofBits .f32 0x3F26BD02#32))
    (Ideal.sqrt (Ideal.div (mom2 g v) (Ideal.ofBits .f32 0x3C231ACC#32)) + Ideal.ofBits .f32 0x322BCC77#32)
      + Ideal.ofBits .f32 0x3C23D70A#32 * w)

end Cert.Adam
-- ==== Proof.AdamBig1R.lean ====
module

public import proofs.«01_k».proof.Proof.Gen.AdamBig1Ideal.Frame
public import proofs.«01_k».proof.Proof.Gen.RefAdamBig1Ideal.Read
public import proofs.«01_k».proof.Proof.Gen.RefAdamBig1Ideal.Run
public import proofs.«01_k».proof.Proof.Adam
public import proofs.«01_k».proof.Defs
public import Idealize.ShloMosaic.Lib.Quiescent

/-! # The optimiser's step of the MLP's weights -/

@[expose] public section

noncomputable section

set_option maxRecDepth 16384

namespace Cert.AdamBig1Ideal.Val

open Cert.AdamBig1Ideal Cert.AdamBig1Ideal.Gen Cert.Mm Cert.Adam Idealize.ShloMosaic Idealize.ShloMosaic.TcCoe Idealize.SL.Sem

section Pay

variable (x0 x1 x2 x3 : Vec Ideal S256x2048 .f32) (r : Fin 256) (d : Fin 2048)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S256x2048) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S256x2048) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S256x2048) hz2]
  pointwise [k0_pay1, k0_pay2, k0_pay3, k0_pay4, delta, mom1, mom2]

theorem out7_apply : out0_7 x0 x1 x2 x3 (ix2 r d) = x1 (ix2 r d) := by
  unfold out0_7
  rw [View.canon_unit_zero hz2]
  simp only [View.ld_unit_zero (S := S256x2048) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S4x2048x2048 .f32 := m ((c : Thread nD τ).loc main_arg0)
abbrev x1 : FVec Ideal S4x2048x2048 .f32 := m ((c : Thread nD τ).loc main_arg1)
abbrev x2 : FVec Ideal S4x2048x2048 .f32 := m ((c : Thread nD τ).loc main_arg2)
abbrev x3 : FVec Ideal S4x2048x2048 .f32 := m ((c : Thread nD τ).loc main_arg3)

def res4 (A B C D : FVec Ideal S8192x2048 .f32) : FVec Ideal S8192x2048 .f32 := fun y => delta (A y) (B y) (C y) (D y)
def res5 (B C : FVec Ideal S8192x2048 .f32) : FVec Ideal S8192x2048 .f32 := fun y => mom1 (B y) (C y)
def res6 (B D : FVec Ideal S8192x2048 .f32) : FVec Ideal S8192x2048 .f32 := fun y => mom2 (B y) (D y)
def res7 (B : FVec Ideal S8192x2048 .f32) : FVec Ideal S8192x2048 .f32 := fun y => B y

theorem arr0 : (V m c main_v0 : FVec Ideal S8192x2048 .f32) = Cert.RefAdamBig1Ideal.Read.val_main_v0 (F := Ideal) (x0 m c) := by
  unfold V x0
  after_results
  rfl

theorem arr1 : (V m c main_v1 : FVec Ideal S8192x2048 .f32) = Cert.RefAdamBig1Ideal.Read.val_main_v1 (F := Ideal) (x1 m c) := by
  unfold V x1
  after_results
  rfl

theorem arr2 : (V m c main_v2 : FVec Ideal S8192x2048 .f32) = Cert.RefAdamBig1Ideal.Read.val_main_v2 (F := Ideal) (x2 m c) := by
  unfold V x2
  after_results
  rfl

theorem arr3 : (V m c main_v3 : FVec Ideal S8192x2048 .f32) = Cert.RefAdamBig1Ideal.Read.val_main_v3 (F := Ideal) (x3 m c) := by
  unfold V x3
  after_results
  rfl

theorem final4 : (dats m 0 c).arrAt 4 cfg0.N = res4 (Cert.RefAdamBig1Ideal.Read.val_main_v0 (F := Ideal) (x0 m c)) (Cert.RefAdamBig1Ideal.Read.val_main_v1 (F := Ideal) (x1 m c)) (Cert.RefAdamBig1Ideal.Read.val_main_v2 (F := Ideal) (x2 m c)) (Cert.RefAdamBig1Ideal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamBig1Ideal.Read.val_main_v1 (F := Ideal) (x1 m c)) (Cert.RefAdamBig1Ideal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamBig1Ideal.Read.val_main_v1 (F := Ideal) (x1 m c)) (Cert.RefAdamBig1Ideal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

theorem final7 : (dats m 0 c).arrAt 7 cfg0.N = res7 (Cert.RefAdamBig1Ideal.Read.val_main_v1 (F := Ideal) (x1 m c)) := by
  rw [← arr1 m c]
  refine (dats m 0 c).arrAt_eq_of_covers 7 _ (by decide +kernel) fun t ht y => ?_
  blk_simp
  rw [after0_7]
  idx_vars y
  exact out7_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamBig1Ideal.Read.val_main_v0 (F := Ideal) (x0 m c)) (Cert.RefAdamBig1Ideal.Read.val_main_v1 (F := Ideal) (x1 m c)) (Cert.RefAdamBig1Ideal.Read.val_main_v2 (F := Ideal) (x2 m c)) (Cert.RefAdamBig1Ideal.Read.val_main_v3 (F := Ideal) (x3 m c))
      ∧ r.2.mem ((c.tc : Thread nD τ).loc main_v4_1) = res5 (Cert.RefAdamBig1Ideal.Read.val_main_v1 (F := Ideal) (x1 m c)) (Cert.RefAdamBig1Ideal.Read.val_main_v2 (F := Ideal) (x2 m c))
      ∧ r.2.mem ((c.tc : Thread nD τ).loc main_v4_2) = res6 (Cert.RefAdamBig1Ideal.Read.val_main_v1 (F := Ideal) (x1 m c)) (Cert.RefAdamBig1Ideal.Read.val_main_v3 (F := Ideal) (x3 m c))
      ∧ r.2.mem ((c.tc : Thread nD τ).loc main_v4_3) = res7 (Cert.RefAdamBig1Ideal.Read.val_main_v1 (F := Ideal) (x1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.AdamBig1Ideal.Val

namespace Cert.RefAdamBig1Ideal.Val

open Cert.RefAdamBig1Ideal Cert.RefAdamBig1Ideal.Gen Cert.RefAdamBig1Ideal.Read Cert.Adam Idealize.ShloMosaic

variable (x0 x1 x2 x3 : FVec Ideal S4x2048x2048 .f32)

theorem read4 : val_main_v27 (F := Ideal) x0 x1 x2 x3 = Cert.AdamBig1Ideal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamBig1Ideal.Val.res5 (val_main_v1 (F := Ideal) x1) (val_main_v2 (F := Ideal) x2) :=
  rfl

theorem read6 : val_main_v14 (F := Ideal) x1 x3 = Cert.AdamBig1Ideal.Val.res6 (val_main_v1 (F := Ideal) x1) (val_main_v3 (F := Ideal) x3) :=
  rfl

theorem read7 : val_main_v1 (F := Ideal) x1 = Cert.AdamBig1Ideal.Val.res7 (val_main_v1 (F := Ideal) x1) :=
  rfl

end Cert.RefAdamBig1Ideal.Val

namespace Cert.AdamBig1Ideal.Val

open Idealize.ShloMosaic Idealize.SL.Sem

theorem frame_reference : Cert.quiescent_RefAdamBig1Ideal := fun m ρ _ =>
  (θ_run Cert.RefAdamBig1Ideal.defs _ _).mono (fun r h => ⟨fun c => (h c).2.2.2.2,
      Idealize.ShloMosaic.sem_eq_zero_of_no_sems (by decide) r.2⟩)
    (Cert.RefAdamBig1Ideal.Value.run (F := Ideal) m ρ)

theorem algebraic : Cert.algebraic_AdamBig1Ideal_RefAdamBig1Ideal := by
  intro m g m' g' _ hargs
  refine ⟨fun c => _, fun c => _, fun c => _, fun c => _, run m g, (θ_run Cert.RefAdamBig1Ideal.defs _ _).mono (fun r h c => ?_) (Cert.RefAdamBig1Ideal.Value.run (F := Ideal) m' g')⟩
  obtain ⟨a0, a1, a2, a3⟩ := hargs c
  refine ⟨(h c).1.trans ?_, (h c).2.1.trans ?_, (h c).2.2.1.trans ?_, (h c).2.2.2.1.trans ?_, (h c).2.2.2.2⟩
  · rw [Cert.RefAdamBig1Ideal.Read.val_main_v27_eq, a0, a1, a2, a3]
    exact Cert.RefAdamBig1Ideal.Val.read4 _ _ _ _
  · rw [Cert.RefAdamBig1Ideal.Read.val_main_v8_eq, a1, a2]
    exact Cert.RefAdamBig1Ideal.Val.read5 _ _
  · rw [Cert.RefAdamBig1Ideal.Read.val_main_v14_eq, a1, a3]
    exact Cert.RefAdamBig1Ideal.Val.read6 _ _
  · rw [Cert.RefAdamBig1Ideal.Read.val_main_v1_eq, a1]
    exact Cert.RefAdamBig1Ideal.Val.read7 _

end Cert.AdamBig1Ideal.Val
-- ==== Proof.AdamBig2R.lean ====
module

public import proofs.«01_k».proof.Proof.Gen.AdamBig2Ideal.Frame
public import proofs.«01_k».proof.Proof.Gen.RefAdamBig2Ideal.Read
public import proofs.«01_k».proof.Proof.Gen.RefAdamBig2Ideal.Run
public import proofs.«01_k».proof.Proof.Adam
public import proofs.«01_k».proof.Defs
public import Idealize.ShloMosaic.Lib.Quiescent

/-! # The optimiser's step of the gated MLP's first weight -/

@[expose] public section

noncomputable section

set_option maxRecDepth 16384

namespace Cert.AdamBig2Ideal.Val

open Cert.AdamBig2Ideal Cert.AdamBig2Ideal.Gen Cert.Mm Cert.Adam Idealize.ShloMosaic Idealize.ShloMosaic.TcCoe Idealize.SL.Sem

section Pay

variable (x0 x1 x2 x3 : Vec Ideal S128x3072 .f32) (r : Fin 128) (d : Fin 3072)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S128x3072) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S128x3072) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S128x3072) hz2]
  pointwise [k0_pay1, k0_pay2, k0_pay3, k0_pay4, delta, mom1, mom2]

theorem out7_apply : out0_7 x0 x1 x2 x3 (ix2 r d) = x1 (ix2 r d) := by
  unfold out0_7
  rw [View.canon_unit_zero hz2]
  simp only [View.ld_unit_zero (S := S128x3072) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S2x2048x3072 .f32 := m ((c : Thread nD τ).loc main_arg0)
abbrev x1 : FVec Ideal S2x2048x3072 .f32 := m ((c : Thread nD τ).loc main_arg1)
abbrev x2 : FVec Ideal S2x2048x3072 .f32 := m ((c : Thread nD τ).loc main_arg2)
abbrev x3 : FVec Ideal S2x2048x3072 .f32 := m ((c : Thread nD τ).loc main_arg3)

def res4 (A B C D : FVec Ideal S4096x3072 .f32) : FVec Ideal S4096x3072 .f32 := fun y => delta (A y) (B y) (C y) (D y)
def res5 (B C : FVec Ideal S4096x3072 .f32) : FVec Ideal S4096x3072 .f32 := fun y => mom1 (B y) (C y)
def res6 (B D : FVec Ideal S4096x3072 .f32) : FVec Ideal S4096x3072 .f32 := fun y => mom2 (B y) (D y)
def res7 (B : FVec Ideal S4096x3072 .f32) : FVec Ideal S4096x3072 .f32 := fun y => B y

theorem arr0 : (V m c main_v0 : FVec Ideal S4096x3072 .f32) = Cert.RefAdamBig2Ideal.Read.val_main_v0 (F := Ideal) (x0 m c) := by
  unfold V x0
  after_results
  rfl

theorem arr1 : (V m c main_v1 : FVec Ideal S4096x3072 .f32) = Cert.RefAdamBig2Ideal.Read.val_main_v1 (F := Ideal) (x1 m c) := by
  unfold V x1
  after_results
  rfl

theorem arr2 : (V m c main_v2 : FVec Ideal S4096x3072 .f32) = Cert.RefAdamBig2Ideal.Read.val_main_v2 (F := Ideal) (x2 m c) := by
  unfold V x2
  after_results
  rfl

theorem arr3 : (V m c main_v3 : FVec Ideal S4096x3072 .f32) = Cert.RefAdamBig2Ideal.Read.val_main_v3 (F := Ideal) (x3 m c) := by
  unfold V x3
  after_results
  rfl

theorem final4 : (dats m 0 c).arrAt 4 cfg0.N = res4 (Cert.RefAdamBig2Ideal.Read.val_main_v0 (F := Ideal) (x0 m c)) (Cert.RefAdamBig2Ideal.Read.val_main_v1 (F := Ideal) (x1 m c)) (Cert.RefAdamBig2Ideal.Read.val_main_v2 (F := Ideal) (x2 m c)) (Cert.RefAdamBig2Ideal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamBig2Ideal.Read.val_main_v1 (F := Ideal) (x1 m c)) (Cert.RefAdamBig2Ideal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamBig2Ideal.Read.val_main_v1 (F := Ideal) (x1 m c)) (Cert.RefAdamBig2Ideal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

theorem final7 : (dats m 0 c).arrAt 7 cfg0.N = res7 (Cert.RefAdamBig2Ideal.Read.val_main_v1 (F := Ideal) (x1 m c)) := by
  rw [← arr1 m c]
  refine (dats m 0 c).arrAt_eq_of_covers 7 _ (by decide +kernel) fun t ht y => ?_
  blk_simp
  rw [after0_7]
  idx_vars y
  exact out7_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamBig2Ideal.Read.val_main_v0 (F := Ideal) (x0 m c)) (Cert.RefAdamBig2Ideal.Read.val_main_v1 (F := Ideal) (x1 m c)) (Cert.RefAdamBig2Ideal.Read.val_main_v2 (F := Ideal) (x2 m c)) (Cert.RefAdamBig2Ideal.Read.val_main_v3 (F := Ideal) (x3 m c))
      ∧ r.2.mem ((c.tc : Thread nD τ).loc main_v4_1) = res5 (Cert.RefAdamBig2Ideal.Read.val_main_v1 (F := Ideal) (x1 m c)) (Cert.RefAdamBig2Ideal.Read.val_main_v2 (F := Ideal) (x2 m c))
      ∧ r.2.mem ((c.tc : Thread nD τ).loc main_v4_2) = res6 (Cert.RefAdamBig2Ideal.Read.val_main_v1 (F := Ideal) (x1 m c)) (Cert.RefAdamBig2Ideal.Read.val_main_v3 (F := Ideal) (x3 m c))
      ∧ r.2.mem ((c.tc : Thread nD τ).loc main_v4_3) = res7 (Cert.RefAdamBig2Ideal.Read.val_main_v1 (F := Ideal) (x1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.AdamBig2Ideal.Val

namespace Cert.RefAdamBig2Ideal.Val

open Cert.RefAdamBig2Ideal Cert.RefAdamBig2Ideal.Gen Cert.RefAdamBig2Ideal.Read Cert.Adam Idealize.ShloMosaic

variable (x0 x1 x2 x3 : FVec Ideal S2x2048x3072 .f32)

theorem read4 : val_main_v27 (F := Ideal) x0 x1 x2 x3 = Cert.AdamBig2Ideal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamBig2Ideal.Val.res5 (val_main_v1 (F := Ideal) x1) (val_main_v2 (F := Ideal) x2) :=
  rfl

theorem read6 : val_main_v14 (F := Ideal) x1 x3 = Cert.AdamBig2Ideal.Val.res6 (val_main_v1 (F := Ideal) x1) (val_main_v3 (F := Ideal) x3) :=
  rfl

theorem read7 : val_main_v1 (F := Ideal) x1 = Cert.AdamBig2Ideal.Val.res7 (val_main_v1 (F := Ideal) x1) :=
  rfl

end Cert.RefAdamBig2Ideal.Val

namespace Cert.AdamBig2Ideal.Val

open Idealize.ShloMosaic Idealize.SL.Sem

theorem frame_reference : Cert.quiescent_RefAdamBig2Ideal := fun m ρ _ =>
  (θ_run Cert.RefAdamBig2Ideal.defs _ _).mono (fun r h => ⟨fun c => (h c).2.2.2.2,
      Idealize.ShloMosaic.sem_eq_zero_of_no_sems (by decide) r.2⟩)
    (Cert.RefAdamBig2Ideal.Value.run (F := Ideal) m ρ)

theorem algebraic : Cert.algebraic_AdamBig2Ideal_RefAdamBig2Ideal := by
  intro m g m' g' _ hargs
  refine ⟨fun c => _, fun c => _, fun c => _, fun c => _, run m g, (θ_run Cert.RefAdamBig2Ideal.defs _ _).mono (fun r h c => ?_) (Cert.RefAdamBig2Ideal.Value.run (F := Ideal) m' g')⟩
  obtain ⟨a0, a1, a2, a3⟩ := hargs c
  refine ⟨(h c).1.trans ?_, (h c).2.1.trans ?_, (h c).2.2.1.trans ?_, (h c).2.2.2.1.trans ?_, (h c).2.2.2.2⟩
  · rw [Cert.RefAdamBig2Ideal.Read.val_main_v27_eq, a0, a1, a2, a3]
    exact Cert.RefAdamBig2Ideal.Val.read4 _ _ _ _
  · rw [Cert.RefAdamBig2Ideal.Read.val_main_v8_eq, a1, a2]
    exact Cert.RefAdamBig2Ideal.Val.read5 _ _
  · rw [Cert.RefAdamBig2Ideal.Read.val_main_v14_eq, a1, a3]
    exact Cert.RefAdamBig2Ideal.Val.read6 _ _
  · rw [Cert.RefAdamBig2Ideal.Read.val_main_v1_eq, a1]
    exact Cert.RefAdamBig2Ideal.Val.read7 _

end Cert.AdamBig2Ideal.Val
-- ==== Proof.AdamBig3R.lean ====
module

public import proofs.«01_k».proof.Proof.Gen.AdamBig3Ideal.Frame
public import proofs.«01_k».proof.Proof.Gen.RefAdamBig3Ideal.Read
public import proofs.«01_k».proof.Proof.Gen.RefAdamBig3Ideal.Run
public import proofs.«01_k».proof.Proof.Adam
public import proofs.«01_k».proof.Defs
public import Idealize.ShloMosaic.Lib.Quiescent

/-! # The optimiser's step of the gated MLP's second weight -/

@[expose] public section

noncomputable section

set_option maxRecDepth 16384

namespace Cert.AdamBig3Ideal.Val

open Cert.AdamBig3Ideal Cert.AdamBig3Ideal.Gen Cert.Mm Cert.Adam Idealize.ShloMosaic Idealize.ShloMosaic.TcCoe Idealize.SL.Sem

section Pay

variable (x0 x1 x2 x3 : Vec Ideal S256x2048 .f32) (r : Fin 256) (d : Fin 2048)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S256x2048) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S256x2048) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S256x2048) hz2]
  pointwise [k0_pay1, k0_pay2, k0_pay3, k0_pay4, delta, mom1, mom2]

theorem out7_apply : out0_7 x0 x1 x2 x3 (ix2 r d) = x1 (ix2 r d) := by
  unfold out0_7
  rw [View.canon_unit_zero hz2]
  simp only [View.ld_unit_zero (S := S256x2048) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S2x1536x2048 .f32 := m ((c : Thread nD τ).loc main_arg0)
abbrev x1 : FVec Ideal S2x1536x2048 .f32 := m ((c : Thread nD τ).loc main_arg1)
abbrev x2 : FVec Ideal S2x1536x2048 .f32 := m ((c : Thread nD τ).loc main_arg2)
abbrev x3 : FVec Ideal S2x1536x2048 .f32 := m ((c : Thread nD τ).loc main_arg3)

def res4 (A B C D : FVec Ideal S3072x2048 .f32) : FVec Ideal S3072x2048 .f32 := fun y => delta (A y) (B y) (C y) (D y)
def res5 (B C : FVec Ideal S3072x2048 .f32) : FVec Ideal S3072x2048 .f32 := fun y => mom1 (B y) (C y)
def res6 (B D : FVec Ideal S3072x2048 .f32) : FVec Ideal S3072x2048 .f32 := fun y => mom2 (B y) (D y)
def res7 (B : FVec Ideal S3072x2048 .f32) : FVec Ideal S3072x2048 .f32 := fun y => B y

theorem arr0 : (V m c main_v0 : FVec Ideal S3072x2048 .f32) = Cert.RefAdamBig3Ideal.Read.val_main_v0 (F := Ideal) (x0 m c) := by
  unfold V x0
  after_results
  rfl

theorem arr1 : (V m c main_v1 : FVec Ideal S3072x2048 .f32) = Cert.RefAdamBig3Ideal.Read.val_main_v1 (F := Ideal) (x1 m c) := by
  unfold V x1
  after_results
  rfl

theorem arr2 : (V m c main_v2 : FVec Ideal S3072x2048 .f32) = Cert.RefAdamBig3Ideal.Read.val_main_v2 (F := Ideal) (x2 m c) := by
  unfold V x2
  after_results
  rfl

theorem arr3 : (V m c main_v3 : FVec Ideal S3072x2048 .f32) = Cert.RefAdamBig3Ideal.Read.val_main_v3 (F := Ideal) (x3 m c) := by
  unfold V x3
  after_results
  rfl

theorem final4 : (dats m 0 c).arrAt 4 cfg0.N = res4 (Cert.RefAdamBig3Ideal.Read.val_main_v0 (F := Ideal) (x0 m c)) (Cert.RefAdamBig3Ideal.Read.val_main_v1 (F := Ideal) (x1 m c)) (Cert.RefAdamBig3Ideal.Read.val_main_v2 (F := Ideal) (x2 m c)) (Cert.RefAdamBig3Ideal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamBig3Ideal.Read.val_main_v1 (F := Ideal) (x1 m c)) (Cert.RefAdamBig3Ideal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamBig3Ideal.Read.val_main_v1 (F := Ideal) (x1 m c)) (Cert.RefAdamBig3Ideal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

theorem final7 : (dats m 0 c).arrAt 7 cfg0.N = res7 (Cert.RefAdamBig3Ideal.Read.val_main_v1 (F := Ideal) (x1 m c)) := by
  rw [← arr1 m c]
  refine (dats m 0 c).arrAt_eq_of_covers 7 _ (by decide +kernel) fun t ht y => ?_
  blk_simp
  rw [after0_7]
  idx_vars y
  exact out7_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamBig3Ideal.Read.val_main_v0 (F := Ideal) (x0 m c)) (Cert.RefAdamBig3Ideal.Read.val_main_v1 (F := Ideal) (x1 m c)) (Cert.RefAdamBig3Ideal.Read.val_main_v2 (F := Ideal) (x2 m c)) (Cert.RefAdamBig3Ideal.Read.val_main_v3 (F := Ideal) (x3 m c))
      ∧ r.2.mem ((c.tc : Thread nD τ).loc main_v4_1) = res5 (Cert.RefAdamBig3Ideal.Read.val_main_v1 (F := Ideal) (x1 m c)) (Cert.RefAdamBig3Ideal.Read.val_main_v2 (F := Ideal) (x2 m c))
      ∧ r.2.mem ((c.tc : Thread nD τ).loc main_v4_2) = res6 (Cert.RefAdamBig3Ideal.Read.val_main_v1 (F := Ideal) (x1 m c)) (Cert.RefAdamBig3Ideal.Read.val_main_v3 (F := Ideal) (x3 m c))
      ∧ r.2.mem ((c.tc : Thread nD τ).loc main_v4_3) = res7 (Cert.RefAdamBig3Ideal.Read.val_main_v1 (F := Ideal) (x1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.AdamBig3Ideal.Val

namespace Cert.RefAdamBig3Ideal.Val

open Cert.RefAdamBig3Ideal Cert.RefAdamBig3Ideal.Gen Cert.RefAdamBig3Ideal.Read Cert.Adam Idealize.ShloMosaic

variable (x0 x1 x2 x3 : FVec Ideal S2x1536x2048 .f32)

theorem read4 : val_main_v27 (F := Ideal) x0 x1 x2 x3 = Cert.AdamBig3Ideal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamBig3Ideal.Val.res5 (val_main_v1 (F := Ideal) x1) (val_main_v2 (F := Ideal) x2) :=
  rfl

theorem read6 : val_main_v14 (F := Ideal) x1 x3 = Cert.AdamBig3Ideal.Val.res6 (val_main_v1 (F := Ideal) x1) (val_main_v3 (F := Ideal) x3) :=
  rfl

theorem read7 : val_main_v1 (F := Ideal) x1 = Cert.AdamBig3Ideal.Val.res7 (val_main_v1 (F := Ideal) x1) :=
  rfl

end Cert.RefAdamBig3Ideal.Val

namespace Cert.AdamBig3Ideal.Val

open Idealize.ShloMosaic Idealize.SL.Sem

theorem frame_reference : Cert.quiescent_RefAdamBig3Ideal := fun m ρ _ =>
  (θ_run Cert.RefAdamBig3Ideal.defs _ _).mono (fun r h => ⟨fun c => (h c).2.2.2.2,
      Idealize.ShloMosaic.sem_eq_zero_of_no_sems (by decide) r.2⟩)
    (Cert.RefAdamBig3Ideal.Value.run (F := Ideal) m ρ)

theorem algebraic : Cert.algebraic_AdamBig3Ideal_RefAdamBig3Ideal := by
  intro m g m' g' _ hargs
  refine ⟨fun c => _, fun c => _, fun c => _, fun c => _, run m g, (θ_run Cert.RefAdamBig3Ideal.defs _ _).mono (fun r h c => ?_) (Cert.RefAdamBig3Ideal.Value.run (F := Ideal) m' g')⟩
  obtain ⟨a0, a1, a2, a3⟩ := hargs c
  refine ⟨(h c).1.trans ?_, (h c).2.1.trans ?_, (h c).2.2.1.trans ?_, (h c).2.2.2.1.trans ?_, (h c).2.2.2.2⟩
  · rw [Cert.RefAdamBig3Ideal.Read.val_main_v27_eq, a0, a1, a2, a3]
    exact Cert.RefAdamBig3Ideal.Val.read4 _ _ _ _
  · rw [Cert.RefAdamBig3Ideal.Read.val_main_v8_eq, a1, a2]
    exact Cert.RefAdamBig3Ideal.Val.read5 _ _
  · rw [Cert.RefAdamBig3Ideal.Read.val_main_v14_eq, a1, a3]
    exact Cert.RefAdamBig3Ideal.Val.read6 _ _
  · rw [Cert.RefAdamBig3Ideal.Read.val_main_v1_eq, a1]
    exact Cert.RefAdamBig3Ideal.Val.read7 _

end Cert.AdamBig3Ideal.Val
-- ==== Proof.AdamBig4R.lean ====
module

public import proofs.«01_k».proof.Proof.Gen.AdamBig4Ideal.Frame
public import proofs.«01_k».proof.Proof.Gen.RefAdamBig4Ideal.Read
public import proofs.«01_k».proof.Proof.Gen.RefAdamBig4Ideal.Run
public import proofs.«01_k».proof.Proof.Adam
public import proofs.«01_k».proof.Defs
public import Idealize.ShloMosaic.Lib.Quiescent

/-! # The optimiser's step of the weight of the keys and values -/

@[expose] public section

noncomputable section

set_option maxRecDepth 16384

namespace Cert.AdamBig4Ideal.Val

open Cert.AdamBig4Ideal Cert.AdamBig4Ideal.Gen Cert.Mm Cert.Adam Idealize.ShloMosaic Idealize.ShloMosaic.TcCoe Idealize.SL.Sem

section Pay

variable (x0 x1 x2 x3 : Vec Ideal S512x1024 .f32) (r : Fin 512) (d : Fin 1024)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S512x1024) hz2]
  pointwise [k0_pay1, k0_pay2, k0_pay3, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S512x1024) hz2]
  pointwise [k0_pay1, k0_pay2, k0_pay3, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S512x1024) hz2]
  pointwise [k0_pay1, k0_pay2, k0_pay3, delta, mom1, mom2]

theorem out7_apply : out0_7 x0 x1 x2 x3 (ix2 r d) = x1 (ix2 r d) := by
  unfold out0_7
  rw [View.canon_unit_zero hz2]
  exact congrFun (View.ld_unit_zero hz2 _ x1) _

end Pay

variable (m : (ℓ : Loc nD τ sig) → Buf (Elt Ideal) ℓ) (ρ : Dev nD → PrngReg) (c : Dev nD)

/-- The arguments. -/
abbrev x0 : FVec Ideal S2048x1024 .f32 := m ((c : Thread nD τ).loc main_arg0)
abbrev x1 : FVec Ideal S2048x1024 .f32 := m ((c : Thread nD τ).loc main_arg1)
abbrev x2 : FVec Ideal S2048x1024 .f32 := m ((c : Thread nD τ).loc main_arg2)
abbrev x3 : FVec Ideal S2048x1024 .f32 := m ((c : Thread nD τ).loc main_arg3)

def res4 (A B C D : FVec Ideal S2048x1024 .f32) : FVec Ideal S2048x1024 .f32 := fun y => delta (A y) (B y) (C y) (D y)
def res5 (B C : FVec Ideal S2048x1024 .f32) : FVec Ideal S2048x1024 .f32 := fun y => mom1 (B y) (C y)
def res6 (B D : FVec Ideal S2048x1024 .f32) : FVec Ideal S2048x1024 .f32 := fun y => mom2 (B y) (D y)
def res7 (B : FVec Ideal S2048x1024 .f32) : FVec Ideal S2048x1024 .f32 := fun y => B y

theorem arr0 : (V m c main_arg0 : FVec Ideal S2048x1024 .f32) = x0 m c := by
  rfl

theorem arr1 : (V m c main_arg1 : FVec Ideal S2048x1024 .f32) = x1 m c := by
  rfl

theorem arr2 : (V m c main_arg2 : FVec Ideal S2048x1024 .f32) = x2 m c := by
  rfl

theorem arr3 : (V m c main_arg3 : FVec Ideal S2048x1024 .f32) = x3 m c := by
  rfl

theorem final4 : (dats m 0 c).arrAt 4 cfg0.N = res4 (x0 m c) (x1 m c) (x2 m c) (x3 m c) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (x1 m c) (x2 m c) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (x1 m c) (x3 m c) := by
  rw [← arr1 m c, ← arr3 m c]
  refine (dats m 0 c).arrAt_eq_of_covers 6 _ (by decide +kernel) fun t ht y => ?_
  blk_simp
  rw [after0_6]
  idx_vars y
  exact out6_apply _ _ _ _ _ _

theorem final7 : (dats m 0 c).arrAt 7 cfg0.N = res7 (x1 m c) := by
  rw [← arr1 m c]
  refine (dats m 0 c).arrAt_eq_of_covers 7 _ (by decide +kernel) fun t ht y => ?_
  blk_simp
  rw [after0_7]
  idx_vars y
  exact out7_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v0_0) = res4 (x0 m c) (x1 m c) (x2 m c) (x3 m c)
      ∧ r.2.mem ((c.tc : Thread nD τ).loc main_v0_1) = res5 (x1 m c) (x2 m c)
      ∧ r.2.mem ((c.tc : Thread nD τ).loc main_v0_2) = res6 (x1 m c) (x3 m c)
      ∧ r.2.mem ((c.tc : Thread nD τ).loc main_v0_3) = res7 (x1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.AdamBig4Ideal.Val

namespace Cert.RefAdamBig4Ideal.Val

open Cert.RefAdamBig4Ideal Cert.RefAdamBig4Ideal.Gen Cert.RefAdamBig4Ideal.Read Cert.Adam Idealize.ShloMosaic

variable (x0 x1 x2 x3 : FVec Ideal S2048x1024 .f32)

theorem read4 : val_main_v23 (F := Ideal) x0 x1 x2 x3 = Cert.AdamBig4Ideal.Val.res4 (x0) (x1) (x2) (x3) :=
  rfl

theorem read5 : val_main_v4 (F := Ideal) x1 x2 = Cert.AdamBig4Ideal.Val.res5 (x1) (x2) :=
  rfl

theorem read6 : val_main_v10 (F := Ideal) x1 x3 = Cert.AdamBig4Ideal.Val.res6 (x1) (x3) :=
  rfl

end Cert.RefAdamBig4Ideal.Val

namespace Cert.AdamBig4Ideal.Val

open Idealize.ShloMosaic Idealize.SL.Sem

theorem frame_reference : Cert.quiescent_RefAdamBig4Ideal := fun m ρ _ =>
  (θ_run Cert.RefAdamBig4Ideal.defs _ _).mono (fun r h => ⟨fun c => (h c).2.2.2.2,
      Idealize.ShloMosaic.sem_eq_zero_of_no_sems (by decide) r.2⟩)
    (Cert.RefAdamBig4Ideal.Value.run (F := Ideal) m ρ)

theorem algebraic : Cert.algebraic_AdamBig4Ideal_RefAdamBig4Ideal := by
  intro m g m' g' _ hargs
  refine ⟨fun c => _, fun c => _, fun c => _, fun c => _, run m g, (θ_run Cert.RefAdamBig4Ideal.defs _ _).mono (fun r h c => ?_) (Cert.RefAdamBig4Ideal.Value.run (F := Ideal) m' g')⟩
  obtain ⟨a0, a1, a2, a3⟩ := hargs c
  refine ⟨(h c).1.trans ?_, (h c).2.1.trans ?_, (h c).2.2.1.trans ?_, (h c).2.2.2.1.trans ?_, (h c).2.2.2.2⟩
  · rw [Cert.RefAdamBig4Ideal.Read.val_main_v23_eq, a0, a1, a2, a3]
    exact Cert.RefAdamBig4Ideal.Val.read4 _ _ _ _
  · rw [Cert.RefAdamBig4Ideal.Read.val_main_v4_eq, a1, a2]
    exact Cert.RefAdamBig4Ideal.Val.read5 _ _
  · rw [Cert.RefAdamBig4Ideal.Read.val_main_v10_eq, a1, a3]
    exact Cert.RefAdamBig4Ideal.Val.read6 _ _
  · exact a1

end Cert.AdamBig4Ideal.Val
-- ==== Proof.AdamBig5R.lean ====
module

public import proofs.«01_k».proof.Proof.Gen.AdamBig5Ideal.Frame
public import proofs.«01_k».proof.Proof.Gen.RefAdamBig5Ideal.Read
public import proofs.«01_k».proof.Proof.Gen.RefAdamBig5Ideal.Run
public import proofs.«01_k».proof.Proof.Adam
public import proofs.«01_k».proof.Defs
public import Idealize.ShloMosaic.Lib.Quiescent

/-! # The optimiser's step of the weights of the queries and of the attention's output -/

@[expose] public section

noncomputable section

set_option maxRecDepth 16384

namespace Cert.AdamBig5Ideal.Val

open Cert.AdamBig5Ideal Cert.AdamBig5Ideal.Gen Cert.Mm Cert.Adam Idealize.ShloMosaic Idealize.ShloMosaic.TcCoe Idealize.SL.Sem

section Pay

variable (x0 x1 x2 x3 : Vec Ideal S256x2048 .f32) (r : Fin 256) (d : Fin 2048)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S256x2048) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S256x2048) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S256x2048) hz2]
  pointwise [k0_pay1, k0_pay2, k0_pay3, k0_pay4, delta, mom1, mom2]

theorem out7_apply : out0_7 x0 x1 x2 x3 (ix2 r d) = x1 (ix2 r d) := by
  unfold out0_7
  rw [View.canon_unit_zero hz2]
  simp only [View.ld_unit_zero (S := S256x2048) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S2x512x2048 .f32 := m ((c : Thread nD τ).loc main_arg0)
abbrev x1 : FVec Ideal S2x512x2048 .f32 := m ((c : Thread nD τ).loc main_arg1)
abbrev x2 : FVec Ideal S2x512x2048 .f32 := m ((c : Thread nD τ).loc main_arg2)
abbrev x3 : FVec Ideal S2x512x2048 .f32 := m ((c : Thread nD τ).loc main_arg3)

def res4 (A B C D : FVec Ideal S1024x2048 .f32) : FVec Ideal S1024x2048 .f32 := fun y => delta (A y) (B y) (C y) (D y)
def res5 (B C : FVec Ideal S1024x2048 .f32) : FVec Ideal S1024x2048 .f32 := fun y => mom1 (B y) (C y)
def res6 (B D : FVec Ideal S1024x2048 .f32) : FVec Ideal S1024x2048 .f32 := fun y => mom2 (B y) (D y)
def res7 (B : FVec Ideal S1024x2048 .f32) : FVec Ideal S1024x2048 .f32 := fun y => B y

theorem arr0 : (V m c main_v0 : FVec Ideal S1024x2048 .f32) = Cert.RefAdamBig5Ideal.Read.val_main_v0 (F := Ideal) (x0 m c) := by
  unfold V x0
  after_results
  rfl

theorem arr1 : (V m c main_v1 : FVec Ideal S1024x2048 .f32) = Cert.RefAdamBig5Ideal.Read.val_main_v1 (F := Ideal) (x1 m c) := by
  unfold V x1
  after_results
  rfl

theorem arr2 : (V m c main_v2 : FVec Ideal S1024x2048 .f32) = Cert.RefAdamBig5Ideal.Read.val_main_v2 (F := Ideal) (x2 m c) := by
  unfold V x2
  after_results
  rfl

theorem arr3 : (V m c main_v3 : FVec Ideal S1024x2048 .f32) = Cert.RefAdamBig5Ideal.Read.val_main_v3 (F := Ideal) (x3 m c) := by
  unfold V x3
  after_results
  rfl

theorem final4 : (dats m 0 c).arrAt 4 cfg0.N = res4 (Cert.RefAdamBig5Ideal.Read.val_main_v0 (F := Ideal) (x0 m c)) (Cert.RefAdamBig5Ideal.Read.val_main_v1 (F := Ideal) (x1 m c)) (Cert.RefAdamBig5Ideal.Read.val_main_v2 (F := Ideal) (x2 m c)) (Cert.RefAdamBig5Ideal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamBig5Ideal.Read.val_main_v1 (F := Ideal) (x1 m c)) (Cert.RefAdamBig5Ideal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamBig5Ideal.Read.val_main_v1 (F := Ideal) (x1 m c)) (Cert.RefAdamBig5Ideal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

theorem final7 : (dats m 0 c).arrAt 7 cfg0.N = res7 (Cert.RefAdamBig5Ideal.Read.val_main_v1 (F := Ideal) (x1 m c)) := by
  rw [← arr1 m c]
  refine (dats m 0 c).arrAt_eq_of_covers 7 _ (by decide +kernel) fun t ht y => ?_
  blk_simp
  rw [after0_7]
  idx_vars y
  exact out7_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamBig5Ideal.Read.val_main_v0 (F := Ideal) (x0 m c)) (Cert.RefAdamBig5Ideal.Read.val_main_v1 (F := Ideal) (x1 m c)) (Cert.RefAdamBig5Ideal.Read.val_main_v2 (F := Ideal) (x2 m c)) (Cert.RefAdamBig5Ideal.Read.val_main_v3 (F := Ideal) (x3 m c))
      ∧ r.2.mem ((c.tc : Thread nD τ).loc main_v4_1) = res5 (Cert.RefAdamBig5Ideal.Read.val_main_v1 (F := Ideal) (x1 m c)) (Cert.RefAdamBig5Ideal.Read.val_main_v2 (F := Ideal) (x2 m c))
      ∧ r.2.mem ((c.tc : Thread nD τ).loc main_v4_2) = res6 (Cert.RefAdamBig5Ideal.Read.val_main_v1 (F := Ideal) (x1 m c)) (Cert.RefAdamBig5Ideal.Read.val_main_v3 (F := Ideal) (x3 m c))
      ∧ r.2.mem ((c.tc : Thread nD τ).loc main_v4_3) = res7 (Cert.RefAdamBig5Ideal.Read.val_main_v1 (F := Ideal) (x1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.AdamBig5Ideal.Val

namespace Cert.RefAdamBig5Ideal.Val

open Cert.RefAdamBig5Ideal Cert.RefAdamBig5Ideal.Gen Cert.RefAdamBig5Ideal.Read Cert.Adam Idealize.ShloMosaic

variable (x0 x1 x2 x3 : FVec Ideal S2x512x2048 .f32)

theorem read4 : val_main_v27 (F := Ideal) x0 x1 x2 x3 = Cert.AdamBig5Ideal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamBig5Ideal.Val.res5 (val_main_v1 (F := Ideal) x1) (val_main_v2 (F := Ideal) x2) :=
  rfl

theorem read6 : val_main_v14 (F := Ideal) x1 x3 = Cert.AdamBig5Ideal.Val.res6 (val_main_v1 (F := Ideal) x1) (val_main_v3 (F := Ideal) x3) :=
  rfl

theorem read7 : val_main_v1 (F := Ideal) x1 = Cert.AdamBig5Ideal.Val.res7 (val_main_v1 (F := Ideal) x1) :=
  rfl

end Cert.RefAdamBig5Ideal.Val

namespace Cert.AdamBig5Ideal.Val

open Idealize.ShloMosaic Idealize.SL.Sem

theorem frame_reference : Cert.quiescent_RefAdamBig5Ideal := fun m ρ _ =>
  (θ_run Cert.RefAdamBig5Ideal.defs _ _).mono (fun r h => ⟨fun c => (h c).2.2.2.2,
      Idealize.ShloMosaic.sem_eq_zero_of_no_sems (by decide) r.2⟩)
    (Cert.RefAdamBig5Ideal.Value.run (F := Ideal) m ρ)

theorem algebraic : Cert.algebraic_AdamBig5Ideal_RefAdamBig5Ideal := by
  intro m g m' g' _ hargs
  refine ⟨fun c => _, fun c => _, fun c => _, fun c => _, run m g, (θ_run Cert.RefAdamBig5Ideal.defs _ _).mono (fun r h c => ?_) (Cert.RefAdamBig5Ideal.Value.run (F := Ideal) m' g')⟩
  obtain ⟨a0, a1, a2, a3⟩ := hargs c
  refine ⟨(h c).1.trans ?_, (h c).2.1.trans ?_, (h c).2.2.1.trans ?_, (h c).2.2.2.1.trans ?_, (h c).2.2.2.2⟩
  · rw [Cert.RefAdamBig5Ideal.Read.val_main_v27_eq, a0, a1, a2, a3]
    exact Cert.RefAdamBig5Ideal.Val.read4 _ _ _ _
  · rw [Cert.RefAdamBig5Ideal.Read.val_main_v8_eq, a1, a2]
    exact Cert.RefAdamBig5Ideal.Val.read5 _ _
  · rw [Cert.RefAdamBig5Ideal.Read.val_main_v14_eq, a1, a3]
    exact Cert.RefAdamBig5Ideal.Val.read6 _ _
  · rw [Cert.RefAdamBig5Ideal.Read.val_main_v1_eq, a1]
    exact Cert.RefAdamBig5Ideal.Val.read7 _

end Cert.AdamBig5Ideal.Val
-- ==== Proof.AdamAdaBR.lean ====
module

public import proofs.«01_k».proof.Proof.Gen.AdamAdaBIdeal.Frame
public import proofs.«01_k».proof.Proof.Gen.RefAdamAdaBIdeal.Read
public import proofs.«01_k».proof.Proof.Gen.RefAdamAdaBIdeal.Run
public import proofs.«01_k».proof.Proof.Adam
public import proofs.«01_k».proof.Defs
public import Idealize.ShloMosaic.Lib.Quiescent

/-! # The optimiser's step of the modulations' biases -/

@[expose] public section

noncomputable section

set_option maxRecDepth 16384

namespace Cert.AdamAdaBIdeal.Val

open Cert.AdamAdaBIdeal Cert.AdamAdaBIdeal.Gen Cert.Mm Cert.Adam Idealize.ShloMosaic Idealize.ShloMosaic.TcCoe Idealize.SL.Sem

section Pay

variable (x0 x1 x2 x3 : Vec Ideal S4x12288 .f32) (r : Fin 4) (d : Fin 12288)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S4x12288) hz2]
  pointwise [k0_pay1, k0_pay2, k0_pay3, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S4x12288) hz2]
  pointwise [k0_pay1, k0_pay2, k0_pay3, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S4x12288) hz2]
  pointwise [k0_pay1, k0_pay2, k0_pay3, delta, mom1, mom2]

end Pay

variable (m : (ℓ : Loc nD τ sig) → Buf (Elt Ideal) ℓ) (ρ : Dev nD → PrngReg) (c : Dev nD)

/-- The arguments. -/
abbrev x0 : FVec Ideal S4x12288 .f32 := m ((c : Thread nD τ).loc main_arg0)
abbrev x1 : FVec Ideal S4x12288 .f32 := m ((c : Thread nD τ).loc main_arg1)
abbrev x2 : FVec Ideal S4x12288 .f32 := m ((c : Thread nD τ).loc main_arg2)
abbrev x3 : FVec Ideal S4x12288 .f32 := m ((c : Thread nD τ).loc main_arg3)

def res4 (A B C D : FVec Ideal S4x12288 .f32) : FVec Ideal S4x12288 .f32 := fun y => delta (A y) (B y) (C y) (D y)
def res5 (B C : FVec Ideal S4x12288 .f32) : FVec Ideal S4x12288 .f32 := fun y => mom1 (B y) (C y)
def res6 (B D : FVec Ideal S4x12288 .f32) : FVec Ideal S4x12288 .f32 := fun y => mom2 (B y) (D y)

theorem arr0 : (V m c main_arg0 : FVec Ideal S4x12288 .f32) = x0 m c := by
  rfl

theorem arr1 : (V m c main_arg1 : FVec Ideal S4x12288 .f32) = x1 m c := by
  rfl

theorem arr2 : (V m c main_arg2 : FVec Ideal S4x12288 .f32) = x2 m c := by
  rfl

theorem arr3 : (V m c main_arg3 : FVec Ideal S4x12288 .f32) = x3 m c := by
  rfl

theorem final4 : (dats m 0 c).arrAt 4 cfg0.N = res4 (x0 m c) (x1 m c) (x2 m c) (x3 m c) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (x1 m c) (x2 m c) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (x1 m c) (x3 m c) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v0_0) = res4 (x0 m c) (x1 m c) (x2 m c) (x3 m c)
      ∧ r.2.mem ((c.tc : Thread nD τ).loc main_v0_1) = res5 (x1 m c) (x2 m c)
      ∧ r.2.mem ((c.tc : Thread nD τ).loc main_v0_2) = res6 (x1 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamAdaBIdeal.Val

namespace Cert.RefAdamAdaBIdeal.Val

open Cert.RefAdamAdaBIdeal Cert.RefAdamAdaBIdeal.Gen Cert.RefAdamAdaBIdeal.Read Cert.Adam Idealize.ShloMosaic

variable (x0 x1 x2 x3 : FVec Ideal S4x12288 .f32)

theorem read4 : val_main_v23 (F := Ideal) x0 x1 x2 x3 = Cert.AdamAdaBIdeal.Val.res4 (x0) (x1) (x2) (x3) :=
  rfl

theorem read5 : val_main_v4 (F := Ideal) x1 x2 = Cert.AdamAdaBIdeal.Val.res5 (x1) (x2) :=
  rfl

theorem read6 : val_main_v10 (F := Ideal) x1 x3 = Cert.AdamAdaBIdeal.Val.res6 (x1) (x3) :=
  rfl

end Cert.RefAdamAdaBIdeal.Val

namespace Cert.AdamAdaBIdeal.Val

open Idealize.ShloMosaic Idealize.SL.Sem

theorem frame_reference : Cert.quiescent_RefAdamAdaBIdeal := fun m ρ _ =>
  (θ_run Cert.RefAdamAdaBIdeal.defs _ _).mono (fun r h => ⟨fun c => (h c).2.2.2,
      Idealize.ShloMosaic.sem_eq_zero_of_no_sems (by decide) r.2⟩)
    (Cert.RefAdamAdaBIdeal.Value.run (F := Ideal) m ρ)

theorem algebraic : Cert.algebraic_AdamAdaBIdeal_RefAdamAdaBIdeal := by
  intro m g m' g' _ hargs
  refine ⟨fun c => _, fun c => _, fun c => _, run m g, (θ_run Cert.RefAdamAdaBIdeal.defs _ _).mono (fun r h c => ?_) (Cert.RefAdamAdaBIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamAdaBIdeal.Read.val_main_v23_eq, a0, a1, a2, a3]
    exact Cert.RefAdamAdaBIdeal.Val.read4 _ _ _ _
  · rw [Cert.RefAdamAdaBIdeal.Read.val_main_v4_eq, a1, a2]
    exact Cert.RefAdamAdaBIdeal.Val.read5 _ _
  · rw [Cert.RefAdamAdaBIdeal.Read.val_main_v10_eq, a1, a3]
    exact Cert.RefAdamAdaBIdeal.Val.read6 _ _

end Cert.AdamAdaBIdeal.Val
-- ==== Proof.AdamNormGR.lean ====
module

public import proofs.«01_k».proof.Proof.Gen.AdamNormGIdeal.Frame
public import proofs.«01_k».proof.Proof.Gen.RefAdamNormGIdeal.Read
public import proofs.«01_k».proof.Proof.Gen.RefAdamNormGIdeal.Run
public import proofs.«01_k».proof.Proof.Adam
public import proofs.«01_k».proof.Defs
public import Idealize.ShloMosaic.Lib.Quiescent

/-! # The optimiser's step of the norms' gains -/

@[expose] public section

noncomputable section

set_option maxRecDepth 16384

namespace Cert.AdamNormGIdeal.Val

open Cert.AdamNormGIdeal Cert.AdamNormGIdeal.Gen Cert.Mm Cert.Adam Idealize.ShloMosaic Idealize.ShloMosaic.TcCoe Idealize.SL.Sem

section Pay

variable (x0 x1 x2 x3 : Vec Ideal S8x512 .f32) (r : Fin 8) (d : Fin 512)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S8x512) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S8x512) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S8x512) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S4x2x512 .f32 := m ((c : Thread nD τ).loc main_arg0)
abbrev x1 : FVec Ideal S4x2x512 .f32 := m ((c : Thread nD τ).loc main_arg1)
abbrev x2 : FVec Ideal S4x2x512 .f32 := m ((c : Thread nD τ).loc main_arg2)
abbrev x3 : FVec Ideal S4x2x512 .f32 := m ((c : Thread nD τ).loc main_arg3)

def res4 (A B C D : FVec Ideal S8x512 .f32) : FVec Ideal S8x512 .f32 := fun y => delta (A y) (B y) (C y) (D y)
def res5 (B C : FVec Ideal S8x512 .f32) : FVec Ideal S8x512 .f32 := fun y => mom1 (B y) (C y)
def res6 (B D : FVec Ideal S8x512 .f32) : FVec Ideal S8x512 .f32 := fun y => mom2 (B y) (D y)

theorem arr0 : (V m c main_v0 : FVec Ideal S8x512 .f32) = Cert.RefAdamNormGIdeal.Read.val_main_v0 (F := Ideal) (x0 m c) := by
  unfold V x0
  after_results
  rfl

theorem arr1 : (V m c main_v1 : FVec Ideal S8x512 .f32) = Cert.RefAdamNormGIdeal.Read.val_main_v1 (F := Ideal) (x1 m c) := by
  unfold V x1
  after_results
  rfl

theorem arr2 : (V m c main_v2 : FVec Ideal S8x512 .f32) = Cert.RefAdamNormGIdeal.Read.val_main_v2 (F := Ideal) (x2 m c) := by
  unfold V x2
  after_results
  rfl

theorem arr3 : (V m c main_v3 : FVec Ideal S8x512 .f32) = Cert.RefAdamNormGIdeal.Read.val_main_v3 (F := Ideal) (x3 m c) := by
  unfold V x3
  after_results
  rfl

theorem final4 : (dats m 0 c).arrAt 4 cfg0.N = res4 (Cert.RefAdamNormGIdeal.Read.val_main_v0 (F := Ideal) (x0 m c)) (Cert.RefAdamNormGIdeal.Read.val_main_v1 (F := Ideal) (x1 m c)) (Cert.RefAdamNormGIdeal.Read.val_main_v2 (F := Ideal) (x2 m c)) (Cert.RefAdamNormGIdeal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamNormGIdeal.Read.val_main_v1 (F := Ideal) (x1 m c)) (Cert.RefAdamNormGIdeal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamNormGIdeal.Read.val_main_v1 (F := Ideal) (x1 m c)) (Cert.RefAdamNormGIdeal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamNormGIdeal.Read.val_main_v0 (F := Ideal) (x0 m c)) (Cert.RefAdamNormGIdeal.Read.val_main_v1 (F := Ideal) (x1 m c)) (Cert.RefAdamNormGIdeal.Read.val_main_v2 (F := Ideal) (x2 m c)) (Cert.RefAdamNormGIdeal.Read.val_main_v3 (F := Ideal) (x3 m c))
      ∧ r.2.mem ((c.tc : Thread nD τ).loc main_v4_1) = res5 (Cert.RefAdamNormGIdeal.Read.val_main_v1 (F := Ideal) (x1 m c)) (Cert.RefAdamNormGIdeal.Read.val_main_v2 (F := Ideal) (x2 m c))
      ∧ r.2.mem ((c.tc : Thread nD τ).loc main_v4_2) = res6 (Cert.RefAdamNormGIdeal.Read.val_main_v1 (F := Ideal) (x1 m c)) (Cert.RefAdamNormGIdeal.Read.val_main_v3 (F := Ideal) (x3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamNormGIdeal.Val

namespace Cert.RefAdamNormGIdeal.Val

open Cert.RefAdamNormGIdeal Cert.RefAdamNormGIdeal.Gen Cert.RefAdamNormGIdeal.Read Cert.Adam Idealize.ShloMosaic

variable (x0 x1 x2 x3 : FVec Ideal S4x2x512 .f32)

theorem read4 : val_main_v27 (F := Ideal) x0 x1 x2 x3 = Cert.AdamNormGIdeal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamNormGIdeal.Val.res5 (val_main_v1 (F := Ideal) x1) (val_main_v2 (F := Ideal) x2) :=
  rfl

theorem read6 : val_main_v14 (F := Ideal) x1 x3 = Cert.AdamNormGIdeal.Val.res6 (val_main_v1 (F := Ideal) x1) (val_main_v3 (F := Ideal) x3) :=
  rfl

end Cert.RefAdamNormGIdeal.Val

namespace Cert.AdamNormGIdeal.Val

open Idealize.ShloMosaic Idealize.SL.Sem

theorem frame_reference : Cert.quiescent_RefAdamNormGIdeal := fun m ρ _ =>
  (θ_run Cert.RefAdamNormGIdeal.defs _ _).mono (fun r h => ⟨fun c => (h c).2.2.2,
      Idealize.ShloMosaic.sem_eq_zero_of_no_sems (by decide) r.2⟩)
    (Cert.RefAdamNormGIdeal.Value.run (F := Ideal) m ρ)

theorem algebraic : Cert.algebraic_AdamNormGIdeal_RefAdamNormGIdeal := by
  intro m g m' g' _ hargs
  refine ⟨fun c => _, fun c => _, fun c => _, run m g, (θ_run Cert.RefAdamNormGIdeal.defs _ _).mono (fun r h c => ?_) (Cert.RefAdamNormGIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamNormGIdeal.Read.val_main_v27_eq, a0, a1, a2, a3]
    exact Cert.RefAdamNormGIdeal.Val.read4 _ _ _ _
  · rw [Cert.RefAdamNormGIdeal.Read.val_main_v8_eq, a1, a2]
    exact Cert.RefAdamNormGIdeal.Val.read5 _ _
  · rw [Cert.RefAdamNormGIdeal.Read.val_main_v14_eq, a1, a3]
    exact Cert.RefAdamNormGIdeal.Val.read6 _ _

end Cert.AdamNormGIdeal.Val
-- ==== Proof.AdamLnGR.lean ====
module

public import proofs.«01_k».proof.Proof.Gen.AdamLnGIdeal.Frame
public import proofs.«01_k».proof.Proof.Gen.RefAdamLnGIdeal.Read
public import proofs.«01_k».proof.Proof.Gen.RefAdamLnGIdeal.Run
public import proofs.«01_k».proof.Proof.Adam
public import proofs.«01_k».proof.Defs
public import Idealize.ShloMosaic.Lib.Quiescent

/-! # The optimiser's step of the inner norm's gains and offsets -/

@[expose] public section

noncomputable section

set_option maxRecDepth 16384

namespace Cert.AdamLnGIdeal.Val

open Cert.AdamLnGIdeal Cert.AdamLnGIdeal.Gen Cert.Mm Cert.Adam Idealize.ShloMosaic Idealize.ShloMosaic.TcCoe Idealize.SL.Sem

section Pay

variable (x0 x1 x2 x3 : Vec Ideal S2x1536 .f32) (r : Fin 2) (d : Fin 1536)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S2x1536) hz2]
  pointwise [k0_pay1, k0_pay2, k0_pay3, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S2x1536) hz2]
  pointwise [k0_pay1, k0_pay2, k0_pay3, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S2x1536) hz2]
  pointwise [k0_pay1, k0_pay2, k0_pay3, delta, mom1, mom2]

end Pay

variable (m : (ℓ : Loc nD τ sig) → Buf (Elt Ideal) ℓ) (ρ : Dev nD → PrngReg) (c : Dev nD)

/-- The arguments. -/
abbrev x0 : FVec Ideal S2x1536 .f32 := m ((c : Thread nD τ).loc main_arg0)
abbrev x1 : FVec Ideal S2x1536 .f32 := m ((c : Thread nD τ).loc main_arg1)
abbrev x2 : FVec Ideal S2x1536 .f32 := m ((c : Thread nD τ).loc main_arg2)
abbrev x3 : FVec Ideal S2x1536 .f32 := m ((c : Thread nD τ).loc main_arg3)

def res4 (A B C D : FVec Ideal S2x1536 .f32) : FVec Ideal S2x1536 .f32 := fun y => delta (A y) (B y) (C y) (D y)
def res5 (B C : FVec Ideal S2x1536 .f32) : FVec Ideal S2x1536 .f32 := fun y => mom1 (B y) (C y)
def res6 (B D : FVec Ideal S2x1536 .f32) : FVec Ideal S2x1536 .f32 := fun y => mom2 (B y) (D y)

theorem arr0 : (V m c main_arg0 : FVec Ideal S2x1536 .f32) = x0 m c := by
  rfl

theorem arr1 : (V m c main_arg1 : FVec Ideal S2x1536 .f32) = x1 m c := by
  rfl

theorem arr2 : (V m c main_arg2 : FVec Ideal S2x1536 .f32) = x2 m c := by
  rfl

theorem arr3 : (V m c main_arg3 : FVec Ideal S2x1536 .f32) = x3 m c := by
  rfl

theorem final4 : (dats m 0 c).arrAt 4 cfg0.N = res4 (x0 m c) (x1 m c) (x2 m c) (x3 m c) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (x1 m c) (x2 m c) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (x1 m c) (x3 m c) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v0_0) = res4 (x0 m c) (x1 m c) (x2 m c) (x3 m c)
      ∧ r.2.mem ((c.tc : Thread nD τ).loc main_v0_1) = res5 (x1 m c) (x2 m c)
      ∧ r.2.mem ((c.tc : Thread nD τ).loc main_v0_2) = res6 (x1 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamLnGIdeal.Val

namespace Cert.RefAdamLnGIdeal.Val

open Cert.RefAdamLnGIdeal Cert.RefAdamLnGIdeal.Gen Cert.RefAdamLnGIdeal.Read Cert.Adam Idealize.ShloMosaic

variable (x0 x1 x2 x3 : FVec Ideal S2x1536 .f32)

theorem read4 : val_main_v23 (F := Ideal) x0 x1 x2 x3 = Cert.AdamLnGIdeal.Val.res4 (x0) (x1) (x2) (x3) :=
  rfl

theorem read5 : val_main_v4 (F := Ideal) x1 x2 = Cert.AdamLnGIdeal.Val.res5 (x1) (x2) :=
  rfl

theorem read6 : val_main_v10 (F := Ideal) x1 x3 = Cert.AdamLnGIdeal.Val.res6 (x1) (x3) :=
  rfl

end Cert.RefAdamLnGIdeal.Val

namespace Cert.AdamLnGIdeal.Val

open Idealize.ShloMosaic Idealize.SL.Sem

theorem frame_reference : Cert.quiescent_RefAdamLnGIdeal := fun m ρ _ =>
  (θ_run Cert.RefAdamLnGIdeal.defs _ _).mono (fun r h => ⟨fun c => (h c).2.2.2,
      Idealize.ShloMosaic.sem_eq_zero_of_no_sems (by decide) r.2⟩)
    (Cert.RefAdamLnGIdeal.Value.run (F := Ideal) m ρ)

theorem algebraic : Cert.algebraic_AdamLnGIdeal_RefAdamLnGIdeal := by
  intro m g m' g' _ hargs
  refine ⟨fun c => _, fun c => _, fun c => _, run m g, (θ_run Cert.RefAdamLnGIdeal.defs _ _).mono (fun r h c => ?_) (Cert.RefAdamLnGIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamLnGIdeal.Read.val_main_v23_eq, a0, a1, a2, a3]
    exact Cert.RefAdamLnGIdeal.Val.read4 _ _ _ _
  · rw [Cert.RefAdamLnGIdeal.Read.val_main_v4_eq, a1, a2]
    exact Cert.RefAdamLnGIdeal.Val.read5 _ _
  · rw [Cert.RefAdamLnGIdeal.Read.val_main_v10_eq, a1, a3]
    exact Cert.RefAdamLnGIdeal.Val.read6 _ _

end Cert.AdamLnGIdeal.Val
-- ==== Proof.AdamWsR.lean ====
module

public import proofs.«01_k».proof.Proof.Gen.AdamWsIdeal.Frame
public import proofs.«01_k».proof.Proof.Gen.RefAdamWsIdeal.Read
public import proofs.«01_k».proof.Proof.Gen.RefAdamWsIdeal.Run
public import proofs.«01_k».proof.Proof.Adam
public import proofs.«01_k».proof.Defs
public import Idealize.ShloMosaic.Lib.Quiescent

/-! # The optimiser's step of the mixing's weights -/

@[expose] public section

noncomputable section

set_option maxRecDepth 16384

namespace Cert.AdamWsIdeal.Val

open Cert.AdamWsIdeal Cert.AdamWsIdeal.Gen Cert.Mm Cert.Adam Idealize.ShloMosaic Idealize.ShloMosaic.TcCoe Idealize.SL.Sem

section Pay

variable (x0 x1 x2 x3 : Vec Ideal S2048x128 .f32) (r : Fin 2048) (d : Fin 128)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S2048x128) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S2048x128) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S2048x128) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S2x8x128x128 .f32 := m ((c : Thread nD τ).loc main_arg0)
abbrev x1 : FVec Ideal S2x8x128x128 .f32 := m ((c : Thread nD τ).loc main_arg1)
abbrev x2 : FVec Ideal S2x8x128x128 .f32 := m ((c : Thread nD τ).loc main_arg2)
abbrev x3 : FVec Ideal S2x8x128x128 .f32 := m ((c : Thread nD τ).loc main_arg3)

def res4 (A B C D : FVec Ideal S2048x128 .f32) : FVec Ideal S2048x128 .f32 := fun y => delta (A y) (B y) (C y) (D y)
def res5 (B C : FVec Ideal S2048x128 .f32) : FVec Ideal S2048x128 .f32 := fun y => mom1 (B y) (C y)
def res6 (B D : FVec Ideal S2048x128 .f32) : FVec Ideal S2048x128 .f32 := fun y => mom2 (B y) (D y)

theorem arr0 : (V m c main_v0 : FVec Ideal S2048x128 .f32) = Cert.RefAdamWsIdeal.Read.val_main_v0 (F := Ideal) (x0 m c) := by
  unfold V x0
  after_results
  rfl

theorem arr1 : (V m c main_v1 : FVec Ideal S2048x128 .f32) = Cert.RefAdamWsIdeal.Read.val_main_v1 (F := Ideal) (x1 m c) := by
  unfold V x1
  after_results
  rfl

theorem arr2 : (V m c main_v2 : FVec Ideal S2048x128 .f32) = Cert.RefAdamWsIdeal.Read.val_main_v2 (F := Ideal) (x2 m c) := by
  unfold V x2
  after_results
  rfl

theorem arr3 : (V m c main_v3 : FVec Ideal S2048x128 .f32) = Cert.RefAdamWsIdeal.Read.val_main_v3 (F := Ideal) (x3 m c) := by
  unfold V x3
  after_results
  rfl

theorem final4 : (dats m 0 c).arrAt 4 cfg0.N = res4 (Cert.RefAdamWsIdeal.Read.val_main_v0 (F := Ideal) (x0 m c)) (Cert.RefAdamWsIdeal.Read.val_main_v1 (F := Ideal) (x1 m c)) (Cert.RefAdamWsIdeal.Read.val_main_v2 (F := Ideal) (x2 m c)) (Cert.RefAdamWsIdeal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamWsIdeal.Read.val_main_v1 (F := Ideal) (x1 m c)) (Cert.RefAdamWsIdeal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamWsIdeal.Read.val_main_v1 (F := Ideal) (x1 m c)) (Cert.RefAdamWsIdeal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamWsIdeal.Read.val_main_v0 (F := Ideal) (x0 m c)) (Cert.RefAdamWsIdeal.Read.val_main_v1 (F := Ideal) (x1 m c)) (Cert.RefAdamWsIdeal.Read.val_main_v2 (F := Ideal) (x2 m c)) (Cert.RefAdamWsIdeal.Read.val_main_v3 (F := Ideal) (x3 m c))
      ∧ r.2.mem ((c.tc : Thread nD τ).loc main_v4_1) = res5 (Cert.RefAdamWsIdeal.Read.val_main_v1 (F := Ideal) (x1 m c)) (Cert.RefAdamWsIdeal.Read.val_main_v2 (F := Ideal) (x2 m c))
      ∧ r.2.mem ((c.tc : Thread nD τ).loc main_v4_2) = res6 (Cert.RefAdamWsIdeal.Read.val_main_v1 (F := Ideal) (x1 m c)) (Cert.RefAdamWsIdeal.Read.val_main_v3 (F := Ideal) (x3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamWsIdeal.Val

namespace Cert.RefAdamWsIdeal.Val

open Cert.RefAdamWsIdeal Cert.RefAdamWsIdeal.Gen Cert.RefAdamWsIdeal.Read Cert.Adam Idealize.ShloMosaic

variable (x0 x1 x2 x3 : FVec Ideal S2x8x128x128 .f32)

theorem read4 : val_main_v27 (F := Ideal) x0 x1 x2 x3 = Cert.AdamWsIdeal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamWsIdeal.Val.res5 (val_main_v1 (F := Ideal) x1) (val_main_v2 (F := Ideal) x2) :=
  rfl

theorem read6 : val_main_v14 (F := Ideal) x1 x3 = Cert.AdamWsIdeal.Val.res6 (val_main_v1 (F := Ideal) x1) (val_main_v3 (F := Ideal) x3) :=
  rfl

end Cert.RefAdamWsIdeal.Val

namespace Cert.AdamWsIdeal.Val

open Idealize.ShloMosaic Idealize.SL.Sem

theorem frame_reference : Cert.quiescent_RefAdamWsIdeal := fun m ρ _ =>
  (θ_run Cert.RefAdamWsIdeal.defs _ _).mono (fun r h => ⟨fun c => (h c).2.2.2,
      Idealize.ShloMosaic.sem_eq_zero_of_no_sems (by decide) r.2⟩)
    (Cert.RefAdamWsIdeal.Value.run (F := Ideal) m ρ)

theorem algebraic : Cert.algebraic_AdamWsIdeal_RefAdamWsIdeal := by
  intro m g m' g' _ hargs
  refine ⟨fun c => _, fun c => _, fun c => _, run m g, (θ_run Cert.RefAdamWsIdeal.defs _ _).mono (fun r h c => ?_) (Cert.RefAdamWsIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamWsIdeal.Read.val_main_v27_eq, a0, a1, a2, a3]
    exact Cert.RefAdamWsIdeal.Val.read4 _ _ _ _
  · rw [Cert.RefAdamWsIdeal.Read.val_main_v8_eq, a1, a2]
    exact Cert.RefAdamWsIdeal.Val.read5 _ _
  · rw [Cert.RefAdamWsIdeal.Read.val_main_v14_eq, a1, a3]
    exact Cert.RefAdamWsIdeal.Val.read6 _ _

end Cert.AdamWsIdeal.Val
-- ==== Proof.AdamBsR.lean ====
module

public import proofs.«01_k».proof.Proof.Gen.AdamBsIdeal.Frame
public import proofs.«01_k».proof.Proof.Gen.RefAdamBsIdeal.Read
public import proofs.«01_k».proof.Proof.Gen.RefAdamBsIdeal.Run
public import proofs.«01_k».proof.Proof.Adam
public import proofs.«01_k».proof.Defs
public import Idealize.ShloMosaic.Lib.Quiescent

/-! # The optimiser's step of the mixing's biases -/

@[expose] public section

noncomputable section

set_option maxRecDepth 16384

namespace Cert.AdamBsIdeal.Val

open Cert.AdamBsIdeal Cert.AdamBsIdeal.Gen Cert.Mm Cert.Adam Idealize.ShloMosaic Idealize.ShloMosaic.TcCoe Idealize.SL.Sem

section Pay

variable (x0 x1 x2 x3 : Vec Ideal S16x128 .f32) (r : Fin 16) (d : Fin 128)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S16x128) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S16x128) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S16x128) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S2x8x128 .f32 := m ((c : Thread nD τ).loc main_arg0)
abbrev x1 : FVec Ideal S2x8x128 .f32 := m ((c : Thread nD τ).loc main_arg1)
abbrev x2 : FVec Ideal S2x8x128 .f32 := m ((c : Thread nD τ).loc main_arg2)
abbrev x3 : FVec Ideal S2x8x128 .f32 := m ((c : Thread nD τ).loc main_arg3)

def res4 (A B C D : FVec Ideal S16x128 .f32) : FVec Ideal S16x128 .f32 := fun y => delta (A y) (B y) (C y) (D y)
def res5 (B C : FVec Ideal S16x128 .f32) : FVec Ideal S16x128 .f32 := fun y => mom1 (B y) (C y)
def res6 (B D : FVec Ideal S16x128 .f32) : FVec Ideal S16x128 .f32 := fun y => mom2 (B y) (D y)

theorem arr0 : (V m c main_v0 : FVec Ideal S16x128 .f32) = Cert.RefAdamBsIdeal.Read.val_main_v0 (F := Ideal) (x0 m c) := by
  unfold V x0
  after_results
  rfl

theorem arr1 : (V m c main_v1 : FVec Ideal S16x128 .f32) = Cert.RefAdamBsIdeal.Read.val_main_v1 (F := Ideal) (x1 m c) := by
  unfold V x1
  after_results
  rfl

theorem arr2 : (V m c main_v2 : FVec Ideal S16x128 .f32) = Cert.RefAdamBsIdeal.Read.val_main_v2 (F := Ideal) (x2 m c) := by
  unfold V x2
  after_results
  rfl

theorem arr3 : (V m c main_v3 : FVec Ideal S16x128 .f32) = Cert.RefAdamBsIdeal.Read.val_main_v3 (F := Ideal) (x3 m c) := by
  unfold V x3
  after_results
  rfl

theorem final4 : (dats m 0 c).arrAt 4 cfg0.N = res4 (Cert.RefAdamBsIdeal.Read.val_main_v0 (F := Ideal) (x0 m c)) (Cert.RefAdamBsIdeal.Read.val_main_v1 (F := Ideal) (x1 m c)) (Cert.RefAdamBsIdeal.Read.val_main_v2 (F := Ideal) (x2 m c)) (Cert.RefAdamBsIdeal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamBsIdeal.Read.val_main_v1 (F := Ideal) (x1 m c)) (Cert.RefAdamBsIdeal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamBsIdeal.Read.val_main_v1 (F := Ideal) (x1 m c)) (Cert.RefAdamBsIdeal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamBsIdeal.Read.val_main_v0 (F := Ideal) (x0 m c)) (Cert.RefAdamBsIdeal.Read.val_main_v1 (F := Ideal) (x1 m c)) (Cert.RefAdamBsIdeal.Read.val_main_v2 (F := Ideal) (x2 m c)) (Cert.RefAdamBsIdeal.Read.val_main_v3 (F := Ideal) (x3 m c))
      ∧ r.2.mem ((c.tc : Thread nD τ).loc main_v4_1) = res5 (Cert.RefAdamBsIdeal.Read.val_main_v1 (F := Ideal) (x1 m c)) (Cert.RefAdamBsIdeal.Read.val_main_v2 (F := Ideal) (x2 m c))
      ∧ r.2.mem ((c.tc : Thread nD τ).loc main_v4_2) = res6 (Cert.RefAdamBsIdeal.Read.val_main_v1 (F := Ideal) (x1 m c)) (Cert.RefAdamBsIdeal.Read.val_main_v3 (F := Ideal) (x3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamBsIdeal.Val

namespace Cert.RefAdamBsIdeal.Val

open Cert.RefAdamBsIdeal Cert.RefAdamBsIdeal.Gen Cert.RefAdamBsIdeal.Read Cert.Adam Idealize.ShloMosaic

variable (x0 x1 x2 x3 : FVec Ideal S2x8x128 .f32)

theorem read4 : val_main_v27 (F := Ideal) x0 x1 x2 x3 = Cert.AdamBsIdeal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamBsIdeal.Val.res5 (val_main_v1 (F := Ideal) x1) (val_main_v2 (F := Ideal) x2) :=
  rfl

theorem read6 : val_main_v14 (F := Ideal) x1 x3 = Cert.AdamBsIdeal.Val.res6 (val_main_v1 (F := Ideal) x1) (val_main_v3 (F := Ideal) x3) :=
  rfl

end Cert.RefAdamBsIdeal.Val

namespace Cert.AdamBsIdeal.Val

open Idealize.ShloMosaic Idealize.SL.Sem

theorem frame_reference : Cert.quiescent_RefAdamBsIdeal := fun m ρ _ =>
  (θ_run Cert.RefAdamBsIdeal.defs _ _).mono (fun r h => ⟨fun c => (h c).2.2.2,
      Idealize.ShloMosaic.sem_eq_zero_of_no_sems (by decide) r.2⟩)
    (Cert.RefAdamBsIdeal.Value.run (F := Ideal) m ρ)

theorem algebraic : Cert.algebraic_AdamBsIdeal_RefAdamBsIdeal := by
  intro m g m' g' _ hargs
  refine ⟨fun c => _, fun c => _, fun c => _, run m g, (θ_run Cert.RefAdamBsIdeal.defs _ _).mono (fun r h c => ?_) (Cert.RefAdamBsIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamBsIdeal.Read.val_main_v27_eq, a0, a1, a2, a3]
    exact Cert.RefAdamBsIdeal.Val.read4 _ _ _ _
  · rw [Cert.RefAdamBsIdeal.Read.val_main_v8_eq, a1, a2]
    exact Cert.RefAdamBsIdeal.Val.read5 _ _
  · rw [Cert.RefAdamBsIdeal.Read.val_main_v14_eq, a1, a3]
    exact Cert.RefAdamBsIdeal.Val.read6 _ _

end Cert.AdamBsIdeal.Val
-- ==== Proof.AdamKvNormGR.lean ====
module

public import proofs.«01_k».proof.Proof.Gen.AdamKvNormGIdeal.Frame
public import proofs.«01_k».proof.Proof.Gen.RefAdamKvNormGIdeal.Read
public import proofs.«01_k».proof.Proof.Gen.RefAdamKvNormGIdeal.Run
public import proofs.«01_k».proof.Proof.Adam
public import proofs.«01_k».proof.Defs
public import Idealize.ShloMosaic.Lib.Quiescent

/-! # The optimiser's step of the gain of the keys' and values' norm -/

@[expose] public section

noncomputable section

set_option maxRecDepth 16384

namespace Cert.AdamKvNormGIdeal.Val

open Cert.AdamKvNormGIdeal Cert.AdamKvNormGIdeal.Gen Cert.Mm Cert.Adam Idealize.ShloMosaic Idealize.ShloMosaic.TcCoe Idealize.SL.Sem

section Pay

variable (x0 x1 x2 x3 : Vec Ideal S1x2048 .f32) (r : Fin 1) (d : Fin 2048)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S1x2048) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S1x2048) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S1x2048) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S2048 .f32 := m ((c : Thread nD τ).loc main_arg0)
abbrev x1 : FVec Ideal S2048 .f32 := m ((c : Thread nD τ).loc main_arg1)
abbrev x2 : FVec Ideal S2048 .f32 := m ((c : Thread nD τ).loc main_arg2)
abbrev x3 : FVec Ideal S2048 .f32 := m ((c : Thread nD τ).loc main_arg3)

def res4 (A B C D : FVec Ideal S1x2048 .f32) : FVec Ideal S1x2048 .f32 := fun y => delta (A y) (B y) (C y) (D y)
def res5 (B C : FVec Ideal S1x2048 .f32) : FVec Ideal S1x2048 .f32 := fun y => mom1 (B y) (C y)
def res6 (B D : FVec Ideal S1x2048 .f32) : FVec Ideal S1x2048 .f32 := fun y => mom2 (B y) (D y)

theorem arr0 : (V m c main_v0 : FVec Ideal S1x2048 .f32) = Cert.RefAdamKvNormGIdeal.Read.val_main_v0 (F := Ideal) (x0 m c) := by
  unfold V x0
  after_results
  rfl

theorem arr1 : (V m c main_v1 : FVec Ideal S1x2048 .f32) = Cert.RefAdamKvNormGIdeal.Read.val_main_v1 (F := Ideal) (x1 m c) := by
  unfold V x1
  after_results
  rfl

theorem arr2 : (V m c main_v2 : FVec Ideal S1x2048 .f32) = Cert.RefAdamKvNormGIdeal.Read.val_main_v2 (F := Ideal) (x2 m c) := by
  unfold V x2
  after_results
  rfl

theorem arr3 : (V m c main_v3 : FVec Ideal S1x2048 .f32) = Cert.RefAdamKvNormGIdeal.Read.val_main_v3 (F := Ideal) (x3 m c) := by
  unfold V x3
  after_results
  rfl

theorem final4 : (dats m 0 c).arrAt 4 cfg0.N = res4 (Cert.RefAdamKvNormGIdeal.Read.val_main_v0 (F := Ideal) (x0 m c)) (Cert.RefAdamKvNormGIdeal.Read.val_main_v1 (F := Ideal) (x1 m c)) (Cert.RefAdamKvNormGIdeal.Read.val_main_v2 (F := Ideal) (x2 m c)) (Cert.RefAdamKvNormGIdeal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamKvNormGIdeal.Read.val_main_v1 (F := Ideal) (x1 m c)) (Cert.RefAdamKvNormGIdeal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamKvNormGIdeal.Read.val_main_v1 (F := Ideal) (x1 m c)) (Cert.RefAdamKvNormGIdeal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamKvNormGIdeal.Read.val_main_v0 (F := Ideal) (x0 m c)) (Cert.RefAdamKvNormGIdeal.Read.val_main_v1 (F := Ideal) (x1 m c)) (Cert.RefAdamKvNormGIdeal.Read.val_main_v2 (F := Ideal) (x2 m c)) (Cert.RefAdamKvNormGIdeal.Read.val_main_v3 (F := Ideal) (x3 m c))
      ∧ r.2.mem ((c.tc : Thread nD τ).loc main_v4_1) = res5 (Cert.RefAdamKvNormGIdeal.Read.val_main_v1 (F := Ideal) (x1 m c)) (Cert.RefAdamKvNormGIdeal.Read.val_main_v2 (F := Ideal) (x2 m c))
      ∧ r.2.mem ((c.tc : Thread nD τ).loc main_v4_2) = res6 (Cert.RefAdamKvNormGIdeal.Read.val_main_v1 (F := Ideal) (x1 m c)) (Cert.RefAdamKvNormGIdeal.Read.val_main_v3 (F := Ideal) (x3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamKvNormGIdeal.Val

namespace Cert.RefAdamKvNormGIdeal.Val

open Cert.RefAdamKvNormGIdeal Cert.RefAdamKvNormGIdeal.Gen Cert.RefAdamKvNormGIdeal.Read Cert.Adam Idealize.ShloMosaic

variable (x0 x1 x2 x3 : FVec Ideal S2048 .f32)

theorem read4 : val_main_v27 (F := Ideal) x0 x1 x2 x3 = Cert.AdamKvNormGIdeal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamKvNormGIdeal.Val.res5 (val_main_v1 (F := Ideal) x1) (val_main_v2 (F := Ideal) x2) :=
  rfl

theorem read6 : val_main_v14 (F := Ideal) x1 x3 = Cert.AdamKvNormGIdeal.Val.res6 (val_main_v1 (F := Ideal) x1) (val_main_v3 (F := Ideal) x3) :=
  rfl

end Cert.RefAdamKvNormGIdeal.Val

namespace Cert.AdamKvNormGIdeal.Val

open Idealize.ShloMosaic Idealize.SL.Sem

theorem frame_reference : Cert.quiescent_RefAdamKvNormGIdeal := fun m ρ _ =>
  (θ_run Cert.RefAdamKvNormGIdeal.defs _ _).mono (fun r h => ⟨fun c => (h c).2.2.2,
      Idealize.ShloMosaic.sem_eq_zero_of_no_sems (by decide) r.2⟩)
    (Cert.RefAdamKvNormGIdeal.Value.run (F := Ideal) m ρ)

theorem algebraic : Cert.algebraic_AdamKvNormGIdeal_RefAdamKvNormGIdeal := by
  intro m g m' g' _ hargs
  refine ⟨fun c => _, fun c => _, fun c => _, run m g, (θ_run Cert.RefAdamKvNormGIdeal.defs _ _).mono (fun r h c => ?_) (Cert.RefAdamKvNormGIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamKvNormGIdeal.Read.val_main_v27_eq, a0, a1, a2, a3]
    exact Cert.RefAdamKvNormGIdeal.Val.read4 _ _ _ _
  · rw [Cert.RefAdamKvNormGIdeal.Read.val_main_v8_eq, a1, a2]
    exact Cert.RefAdamKvNormGIdeal.Val.read5 _ _
  · rw [Cert.RefAdamKvNormGIdeal.Read.val_main_v14_eq, a1, a3]
    exact Cert.RefAdamKvNormGIdeal.Val.read6 _ _

end Cert.AdamKvNormGIdeal.Val
-- ==== Proof.AdamKvAdaBR.lean ====
module

public import proofs.«01_k».proof.Proof.Gen.AdamKvAdaBIdeal.Frame
public import proofs.«01_k».proof.Proof.Gen.RefAdamKvAdaBIdeal.Read
public import proofs.«01_k».proof.Proof.Gen.RefAdamKvAdaBIdeal.Run
public import proofs.«01_k».proof.Proof.Adam
public import proofs.«01_k».proof.Defs
public import Idealize.ShloMosaic.Lib.Quiescent

/-! # The optimiser's step of the bias of the keys' and values' modulation -/

@[expose] public section

noncomputable section

set_option maxRecDepth 16384

namespace Cert.AdamKvAdaBIdeal.Val

open Cert.AdamKvAdaBIdeal Cert.AdamKvAdaBIdeal.Gen Cert.Mm Cert.Adam Idealize.ShloMosaic Idealize.ShloMosaic.TcCoe Idealize.SL.Sem

section Pay

variable (x0 x1 x2 x3 : Vec Ideal S1x4096 .f32) (r : Fin 1) (d : Fin 4096)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S1x4096) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S1x4096) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S1x4096) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S4096 .f32 := m ((c : Thread nD τ).loc main_arg0)
abbrev x1 : FVec Ideal S4096 .f32 := m ((c : Thread nD τ).loc main_arg1)
abbrev x2 : FVec Ideal S4096 .f32 := m ((c : Thread nD τ).loc main_arg2)
abbrev x3 : FVec Ideal S4096 .f32 := m ((c : Thread nD τ).loc main_arg3)

def res4 (A B C D : FVec Ideal S1x4096 .f32) : FVec Ideal S1x4096 .f32 := fun y => delta (A y) (B y) (C y) (D y)
def res5 (B C : FVec Ideal S1x4096 .f32) : FVec Ideal S1x4096 .f32 := fun y => mom1 (B y) (C y)
def res6 (B D : FVec Ideal S1x4096 .f32) : FVec Ideal S1x4096 .f32 := fun y => mom2 (B y) (D y)

theorem arr0 : (V m c main_v0 : FVec Ideal S1x4096 .f32) = Cert.RefAdamKvAdaBIdeal.Read.val_main_v0 (F := Ideal) (x0 m c) := by
  unfold V x0
  after_results
  rfl

theorem arr1 : (V m c main_v1 : FVec Ideal S1x4096 .f32) = Cert.RefAdamKvAdaBIdeal.Read.val_main_v1 (F := Ideal) (x1 m c) := by
  unfold V x1
  after_results
  rfl

theorem arr2 : (V m c main_v2 : FVec Ideal S1x4096 .f32) = Cert.RefAdamKvAdaBIdeal.Read.val_main_v2 (F := Ideal) (x2 m c) := by
  unfold V x2
  after_results
  rfl

theorem arr3 : (V m c main_v3 : FVec Ideal S1x4096 .f32) = Cert.RefAdamKvAdaBIdeal.Read.val_main_v3 (F := Ideal) (x3 m c) := by
  unfold V x3
  after_results
  rfl

theorem final4 : (dats m 0 c).arrAt 4 cfg0.N = res4 (Cert.RefAdamKvAdaBIdeal.Read.val_main_v0 (F := Ideal) (x0 m c)) (Cert.RefAdamKvAdaBIdeal.Read.val_main_v1 (F := Ideal) (x1 m c)) (Cert.RefAdamKvAdaBIdeal.Read.val_main_v2 (F := Ideal) (x2 m c)) (Cert.RefAdamKvAdaBIdeal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamKvAdaBIdeal.Read.val_main_v1 (F := Ideal) (x1 m c)) (Cert.RefAdamKvAdaBIdeal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamKvAdaBIdeal.Read.val_main_v1 (F := Ideal) (x1 m c)) (Cert.RefAdamKvAdaBIdeal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamKvAdaBIdeal.Read.val_main_v0 (F := Ideal) (x0 m c)) (Cert.RefAdamKvAdaBIdeal.Read.val_main_v1 (F := Ideal) (x1 m c)) (Cert.RefAdamKvAdaBIdeal.Read.val_main_v2 (F := Ideal) (x2 m c)) (Cert.RefAdamKvAdaBIdeal.Read.val_main_v3 (F := Ideal) (x3 m c))
      ∧ r.2.mem ((c.tc : Thread nD τ).loc main_v4_1) = res5 (Cert.RefAdamKvAdaBIdeal.Read.val_main_v1 (F := Ideal) (x1 m c)) (Cert.RefAdamKvAdaBIdeal.Read.val_main_v2 (F := Ideal) (x2 m c))
      ∧ r.2.mem ((c.tc : Thread nD τ).loc main_v4_2) = res6 (Cert.RefAdamKvAdaBIdeal.Read.val_main_v1 (F := Ideal) (x1 m c)) (Cert.RefAdamKvAdaBIdeal.Read.val_main_v3 (F := Ideal) (x3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamKvAdaBIdeal.Val

namespace Cert.RefAdamKvAdaBIdeal.Val

open Cert.RefAdamKvAdaBIdeal Cert.RefAdamKvAdaBIdeal.Gen Cert.RefAdamKvAdaBIdeal.Read Cert.Adam Idealize.ShloMosaic

variable (x0 x1 x2 x3 : FVec Ideal S4096 .f32)

theorem read4 : val_main_v27 (F := Ideal) x0 x1 x2 x3 = Cert.AdamKvAdaBIdeal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamKvAdaBIdeal.Val.res5 (val_main_v1 (F := Ideal) x1) (val_main_v2 (F := Ideal) x2) :=
  rfl

theorem read6 : val_main_v14 (F := Ideal) x1 x3 = Cert.AdamKvAdaBIdeal.Val.res6 (val_main_v1 (F := Ideal) x1) (val_main_v3 (F := Ideal) x3) :=
  rfl

end Cert.RefAdamKvAdaBIdeal.Val

namespace Cert.AdamKvAdaBIdeal.Val

open Idealize.ShloMosaic Idealize.SL.Sem

theorem frame_reference : Cert.quiescent_RefAdamKvAdaBIdeal := fun m ρ _ =>
  (θ_run Cert.RefAdamKvAdaBIdeal.defs _ _).mono (fun r h => ⟨fun c => (h c).2.2.2,
      Idealize.ShloMosaic.sem_eq_zero_of_no_sems (by decide) r.2⟩)
    (Cert.RefAdamKvAdaBIdeal.Value.run (F := Ideal) m ρ)

theorem algebraic : Cert.algebraic_AdamKvAdaBIdeal_RefAdamKvAdaBIdeal := by
  intro m g m' g' _ hargs
  refine ⟨fun c => _, fun c => _, fun c => _, run m g, (θ_run Cert.RefAdamKvAdaBIdeal.defs _ _).mono (fun r h c => ?_) (Cert.RefAdamKvAdaBIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamKvAdaBIdeal.Read.val_main_v27_eq, a0, a1, a2, a3]
    exact Cert.RefAdamKvAdaBIdeal.Val.read4 _ _ _ _
  · rw [Cert.RefAdamKvAdaBIdeal.Read.val_main_v8_eq, a1, a2]
    exact Cert.RefAdamKvAdaBIdeal.Val.read5 _ _
  · rw [Cert.RefAdamKvAdaBIdeal.Read.val_main_v14_eq, a1, a3]
    exact Cert.RefAdamKvAdaBIdeal.Val.read6 _ _

end Cert.AdamKvAdaBIdeal.Val
-- ==== Proof.AdamKNormGR.lean ====
module

public import proofs.«01_k».proof.Proof.Gen.AdamKNormGIdeal.Frame
public import proofs.«01_k».proof.Proof.Gen.RefAdamKNormGIdeal.Read
public import proofs.«01_k».proof.Proof.Gen.RefAdamKNormGIdeal.Run
public import proofs.«01_k».proof.Proof.Adam
public import proofs.«01_k».proof.Defs
public import Idealize.ShloMosaic.Lib.Quiescent

/-! # The optimiser's step of the gain of the keys' head norm -/

@[expose] public section

noncomputable section

set_option maxRecDepth 16384

namespace Cert.AdamKNormGIdeal.Val

open Cert.AdamKNormGIdeal Cert.AdamKNormGIdeal.Gen Cert.Mm Cert.Adam Idealize.ShloMosaic Idealize.ShloMosaic.TcCoe Idealize.SL.Sem

section Pay

variable (x0 x1 x2 x3 : Vec Ideal S1x128 .f32) (r : Fin 1) (d : Fin 128)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S1x128) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S1x128) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S1x128) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S128 .f32 := m ((c : Thread nD τ).loc main_arg0)
abbrev x1 : FVec Ideal S128 .f32 := m ((c : Thread nD τ).loc main_arg1)
abbrev x2 : FVec Ideal S128 .f32 := m ((c : Thread nD τ).loc main_arg2)
abbrev x3 : FVec Ideal S128 .f32 := m ((c : Thread nD τ).loc main_arg3)

def res4 (A B C D : FVec Ideal S1x128 .f32) : FVec Ideal S1x128 .f32 := fun y => delta (A y) (B y) (C y) (D y)
def res5 (B C : FVec Ideal S1x128 .f32) : FVec Ideal S1x128 .f32 := fun y => mom1 (B y) (C y)
def res6 (B D : FVec Ideal S1x128 .f32) : FVec Ideal S1x128 .f32 := fun y => mom2 (B y) (D y)

theorem arr0 : (V m c main_v0 : FVec Ideal S1x128 .f32) = Cert.RefAdamKNormGIdeal.Read.val_main_v0 (F := Ideal) (x0 m c) := by
  unfold V x0
  after_results
  rfl

theorem arr1 : (V m c main_v1 : FVec Ideal S1x128 .f32) = Cert.RefAdamKNormGIdeal.Read.val_main_v1 (F := Ideal) (x1 m c) := by
  unfold V x1
  after_results
  rfl

theorem arr2 : (V m c main_v2 : FVec Ideal S1x128 .f32) = Cert.RefAdamKNormGIdeal.Read.val_main_v2 (F := Ideal) (x2 m c) := by
  unfold V x2
  after_results
  rfl

theorem arr3 : (V m c main_v3 : FVec Ideal S1x128 .f32) = Cert.RefAdamKNormGIdeal.Read.val_main_v3 (F := Ideal) (x3 m c) := by
  unfold V x3
  after_results
  rfl

theorem final4 : (dats m 0 c).arrAt 4 cfg0.N = res4 (Cert.RefAdamKNormGIdeal.Read.val_main_v0 (F := Ideal) (x0 m c)) (Cert.RefAdamKNormGIdeal.Read.val_main_v1 (F := Ideal) (x1 m c)) (Cert.RefAdamKNormGIdeal.Read.val_main_v2 (F := Ideal) (x2 m c)) (Cert.RefAdamKNormGIdeal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamKNormGIdeal.Read.val_main_v1 (F := Ideal) (x1 m c)) (Cert.RefAdamKNormGIdeal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamKNormGIdeal.Read.val_main_v1 (F := Ideal) (x1 m c)) (Cert.RefAdamKNormGIdeal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamKNormGIdeal.Read.val_main_v0 (F := Ideal) (x0 m c)) (Cert.RefAdamKNormGIdeal.Read.val_main_v1 (F := Ideal) (x1 m c)) (Cert.RefAdamKNormGIdeal.Read.val_main_v2 (F := Ideal) (x2 m c)) (Cert.RefAdamKNormGIdeal.Read.val_main_v3 (F := Ideal) (x3 m c))
      ∧ r.2.mem ((c.tc : Thread nD τ).loc main_v4_1) = res5 (Cert.RefAdamKNormGIdeal.Read.val_main_v1 (F := Ideal) (x1 m c)) (Cert.RefAdamKNormGIdeal.Read.val_main_v2 (F := Ideal) (x2 m c))
      ∧ r.2.mem ((c.tc : Thread nD τ).loc main_v4_2) = res6 (Cert.RefAdamKNormGIdeal.Read.val_main_v1 (F := Ideal) (x1 m c)) (Cert.RefAdamKNormGIdeal.Read.val_main_v3 (F := Ideal) (x3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamKNormGIdeal.Val

namespace Cert.RefAdamKNormGIdeal.Val

open Cert.RefAdamKNormGIdeal Cert.RefAdamKNormGIdeal.Gen Cert.RefAdamKNormGIdeal.Read Cert.Adam Idealize.ShloMosaic

variable (x0 x1 x2 x3 : FVec Ideal S128 .f32)

theorem read4 : val_main_v27 (F := Ideal) x0 x1 x2 x3 = Cert.AdamKNormGIdeal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamKNormGIdeal.Val.res5 (val_main_v1 (F := Ideal) x1) (val_main_v2 (F := Ideal) x2) :=
  rfl

theorem read6 : val_main_v14 (F := Ideal) x1 x3 = Cert.AdamKNormGIdeal.Val.res6 (val_main_v1 (F := Ideal) x1) (val_main_v3 (F := Ideal) x3) :=
  rfl

end Cert.RefAdamKNormGIdeal.Val

namespace Cert.AdamKNormGIdeal.Val

open Idealize.ShloMosaic Idealize.SL.Sem

theorem frame_reference : Cert.quiescent_RefAdamKNormGIdeal := fun m ρ _ =>
  (θ_run Cert.RefAdamKNormGIdeal.defs _ _).mono (fun r h => ⟨fun c => (h c).2.2.2,
      Idealize.ShloMosaic.sem_eq_zero_of_no_sems (by decide) r.2⟩)
    (Cert.RefAdamKNormGIdeal.Value.run (F := Ideal) m ρ)

theorem algebraic : Cert.algebraic_AdamKNormGIdeal_RefAdamKNormGIdeal := by
  intro m g m' g' _ hargs
  refine ⟨fun c => _, fun c => _, fun c => _, run m g, (θ_run Cert.RefAdamKNormGIdeal.defs _ _).mono (fun r h c => ?_) (Cert.RefAdamKNormGIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamKNormGIdeal.Read.val_main_v27_eq, a0, a1, a2, a3]
    exact Cert.RefAdamKNormGIdeal.Val.read4 _ _ _ _
  · rw [Cert.RefAdamKNormGIdeal.Read.val_main_v8_eq, a1, a2]
    exact Cert.RefAdamKNormGIdeal.Val.read5 _ _
  · rw [Cert.RefAdamKNormGIdeal.Read.val_main_v14_eq, a1, a3]
    exact Cert.RefAdamKNormGIdeal.Val.read6 _ _

end Cert.AdamKNormGIdeal.Val
-- ==== Proof.AdamWfR.lean ====
module

public import proofs.«01_k».proof.Proof.Gen.AdamWfIdeal.Frame
public import proofs.«01_k».proof.Proof.Gen.RefAdamWfIdeal.Read
public import proofs.«01_k».proof.Proof.Gen.RefAdamWfIdeal.Run
public import proofs.«01_k».proof.Proof.Adam
public import proofs.«01_k».proof.Defs
public import Idealize.ShloMosaic.Lib.Quiescent

/-! # The optimiser's step of the forget gate's weight -/

@[expose] public section

noncomputable section

set_option maxRecDepth 16384

namespace Cert.AdamWfIdeal.Val

open Cert.AdamWfIdeal Cert.AdamWfIdeal.Gen Cert.Mm Cert.Adam Idealize.ShloMosaic Idealize.ShloMosaic.TcCoe Idealize.SL.Sem

section Pay

variable (x0 x1 x2 x3 : Vec Ideal S512x16 .f32) (r : Fin 512) (d : Fin 16)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S512x16) hz2]
  pointwise [k0_pay1, k0_pay2, k0_pay3, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S512x16) hz2]
  pointwise [k0_pay1, k0_pay2, k0_pay3, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S512x16) hz2]
  pointwise [k0_pay1, k0_pay2, k0_pay3, delta, mom1, mom2]

end Pay

variable (m : (ℓ : Loc nD τ sig) → Buf (Elt Ideal) ℓ) (ρ : Dev nD → PrngReg) (c : Dev nD)

/-- The arguments. -/
abbrev x0 : FVec Ideal S512x16 .f32 := m ((c : Thread nD τ).loc main_arg0)
abbrev x1 : FVec Ideal S512x16 .f32 := m ((c : Thread nD τ).loc main_arg1)
abbrev x2 : FVec Ideal S512x16 .f32 := m ((c : Thread nD τ).loc main_arg2)
abbrev x3 : FVec Ideal S512x16 .f32 := m ((c : Thread nD τ).loc main_arg3)

def res4 (A B C D : FVec Ideal S512x16 .f32) : FVec Ideal S512x16 .f32 := fun y => delta (A y) (B y) (C y) (D y)
def res5 (B C : FVec Ideal S512x16 .f32) : FVec Ideal S512x16 .f32 := fun y => mom1 (B y) (C y)
def res6 (B D : FVec Ideal S512x16 .f32) : FVec Ideal S512x16 .f32 := fun y => mom2 (B y) (D y)

theorem arr0 : (V m c main_arg0 : FVec Ideal S512x16 .f32) = x0 m c := by
  rfl

theorem arr1 : (V m c main_arg1 : FVec Ideal S512x16 .f32) = x1 m c := by
  rfl

theorem arr2 : (V m c main_arg2 : FVec Ideal S512x16 .f32) = x2 m c := by
  rfl

theorem arr3 : (V m c main_arg3 : FVec Ideal S512x16 .f32) = x3 m c := by
  rfl

theorem final4 : (dats m 0 c).arrAt 4 cfg0.N = res4 (x0 m c) (x1 m c) (x2 m c) (x3 m c) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (x1 m c) (x2 m c) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (x1 m c) (x3 m c) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v0_0) = res4 (x0 m c) (x1 m c) (x2 m c) (x3 m c)
      ∧ r.2.mem ((c.tc : Thread nD τ).loc main_v0_1) = res5 (x1 m c) (x2 m c)
      ∧ r.2.mem ((c.tc : Thread nD τ).loc main_v0_2) = res6 (x1 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamWfIdeal.Val

namespace Cert.RefAdamWfIdeal.Val

open Cert.RefAdamWfIdeal Cert.RefAdamWfIdeal.Gen Cert.RefAdamWfIdeal.Read Cert.Adam Idealize.ShloMosaic

variable (x0 x1 x2 x3 : FVec Ideal S512x16 .f32)

theorem read4 : val_main_v23 (F := Ideal) x0 x1 x2 x3 = Cert.AdamWfIdeal.Val.res4 (x0) (x1) (x2) (x3) :=
  rfl

theorem read5 : val_main_v4 (F := Ideal) x1 x2 = Cert.AdamWfIdeal.Val.res5 (x1) (x2) :=
  rfl

theorem read6 : val_main_v10 (F := Ideal) x1 x3 = Cert.AdamWfIdeal.Val.res6 (x1) (x3) :=
  rfl

end Cert.RefAdamWfIdeal.Val

namespace Cert.AdamWfIdeal.Val

open Idealize.ShloMosaic Idealize.SL.Sem

theorem frame_reference : Cert.quiescent_RefAdamWfIdeal := fun m ρ _ =>
  (θ_run Cert.RefAdamWfIdeal.defs _ _).mono (fun r h => ⟨fun c => (h c).2.2.2,
      Idealize.ShloMosaic.sem_eq_zero_of_no_sems (by decide) r.2⟩)
    (Cert.RefAdamWfIdeal.Value.run (F := Ideal) m ρ)

theorem algebraic : Cert.algebraic_AdamWfIdeal_RefAdamWfIdeal := by
  intro m g m' g' _ hargs
  refine ⟨fun c => _, fun c => _, fun c => _, run m g, (θ_run Cert.RefAdamWfIdeal.defs _ _).mono (fun r h c => ?_) (Cert.RefAdamWfIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamWfIdeal.Read.val_main_v23_eq, a0, a1, a2, a3]
    exact Cert.RefAdamWfIdeal.Val.read4 _ _ _ _
  · rw [Cert.RefAdamWfIdeal.Read.val_main_v4_eq, a1, a2]
    exact Cert.RefAdamWfIdeal.Val.read5 _ _
  · rw [Cert.RefAdamWfIdeal.Read.val_main_v10_eq, a1, a3]
    exact Cert.RefAdamWfIdeal.Val.read6 _ _

end Cert.AdamWfIdeal.Val
-- ==== Proof.AdamBfR.lean ====
module

public import proofs.«01_k».proof.Proof.Gen.AdamBfIdeal.Frame
public import proofs.«01_k».proof.Proof.Gen.RefAdamBfIdeal.Read
public import proofs.«01_k».proof.Proof.Gen.RefAdamBfIdeal.Run
public import proofs.«01_k».proof.Proof.Adam
public import proofs.«01_k».proof.Defs
public import Idealize.ShloMosaic.Lib.Quiescent

/-! # The optimiser's step of the forget gate's bias -/

@[expose] public section

noncomputable section

set_option maxRecDepth 16384

namespace Cert.AdamBfIdeal.Val

open Cert.AdamBfIdeal Cert.AdamBfIdeal.Gen Cert.Mm Cert.Adam Idealize.ShloMosaic Idealize.ShloMosaic.TcCoe Idealize.SL.Sem

section Pay

variable (x0 x1 x2 x3 : Vec Ideal S1x16 .f32) (r : Fin 1) (d : Fin 16)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S1x16) hz2]
  pointwise [k0_pay1, k0_pay2, k0_pay3, k0_pay4, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S1x16) hz2]
  pointwise [k0_pay1, k0_pay2, k0_pay3, k0_pay4, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S1x16) hz2]
  pointwise [k0_pay1, k0_pay2, k0_pay3, k0_pay4, delta, mom1, mom2]

end Pay

variable (m : (ℓ : Loc nD τ sig) → Buf (Elt Ideal) ℓ) (ρ : Dev nD → PrngReg) (c : Dev nD)

/-- The arguments. -/
abbrev x0 : FVec Ideal S16 .f32 := m ((c : Thread nD τ).loc main_arg0)
abbrev x1 : FVec Ideal S16 .f32 := m ((c : Thread nD τ).loc main_arg1)
abbrev x2 : FVec Ideal S16 .f32 := m ((c : Thread nD τ).loc main_arg2)
abbrev x3 : FVec Ideal S16 .f32 := m ((c : Thread nD τ).loc main_arg3)

def res4 (A B C D : FVec Ideal S1x16 .f32) : FVec Ideal S1x16 .f32 := fun y => delta (A y) (B y) (C y) (D y)
def res5 (B C : FVec Ideal S1x16 .f32) : FVec Ideal S1x16 .f32 := fun y => mom1 (B y) (C y)
def res6 (B D : FVec Ideal S1x16 .f32) : FVec Ideal S1x16 .f32 := fun y => mom2 (B y) (D y)

theorem arr0 : (V m c main_v0 : FVec Ideal S1x16 .f32) = Cert.RefAdamBfIdeal.Read.val_main_v0 (F := Ideal) (x0 m c) := by
  unfold V x0
  after_results
  rfl

theorem arr1 : (V m c main_v1 : FVec Ideal S1x16 .f32) = Cert.RefAdamBfIdeal.Read.val_main_v1 (F := Ideal) (x1 m c) := by
  unfold V x1
  after_results
  rfl

theorem arr2 : (V m c main_v2 : FVec Ideal S1x16 .f32) = Cert.RefAdamBfIdeal.Read.val_main_v2 (F := Ideal) (x2 m c) := by
  unfold V x2
  after_results
  rfl

theorem arr3 : (V m c main_v3 : FVec Ideal S1x16 .f32) = Cert.RefAdamBfIdeal.Read.val_main_v3 (F := Ideal) (x3 m c) := by
  unfold V x3
  after_results
  rfl

theorem final4 : (dats m 0 c).arrAt 4 cfg0.N = res4 (Cert.RefAdamBfIdeal.Read.val_main_v0 (F := Ideal) (x0 m c)) (Cert.RefAdamBfIdeal.Read.val_main_v1 (F := Ideal) (x1 m c)) (Cert.RefAdamBfIdeal.Read.val_main_v2 (F := Ideal) (x2 m c)) (Cert.RefAdamBfIdeal.Read.val_main_v3 (F := Ideal) (x3 m c)) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (Cert.RefAdamBfIdeal.Read.val_main_v1 (F := Ideal) (x1 m c)) (Cert.RefAdamBfIdeal.Read.val_main_v2 (F := Ideal) (x2 m c)) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (Cert.RefAdamBfIdeal.Read.val_main_v1 (F := Ideal) (x1 m c)) (Cert.RefAdamBfIdeal.Read.val_main_v3 (F := Ideal) (x3 m c)) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v4_0) = res4 (Cert.RefAdamBfIdeal.Read.val_main_v0 (F := Ideal) (x0 m c)) (Cert.RefAdamBfIdeal.Read.val_main_v1 (F := Ideal) (x1 m c)) (Cert.RefAdamBfIdeal.Read.val_main_v2 (F := Ideal) (x2 m c)) (Cert.RefAdamBfIdeal.Read.val_main_v3 (F := Ideal) (x3 m c))
      ∧ r.2.mem ((c.tc : Thread nD τ).loc main_v4_1) = res5 (Cert.RefAdamBfIdeal.Read.val_main_v1 (F := Ideal) (x1 m c)) (Cert.RefAdamBfIdeal.Read.val_main_v2 (F := Ideal) (x2 m c))
      ∧ r.2.mem ((c.tc : Thread nD τ).loc main_v4_2) = res6 (Cert.RefAdamBfIdeal.Read.val_main_v1 (F := Ideal) (x1 m c)) (Cert.RefAdamBfIdeal.Read.val_main_v3 (F := Ideal) (x3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamBfIdeal.Val

namespace Cert.RefAdamBfIdeal.Val

open Cert.RefAdamBfIdeal Cert.RefAdamBfIdeal.Gen Cert.RefAdamBfIdeal.Read Cert.Adam Idealize.ShloMosaic

variable (x0 x1 x2 x3 : FVec Ideal S16 .f32)

theorem read4 : val_main_v27 (F := Ideal) x0 x1 x2 x3 = Cert.AdamBfIdeal.Val.res4 (val_main_v0 (F := Ideal) x0) (val_main_v1 (F := Ideal) x1) (val_main_v2 (F := Ideal) x2) (val_main_v3 (F := Ideal) x3) :=
  rfl

theorem read5 : val_main_v8 (F := Ideal) x1 x2 = Cert.AdamBfIdeal.Val.res5 (val_main_v1 (F := Ideal) x1) (val_main_v2 (F := Ideal) x2) :=
  rfl

theorem read6 : val_main_v14 (F := Ideal) x1 x3 = Cert.AdamBfIdeal.Val.res6 (val_main_v1 (F := Ideal) x1) (val_main_v3 (F := Ideal) x3) :=
  rfl

end Cert.RefAdamBfIdeal.Val

namespace Cert.AdamBfIdeal.Val

open Idealize.ShloMosaic Idealize.SL.Sem

theorem frame_reference : Cert.quiescent_RefAdamBfIdeal := fun m ρ _ =>
  (θ_run Cert.RefAdamBfIdeal.defs _ _).mono (fun r h => ⟨fun c => (h c).2.2.2,
      Idealize.ShloMosaic.sem_eq_zero_of_no_sems (by decide) r.2⟩)
    (Cert.RefAdamBfIdeal.Value.run (F := Ideal) m ρ)

theorem algebraic : Cert.algebraic_AdamBfIdeal_RefAdamBfIdeal := by
  intro m g m' g' _ hargs
  refine ⟨fun c => _, fun c => _, fun c => _, run m g, (θ_run Cert.RefAdamBfIdeal.defs _ _).mono (fun r h c => ?_) (Cert.RefAdamBfIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamBfIdeal.Read.val_main_v27_eq, a0, a1, a2, a3]
    exact Cert.RefAdamBfIdeal.Val.read4 _ _ _ _
  · rw [Cert.RefAdamBfIdeal.Read.val_main_v8_eq, a1, a2]
    exact Cert.RefAdamBfIdeal.Val.read5 _ _
  · rw [Cert.RefAdamBfIdeal.Read.val_main_v14_eq, a1, a3]
    exact Cert.RefAdamBfIdeal.Val.read6 _ _

end Cert.AdamBfIdeal.Val
-- ==== Proof.AdamQNormGR.lean ====
module

public import proofs.«01_k».proof.Proof.Gen.AdamQNormGIdeal.Frame
public import proofs.«01_k».proof.Proof.Gen.RefAdamQNormGIdeal.Read
public import proofs.«01_k».proof.Proof.Gen.RefAdamQNormGIdeal.Run
public import proofs.«01_k».proof.Proof.Adam
public import proofs.«01_k».proof.Defs
public import Idealize.ShloMosaic.Lib.Quiescent

/-! # The optimiser's step of the gain of the queries' head norm -/

@[expose] public section

noncomputable section

set_option maxRecDepth 16384

namespace Cert.AdamQNormGIdeal.Val

open Cert.AdamQNormGIdeal Cert.AdamQNormGIdeal.Gen Cert.Mm Cert.Adam Idealize.ShloMosaic Idealize.ShloMosaic.TcCoe Idealize.SL.Sem

section Pay

variable (x0 x1 x2 x3 : Vec Ideal S2x128 .f32) (r : Fin 2) (d : Fin 128)

theorem out4_apply : out0_4 x0 x1 x2 x3 (ix2 r d) = delta (x0 (ix2 r d)) (x1 (ix2 r d)) (x2 (ix2 r d)) (x3 (ix2 r d)) := by
  unfold out0_4
  rw [View.canon_unit_zero hz2]
  simp only [View.ld_unit_zero (S := S2x128) hz2]
  pointwise [k0_pay1, k0_pay2, k0_pay3, delta, mom1, mom2]

theorem out5_apply : out0_5 x0 x1 x2 x3 (ix2 r d) = mom1 (x1 (ix2 r d)) (x2 (ix2 r d)) := by
  unfold out0_5
  rw [View.canon_unit_zero hz2]
  simp only [View.ld_unit_zero (S := S2x128) hz2]
  pointwise [k0_pay1, k0_pay2, k0_pay3, delta, mom1, mom2]

theorem out6_apply : out0_6 x0 x1 x2 x3 (ix2 r d) = mom2 (x1 (ix2 r d)) (x3 (ix2 r d)) := by
  unfold out0_6
  rw [View.canon_unit_zero hz2]
  simp only [View.ld_unit_zero (S := S2x128) hz2]
  pointwise [k0_pay1, k0_pay2, k0_pay3, delta, mom1, mom2]

end Pay

variable (m : (ℓ : Loc nD τ sig) → Buf (Elt Ideal) ℓ) (ρ : Dev nD → PrngReg) (c : Dev nD)

/-- The arguments. -/
abbrev x0 : FVec Ideal S2x128 .f32 := m ((c : Thread nD τ).loc main_arg0)
abbrev x1 : FVec Ideal S2x128 .f32 := m ((c : Thread nD τ).loc main_arg1)
abbrev x2 : FVec Ideal S2x128 .f32 := m ((c : Thread nD τ).loc main_arg2)
abbrev x3 : FVec Ideal S2x128 .f32 := m ((c : Thread nD τ).loc main_arg3)

def res4 (A B C D : FVec Ideal S2x128 .f32) : FVec Ideal S2x128 .f32 := fun y => delta (A y) (B y) (C y) (D y)
def res5 (B C : FVec Ideal S2x128 .f32) : FVec Ideal S2x128 .f32 := fun y => mom1 (B y) (C y)
def res6 (B D : FVec Ideal S2x128 .f32) : FVec Ideal S2x128 .f32 := fun y => mom2 (B y) (D y)

theorem arr0 : (V m c main_arg0 : FVec Ideal S2x128 .f32) = x0 m c := by
  rfl

theorem arr1 : (V m c main_arg1 : FVec Ideal S2x128 .f32) = x1 m c := by
  rfl

theorem arr2 : (V m c main_arg2 : FVec Ideal S2x128 .f32) = x2 m c := by
  rfl

theorem arr3 : (V m c main_arg3 : FVec Ideal S2x128 .f32) = x3 m c := by
  rfl

theorem final4 : (dats m 0 c).arrAt 4 cfg0.N = res4 (x0 m c) (x1 m c) (x2 m c) (x3 m c) := by
  rw [← arr0 m c, ← arr1 m c, ← arr2 m c, ← arr3 m c]
  refine (dats m 0 c).arrAt_eq_of_covers 4 _ (by decide +kernel) fun t ht y => ?_
  blk_simp
  rw [after0_4]
  idx_vars y
  exact out4_apply _ _ _ _ _ _

theorem final5 : (dats m 0 c).arrAt 5 cfg0.N = res5 (x1 m c) (x2 m c) := by
  rw [← arr1 m c, ← arr2 m c]
  refine (dats m 0 c).arrAt_eq_of_covers 5 _ (by decide +kernel) fun t ht y => ?_
  blk_simp
  rw [after0_5]
  idx_vars y
  exact out5_apply _ _ _ _ _ _

theorem final6 : (dats m 0 c).arrAt 6 cfg0.N = res6 (x1 m c) (x3 m c) := by
  rw [← arr1 m c, ← arr3 m c]
  refine (dats m 0 c).arrAt_eq_of_covers 6 _ (by decide +kernel) fun t ht y => ?_
  blk_simp
  rw [after0_6]
  idx_vars y
  exact out6_apply _ _ _ _ _ _

/-- Every run ends with the results and the arguments unchanged. -/
theorem run : θ_run defs (onTc (τ := τ) (main (F := Ideal))) ⟨m, fun _ => 0, ρ⟩ (fun r => ∀ c : Dev nD,
      r.2.mem ((c.tc : Thread nD τ).loc main_v0_0) = res4 (x0 m c) (x1 m c) (x2 m c) (x3 m c)
      ∧ r.2.mem ((c.tc : Thread nD τ).loc main_v0_1) = res5 (x1 m c) (x2 m c)
      ∧ r.2.mem ((c.tc : Thread nD τ).loc main_v0_2) = res6 (x1 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c), ((h.1 c).1 6).trans (final6 m c), h.2 c⟩) (θ_run_and (run_main m ρ) (unchanged m ρ))

end Cert.AdamQNormGIdeal.Val

namespace Cert.RefAdamQNormGIdeal.Val

open Cert.RefAdamQNormGIdeal Cert.RefAdamQNormGIdeal.Gen Cert.RefAdamQNormGIdeal.Read Cert.Adam Idealize.ShloMosaic

variable (x0 x1 x2 x3 : FVec Ideal S2x128 .f32)

theorem read4 : val_main_v23 (F := Ideal) x0 x1 x2 x3 = Cert.AdamQNormGIdeal.Val.res4 (x0) (x1) (x2) (x3) :=
  rfl

theorem read5 : val_main_v4 (F := Ideal) x1 x2 = Cert.AdamQNormGIdeal.Val.res5 (x1) (x2) :=
  rfl

theorem read6 : val_main_v10 (F := Ideal) x1 x3 = Cert.AdamQNormGIdeal.Val.res6 (x1) (x3) :=
  rfl

end Cert.RefAdamQNormGIdeal.Val

namespace Cert.AdamQNormGIdeal.Val

open Idealize.ShloMosaic Idealize.SL.Sem

theorem frame_reference : Cert.quiescent_RefAdamQNormGIdeal := fun m ρ _ =>
  (θ_run Cert.RefAdamQNormGIdeal.defs _ _).mono (fun r h => ⟨fun c => (h c).2.2.2,
      Idealize.ShloMosaic.sem_eq_zero_of_no_sems (by decide) r.2⟩)
    (Cert.RefAdamQNormGIdeal.Value.run (F := Ideal) m ρ)

theorem algebraic : Cert.algebraic_AdamQNormGIdeal_RefAdamQNormGIdeal := by
  intro m g m' g' _ hargs
  refine ⟨fun c => _, fun c => _, fun c => _, run m g, (θ_run Cert.RefAdamQNormGIdeal.defs _ _).mono (fun r h c => ?_) (Cert.RefAdamQNormGIdeal.Value.run (F := Ideal) m' g')⟩
  obtain ⟨a0, a1, a2, a3⟩ := hargs c
  refine ⟨(h c).1.trans ?_, (h c).2.1.trans ?_, (h c).2.2.1.trans ?_, (h c).2.2.2⟩
  · rw [Cert.RefAdamQNormGIdeal.Read.val_main_v23_eq, a0, a1, a2, a3]
    exact Cert.RefAdamQNormGIdeal.Val.read4 _ _ _ _
  · rw [Cert.RefAdamQNormGIdeal.Read.val_main_v4_eq, a1, a2]
    exact Cert.RefAdamQNormGIdeal.Val.read5 _ _
  · rw [Cert.RefAdamQNormGIdeal.Read.val_main_v10_eq, a1, a3]
    exact Cert.RefAdamQNormGIdeal.Val.read6 _ _

end Cert.AdamQNormGIdeal.Val
-- ==== Proof.AdamAdaR.lean ====
module

public import proofs.«01_k».proof.Proof.Gen.AdamAdaIdeal.Frame
public import proofs.«01_k».proof.Proof.Gen.RefAdamAdaIdeal.Read
public import proofs.«01_k».proof.Proof.Gen.RefAdamAdaIdeal.Run
public import proofs.«01_k».proof.Proof.Adam
public import proofs.«01_k».proof.Defs
public import Idealize.ShloMosaic.Lib.Quiescent

/-! # The optimiser's step of the modulations' weights, with the gradient as an outer product -/

@[expose] public section

noncomputable section

set_option maxRecDepth 16384

namespace Cert.AdamAdaIdeal.Val

open Cert.AdamAdaIdeal Cert.AdamAdaIdeal.Gen Cert.Mm Cert.Adam Idealize.ShloMosaic Idealize.ShloMosaic.TcCoe Idealize.SL.Sem

section Pay

variable (x0 : Vec Ideal S1x256x3072 .f32) (x1 : Vec Ideal S256x8 .f32) (x2 : Vec Ideal S1x8x3072 .f32) (x3 x4 : Vec Ideal S1x256x3072 .f32)
  (r : Fin 256) (d : Fin 3072)

theorem out5_apply : out0_5 x0 x1 x2 x3 x4 (ix3 0 r d)
    = (∑ k : Fin 8, x1 (ix2 r k) * x2 (ix3 0 k d)) := by
  unfold out0_5
  rw [View.canon_unit_zero hz3]
  simp only [View.ld_unit_zero (S := S1x256x3072) hz3, View.ld_unit_zero (S := S1x8x3072) hz3, View.ld_unit_zero (S := S256x8) hz2]
  pointwise [k0_pay1, k0_pay2, k0_pay3, k0_pay4, k0_pay5, k0_pay6, k0_pay7, k0_pay8, k0_pay9, delta, mom1, mom2]

theorem out6_apply : out0_6 x0 x1 x2 x3 x4 (ix3 0 r d)
    = delta (x0 (ix3 0 r d)) (∑ k : Fin 8, x1 (ix2 r k) * x2 (ix3 0 k d)) (x3 (ix3 0 r d)) (x4 (ix3 0 r d)) := by
  unfold out0_6
  rw [View.canon_unit_zero hz3]
  simp only [View.ld_unit_zero (S := S1x256x3072) hz3, View.ld_unit_zero (S := S1x8x3072) hz3, View.ld_unit_zero (S := S256x8) hz2]
  pointwise [k0_pay1, k0_pay2, k0_pay3, k0_pay4, k0_pay5, k0_pay6, k0_pay7, k0_pay8, k0_pay9, delta, mom1, mom2]

theorem out7_apply : out0_7 x0 x1 x2 x3 x4 (ix3 0 r d)
    = mom1 (∑ k : Fin 8, x1 (ix2 r k) * x2 (ix3 0 k d)) (x3 (ix3 0 r d)) := by
  unfold out0_7
  rw [View.canon_unit_zero hz3]
  simp only [View.ld_unit_zero (S := S1x256x3072) hz3, View.ld_unit_zero (S := S1x8x3072) hz3, View.ld_unit_zero (S := S256x8) hz2]
  pointwise [k0_pay1, k0_pay2, k0_pay3, k0_pay4, k0_pay5, k0_pay6, k0_pay7, k0_pay8, k0_pay9, delta, mom1, mom2]

theorem out8_apply : out0_8 x0 x1 x2 x3 x4 (ix3 0 r d)
    = mom2 (∑ k : Fin 8, x1 (ix2 r k) * x2 (ix3 0 k d)) (x4 (ix3 0 r d)) := by
  unfold out0_8
  rw [View.canon_unit_zero hz3]
  simp only [View.ld_unit_zero (S := S1x256x3072) hz3, View.ld_unit_zero (S := S1x8x3072) hz3, View.ld_unit_zero (S := S256x8) hz2]
  pointwise [k0_pay1, k0_pay2, k0_pay3, k0_pay4, k0_pay5, k0_pay6, k0_pay7, k0_pay8, k0_pay9, delta, mom1, mom2]

end Pay

theorem idx : ∀ t : Fin cfg0.N, win0_0.index t = ![t.val / 8, t.val % 8, 0]
    ∧ win0_1.index t = ![t.val % 8, 0]
    ∧ win0_2.index t = ![t.val / 8, 0, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]
    ∧ win0_8.index t = ![t.val / 8, t.val % 8, 0] ∧ t.val < 32 :=
  (by decide +kernel : ∀ t : Fin grid0.N, _)

/-- The gradient: for each layer the sum over the examples of the outer products. -/
def outer (s : FVec Ideal S8x2048 .f32) (d : FVec Ideal S4x8x3072 .f32) : FVec Ideal S4x2048x3072 .f32 :=
  fun y => ∑ k : Fin 8, s (ix2 k (y 1)) * d (ix3 (y 0) k (y 2))

variable (m : (ℓ : Loc nD τ sig) → Buf (Elt Ideal) ℓ) (ρ : Dev nD → PrngReg) (c : Dev nD)

/-- The arguments. -/
abbrev x0 : FVec Ideal S4x2048x3072 .f32 := m ((c : Thread nD τ).loc main_arg0)
abbrev x1 : FVec Ideal S8x2048 .f32 := m ((c : Thread nD τ).loc main_arg1)
abbrev x2 : FVec Ideal S4x8x3072 .f32 := m ((c : Thread nD τ).loc main_arg2)
abbrev x3 : FVec Ideal S4x2048x3072 .f32 := m ((c : Thread nD τ).loc main_arg3)
abbrev x4 : FVec Ideal S4x2048x3072 .f32 := m ((c : Thread nD τ).loc main_arg4)

theorem arr1 (i : Fin 2048) (k : Fin 8) : (V m c main_v0 : FVec Ideal S2048x8 .f32) (ix2 i k) = x1 m c (ix2 k i) := by
  unfold V
  after_reads_at

theorem rd1 (t : Fin cfg0.N) (r : Fin 256) (k : Fin 8) :
    iblk m c 1 t (ix2 r k) = x1 m c (ix2 k ⟨256 * (t.val % 8) + r.val, by omega⟩) := by
  refine Eq.trans ?_ (arr1 m c _ k)
  blk_ext [iblk, idx t]

theorem rd2 (t : Fin cfg0.N) (k : Fin 8) (d : Fin 3072) :
    iblk m c 2 t (ix3 0 k d) = x2 m c (ix3 ⟨t.val / 8, by have ht := (idx t).2.2.2.2.2.2.2.2.2; omega⟩ k d) := by
  refine Eq.trans ?_ (congrFun (V_main_arg2 m c) _)
  blk_ext [iblk, idx t]

theorem sum_apply (t : Fin cfg0.N) {b1 : Vec Ideal S256x8 .f32} {b2 : Vec Ideal S1x8x3072 .f32}
    (e1 : b1 = iblk m c 1 t) (e2 : b2 = iblk m c 2 t) (r : Fin 256) (d : Fin 3072) (z : S4x2048x3072.Idx)
    (h0 : (z 0).val = t.val / 8) (h1 : (z 1).val = 256 * (t.val % 8) + r.val) (h2 : (z 2).val = d.val) :
    (∑ k : Fin 8, b1 (ix2 r k) * b2 (ix3 0 k d)) = outer (x1 m c) (x2 m c) z := by
  unfold outer
  refine Finset.sum_congr rfl fun k _ => ?_
  rw [e1, e2, rd1, rd2]
  rw [show (⟨256 * (t.val % 8) + r.val, by omega⟩ : Fin 2048) = z 1 from Fin.ext h1.symm,
    show (⟨t.val / 8, by have ht := (idx t).2.2.2.2.2.2.2.2.2; omega⟩ : Fin 4) = z 0 from Fin.ext h0.symm,
    show d = z 2 from Fin.ext h2.symm]

def res5 (s : FVec Ideal S8x2048 .f32) (d : FVec Ideal S4x8x3072 .f32) : FVec Ideal S4x2048x3072 .f32 := outer s d
def res6 (s : FVec Ideal S8x2048 .f32) (d : FVec Ideal S4x8x3072 .f32) (A B D : FVec Ideal S4x2048x3072 .f32) : FVec Ideal S4x2048x3072 .f32 := fun y => delta (A y) (outer s d y) (B y) (D y)
def res7 (s : FVec Ideal S8x2048 .f32) (d : FVec Ideal S4x8x3072 .f32) (B : FVec Ideal S4x2048x3072 .f32) : FVec Ideal S4x2048x3072 .f32 := fun y => mom1 (outer s d y) (B y)
def res8 (s : FVec Ideal S8x2048 .f32) (d : FVec Ideal S4x8x3072 .f32) (D : FVec Ideal S4x2048x3072 .f32) : FVec Ideal S4x2048x3072 .f32 := fun y => mom2 (outer s d y) (D y)

theorem final5 : (dats m 0 c).arrAt 5 cfg0.N = res5 (x1 m c) (x2 m c) := by
  refine (dats m 0 c).arrAt_eq_of_covers 5 _ (by decide +kernel) fun t ht y => ?_
  blk_simp
  rw [after0_5]
  idx_vars y
  obtain rfl : y0 = 0 := Subsingleton.elim _ _
  rw [out5_apply, sum_apply m c t rfl rfl y1 y2 (((cfg0.win 5).blk t).view.emb (ix3 0 y1 y2))
    (by blk_simp [idx t] <;> rfl) (by blk_simp [idx t]; omega) (by blk_simp [idx t])]
  rfl

theorem final6 : (dats m 0 c).arrAt 6 cfg0.N = res6 (x1 m c) (x2 m c) (x0 m c) (x3 m c) (x4 m c) := by
  refine (dats m 0 c).arrAt_eq_of_covers 6 _ (by decide +kernel) fun t ht y => ?_
  blk_simp
  rw [after0_6]
  idx_vars y
  obtain rfl : y0 = 0 := Subsingleton.elim _ _
  rw [out6_apply, sum_apply m c t rfl rfl y1 y2 (((cfg0.win 6).blk t).view.emb (ix3 0 y1 y2))
    (by blk_simp [idx t] <;> rfl) (by blk_simp [idx t]; omega) (by blk_simp [idx t])]
  unfold res6
  have e0 : iblk m c 0 t (ix3 0 y1 y2) = x0 m c (((cfg0.win 6).blk t).view.emb (ix3 0 y1 y2)) :=
    congrFun (V_main_arg0 m c) _
  have e3 : iblk m c 3 t (ix3 0 y1 y2) = x3 m c (((cfg0.win 6).blk t).view.emb (ix3 0 y1 y2)) :=
    congrFun (V_main_arg3 m c) _
  have e4 : iblk m c 4 t (ix3 0 y1 y2) = x4 m c (((cfg0.win 6).blk t).view.emb (ix3 0 y1 y2)) :=
    congrFun (V_main_arg4 m c) _
  rw [e0, e3, e4]

theorem final7 : (dats m 0 c).arrAt 7 cfg0.N = res7 (x1 m c) (x2 m c) (x3 m c) := by
  refine (dats m 0 c).arrAt_eq_of_covers 7 _ (by decide +kernel) fun t ht y => ?_
  blk_simp
  rw [after0_7]
  idx_vars y
  obtain rfl : y0 = 0 := Subsingleton.elim _ _
  rw [out7_apply, sum_apply m c t rfl rfl y1 y2 (((cfg0.win 7).blk t).view.emb (ix3 0 y1 y2))
    (by blk_simp [idx t] <;> rfl) (by blk_simp [idx t]; omega) (by blk_simp [idx t])]
  unfold res7
  have e3 : iblk m c 3 t (ix3 0 y1 y2) = x3 m c (((cfg0.win 7).blk t).view.emb (ix3 0 y1 y2)) :=
    congrFun (V_main_arg3 m c) _
  rw [e3]

theorem final8 : (dats m 0 c).arrAt 8 cfg0.N = res8 (x1 m c) (x2 m c) (x4 m c) := by
  refine (dats m 0 c).arrAt_eq_of_covers 8 _ (by decide +kernel) fun t ht y => ?_
  blk_simp
  rw [after0_8]
  idx_vars y
  obtain rfl : y0 = 0 := Subsingleton.elim _ _
  rw [out8_apply, sum_apply m c t rfl rfl y1 y2 (((cfg0.win 8).blk t).view.emb (ix3 0 y1 y2))
    (by blk_simp [idx t] <;> rfl) (by blk_simp [idx t]; omega) (by blk_simp [idx t])]
  unfold res8
  have e4 : iblk m c 4 t (ix3 0 y1 y2) = x4 m c (((cfg0.win 8).blk t).view.emb (ix3 0 y1 y2)) :=
    congrFun (V_main_arg4 m c) _
  rw [e4]

/-- Every run ends with the results and the arguments unchanged. -/
theorem run : θ_run defs (onTc (τ := τ) (main (F := Ideal))) ⟨m, fun _ => 0, ρ⟩ (fun r => ∀ c : Dev nD,
      r.2.mem ((c.tc : Thread nD τ).loc main_v1_0) = res5 (x1 m c) (x2 m c)
      ∧ r.2.mem ((c.tc : Thread nD τ).loc main_v1_1) = res6 (x1 m c) (x2 m c) (x0 m c) (x3 m c) (x4 m c)
      ∧ r.2.mem ((c.tc : Thread nD τ).loc main_v1_2) = res7 (x1 m c) (x2 m c) (x3 m c)
      ∧ r.2.mem ((c.tc : Thread nD τ).loc main_v1_3) = res8 (x1 m c) (x2 m c) (x4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), ((h.1 c).1 7).trans (final7 m c), ((h.1 c).1 8).trans (final8 m c), h.2 c⟩) (θ_run_and (run_main m ρ) (unchanged m ρ))

end Cert.AdamAdaIdeal.Val

namespace Cert.RefAdamAdaIdeal.Val

open Cert.RefAdamAdaIdeal Cert.RefAdamAdaIdeal.Gen Cert.RefAdamAdaIdeal.Read Cert.Adam Idealize.ShloMosaic

variable (x0 : FVec Ideal S4x2048x3072 .f32) (x1 : FVec Ideal S8x2048 .f32) (x2 : FVec Ideal S4x8x3072 .f32) (x3 x4 : FVec Ideal S4x2048x3072 .f32)

theorem read5 : val_main_v5 (F := Ideal) x1 x2 = Cert.AdamAdaIdeal.Val.outer x1 x2 := by
  funext y
  idx_vars y
  refine Eq.trans (b := ∑ k : Fin 8, x2 (ix3 y0 k y2) * x1 (ix2 k y1)) (by pointwise [val_main_v5, val_main_v4, val_main_v3]) ?_
  exact Finset.sum_congr rfl fun k _ => mul_comm _ _

theorem read6 : val_main_v29 (F := Ideal) x0 x1 x2 x3 x4 = Cert.AdamAdaIdeal.Val.res6 x1 x2 x0 x3 x4 := by
  unfold Cert.AdamAdaIdeal.Val.res6
  rw [← read5]
  rfl

theorem read7 : val_main_v10 (F := Ideal) x1 x2 x3 = Cert.AdamAdaIdeal.Val.res7 x1 x2 x3 := by
  unfold Cert.AdamAdaIdeal.Val.res7
  rw [← read5]
  rfl

theorem read8 : val_main_v16 (F := Ideal) x1 x2 x4 = Cert.AdamAdaIdeal.Val.res8 x1 x2 x4 := by
  unfold Cert.AdamAdaIdeal.Val.res8
  rw [← read5]
  rfl

end Cert.RefAdamAdaIdeal.Val

namespace Cert.AdamAdaIdeal.Val

open Idealize.ShloMosaic Idealize.SL.Sem

theorem frame_reference : Cert.quiescent_RefAdamAdaIdeal := fun m ρ _ =>
  (θ_run Cert.RefAdamAdaIdeal.defs _ _).mono (fun r h => ⟨fun c => (h c).2.2.2.2,
      Idealize.ShloMosaic.sem_eq_zero_of_no_sems (by decide) r.2⟩)
    (Cert.RefAdamAdaIdeal.Value.run (F := Ideal) m ρ)

theorem algebraic : Cert.algebraic_AdamAdaIdeal_RefAdamAdaIdeal := by
  intro m g m' g' _ hargs
  refine ⟨fun c => _, fun c => _, fun c => _, fun c => _, run m g, (θ_run Cert.RefAdamAdaIdeal.defs _ _).mono (fun r h c => ?_) (Cert.RefAdamAdaIdeal.Value.run (F := Ideal) m' g')⟩
  obtain ⟨a0, a1, a2, a3, a4⟩ := hargs c
  refine ⟨(h c).1.trans ?_, (h c).2.1.trans ?_, (h c).2.2.1.trans ?_, (h c).2.2.2.1.trans ?_, (h c).2.2.2.2⟩
  · rw [Cert.RefAdamAdaIdeal.Read.val_main_v5_eq, a1, a2]
    exact Cert.RefAdamAdaIdeal.Val.read5 _ _
  · rw [Cert.RefAdamAdaIdeal.Read.val_main_v29_eq, a0, a1, a2, a3, a4]
    exact Cert.RefAdamAdaIdeal.Val.read6 _ _ _ _ _
  · rw [Cert.RefAdamAdaIdeal.Read.val_main_v10_eq, a1, a2, a3]
    exact Cert.RefAdamAdaIdeal.Val.read7 _ _ _
  · rw [Cert.RefAdamAdaIdeal.Read.val_main_v16_eq, a1, a2, a4]
    exact Cert.RefAdamAdaIdeal.Val.read8 _ _ _

end Cert.AdamAdaIdeal.Val
-- ==== Proof.AdamKvAdaR.lean ====
module

public import proofs.«01_k».proof.Proof.Gen.AdamKvAdaIdeal.Frame
public import proofs.«01_k».proof.Proof.Gen.RefAdamKvAdaIdeal.Read
public import proofs.«01_k».proof.Proof.Gen.RefAdamKvAdaIdeal.Run
public import proofs.«01_k».proof.Proof.Adam
public import proofs.«01_k».proof.Defs
public import Idealize.ShloMosaic.Lib.Quiescent

/-! # The optimiser's step of the weight of the keys' and values' modulation, with the gradient as an outer product -/

@[expose] public section

noncomputable section

set_option maxRecDepth 16384

namespace Cert.AdamKvAdaIdeal.Val

open Cert.AdamKvAdaIdeal Cert.AdamKvAdaIdeal.Gen Cert.Mm Cert.Adam Idealize.ShloMosaic Idealize.ShloMosaic.TcCoe Idealize.SL.Sem

section Pay

variable (x0 : Vec Ideal S1x256x1024 .f32) (x1 : Vec Ideal S256x8 .f32) (x2 : Vec Ideal S1x8x1024 .f32) (x3 x4 : Vec Ideal S1x256x1024 .f32)
  (r : Fin 256) (d : Fin 1024)

theorem out5_apply : out0_5 x0 x1 x2 x3 x4 (ix3 0 r d)
    = (∑ k : Fin 8, x1 (ix2 r k) * x2 (ix3 0 k d)) := by
  unfold out0_5
  rw [View.canon_unit_zero hz3]
  simp only [View.ld_unit_zero (S := S1x256x1024) hz3, View.ld_unit_zero (S := S1x8x1024) hz3, View.ld_unit_zero (S := S256x8) hz2]
  pointwise [k0_pay1, k0_pay2, k0_pay3, k0_pay4, k0_pay5, k0_pay6, k0_pay7, k0_pay8, k0_pay9, delta, mom1, mom2]

theorem out6_apply : out0_6 x0 x1 x2 x3 x4 (ix3 0 r d)
    = delta (x0 (ix3 0 r d)) (∑ k : Fin 8, x1 (ix2 r k) * x2 (ix3 0 k d)) (x3 (ix3 0 r d)) (x4 (ix3 0 r d)) := by
  unfold out0_6
  rw [View.canon_unit_zero hz3]
  simp only [View.ld_unit_zero (S := S1x256x1024) hz3, View.ld_unit_zero (S := S1x8x1024) hz3, View.ld_unit_zero (S := S256x8) hz2]
  pointwise [k0_pay1, k0_pay2, k0_pay3, k0_pay4, k0_pay5, k0_pay6, k0_pay7, k0_pay8, k0_pay9, delta, mom1, mom2]

theorem out7_apply : out0_7 x0 x1 x2 x3 x4 (ix3 0 r d)
    = mom1 (∑ k : Fin 8, x1 (ix2 r k) * x2 (ix3 0 k d)) (x3 (ix3 0 r d)) := by
  unfold out0_7
  rw [View.canon_unit_zero hz3]
  simp only [View.ld_unit_zero (S := S1x256x1024) hz3, View.ld_unit_zero (S := S1x8x1024) hz3, View.ld_unit_zero (S := S256x8) hz2]
  pointwise [k0_pay1, k0_pay2, k0_pay3, k0_pay4, k0_pay5, k0_pay6, k0_pay7, k0_pay8, k0_pay9, delta, mom1, mom2]

theorem out8_apply : out0_8 x0 x1 x2 x3 x4 (ix3 0 r d)
    = mom2 (∑ k : Fin 8, x1 (ix2 r k) * x2 (ix3 0 k d)) (x4 (ix3 0 r d)) := by
  unfold out0_8
  rw [View.canon_unit_zero hz3]
  simp only [View.ld_unit_zero (S := S1x256x1024) hz3, View.ld_unit_zero (S := S1x8x1024) hz3, View.ld_unit_zero (S := S256x8) hz2]
  pointwise [k0_pay1, k0_pay2, k0_pay3, k0_pay4, k0_pay5, k0_pay6, k0_pay7, k0_pay8, k0_pay9, delta, mom1, mom2]

end Pay

theorem idx : ∀ t : Fin cfg0.N, win0_0.index t = ![0, t.val % 8, 0]
    ∧ win0_1.index t = ![t.val % 8, 0]
    ∧ win0_2.index t = ![0, 0, 0]
    ∧ win0_3.index t = ![0, t.val % 8, 0]
    ∧ win0_4.index t = ![0, t.val % 8, 0]
    ∧ win0_5.index t = ![0, t.val % 8, 0]
    ∧ win0_6.index t = ![0, t.val % 8, 0]
    ∧ win0_7.index t = ![0, t.val % 8, 0]
    ∧ win0_8.index t = ![0, t.val % 8, 0] ∧ t.val < 8 :=
  (by decide +kernel : ∀ t : Fin grid0.N, _)

/-- The gradient: for each layer the sum over the examples of the outer products. -/
def outer (s : FVec Ideal S8x2048 .f32) (d : FVec Ideal S1x8x1024 .f32) : FVec Ideal S1x2048x1024 .f32 :=
  fun y => ∑ k : Fin 8, s (ix2 k (y 1)) * d (ix3 (y 0) k (y 2))

variable (m : (ℓ : Loc nD τ sig) → Buf (Elt Ideal) ℓ) (ρ : Dev nD → PrngReg) (c : Dev nD)

/-- The arguments. -/
abbrev x0 : FVec Ideal S1x2048x1024 .f32 := m ((c : Thread nD τ).loc main_arg0)
abbrev x1 : FVec Ideal S8x2048 .f32 := m ((c : Thread nD τ).loc main_arg1)
abbrev x2 : FVec Ideal S1x8x1024 .f32 := m ((c : Thread nD τ).loc main_arg2)
abbrev x3 : FVec Ideal S1x2048x1024 .f32 := m ((c : Thread nD τ).loc main_arg3)
abbrev x4 : FVec Ideal S1x2048x1024 .f32 := m ((c : Thread nD τ).loc main_arg4)

theorem arr1 (i : Fin 2048) (k : Fin 8) : (V m c main_v0 : FVec Ideal S2048x8 .f32) (ix2 i k) = x1 m c (ix2 k i) := by
  unfold V
  after_reads_at

theorem rd1 (t : Fin cfg0.N) (r : Fin 256) (k : Fin 8) :
    iblk m c 1 t (ix2 r k) = x1 m c (ix2 k ⟨256 * (t.val % 8) + r.val, by omega⟩) := by
  refine Eq.trans ?_ (arr1 m c _ k)
  blk_ext [iblk, idx t]

theorem rd2 (t : Fin cfg0.N) (k : Fin 8) (d : Fin 1024) :
    iblk m c 2 t (ix3 0 k d) = x2 m c (ix3 ⟨0, by have ht := (idx t).2.2.2.2.2.2.2.2.2; omega⟩ k d) := by
  refine Eq.trans ?_ (congrFun (V_main_arg2 m c) _)
  blk_ext [iblk, idx t]

theorem sum_apply (t : Fin cfg0.N) {b1 : Vec Ideal S256x8 .f32} {b2 : Vec Ideal S1x8x1024 .f32}
    (e1 : b1 = iblk m c 1 t) (e2 : b2 = iblk m c 2 t) (r : Fin 256) (d : Fin 1024) (z : S1x2048x1024.Idx)
    (h0 : (z 0).val = 0) (h1 : (z 1).val = 256 * (t.val % 8) + r.val) (h2 : (z 2).val = d.val) :
    (∑ k : Fin 8, b1 (ix2 r k) * b2 (ix3 0 k d)) = outer (x1 m c) (x2 m c) z := by
  unfold outer
  refine Finset.sum_congr rfl fun k _ => ?_
  rw [e1, e2, rd1, rd2]
  rw [show (⟨256 * (t.val % 8) + r.val, by omega⟩ : Fin 2048) = z 1 from Fin.ext h1.symm,
    show (⟨0, by have ht := (idx t).2.2.2.2.2.2.2.2.2; omega⟩ : Fin 1) = z 0 from Fin.ext h0.symm,
    show d = z 2 from Fin.ext h2.symm]

def res5 (s : FVec Ideal S8x2048 .f32) (d : FVec Ideal S1x8x1024 .f32) : FVec Ideal S1x2048x1024 .f32 := outer s d
def res6 (s : FVec Ideal S8x2048 .f32) (d : FVec Ideal S1x8x1024 .f32) (A B D : FVec Ideal S1x2048x1024 .f32) : FVec Ideal S1x2048x1024 .f32 := fun y => delta (A y) (outer s d y) (B y) (D y)
def res7 (s : FVec Ideal S8x2048 .f32) (d : FVec Ideal S1x8x1024 .f32) (B : FVec Ideal S1x2048x1024 .f32) : FVec Ideal S1x2048x1024 .f32 := fun y => mom1 (outer s d y) (B y)
def res8 (s : FVec Ideal S8x2048 .f32) (d : FVec Ideal S1x8x1024 .f32) (D : FVec Ideal S1x2048x1024 .f32) : FVec Ideal S1x2048x1024 .f32 := fun y => mom2 (outer s d y) (D y)

theorem final5 : (dats m 0 c).arrAt 5 cfg0.N = res5 (x1 m c) (x2 m c) := by
  refine (dats m 0 c).arrAt_eq_of_covers 5 _ (by decide +kernel) fun t ht y => ?_
  blk_simp
  rw [after0_5]
  idx_vars y
  obtain rfl : y0 = 0 := Subsingleton.elim _ _
  rw [out5_apply, sum_apply m c t rfl rfl y1 y2 (((cfg0.win 5).blk t).view.emb (ix3 0 y1 y2))
    (by blk_simp [idx t] <;> rfl) (by blk_simp [idx t]; omega) (by blk_simp [idx t])]
  rfl

theorem final6 : (dats m 0 c).arrAt 6 cfg0.N = res6 (x1 m c) (x2 m c) (x0 m c) (x3 m c) (x4 m c) := by
  refine (dats m 0 c).arrAt_eq_of_covers 6 _ (by decide +kernel) fun t ht y => ?_
  blk_simp
  rw [after0_6]
  idx_vars y
  obtain rfl : y0 = 0 := Subsingleton.elim _ _
  rw [out6_apply, sum_apply m c t rfl rfl y1 y2 (((cfg0.win 6).blk t).view.emb (ix3 0 y1 y2))
    (by blk_simp [idx t] <;> rfl) (by blk_simp [idx t]; omega) (by blk_simp [idx t])]
  unfold res6
  have e0 : iblk m c 0 t (ix3 0 y1 y2) = x0 m c (((cfg0.win 6).blk t).view.emb (ix3 0 y1 y2)) :=
    congrFun (V_main_arg0 m c) _
  have e3 : iblk m c 3 t (ix3 0 y1 y2) = x3 m c (((cfg0.win 6).blk t).view.emb (ix3 0 y1 y2)) :=
    congrFun (V_main_arg3 m c) _
  have e4 : iblk m c 4 t (ix3 0 y1 y2) = x4 m c (((cfg0.win 6).blk t).view.emb (ix3 0 y1 y2)) :=
    congrFun (V_main_arg4 m c) _
  rw [e0, e3, e4]

theorem final7 : (dats m 0 c).arrAt 7 cfg0.N = res7 (x1 m c) (x2 m c) (x3 m c) := by
  refine (dats m 0 c).arrAt_eq_of_covers 7 _ (by decide +kernel) fun t ht y => ?_
  blk_simp
  rw [after0_7]
  idx_vars y
  obtain rfl : y0 = 0 := Subsingleton.elim _ _
  rw [out7_apply, sum_apply m c t rfl rfl y1 y2 (((cfg0.win 7).blk t).view.emb (ix3 0 y1 y2))
    (by blk_simp [idx t] <;> rfl) (by blk_simp [idx t]; omega) (by blk_simp [idx t])]
  unfold res7
  have e3 : iblk m c 3 t (ix3 0 y1 y2) = x3 m c (((cfg0.win 7).blk t).view.emb (ix3 0 y1 y2)) :=
    congrFun (V_main_arg3 m c) _
  rw [e3]

theorem final8 : (dats m 0 c).arrAt 8 cfg0.N = res8 (x1 m c) (x2 m c) (x4 m c) := by
  refine (dats m 0 c).arrAt_eq_of_covers 8 _ (by decide +kernel) fun t ht y => ?_
  blk_simp
  rw [after0_8]
  idx_vars y
  obtain rfl : y0 = 0 := Subsingleton.elim _ _
  rw [out8_apply, sum_apply m c t rfl rfl y1 y2 (((cfg0.win 8).blk t).view.emb (ix3 0 y1 y2))
    (by blk_simp [idx t] <;> rfl) (by blk_simp [idx t]; omega) (by blk_simp [idx t])]
  unfold res8
  have e4 : iblk m c 4 t (ix3 0 y1 y2) = x4 m c (((cfg0.win 8).blk t).view.emb (ix3 0 y1 y2)) :=
    congrFun (V_main_arg4 m c) _
  rw [e4]

/-- Every run ends with the results and the arguments unchanged. -/
theorem run : θ_run defs (onTc (τ := τ) (main (F := Ideal))) ⟨m, fun _ => 0, ρ⟩ (fun r => ∀ c : Dev nD,
      r.2.mem ((c.tc : Thread nD τ).loc main_v1_0) = res5 (x1 m c) (x2 m c)
      ∧ r.2.mem ((c.tc : Thread nD τ).loc main_v1_1) = res6 (x1 m c) (x2 m c) (x0 m c) (x3 m c) (x4 m c)
      ∧ r.2.mem ((c.tc : Thread nD τ).loc main_v1_2) = res7 (x1 m c) (x2 m c) (x3 m c)
      ∧ r.2.mem ((c.tc : Thread nD τ).loc main_v1_3) = res8 (x1 m c) (x2 m c) (x4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), ((h.1 c).1 7).trans (final7 m c), ((h.1 c).1 8).trans (final8 m c), h.2 c⟩) (θ_run_and (run_main m ρ) (unchanged m ρ))

end Cert.AdamKvAdaIdeal.Val

namespace Cert.RefAdamKvAdaIdeal.Val

open Cert.RefAdamKvAdaIdeal Cert.RefAdamKvAdaIdeal.Gen Cert.RefAdamKvAdaIdeal.Read Cert.Adam Idealize.ShloMosaic

variable (x0 : FVec Ideal S1x2048x1024 .f32) (x1 : FVec Ideal S8x2048 .f32) (x2 : FVec Ideal S1x8x1024 .f32) (x3 x4 : FVec Ideal S1x2048x1024 .f32)

theorem read5 : val_main_v5 (F := Ideal) x1 x2 = Cert.AdamKvAdaIdeal.Val.outer x1 x2 := by
  funext y
  idx_vars y
  obtain rfl : y0 = 0 := Subsingleton.elim _ _
  refine Eq.trans (b := ∑ k : Fin 8, x2 (ix3 0 k y2) * x1 (ix2 k y1)) (by pointwise [val_main_v5, val_main_v4, val_main_v3]) ?_
  exact Finset.sum_congr rfl fun k _ => mul_comm _ _

theorem read6 : val_main_v29 (F := Ideal) x0 x1 x2 x3 x4 = Cert.AdamKvAdaIdeal.Val.res6 x1 x2 x0 x3 x4 := by
  unfold Cert.AdamKvAdaIdeal.Val.res6
  rw [← read5]
  rfl

theorem read7 : val_main_v10 (F := Ideal) x1 x2 x3 = Cert.AdamKvAdaIdeal.Val.res7 x1 x2 x3 := by
  unfold Cert.AdamKvAdaIdeal.Val.res7
  rw [← read5]
  rfl

theorem read8 : val_main_v16 (F := Ideal) x1 x2 x4 = Cert.AdamKvAdaIdeal.Val.res8 x1 x2 x4 := by
  unfold Cert.AdamKvAdaIdeal.Val.res8
  rw [← read5]
  rfl

end Cert.RefAdamKvAdaIdeal.Val

namespace Cert.AdamKvAdaIdeal.Val

open Idealize.ShloMosaic Idealize.SL.Sem

theorem frame_reference : Cert.quiescent_RefAdamKvAdaIdeal := fun m ρ _ =>
  (θ_run Cert.RefAdamKvAdaIdeal.defs _ _).mono (fun r h => ⟨fun c => (h c).2.2.2.2,
      Idealize.ShloMosaic.sem_eq_zero_of_no_sems (by decide) r.2⟩)
    (Cert.RefAdamKvAdaIdeal.Value.run (F := Ideal) m ρ)

theorem algebraic : Cert.algebraic_AdamKvAdaIdeal_RefAdamKvAdaIdeal := by
  intro m g m' g' _ hargs
  refine ⟨fun c => _, fun c => _, fun c => _, fun c => _, run m g, (θ_run Cert.RefAdamKvAdaIdeal.defs _ _).mono (fun r h c => ?_) (Cert.RefAdamKvAdaIdeal.Value.run (F := Ideal) m' g')⟩
  obtain ⟨a0, a1, a2, a3, a4⟩ := hargs c
  refine ⟨(h c).1.trans ?_, (h c).2.1.trans ?_, (h c).2.2.1.trans ?_, (h c).2.2.2.1.trans ?_, (h c).2.2.2.2⟩
  · rw [Cert.RefAdamKvAdaIdeal.Read.val_main_v5_eq, a1, a2]
    exact Cert.RefAdamKvAdaIdeal.Val.read5 _ _
  · rw [Cert.RefAdamKvAdaIdeal.Read.val_main_v29_eq, a0, a1, a2, a3, a4]
    exact Cert.RefAdamKvAdaIdeal.Val.read6 _ _ _ _ _
  · rw [Cert.RefAdamKvAdaIdeal.Read.val_main_v10_eq, a1, a2, a3]
    exact Cert.RefAdamKvAdaIdeal.Val.read7 _ _ _
  · rw [Cert.RefAdamKvAdaIdeal.Read.val_main_v16_eq, a1, a2, a4]
    exact Cert.RefAdamKvAdaIdeal.Val.read8 _ _ _

end Cert.AdamKvAdaIdeal.Val
-- ==== Proof.MixMask.lean ====
module

public import proofs.«01_k».proof.Proof.Gen.MixBwdIdeal.Frame
public import proofs.«01_k».proof.Proof.Mm

@[expose] public section
noncomputable section
set_option maxRecDepth 16384
namespace Cert.MixBwdIdeal.Val
open Cert.MixBwdIdeal Cert.MixBwdIdeal.Gen Idealize.ShloMosaic

/-- The mask: a row of the block sees the chunks of sixty-four up to its own. -/
theorem mask_apply : ∀ i j : Fin 128, k0_pay12 k0_pay7 k0_pay8 k0_pay9 k0_pay10 k0_pay11 (ix2 i j) = if j.val / 64 ≤ i.val / 64 then 1#1 else 0#1 := by
  decide +kernel

end Cert.MixBwdIdeal.Val
-- ==== Proof.Mix.lean ====
module

public import proofs.«01_k».proof.Proof.Mm

/-! # The spatial mixer of the gated branch: rows mixed within blocks of 128, masked by chunks of 64, in groups of 768 columns -/

@[expose] public section

noncomputable section

namespace Cert.Mix

open Idealize.ShloMosaic

/-- A stack of matrices as a function on the naturals, zero outside it. -/
def nat3 {a b c : ℕ} {e : FTy} (x : FVec Ideal ⟨3, ![a, b, c]⟩ e) (g i j : ℕ) : EReal :=
  if h : g < a ∧ i < b ∧ j < c then x (ix3 ⟨g, h.1⟩ ⟨i, h.2.1⟩ ⟨j, h.2.2⟩) else 0

theorem nat3_val {a b c : ℕ} {e : FTy} (x : FVec Ideal ⟨3, ![a, b, c]⟩ e) (g : Fin a) (i : Fin b) (j : Fin c) :
    nat3 x g.val i.val j.val = x (ix3 g i j) :=
  dif_pos ⟨g.isLt, i.isLt, j.isLt⟩

/-- A row of a block sees the chunks of sixty-four up to its own. -/
def mask (i j : ℕ) (x : EReal) : EReal := if j / 64 ≤ i / 64 then x else 0

/-- The mixed row, with its offset. -/
def mix (V : ℕ → ℕ → EReal) (W : ℕ → ℕ → ℕ → EReal) (B : ℕ → ℕ → EReal) (row col : ℕ) : EReal :=
  (∑ k : Fin 128, mask (row % 128) k.val (W (col / 768) (row % 128) k.val) * V (row / 128 * 128 + k.val) col) + B (col / 768) (row % 128)

/-- The gradient of the rows mixed. -/
def mixT (D : ℕ → ℕ → EReal) (W : ℕ → ℕ → ℕ → EReal) (row col : ℕ) : EReal :=
  ∑ k : Fin 128, mask k.val (row % 128) (W (col / 768) k.val (row % 128)) * D (row / 128 * 128 + k.val) col

/-- One block's part of the gradient of the weights. -/
def dwT (D V : ℕ → ℕ → EReal) (g n i j : ℕ) : EReal :=
  ∑ d : Fin 768, D (128 * n + i) (768 * g + d.val) * V (128 * n + j) (768 * g + d.val)

/-- One block's part of the gradient of the offsets. -/
def dbT (D : ℕ → ℕ → EReal) (g n i : ℕ) : EReal := ∑ d : Fin 768, D (128 * n + i) (768 * g + d.val)

/-- Thirty-two terms in eight runs of four. -/
theorem sum_runs (f : ℕ → EReal) :
    ∑ n ∈ Finset.range 8, (f (4 * n) + f (4 * n + 1) + f (4 * n + 2) + f (4 * n + 3)) = ∑ n ∈ Finset.range 32, f n := by
  simp only [Finset.sum_range_succ, Finset.sum_range_zero, Nat.reduceMul, Nat.reduceAdd, zero_add, ← add_assoc]

theorem sum_mask (i j : ℕ) (s : Finset ℕ) (f : ℕ → EReal) : ∑ n ∈ s, mask i j (f n) = mask i j (∑ n ∈ s, f n) := by
  unfold mask
  split
  · rfl
  · exact Finset.sum_const_zero

end Cert.Mix
-- ==== Proof.MixBwdV.lean ====
module

public import proofs.«01_k».proof.Proof.Gen.MixBwdIdeal.Frame
public import proofs.«01_k».proof.Proof.MixMask
public import proofs.«01_k».proof.Proof.Mix

/-! # What one point of the mixer's backward kernel stores -/

@[expose] public section

noncomputable section

set_option maxRecDepth 16384

namespace Cert.MixBwdIdeal.Val

open Cert.MixBwdIdeal Cert.MixBwdIdeal.Gen Cert.Mm Cert.Mix Idealize.ShloMosaic Idealize.ShloMosaic.TcCoe Idealize.SL.Sem

/-- The masked choice between a value and zero. -/
theorem select_mask (i j : Fin 128) (x : EReal) :
    Scalar.select (k0_pay12 k0_pay7 k0_pay8 k0_pay9 k0_pay10 k0_pay11 (ix2 i j)) x 0 = mask i.val j.val x := by
  rw [mask_apply]
  unfold mask
  split <;> rfl

/-- The masked weights. -/
abbrev wv (x3 : Vec Ideal S1x128x128 .f32) : FVec Ideal S128x128 .bf16 := k0_pay13 k0_pay7 k0_pay8 k0_pay9 k0_pay10 k0_pay11 x3

theorem wv_apply (x3 : Vec Ideal S1x128x128 .f32) (i j : Fin 128) : wv x3 (ix2 i j) = mask i.val j.val (x3 (ix3 0 i j)) := by
  rw [← select_mask]
  pointwise [wv, k0_pay13]

theorem pay14_apply (v : Vec Ideal S1x128x1 .f32) (i : Fin 128) : k0_pay14 v (ix2 i 0) = v (ix3 0 i 0) := by
  pointwise [k0_pay14]

theorem pay26_apply (w : FVec Ideal S128x128 .bf16) (b : FVec Ideal S128x1 .f32) (v p : Vec Ideal S128x768 .bf16) (i : Fin 128) (d : Fin 768) :
    k0_pay26 w b v p (ix2 i d) = p (ix2 i d) * ((∑ k, w (ix2 i k) * v (ix2 k d)) + b (ix2 i 0)) := by
  pointwise [k0_pay26, k0_pay25, k0_pay24]

theorem pay29_apply (w : FVec Ideal S128x128 .bf16) (p u : Vec Ideal S128x768 .bf16) (i : Fin 128) (d : Fin 768) :
    k0_pay29 w p u (ix2 i d) = ∑ k, w (ix2 k i) * (p (ix2 k d) * u (ix2 k d)) := by
  pointwise [k0_pay29, k0_pay28, k0_pay27, k0_pay25]

section Steps

variable (v0 p0 u0 v1 p1 u1 v2 p2 u2 v3 p3 u3 : Vec Ideal S128x768 .bf16)

/-- The step of the weights' gradient, not yet masked. -/
def dwS (i j : Fin 128) : EReal :=
  (∑ d, (p0 (ix2 i d) * u0 (ix2 i d)) * v0 (ix2 j d)) + (∑ d, (p1 (ix2 i d) * u1 (ix2 i d)) * v1 (ix2 j d))
    + (∑ d, (p2 (ix2 i d) * u2 (ix2 i d)) * v2 (ix2 j d)) + (∑ d, (p3 (ix2 i d) * u3 (ix2 i d)) * v3 (ix2 j d))

/-- The step of the offsets' gradient. -/
def dbS (i : Fin 128) : EReal :=
  (∑ d, p0 (ix2 i d) * u0 (ix2 i d)) + (∑ d, p1 (ix2 i d) * u1 (ix2 i d))
    + (∑ d, p2 (ix2 i d) * u2 (ix2 i d)) + (∑ d, p3 (ix2 i d) * u3 (ix2 i d))

theorem pay1_apply (i j : Fin 128) :
    k0_pay1 (k0_pay12 k0_pay7 k0_pay8 k0_pay9 k0_pay10 k0_pay11)
      (k0_pay38 (k0_pay30 k0_pay15 (k0_pay23 v0 p0 u0) v1 p1 u1) (k0_pay32 v2) (k0_pay33 p2) u2) (k0_pay46 v3 p3 u3) (ix2 i j)
      = mask i.val j.val (dwS v0 p0 u0 v1 p1 u1 v2 p2 u2 v3 p3 u3 i j) := by
  rw [← select_mask]
  unfold dwS
  generalize k0_pay12 k0_pay7 k0_pay8 k0_pay9 k0_pay10 k0_pay11 = M
  pointwise [k0_pay1, k0_pay38, k0_pay30, k0_pay15, k0_pay23, k0_pay32, k0_pay33, k0_pay46, k0_pay44, k0_pay43, k0_pay41, k0_pay40,
    k0_pay36, k0_pay35, k0_pay28, k0_pay27, k0_pay25, k0_pay24, k0_pay21, k0_pay20, k0_pay18, k0_pay17]

theorem pay2_apply (i j : Fin 128) :
    k0_pay2 (k0_pay39 (k0_pay31 k0_pay16 (k0_pay20 p0 u0) p1 u1) (k0_pay33 p2) u2) (k0_pay43 p3 u3) (ix2 i j)
      = dbS p0 u0 p1 u1 p2 u2 p3 u3 i := by
  unfold dbS
  pointwise [k0_pay2, k0_pay39, k0_pay31, k0_pay16, k0_pay33, k0_pay43, k0_pay41, k0_pay35, k0_pay27, k0_pay25, k0_pay20, k0_pay18]

end Steps

theorem pay3_apply (M : IVec S128x128 1) (a b : FVec Ideal S128x128 .f32) (i j : Fin 128) :
    k0_pay3 M a b (ix3 0 i j) = k0_pay1 M a b (ix2 i j) := by
  pointwise [k0_pay3]

theorem pay5_apply (M : IVec S128x128 1) (a b : FVec Ideal S128x128 .f32) (v : Vec Ideal S1x128x128 .f32) (i j : Fin 128) :
    k0_pay5 M a b v (ix3 0 i j) = v (ix3 0 i j) + k0_pay1 M a b (ix2 i j) := by
  pointwise [k0_pay5]

theorem pay4_apply (a : FVec Ideal S128x1 .f32) (b : FVec Ideal S128x768 .f32) (i j : Fin 128) :
    k0_pay4 a b (ix3 0 i j) = k0_pay2 a b (ix2 i j) := by
  pointwise [k0_pay4]

theorem pay6_apply (a : FVec Ideal S128x1 .f32) (b : FVec Ideal S128x768 .f32) (v : Vec Ideal S1x128x128 .f32) (i j : Fin 128) :
    k0_pay6 a b v (ix3 0 i j) = v (ix3 0 i j) + k0_pay2 a b (ix2 i j) := by
  pointwise [k0_pay6]

end Cert.MixBwdIdeal.Val
-- ==== Proof.Spec.lean ====
module

public import Idealize.ShloMosaic.PureOps.Ideal.Laws

/-!
# The forgetting attention as real numbers

The attention's results and its gradients are written here as functions of real numbers. `Row` is what a sweep over
key blocks keeps of one query row, and `Row.step` is one block of that sweep.
-/

@[expose] public section

noncomputable section

namespace Cert.Fox

open Idealize.ShloMosaic
open scoped BigOperators

/-! ## The real attention -/

/-- The inputs as real numbers: queries, keys, values and the output's cotangent by row and column, the cumulative log
gates by head and row, and the scale. -/
structure Inp where
  q : ℕ → ℕ → ℝ
  k : ℕ → ℕ → ℝ
  v : ℕ → ℕ → ℝ
  g : ℕ → ℕ → ℝ
  f : ℕ → ℕ → ℝ
  c : ℝ

namespace Inp

variable (I : Inp)

/-- The logit of query `i` and key `j`, less the part that depends on the query alone. -/
def x (h i j : ℕ) : ℝ :=
  (∑ d ∈ Finset.range 128, (I.q i (128 * h + d) * I.c) * I.k j (128 * h + d)) - I.f h j

/-- The weight of key `j` for query `i` before the division. -/
def e (h i j : ℕ) : ℝ := if j ≤ i then Real.exp (I.x h i j) else 0

/-- The sum of a row's weights over the keys `0 .. n - 1`. -/
def zs (h i n : ℕ) : ℝ := ∑ j ∈ Finset.range n, I.e h i j

/-- The sum of a row's weights. -/
def z (h i : ℕ) : ℝ := I.zs h i 4096

/-- The attention probability. -/
def p (h i j : ℕ) : ℝ := I.e h i j / I.z h i

/-- The attention's output. -/
def o (h i d : ℕ) : ℝ := ∑ j ∈ Finset.range 4096, I.p h i j * I.v j (128 * h + d)

/-- The cotangent of a probability. -/
def dp (h i j : ℕ) : ℝ := ∑ d ∈ Finset.range 128, I.g i (128 * h + d) * I.v j (128 * h + d)

/-- A row's mean of the cotangents of its probabilities. -/
def rt (h i : ℕ) : ℝ := ∑ j ∈ Finset.range 4096, I.p h i j * I.dp h i j

/-- The cotangent of a logit. -/
def ds (h i j : ℕ) : ℝ := I.p h i j * (I.dp h i j - I.rt h i)

/-- The gradient of the queries. -/
def dq (h i d : ℕ) : ℝ := I.c * ∑ j ∈ Finset.range 4096, I.ds h i j * I.k j (128 * h + d)

/-- The gradient of the keys. -/
def dk (h j d : ℕ) : ℝ := ∑ i ∈ Finset.range 4096, I.ds h i j * (I.q i (128 * h + d) * I.c)

/-- The gradient of the values. -/
def dv (h j d : ℕ) : ℝ := ∑ i ∈ Finset.range 4096, I.p h i j * I.g i (128 * h + d)

/-- The gradient of the cumulative log gates. -/
def df (h j : ℕ) : ℝ := -∑ i ∈ Finset.range 4096, I.ds h i j

theorem e_nonneg (h i j : ℕ) : 0 ≤ I.e h i j := by
  unfold e; split
  · exact (Real.exp_pos _).le
  · exact le_refl _

theorem e_of_lt {h i j : ℕ} (hij : i < j) : I.e h i j = 0 := if_neg (by omega)

theorem zs_pos {h i n : ℕ} (hn : 0 < n) : 0 < I.zs h i n :=
  Finset.sum_pos' (fun _ _ => I.e_nonneg _ _ _)
    ⟨0, Finset.mem_range.mpr hn, by unfold e; rw [if_pos (Nat.zero_le _)]; exact Real.exp_pos _⟩

theorem z_pos (h i : ℕ) : 0 < I.z h i := I.zs_pos (by norm_num)

theorem z_ne (h i : ℕ) : I.z h i ≠ 0 := (I.z_pos h i).ne'

theorem p_of_lt {h i j : ℕ} (hij : i < j) : I.p h i j = 0 := by unfold p; rw [I.e_of_lt hij, zero_div]

theorem ds_of_lt {h i j : ℕ} (hij : i < j) : I.ds h i j = 0 := by unfold ds; rw [I.p_of_lt hij, zero_mul]

theorem sum_p (h i : ℕ) : ∑ j ∈ Finset.range 4096, I.p h i j = 1 := by
  unfold p; rw [← Finset.sum_div]; exact div_self (I.z_ne h i)

theorem sum_ds (h i : ℕ) : ∑ j ∈ Finset.range 4096, I.ds h i j = 0 := by
  unfold ds
  simp only [mul_sub, Finset.sum_sub_distrib, ← Finset.sum_mul, I.sum_p, one_mul]
  exact sub_self _

theorem p_eq_exp {h i j : ℕ} (hij : j ≤ i) : Real.exp (I.x h i j - Real.log (I.z h i)) = I.p h i j := by
  unfold p e; rw [if_pos hij, Real.exp_sub, Real.exp_log (I.z_pos h i)]

end Inp

/-- A sum over the keys up to the end of the query's block is the sum over all keys. -/
theorem sum_range_causal (F : ℕ → ℝ) {n N i : ℕ} (hi : i < n) (hn : n ≤ N) (hF : ∀ j, i < j → F j = 0) :
    ∑ j ∈ Finset.range N, F j = ∑ j ∈ Finset.range n, F j := by
  symm
  exact Finset.sum_subset (Finset.range_mono hn) fun j _ hj => hF j (by
    have := Finset.mem_range.not.mp hj; omega)

/-- A sum over `n + b` numbers is the sum over the first `n` and the sum over the next block of `b`. -/
theorem sum_range_block (F : ℕ → ℝ) (n b : ℕ) :
    ∑ j ∈ Finset.range (n + b), F j = ∑ j ∈ Finset.range n, F j + ∑ r : Fin b, F (n + r.val) := by
  rw [Finset.sum_range_add, Finset.sum_range (fun x => F (n + x))]

/-! ## Real numbers among the extended ones -/

theorem coe_sum {ι : Type*} (s : Finset ι) (F : ι → ℝ) : ((∑ j ∈ s, F j : ℝ) : EReal) = ∑ j ∈ s, (F j : EReal) := by
  classical
  induction s using Finset.induction_on with
  | empty => simp
  | insert a s ha ih => rw [Finset.sum_insert ha, Finset.sum_insert ha, EReal.coe_add, ih]

/-- A number that is no infinity is a real number. -/
theorem exists_coe {x : EReal} (h1 : x ≠ ⊤) (h2 : x ≠ ⊥) : ∃ r : ℝ, x = ↑r := ⟨x.toReal, (EReal.coe_toReal h1 h2).symm⟩

/-- The greatest of finitely many logits, none of them `⊤` and one of them no `⊥`, is a real number. -/
theorem fold_max_real {ι : Type*} [Fintype ι] (init : EReal) (hi : init ≠ ⊤) (s : ι → EReal) (hs : ∀ j, s j ≠ ⊤)
    (hb : ∃ j, s j ≠ ⊥) : ∃ r : ℝ, Finset.univ.fold max init s = ↑r := by
  apply exists_coe
  · apply ne_of_lt
    rw [Finset.fold_max_lt]
    exact ⟨lt_top_iff_ne_top.mpr hi, fun j _ => lt_top_iff_ne_top.mpr (hs j)⟩
  · obtain ⟨j, hj⟩ := hb
    apply ne_of_gt
    refine lt_of_lt_of_le (bot_lt_iff_ne_bot.mpr hj) ?_
    rw [Finset.le_fold_max]
    exact Or.inr ⟨j, Finset.mem_univ j, le_refl _⟩

/-- A logit `s` and its weight `w`: a real number and its exponential, or a masked logit and zero. -/
def Lg (s : EReal) (w : ℝ) : Prop := (∃ x : ℝ, s = ↑x ∧ w = Real.exp x) ∨ (s = ⊥ ∧ w = 0)

theorem Lg.ne_top {s : EReal} {w : ℝ} (h : Lg s w) : s ≠ ⊤ := by
  rcases h with ⟨x, rfl, _⟩ | ⟨rfl, _⟩
  · exact EReal.coe_ne_top x
  · exact bot_ne_top

theorem Lg.exp_sub {s : EReal} {w : ℝ} (h : Lg s w) (μ : ℝ) : Ideal.exp (s - ↑μ) = ↑(Real.exp (-μ) * w) := by
  rcases h with ⟨x, rfl, rfl⟩ | ⟨rfl, rfl⟩
  · rw [← EReal.coe_sub, Ideal.exp_coe, ← Real.exp_add, neg_add_eq_sub]
  · rw [EReal.bot_sub, Ideal.exp_bot, mul_zero, EReal.coe_zero]

/-- What the sweep has of one query row: nothing, or a real reference `μ` and the sums of the weights times `exp (-μ)`. -/
def Row {ι : Type*} (m l : EReal) (a : ι → EReal) (W : ℝ) (U : ι → ℝ) : Prop :=
  (m = ⊥ ∧ l = 0 ∧ (∀ d, a d = 0) ∧ W = 0 ∧ ∀ d, U d = 0) ∨
    ∃ μ : ℝ, m = ↑μ ∧ l = ↑(Real.exp (-μ) * W) ∧ ∀ d, a d = ↑(Real.exp (-μ) * U d)

theorem Row.zero {ι : Type*} : Row (ι := ι) ⊥ 0 (fun _ => 0) 0 (fun _ => 0) :=
  Or.inl ⟨rfl, rfl, fun _ => rfl, rfl, fun _ => rfl⟩

/-- One block of the sweep. -/
theorem Row.step {ι κ : Type*} [Fintype κ] {m l : EReal} {a : ι → EReal} {W : ℝ} {U : ι → ℝ} (hrow : Row m l a W U)
    (s : κ → EReal) (w : κ → ℝ) (hs : ∀ j, Lg (s j) (w j)) (hb : ∃ j, s j ≠ ⊥)
    (v : κ → ι → EReal) (vr : κ → ι → ℝ) (hv : ∀ j d, v j d = ↑(vr j d))
    {m' l' : EReal} {a' : ι → EReal} (hm' : m' = max m (Finset.univ.fold max ⊥ s))
    (hl' : l' = Ideal.exp (m - m') * l + ∑ j, Ideal.exp (s j - m'))
    (ha' : ∀ d, a' d = Ideal.exp (m - m') * a d + ∑ j, Ideal.exp (s j - m') * v j d) :
    (∃ μ : ℝ, m' = ↑μ ∧ l' = ↑(Real.exp (-μ) * (W + ∑ j, w j)) ∧
      ∀ d, a' d = ↑(Real.exp (-μ) * (U d + ∑ j, w j * vr j d))) := by
  obtain ⟨b, hb'⟩ := fold_max_real ⊥ bot_ne_top s (fun j => (hs j).ne_top) hb
  have hμ : ∃ μ : ℝ, m' = ↑μ := by
    rw [hm', hb']
    rcases hrow with ⟨rfl, _⟩ | ⟨μ, rfl, _⟩
    · exact ⟨b, max_eq_right bot_le⟩
    · exact ⟨max μ b, (EReal.coe_strictMono.monotone.map_max (a := μ) (b := b)).symm⟩
  obtain ⟨μ', hm⟩ := hμ
  refine ⟨μ', hm, ?_, fun d => ?_⟩
  · rw [hl', hm]
    simp only [(hs _).exp_sub μ', ← coe_sum]
    rcases hrow with ⟨rfl, rfl, _, rfl, _⟩ | ⟨μ, rfl, rfl, _⟩
    · rw [mul_zero, zero_add, zero_add, Finset.mul_sum]
    · rw [← EReal.coe_sub, Ideal.exp_coe, ← EReal.coe_mul, ← EReal.coe_add]
      congr 1
      rw [← mul_assoc, ← Real.exp_add, mul_add, Finset.mul_sum]
      congr 3; ring
  · rw [ha' d, hm]
    simp only [(hs _).exp_sub μ', hv, ← EReal.coe_mul, ← coe_sum]
    rcases hrow with ⟨rfl, _, ha, _, hU⟩ | ⟨μ, rfl, _, ha⟩
    · rw [ha, hU, mul_zero, zero_add, zero_add, Finset.mul_sum]
      congr 1; exact Finset.sum_congr rfl fun _ _ => by ring
    · rw [ha, ← EReal.coe_sub, Ideal.exp_coe, ← EReal.coe_mul, ← EReal.coe_add]
      congr 1
      rw [← mul_assoc, ← Real.exp_add, mul_add, Finset.mul_sum]
      congr 1
      · congr 2; ring
      · exact Finset.sum_congr rfl fun _ _ => by ring

/-- The row's output at the end of the sweep. -/
theorem Row.out {μ W U : ℝ} (hW : 0 < W) :
    Ideal.div (↑(Real.exp (-μ) * U)) (↑(Real.exp (-μ) * W)) = ((U / W : ℝ) : EReal) := by
  have hE := (Real.exp_pos (-μ)).ne'
  have hne : ((Real.exp (-μ) * W : ℝ) : EReal) ≠ 0 := by
    rw [Ne, EReal.coe_eq_zero]; exact mul_ne_zero hE hW.ne'
  unfold Ideal.div
  rw [if_neg hne, ← EReal.coe_inv, ← EReal.coe_mul]
  congr 1
  field_simp

/-- The row's logarithm at the end of the sweep. -/
theorem Row.lse {μ W : ℝ} (hW : 0 < W) :
    (μ : EReal) + Ideal.log (↑(Real.exp (-μ) * W)) = ((Real.log W : ℝ) : EReal) := by
  rw [Ideal.log_coe, if_neg (not_le.mpr (mul_pos (Real.exp_pos _) hW)), ← EReal.coe_add]
  congr 1
  rw [Real.log_mul (Real.exp_pos _).ne' hW.ne', Real.log_exp]; ring

/-- A quotient of real numbers. -/
theorem div_coe {a b : ℝ} (hb : b ≠ 0) : Ideal.div (a : EReal) (b : EReal) = ((a / b : ℝ) : EReal) := by
  have hne : (b : EReal) ≠ 0 := by rw [Ne, EReal.coe_eq_zero]; exact hb
  unfold Ideal.div
  rw [if_neg hne, ← EReal.coe_inv, ← EReal.coe_mul]
  rfl

end Cert.Fox
-- ==== Proof.Consts.lean ====
module

public import proofs.«01_k».proof.KernelIdeal
public import proofs.«01_k».proof.Proof.Spec
public import Idealize.ShloMosaic.Lib.Pipeline.ValueKit
public import Idealize.ShloMosaic.Lib.WordCmp

/-! # The programs' float constants at `Ideal`, and the causal mask -/

@[expose] public section

noncomputable section

namespace Cert.Fox

open Idealize.ShloMosaic

/-- The pattern of `-∞`. -/
theorem ofBits_neg_inf : Ideal.ofBits .f32 0xFF800000#32 = ⊥ := by simp [Ideal.ofBits, Ideal.ieee]

/-- The pattern of `+∞`. -/
theorem ofBits_inf : Ideal.ofBits .f32 0x7F800000#32 = ⊤ := by simp [Ideal.ofBits, Ideal.ieee]

/-- The kernel's mask. -/
theorem named_mask : (Named.named (F := Ideal) Cert.KernelIdeal.κ "mask" (φ := .f32) 0xF149F2CA#32 : EReal) = ⊥ := rfl

/-- The scale, a real number: what the pattern both programs carry for `1 / sqrt 128` denotes. -/
def scale : ℝ := (Ideal.ofBits .f32 0x3DB504F3#32 : EReal).toReal

theorem ofBits_scale : Ideal.ofBits .f32 0x3DB504F3#32 = ((scale : ℝ) : EReal) := by
  have h : ∃ x : ℝ, Ideal.ofBits .f32 0x3DB504F3#32 = (x : EReal) := by
    simp only [Ideal.ofBits, Ideal.ieee]
    norm_num
    exact ⟨_, rfl⟩
  obtain ⟨x, hx⟩ := h
  rw [scale, hx, EReal.toReal_coe]

/-- A value chosen by the comparison of two positions. -/
theorem select_le {α : Type} {a b : ℕ} (ha : a < 4096) (hb : b < 4096) (x y : α) :
    Scalar.select (IntOp.cmpi .sle (BitVec.ofNat 32 a) (BitVec.ofNat 32 b)) x y = if a ≤ b then x else y := by
  rw [WordCmp.cmpi_sle_ofNat (by omega) (by omega)]
  by_cases h : a ≤ b
  · rw [if_pos h, decide_eq_true h]; rfl
  · rw [if_neg h, decide_eq_false h]; rfl

/-- The same for two positions within a block. -/
theorem select_fin {α : Type} (a b : Fin 1024) (x y : α) :
    Scalar.select (IntOp.cmpi .sle (BitVec.ofNat 32 a.val) (BitVec.ofNat 32 b.val)) x y = if a.val ≤ b.val then x else y :=
  select_le (by omega) (by omega) x y

/-- The inputs' arrays hold the real numbers of `I`. -/
structure Reals (I : Inp) (q k v : FVec Ideal ⟨2, ![4096, 2048]⟩ .f32) (f : FVec Ideal ⟨2, ![16, 4096]⟩ .f32)
    (g : FVec Ideal ⟨2, ![4096, 2048]⟩ .f32) : Prop where
  c : I.c = scale
  q : ∀ (n : Fin 4096) (e : Fin 2048), q (ix2 n e) = (I.q n.val e.val : EReal)
  k : ∀ (n : Fin 4096) (e : Fin 2048), k (ix2 n e) = (I.k n.val e.val : EReal)
  v : ∀ (n : Fin 4096) (e : Fin 2048), v (ix2 n e) = (I.v n.val e.val : EReal)
  f : ∀ (h : Fin 16) (n : Fin 4096), f (ix2 h n) = (I.f h.val n.val : EReal)
  g : ∀ (n : Fin 4096) (e : Fin 2048), g (ix2 n e) = (I.g n.val e.val : EReal)

end Cert.Fox
-- ==== Proof.MixBwdRef.lean ====
module

public import proofs.«01_k».proof.Proof.Gen.RefMixBwdIdeal.Read
public import proofs.«01_k».proof.Proof.Mix
public import proofs.«01_k».proof.Proof.Consts
public import Idealize.ShloMosaic.Lib.TwoAxisContraction

/-! # The reference's gradient of the mixer, read at an index -/

@[expose] public section

noncomputable section

set_option maxRecDepth 16384

namespace Cert.Mix

open Idealize.ShloMosaic

/-- A sum over the first and the last of four axes. -/
theorem reduce_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (i : Fin n1) (j : Fin n2) :
    Ideal.hostReduceAdd h v init (ix2 i j) = init + ∑ a : Fin n0, ∑ b : Fin n3, v (ix4 a i j b) := by
  unfold Ideal.hostReduceAdd
  rw [← Fintype.sum_prod_type (f := fun k : Fin n0 × Fin n3 => v (ix4 k.1 i j k.2))]
  refine congrArg (init + ·) (Finset.sum_bij' (fun x _ => ((x 0 : Fin n0), (x 3 : Fin n3))) (fun k _ => ix4 k.1 i j k.2)
    (fun _ _ => Finset.mem_univ _) (fun k _ => ?_) (fun x hx => ?_) (fun _ _ => rfl) (fun x hx => ?_))
  · refine Finset.mem_filter.mpr ⟨Finset.mem_univ _, funext fun b => Fin.ext ?_⟩
    match b with
    | ⟨0, _⟩ => rfl
    | ⟨1, _⟩ => rfl
  · have e := (Finset.mem_filter.mp hx).2
    funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · have e := (Finset.mem_filter.mp hx).2
    refine congrArg v (funext fun a => Fin.ext ?_)
    match a with
    | ⟨0, _⟩ => rfl
    | ⟨1, _⟩ => exact congrArg Fin.val (congrFun e 0)
    | ⟨2, _⟩ => exact congrArg Fin.val (congrFun e 1)
    | ⟨3, _⟩ => rfl

/-- The masked choice, of two words that count chunks. -/
theorem select_chunks (i j : Fin 128) (x : EReal) :
    Scalar.select (IntOp.cmpi .sle (BitVec.ofNat 32 (j.val / 64)) (BitVec.ofNat 32 (i.val / 64))) x 0 = mask i.val j.val x := by
  rw [Cert.Fox.select_le (by omega) (by omega)]
  rfl

end Cert.Mix

namespace Cert.RefMixBwdIdeal.Val

open Cert.RefMixBwdIdeal Cert.RefMixBwdIdeal.Gen Cert.RefMixBwdIdeal.Read Cert.Mm Cert.Mix Idealize.ShloMosaic

/-- The chunk of a row. -/
theorem v3_apply : ∀ i : Fin 128, val_main_v3 (F := Ideal) (ix1 i) = BitVec.ofNat 32 (i.val / 64) := by
  decide +kernel

variable (x0 : FVec Ideal S4096x6144 .f32) (x1 : FVec Ideal S4096x12288 .f32) (x2 : FVec Ideal S4096x6144 .f32)
  (x3 : FVec Ideal S8x128x128 .f32) (x4 : FVec Ideal S8x128 .f32)

theorem v8_apply (i j : Fin 128) :
    val_main_v8 (F := Ideal) (ix2 i j) = IntOp.cmpi .sle (BitVec.ofNat 32 (j.val / 64)) (BitVec.ofNat 32 (i.val / 64)) := by
  rw [val_main_v8_apply, val_main_v6_apply, val_main_v7_apply, val_main_v4_apply, val_main_v5_apply, ← v3_apply, ← v3_apply]
  refine congrArg₂ _ (congrArg _ ?_) (congrArg _ ?_) <;> exact funext fun a => match a with | ⟨0, _⟩ => rfl

theorem mask_apply (g : Fin 8) (i j : Fin 128) (x : EReal) :
    Scalar.select (val_main_v10_1 (F := Ideal) (ix3 g i j)) x 0 = mask i.val j.val x := by
  rw [← select_chunks, ← v8_apply, val_main_v10_1_apply, val_main_v9_apply]
  refine congrArg (fun k => Scalar.select (val_main_v8 (F := Ideal) k) x 0) (funext fun a => ?_)
  match a with
  | ⟨0, _⟩ => rfl
  | ⟨1, _⟩ => rfl

theorem v10_apply (g : Fin 8) (i j : Fin 128) :
    val_main_v10_0 (F := Ideal) x3 (ix3 g i j) = mask i.val j.val (nat3 x3 g.val i.val j.val) := by
  rw [val_main_v10_0_apply, ← mask_apply g, nat3_val]
  refine congrArg _ ?_
  rw [val_main_call1_v2_apply, val_main_call1_v0_apply, val_main_cst_apply]
  pointwise

theorem v1_apply (n : Fin 32) (i : Fin 128) (g : Fin 8) (d : Fin 768) :
    val_main_v1 (F := Ideal) x2 (ix4 n i g d) = nat x2 (128 * n.val + i.val) (768 * g.val + d.val) := by
  rw [val_main_v1_apply]
  refine (congrArg x2 ?_).trans (nat_val x2 ⟨128 * n.val + i.val, by omega⟩ ⟨768 * g.val + d.val, by omega⟩).symm
  funext a
  apply Fin.ext
  match a with
  | ⟨0, _⟩ => show (((n.val * 128 + i.val) * 8 + g.val) * 768 + d.val) / 6144 = 128 * n.val + i.val; omega
  | ⟨1, _⟩ => show (((n.val * 128 + i.val) * 8 + g.val) * 768 + d.val) % 6144 = 768 * g.val + d.val; omega

theorem v20_apply (r : Fin 4096) (d : Fin 6144) :
    val_main_v20 (F := Ideal) x0 x1 (ix2 r d) = nat x0 r.val d.val * nat x1 r.val d.val := by
  rw [val_main_v20_apply, val_main_v0_apply, nat_val, mul_comm]
  refine congrArg₂ (fun a b : EReal => a * b) ?_ rfl
  refine (congrArg x1 ?_).trans (nat_val x1 r ⟨d.val, by omega⟩).symm
  funext a
  apply Fin.ext
  match a with
  | ⟨0, _⟩ => show _ = r.val; simp
  | ⟨1, _⟩ => show _ = d.val; simp

theorem v22_apply (n : Fin 32) (i : Fin 128) (g : Fin 8) (d : Fin 768) :
    val_main_v22 (F := Ideal) x0 x1 (ix4 n i g d)
      = nat x0 (128 * n.val + i.val) (768 * g.val + d.val) * nat x1 (128 * n.val + i.val) (768 * g.val + d.val) := by
  rw [val_main_v22_apply]
  refine (congrArg (val_main_v20 (F := Ideal) x0 x1) ?_).trans (v20_apply x0 x1 ⟨128 * n.val + i.val, by omega⟩ ⟨768 * g.val + d.val, by omega⟩)
  funext a
  apply Fin.ext
  match a with
  | ⟨0, _⟩ => show (((n.val * 128 + i.val) * 8 + g.val) * 768 + d.val) / 6144 = 128 * n.val + i.val; omega
  | ⟨1, _⟩ => show (((n.val * 128 + i.val) * 8 + g.val) * 768 + d.val) % 6144 = 768 * g.val + d.val; omega

theorem v29_apply (g : Fin 8) (n : Fin 32) (d : Fin 768) (i : Fin 128) :
    val_main_v29 (F := Ideal) x0 x1 (ix4 g n d i)
      = nat x0 (128 * n.val + i.val) (768 * g.val + d.val) * nat x1 (128 * n.val + i.val) (768 * g.val + d.val) := by
  rw [val_main_v29_apply, ← v22_apply]
  refine congrArg _ (funext fun a => ?_)
  match a with
  | ⟨0, _⟩ => rfl
  | ⟨1, _⟩ => rfl
  | ⟨2, _⟩ => rfl
  | ⟨3, _⟩ => rfl

theorem v17_apply (n : Fin 32) (i : Fin 128) (g : Fin 8) (d : Fin 768) :
    val_main_v17 (F := Ideal) x2 x3 x4 (ix4 n i g d)
      = (∑ k : Fin 128, mask i.val k.val (nat3 x3 g.val i.val k.val) * nat x2 (128 * n.val + k.val) (768 * g.val + d.val)) + nat x4 g.val i.val := by
  rw [val_main_v17_apply, val_main_v12_apply, val_main_v11_apply, val_main_v16_apply, val_main_v15_apply, val_main_v14_apply, val_main_v13_apply, nat_val]
  refine congrArg₂ (fun a b : EReal => a + b) (Finset.sum_congr rfl fun k _ => ?_) (congrArg x4 ?_)
  · rw [mul_comm, ← v10_apply, ← v1_apply]
    refine congrArg₂ (fun a b : EReal => a * b) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
      | ⟨3, _⟩ => rfl
  · funext a
    match a with
    | ⟨0, _⟩ => rfl
    | ⟨1, _⟩ => rfl

theorem v35_apply (r : Fin 4096) (d : Fin 6144) :
    val_main_v35 (F := Ideal) x0 x2 x3 x4 (ix2 r d) = nat x0 r.val d.val * mix (nat x2) (nat3 x3) (nat x4) r.val d.val := by
  rw [val_main_v35_apply, Ideal.truncf_def, val_main_v21_apply, val_main_v18_apply, nat_val]
  refine congrArg (x0 (ix2 r d) * ·) ?_
  refine (congrArg (val_main_v17 (F := Ideal) x2 x3 x4) ?_).trans
    ((v17_apply x2 x3 x4 ⟨r.val / 128, by omega⟩ ⟨r.val % 128, by omega⟩ ⟨d.val / 768, by omega⟩ ⟨d.val % 768, by omega⟩).trans ?_)
  · funext a
    apply Fin.ext
    match a with
    | ⟨0, _⟩ => show (r.val * 6144 + d.val) / 786432 = r.val / 128; omega
    | ⟨1, _⟩ => show (r.val * 6144 + d.val) / 6144 % 128 = r.val % 128; omega
    | ⟨2, _⟩ => show (r.val * 6144 + d.val) / 768 % 8 = d.val / 768; omega
    | ⟨3, _⟩ => show (r.val * 6144 + d.val) % 768 = d.val % 768; omega
  · show _ = mix _ _ _ _ _
    unfold mix
    simp only [Nat.div_add_mod, Nat.mul_comm 128]

theorem v36_apply (r : Fin 4096) (d : Fin 6144) :
    val_main_v36 (F := Ideal) x0 x1 x3 (ix2 r d) = mixT (fun a b => nat x0 a b * nat x1 a b) (nat3 x3) r.val d.val := by
  rw [val_main_v36_apply, Ideal.truncf_def, val_main_v34_apply, val_main_v32_apply, val_main_v31_apply]
  unfold mixT
  refine Finset.sum_congr rfl fun k _ => ?_
  have hr : r.val % 128 < 128 := by omega
  have e1 := v29_apply x0 x1 ⟨d.val / 768, by omega⟩ ⟨r.val / 128, by omega⟩ ⟨d.val % 768, by omega⟩ k
  have e2 := v10_apply x3 ⟨d.val / 768, by omega⟩ k ⟨r.val % 128, by omega⟩
  simp only [Nat.div_add_mod, Nat.mul_comm 128] at e1
  rw [mul_comm]
  refine congrArg₂ (fun a b : EReal => a * b) (Eq.trans (congrArg _ (funext fun a => Fin.ext ?_)) e2) (Eq.trans (congrArg _ (funext fun a => Fin.ext ?_)) e1)
  · match a with
    | ⟨0, _⟩ => show (r.val * 6144 + d.val) / 768 % 8 = d.val / 768; omega
    | ⟨1, _⟩ => rfl
    | ⟨2, _⟩ => show (r.val * 6144 + d.val) / 6144 % 128 = r.val % 128; omega
  · match a with
    | ⟨0, _⟩ => show (r.val * 6144 + d.val) / 768 % 8 = d.val / 768; omega
    | ⟨1, _⟩ => show (r.val * 6144 + d.val) / 786432 = r.val / 128; omega
    | ⟨2, _⟩ => show (r.val * 6144 + d.val) % 768 = d.val % 768; omega
    | ⟨3, _⟩ => rfl

theorem v30_apply (g : Fin 8) (i j : Fin 128) :
    val_main_v30 (F := Ideal) x0 x1 x2 (ix3 g i j) = ∑ n ∈ Finset.range 32, dwT (fun a b => nat x0 a b * nat x1 a b) (nat x2) g.val n i.val j.val := by
  rw [Finset.sum_range (fun n => dwT (fun a b => nat x0 a b * nat x1 a b) (nat x2) g.val n i.val j.val)]
  let D := dot_S8x32x768x128_S32x128x8x768_S8x128x128_12_03_3_1_0_2
  have hr : D.contr.rank = 2 := rfl
  have c0 : D.contr.size ⟨0, by rw [hr]; omega⟩ = 32 := rfl
  have c1 : D.contr.size ⟨1, by rw [hr]; omega⟩ = 768 := rfl
  unfold val_main_v30
  simp only [Host.dotGeneral]
  rw [Ideal.dotGeneral_apply, ValueIdx.sum_contr2 D 32 768 hr c0 c1]
  refine Finset.sum_congr rfl fun n _ => ?_
  unfold dwT
  refine Finset.sum_congr rfl fun d _ => ?_
  have h0 := ValueIdx.contrEquiv2_symm_val0 D 32 768 hr c0 c1 (n, d)
  have h1 := ValueIdx.contrEquiv2_symm_val1 D 32 768 hr c0 c1 (n, d)
  have el : D.lhsIdx (ix3 g i j) ((ValueIdx.contrEquiv2 D 32 768 hr c0 c1).symm (n, d)) = ix4 g n d i := by
    funext a; apply Fin.ext
    match a with
    | ⟨0, _⟩ => rfl
    | ⟨1, _⟩ => exact h0
    | ⟨2, _⟩ => exact h1
    | ⟨3, _⟩ => rfl
  have er : D.rhsIdx (ix3 g i j) ((ValueIdx.contrEquiv2 D 32 768 hr c0 c1).symm (n, d)) = ix4 n j g d := by
    funext a; apply Fin.ext
    match a with
    | ⟨0, _⟩ => exact h0
    | ⟨1, _⟩ => rfl
    | ⟨2, _⟩ => rfl
    | ⟨3, _⟩ => exact h1
  rw [el, er, v29_apply, v1_apply]

theorem v33_apply (g : Fin 8) (i j : Fin 128) :
    val_main_v33 (F := Ideal) x0 x1 x2 (ix3 g i j)
      = mask i.val j.val (∑ n ∈ Finset.range 32, dwT (fun a b => nat x0 a b * nat x1 a b) (nat x2) g.val n i.val j.val) := by
  rw [val_main_v33_apply, v30_apply, ← mask_apply g]
  refine congrArg _ ?_
  rw [val_main_call2_v0_apply, val_main_call2_cst_apply]
  pointwise

theorem v23_apply (i : Fin 128) (g : Fin 8) :
    val_main_v23 (F := Ideal) x0 x1 (ix2 i g) = ∑ n ∈ Finset.range 32, dbT (fun a b => nat x0 a b * nat x1 a b) g.val n i.val := by
  rw [Finset.sum_range (fun n => dbT (fun a b => nat x0 a b * nat x1 a b) g.val n i.val)]
  unfold val_main_v23
  rw [ValueIdx.hostReduceAdd_apply, reduce_outer, val_main_cst_0_apply, Ideal.ofBits_def, Ideal.ofBits_zero_f32, zero_add]
  simp only [v22_apply, dbT]

theorem v25_apply (i : Fin 128) (g : Fin 8) : val_main_v25 (F := Ideal) x0 x1 (ix2 i g) = val_main_v23 (F := Ideal) x0 x1 (ix2 i g) := by
  unfold val_main_v25
  rw [ValueIdx.hostReduceAdd_apply, reduce_outer, val_main_cst_1_apply, Ideal.ofBits_def, Ideal.ofBits_zero_f32, zero_add]
  simp only [Fin.sum_univ_one]
  rw [val_main_v24_apply]
  refine congrArg _ (funext fun a => Fin.ext ?_)
  match a with
  | ⟨0, _⟩ => show (((0 * 128 + i.val) * 8 + g.val) * 1 + 0) / 8 = i.val; omega
  | ⟨1, _⟩ => show (((0 * 128 + i.val) * 8 + g.val) * 1 + 0) % 8 = g.val; omega

theorem v38_apply (g : Fin 8) (i j : Fin 128) :
    val_main_v38 (F := Ideal) x0 x1 (ix3 g i j) = ∑ n ∈ Finset.range 32, dbT (fun a b => nat x0 a b * nat x1 a b) g.val n i.val := by
  rw [val_main_v38_apply, val_main_v37_apply, val_main_v28_apply, val_main_v27_apply, val_main_cst_2_apply, Ideal.ofBits_def, Ideal.ofBits_zero_f32, zero_add]
  simp only [Fin.sum_univ_one]
  rw [val_main_v26_apply, ← v23_apply, ← v25_apply]
  refine congrArg _ (funext fun a => ?_)
  match a with
  | ⟨0, _⟩ => rfl
  | ⟨1, _⟩ => rfl

end Cert.RefMixBwdIdeal.Val
-- ==== Proof.MixBwdR.lean ====
module

public import proofs.«01_k».proof.Proof.MixBwdV
public import proofs.«01_k».proof.Proof.MixBwdRef
public import proofs.«01_k».proof.Proof.Gen.RefMixBwdIdeal.Run
public import proofs.«01_k».proof.Defs
public import Idealize.ShloMosaic.Lib.Quiescent

/-! # The gradient of the spatial mixer -/

@[expose] public section

noncomputable section

set_option maxRecDepth 16384

namespace Cert.MixBwdIdeal.Val

open Cert.MixBwdIdeal Cert.MixBwdIdeal.Gen Cert.Mm Cert.Mix Idealize.ShloMosaic Idealize.ShloMosaic.TcCoe Idealize.SL.Sem

variable (m : (ℓ : Loc nD τ sig) → Buf (Elt Ideal) ℓ) (ρ : Dev nD → PrngReg) (c : Dev nD)

/-- The arguments. -/
abbrev x0 : FVec Ideal S4096x6144 .f32 := m ((c : Thread nD τ).loc main_arg0)
abbrev x1 : FVec Ideal S4096x12288 .f32 := m ((c : Thread nD τ).loc main_arg1)
abbrev x2 : FVec Ideal S4096x6144 .f32 := m ((c : Thread nD τ).loc main_arg2)
abbrev x3 : FVec Ideal S8x128x128 .f32 := m ((c : Thread nD τ).loc main_arg3)
abbrev x4 : FVec Ideal S8x128 .f32 := m ((c : Thread nD τ).loc main_arg4)

/-- The gradient of the mixed rows. -/
abbrev ups (A : FVec Ideal S4096x6144 .f32) (B : FVec Ideal S4096x12288 .f32) (i j : ℕ) : EReal := nat A i j * nat B i j

def res5 (A C : FVec Ideal S4096x6144 .f32) (D : FVec Ideal S8x128x128 .f32) (E : FVec Ideal S8x128 .f32) : FVec Ideal S4096x6144 .bf16 :=
  fun y => nat A (y 0).val (y 1).val * mix (nat C) (nat3 D) (nat E) (y 0).val (y 1).val
def res6 (A : FVec Ideal S4096x6144 .f32) (B : FVec Ideal S4096x12288 .f32) (D : FVec Ideal S8x128x128 .f32) : FVec Ideal S4096x6144 .bf16 :=
  fun y => mixT (ups A B) (nat3 D) (y 0).val (y 1).val
def res7 (A : FVec Ideal S4096x6144 .f32) (B : FVec Ideal S4096x12288 .f32) (C : FVec Ideal S4096x6144 .f32) : FVec Ideal S8x128x128 .f32 :=
  fun y => mask (y 1).val (y 2).val (∑ n ∈ Finset.range 32, dwT (ups A B) (nat C) (y 0).val n (y 1).val (y 2).val)
def res8 (A : FVec Ideal S4096x6144 .f32) (B : FVec Ideal S4096x12288 .f32) : FVec Ideal S8x128x128 .f32 :=
  fun y => ∑ n ∈ Finset.range 32, dbT (ups A B) (y 0).val n (y 1).val

theorem arr0 : (V m c main_v0 : FVec Ideal S4096x6144 .bf16) = x0 m c := by
  rfl

theorem arr1 : (V m c main_v1 : FVec Ideal S4096x12288 .bf16) = x1 m c := by
  rfl

theorem arr2 : (V m c main_v2 : FVec Ideal S4096x6144 .bf16) = x2 m c := by
  rfl

theorem arr3 : (V m c main_arg3 : FVec Ideal S8x128x128 .f32) = x3 m c := by
  rfl

theorem arr4 (g : Fin 8) (i j : Fin 128) : (V m c main_v4 : FVec Ideal S8x128x128 .f32) (ix3 g i j) = nat (x4 m c) g.val i.val := by
  have e : (V m c main_v4 : FVec Ideal S8x128x128 .f32)
      = broadcastInDim S8x128x128 ![0, 1, 2] bcast_S8x128x1_S8x128x128_0_1_2 (broadcastInDim S8x128x1 ![0, 1] bcast_S8x128_S8x128x1_0_1 (x4 m c)) := by
    rfl
  rw [e, nat_val]
  pointwise

theorem idx0 (t : Fin cfg0.N) : win0_0.index t = ![t.val % 8, t.val / 8] := by
  revert t; decide +kernel
theorem idx1 (t : Fin cfg0.N) : win0_1.index t = ![t.val % 8, t.val / 8] := by
  revert t; decide +kernel
theorem idx2 (t : Fin cfg0.N) : win0_2.index t = ![t.val % 8, t.val / 8] := by
  revert t; decide +kernel
theorem idx3 (t : Fin cfg0.N) : win0_3.index t = ![t.val / 8, 0, 0] := by
  revert t; decide +kernel
theorem idx4 (t : Fin cfg0.N) : win0_4.index t = ![t.val / 8, 0, 0] := by
  revert t; decide +kernel
theorem idx5 (t : Fin cfg0.N) : win0_5.index t = ![t.val % 8, t.val / 8] := by
  revert t; decide +kernel
theorem idx6 (t : Fin cfg0.N) : win0_6.index t = ![t.val % 8, t.val / 8] := by
  revert t; decide +kernel
theorem idx7 (t : Fin cfg0.N) : win0_7.index t = ![t.val / 8, 0, 0] := by
  revert t; decide +kernel
theorem idx8 (t : Fin cfg0.N) : win0_8.index t = ![t.val / 8, 0, 0] := by
  revert t; decide +kernel

theorem lt64 (t : Fin cfg0.N) : t.val < 64 := lt_of_lt_of_eq t.isLt N_0

theorem blk0 (t : Fin cfg0.N) (r : Fin 512) (d : Fin 768) :
    (iblk m c 0 t : Vec Ideal S512x768 .bf16) (ix2 r d) = nat (x0 m c) (t.val % 8 * 512 + r.val) (t.val / 8 * 768 + d.val) := by
  have ht := lt64 t
  rw [← arr0 m c]
  refine Eq.trans ?_ (nat_val _ ⟨t.val % 8 * 512 + r.val, by omega⟩ ⟨t.val / 8 * 768 + d.val, by omega⟩).symm
  blk_ext [iblk, idx0 t]

theorem blk1 (t : Fin cfg0.N) (r : Fin 512) (d : Fin 768) :
    (iblk m c 1 t : Vec Ideal S512x768 .bf16) (ix2 r d) = nat (x1 m c) (t.val % 8 * 512 + r.val) (t.val / 8 * 768 + d.val) := by
  have ht := lt64 t
  rw [← arr1 m c]
  refine Eq.trans ?_ (nat_val _ ⟨t.val % 8 * 512 + r.val, by omega⟩ ⟨t.val / 8 * 768 + d.val, by omega⟩).symm
  blk_ext [iblk, idx1 t]

theorem blk2 (t : Fin cfg0.N) (r : Fin 512) (d : Fin 768) :
    (iblk m c 2 t : Vec Ideal S512x768 .bf16) (ix2 r d) = nat (x2 m c) (t.val % 8 * 512 + r.val) (t.val / 8 * 768 + d.val) := by
  have ht := lt64 t
  rw [← arr2 m c]
  refine Eq.trans ?_ (nat_val _ ⟨t.val % 8 * 512 + r.val, by omega⟩ ⟨t.val / 8 * 768 + d.val, by omega⟩).symm
  blk_ext [iblk, idx2 t]

theorem blk3 (t : Fin cfg0.N) (i j : Fin 128) :
    (iblk m c 3 t : Vec Ideal S1x128x128 .f32) (ix3 0 i j) = nat3 (x3 m c) (t.val / 8) i.val j.val := by
  have ht := lt64 t
  rw [← arr3 m c]
  refine Eq.trans ?_ (nat3_val _ ⟨t.val / 8, by omega⟩ i j).symm
  blk_ext [iblk, idx3 t]

theorem blk4 (t : Fin cfg0.N) (i j : Fin 128) :
    (iblk m c 4 t : Vec Ideal S1x128x128 .f32) (ix3 0 i j) = nat (x4 m c) (t.val / 8) i.val := by
  have ht := lt64 t
  refine Eq.trans ?_ (arr4 m c ⟨t.val / 8, by omega⟩ i j)
  blk_ext [iblk, idx4 t]

section Loads

variable (t : Fin cfg0.N) (o : ℕ) (inb : ∀ a, (![o, 0] : Fin 2 → ℕ) a + (![128, 768] : Fin 2 → ℕ) a ≤ S512x768.size a) (i : Fin 128) (d : Fin 768)

theorem ld_apply (X : Vec Ideal S512x768 .bf16) :
    View.ld X (Rect.unit ![o, 0] ![128, 768] inb) (ix2 i d) = X (ix2 ⟨o + i.val, by have h : o + 128 ≤ 512 := inb 0; omega⟩ d) :=
  View.ld_unit_apply_of X _ _ inb _ _ fun a => match a with
    | ⟨0, _⟩ => rfl
    | ⟨1, _⟩ => (Nat.zero_add _).symm

theorem ld0 : View.ld (iblk m c 0 t : Vec Ideal S512x768 .bf16) (Rect.unit ![o, 0] ![128, 768] inb) (ix2 i d)
    = nat (x0 m c) (t.val % 8 * 512 + (o + i.val)) (t.val / 8 * 768 + d.val) := by
  rw [ld_apply, blk0]

theorem ld1 : View.ld (iblk m c 1 t : Vec Ideal S512x768 .bf16) (Rect.unit ![o, 0] ![128, 768] inb) (ix2 i d)
    = nat (x1 m c) (t.val % 8 * 512 + (o + i.val)) (t.val / 8 * 768 + d.val) := by
  rw [ld_apply, blk1]

theorem ld2 : View.ld (iblk m c 2 t : Vec Ideal S512x768 .bf16) (Rect.unit ![o, 0] ![128, 768] inb) (ix2 i d)
    = nat (x2 m c) (t.val % 8 * 512 + (o + i.val)) (t.val / 8 * 768 + d.val) := by
  rw [ld_apply, blk2]

theorem ld4 (inb4) : View.ld (iblk m c 4 t : Vec Ideal S1x128x128 .f32) (Rect.unit ![0, 0, 0] ![1, 128, 1] inb4) (ix3 0 i 0)
    = nat (x4 m c) (t.val / 8) i.val := by
  rw [← blk4 m c t i 0]
  exact View.ld_unit_apply_of _ _ _ inb4 _ _ fun a => match a with
    | ⟨0, _⟩ => rfl
    | ⟨1, _⟩ => (Nat.zero_add _).symm
    | ⟨2, _⟩ => rfl

theorem du_piece (ho : o % 128 = 0) (inb4) :
    k0_pay26 (wv (iblk m c 3 t)) (k0_pay14 (View.ld (iblk m c 4 t : Vec Ideal S1x128x128 .f32) (Rect.unit ![0, 0, 0] ![1, 128, 1] inb4)))
      (View.ld (iblk m c 2 t : Vec Ideal S512x768 .bf16) (Rect.unit ![o, 0] ![128, 768] inb))
      (View.ld (iblk m c 0 t : Vec Ideal S512x768 .bf16) (Rect.unit ![o, 0] ![128, 768] inb)) (ix2 i d)
      = nat (x0 m c) (t.val % 8 * 512 + (o + i.val)) (t.val / 8 * 768 + d.val)
        * mix (nat (x2 m c)) (nat3 (x3 m c)) (nat (x4 m c)) (t.val % 8 * 512 + (o + i.val)) (t.val / 8 * 768 + d.val) := by
  rw [pay26_apply, pay14_apply]
  simp only [wv_apply, ld0, ld2, ld4, blk3]
  unfold mix
  have h1 : (t.val / 8 * 768 + d.val) / 768 = t.val / 8 := by omega
  have h2 : (t.val % 8 * 512 + (o + i.val)) % 128 = i.val := by omega
  have h3 : ∀ k, (t.val % 8 * 512 + (o + i.val)) / 128 * 128 + k = t.val % 8 * 512 + (o + k) := by omega
  simp only [h1, h2, h3]

theorem dv_piece (ho : o % 128 = 0) :
    k0_pay29 (wv (iblk m c 3 t)) (View.ld (iblk m c 0 t : Vec Ideal S512x768 .bf16) (Rect.unit ![o, 0] ![128, 768] inb))
      (View.ld (iblk m c 1 t : Vec Ideal S512x768 .bf16) (Rect.unit ![o, 0] ![128, 768] inb)) (ix2 i d)
      = mixT (ups (x0 m c) (x1 m c)) (nat3 (x3 m c)) (t.val % 8 * 512 + (o + i.val)) (t.val / 8 * 768 + d.val) := by
  rw [pay29_apply]
  simp only [wv_apply, ld0, ld1, blk3]
  unfold mixT
  have h1 : (t.val / 8 * 768 + d.val) / 768 = t.val / 8 := by omega
  have h2 : (t.val % 8 * 512 + (o + i.val)) % 128 = i.val := by omega
  have h3 : ∀ k, (t.val % 8 * 512 + (o + i.val)) / 128 * 128 + k = t.val % 8 * 512 + (o + k) := by omega
  simp only [h1, h2, h3]

end Loads

/-- What point `s` adds to the gradient of the weights, and of the offsets. -/
def stepW (s : ℕ) (y : S1x128x128.Idx) : EReal :=
  mask (y 1).val (y 2).val (dwT (ups (x0 m c) (x1 m c)) (nat (x2 m c)) (s / 8) (4 * (s % 8)) (y 1).val (y 2).val
    + dwT (ups (x0 m c) (x1 m c)) (nat (x2 m c)) (s / 8) (4 * (s % 8) + 1) (y 1).val (y 2).val
    + dwT (ups (x0 m c) (x1 m c)) (nat (x2 m c)) (s / 8) (4 * (s % 8) + 2) (y 1).val (y 2).val
    + dwT (ups (x0 m c) (x1 m c)) (nat (x2 m c)) (s / 8) (4 * (s % 8) + 3) (y 1).val (y 2).val)

def stepB (s : ℕ) (y : S1x128x128.Idx) : EReal :=
  dbT (ups (x0 m c) (x1 m c)) (s / 8) (4 * (s % 8)) (y 1).val
    + dbT (ups (x0 m c) (x1 m c)) (s / 8) (4 * (s % 8) + 1) (y 1).val
    + dbT (ups (x0 m c) (x1 m c)) (s / 8) (4 * (s % 8) + 2) (y 1).val
    + dbT (ups (x0 m c) (x1 m c)) (s / 8) (4 * (s % 8) + 3) (y 1).val

theorem row0 (s i : ℕ) : 128 * (4 * (s % 8)) + i = s % 8 * 512 + (0 + i) := by omega
theorem row1 (s i : ℕ) : 128 * (4 * (s % 8) + 1) + i = s % 8 * 512 + (128 + i) := by omega
theorem row2 (s i : ℕ) : 128 * (4 * (s % 8) + 2) + i = s % 8 * 512 + (256 + i) := by omega
theorem row3 (s i : ℕ) : 128 * (4 * (s % 8) + 3) + i = s % 8 * 512 + (384 + i) := by omega

theorem out5 (t : Fin cfg0.N) (y : S512x768.Idx) :
    (outsAt0 m c t.val t.isLt).1 y = nat (x0 m c) (t.val % 8 * 512 + (y 0).val) (t.val / 8 * 768 + (y 1).val)
        * mix (nat (x2 m c)) (nat3 (x3 m c)) (nat (x4 m c)) (t.val % 8 * 512 + (y 0).val) (t.val / 8 * 768 + (y 1).val) := by
  by_cases h : t.val % 8 = 0
  · rw [outsAt0_A m c t h (by omega)]
    frame_out
    canon_tiles x h
    all_goals
      rw [h0, h1]
      idx_vars x
    · exact du_piece m c t 384 _ _ _ rfl _
    · exact du_piece m c t 256 _ _ _ rfl _
    · exact du_piece m c t 128 _ _ _ rfl _
    · refine (du_piece m c t 0 _ _ _ rfl _).trans ?_
      simp only [Nat.zero_add]
  · rw [outsAt0_B m c t h (by omega)]
    frame_out
    canon_tiles x h
    all_goals
      rw [h0, h1]
      idx_vars x
    · exact du_piece m c t 384 _ _ _ rfl _
    · exact du_piece m c t 256 _ _ _ rfl _
    · exact du_piece m c t 128 _ _ _ rfl _
    · refine (du_piece m c t 0 _ _ _ rfl _).trans ?_
      simp only [Nat.zero_add]

theorem out6 (t : Fin cfg0.N) (y : S512x768.Idx) :
    (outsAt0 m c t.val t.isLt).2.1 y
      = mixT (ups (x0 m c) (x1 m c)) (nat3 (x3 m c)) (t.val % 8 * 512 + (y 0).val) (t.val / 8 * 768 + (y 1).val) := by
  by_cases h : t.val % 8 = 0
  · rw [outsAt0_A m c t h (by omega)]
    frame_out
    canon_tiles x h
    all_goals
      rw [h0, h1]
      idx_vars x
    · exact dv_piece m c t 384 _ _ _ rfl
    · exact dv_piece m c t 256 _ _ _ rfl
    · exact dv_piece m c t 128 _ _ _ rfl
    · refine (dv_piece m c t 0 _ _ _ rfl).trans ?_
      simp only [Nat.zero_add]
  · rw [outsAt0_B m c t h (by omega)]
    frame_out
    canon_tiles x h
    all_goals
      rw [h0, h1]
      idx_vars x
    · exact dv_piece m c t 384 _ _ _ rfl
    · exact dv_piece m c t 256 _ _ _ rfl
    · exact dv_piece m c t 128 _ _ _ rfl
    · refine (dv_piece m c t 0 _ _ _ rfl).trans ?_
      simp only [Nat.zero_add]

theorem out7_A (t : Fin cfg0.N) (h : t.val % 8 = 0) (y : S1x128x128.Idx) : (outsAt0 m c t.val t.isLt).2.2.1 y = 0 + stepW m c t.val y := by
  rw [outsAt0_A m c t h (by omega), zero_add]
  frame_out
  idx_vars y
  obtain rfl : y0 = 0 := Subsingleton.elim _ _
  refine (pay3_apply _ _ _ _ _).trans ((pay1_apply _ _ _ _ _ _ _ _ _ _ _ _ _ _).trans ?_)
  simp only [dwS, ld0, ld1, ld2, stepW, dwT, row0, row1, row2, row3, Nat.mul_comm 768]
  rfl

theorem out7_B (t : Fin cfg0.N) (h : ¬t.val % 8 = 0) (y : S1x128x128.Idx) :
    (outsAt0 m c t.val t.isLt).2.2.1 y
      = (outsAt0 m c (t.val - 1) (Nat.lt_of_le_of_lt (Nat.sub_le _ _) t.isLt)).2.2.1 y + stepW m c t.val y := by
  rw [outsAt0_B m c t h (by omega)]
  frame_out
  idx_vars y
  obtain rfl : y0 = 0 := Subsingleton.elim _ _
  refine (pay5_apply _ _ _ _ _ _).trans (congrArg _ ((pay1_apply _ _ _ _ _ _ _ _ _ _ _ _ _ _).trans ?_))
  simp only [dwS, ld0, ld1, ld2, stepW, dwT, row0, row1, row2, row3, Nat.mul_comm 768]
  rfl

theorem out8_A (t : Fin cfg0.N) (h : t.val % 8 = 0) (y : S1x128x128.Idx) : (outsAt0 m c t.val t.isLt).2.2.2 y = 0 + stepB m c t.val y := by
  rw [outsAt0_A m c t h (by omega), zero_add]
  frame_out
  idx_vars y
  obtain rfl : y0 = 0 := Subsingleton.elim _ _
  refine (pay4_apply _ _ _ _).trans ((pay2_apply _ _ _ _ _ _ _ _ _ _).trans ?_)
  simp only [dbS, ld0, ld1, stepB, dbT, row0, row1, row2, row3, Nat.mul_comm 768]
  rfl

theorem out8_B (t : Fin cfg0.N) (h : ¬t.val % 8 = 0) (y : S1x128x128.Idx) :
    (outsAt0 m c t.val t.isLt).2.2.2 y
      = (outsAt0 m c (t.val - 1) (Nat.lt_of_le_of_lt (Nat.sub_le _ _) t.isLt)).2.2.2 y + stepB m c t.val y := by
  rw [outsAt0_B m c t h (by omega)]
  frame_out
  idx_vars y
  obtain rfl : y0 = 0 := Subsingleton.elim _ _
  refine (pay6_apply _ _ _ _ _).trans (congrArg _ ((pay2_apply _ _ _ _ _ _ _ _ _ _).trans ?_))
  simp only [dbS, ld0, ld1, stepB, dbT, row0, row1, row2, row3, Nat.mul_comm 768]
  rfl

theorem final5 : (dats m 0 c).arrAt 5 cfg0.N = res5 (x0 m c) (x2 m c) (x3 m c) (x4 m c) := by
  refine (dats m 0 c).arrAt_eq_of_covers 5 _ (by decide +kernel) fun t ht y => ?_
  blk_simp
  rw [after0_5]
  refine (out5 m c t y).trans ?_
  idx_vars y
  have e : ((cfg0.win 5).blk t).view.emb (ix2 y0 y1)
      = (ix2 ⟨t.val % 8 * 512 + y0.val, by omega⟩ ⟨t.val / 8 * 768 + y1.val, by have := lt64 t; omega⟩ : S4096x6144.Idx) := by
    blk_ext [idx5 t]
  rw [e]
  rfl

theorem final6 : (dats m 0 c).arrAt 6 cfg0.N = res6 (x0 m c) (x1 m c) (x3 m c) := by
  refine (dats m 0 c).arrAt_eq_of_covers 6 _ (by decide +kernel) fun t ht y => ?_
  blk_simp
  rw [after0_6]
  refine (out6 m c t y).trans ?_
  idx_vars y
  have e : ((cfg0.win 6).blk t).view.emb (ix2 y0 y1)
      = (ix2 ⟨t.val % 8 * 512 + y0.val, by omega⟩ ⟨t.val / 8 * 768 + y1.val, by have := lt64 t; omega⟩ : S4096x6144.Idx) := by
    blk_ext [idx6 t]
  rw [e]
  rfl

theorem sum7 (t : Fin cfg0.N) (r : ℕ) (hr : t.val % 8 = r) (y : S1x128x128.Idx) :
    (outsAt0 m c t.val t.isLt).2.2.1 y = 0 + ∑ k ∈ Finset.range (r + 1), stepW m c (8 * (t.val / 8) + k) y :=
  Pipeline.eq_sum_of_reset_step_apply_of_mod (fun n h => (outsAt0 m c n h).2.2.1) 8 (fun _ => 0) (fun s y => stepW m c s y)
    (fun s hs y => out7_A m c s hs y) (fun s hs y => out7_B m c s hs y) t hr y

theorem sum8 (t : Fin cfg0.N) (r : ℕ) (hr : t.val % 8 = r) (y : S1x128x128.Idx) :
    (outsAt0 m c t.val t.isLt).2.2.2 y = 0 + ∑ k ∈ Finset.range (r + 1), stepB m c (8 * (t.val / 8) + k) y :=
  Pipeline.eq_sum_of_reset_step_apply_of_mod (fun n h => (outsAt0 m c n h).2.2.2) 8 (fun _ => 0) (fun s y => stepB m c s y)
    (fun s hs y => out8_A m c s hs y) (fun s hs y => out8_B m c s hs y) t hr y

theorem final7 : (dats m 0 c).arrAt 7 cfg0.N = res7 (x0 m c) (x1 m c) (x2 m c) := by
  refine (dats m 0 c).arrAt_eq_of_covers 7 _ (by decide +kernel) fun t ht y => ?_
  have hr : t.val % 8 = 7 := (flush0_7 t).mp ht
  blk_simp
  rw [after0_7]
  refine (sum7 m c t 7 hr y).trans ?_
  idx_vars y
  have e : ((cfg0.win 7).blk t).view.emb (ix3 y0 y1 y2) = (ix3 ⟨t.val / 8, by have := lt64 t; omega⟩ y1 y2 : S8x128x128.Idx) := by
    blk_ext [idx7 t]
  rw [e, zero_add]
  unfold res7 stepW
  rw [← sum_runs, ← sum_mask]
  refine Finset.sum_congr rfl fun k hk => ?_
  have h8 := Finset.mem_range.mp hk
  have h1 : (8 * (t.val / 8) + k) / 8 = t.val / 8 := by omega
  have h2 : (8 * (t.val / 8) + k) % 8 = k := by omega
  rw [h1, h2]
  rfl

theorem final8 : (dats m 0 c).arrAt 8 cfg0.N = res8 (x0 m c) (x1 m c) := by
  refine (dats m 0 c).arrAt_eq_of_covers 8 _ (by decide +kernel) fun t ht y => ?_
  have hr : t.val % 8 = 7 := (flush0_8 t).mp ht
  blk_simp
  rw [after0_8]
  refine (sum8 m c t 7 hr y).trans ?_
  idx_vars y
  have e : ((cfg0.win 8).blk t).view.emb (ix3 y0 y1 y2) = (ix3 ⟨t.val / 8, by have := lt64 t; omega⟩ y1 y2 : S8x128x128.Idx) := by
    blk_ext [idx8 t]
  rw [e, zero_add]
  unfold res8 stepB
  rw [← sum_runs]
  refine Finset.sum_congr rfl fun k hk => ?_
  have h8 := Finset.mem_range.mp hk
  have h1 : (8 * (t.val / 8) + k) / 8 = t.val / 8 := by omega
  have h2 : (8 * (t.val / 8) + k) % 8 = k := by omega
  rw [h1, h2]
  rfl

/-- Every run ends with the results and the arguments unchanged. -/
theorem run : θ_run defs (onTc (τ := τ) (main (F := Ideal))) ⟨m, fun _ => 0, ρ⟩ (fun r => ∀ c : Dev nD,
      r.2.mem ((c.tc : Thread nD τ).loc main_v5_0) = res5 (x0 m c) (x2 m c) (x3 m c) (x4 m c)
      ∧ r.2.mem ((c.tc : Thread nD τ).loc main_v5_1) = res6 (x0 m c) (x1 m c) (x3 m c)
      ∧ r.2.mem ((c.tc : Thread nD τ).loc main_v5_2) = res7 (x0 m c) (x1 m c) (x2 m c)
      ∧ r.2.mem ((c.tc : Thread nD τ).loc main_v5_3) = res8 (x0 m c) (x1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), ((h.1 c).1 7).trans (final7 m c), ((h.1 c).1 8).trans (final8 m c), h.2 c⟩) (θ_run_and (run_main m ρ) (unchanged m ρ))

end Cert.MixBwdIdeal.Val

namespace Cert.RefMixBwdIdeal.Val

open Cert.RefMixBwdIdeal Cert.RefMixBwdIdeal.Gen Cert.RefMixBwdIdeal.Read Idealize.ShloMosaic

variable (x0 : FVec Ideal S4096x6144 .f32) (x1 : FVec Ideal S4096x12288 .f32) (x2 : FVec Ideal S4096x6144 .f32) (x3 : FVec Ideal S8x128x128 .f32) (x4 : FVec Ideal S8x128 .f32)

theorem read5 : val_main_v35 (F := Ideal) x0 x2 x3 x4 = Cert.MixBwdIdeal.Val.res5 x0 x2 x3 x4 := by
  funext y
  idx_vars y
  exact v35_apply _ _ _ _ _ _

theorem read6 : val_main_v36 (F := Ideal) x0 x1 x3 = Cert.MixBwdIdeal.Val.res6 x0 x1 x3 := by
  funext y
  idx_vars y
  exact v36_apply _ _ _ _ _

theorem read7 : val_main_v33 (F := Ideal) x0 x1 x2 = Cert.MixBwdIdeal.Val.res7 x0 x1 x2 := by
  funext y
  idx_vars y
  exact v33_apply _ _ _ _ _ _

theorem read8 : val_main_v38 (F := Ideal) x0 x1 = Cert.MixBwdIdeal.Val.res8 x0 x1 := by
  funext y
  idx_vars y
  exact v38_apply _ _ _ _ _

end Cert.RefMixBwdIdeal.Val

namespace Cert.MixBwdIdeal.Val

open Idealize.ShloMosaic Idealize.SL.Sem

theorem frame_reference : Cert.quiescent_RefMixBwdIdeal := fun m ρ _ =>
  (θ_run Cert.RefMixBwdIdeal.defs _ _).mono (fun r h => ⟨fun c => (h c).2.2.2.2,
      Idealize.ShloMosaic.sem_eq_zero_of_no_sems (by decide) r.2⟩)
    (Cert.RefMixBwdIdeal.Value.run (F := Ideal) m ρ)

theorem algebraic : Cert.algebraic_MixBwdIdeal_RefMixBwdIdeal := by
  intro m g m' g' _ hargs
  refine ⟨fun c => _, fun c => _, fun c => _, fun c => _, run m g, (θ_run Cert.RefMixBwdIdeal.defs _ _).mono (fun r h c => ?_) (Cert.RefMixBwdIdeal.Value.run (F := Ideal) m' g')⟩
  obtain ⟨a0, a1, a2, a3, a4⟩ := hargs c
  refine ⟨(h c).1.trans ((Cert.RefMixBwdIdeal.Read.val_main_v35_eq (m' ((c.tc : Thread Cert.RefMixBwdIdeal.nD Cert.RefMixBwdIdeal.τ).loc Cert.RefMixBwdIdeal.main_arg0)) (m' ((c.tc : Thread Cert.RefMixBwdIdeal.nD Cert.RefMixBwdIdeal.τ).loc Cert.RefMixBwdIdeal.main_arg2)) (m' ((c.tc : Thread Cert.RefMixBwdIdeal.nD Cert.RefMixBwdIdeal.τ).loc Cert.RefMixBwdIdeal.main_arg3)) (m' ((c.tc : Thread Cert.RefMixBwdIdeal.nD Cert.RefMixBwdIdeal.τ).loc Cert.RefMixBwdIdeal.main_arg4))).trans ?_), (h c).2.1.trans ((Cert.RefMixBwdIdeal.Read.val_main_v36_eq (m' ((c.tc : Thread Cert.RefMixBwdIdeal.nD Cert.RefMixBwdIdeal.τ).loc Cert.RefMixBwdIdeal.main_arg0)) (m' ((c.tc : Thread Cert.RefMixBwdIdeal.nD Cert.RefMixBwdIdeal.τ).loc Cert.RefMixBwdIdeal.main_arg1)) (m' ((c.tc : Thread Cert.RefMixBwdIdeal.nD Cert.RefMixBwdIdeal.τ).loc Cert.RefMixBwdIdeal.main_arg3))).trans ?_),
    (h c).2.2.1.trans ((Cert.RefMixBwdIdeal.Read.val_main_v33_eq (m' ((c.tc : Thread Cert.RefMixBwdIdeal.nD Cert.RefMixBwdIdeal.τ).loc Cert.RefMixBwdIdeal.main_arg0)) (m' ((c.tc : Thread Cert.RefMixBwdIdeal.nD Cert.RefMixBwdIdeal.τ).loc Cert.RefMixBwdIdeal.main_arg1)) (m' ((c.tc : Thread Cert.RefMixBwdIdeal.nD Cert.RefMixBwdIdeal.τ).loc Cert.RefMixBwdIdeal.main_arg2))).trans ?_), (h c).2.2.2.1.trans ((Cert.RefMixBwdIdeal.Read.val_main_v38_eq (m' ((c.tc : Thread Cert.RefMixBwdIdeal.nD Cert.RefMixBwdIdeal.τ).loc Cert.RefMixBwdIdeal.main_arg0)) (m' ((c.tc : Thread Cert.RefMixBwdIdeal.nD Cert.RefMixBwdIdeal.τ).loc Cert.RefMixBwdIdeal.main_arg1))).trans ?_), (h c).2.2.2.2⟩
  · rw [a0, a2, a3, a4]
    exact Cert.RefMixBwdIdeal.Val.read5 _ _ _ _
  · rw [a0, a1, a3]
    exact Cert.RefMixBwdIdeal.Val.read6 _ _ _
  · rw [a0, a1, a2]
    exact Cert.RefMixBwdIdeal.Val.read7 _ _ _
  · rw [a0, a1]
    exact Cert.RefMixBwdIdeal.Val.read8 _ _

end Cert.MixBwdIdeal.Val
-- ==== Proof.MixFwdR.lean ====
module

public import proofs.«01_k».proof.Proof.MixBwdV
public import proofs.«01_k».proof.Proof.MixBwdRef
public import proofs.«01_k».proof.Proof.Gen.MixFwdIdeal.Frame
public import proofs.«01_k».proof.Proof.Gen.RefMixFwdIdeal.Read
public import proofs.«01_k».proof.Proof.Gen.RefMixFwdIdeal.Run
public import proofs.«01_k».proof.Defs
public import Idealize.ShloMosaic.Lib.Quiescent

/-! # The spatial mixer, gated -/

@[expose] public section

noncomputable section

set_option maxRecDepth 16384

namespace Cert.MixFwdIdeal.Val

open Cert.MixFwdIdeal Cert.MixFwdIdeal.Gen Cert.Mm Cert.Mix Idealize.ShloMosaic Idealize.ShloMosaic.TcCoe Idealize.SL.Sem

/-- The masked weights, as the gradient reads them too. -/
abbrev wv (x : Vec Ideal S1x128x128 .f32) : FVec Ideal S128x128 .bf16 := k0_pay8 k0_pay3 k0_pay4 k0_pay5 k0_pay6 k0_pay7 x

theorem wv_apply (x : Vec Ideal S1x128x128 .f32) (i j : Fin 128) : wv x (ix2 i j) = mask i.val j.val (x (ix3 0 i j)) :=
  (congrFun (rfl : wv x = Cert.MixBwdIdeal.Val.wv x) _).trans (Cert.MixBwdIdeal.Val.wv_apply x i j)

theorem pay9_apply (v : Vec Ideal S1x128x1 .f32) (i : Fin 128) : k0_pay9 v (ix2 i 0) = v (ix3 0 i 0) := by
  pointwise [k0_pay9]

theorem pay2_apply (w : FVec Ideal S128x128 .bf16) (b : FVec Ideal S128x1 .f32) (v u : Vec Ideal S128x768 .bf16) (i : Fin 128) (d : Fin 768) :
    k0_pay2 w b v u (ix2 i d) = u (ix2 i d) * ((∑ k, w (ix2 i k) * v (ix2 k d)) + b (ix2 i 0)) := by
  pointwise [k0_pay2]

variable (m : (ℓ : Loc nD τ sig) → Buf (Elt Ideal) ℓ) (ρ : Dev nD → PrngReg) (c : Dev nD)

/-- The arguments. -/
abbrev x0 : FVec Ideal S4096x12288 .f32 := m ((c : Thread nD τ).loc main_arg0)
abbrev x1 : FVec Ideal S4096x6144 .f32 := m ((c : Thread nD τ).loc main_arg1)
abbrev x2 : FVec Ideal S8x128x128 .f32 := m ((c : Thread nD τ).loc main_arg2)
abbrev x3 : FVec Ideal S8x128 .f32 := m ((c : Thread nD τ).loc main_arg3)

def res4 (A : FVec Ideal S4096x12288 .f32) (B : FVec Ideal S4096x6144 .f32) (C : FVec Ideal S8x128x128 .f32) (D : FVec Ideal S8x128 .f32) :
    FVec Ideal S4096x6144 .bf16 :=
  fun y => nat A (y 0).val (y 1).val * mix (nat B) (nat3 C) (nat D) (y 0).val (y 1).val

theorem arr0 : (V m c main_v0 : FVec Ideal S4096x12288 .bf16) = x0 m c := by
  rfl

theorem arr1 : (V m c main_v1 : FVec Ideal S4096x6144 .bf16) = x1 m c := by
  rfl

theorem arr2 : (V m c main_arg2 : FVec Ideal S8x128x128 .f32) = x2 m c := by
  rfl

theorem arr3 (g : Fin 8) (i j : Fin 128) : (V m c main_v3 : FVec Ideal S8x128x128 .f32) (ix3 g i j) = nat (x3 m c) g.val i.val := by
  have e : (V m c main_v3 : FVec Ideal S8x128x128 .f32)
      = broadcastInDim S8x128x128 ![0, 1, 2] bcast_S8x128x1_S8x128x128_0_1_2 (broadcastInDim S8x128x1 ![0, 1] bcast_S8x128_S8x128x1_0_1 (x3 m c)) := by
    rfl
  rw [e, nat_val]
  pointwise

theorem idx0 (t : Fin cfg0.N) : win0_0.index t = ![t.val / 8, t.val % 8] := by
  revert t; decide +kernel
theorem idx1 (t : Fin cfg0.N) : win0_1.index t = ![t.val / 8, t.val % 8] := by
  revert t; decide +kernel
theorem idx2 (t : Fin cfg0.N) : win0_2.index t = ![t.val % 8, 0, 0] := by
  revert t; decide +kernel
theorem idx3 (t : Fin cfg0.N) : win0_3.index t = ![t.val % 8, 0, 0] := by
  revert t; decide +kernel
theorem idx4 (t : Fin cfg0.N) : win0_4.index t = ![t.val / 8, t.val % 8] := by
  revert t; decide +kernel

theorem lt64 (t : Fin cfg0.N) : t.val < 64 := lt_of_lt_of_eq t.isLt N_0

theorem blk0 (t : Fin cfg0.N) (r : Fin 512) (d : Fin 768) :
    (iblk m c 0 t : Vec Ideal S512x768 .bf16) (ix2 r d) = nat (x0 m c) (t.val / 8 * 512 + r.val) (t.val % 8 * 768 + d.val) := by
  have ht := lt64 t
  rw [← arr0 m c]
  refine Eq.trans ?_ (nat_val _ ⟨t.val / 8 * 512 + r.val, by omega⟩ ⟨t.val % 8 * 768 + d.val, by omega⟩).symm
  blk_ext [iblk, idx0 t]

theorem blk1 (t : Fin cfg0.N) (r : Fin 512) (d : Fin 768) :
    (iblk m c 1 t : Vec Ideal S512x768 .bf16) (ix2 r d) = nat (x1 m c) (t.val / 8 * 512 + r.val) (t.val % 8 * 768 + d.val) := by
  have ht := lt64 t
  rw [← arr1 m c]
  refine Eq.trans ?_ (nat_val _ ⟨t.val / 8 * 512 + r.val, by omega⟩ ⟨t.val % 8 * 768 + d.val, by omega⟩).symm
  blk_ext [iblk, idx1 t]

theorem blk2 (t : Fin cfg0.N) (i j : Fin 128) :
    (iblk m c 2 t : Vec Ideal S1x128x128 .f32) (ix3 0 i j) = nat3 (x2 m c) (t.val % 8) i.val j.val := by
  rw [← arr2 m c]
  refine Eq.trans ?_ (nat3_val _ ⟨t.val % 8, by omega⟩ i j).symm
  blk_ext [iblk, idx2 t]

theorem blk3 (t : Fin cfg0.N) (i j : Fin 128) :
    (iblk m c 3 t : Vec Ideal S1x128x128 .f32) (ix3 0 i j) = nat (x3 m c) (t.val % 8) i.val := by
  refine Eq.trans ?_ (arr3 m c ⟨t.val % 8, by omega⟩ i j)
  blk_ext [iblk, idx3 t]

section Loads

variable (t : Fin cfg0.N) (o : ℕ) (inb : ∀ a, (![o, 0] : Fin 2 → ℕ) a + (![128, 768] : Fin 2 → ℕ) a ≤ S512x768.size a) (i : Fin 128) (d : Fin 768)

theorem ld_apply (X : Vec Ideal S512x768 .bf16) :
    View.ld X (Rect.unit ![o, 0] ![128, 768] inb) (ix2 i d) = X (ix2 ⟨o + i.val, by have h : o + 128 ≤ 512 := inb 0; omega⟩ d) :=
  View.ld_unit_apply_of X _ _ inb _ _ fun a => match a with
    | ⟨0, _⟩ => rfl
    | ⟨1, _⟩ => (Nat.zero_add _).symm

theorem ld0 : View.ld (iblk m c 0 t : Vec Ideal S512x768 .bf16) (Rect.unit ![o, 0] ![128, 768] inb) (ix2 i d)
    = nat (x0 m c) (t.val / 8 * 512 + (o + i.val)) (t.val % 8 * 768 + d.val) := by
  rw [ld_apply, blk0]

theorem ld1 : View.ld (iblk m c 1 t : Vec Ideal S512x768 .bf16) (Rect.unit ![o, 0] ![128, 768] inb) (ix2 i d)
    = nat (x1 m c) (t.val / 8 * 512 + (o + i.val)) (t.val % 8 * 768 + d.val) := by
  rw [ld_apply, blk1]

theorem ld3 : View.ld (iblk m c 3 t : Vec Ideal S1x128x128 .f32) r0_1 (ix3 0 i 0) = nat (x3 m c) (t.val % 8) i.val := by
  rw [← blk3 m c t i 0]
  exact View.ld_unit_apply_of _ _ _ inb_S1x128x128_S1x128x1_0_0_0 _ _ fun a => match a with
    | ⟨0, _⟩ => rfl
    | ⟨1, _⟩ => (Nat.zero_add _).symm
    | ⟨2, _⟩ => rfl

theorem piece (ho : o % 128 = 0) :
    k0_pay2 (wv (View.ld (iblk m c 2 t : Vec Ideal S1x128x128 .f32) r0_0)) (k0_pay9 (View.ld (iblk m c 3 t : Vec Ideal S1x128x128 .f32) r0_1))
      (View.ld (iblk m c 1 t : Vec Ideal S512x768 .bf16) (Rect.unit ![o, 0] ![128, 768] inb))
      (View.ld (iblk m c 0 t : Vec Ideal S512x768 .bf16) (Rect.unit ![o, 0] ![128, 768] inb)) (ix2 i d)
      = nat (x0 m c) (t.val / 8 * 512 + (o + i.val)) (t.val % 8 * 768 + d.val)
        * mix (nat (x1 m c)) (nat3 (x2 m c)) (nat (x3 m c)) (t.val / 8 * 512 + (o + i.val)) (t.val % 8 * 768 + d.val) := by
  rw [pay2_apply, pay9_apply, ld3, View.ld_unit_zero (S := S1x128x128) hz3]
  simp only [wv_apply, ld0, ld1, blk2]
  unfold mix
  have h1 : (t.val % 8 * 768 + d.val) / 768 = t.val % 8 := by omega
  have h2 : (t.val / 8 * 512 + (o + i.val)) % 128 = i.val := by omega
  have h3 : ∀ k, (t.val / 8 * 512 + (o + i.val)) / 128 * 128 + k = t.val / 8 * 512 + (o + k) := by omega
  simp only [h1, h2, h3]

end Loads

theorem out4 (t : Fin cfg0.N) (y : S512x768.Idx) :
    out0_4 (iblk m c 0 t) (iblk m c 1 t) (iblk m c 2 t) (iblk m c 3 t) y
      = nat (x0 m c) (t.val / 8 * 512 + (y 0).val) (t.val % 8 * 768 + (y 1).val)
        * mix (nat (x1 m c)) (nat3 (x2 m c)) (nat (x3 m c)) (t.val / 8 * 512 + (y 0).val) (t.val % 8 * 768 + (y 1).val) := by
  unfold_out out0_4
  canon_tiles x h
  all_goals
    rw [h0, h1]
    idx_vars x
  · exact piece m c t 384 _ _ _ rfl
  · exact piece m c t 256 _ _ _ rfl
  · exact piece m c t 128 _ _ _ rfl
  · refine (piece m c t 0 _ _ _ rfl).trans ?_
    simp only [Nat.zero_add]

theorem final4 : (dats m 0 c).arrAt 4 cfg0.N = res4 (x0 m c) (x1 m c) (x2 m c) (x3 m c) := by
  refine (dats m 0 c).arrAt_eq_of_covers 4 _ (by decide +kernel) fun t ht y => ?_
  blk_simp
  rw [after0_4]
  refine (out4 m c t y).trans ?_
  idx_vars y
  have e : ((cfg0.win 4).blk t).view.emb (ix2 y0 y1)
      = (ix2 ⟨t.val / 8 * 512 + y0.val, by have := lt64 t; omega⟩ ⟨t.val % 8 * 768 + y1.val, by omega⟩ : S4096x6144.Idx) := by
    blk_ext [idx4 t]
  rw [e]
  rfl

/-- Every run ends with the result and the arguments unchanged. -/
theorem run : θ_run defs (onTc (τ := τ) (main (F := Ideal))) ⟨m, fun _ => 0, ρ⟩ (fun r => ∀ c : Dev nD,
      r.2.mem ((c.tc : Thread nD τ).loc main_v4) = res4 (x0 m c) (x1 m c) (x2 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), h.2 c⟩) (θ_run_and (run_main m ρ) (unchanged m ρ))

end Cert.MixFwdIdeal.Val

namespace Cert.RefMixFwdIdeal.Val

open Cert.RefMixFwdIdeal Cert.RefMixFwdIdeal.Gen Cert.RefMixFwdIdeal.Read Idealize.ShloMosaic

theorem read4 (x0 : FVec Ideal S4096x12288 .f32) (x1 : FVec Ideal S4096x6144 .f32) (x2 : FVec Ideal S8x128x128 .f32) (x3 : FVec Ideal S8x128 .f32) :
    val_main_v20 (F := Ideal) x0 x1 x2 x3 = Cert.MixFwdIdeal.Val.res4 x0 x1 x2 x3 := by
  funext y
  idx_vars y
  refine (congrFun (rfl : val_main_v20 (F := Ideal) x0 x1 x2 x3 = Cert.RefMixBwdIdeal.Read.val_main_v35 (F := Ideal) (val_main_v0 (F := Ideal) x0) x1 x2 x3) _).trans ?_
  refine (Cert.RefMixBwdIdeal.Val.v35_apply _ _ _ _ _ _).trans (congrArg (fun a : EReal => a * _) ?_)
  rw [Cert.Mm.nat_val, val_main_v0_apply]
  refine Eq.trans (congrArg x0 (funext fun a => Fin.ext ?_)) (Cert.Mm.nat_val x0 y0 ⟨y1.val, by omega⟩).symm
  match a with
  | ⟨0, _⟩ => rfl
  | ⟨1, _⟩ => rfl

end Cert.RefMixFwdIdeal.Val

namespace Cert.MixFwdIdeal.Val

open Idealize.ShloMosaic Idealize.SL.Sem

theorem frame_reference : Cert.quiescent_RefMixFwdIdeal := fun m ρ _ =>
  (θ_run Cert.RefMixFwdIdeal.defs _ _).mono (fun r h => ⟨fun c => (h c).2,
      Idealize.ShloMosaic.sem_eq_zero_of_no_sems (by decide) r.2⟩)
    (Cert.RefMixFwdIdeal.Value.run (F := Ideal) m ρ)

theorem algebraic : Cert.algebraic_MixFwdIdeal_RefMixFwdIdeal := by
  intro m g m' g' _ hargs
  refine ⟨fun c => _, run m g, (θ_run Cert.RefMixFwdIdeal.defs _ _).mono (fun r h c => ?_) (Cert.RefMixFwdIdeal.Value.run (F := Ideal) m' g')⟩
  obtain ⟨a0, a1, a2, a3⟩ := hargs c
  refine ⟨(h c).1.trans ((Cert.RefMixFwdIdeal.Read.val_main_v20_eq (m' ((c.tc : Thread Cert.RefMixFwdIdeal.nD Cert.RefMixFwdIdeal.τ).loc Cert.RefMixFwdIdeal.main_arg0)) (m' ((c.tc : Thread Cert.RefMixFwdIdeal.nD Cert.RefMixFwdIdeal.τ).loc Cert.RefMixFwdIdeal.main_arg1)) (m' ((c.tc : Thread Cert.RefMixFwdIdeal.nD Cert.RefMixFwdIdeal.τ).loc Cert.RefMixFwdIdeal.main_arg2)) (m' ((c.tc : Thread Cert.RefMixFwdIdeal.nD Cert.RefMixFwdIdeal.τ).loc Cert.RefMixFwdIdeal.main_arg3))).trans ?_), (h c).2⟩
  rw [a0, a1, a2, a3]
  exact Cert.RefMixFwdIdeal.Val.read4 _ _ _ _

end Cert.MixFwdIdeal.Val
-- ==== Proof.GateBwdR.lean ====
module

public import proofs.«01_k».proof.Proof.Gen.GateBwdIdeal.Frame
public import proofs.«01_k».proof.Proof.Gen.RefGateBwdIdeal.Read
public import proofs.«01_k».proof.Proof.Gen.RefGateBwdIdeal.Run
public import proofs.«01_k».proof.Proof.Mm
public import proofs.«01_k».proof.Defs
public import Idealize.ShloMosaic.Lib.Quiescent

/-! # The gradient of the residual gate -/

@[expose] public section

noncomputable section

set_option maxRecDepth 16384

namespace Cert.GateBwdIdeal.Val

open Cert.GateBwdIdeal Cert.GateBwdIdeal.Gen Cert.Mm Idealize.ShloMosaic Idealize.ShloMosaic.TcCoe Idealize.SL.Sem

theorem pay1_apply (a : Vec Ideal S512x2048 .f32) (g : Vec Ideal S1x2048 .f32) (r : Fin 512) (d : Fin 2048) :
    k0_pay1 a g (ix2 r d) = g (ix2 0 d) * a (ix2 r d) := by
  pointwise [k0_pay1]

theorem pay3_apply (a : Vec Ideal S512x2048 .f32) (b : Vec Ideal S512x2048 .bf16) (z : Vec Ideal S1x2048 .f32) (d : Fin 2048) :
    k0_pay3 a b z (ix2 0 d) = z (ix2 0 d) + ∑ r : Fin 512, a (ix2 r d) * b (ix2 r d) := by
  pointwise [k0_pay3]

theorem pay2_apply (d : Fin 2048) : (k0_pay2 (F := Ideal)) (ix2 0 d) = 0 := by
  pointwise [k0_pay2]

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S4096x2048 .f32 := m ((c : Thread nD τ).loc main_arg1)
abbrev x2 : FVec Ideal S1x2048 .f32 := m ((c : Thread nD τ).loc main_arg2)

def res3 (A : FVec Ideal S4096x2048 .f32) (G : FVec Ideal S1x2048 .f32) : FVec Ideal S4096x2048 .bf16 := fun y => G (ix2 0 (y 1)) * A y

def res4 (A B : FVec Ideal S4096x2048 .f32) : FVec Ideal S1x2048 .f32 := fun y => ∑ k : Fin 4096, A (ix2 k (y 1)) * B (ix2 k (y 1))

theorem arr0 : (V m c main_arg0 : FVec Ideal S4096x2048 .f32) = x0 m c := by
  rfl

theorem arr1 : (V m c main_v0 : FVec Ideal S4096x2048 .bf16) = x1 m c := by
  rfl

theorem arr2 : (V m c main_arg2 : FVec Ideal S1x2048 .f32) = x2 m c := by
  rfl

theorem idx0 (t : Fin cfg0.N) : win0_0.index t = ![t.val, 0] := by
  revert t; decide +kernel
theorem idx1 (t : Fin cfg0.N) : win0_1.index t = ![t.val, 0] := by
  revert t; decide +kernel
theorem idx2 (t : Fin cfg0.N) : win0_2.index t = ![0, 0] := by
  revert t; decide +kernel
theorem idx3 (t : Fin cfg0.N) : win0_3.index t = ![t.val, 0] := by
  revert t; decide +kernel
theorem idx4 (t : Fin cfg0.N) : win0_4.index t = ![0, 0] := by
  revert t; decide +kernel

theorem lt8 (t : Fin cfg0.N) : t.val < 8 := lt_of_lt_of_eq t.isLt N_0

theorem blk0 (t : Fin cfg0.N) (r : Fin 512) (d : Fin 2048) :
    (iblk m c 0 t : Vec Ideal S512x2048 .f32) (ix2 r d) = x0 m c (ix2 ⟨t.val * 512 + r.val, by have := lt8 t; omega⟩ d) := by
  rw [← arr0 m c]
  blk_ext [iblk, idx0 t]

theorem blk1 (t : Fin cfg0.N) (r : Fin 512) (d : Fin 2048) :
    (iblk m c 1 t : Vec Ideal S512x2048 .bf16) (ix2 r d) = x1 m c (ix2 ⟨t.val * 512 + r.val, by have := lt8 t; omega⟩ d) := by
  rw [← arr1 m c]
  blk_ext [iblk, idx1 t]

theorem blk2 (t : Fin cfg0.N) (d : Fin 2048) : (iblk m c 2 t : Vec Ideal S1x2048 .f32) (ix2 0 d) = x2 m c (ix2 0 d) := by
  rw [← arr2 m c]
  blk_ext [iblk, idx2 t]

/-- One row's product, by natural row number, and what point `s` adds. -/
abbrev row (k : ℕ) (d : Fin 2048) : EReal := nat (x0 m c) k d.val * nat (x1 m c) k d.val

def step (s : ℕ) (y : S1x2048.Idx) : EReal := ∑ r : Fin 512, row m c (s * 512 + r.val) (y 1)

theorem blk_step (t : Fin cfg0.N) (d : Fin 2048) :
    (∑ r : Fin 512, (fun a b : EReal => a * b) ((iblk m c 0 t : Vec Ideal S512x2048 .f32) (ix2 r d)) ((iblk m c 1 t : Vec Ideal S512x2048 .bf16) (ix2 r d))) = step m c t.val (ix2 0 d) := by
  refine Finset.sum_congr rfl fun r _ => ?_
  rw [blk0, blk1]
  exact congrArg₂ (fun a b : EReal => a * b) (nat_val (x0 m c) _ _).symm (nat_val (x1 m c) _ _).symm

theorem out3 (t : Fin cfg0.N) (r : Fin 512) (d : Fin 2048) :
    (outsAt0 m c t.val t.isLt).1 (ix2 r d) = x2 m c (ix2 0 d) * x0 m c (ix2 ⟨t.val * 512 + r.val, by have := lt8 t; omega⟩ d) := by
  by_cases h : t.val % 8 = 0
  · rw [outsAt0_A m c t h]
    frame_out
    refine (pay1_apply _ _ _ _).trans ?_
    rw [blk0, blk2]
  · rw [outsAt0_B m c t h]
    frame_out
    refine (pay1_apply _ _ _ _).trans ?_
    rw [blk0, blk2]

theorem out4_A (t : Fin cfg0.N) (h : t.val % 8 = 0) (y : S1x2048.Idx) : (outsAt0 m c t.val t.isLt).2 y = 0 + step m c t.val y := by
  rw [outsAt0_A m c t h]
  frame_out
  idx_vars y
  obtain rfl : y0 = 0 := Subsingleton.elim _ _
  exact (pay3_apply _ _ _ _).trans (congrArg₂ (fun a b : EReal => a + b) (pay2_apply _) (blk_step m c t y1))

theorem out4_B (t : Fin cfg0.N) (h : ¬t.val % 8 = 0) (y : S1x2048.Idx) :
    (outsAt0 m c t.val t.isLt).2 y = (outsAt0 m c (t.val - 1) (Nat.lt_of_le_of_lt (Nat.sub_le _ _) t.isLt)).2 y + step m c t.val y := by
  rw [outsAt0_B m c t h]
  frame_out
  idx_vars y
  obtain rfl : y0 = 0 := Subsingleton.elim _ _
  exact (pay3_apply _ _ _ _).trans (congrArg₂ (fun a b : EReal => a + b) rfl (blk_step m c t y1))

theorem sum4 (t : Fin cfg0.N) (r : ℕ) (hr : t.val % 8 = r) (y : S1x2048.Idx) :
    (outsAt0 m c t.val t.isLt).2 y = 0 + ∑ k ∈ Finset.range (r + 1), step m c (8 * (t.val / 8) + k) y :=
  Pipeline.eq_sum_of_reset_step_apply_of_mod (fun n h => (outsAt0 m c n h).2) 8 (fun _ => 0) (fun s y => step m c s y)
    (fun s hs y => out4_A m c s hs y) (fun s hs y => out4_B m c s hs y) t hr y

theorem final3 : (dats m 0 c).arrAt 3 cfg0.N = res3 (x0 m c) (x2 m c) := by
  refine (dats m 0 c).arrAt_eq_of_covers 3 _ (by decide +kernel) fun t ht y => ?_
  blk_simp
  rw [after0_3]
  idx_vars y
  refine (out3 m c t y0 y1).trans ?_
  have e : ((cfg0.win 3).blk t).view.emb (ix2 y0 y1) = (ix2 ⟨t.val * 512 + y0.val, by have := lt8 t; omega⟩ y1 : S4096x2048.Idx) := by
    blk_ext [idx3 t]
  rw [e]
  rfl

theorem final4 : (dats m 0 c).arrAt 4 cfg0.N = res4 (x0 m c) (x1 m c) := by
  refine (dats m 0 c).arrAt_eq_of_covers 4 _ (by decide +kernel) fun t ht y => ?_
  have hr : t.val % 8 = 7 := (flush0_4 t).mp ht
  have h0 : t.val / 8 = 0 := by have := lt8 t; omega
  blk_simp
  rw [after0_4]
  refine (sum4 m c t 7 hr y).trans ?_
  idx_vars y
  have e : ((cfg0.win 4).blk t).view.emb (ix2 y0 y1) = (ix2 y0 y1 : S1x2048.Idx) := by
    blk_ext [idx4 t]
  rw [e, zero_add, h0]
  show _ = ∑ k : Fin 4096, x0 m c (ix2 k y1) * x1 m c (ix2 k y1)
  have hs : (∑ k : Fin 4096, x0 m c (ix2 k y1) * x1 m c (ix2 k y1)) = ∑ k : Fin (8 * 512), row m c k.val y1 := by
    exact Finset.sum_congr rfl fun k _ => congrArg₂ (fun a b : EReal => a * b) (nat_val (x0 m c) k y1).symm (nat_val (x1 m c) k y1).symm
  rw [hs, ← finProdFinEquiv.sum_comp (fun k : Fin (8 * 512) => row m c k.val y1), Fintype.sum_prod_type,
    Finset.sum_range (fun k => step m c (8 * 0 + k) (ix2 y0 y1))]
  refine Finset.sum_congr rfl fun s _ => Finset.sum_congr rfl fun r _ => ?_
  have hn : (8 * 0 + s.val) * 512 + r.val = (finProdFinEquiv (s, r)).val := by
    show _ = r.val + 512 * s.val
    omega
  rw [hn]
  rfl

/-- Every run ends with the results and the arguments unchanged. -/
theorem run : θ_run defs (onTc (τ := τ) (main (F := Ideal))) ⟨m, fun _ => 0, ρ⟩ (fun r => ∀ c : Dev nD,
      r.2.mem ((c.tc : Thread nD τ).loc main_v1_0) = res3 (x0 m c) (x2 m c)
      ∧ r.2.mem ((c.tc : Thread nD τ).loc main_v1_1) = res4 (x0 m c) (x1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c), h.2 c⟩) (θ_run_and (run_main m ρ) (unchanged m ρ))

end Cert.GateBwdIdeal.Val

namespace Cert.RefGateBwdIdeal.Val

open Cert.RefGateBwdIdeal Cert.RefGateBwdIdeal.Gen Cert.RefGateBwdIdeal.Read Idealize.ShloMosaic

theorem read3 (x0 : FVec Ideal S4096x2048 .f32) (x2 : FVec Ideal S1x2048 .f32) :
    val_main_v7 (F := Ideal) x0 x2 = Cert.GateBwdIdeal.Val.res3 x0 x2 := by
  funext y
  idx_vars y
  pointwise [val_main_v7, val_main_v3, val_main_v2, Cert.GateBwdIdeal.Val.res3]

theorem read4 (x0 x1 : FVec Ideal S4096x2048 .f32) :
    val_main_v6 (F := Ideal) x0 x1 = Cert.GateBwdIdeal.Val.res4 x0 x1 := by
  funext y
  idx_vars y
  pointwise [val_main_v6, val_main_v5, val_main_v4, val_main_cst, Cert.GateBwdIdeal.Val.res4]

end Cert.RefGateBwdIdeal.Val

namespace Cert.GateBwdIdeal.Val

open Idealize.ShloMosaic Idealize.SL.Sem

theorem frame_reference : Cert.quiescent_RefGateBwdIdeal := fun m ρ _ =>
  (θ_run Cert.RefGateBwdIdeal.defs _ _).mono (fun r h => ⟨fun c => (h c).2.2,
      Idealize.ShloMosaic.sem_eq_zero_of_no_sems (by decide) r.2⟩)
    (Cert.RefGateBwdIdeal.Value.run (F := Ideal) m ρ)

theorem algebraic : Cert.algebraic_GateBwdIdeal_RefGateBwdIdeal := by
  intro m g m' g' _ hargs
  refine ⟨fun c => _, fun c => _, run m g, (θ_run Cert.RefGateBwdIdeal.defs _ _).mono (fun r h c => ?_) (Cert.RefGateBwdIdeal.Value.run (F := Ideal) m' g')⟩
  obtain ⟨a0, a1, a2⟩ := hargs c
  refine ⟨(h c).1.trans ((Cert.RefGateBwdIdeal.Read.val_main_v7_eq (m' ((c.tc : Thread Cert.RefGateBwdIdeal.nD Cert.RefGateBwdIdeal.τ).loc Cert.RefGateBwdIdeal.main_arg0)) (m' ((c.tc : Thread Cert.RefGateBwdIdeal.nD Cert.RefGateBwdIdeal.τ).loc Cert.RefGateBwdIdeal.main_arg2))).trans ?_), (h c).2.1.trans ((Cert.RefGateBwdIdeal.Read.val_main_v6_eq (m' ((c.tc : Thread Cert.RefGateBwdIdeal.nD Cert.RefGateBwdIdeal.τ).loc Cert.RefGateBwdIdeal.main_arg0)) (m' ((c.tc : Thread Cert.RefGateBwdIdeal.nD Cert.RefGateBwdIdeal.τ).loc Cert.RefGateBwdIdeal.main_arg1))).trans ?_), (h c).2.2⟩
  · rw [a0, a2]
    exact Cert.RefGateBwdIdeal.Val.read3 _ _
  · rw [a0, a1]
    exact Cert.RefGateBwdIdeal.Val.read4 _ _

end Cert.GateBwdIdeal.Val
-- ==== Proof.ModNormR.lean ====
module

public import proofs.«01_k».proof.Proof.Gen.ModNormIdeal.Frame
public import proofs.«01_k».proof.Proof.Gen.RefModNormIdeal.Read
public import proofs.«01_k».proof.Proof.Gen.RefModNormIdeal.Run
public import proofs.«01_k».proof.Proof.Mm
public import proofs.«01_k».proof.Defs
public import Idealize.ShloMosaic.Lib.Quiescent

/-! # The modulated root-mean-square norm in front of the attention branch -/

@[expose] public section

noncomputable section

set_option maxRecDepth 16384

namespace Cert.ModNormIdeal.Val

open Cert.ModNormIdeal Cert.ModNormIdeal.Gen Cert.Mm Idealize.ShloMosaic Idealize.ShloMosaic.TcCoe Idealize.SL.Sem

/-- One element of the norm: the row's element over the root of the row's mean square, times the gain, then scaled and shifted. -/
def norm (row : Fin 2048 → EReal) (x g s h : EReal) : EReal :=
  x * Ideal.rsqrt (Ideal.div (∑ k, row k * row k) (Ideal.ofBits .f32 0x45000000#32) + Ideal.ofBits .f32 0x358637BD#32) * g
    * (Ideal.ofBits .f32 0x3F800000#32 + s) + h

section Pay

variable (x0 : Vec Ideal S512x2048 .f32) (x1 x2 x3 : Vec Ideal S1x2048 .f32) (r : Fin 512) (d : Fin 2048)

theorem out4_apply : out0_4 x0 x1 x2 x3 (ix2 r d)
    = norm (fun k => x0 (ix2 r k)) (x0 (ix2 r d)) (x1 (ix2 0 d)) (x2 (ix2 0 d)) (x3 (ix2 0 d)) := by
  unfold out0_4
  rw [View.canon_unit_zero hz2]
  simp only [View.ld_unit_zero (S := S512x2048) hz2, View.ld_unit_zero (S := S1x2048) hz2]
  pointwise [k0_pay1, norm]

end Pay

variable (m : (ℓ : Loc nD τ sig) → Buf (Elt Ideal) ℓ) (ρ : Dev nD → PrngReg) (c : Dev nD)

/-- The arguments. -/
abbrev x0 : FVec Ideal S4096x2048 .f32 := m ((c : Thread nD τ).loc main_arg0)
abbrev x1 : FVec Ideal S1x2048 .f32 := m ((c : Thread nD τ).loc main_arg1)
abbrev x2 : FVec Ideal S1x2048 .f32 := m ((c : Thread nD τ).loc main_arg2)
abbrev x3 : FVec Ideal S1x2048 .f32 := m ((c : Thread nD τ).loc main_arg3)

def res4 (A : FVec Ideal S4096x2048 .f32) (B C D : FVec Ideal S1x2048 .f32) : FVec Ideal S4096x2048 .bf16 := fun y =>
  norm (fun k => A (ix2 (y 0) k)) (A y) (B (ix2 0 (y 1))) (C (ix2 0 (y 1))) (D (ix2 0 (y 1)))

theorem arr0 : (V m c main_arg0 : FVec Ideal S4096x2048 .f32) = x0 m c := by
  rfl

theorem arr1 : (V m c main_arg1 : FVec Ideal S1x2048 .f32) = x1 m c := by
  rfl

theorem arr2 : (V m c main_arg2 : FVec Ideal S1x2048 .f32) = x2 m c := by
  rfl

theorem arr3 : (V m c main_arg3 : FVec Ideal S1x2048 .f32) = x3 m c := by
  rfl

theorem idx0 (t : Fin cfg0.N) : win0_0.index t = ![t.val, 0] := by
  revert t; decide +kernel
theorem idx1 (t : Fin cfg0.N) : win0_1.index t = ![0, 0] := by
  revert t; decide +kernel
theorem idx2 (t : Fin cfg0.N) : win0_2.index t = ![0, 0] := by
  revert t; decide +kernel
theorem idx3 (t : Fin cfg0.N) : win0_3.index t = ![0, 0] := by
  revert t; decide +kernel
theorem idx4 (t : Fin cfg0.N) : win0_4.index t = ![t.val, 0] := by
  revert t; decide +kernel

theorem blk0 (t : Fin cfg0.N) (r : Fin 512) (d : Fin 2048) :
    (iblk m c 0 t : Vec Ideal S512x2048 .f32) (ix2 r d)
      = (V m c main_arg0 : FVec Ideal S4096x2048 .f32) (ix2 ⟨t.val * 512 + r.val, by have : t.val < 8 := lt_of_lt_of_eq t.isLt N_0; omega⟩ d) := by
  blk_ext [iblk, idx0 t]

theorem blk1 (t : Fin cfg0.N) (d : Fin 2048) :
    (iblk m c 1 t : Vec Ideal S1x2048 .f32) (ix2 0 d) = (V m c main_arg1 : FVec Ideal S1x2048 .f32) (ix2 0 d) := by
  blk_ext [iblk, idx1 t]

theorem blk2 (t : Fin cfg0.N) (d : Fin 2048) :
    (iblk m c 2 t : Vec Ideal S1x2048 .f32) (ix2 0 d) = (V m c main_arg2 : FVec Ideal S1x2048 .f32) (ix2 0 d) := by
  blk_ext [iblk, idx2 t]

theorem blk3 (t : Fin cfg0.N) (d : Fin 2048) :
    (iblk m c 3 t : Vec Ideal S1x2048 .f32) (ix2 0 d) = (V m c main_arg3 : FVec Ideal S1x2048 .f32) (ix2 0 d) := by
  blk_ext [iblk, idx3 t]

theorem final4 : (dats m 0 c).arrAt 4 cfg0.N = res4 (x0 m c) (x1 m c) (x2 m c) (x3 m c) := by
  rw [← arr0 m c, ← arr1 m c, ← arr2 m c, ← arr3 m c]
  refine (dats m 0 c).arrAt_eq_of_covers 4 _ (by decide +kernel) fun t ht y => ?_
  blk_simp
  rw [after0_4]
  idx_vars y
  refine (out4_apply _ _ _ _ _ _).trans ?_
  have e : ((cfg0.win 4).blk t).view.emb (ix2 y0 y1)
      = (ix2 ⟨t.val * 512 + y0.val, by have : t.val < 8 := lt_of_lt_of_eq t.isLt N_0; omega⟩ y1 : S4096x2048.Idx) := by
    blk_ext [idx4 t]
  rw [e]
  simp only [res4, blk0, blk1, blk2, blk3]
  rfl

/-- Every run ends with the result and the arguments unchanged. -/
theorem run : θ_run defs (onTc (τ := τ) (main (F := Ideal))) ⟨m, fun _ => 0, ρ⟩ (fun r => ∀ c : Dev nD,
      r.2.mem ((c.tc : Thread nD τ).loc main_v0) = res4 (x0 m c) (x1 m c) (x2 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), h.2 c⟩) (θ_run_and (run_main m ρ) (unchanged m ρ))

end Cert.ModNormIdeal.Val

namespace Cert.RefModNormIdeal.Val

open Cert.RefModNormIdeal Cert.RefModNormIdeal.Gen Cert.RefModNormIdeal.Read Idealize.ShloMosaic

theorem read4 (x0 : FVec Ideal S4096x2048 .f32) (x1 x2 x3 : FVec Ideal S1x2048 .f32) :
    val_main_v18 (F := Ideal) x0 x1 x2 x3 = Cert.ModNormIdeal.Val.res4 x0 x1 x2 x3 := by
  funext y
  idx_vars y
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, Cert.ModNormIdeal.Val.res4, Cert.ModNormIdeal.Val.norm]

end Cert.RefModNormIdeal.Val

namespace Cert.ModNormIdeal.Val

open Idealize.ShloMosaic Idealize.SL.Sem

theorem frame_reference : Cert.quiescent_RefModNormIdeal := fun m ρ _ =>
  (θ_run Cert.RefModNormIdeal.defs _ _).mono (fun r h => ⟨fun c => (h c).2,
      Idealize.ShloMosaic.sem_eq_zero_of_no_sems (by decide) r.2⟩)
    (Cert.RefModNormIdeal.Value.run (F := Ideal) m ρ)

theorem algebraic : Cert.algebraic_ModNormIdeal_RefModNormIdeal := by
  intro m g m' g' _ hargs
  refine ⟨fun c => _, run m g, (θ_run Cert.RefModNormIdeal.defs _ _).mono (fun r h c => ?_) (Cert.RefModNormIdeal.Value.run (F := Ideal) m' g')⟩
  obtain ⟨a0, a1, a2, a3⟩ := hargs c
  refine ⟨(h c).1.trans ?_, (h c).2⟩
  rw [Cert.RefModNormIdeal.Read.val_main_v18_eq, a0, a1, a2, a3]
  exact Cert.RefModNormIdeal.Val.read4 _ _ _ _

end Cert.ModNormIdeal.Val
-- ==== Proof.LnFwdR.lean ====
module

public import proofs.«01_k».proof.Proof.Gen.LnFwdIdeal.Frame
public import proofs.«01_k».proof.Proof.Gen.RefLnFwdIdeal.Read
public import proofs.«01_k».proof.Proof.Gen.RefLnFwdIdeal.Run
public import proofs.«01_k».proof.Proof.Mm
public import proofs.«01_k».proof.Defs
public import Idealize.ShloMosaic.Lib.Quiescent

/-! # The layer norm in front of the spatial mixer -/

@[expose] public section

noncomputable section

set_option maxRecDepth 16384

namespace Cert.LnFwdIdeal.Val

open Cert.LnFwdIdeal Cert.LnFwdIdeal.Gen Cert.Mm Idealize.ShloMosaic Idealize.ShloMosaic.TcCoe Idealize.SL.Sem

/-- The mean of a row. -/
def mean (row : Fin 6144 → EReal) : EReal := Ideal.div (∑ k, row k) (Ideal.ofBits .f32 0x45C00000#32)

/-- One element of the norm: its distance from the row's mean, over the root of the mean square distance, times the gain, shifted. -/
def norm (row : Fin 6144 → EReal) (x g b : EReal) : EReal :=
  (x - mean row) * Ideal.rsqrt (Ideal.div (∑ k, (row k - mean row) * (row k - mean row)) (Ideal.ofBits .f32 0x45C00000#32) + Ideal.ofBits .f32 0x358637BD#32)
    * g + b

section Pay

variable (x0 : Vec Ideal S256x6144 .bf16) (x1 x2 : Vec Ideal S1x6144 .f32) (r : Fin 256) (d : Fin 6144)

theorem out3_apply : out0_3 x0 x1 x2 (ix2 r d) = norm (fun k => x0 (ix2 r k)) (x0 (ix2 r d)) (x1 (ix2 0 d)) (x2 (ix2 0 d)) := by
  unfold out0_3
  rw [View.canon_unit_zero hz2]
  simp only [View.ld_unit_zero (S := S256x6144) hz2, View.ld_unit_zero (S := S1x6144) hz2]
  pointwise [k0_pay1, norm, mean]

end Pay

variable (m : (ℓ : Loc nD τ sig) → Buf (Elt Ideal) ℓ) (ρ : Dev nD → PrngReg) (c : Dev nD)

/-- The arguments. -/
abbrev x0 : FVec Ideal S4096x12288 .f32 := m ((c : Thread nD τ).loc main_arg0)
abbrev x1 : FVec Ideal S1x6144 .f32 := m ((c : Thread nD τ).loc main_arg1)
abbrev x2 : FVec Ideal S1x6144 .f32 := m ((c : Thread nD τ).loc main_arg2)

/-- The column `k` of the second half. -/
abbrev half (k : Fin 6144) : Fin 12288 := ⟨6144 + k.val, by omega⟩

def res3 (A : FVec Ideal S4096x12288 .f32) (B C : FVec Ideal S1x6144 .f32) : FVec Ideal S4096x6144 .bf16 := fun y =>
  norm (fun k => A (ix2 (y 0) (half k))) (A (ix2 (y 0) (half (y 1)))) (B (ix2 0 (y 1))) (C (ix2 0 (y 1)))

theorem arr0 : (V m c main_v0 : FVec Ideal S4096x12288 .bf16) = x0 m c := by
  rfl

theorem arr1 : (V m c main_arg1 : FVec Ideal S1x6144 .f32) = x1 m c := by
  rfl

theorem arr2 : (V m c main_arg2 : FVec Ideal S1x6144 .f32) = x2 m c := by
  rfl

theorem idx0 (t : Fin cfg0.N) : win0_0.index t = ![t.val, 1] := by
  revert t; decide +kernel
theorem idx1 (t : Fin cfg0.N) : win0_1.index t = ![0, 0] := by
  revert t; decide +kernel
theorem idx2 (t : Fin cfg0.N) : win0_2.index t = ![0, 0] := by
  revert t; decide +kernel
theorem idx3 (t : Fin cfg0.N) : win0_3.index t = ![t.val, 0] := by
  revert t; decide +kernel

theorem blk0 (t : Fin cfg0.N) (r : Fin 256) (d : Fin 6144) :
    (iblk m c 0 t : Vec Ideal S256x6144 .bf16) (ix2 r d)
      = (V m c main_v0 : FVec Ideal S4096x12288 .bf16) (ix2 ⟨t.val * 256 + r.val, by have : t.val < 16 := lt_of_lt_of_eq t.isLt N_0; omega⟩ (half d)) := by
  blk_ext [iblk, idx0 t]

theorem blk1 (t : Fin cfg0.N) (d : Fin 6144) :
    (iblk m c 1 t : Vec Ideal S1x6144 .f32) (ix2 0 d) = (V m c main_arg1 : FVec Ideal S1x6144 .f32) (ix2 0 d) := by
  blk_ext [iblk, idx1 t]

theorem blk2 (t : Fin cfg0.N) (d : Fin 6144) :
    (iblk m c 2 t : Vec Ideal S1x6144 .f32) (ix2 0 d) = (V m c main_arg2 : FVec Ideal S1x6144 .f32) (ix2 0 d) := by
  blk_ext [iblk, idx2 t]

theorem final3 : (dats m 0 c).arrAt 3 cfg0.N = res3 (x0 m c) (x1 m c) (x2 m c) := by
  rw [← arr0 m c, ← arr1 m c, ← arr2 m c]
  refine (dats m 0 c).arrAt_eq_of_covers 3 _ (by decide +kernel) fun t ht y => ?_
  blk_simp
  rw [after0_3]
  idx_vars y
  refine (out3_apply _ _ _ _ _).trans ?_
  have e : ((cfg0.win 3).blk t).view.emb (ix2 y0 y1)
      = (ix2 ⟨t.val * 256 + y0.val, by have : t.val < 16 := lt_of_lt_of_eq t.isLt N_0; omega⟩ y1 : S4096x6144.Idx) := by
    blk_ext [idx3 t]
  rw [e]
  simp only [res3, blk0, blk1, blk2]
  rfl

/-- Every run ends with the result and the arguments unchanged. -/
theorem run : θ_run defs (onTc (τ := τ) (main (F := Ideal))) ⟨m, fun _ => 0, ρ⟩ (fun r => ∀ c : Dev nD,
      r.2.mem ((c.tc : Thread nD τ).loc main_v1) = res3 (x0 m c) (x1 m c) (x2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), h.2 c⟩) (θ_run_and (run_main m ρ) (unchanged m ρ))

end Cert.LnFwdIdeal.Val

namespace Cert.RefLnFwdIdeal.Val

open Cert.RefLnFwdIdeal Cert.RefLnFwdIdeal.Gen Cert.RefLnFwdIdeal.Read Idealize.ShloMosaic

theorem read3 (x0 : FVec Ideal S4096x12288 .f32) (x1 x2 : FVec Ideal S1x6144 .f32) :
    val_main_v23 (F := Ideal) x0 x1 x2 = Cert.LnFwdIdeal.Val.res3 x0 x1 x2 := by
  funext y
  idx_vars y
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, Cert.LnFwdIdeal.Val.res3, Cert.LnFwdIdeal.Val.norm, Cert.LnFwdIdeal.Val.mean]

end Cert.RefLnFwdIdeal.Val

namespace Cert.LnFwdIdeal.Val

open Idealize.ShloMosaic Idealize.SL.Sem

theorem frame_reference : Cert.quiescent_RefLnFwdIdeal := fun m ρ _ =>
  (θ_run Cert.RefLnFwdIdeal.defs _ _).mono (fun r h => ⟨fun c => (h c).2,
      Idealize.ShloMosaic.sem_eq_zero_of_no_sems (by decide) r.2⟩)
    (Cert.RefLnFwdIdeal.Value.run (F := Ideal) m ρ)

theorem algebraic : Cert.algebraic_LnFwdIdeal_RefLnFwdIdeal := by
  intro m g m' g' _ hargs
  refine ⟨fun c => _, run m g, (θ_run Cert.RefLnFwdIdeal.defs _ _).mono (fun r h c => ?_) (Cert.RefLnFwdIdeal.Value.run (F := Ideal) m' g')⟩
  obtain ⟨a0, a1, a2⟩ := hargs c
  refine ⟨(h c).1.trans ?_, (h c).2⟩
  rw [Cert.RefLnFwdIdeal.Read.val_main_v23_eq, a0, a1, a2]
  exact Cert.RefLnFwdIdeal.Val.read3 _ _ _

end Cert.LnFwdIdeal.Val
-- ==== Proof.FwdPay.lean ====
module

public import proofs.«01_k».proof.Proof.Gen.KernelIdeal.Skeleton
public import proofs.«01_k».proof.Proof.Consts
public import Idealize.ShloMosaic.Lib.Pipeline.ValueKit

/-! # The forward kernel's expressions, read at an index -/

@[expose] public section

noncomputable section

namespace Cert.KernelIdeal.Fwd

open Cert.KernelIdeal Cert.KernelIdeal.Gen Cert.Fox Idealize.ShloMosaic

variable (v0 v73 v76 : Vec Ideal S1024x128 .bf16) (v81 : Vec Ideal S1x1x1024 .f32)
  (m l : FVec Ideal S1024x1 .f32) (a : FVec Ideal S1024x128 .f32) (s : FVec Ideal S1024x1024 .f32) (r j : Fin 1024) (d : Fin 128)

/-- The greatest entry of each row. -/
theorem rowMax {n k : ℕ} (v : FVec Ideal ⟨2, ![n, k]⟩ .f32) (h : (⟨2, ![n, k]⟩ : Shape).Reduces [1] ⟨1, ![n]⟩)
    (hφ : FKind.Formats .f32) (b : BitVec 32) (hacc : b = FKind.maximumf.neutral .f32 hφ) (r : Fin n) :
    multiReduction .maximumf [1] ⟨1, ![n]⟩ v b h hφ hacc (ix1 r)
      = Finset.univ.fold max (Ideal.ofBits .f32 b) (fun c : Fin k => v (ix2 r c)) := by
  simp only [pointwise]

theorem rowMax_block : multiReduction .maximumf [1] S1024 s 0xFF800000#32 reduces_S1024x1024_S1024 (.inl rfl) rfl (ix1 r)
    = Finset.univ.fold max (Ideal.ofBits .f32 0xFF800000#32) (fun c : Fin 1024 => s (ix2 r c)) :=
  rowMax s _ _ _ _ r

theorem max_col (R : FVec Ideal S1024 .f32) :
    maximumf m (shapeCast S1024x1 R shapeCasts_S1024_S1024x1) (ix2 r 0) = max (m (ix2 r 0)) (R (ix1 r)) := by
  pointwise

theorem pay13_open : k0_pay13 v0 m v73 v81 = maximumf m (shapeCast S1024x1 (multiReduction .maximumf [1] S1024
    (k0_pay12 v0 v73 v81) 0xFF800000#32 reduces_S1024x1024_S1024 (.inl rfl) rfl) shapeCasts_S1024_S1024x1) := rfl

theorem pay2_open (v37 : IVec S1024x1024 32) : k0_pay2 m s v37 = maximumf m (shapeCast S1024x1
    (multiReduction .maximumf [1] S1024 (k0_pay1 s v37) 0xFF800000#32 reduces_S1024x1024_S1024 (.inl rfl) rfl)
    shapeCasts_S1024_S1024x1) := rfl

/-! ## A block below the diagonal -/

theorem pay12_apply : k0_pay12 v0 v73 v81 (ix2 r j) = (∑ d : Fin 128, v0 (ix2 r d) * v73 (ix2 j d)) - v81 (ix3 0 0 j) := by
  pointwise [k0_pay12, k0_pay8]

theorem pay13_apply : k0_pay13 v0 m v73 v81 (ix2 r 0)
    = max (m (ix2 r 0)) (Finset.univ.fold max ⊥ fun j : Fin 1024 => k0_pay12 v0 v73 v81 (ix2 r j)) := by
  rw [pay13_open, max_col, rowMax_block, ofBits_neg_inf]

theorem pay15_apply : k0_pay15 v0 m v73 v81 (ix2 r j)
    = Ideal.exp (k0_pay12 v0 v73 v81 (ix2 r j) - k0_pay13 v0 m v73 v81 (ix2 r 0)) := by
  pointwise [k0_pay15]

theorem pay16_apply : k0_pay16 v0 m l v73 v81 (ix2 r 0)
    = Ideal.exp (m (ix2 r 0) - k0_pay13 v0 m v73 v81 (ix2 r 0)) * l (ix2 r 0) + ∑ j : Fin 1024, k0_pay15 v0 m v73 v81 (ix2 r j) := by
  pointwise [k0_pay16, k0_pay14]

theorem pay17_apply : k0_pay17 v0 m a v73 v76 v81 (ix2 r d)
    = Ideal.exp (m (ix2 r 0) - k0_pay13 v0 m v73 v81 (ix2 r 0)) * a (ix2 r d)
      + ∑ j : Fin 1024, k0_pay15 v0 m v73 v81 (ix2 r j) * v76 (ix2 j d) := by
  pointwise [k0_pay17, k0_pay14]

/-! ## The block on the diagonal -/

/-- The key's position within the block, as the masked block's other operand. -/
abbrev cols : IVec S1024x1024 32 := iota .tc S1024x1024 32 [1] iota_S1024x1024_d1_w32

theorem pay25_apply : k0_pay25 v0 v73 v81 (ix2 r j) = (∑ d : Fin 128, v0 (ix2 r d) * v73 (ix2 j d)) - v81 (ix3 0 0 j) := by
  pointwise [k0_pay25, k0_pay8]

theorem pay24_apply : k0_pay24 v76 (ix2 j d) = v76 (ix2 j d) := by
  pointwise [k0_pay24]

theorem pay1_apply : k0_pay1 s cols (ix2 r j) = if j.val ≤ r.val then s (ix2 r j) else ⊥ := by
  pointwise [k0_pay1]
  rw [select_le (by omega) (by omega), named_mask]

theorem pay2_apply : k0_pay2 m s cols (ix2 r 0)
    = max (m (ix2 r 0)) (Finset.univ.fold max ⊥ fun j : Fin 1024 => k0_pay1 s cols (ix2 r j)) := by
  rw [pay2_open, max_col, rowMax_block, ofBits_neg_inf]

theorem pay4_apply : k0_pay4 m s cols (ix2 r j)
    = Ideal.exp (k0_pay1 s cols (ix2 r j) - k0_pay2 m s cols (ix2 r 0)) := by
  pointwise [k0_pay4]

theorem pay5_apply : k0_pay5 m l s cols (ix2 r 0)
    = Ideal.exp (m (ix2 r 0) - k0_pay2 m s cols (ix2 r 0)) * l (ix2 r 0) + ∑ j : Fin 1024, k0_pay4 m s cols (ix2 r j) := by
  pointwise [k0_pay5, k0_pay3]

theorem pay6_apply : k0_pay6 m l a v76 s cols (ix2 r d)
    = Ideal.div (Ideal.exp (m (ix2 r 0) - k0_pay2 m s cols (ix2 r 0)) * a (ix2 r d)
      + ∑ j : Fin 1024, k0_pay4 m s cols (ix2 r j) * v76 (ix2 j d)) (k0_pay5 m l s cols (ix2 r 0)) := by
  pointwise [k0_pay6, k0_pay3]

theorem pay7_apply : k0_pay7 m l s cols (ix3 0 r d) = k0_pay2 m s cols (ix2 r 0) + Ideal.log (k0_pay5 m l s cols (ix2 r 0)) := by
  pointwise [k0_pay7]

/-! ## The sweep's start -/

theorem pay9_apply : k0_pay9 (F := Ideal) (ix2 r 0) = ⊥ := by
  pointwise [k0_pay9]
  exact named_mask

theorem pay10_apply : k0_pay10 (F := Ideal) (ix2 r 0) = 0 := by
  pointwise [k0_pay10]

theorem pay11_apply : k0_pay11 (F := Ideal) (ix2 r d) = 0 := by
  pointwise [k0_pay11]

end Cert.KernelIdeal.Fwd
-- ==== Proof.Blocks.lean ====
module

public import proofs.«01_k».proof.Proof.Spec
public import Idealize.ShloMosaic.Lib.Pipeline.ValueKit
public import Idealize.ShloMosaic.Lib.Pipeline.Value

/-! # Reading a block inside a larger block, and the scalar sums of the kernels -/

@[expose] public section

noncomputable section

namespace Cert.Fox

open Idealize.ShloMosaic

/-- A block of rows, at an index. -/
theorem ld_rows {n b w : ℕ} {e : EltTy} (x : Vec Ideal ⟨2, ![n, w]⟩ e) (off : Fin 2 → ℕ) (hin) (o : ℕ) (ho : off = ![o, 0])
    (r : Fin b) (d : Fin w) (hr : o + r.val < n) :
    View.ld x (Rect.unit (s := ⟨2, ![n, w]⟩) off ![b, w] hin) (ix2 r d) = x (ix2 ⟨o + r.val, hr⟩ d) := by
  subst ho
  exact View.ld_unit_apply_of (S := ⟨2, ![n, w]⟩) x _ _ _ _ _ fun a => by fin_cases a <;> simp [ix2]

/-- A row of a block of rank three, at an index. -/
theorem ld_row3 {n m w : ℕ} {e : EltTy} (x : Vec Ideal ⟨3, ![n, m, w]⟩ e) (off : Fin 3 → ℕ) (hin) (o p : ℕ)
    (ho : off = ![o, p, 0]) (d : Fin w) (hr : o < n) (hp : p < m) :
    View.ld x (Rect.unit (s := ⟨3, ![n, m, w]⟩) off ![1, 1, w] hin) (ix3 0 0 d) = x (ix3 ⟨o, hr⟩ ⟨p, hp⟩ d) := by
  subst ho
  exact View.ld_unit_apply_of (S := ⟨3, ![n, m, w]⟩) x _ _ _ _ _ fun a => by fin_cases a <;> simp [ix3]

/-- A part of a block's first column, at an index. -/
theorem ld_col3 {n w b : ℕ} {e : EltTy} (x : Vec Ideal ⟨3, ![1, n, w]⟩ e) (off : Fin 3 → ℕ) (hin) (p : ℕ)
    (ho : off = ![0, p, 0]) (r : Fin b) (hp : p + r.val < n) (hw : 0 < w) :
    View.ld x (Rect.unit (s := ⟨3, ![1, n, w]⟩) off ![1, b, 1] hin) (ix3 0 r 0) = x (ix3 0 ⟨p + r.val, hp⟩ ⟨0, hw⟩) := by
  subst ho
  exact View.ld_unit_apply_of (S := ⟨3, ![1, n, w]⟩) x _ _ _ _ _ fun a => by fin_cases a <;> simp [ix3]

/-- A logit as the kernels compute it. -/
theorem score (I : Inp) (h i j : ℕ) {u v : Fin 128 → EReal} {f : EReal}
    (hu : ∀ d : Fin 128, u d = ((I.q i (128 * h + d.val) * I.c : ℝ) : EReal))
    (hv : ∀ d : Fin 128, v d = (I.k j (128 * h + d.val) : EReal)) (hf : f = (I.f h j : EReal)) :
    (∑ d, u d * v d) - f = (I.x h i j : EReal) := by
  simp only [hu, hv, hf, ← EReal.coe_mul, ← coe_sum, ← EReal.coe_sub]
  unfold Inp.x
  rw [Finset.sum_range (fun d => I.q i (128 * h + d) * I.c * I.k j (128 * h + d))]

/-- A probability's cotangent as the kernels compute it. -/
theorem cot (I : Inp) (h i j : ℕ) {u v : Fin 128 → EReal}
    (hu : ∀ d : Fin 128, u d = (I.g i (128 * h + d.val) : EReal))
    (hv : ∀ d : Fin 128, v d = (I.v j (128 * h + d.val) : EReal)) : ∑ d, u d * v d = (I.dp h i j : EReal) := by
  simp only [hu, hv, ← EReal.coe_mul, ← coe_sum]
  unfold Inp.dp
  rw [Finset.sum_range (fun d => I.g i (128 * h + d) * I.v j (128 * h + d))]

/-- A logit below the diagonal and its weight. -/
theorem lg_below (I : Inp) {h i j : ℕ} (hij : j ≤ i) : Lg (I.x h i j : EReal) (I.e h i j) :=
  Or.inl ⟨_, rfl, if_pos hij⟩

/-- A logit above the diagonal and its weight. -/
theorem lg_above (I : Inp) {h i j : ℕ} (hij : i < j) : Lg ⊥ (I.e h i j) :=
  Or.inr ⟨rfl, I.e_of_lt hij⟩

/-- A probability as the backward kernels compute it. -/
theorem prob (I : Inp) {h i j : ℕ} (hij : j ≤ i) :
    Ideal.exp ((I.x h i j : EReal) - (Real.log (I.z h i) : EReal)) = (I.p h i j : EReal) := by
  rw [← EReal.coe_sub, Ideal.exp_coe, I.p_eq_exp hij]

/-- The same on the diagonal block, where the logits above the diagonal are masked. -/
theorem prob_mask (I : Inp) (h b : ℕ) {r j : ℕ} {s : EReal} (hs : s = (I.x h (b + r) (b + j) : EReal)) :
    Ideal.exp ((if j ≤ r then s else ⊥) - (Real.log (I.z h (b + r)) : EReal)) = (I.p h (b + r) (b + j) : EReal) := by
  split
  · rw [hs]; exact prob I (by omega)
  · rw [EReal.bot_sub, Ideal.exp_bot, I.p_of_lt (by omega), EReal.coe_zero]

/-- One block of a sum. -/
theorem add_block (F : ℕ → ℝ) (n : ℕ) {a : EReal} {t : Fin 1024 → EReal}
    (ha : a = ((∑ j ∈ Finset.range (1024 * n), F j : ℝ) : EReal)) (ht : ∀ j : Fin 1024, t j = (F (1024 * n + j.val) : EReal)) :
    a + ∑ j, t j = ((∑ j ∈ Finset.range (1024 * (n + 1)), F j : ℝ) : EReal) := by
  rw [Finset.sum_congr rfl fun j _ => ht j, ha, Nat.mul_succ, sum_range_block, EReal.coe_add, coe_sum Finset.univ]

/-- One block of a sum that is taken away. -/
theorem sub_block (F : ℕ → ℝ) (n : ℕ) {a : EReal} {t : Fin 1024 → EReal}
    (ha : a = ((-∑ j ∈ Finset.range (1024 * n), F j : ℝ) : EReal)) (ht : ∀ j : Fin 1024, t j = (F (1024 * n + j.val) : EReal)) :
    a - ∑ j, t j = ((-∑ j ∈ Finset.range (1024 * (n + 1)), F j : ℝ) : EReal) := by
  rw [Finset.sum_congr rfl fun j _ => ht j, ha, Nat.mul_succ, sum_range_block, ← coe_sum Finset.univ, ← EReal.coe_sub, neg_add,
    sub_eq_add_neg]

/-- A sum over the blocks before the diagonal one has nothing. -/
theorem sum_before (F : ℕ → ℝ) {n : ℕ} (hF : ∀ j, j < n → F j = 0) : ∑ j ∈ Finset.range n, F j = 0 :=
  Finset.sum_eq_zero fun j hj => hF j (Finset.mem_range.mp hj)

/-- The sum up to the diagonal block's end is the sum over all keys. -/
theorem sum_causal (F : ℕ → ℝ) {b r : ℕ} (hb : b < 4) (hr : r < 1024) (hF : ∀ j, 1024 * b + r < j → F j = 0) :
    ∑ j ∈ Finset.range (1024 * (b + 1)), F j = ∑ j ∈ Finset.range 4096, F j :=
  (sum_range_causal F (by omega) (by omega) hF).symm

end Cert.Fox
-- ==== Proof.Fwd.lean ====
module

public import proofs.«01_k».proof.Proof.Gen.KernelIdeal.Frame
public import proofs.«01_k».proof.Proof.FwdPay
public import proofs.«01_k».proof.Proof.Blocks

/-! # The forward kernel's block -/

@[expose] public section

noncomputable section

namespace Cert.KernelIdeal.Fwd

open Cert.KernelIdeal Cert.KernelIdeal.Gen Cert.Fox Idealize.ShloMosaic Idealize.ShloMosaic.TcCoe Idealize.SL.Sem

theorem trips1 : ∀ i : grid0.Coords, (k0_t1_loop i).trips = (i 1).val := by decide +kernel
theorem trips2 : ∀ i : grid0.Coords, (k0_t2_loop i).trips = 0 := by decide +kernel
theorem off1 : ∀ (i : grid0.Coords) (k : Fin (k0_t1_loop i).trips), k0_off1 i k = ![1024 * k.val, 0] := by decide +kernel
theorem off2 : ∀ (i : grid0.Coords) (k : Fin (k0_t1_loop i).trips), k0_off2 i k = ![k.val, (i 0).val % 8, 0] := by
  decide +kernel
theorem off5 : ∀ i : grid0.Coords, k0_off5 i = ![1024 * (i 1).val, 0] := by decide +kernel
theorem off6 : ∀ i : grid0.Coords, k0_off6 i = ![(i 1).val, (i 0).val % 8, 0] := by decide +kernel

theorem i1_lt (i : grid0.Coords) : (i 1).val < 4 := (i 1).isLt

/-- The blocks a point of the grid reads, as real numbers. -/
structure In (I : Inp) (h : ℕ) (i : grid0.Coords) (x0 : Vec Ideal S1024x128 .bf16) (x1 x2 : Vec Ideal S4096x128 .bf16)
    (x3 : Vec Ideal S4x8x1024 .f32) : Prop where
  q : ∀ (r : Fin 1024) (d : Fin 128), x0 (ix2 r d) = ((I.q (1024 * (i 1).val + r.val) (128 * h + d.val) * I.c : ℝ) : EReal)
  k : ∀ (n : Fin 4096) (d : Fin 128), x1 (ix2 n d) = (I.k n.val (128 * h + d.val) : EReal)
  v : ∀ (n : Fin 4096) (d : Fin 128), x2 (ix2 n d) = (I.v n.val (128 * h + d.val) : EReal)
  f : ∀ (j : Fin 4) (s : Fin 1024),
    x3 (ix3 j ⟨(i 0).val % 8, Nat.mod_lt _ (by norm_num)⟩ s) = (I.f h (1024 * j.val + s.val) : EReal)

variable (c : Dev nD) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4x8x1024 .f32) (harg5 : arg5.IsWhole)
  (arg6 : Memref sig .tc .vmem S1024x128 .bf16) (harg6 : arg6.IsWhole)
  (arg7 : Memref sig .tc .vmem S1x1024x128 .f32) (harg7 : arg7.IsWhole)
  {x0 : Vec Ideal S1024x128 .bf16} {x1 x2 : Vec Ideal S4096x128 .bf16} {x3 : Vec Ideal S4x8x1024 .f32}
  {I : Inp} {h : ℕ} (H : In I h i x0 x1 x2 x3)

/-- The key block of trip `k`. -/
abbrev kb (x1 : Vec Ideal S4096x128 .bf16) (k : Fin (k0_t1_loop i).trips) : Vec Ideal S1024x128 .bf16 :=
  View.ld x1 (Rect.unit (s := S4096x128) (k0_off1 i k) S1024x128.size (k0_off1_inb i k))

/-- The gate row of trip `k`. -/
abbrev fb (x3 : Vec Ideal S4x8x1024 .f32) (k : Fin (k0_t1_loop i).trips) : Vec Ideal S1x1x1024 .f32 :=
  View.ld x3 (Rect.unit (s := S4x8x1024) (k0_off2 i k) S1x1x1024.size (k0_off2_inb i k))

/-- The state of the sweep after `n` trips. -/
abbrev st (x0 : Vec Ideal S1024x128 .bf16) (x1 x2 : Vec Ideal S4096x128 .bf16) (x3 : Vec Ideal S4x8x1024 .f32) (n : ℕ) :=
  st_k0_t1 (F := Ideal) Variants.none c none i arg2 harg2 arg3 harg3 arg4 harg4 arg5 harg5 arg6 harg6 arg7 harg7 x0
    (harg3.unread x1) (harg4.unread x2) (harg5.unread x3) (k0_pay9, k0_pay10, k0_pay11) n

theorem trip (x0 : Vec Ideal S1024x128 .bf16) (x1 x2 : Vec Ideal S4096x128 .bf16) (x3 : Vec Ideal S4x8x1024 .f32)
    (k : Fin (k0_t1_loop i).trips) (acc : FVec Ideal S1024x1 .f32 × FVec Ideal S1024x1 .f32 × FVec Ideal S1024x128 .f32) :
    tripR_k0_t1 (F := Ideal) Variants.none c none i arg2 harg2 arg3 harg3 arg4 harg4 arg5 harg5 arg6 harg6 arg7 harg7 x0
      (harg3.unread x1) (harg4.unread x2) (harg5.unread x3) k acc
    = (k0_pay13 x0 acc.1 (kb i x1 k) (fb i x3 k), k0_pay16 x0 acc.1 acc.2.1 (kb i x1 k) (fb i x3 k),
        k0_pay17 x0 acc.1 acc.2.2 (kb i x1 k) (kb i x2 k) (fb i x3 k)) := by
  unfold tripR_k0_t1 trip_k0_t1
  dsimp only
  simp only [View.readAt_eq_ld, harg3.read_unread, harg4.read_unread, harg5.read_unread]

/-- What the sweep has of a row after `n` blocks of keys. -/
abbrev Inv (I : Inp) (h : ℕ) (i : grid0.Coords) (r : Fin 1024) (n : ℕ)
    (s : FVec Ideal S1024x1 .f32 × FVec Ideal S1024x1 .f32 × FVec Ideal S1024x128 .f32) : Prop :=
  Row (s.1 (ix2 r 0)) (s.2.1 (ix2 r 0)) (fun d : Fin 128 => s.2.2 (ix2 r d)) (I.zs h (1024 * (i 1).val + r.val) (1024 * n))
    (fun d : Fin 128 => ∑ j ∈ Finset.range (1024 * n), I.e h (1024 * (i 1).val + r.val) j * I.v j (128 * h + d.val))

include H in
theorem step (r : Fin 1024) (k : Fin (k0_t1_loop i).trips)
    (s : FVec Ideal S1024x1 .f32 × FVec Ideal S1024x1 .f32 × FVec Ideal S1024x128 .f32) (ih : Inv I h i r k.val s) :
    Inv I h i r (k.val + 1) (k0_pay13 x0 s.1 (kb i x1 k) (fb i x3 k), k0_pay16 x0 s.1 s.2.1 (kb i x1 k) (fb i x3 k),
        k0_pay17 x0 s.1 s.2.2 (kb i x1 k) (kb i x2 k) (fb i x3 k)) := by
  have hi := i1_lt i
  have hk : k.val < (i 1).val := lt_of_lt_of_eq k.isLt (trips1 i)
  have hs : ∀ j : Fin 1024, k0_pay12 x0 (kb i x1 k) (fb i x3 k) (ix2 r j)
      = (I.x h (1024 * (i 1).val + r.val) (1024 * k.val + j.val) : EReal) := fun j => by
    rw [pay12_apply]
    refine score I h _ _ (fun d => H.q r d) (fun d => ?_) ?_
    · exact (ld_rows x1 _ _ _ (off1 i k) j d (by omega)).trans (H.k _ d)
    · exact (ld_row3 x3 _ _ _ _ (off2 i k) j (by omega) (Nat.mod_lt _ (by norm_num))).trans (H.f ⟨k.val, by omega⟩ j)
  have := Row.step ih (fun j => k0_pay12 x0 (kb i x1 k) (fb i x3 k) (ix2 r j))
    (fun j => I.e h (1024 * (i 1).val + r.val) (1024 * k.val + j.val))
    (fun j => by rw [hs j]; exact lg_below I (by omega)) ⟨0, by rw [hs 0]; exact EReal.coe_ne_bot _⟩
    (fun j d => kb i x2 k (ix2 j d)) (fun j d => I.v (1024 * k.val + j.val) (128 * h + d.val))
    (fun j d => (ld_rows x2 _ _ _ (off1 i k) j d (by omega)).trans (H.v _ d))
    (pay13_apply x0 (kb i x1 k) (fb i x3 k) s.1 r) ((pay16_apply x0 (kb i x1 k) (fb i x3 k) s.1 s.2.1 r).trans (by simp only [pay15_apply]))
    (fun d => (pay17_apply x0 (kb i x1 k) (kb i x2 k) (fb i x3 k) s.1 s.2.2 r d).trans (by simp only [pay15_apply]))
  obtain ⟨μ, h1, h2, h3⟩ := this
  refine Or.inr ⟨μ, h1, h2.trans ?_, fun d => (h3 d).trans ?_⟩
  · rw [Nat.mul_succ]; unfold Inp.zs; rw [sum_range_block]
  · dsimp only; rw [Nat.mul_succ, sum_range_block]

include H in
theorem inv (r : Fin 1024) : ∀ n : ℕ, n ≤ (i 1).val →
    Inv I h i r n (st c i arg2 harg2 arg3 harg3 arg4 harg4 arg5 harg5 arg6 harg6 arg7 harg7 x0 x1 x2 x3 n)
  | 0, _ => by
    unfold Inv st
    rw [st_k0_t1_zero]
    simp only [pay9_apply, pay10_apply, pay11_apply, Nat.mul_zero, Inp.zs, Finset.sum_range_zero]
    exact Row.zero
  | n + 1, hn => by
    have ih := inv r n (by omega)
    obtain ⟨k, rfl⟩ : ∃ k : Fin (k0_t1_loop i).trips, k.val = n := ⟨⟨n, by rw [trips1]; omega⟩, rfl⟩
    unfold st
    rw [st_k0_t1_succ, trip]
    exact step i H r k _ ih

include H in
/-- The state as the diagonal block finds it. -/
theorem last (r : Fin 1024) {K D : Vec Ideal S1024x128 .bf16} {f : Vec Ideal S1x1x1024 .f32}
    (hK : ∀ (j : Fin 1024) (d : Fin 128), K (ix2 j d) = (I.k (1024 * (i 1).val + j.val) (128 * h + d.val) : EReal))
    (hD : ∀ (j : Fin 1024) (d : Fin 128), D (ix2 j d) = (I.v (1024 * (i 1).val + j.val) (128 * h + d.val) : EReal))
    (hf : ∀ j : Fin 1024, f (ix3 0 0 j) = (I.f h (1024 * (i 1).val + j.val) : EReal))
    (s : FVec Ideal S1024x1 .f32 × FVec Ideal S1024x1 .f32 × FVec Ideal S1024x128 .f32) (hs : Inv I h i r (i 1).val s) :
    ∃ μ : ℝ, k0_pay2 s.1 (k0_pay25 x0 K f) cols (ix2 r 0) = ↑μ
      ∧ k0_pay5 s.1 s.2.1 (k0_pay25 x0 K f) cols (ix2 r 0) = ↑(Real.exp (-μ) * I.z h (1024 * (i 1).val + r.val))
      ∧ ∀ d, Ideal.exp (s.1 (ix2 r 0) - k0_pay2 s.1 (k0_pay25 x0 K f) cols (ix2 r 0)) * s.2.2 (ix2 r d)
          + ∑ j : Fin 1024, k0_pay4 s.1 (k0_pay25 x0 K f) cols (ix2 r j) * D (ix2 j d)
        = ↑(Real.exp (-μ) * ∑ j ∈ Finset.range 4096, I.e h (1024 * (i 1).val + r.val) j * I.v j (128 * h + d.val)) := by
  have hi := i1_lt i
  have hx : ∀ j : Fin 1024, k0_pay25 x0 K f (ix2 r j)
      = (I.x h (1024 * (i 1).val + r.val) (1024 * (i 1).val + j.val) : EReal) := fun j => by
    rw [pay25_apply]
    exact score I h _ _ (fun d => H.q r d) (fun d => hK j d) (hf j)
  have := Row.step hs (fun j => k0_pay1 (k0_pay25 x0 K f) cols (ix2 r j))
    (fun j => I.e h (1024 * (i 1).val + r.val) (1024 * (i 1).val + j.val))
    (fun j => by
      rw [pay1_apply, hx j]; split
      · exact lg_below I (by omega)
      · exact lg_above I (by omega))
    ⟨0, by rw [pay1_apply, if_pos (show (0 : Fin 1024).val ≤ r.val from Nat.zero_le _), hx 0]; exact EReal.coe_ne_bot _⟩
    (fun j d => D (ix2 j d)) (fun j d => I.v (1024 * (i 1).val + j.val) (128 * h + d.val)) hD
    (pay2_apply s.1 (k0_pay25 x0 K f) r) ((pay5_apply s.1 s.2.1 (k0_pay25 x0 K f) r).trans (by simp only [pay4_apply]))
    (a' := fun d => Ideal.exp (s.1 (ix2 r 0) - k0_pay2 s.1 (k0_pay25 x0 K f) cols (ix2 r 0)) * s.2.2 (ix2 r d)
          + ∑ j : Fin 1024, k0_pay4 s.1 (k0_pay25 x0 K f) cols (ix2 r j) * D (ix2 j d))
    (fun d => by simp only [pay4_apply])
  have hz : ∀ F : ℕ → ℝ, (∀ j, 1024 * (i 1).val + r.val < j → F j = 0) → ∑ j ∈ Finset.range 4096, F j
      = ∑ j ∈ Finset.range (1024 * (i 1).val), F j + ∑ j : Fin 1024, F (1024 * (i 1).val + j.val) := fun F hF => by
    rw [sum_range_causal F (i := 1024 * (i 1).val + r.val) (n := 1024 * (i 1).val + 1024) (by omega) (by omega) hF,
      sum_range_block]
  obtain ⟨μ, h1, h2, h3⟩ := this
  refine ⟨μ, h1, h2.trans ?_, fun d => (h3 d).trans ?_⟩
  · unfold Inp.z Inp.zs; rw [hz _ fun j hj => I.e_of_lt hj]
  · rw [hz _ fun j hj => by rw [I.e_of_lt hj, zero_mul]]

theorem hz2 : (![0, 0] : Fin 2 → ℕ) = fun _ => 0 := funext fun a => by fin_cases a <;> rfl
theorem hz3 : (![0, 0, 0] : Fin 3 → ℕ) = fun _ => 0 := funext fun a => by fin_cases a <;> rfl

/-- The key block on the diagonal. -/
abbrev kd (x1 : Vec Ideal S4096x128 .bf16) : Vec Ideal S1024x128 .bf16 :=
  View.ld x1 (Rect.unit (s := S4096x128) (k0_off5 i) S1024x128.size (k0_off5_inb i))

/-- The gate row on the diagonal. -/
abbrev fd (x3 : Vec Ideal S4x8x1024 .f32) : Vec Ideal S1x1x1024 .f32 :=
  View.ld x3 (Rect.unit (s := S4x8x1024) (k0_off6 i) S1x1x1024.size (k0_off6_inb i))

/-- The state after the trips of both loops; the second has none. -/
abbrev fin (x0 : Vec Ideal S1024x128 .bf16) (x1 x2 : Vec Ideal S4096x128 .bf16) (x3 : Vec Ideal S4x8x1024 .f32) :=
  st_k0_t2 (F := Ideal) Variants.none c none i arg2 harg2 arg3 harg3 arg4 harg4 arg5 harg5 arg6 harg6 arg7 harg7 x0
    (harg3.unread x1) (harg4.unread x2) (harg5.unread x3)
    (st c i arg2 harg2 arg3 harg3 arg4 harg4 arg5 harg5 arg6 harg6 arg7 harg7 x0 x1 x2 x3 (k0_t1_loop i).trips) (k0_t2_loop i).trips

theorem fin_eq (x0 : Vec Ideal S1024x128 .bf16) (x1 x2 : Vec Ideal S4096x128 .bf16) (x3 : Vec Ideal S4x8x1024 .f32) :
    fin c i arg2 harg2 arg3 harg3 arg4 harg4 arg5 harg5 arg6 harg6 arg7 harg7 x0 x1 x2 x3 = st c i arg2 harg2 arg3 harg3 arg4 harg4 arg5 harg5 arg6 harg6 arg7 harg7 x0 x1 x2 x3 (i 1).val := by
  unfold fin
  rw [trips2, trips1, st_k0_t2_zero]

/-- The output block, opened. -/
theorem out4_open (x0 : Vec Ideal S1024x128 .bf16) (x1 x2 : Vec Ideal S4096x128 .bf16) (x3 : Vec Ideal S4x8x1024 .f32) :
    out0_A_4 (F := Ideal) c i arg2 harg2 arg3 harg3 arg4 harg4 arg5 harg5 arg6 harg6 arg7 harg7 x0 x1 x2 x3
    = (fun s : FVec Ideal S1024x1 .f32 × FVec Ideal S1024x1 .f32 × FVec Ideal S1024x128 .f32 =>
        k0_pay6 s.1 s.2.1 s.2.2 (k0_pay24 (kd i x2)) (k0_pay25 x0 (kd i x1) (fd i x3)) cols)
      (fin c i arg2 harg2 arg3 harg3 arg4 harg4 arg5 harg5 arg6 harg6 arg7 harg7 x0 x1 x2 x3) := by
  unfold out0_A_4
  rw [View.read_writes_eq_canon _ _ _ (cover0_A_4 (F := Ideal) c i arg2 harg2 arg3 harg3 arg4 harg4 arg5 harg5 arg6 harg6 arg7 harg7 x0 x1 x2 x3)]
  unfold kernelRun0_A
  dsimp only
  rw [View.canon_unit_zero hz2]
  sl_unfold_words
  simp only [View.readAt_eq_ld, harg2.read_unread, harg3.read_unread, harg4.read_unread, harg5.read_unread,
    View.ld_unit_zero (S := S1024x128) hz2]
  rfl

/-- The block of logarithms, opened. -/
theorem out5_open (x0 : Vec Ideal S1024x128 .bf16) (x1 x2 : Vec Ideal S4096x128 .bf16) (x3 : Vec Ideal S4x8x1024 .f32) :
    out0_A_5 (F := Ideal) c i arg2 harg2 arg3 harg3 arg4 harg4 arg5 harg5 arg6 harg6 arg7 harg7 x0 x1 x2 x3
    = (fun s : FVec Ideal S1024x1 .f32 × FVec Ideal S1024x1 .f32 × FVec Ideal S1024x128 .f32 =>
        k0_pay7 s.1 s.2.1 (k0_pay25 x0 (kd i x1) (fd i x3)) cols)
      (fin c i arg2 harg2 arg3 harg3 arg4 harg4 arg5 harg5 arg6 harg6 arg7 harg7 x0 x1 x2 x3) := by
  unfold out0_A_5
  rw [View.read_writes_eq_canon _ _ _ (cover0_A_5 (F := Ideal) c i arg2 harg2 arg3 harg3 arg4 harg4 arg5 harg5 arg6 harg6 arg7 harg7 x0 x1 x2 x3)]
  unfold kernelRun0_A
  dsimp only
  rw [View.canon_unit_zero hz3]
  sl_unfold_words
  simp only [View.readAt_eq_ld, harg2.read_unread, harg3.read_unread, harg4.read_unread, harg5.read_unread,
    View.ld_unit_zero (S := S1024x128) hz2]
  rfl

include H in
/-- The state the diagonal block leaves. -/
theorem ends (r : Fin 1024) (s : FVec Ideal S1024x1 .f32 × FVec Ideal S1024x1 .f32 × FVec Ideal S1024x128 .f32)
    (hs : Inv I h i r (i 1).val s) :
    ∃ μ : ℝ, k0_pay2 s.1 (k0_pay25 x0 (kd i x1) (fd i x3)) cols (ix2 r 0) = ↑μ
      ∧ k0_pay5 s.1 s.2.1 (k0_pay25 x0 (kd i x1) (fd i x3)) cols (ix2 r 0)
        = ↑(Real.exp (-μ) * I.z h (1024 * (i 1).val + r.val))
      ∧ ∀ d, Ideal.exp (s.1 (ix2 r 0) - k0_pay2 s.1 (k0_pay25 x0 (kd i x1) (fd i x3)) cols (ix2 r 0)) * s.2.2 (ix2 r d)
          + ∑ j : Fin 1024, k0_pay4 s.1 (k0_pay25 x0 (kd i x1) (fd i x3)) cols (ix2 r j) * k0_pay24 (kd i x2) (ix2 j d)
        = ↑(Real.exp (-μ) * ∑ j ∈ Finset.range 4096, I.e h (1024 * (i 1).val + r.val) j * I.v j (128 * h + d.val)) := by
  have hi := i1_lt i
  exact last i H r (fun j d => (ld_rows x1 _ _ _ (off5 i) j d (by omega)).trans (H.k _ d))
    (fun j d => (pay24_apply _ j d).trans ((ld_rows x2 _ _ _ (off5 i) j d (by omega)).trans (H.v _ d)))
    (fun j => (ld_row3 x3 _ _ _ _ (off6 i) j (by omega) (Nat.mod_lt _ (by norm_num))).trans (H.f ⟨(i 1).val, hi⟩ j))
    s hs

include H in
/-- The output block of a point. -/
theorem out4 (r : Fin 1024) (d : Fin 128) :
    out0_A_4 (F := Ideal) c i arg2 harg2 arg3 harg3 arg4 harg4 arg5 harg5 arg6 harg6 arg7 harg7 x0 x1 x2 x3 (ix2 r d)
    = (I.o h (1024 * (i 1).val + r.val) d.val : EReal) := by
  obtain ⟨μ, h1, h2, h3⟩ := ends i H r _ (inv c i arg2 harg2 arg3 harg3 arg4 harg4 arg5 harg5 arg6 harg6 arg7 harg7 H r _ le_rfl)
  rw [out4_open, fin_eq]
  dsimp only
  rw [pay6_apply, h2, h3 d, Row.out (I.z_pos _ _)]
  unfold Inp.o Inp.p
  rw [Finset.sum_div]
  simp only [div_mul_eq_mul_div]

include H in
/-- The block of logarithms of a point. -/
theorem out5 (r : Fin 1024) (d : Fin 128) :
    out0_A_5 (F := Ideal) c i arg2 harg2 arg3 harg3 arg4 harg4 arg5 harg5 arg6 harg6 arg7 harg7 x0 x1 x2 x3 (ix3 0 r d)
    = (Real.log (I.z h (1024 * (i 1).val + r.val)) : EReal) := by
  obtain ⟨μ, h1, h2, h3⟩ := ends i H r _ (inv c i arg2 harg2 arg3 harg3 arg4 harg4 arg5 harg5 arg6 harg6 arg7 harg7 H r _ le_rfl)
  rw [out5_open, fin_eq]
  dsimp only
  rw [pay7_apply, h2, h1, Row.lse (I.z_pos _ _)]

end Cert.KernelIdeal.Fwd
-- ==== Proof.Arrays.lean ====
module

public import proofs.«01_k».proof.Proof.Gen.KernelIdeal.Frame
public import proofs.«01_k».proof.Proof.Spec
public import Idealize.ShloMosaic.Lib.Pipeline.ValueKit

/-! # The arrays of the three kernels as real numbers -/

@[expose] public section

noncomputable section

namespace Cert.KernelIdeal.Arr

open Cert.KernelIdeal Cert.KernelIdeal.Gen Cert.Fox Idealize.ShloMosaic Idealize.ShloMosaic.TcCoe Idealize.SL.Sem

variable (I : Inp)

/-- An array of rows by heads and lanes. -/
def rowsArr (F : ℕ → ℕ → ℕ → ℝ) : FVec Ideal S4096x2048 .bf16 := fun y => (F ((y 1).val / 128) (y 0).val ((y 1).val % 128) : EReal)
/-- A number per head and row, over all lanes. -/
def colsArr (F : ℕ → ℕ → ℝ) : FVec Ideal S16x4096x128 .f32 := fun y => (F (y 0).val (y 1).val : EReal)
/-- A number per head and row, over eight sublanes. -/
def gatesArr (F : ℕ → ℕ → ℝ) : FVec Ideal S16x4x8x1024 .f32 := fun y => (F (y 0).val (1024 * (y 1).val + (y 3).val) : EReal)

/-- The arrays the kernels read, as real numbers. -/
structure Ent (V : (b : Ref sig .tc) → (b.ty : BufTy).Contents (Elt Ideal)) : Prop where
  q : ∀ (n : Fin 4096) (e : Fin 2048), (V main_v2 : FVec Ideal S4096x2048 .bf16) (ix2 n e) = ((I.q n.val e.val * I.c : ℝ) : EReal)
  k : ∀ (n : Fin 4096) (e : Fin 2048), (V main_v3 : FVec Ideal S4096x2048 .bf16) (ix2 n e) = (I.k n.val e.val : EReal)
  v : ∀ (n : Fin 4096) (e : Fin 2048), (V main_v4 : FVec Ideal S4096x2048 .bf16) (ix2 n e) = (I.v n.val e.val : EReal)
  g : ∀ (n : Fin 4096) (e : Fin 2048), (V main_v5 : FVec Ideal S4096x2048 .bf16) (ix2 n e) = (I.g n.val e.val : EReal)
  f : ∀ (b : Fin 4) (h : Fin 128) (s : Fin 1024), h.val < 16 →
    (V main_v8 : FVec Ideal S4x128x1024 .f32) (ix3 b h s) = (I.f h.val (1024 * b.val + s.val) : EReal)

end Cert.KernelIdeal.Arr
-- ==== Proof.Arr0.lean ====
module

public import proofs.«01_k».proof.Proof.Fwd
public import proofs.«01_k».proof.Proof.Arrays
public import Idealize.ShloMosaic.Lib.Pipeline.ValueKit

/-! # The arrays the forward kernel leaves -/

@[expose] public section

noncomputable section

set_option maxRecDepth 16384

namespace Cert.KernelIdeal.Fwd

open Cert.KernelIdeal Cert.KernelIdeal.Gen Cert.KernelIdeal.Arr Cert.Fox Idealize.ShloMosaic Idealize.ShloMosaic.TcCoe Idealize.SL.Sem

/-- Where the blocks of a point of the grid lie. -/
theorem idx : ∀ t : Fin cfg0.N, win0_0.index t = ![(grid0.coords t 1).val, (grid0.coords t 0).val]
    ∧ win0_1.index t = ![0, (grid0.coords t 0).val]
    ∧ win0_2.index t = ![0, (grid0.coords t 0).val]
    ∧ win0_3.index t = ![0, (grid0.coords t 0).val / 8, 0]
    ∧ win0_4.index t = ![(grid0.coords t 1).val, (grid0.coords t 0).val]
    ∧ win0_5.index t = ![(grid0.coords t 0).val, (grid0.coords t 1).val, 0]
    ∧ (grid0.coords t 0).val < 16
    ∧ (grid0.coords t 1).val < 4 :=
  (by decide +kernel : ∀ t : Fin grid0.N, _)

variable (V : (c : Dev nD) → (b : Ref sig .tc) → Buf (Elt Ideal) ((c : Thread nD τ).loc b)) (c : Dev nD) (I : Inp) (t : Fin cfg0.N)

theorem rd0 (r : Fin 1024) (d : Fin 128) (hr : 1024 * (grid0.coords t 1).val + r.val < 4096) (hd : 128 * (grid0.coords t 0).val + d.val < 2048) :
    iblk0 V c 0 t (ix2 r d)
    = (V c main_v2 : FVec Ideal S4096x2048 .bf16) (ix2 ⟨1024 * (grid0.coords t 1).val + r.val, hr⟩ ⟨128 * (grid0.coords t 0).val + d.val, hd⟩) := by
  blk_ext [iblk0, idx t]

theorem rd1 (r : Fin 4096) (d : Fin 128) (hd : 128 * (grid0.coords t 0).val + d.val < 2048) :
    iblk0 V c 1 t (ix2 r d)
    = (V c main_v3 : FVec Ideal S4096x2048 .bf16) (ix2 r ⟨128 * (grid0.coords t 0).val + d.val, hd⟩) := by
  blk_ext [iblk0, idx t]

theorem rd2 (r : Fin 4096) (d : Fin 128) (hd : 128 * (grid0.coords t 0).val + d.val < 2048) :
    iblk0 V c 2 t (ix2 r d)
    = (V c main_v4 : FVec Ideal S4096x2048 .bf16) (ix2 r ⟨128 * (grid0.coords t 0).val + d.val, hd⟩) := by
  blk_ext [iblk0, idx t]

theorem rd3 (j : Fin 4) (s : Fin 1024) (hm : (grid0.coords t 0).val % 8 < 8) (h0 : (grid0.coords t 0).val < 128) :
    iblk0 V c 3 t (ix3 j ⟨(grid0.coords t 0).val % 8, hm⟩ s)
    = (V c main_v8 : FVec Ideal S4x128x1024 .f32) (ix3 j ⟨(grid0.coords t 0).val, h0⟩ s) := by
  blk_ext [iblk0, idx t]

variable {V c I} (E : Ent I (V c))

include E in
theorem input : In I (grid0.coords t 0).val (grid0.coords t) (iblk0 V c 0 t) (iblk0 V c 1 t) (iblk0 V c 2 t) (iblk0 V c 3 t) :=
  have h0 : (grid0.coords t 0).val < 16 := (idx t).2.2.2.2.2.2.1
  have h1 : (grid0.coords t 1).val < 4 := (idx t).2.2.2.2.2.2.2
  {
    q r d := (rd0 V c t r d (by omega) (by omega)).trans (E.q _ _)
    k r d := (rd1 V c t r d (by omega)).trans (E.k _ _)
    v r d := (rd2 V c t r d (by omega)).trans (E.v _ _)
    f j s := (rd3 V c t j s _ (by omega)).trans (E.f _ _ _ h0) }

include E in
theorem at4 (r : Fin 1024) (d : Fin 128) : (outsAt0 V c t).1 (ix2 r d)
    = (((I.o) (grid0.coords t 0).val (1024 * (grid0.coords t 1).val + r.val) d.val : ℝ) : EReal) := by
  unfold outsAt0
  dsimp only
  exact out4 c (grid0.coords t) (ms0_0 t) (hs0_0 t) (ms0_1 t) (hs0_1 t) (ms0_2 t) (hs0_2 t) (ms0_3 t) (hs0_3 t) (ms0_4 t) (hs0_4 t) (ms0_5 t) (hs0_5 t) (input t E) r d

include E in
theorem point4 (y : S1024x128.Idx) : (outsAt0 V c t).1 y = rowsArr (I.o) (((cfg0.win 4).blk t).view.emb y) := by
  idx_vars y
  refine (at4 t E y0 y1).trans ?_
  unfold rowsArr
  blk_simp [idx t]
  rw [show (grid0.coords t 0).val * 128 + y1.val = 128 * (grid0.coords t 0).val + y1.val by omega, Nat.mul_add_div (by norm_num),
    Nat.mul_add_mod, Nat.div_eq_of_lt y1.isLt, Nat.mod_eq_of_lt y1.isLt, Nat.mul_comm (grid0.coords t 1).val, Nat.add_zero]

include E in
theorem final4 : (dat0 V c).arrAt 4 cfg0.N = rowsArr (I.o) := by
  refine (dat0 V c).arrAt_eq_of_covers 4 _ (by decide +kernel) fun t _ y => ?_
  blk_simp
  rw [after0_4]
  exact point4 t E y

include E in
theorem at5 (a : Fin 1) (r : Fin 1024) (d : Fin 128) : (outsAt0 V c t).2 (ix3 a r d)
    = (((fun h i => Real.log (I.z h i)) (grid0.coords t 0).val (1024 * (grid0.coords t 1).val + r.val) : ℝ) : EReal) := by
  obtain rfl : a = 0 := Subsingleton.elim _ _
  unfold outsAt0
  dsimp only
  exact out5 c (grid0.coords t) (ms0_0 t) (hs0_0 t) (ms0_1 t) (hs0_1 t) (ms0_2 t) (hs0_2 t) (ms0_3 t) (hs0_3 t) (ms0_4 t) (hs0_4 t) (ms0_5 t) (hs0_5 t) (input t E) r d

include E in
theorem point5 (y : S1x1024x128.Idx) : (outsAt0 V c t).2 y = colsArr (fun h i => Real.log (I.z h i)) (((cfg0.win 5).blk t).view.emb y) := by
  idx_vars y
  refine (at5 t E y0 y1 y2).trans ?_
  unfold colsArr
  blk_simp [idx t]
  rw [Nat.mul_comm (grid0.coords t 1).val]

include E in
theorem final5 : (dat0 V c).arrAt 5 cfg0.N = colsArr (fun h i => Real.log (I.z h i)) := by
  refine (dat0 V c).arrAt_eq_of_covers 5 _ (by decide +kernel) fun t _ y => ?_
  blk_simp
  rw [after0_5]
  exact point5 t E y

end Cert.KernelIdeal.Fwd
-- ==== Proof.DqPay.lean ====
module

public import proofs.«01_k».proof.Proof.Gen.KernelIdeal.Skeleton
public import proofs.«01_k».proof.Proof.Consts
public import Idealize.ShloMosaic.Lib.Pipeline.ValueKit

/-! # The expressions of the queries' gradient kernel, read at an index -/

@[expose] public section

noncomputable section

namespace Cert.KernelIdeal.Dq

open Cert.KernelIdeal Cert.KernelIdeal.Gen Cert.Fox Idealize.ShloMosaic

variable (v0 v2 v106 v109 : Vec Ideal S1024x128 .bf16) (v4 : Vec Ideal S1x1024x1 .f32) (v114 : Vec Ideal S1x1x1024 .f32)
  (v5 num den rt : FVec Ideal S1024x1 .f32) (a : FVec Ideal S1024x128 .f32) (s : FVec Ideal S1024x1024 .f32)
  (r j : Fin 1024) (d : Fin 128)

theorem pay3_apply : k1_pay3 v0 (ix2 r d) = v0 (ix2 r d) := by pointwise [k1_pay3]
theorem pay4_apply : k1_pay4 v0 (ix2 r d) = v0 (ix2 r d) := by pointwise [k1_pay4]
theorem pay13_apply : k1_pay13 v0 (ix2 r d) = v0 (ix2 r d) := by pointwise [k1_pay13]
theorem pay19_apply : k1_pay19 v0 (ix2 r d) = v0 (ix2 r d) := by pointwise [k1_pay19]
theorem pay20_apply : k1_pay20 v0 (ix2 r d) = v0 (ix2 r d) := by pointwise [k1_pay20]
theorem pay5_apply : k1_pay5 v4 (ix2 r 0) = v4 (ix3 0 r 0) := by pointwise [k1_pay5]
theorem pay6_apply : k1_pay6 (F := Ideal) (ix2 r 0) = 0 := by pointwise [k1_pay6]
theorem pay16_apply : k1_pay16 (F := Ideal) (ix2 r d) = 0 := by pointwise [k1_pay16]

/-! ## The first sweep -/

theorem pay7_apply : k1_pay7 v0 v4 v106 v114 (ix2 r j)
    = Ideal.exp ((∑ d : Fin 128, v0 (ix2 r d) * v106 (ix2 j d)) - v114 (ix3 0 0 j) - v4 (ix3 0 r 0)) := by
  pointwise [k1_pay7, k1_pay3, k1_pay5]

theorem pay8_apply : k1_pay8 v0 v2 v4 num v106 v109 v114 (ix2 r 0)
    = num (ix2 r 0) + ∑ j : Fin 1024, k1_pay7 v0 v4 v106 v114 (ix2 r j) * ∑ d : Fin 128, v2 (ix2 r d) * v109 (ix2 j d) := by
  pointwise [k1_pay8, k1_pay4]

theorem pay9_apply : k1_pay9 v0 v4 den v106 v114 (ix2 r 0)
    = den (ix2 r 0) + ∑ j : Fin 1024, k1_pay7 v0 v4 v106 v114 (ix2 r j) := by
  pointwise [k1_pay9]

/-! ## The diagonal block of the first sweep -/

theorem pay14_apply : k1_pay14 v0 v106 (ix2 r j) = ∑ d : Fin 128, v0 (ix2 r d) * v106 (ix2 j d) := by
  pointwise [k1_pay14, k1_pay3]

theorem pay15_apply : k1_pay15 v2 v5 num den v109 s v114 (ix2 r 0)
    = Ideal.div
      (num (ix2 r 0) + ∑ j : Fin 1024, Ideal.exp ((if j.val ≤ r.val then s (ix2 r j) - v114 (ix3 0 0 j) else ⊥) - v5 (ix2 r 0))
        * ∑ d : Fin 128, v2 (ix2 r d) * v109 (ix2 j d))
      (den (ix2 r 0) + ∑ j : Fin 1024, Ideal.exp ((if j.val ≤ r.val then s (ix2 r j) - v114 (ix3 0 0 j) else ⊥) - v5 (ix2 r 0))) := by
  pointwise [k1_pay15]
  simp only [select_fin, named_mask]

/-! ## The second sweep -/

theorem pay17_apply (v31 : FVec Ideal S1024x128 .bf16) (v35 : Vec Ideal S1x1x1024 .f32) :
    k1_pay17 v0 v2 v5 num den v31 s v35 a v106 v109 v114 (ix2 r d)
    = a (ix2 r d) + ∑ j : Fin 1024,
      (Ideal.exp ((∑ d : Fin 128, v0 (ix2 r d) * v106 (ix2 j d)) - v114 (ix3 0 0 j) - v5 (ix2 r 0))
        * ((∑ d : Fin 128, v2 (ix2 r d) * v109 (ix2 j d)) - k1_pay15 v2 v5 num den v31 s v35 (ix2 r 0)))
      * v106 (ix2 j d) := by
  pointwise [k1_pay17]

/-! ## The diagonal block of the second sweep -/

/-- The key's position within the block. -/
abbrev cols : IVec S1024x1024 32 := iota .tc S1024x1024 32 [1] iota_S1024x1024_d1_w32
/-- The query's position within the block. -/
abbrev rows : IVec S1024x1024 32 := iota .tc S1024x1024 32 [0] iota_S1024x1024_d0_w32

theorem pay21_apply : k1_pay21 v0 v106 v114 (ix2 r j)
    = (∑ d : Fin 128, v0 (ix2 r d) * v106 (ix2 j d)) - v114 (ix3 0 0 j) := by
  pointwise [k1_pay21, k1_pay19]

theorem pay1_apply : k1_pay1 v2 v5 rt a v106 v109 s cols rows (ix2 r d)
    = (a (ix2 r d) + ∑ j : Fin 1024,
      (Ideal.exp ((if j.val ≤ r.val then s (ix2 r j) else ⊥) - v5 (ix2 r 0))
        * ((∑ d : Fin 128, v2 (ix2 r d) * v109 (ix2 j d)) - rt (ix2 r 0)))
      * v106 (ix2 j d)) * (scale : EReal) := by
  pointwise [k1_pay1]
  simp only [select_fin, named_mask, ofBits_scale]

theorem pay2_apply : k1_pay2 rt (ix3 0 r d) = rt (ix2 r 0) := by
  pointwise [k1_pay2]

end Cert.KernelIdeal.Dq
-- ==== Proof.Dq.lean ====
module

public import proofs.«01_k».proof.Proof.Gen.KernelIdeal.Frame
public import proofs.«01_k».proof.Proof.DqPay
public import proofs.«01_k».proof.Proof.Blocks

/-! # The block of the queries' gradient kernel -/

@[expose] public section

noncomputable section

namespace Cert.KernelIdeal.Dq

open Cert.KernelIdeal Cert.KernelIdeal.Gen Cert.Fox Idealize.ShloMosaic Idealize.ShloMosaic.TcCoe Idealize.SL.Sem

theorem trips1 : ∀ i : grid1.Coords, (k1_t1_loop i).trips = (i 1).val := by decide +kernel
theorem trips2 : ∀ i : grid1.Coords, (k1_t2_loop i).trips = 0 := by decide +kernel
theorem trips3 : ∀ i : grid1.Coords, (k1_t3_loop i).trips = (i 1).val := by decide +kernel
theorem trips4 : ∀ i : grid1.Coords, (k1_t4_loop i).trips = 0 := by decide +kernel
theorem off1 : ∀ (i : grid1.Coords) (k : Fin (k1_t1_loop i).trips), k1_off1 i k = ![1024 * k.val, 0] := by decide +kernel
theorem off2 : ∀ (i : grid1.Coords) (k : Fin (k1_t1_loop i).trips), k1_off2 i k = ![k.val, (i 0).val % 8, 0] := by
  decide +kernel
theorem off5 : ∀ i : grid1.Coords, k1_off5 i = ![1024 * (i 1).val, 0] := by decide +kernel
theorem off6 : ∀ i : grid1.Coords, k1_off6 i = ![(i 1).val, (i 0).val % 8, 0] := by decide +kernel
theorem off7 : ∀ (i : grid1.Coords) (k : Fin (k1_t3_loop i).trips), k1_off7 i k = ![1024 * k.val, 0] := by decide +kernel
theorem off8 : ∀ (i : grid1.Coords) (k : Fin (k1_t3_loop i).trips), k1_off8 i k = ![k.val, (i 0).val % 8, 0] := by
  decide +kernel

theorem i1_lt (i : grid1.Coords) : (i 1).val < 4 := (i 1).isLt

/-- The blocks a point of the grid reads, as real numbers. -/
structure In (I : Inp) (h : ℕ) (i : grid1.Coords) (x0 : Vec Ideal S1024x128 .bf16) (x1 x2 : Vec Ideal S4096x128 .bf16)
    (x3 : Vec Ideal S1024x128 .bf16) (x4 : Vec Ideal S1x1024x128 .f32) (x5 : Vec Ideal S4x8x1024 .f32) : Prop where
  c : I.c = scale
  q : ∀ (r : Fin 1024) (d : Fin 128), x0 (ix2 r d) = ((I.q (1024 * (i 1).val + r.val) (128 * h + d.val) * I.c : ℝ) : EReal)
  k : ∀ (n : Fin 4096) (d : Fin 128), x1 (ix2 n d) = (I.k n.val (128 * h + d.val) : EReal)
  v : ∀ (n : Fin 4096) (d : Fin 128), x2 (ix2 n d) = (I.v n.val (128 * h + d.val) : EReal)
  g : ∀ (r : Fin 1024) (d : Fin 128), x3 (ix2 r d) = (I.g (1024 * (i 1).val + r.val) (128 * h + d.val) : EReal)
  l : ∀ r : Fin 1024, x4 (ix3 0 r 0) = (Real.log (I.z h (1024 * (i 1).val + r.val)) : EReal)
  f : ∀ (j : Fin 4) (s : Fin 1024),
    x5 (ix3 j ⟨(i 0).val % 8, Nat.mod_lt _ (by norm_num)⟩ s) = (I.f h (1024 * j.val + s.val) : EReal)

variable (c : Dev nD) (i : grid1.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .bf16) (harg5 : arg5.IsWhole)
  (arg6 : Memref sig .tc .vmem S1x1024x128 .f32) (harg6 : arg6.IsWhole)
  (arg7 : Memref sig .tc .vmem S4x8x1024 .f32) (harg7 : arg7.IsWhole)
  (arg8 : Memref sig .tc .vmem S1024x128 .bf16) (harg8 : arg8.IsWhole)
  (arg9 : Memref sig .tc .vmem S1x1024x128 .f32) (harg9 : arg9.IsWhole)
  {x0 x3 : Vec Ideal S1024x128 .bf16} {x1 x2 : Vec Ideal S4096x128 .bf16} {x4 : Vec Ideal S1x1024x128 .f32}
  {x5 : Vec Ideal S4x8x1024 .f32} {I : Inp} {h : ℕ} (H : In I h i x0 x1 x2 x3 x4 x5)

/-- The column of logarithms. -/
def lc (x4 : Vec Ideal S1x1024x128 .f32) : Vec Ideal S1x1024x1 .f32 :=
  View.ld x4 (Rect.unit (s := S1x1024x128) ![0, 0, 0] S1x1024x1.size inb_S1x1024x128_S1x1024x1_0_0_0)

theorem lc_apply (x4 : Vec Ideal S1x1024x128 .f32) (r : Fin 1024) : lc x4 (ix3 0 r 0) = x4 (ix3 0 r 0) := by
  refine (ld_col3 x4 _ _ 0 rfl r (by omega) (by norm_num)).trans ?_
  simp only [Nat.zero_add]; rfl

/-- The block of rows and the gate row of trip `k` of the first sweep, on the diagonal, and of the second sweep. -/
def kb (x : Vec Ideal S4096x128 .bf16) (k : Fin (k1_t1_loop i).trips) : Vec Ideal S1024x128 .bf16 :=
  View.ld x (Rect.unit (s := S4096x128) (k1_off1 i k) S1024x128.size (k1_off1_inb i k))
def fb (x : Vec Ideal S4x8x1024 .f32) (k : Fin (k1_t1_loop i).trips) : Vec Ideal S1x1x1024 .f32 :=
  View.ld x (Rect.unit (s := S4x8x1024) (k1_off2 i k) S1x1x1024.size (k1_off2_inb i k))
def kd (x : Vec Ideal S4096x128 .bf16) : Vec Ideal S1024x128 .bf16 :=
  View.ld x (Rect.unit (s := S4096x128) (k1_off5 i) S1024x128.size (k1_off5_inb i))
def fd (x : Vec Ideal S4x8x1024 .f32) : Vec Ideal S1x1x1024 .f32 :=
  View.ld x (Rect.unit (s := S4x8x1024) (k1_off6 i) S1x1x1024.size (k1_off6_inb i))
def kb3 (x : Vec Ideal S4096x128 .bf16) (k : Fin (k1_t3_loop i).trips) : Vec Ideal S1024x128 .bf16 :=
  View.ld x (Rect.unit (s := S4096x128) (k1_off7 i k) S1024x128.size (k1_off7_inb i k))
def fb3 (x : Vec Ideal S4x8x1024 .f32) (k : Fin (k1_t3_loop i).trips) : Vec Ideal S1x1x1024 .f32 :=
  View.ld x (Rect.unit (s := S4x8x1024) (k1_off8 i k) S1x1x1024.size (k1_off8_inb i k))

/-! Those blocks as real numbers. -/

include H in
theorem kb_k (k : Fin (k1_t1_loop i).trips) (j : Fin 1024) (d : Fin 128) :
    kb i x1 k (ix2 j d) = (I.k (1024 * k.val + j.val) (128 * h + d.val) : EReal) := by
  have hi := i1_lt i
  have hk : k.val < (i 1).val := lt_of_lt_of_eq k.isLt (trips1 i)
  exact (ld_rows x1 _ _ _ (off1 i k) j d (by omega)).trans (H.k _ d)

include H in
theorem kb_v (k : Fin (k1_t1_loop i).trips) (j : Fin 1024) (d : Fin 128) :
    kb i x2 k (ix2 j d) = (I.v (1024 * k.val + j.val) (128 * h + d.val) : EReal) := by
  have hi := i1_lt i
  have hk : k.val < (i 1).val := lt_of_lt_of_eq k.isLt (trips1 i)
  exact (ld_rows x2 _ _ _ (off1 i k) j d (by omega)).trans (H.v _ d)

include H in
theorem fb_f (k : Fin (k1_t1_loop i).trips) (j : Fin 1024) :
    fb i x5 k (ix3 0 0 j) = (I.f h (1024 * k.val + j.val) : EReal) := by
  have hi := i1_lt i
  have hk : k.val < (i 1).val := lt_of_lt_of_eq k.isLt (trips1 i)
  exact (ld_row3 x5 _ _ _ _ (off2 i k) j (by omega) (Nat.mod_lt _ (by norm_num))).trans (H.f ⟨k.val, by omega⟩ j)

include H in
theorem kb3_k (k : Fin (k1_t3_loop i).trips) (j : Fin 1024) (d : Fin 128) :
    kb3 i x1 k (ix2 j d) = (I.k (1024 * k.val + j.val) (128 * h + d.val) : EReal) := by
  have hi := i1_lt i
  have hk : k.val < (i 1).val := lt_of_lt_of_eq k.isLt (trips3 i)
  exact (ld_rows x1 _ _ _ (off7 i k) j d (by omega)).trans (H.k _ d)

include H in
theorem kb3_v (k : Fin (k1_t3_loop i).trips) (j : Fin 1024) (d : Fin 128) :
    kb3 i x2 k (ix2 j d) = (I.v (1024 * k.val + j.val) (128 * h + d.val) : EReal) := by
  have hi := i1_lt i
  have hk : k.val < (i 1).val := lt_of_lt_of_eq k.isLt (trips3 i)
  exact (ld_rows x2 _ _ _ (off7 i k) j d (by omega)).trans (H.v _ d)

include H in
theorem fb3_f (k : Fin (k1_t3_loop i).trips) (j : Fin 1024) :
    fb3 i x5 k (ix3 0 0 j) = (I.f h (1024 * k.val + j.val) : EReal) := by
  have hi := i1_lt i
  have hk : k.val < (i 1).val := lt_of_lt_of_eq k.isLt (trips3 i)
  exact (ld_row3 x5 _ _ _ _ (off8 i k) j (by omega) (Nat.mod_lt _ (by norm_num))).trans (H.f ⟨k.val, by omega⟩ j)

include H in
theorem kd_k (j : Fin 1024) (d : Fin 128) : kd i x1 (ix2 j d) = (I.k (1024 * (i 1).val + j.val) (128 * h + d.val) : EReal) := by
  have hi := i1_lt i
  exact (ld_rows x1 _ _ _ (off5 i) j d (by omega)).trans (H.k _ d)

include H in
theorem kd_v (j : Fin 1024) (d : Fin 128) : kd i x2 (ix2 j d) = (I.v (1024 * (i 1).val + j.val) (128 * h + d.val) : EReal) := by
  have hi := i1_lt i
  exact (ld_rows x2 _ _ _ (off5 i) j d (by omega)).trans (H.v _ d)

include H in
theorem fd_f (j : Fin 1024) : fd i x5 (ix3 0 0 j) = (I.f h (1024 * (i 1).val + j.val) : EReal) := by
  have hi := i1_lt i
  exact (ld_row3 x5 _ _ _ _ (off6 i) j (by omega) (Nat.mod_lt _ (by norm_num))).trans (H.f ⟨(i 1).val, hi⟩ j)

/-! ## The first sweep -/

/-- The state of the first sweep after `n` trips. -/
abbrev st1 (x0 x3 : Vec Ideal S1024x128 .bf16) (x1 x2 : Vec Ideal S4096x128 .bf16) (x4 : Vec Ideal S1x1024x128 .f32)
    (x5 : Vec Ideal S4x8x1024 .f32) (n : ℕ) :=
  st_k1_t1 (F := Ideal) Variants.none c none i arg2 harg2 arg3 harg3 arg4 harg4 arg5 harg5 arg6 harg6 arg7 harg7 arg8 harg8 arg9 harg9 x0 x3 (lc x4)
    (harg3.unread x1) (harg4.unread x2) (harg7.unread x5) (k1_pay6, k1_pay6) n

theorem trip1 (v0 v2 : Vec Ideal S1024x128 .bf16) (v4 : Vec Ideal S1x1024x1 .f32) (x1 x2 : Vec Ideal S4096x128 .bf16)
    (x5 : Vec Ideal S4x8x1024 .f32) (k : Fin (k1_t1_loop i).trips) (acc : FVec Ideal S1024x1 .f32 × FVec Ideal S1024x1 .f32) :
    tripR_k1_t1 (F := Ideal) Variants.none c none i arg2 harg2 arg3 harg3 arg4 harg4 arg5 harg5 arg6 harg6 arg7 harg7 arg8 harg8 arg9 harg9 v0 v2 v4
      (harg3.unread x1) (harg4.unread x2) (harg7.unread x5) k acc
    = (k1_pay8 v0 v2 v4 acc.1 (kb i x1 k) (kb i x2 k) (fb i x5 k), k1_pay9 v0 v4 acc.2 (kb i x1 k) (fb i x5 k)) := by
  unfold tripR_k1_t1 trip_k1_t1
  dsimp only
  simp only [View.readAt_eq_ld, harg3.read_unread, harg4.read_unread, harg7.read_unread]
  rfl

/-- The sums of the first sweep after `n` blocks of keys. -/
def Inv1 (I : Inp) (h : ℕ) (i : grid1.Coords) (r : Fin 1024) (n : ℕ) (s : FVec Ideal S1024x1 .f32 × FVec Ideal S1024x1 .f32) :
    Prop :=
  s.1 (ix2 r 0) = ((∑ j ∈ Finset.range (1024 * n), I.p h (1024 * (i 1).val + r.val) j * I.dp h (1024 * (i 1).val + r.val) j : ℝ) : EReal)
    ∧ s.2 (ix2 r 0) = ((∑ j ∈ Finset.range (1024 * n), I.p h (1024 * (i 1).val + r.val) j : ℝ) : EReal)

include H in
theorem step1 (r : Fin 1024) (k : Fin (k1_t1_loop i).trips) (s : FVec Ideal S1024x1 .f32 × FVec Ideal S1024x1 .f32)
    (ih : Inv1 I h i r k.val s) :
    Inv1 I h i r (k.val + 1) (k1_pay8 x0 x3 (lc x4) s.1 (kb i x1 k) (kb i x2 k) (fb i x5 k),
      k1_pay9 x0 (lc x4) s.2 (kb i x1 k) (fb i x5 k)) := by
  have hi := i1_lt i
  have hk : k.val < (i 1).val := lt_of_lt_of_eq k.isLt (trips1 i)
  have hp : ∀ j : Fin 1024, k1_pay7 x0 (lc x4) (kb i x1 k) (fb i x5 k) (ix2 r j)
      = (I.p h (1024 * (i 1).val + r.val) (1024 * k.val + j.val) : EReal) := fun j => by
    rw [pay7_apply, lc_apply, H.l r, score I h (1024 * (i 1).val + r.val) (1024 * k.val + j.val) (fun d => H.q r d)
      (fun d => kb_k i H k j d)
      (fb_f i H k j)]
    exact prob I (by omega)
  refine ⟨?_, ?_⟩
  · refine (pay8_apply x0 x3 (kb i x1 k) (kb i x2 k) (lc x4) (fb i x5 k) s.1 r).trans (add_block _ _ ih.1 fun j => ?_)
    rw [hp j, cot I h (1024 * (i 1).val + r.val) (1024 * k.val + j.val) (fun d => H.g r d)
      (fun d => kb_v i H k j d), ← EReal.coe_mul]
  · exact (pay9_apply x0 (kb i x1 k) (lc x4) (fb i x5 k) s.2 r).trans (add_block _ _ ih.2 hp)

include H in
theorem inv1 (r : Fin 1024) : ∀ n : ℕ, n ≤ (i 1).val →
    Inv1 I h i r n (st1 c i arg2 harg2 arg3 harg3 arg4 harg4 arg5 harg5 arg6 harg6 arg7 harg7 arg8 harg8 arg9 harg9 x0 x3 x1 x2 x4 x5 n)
  | 0, _ => by
    unfold Inv1 st1
    rw [st_k1_t1_zero]
    simp only [pay6_apply, Nat.mul_zero, Finset.sum_range_zero, EReal.coe_zero, and_self]
  | n + 1, hn => by
    have ih := inv1 r n (by omega)
    obtain ⟨k, rfl⟩ : ∃ k : Fin (k1_t1_loop i).trips, k.val = n := ⟨⟨n, by rw [trips1]; omega⟩, rfl⟩
    unfold st1
    rw [st_k1_t1_succ, trip1]
    exact step1 i H r k _ ih

/-! ## The row's mean, at the diagonal block -/

/-- The row's mean, from the state of the first sweep. -/
def rtv (x0 x3 : Vec Ideal S1024x128 .bf16) (x1 x2 : Vec Ideal S4096x128 .bf16) (x4 : Vec Ideal S1x1024x128 .f32)
    (x5 : Vec Ideal S4x8x1024 .f32) (s : FVec Ideal S1024x1 .f32 × FVec Ideal S1024x1 .f32) : FVec Ideal S1024x1 .f32 :=
  k1_pay15 (k1_pay4 x3) (k1_pay5 (lc x4)) s.1 s.2 (k1_pay13 (kd i x2)) (k1_pay14 x0 (kd i x1)) (fd i x5)

include H in
theorem score_d (r j : Fin 1024) : (∑ d : Fin 128, x0 (ix2 r d) * kd i x1 (ix2 j d)) - fd i x5 (ix3 0 0 j)
    = (I.x h (1024 * (i 1).val + r.val) (1024 * (i 1).val + j.val) : EReal) := by
  have hi := i1_lt i
  exact score I h _ _ (fun d => H.q r d) (fun d => kd_k i H j d)
    (fd_f i H j)

include H in
theorem cot_d (r j : Fin 1024) : ∑ d : Fin 128, x3 (ix2 r d) * kd i x2 (ix2 j d)
    = (I.dp h (1024 * (i 1).val + r.val) (1024 * (i 1).val + j.val) : EReal) := by
  have hi := i1_lt i
  exact cot I h _ _ (fun d => H.g r d) (fun d => kd_v i H j d)

include H in
theorem rt_eq (r : Fin 1024) (s : FVec Ideal S1024x1 .f32 × FVec Ideal S1024x1 .f32) (hs : Inv1 I h i r (i 1).val s) :
    rtv i x0 x3 x1 x2 x4 x5 s (ix2 r 0) = (I.rt h (1024 * (i 1).val + r.val) : EReal) := by
  have hi := i1_lt i
  unfold rtv
  rw [pay15_apply]
  simp only [pay4_apply, pay5_apply, pay13_apply, pay14_apply, lc_apply, H.l r, score_d i H, cot_d i H,
    prob_mask I h (1024 * (i 1).val) rfl]
  rw [add_block _ _ hs.1 (fun j => (EReal.coe_mul _ _).symm), add_block _ _ hs.2 (fun j => rfl),
    sum_causal _ hi r.isLt (fun j hj => by rw [I.p_of_lt hj, zero_mul]), sum_causal _ hi r.isLt (fun j hj => I.p_of_lt hj),
    I.sum_p, div_coe one_ne_zero, div_one]
  rfl

/-! ## The second sweep -/

theorem trip3 (a1 a15 : BitVec 32) (v1 v3 : FVec Ideal S1024x128 .bf16) (v5 n0 n1 : FVec Ideal S1024x1 .f32)
    (v31 : FVec Ideal S1024x128 .bf16) (v32 : FVec Ideal S1024x1024 .f32) (v35 : Vec Ideal S1x1x1024 .f32)
    (x1 x2 : Vec Ideal S4096x128 .bf16) (x5 : Vec Ideal S4x8x1024 .f32) (k : Fin (k1_t3_loop i).trips)
    (acc : FVec Ideal S1024x128 .f32) :
    tripR_k1_t3 (F := Ideal) Variants.none c none i arg2 harg2 arg3 harg3 arg4 harg4 arg5 harg5 arg6 harg6 arg7 harg7 arg8 harg8 arg9 harg9 a1 v1 v3 v5 a15 n0 n1 v31 v32 v35
      (harg3.unread x1) (harg4.unread x2) (harg7.unread x5) k acc
    = k1_pay17 v1 v3 v5 n0 n1 v31 v32 v35 acc (kb3 i x1 k) (kb3 i x2 k) (fb3 i x5 k) := by
  unfold tripR_k1_t3 trip_k1_t3
  dsimp only
  simp only [View.readAt_eq_ld, harg3.read_unread, harg4.read_unread, harg7.read_unread]
  rfl

/-- The sum of the second sweep after `n` blocks of keys. -/
def Inv3 (I : Inp) (h : ℕ) (i : grid1.Coords) (r : Fin 1024) (n : ℕ) (s : FVec Ideal S1024x128 .f32) : Prop :=
  ∀ d : Fin 128, s (ix2 r d)
    = ((∑ j ∈ Finset.range (1024 * n), I.ds h (1024 * (i 1).val + r.val) j * I.k j (128 * h + d.val) : ℝ) : EReal)

include H in
theorem step3 (r : Fin 1024) (k : Fin (k1_t3_loop i).trips) (s : FVec Ideal S1024x1 .f32 × FVec Ideal S1024x1 .f32)
    (hs : Inv1 I h i r (i 1).val s) (a : FVec Ideal S1024x128 .f32) (ih : Inv3 I h i r k.val a) :
    Inv3 I h i r (k.val + 1) (k1_pay17 (k1_pay3 x0) (k1_pay4 x3) (k1_pay5 (lc x4)) s.1 s.2 (k1_pay13 (kd i x2))
      (k1_pay14 x0 (kd i x1)) (fd i x5) a (kb3 i x1 k) (kb3 i x2 k) (fb3 i x5 k)) := fun d => by
  have hi := i1_lt i
  have hk : k.val < (i 1).val := lt_of_lt_of_eq k.isLt (trips3 i)
  rw [pay17_apply]
  refine add_block _ _ (ih d) fun j => ?_
  have hrt := rt_eq i H r s hs
  unfold rtv at hrt
  rw [hrt]
  simp only [pay3_apply, pay4_apply, pay5_apply, lc_apply, H.l r]
  rw [score I h (1024 * (i 1).val + r.val) (1024 * k.val + j.val) (fun d => H.q r d)
      (fun d => kb3_k i H k j d)
      (fb3_f i H k j),
    prob I (by omega), cot I h (1024 * (i 1).val + r.val) (1024 * k.val + j.val) (fun d => H.g r d)
      (fun d => kb3_v i H k j d),
    kb3_k i H k j d, ← EReal.coe_sub, ← EReal.coe_mul, ← EReal.coe_mul]
  rfl

/-- The state of the second sweep after `n` trips. -/
abbrev st3 (a1 a15 : BitVec 32) (x0 x3 : Vec Ideal S1024x128 .bf16) (x1 x2 : Vec Ideal S4096x128 .bf16)
    (x4 : Vec Ideal S1x1024x128 .f32) (x5 : Vec Ideal S4x8x1024 .f32) (s : FVec Ideal S1024x1 .f32 × FVec Ideal S1024x1 .f32)
    (n : ℕ) :=
  st_k1_t3 (F := Ideal) Variants.none c none i arg2 harg2 arg3 harg3 arg4 harg4 arg5 harg5 arg6 harg6 arg7 harg7 arg8 harg8 arg9 harg9 a1 (k1_pay3 x0) (k1_pay4 x3) (k1_pay5 (lc x4)) a15 s.1 s.2
    (k1_pay13 (kd i x2)) (k1_pay14 x0 (kd i x1)) (fd i x5)
    (harg3.unread x1) (harg4.unread x2) (harg7.unread x5) k1_pay16 n

include H in
theorem inv3 (a1 a15 : BitVec 32) (r : Fin 1024) (s : FVec Ideal S1024x1 .f32 × FVec Ideal S1024x1 .f32)
    (hs : Inv1 I h i r (i 1).val s) : ∀ n : ℕ, n ≤ (i 1).val →
    Inv3 I h i r n (st3 c i arg2 harg2 arg3 harg3 arg4 harg4 arg5 harg5 arg6 harg6 arg7 harg7 arg8 harg8 arg9 harg9 a1 a15 x0 x3 x1 x2 x4 x5 s n)
  | 0, _ => fun d => by
    unfold st3
    rw [st_k1_t3_zero]
    simp only [pay16_apply, Nat.mul_zero, Finset.sum_range_zero, EReal.coe_zero]
  | n + 1, hn => by
    have ih := inv3 a1 a15 r s hs n (by omega)
    obtain ⟨k, rfl⟩ : ∃ k : Fin (k1_t3_loop i).trips, k.val = n := ⟨⟨n, by rw [trips3]; omega⟩, rfl⟩
    unfold st3
    rw [st_k1_t3_succ, trip3]
    exact step3 i H r k s hs _ ih

include H in
/-- The gradient's block, from the states of both sweeps. -/
theorem dq_eq (r : Fin 1024) (d : Fin 128) (s : FVec Ideal S1024x1 .f32 × FVec Ideal S1024x1 .f32)
    (hs : Inv1 I h i r (i 1).val s) (a : FVec Ideal S1024x128 .f32) (ha : Inv3 I h i r (i 1).val a) :
    k1_pay1 (k1_pay4 x3) (k1_pay5 (lc x4)) (rtv i x0 x3 x1 x2 x4 x5 s) a (k1_pay19 (kd i x1)) (k1_pay20 (kd i x2))
      (k1_pay21 (k1_pay3 x0) (kd i x1) (fd i x5)) cols rows (ix2 r d)
    = (I.dq h (1024 * (i 1).val + r.val) d.val : EReal) := by
  have hi := i1_lt i
  rw [pay1_apply, rt_eq i H r s hs]
  simp only [pay3_apply, pay4_apply, pay5_apply, pay19_apply, pay20_apply, pay21_apply, lc_apply, H.l r, score_d i H, cot_d i H,
    prob_mask I h (1024 * (i 1).val) rfl]
  rw [add_block (fun j => I.ds h (1024 * (i 1).val + r.val) j * I.k j (128 * h + d.val)) _ (ha d) (fun j => by
      rw [kd_k i H j d, ← EReal.coe_sub, ← EReal.coe_mul, ← EReal.coe_mul]
      rfl),
    sum_causal _ hi r.isLt (fun j hj => by rw [I.ds_of_lt hj, zero_mul]), ← EReal.coe_mul, ← H.c, mul_comm]
  rfl

/-! ## The output blocks -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- The state after both loops of the first sweep; the second of them has no trips. -/
abbrev fin1 (x0 : Vec Ideal S1024x128 .bf16) (x1 x2 : Vec Ideal S4096x128 .bf16) (x3 : Vec Ideal S1024x128 .bf16)
    (x4 : Vec Ideal S1x1024x128 .f32) (x5 : Vec Ideal S4x8x1024 .f32) :=
  st_k1_t2 (F := Ideal) Variants.none c none i arg2 harg2 arg3 harg3 arg4 harg4 arg5 harg5 arg6 harg6 arg7 harg7 arg8 harg8 arg9 harg9 x0 x3 (lc x4)
    (harg3.unread x1) (harg4.unread x2) (harg7.unread x5)
    (st1 c i arg2 harg2 arg3 harg3 arg4 harg4 arg5 harg5 arg6 harg6 arg7 harg7 arg8 harg8 arg9 harg9 x0 x3 x1 x2 x4 x5 (k1_t1_loop i).trips) (k1_t2_loop i).trips

theorem fin1_eq (x0 : Vec Ideal S1024x128 .bf16) (x1 x2 : Vec Ideal S4096x128 .bf16) (x3 : Vec Ideal S1024x128 .bf16)
    (x4 : Vec Ideal S1x1024x128 .f32) (x5 : Vec Ideal S4x8x1024 .f32) :
    fin1 c i arg2 harg2 arg3 harg3 arg4 harg4 arg5 harg5 arg6 harg6 arg7 harg7 arg8 harg8 arg9 harg9 x0 x1 x2 x3 x4 x5 = st1 c i arg2 harg2 arg3 harg3 arg4 harg4 arg5 harg5 arg6 harg6 arg7 harg7 arg8 harg8 arg9 harg9 x0 x3 x1 x2 x4 x5 (i 1).val := by
  unfold fin1
  rw [trips2, trips1, st_k1_t2_zero]

/-- The state after both loops of the second sweep; the second of them has no trips. -/
abbrev fin3 (a1 a15 b1 b15 : BitVec 32) (x0 : Vec Ideal S1024x128 .bf16) (x1 x2 : Vec Ideal S4096x128 .bf16) (x3 : Vec Ideal S1024x128 .bf16)
    (x4 : Vec Ideal S1x1024x128 .f32) (x5 : Vec Ideal S4x8x1024 .f32)
    (s : FVec Ideal S1024x1 .f32 × FVec Ideal S1024x1 .f32) :=
  st_k1_t4 (F := Ideal) Variants.none c none i arg2 harg2 arg3 harg3 arg4 harg4 arg5 harg5 arg6 harg6 arg7 harg7 arg8 harg8 arg9 harg9 b1 (k1_pay3 x0) (k1_pay4 x3) (k1_pay5 (lc x4)) b15 s.1 s.2
    (k1_pay13 (kd i x2)) (k1_pay14 x0 (kd i x1)) (fd i x5)
    (harg3.unread x1) (harg4.unread x2) (harg7.unread x5)
    (st3 c i arg2 harg2 arg3 harg3 arg4 harg4 arg5 harg5 arg6 harg6 arg7 harg7 arg8 harg8 arg9 harg9 a1 a15 x0 x3 x1 x2 x4 x5 s (k1_t3_loop i).trips) (k1_t4_loop i).trips

theorem fin3_eq (a1 a15 b1 b15 : BitVec 32) (x0 : Vec Ideal S1024x128 .bf16) (x1 x2 : Vec Ideal S4096x128 .bf16) (x3 : Vec Ideal S1024x128 .bf16)
    (x4 : Vec Ideal S1x1024x128 .f32) (x5 : Vec Ideal S4x8x1024 .f32)
    (s : FVec Ideal S1024x1 .f32 × FVec Ideal S1024x1 .f32) :
    fin3 c i arg2 harg2 arg3 harg3 arg4 harg4 arg5 harg5 arg6 harg6 arg7 harg7 arg8 harg8 arg9 harg9 a1 a15 b1 b15 x0 x1 x2 x3 x4 x5 s = st3 c i arg2 harg2 arg3 harg3 arg4 harg4 arg5 harg5 arg6 harg6 arg7 harg7 arg8 harg8 arg9 harg9 a1 a15 x0 x3 x1 x2 x4 x5 s (i 1).val := by
  unfold fin3
  rw [trips4, trips3, st_k1_t4_zero]

/-- The gradient's block, opened. -/
theorem out6_open (x0 : Vec Ideal S1024x128 .bf16) (x1 x2 : Vec Ideal S4096x128 .bf16) (x3 : Vec Ideal S1024x128 .bf16)
    (x4 : Vec Ideal S1x1024x128 .f32) (x5 : Vec Ideal S4x8x1024 .f32) :
    ∃ a1 a15 b1 b15 : BitVec 32, out1_A_6 (F := Ideal) c i arg2 harg2 arg3 harg3 arg4 harg4 arg5 harg5 arg6 harg6 arg7 harg7 arg8 harg8 arg9 harg9 x0 x1 x2 x3 x4 x5
    = (fun s : FVec Ideal S1024x1 .f32 × FVec Ideal S1024x1 .f32 =>
        k1_pay1 (k1_pay4 x3) (k1_pay5 (lc x4)) (rtv i x0 x3 x1 x2 x4 x5 s)
          (fin3 c i arg2 harg2 arg3 harg3 arg4 harg4 arg5 harg5 arg6 harg6 arg7 harg7 arg8 harg8 arg9 harg9 a1 a15 b1 b15 x0 x1 x2 x3 x4 x5 s) (k1_pay19 (kd i x1)) (k1_pay20 (kd i x2))
          (k1_pay21 (k1_pay3 x0) (kd i x1) (fd i x5)) cols rows)
      (fin1 c i arg2 harg2 arg3 harg3 arg4 harg4 arg5 harg5 arg6 harg6 arg7 harg7 arg8 harg8 arg9 harg9 x0 x1 x2 x3 x4 x5) := by
  iterate 4 apply Exists.intro
  unfold out1_A_6
  rw [View.read_writes_eq_canon _ _ _ (cover1_A_6 (F := Ideal) c i arg2 harg2 arg3 harg3 arg4 harg4 arg5 harg5 arg6 harg6 arg7 harg7 arg8 harg8 arg9 harg9 x0 x1 x2 x3 x4 x5)]
  unfold kernelRun1_A
  dsimp only
  rw [View.canon_unit_zero hz2]
  sl_unfold_words
  simp only [View.readAt_eq_ld, harg2.read_unread, harg3.read_unread, harg4.read_unread, harg5.read_unread, harg6.read_unread,
    harg7.read_unread, View.ld_unit_zero (S := S1024x128) hz2]
  rfl

/-- The block of row means, opened. -/
theorem out7_open (x0 : Vec Ideal S1024x128 .bf16) (x1 x2 : Vec Ideal S4096x128 .bf16) (x3 : Vec Ideal S1024x128 .bf16)
    (x4 : Vec Ideal S1x1024x128 .f32) (x5 : Vec Ideal S4x8x1024 .f32) :
    out1_A_7 (F := Ideal) c i arg2 harg2 arg3 harg3 arg4 harg4 arg5 harg5 arg6 harg6 arg7 harg7 arg8 harg8 arg9 harg9 x0 x1 x2 x3 x4 x5
    = k1_pay2 (rtv i x0 x3 x1 x2 x4 x5 (fin1 c i arg2 harg2 arg3 harg3 arg4 harg4 arg5 harg5 arg6 harg6 arg7 harg7 arg8 harg8 arg9 harg9 x0 x1 x2 x3 x4 x5)) := by
  unfold out1_A_7
  rw [View.read_writes_eq_canon _ _ _ (cover1_A_7 (F := Ideal) c i arg2 harg2 arg3 harg3 arg4 harg4 arg5 harg5 arg6 harg6 arg7 harg7 arg8 harg8 arg9 harg9 x0 x1 x2 x3 x4 x5)]
  unfold kernelRun1_A
  dsimp only
  rw [View.canon_unit_zero hz3]
  sl_unfold_words
  simp only [View.readAt_eq_ld, harg2.read_unread, harg3.read_unread, harg4.read_unread, harg5.read_unread, harg6.read_unread,
    harg7.read_unread, View.ld_unit_zero (S := S1024x128) hz2]
  rfl

include H in
/-- The gradient's block of a point. -/
theorem out6 (r : Fin 1024) (d : Fin 128) :
    out1_A_6 (F := Ideal) c i arg2 harg2 arg3 harg3 arg4 harg4 arg5 harg5 arg6 harg6 arg7 harg7 arg8 harg8 arg9 harg9 x0 x1 x2 x3 x4 x5 (ix2 r d)
    = (I.dq h (1024 * (i 1).val + r.val) d.val : EReal) := by
  obtain ⟨a1, a15, b1, b15, e⟩ := out6_open c i arg2 harg2 arg3 harg3 arg4 harg4 arg5 harg5 arg6 harg6 arg7 harg7 arg8 harg8 arg9 harg9 x0 x1 x2 x3 x4 x5
  rw [e, fin1_eq]
  dsimp only
  rw [fin3_eq]
  have h1 := inv1 c i arg2 harg2 arg3 harg3 arg4 harg4 arg5 harg5 arg6 harg6 arg7 harg7 arg8 harg8 arg9 harg9 H r _ le_rfl
  exact dq_eq i H r d _ h1 _ (inv3 c i arg2 harg2 arg3 harg3 arg4 harg4 arg5 harg5 arg6 harg6 arg7 harg7 arg8 harg8 arg9 harg9 H a1 a15 r _ h1 _ le_rfl)

include H in
/-- The block of row means of a point. -/
theorem out7 (r : Fin 1024) (d : Fin 128) :
    out1_A_7 (F := Ideal) c i arg2 harg2 arg3 harg3 arg4 harg4 arg5 harg5 arg6 harg6 arg7 harg7 arg8 harg8 arg9 harg9 x0 x1 x2 x3 x4 x5 (ix3 0 r d)
    = (I.rt h (1024 * (i 1).val + r.val) : EReal) := by
  rw [out7_open, fin1_eq, pay2_apply]
  exact rt_eq i H r _ (inv1 c i arg2 harg2 arg3 harg3 arg4 harg4 arg5 harg5 arg6 harg6 arg7 harg7 arg8 harg8 arg9 harg9 H r _ le_rfl)

end Cert.KernelIdeal.Dq
-- ==== Proof.Arr1.lean ====
module

public import proofs.«01_k».proof.Proof.Dq
public import proofs.«01_k».proof.Proof.Arrays
public import Idealize.ShloMosaic.Lib.Pipeline.ValueKit

/-! # The arrays the kernel of the queries' gradient leaves -/

@[expose] public section

noncomputable section

set_option maxRecDepth 16384

namespace Cert.KernelIdeal.Dq

open Cert.KernelIdeal Cert.KernelIdeal.Gen Cert.KernelIdeal.Arr Cert.Fox Idealize.ShloMosaic Idealize.ShloMosaic.TcCoe Idealize.SL.Sem

/-- Where the blocks of a point of the grid lie. -/
theorem idx : ∀ t : Fin cfg1.N, win1_0.index t = ![(grid1.coords t 1).val, (grid1.coords t 0).val]
    ∧ win1_1.index t = ![0, (grid1.coords t 0).val]
    ∧ win1_2.index t = ![0, (grid1.coords t 0).val]
    ∧ win1_3.index t = ![(grid1.coords t 1).val, (grid1.coords t 0).val]
    ∧ win1_4.index t = ![(grid1.coords t 0).val, (grid1.coords t 1).val, 0]
    ∧ win1_5.index t = ![0, (grid1.coords t 0).val / 8, 0]
    ∧ win1_6.index t = ![(grid1.coords t 1).val, (grid1.coords t 0).val]
    ∧ win1_7.index t = ![(grid1.coords t 0).val, (grid1.coords t 1).val, 0]
    ∧ (grid1.coords t 0).val < 16
    ∧ (grid1.coords t 1).val < 4 :=
  (by decide +kernel : ∀ t : Fin grid1.N, _)

variable (V : (c : Dev nD) → (b : Ref sig .tc) → Buf (Elt Ideal) ((c : Thread nD τ).loc b)) (c : Dev nD) (I : Inp) (t : Fin cfg1.N)

theorem rd0 (r : Fin 1024) (d : Fin 128) (hr : 1024 * (grid1.coords t 1).val + r.val < 4096) (hd : 128 * (grid1.coords t 0).val + d.val < 2048) :
    iblk1 V c 0 t (ix2 r d)
    = (V c main_v2 : FVec Ideal S4096x2048 .bf16) (ix2 ⟨1024 * (grid1.coords t 1).val + r.val, hr⟩ ⟨128 * (grid1.coords t 0).val + d.val, hd⟩) := by
  blk_ext [iblk1, idx t]

theorem rd1 (r : Fin 4096) (d : Fin 128) (hd : 128 * (grid1.coords t 0).val + d.val < 2048) :
    iblk1 V c 1 t (ix2 r d)
    = (V c main_v3 : FVec Ideal S4096x2048 .bf16) (ix2 r ⟨128 * (grid1.coords t 0).val + d.val, hd⟩) := by
  blk_ext [iblk1, idx t]

theorem rd2 (r : Fin 4096) (d : Fin 128) (hd : 128 * (grid1.coords t 0).val + d.val < 2048) :
    iblk1 V c 2 t (ix2 r d)
    = (V c main_v4 : FVec Ideal S4096x2048 .bf16) (ix2 r ⟨128 * (grid1.coords t 0).val + d.val, hd⟩) := by
  blk_ext [iblk1, idx t]

theorem rd3 (r : Fin 1024) (d : Fin 128) (hr : 1024 * (grid1.coords t 1).val + r.val < 4096) (hd : 128 * (grid1.coords t 0).val + d.val < 2048) :
    iblk1 V c 3 t (ix2 r d)
    = (V c main_v5 : FVec Ideal S4096x2048 .bf16) (ix2 ⟨1024 * (grid1.coords t 1).val + r.val, hr⟩ ⟨128 * (grid1.coords t 0).val + d.val, hd⟩) := by
  blk_ext [iblk1, idx t]

theorem rd4 (r : Fin 1024) (hr : 1024 * (grid1.coords t 1).val + r.val < 4096) (h0 : (grid1.coords t 0).val < 16) :
    iblk1 V c 4 t (ix3 0 r 0)
    = (V c main_v9_1 : FVec Ideal S16x4096x128 .f32) (ix3 ⟨(grid1.coords t 0).val, h0⟩ ⟨1024 * (grid1.coords t 1).val + r.val, hr⟩ 0) := by
  blk_ext [iblk1, idx t]

theorem rd5 (j : Fin 4) (s : Fin 1024) (hm : (grid1.coords t 0).val % 8 < 8) (h0 : (grid1.coords t 0).val < 128) :
    iblk1 V c 5 t (ix3 j ⟨(grid1.coords t 0).val % 8, hm⟩ s)
    = (V c main_v8 : FVec Ideal S4x128x1024 .f32) (ix3 j ⟨(grid1.coords t 0).val, h0⟩ s) := by
  blk_ext [iblk1, idx t]

variable {V c I} (E : Ent I (V c)) (hc : I.c = scale)
  (hl : (V c main_v9_1 : FVec Ideal S16x4096x128 .f32) = colsArr fun h i => Real.log (I.z h i))

include E hc hl in
theorem input : In I (grid1.coords t 0).val (grid1.coords t) (iblk1 V c 0 t) (iblk1 V c 1 t) (iblk1 V c 2 t) (iblk1 V c 3 t) (iblk1 V c 4 t) (iblk1 V c 5 t) :=
  have h0 : (grid1.coords t 0).val < 16 := (idx t).2.2.2.2.2.2.2.2.1
  have h1 : (grid1.coords t 1).val < 4 := (idx t).2.2.2.2.2.2.2.2.2
  { c := hc
    q r d := (rd0 V c t r d (by omega) (by omega)).trans (E.q _ _)
    k r d := (rd1 V c t r d (by omega)).trans (E.k _ _)
    v r d := (rd2 V c t r d (by omega)).trans (E.v _ _)
    g r d := (rd3 V c t r d (by omega) (by omega)).trans (E.g _ _)
    l r := by rw [rd4 V c t r (by omega) h0, hl]; rfl
    f j s := (rd5 V c t j s _ (by omega)).trans (E.f _ _ _ h0) }

include E hc hl in
theorem at6 (r : Fin 1024) (d : Fin 128) : (outsAt1 V c t).1 (ix2 r d)
    = (((I.dq) (grid1.coords t 0).val (1024 * (grid1.coords t 1).val + r.val) d.val : ℝ) : EReal) := by
  unfold outsAt1
  dsimp only
  exact out6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (input t E hc hl) r d

include E hc hl in
theorem point6 (y : S1024x128.Idx) : (outsAt1 V c t).1 y = rowsArr (I.dq) (((cfg1.win 6).blk t).view.emb y) := by
  idx_vars y
  refine (at6 t E hc hl y0 y1).trans ?_
  unfold rowsArr
  blk_simp [idx t]
  rw [show (grid1.coords t 0).val * 128 + y1.val = 128 * (grid1.coords t 0).val + y1.val by omega, Nat.mul_add_div (by norm_num),
    Nat.mul_add_mod, Nat.div_eq_of_lt y1.isLt, Nat.mod_eq_of_lt y1.isLt, Nat.mul_comm (grid1.coords t 1).val, Nat.add_zero]

include E hc hl in
theorem final6 : (dat1 V c).arrAt 6 cfg1.N = rowsArr (I.dq) := by
  refine (dat1 V c).arrAt_eq_of_covers 6 _ (by decide +kernel) fun t _ y => ?_
  blk_simp
  rw [after1_6]
  exact point6 t E hc hl y

include E hc hl in
theorem at7 (a : Fin 1) (r : Fin 1024) (d : Fin 128) : (outsAt1 V c t).2 (ix3 a r d)
    = (((I.rt) (grid1.coords t 0).val (1024 * (grid1.coords t 1).val + r.val) : ℝ) : EReal) := by
  obtain rfl : a = 0 := Subsingleton.elim _ _
  unfold outsAt1
  dsimp only
  exact out7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (input t E hc hl) r d

include E hc hl in
theorem point7 (y : S1x1024x128.Idx) : (outsAt1 V c t).2 y = colsArr (I.rt) (((cfg1.win 7).blk t).view.emb y) := by
  idx_vars y
  refine (at7 t E hc hl y0 y1 y2).trans ?_
  unfold colsArr
  blk_simp [idx t]
  rw [Nat.mul_comm (grid1.coords t 1).val]

include E hc hl in
theorem final7 : (dat1 V c).arrAt 7 cfg1.N = colsArr (I.rt) := by
  refine (dat1 V c).arrAt_eq_of_covers 7 _ (by decide +kernel) fun t _ y => ?_
  blk_simp
  rw [after1_7]
  exact point7 t E hc hl y

end Cert.KernelIdeal.Dq
-- ==== Proof.DkvPay.lean ====
module

public import proofs.«01_k».proof.Proof.Gen.KernelIdeal.Skeleton
public import proofs.«01_k».proof.Proof.Consts
public import Idealize.ShloMosaic.Lib.Pipeline.ValueKit

/-! # The expressions of the kernel of the keys', values' and gates' gradients, read at an index -/

@[expose] public section

noncomputable section

namespace Cert.KernelIdeal.Dkv

open Cert.KernelIdeal Cert.KernelIdeal.Gen Cert.Fox Idealize.ShloMosaic

variable (b1 b2 b3 b4 : Vec Ideal S1024x128 .bf16) (l w : Vec Ideal S1x1024x1 .f32) (g : Vec Ideal S1x1x1024 .f32)
  (lc wc : FVec Ideal S1024x1 .f32) (a : FVec Ideal S1024x128 .f32) (f t : FVec Ideal S1x1024 .f32)
  (s : FVec Ideal S1024x1024 .f32) (r j : Fin 1024) (d : Fin 128)

theorem pay1_apply : k2_pay1 b1 (ix2 r d) = b1 (ix2 r d) := by pointwise [k2_pay1]
theorem pay2_apply : k2_pay2 b1 (ix2 r d) = b1 (ix2 r d) := by pointwise [k2_pay2]
theorem pay3_apply : k2_pay3 g (ix2 0 j) = g (ix3 0 0 j) := by pointwise [k2_pay3]
theorem pay4_apply : k2_pay4 (F := Ideal) (ix2 r d) = 0 := by pointwise [k2_pay4]
theorem pay5_apply : k2_pay5 (F := Ideal) (ix2 r d) = 0 := by pointwise [k2_pay5]
theorem pay6_apply : k2_pay6 (F := Ideal) (ix2 0 j) = 0 := by pointwise [k2_pay6]
theorem pay7_apply : k2_pay7 b1 (ix2 r d) = b1 (ix2 r d) := by pointwise [k2_pay7]
theorem pay8_apply : k2_pay8 b1 (ix2 r d) = b1 (ix2 r d) := by pointwise [k2_pay8]
theorem pay9_apply : k2_pay9 w (ix2 r 0) = w (ix3 0 r 0) := by pointwise [k2_pay9]
theorem pay10_apply : k2_pay10 l (ix2 r 0) = l (ix3 0 r 0) := by pointwise [k2_pay10]

/-! ## The diagonal block -/

theorem pay11_apply : k2_pay11 b1 b2 (ix2 r j) = ∑ d : Fin 128, b2 (ix2 r d) * b1 (ix2 j d) := by
  pointwise [k2_pay11, k2_pay1, k2_pay7]

theorem pay12_apply : k2_pay12 f lc s (ix2 r j)
    = Ideal.exp ((if j.val ≤ r.val then s (ix2 r j) - f (ix2 0 j) else ⊥) - lc (ix2 r 0)) := by
  pointwise [k2_pay12]
  simp only [select_fin, named_mask]

theorem pay13_apply : k2_pay13 f a b3 lc s (ix2 j d)
    = a (ix2 j d) + ∑ r : Fin 1024, k2_pay12 f lc s (ix2 r j) * b3 (ix2 r d) := by
  pointwise [k2_pay13]

theorem pay14_apply : k2_pay14 b2 f b3 wc lc s (ix2 r j)
    = k2_pay12 f lc s (ix2 r j) * ((∑ d : Fin 128, b3 (ix2 r d) * b2 (ix2 j d)) - wc (ix2 r 0)) := by
  pointwise [k2_pay14]

theorem pay15_apply : k2_pay15 b2 f a b4 b3 wc lc s (ix2 j d)
    = a (ix2 j d) + ∑ r : Fin 1024, k2_pay14 b2 f b3 wc lc s (ix2 r j) * b4 (ix2 r d) := by
  pointwise [k2_pay15]

theorem pay16_apply : k2_pay16 b2 f t b3 wc lc s (ix2 0 j)
    = t (ix2 0 j) - ∑ r : Fin 1024, k2_pay14 b2 f b3 wc lc s (ix2 r j) := by
  pointwise [k2_pay16]

/-! ## A block below the diagonal -/

theorem pay19_apply : k2_pay19 b1 f b4 l (ix2 r j)
    = Ideal.exp ((∑ d : Fin 128, b4 (ix2 r d) * b1 (ix2 j d)) - f (ix2 0 j) - l (ix3 0 r 0)) := by
  pointwise [k2_pay19, k2_pay17]

theorem pay20_apply : k2_pay20 b1 f a b4 b3 l (ix2 j d)
    = a (ix2 j d) + ∑ r : Fin 1024, k2_pay19 b1 f b4 l (ix2 r j) * b3 (ix2 r d) := by
  pointwise [k2_pay20, k2_pay18]

theorem pay21_apply : k2_pay21 b1 b2 f b4 b3 w l (ix2 r j)
    = k2_pay19 b1 f b4 l (ix2 r j) * ((∑ d : Fin 128, b3 (ix2 r d) * b2 (ix2 j d)) - w (ix3 0 r 0)) := by
  pointwise [k2_pay21, k2_pay18]

theorem pay22_apply : k2_pay22 b1 b2 f a b4 b3 w l (ix2 j d)
    = a (ix2 j d) + ∑ r : Fin 1024, k2_pay21 b1 b2 f b4 b3 w l (ix2 r j) * b4 (ix2 r d) := by
  pointwise [k2_pay22, k2_pay17]

theorem pay23_apply : k2_pay23 b1 b2 f t b4 b3 w l (ix2 0 j)
    = t (ix2 0 j) - ∑ r : Fin 1024, k2_pay21 b1 b2 f b4 b3 w l (ix2 r j) := by
  pointwise [k2_pay23]

/-! ## The results -/

theorem pay31_apply : k2_pay31 a (ix2 j d) = a (ix2 j d) := by pointwise [k2_pay31]
theorem pay32_apply : k2_pay32 a (ix2 j d) = a (ix2 j d) := by pointwise [k2_pay32]
theorem pay33_apply (u : Fin 8) : k2_pay33 t (ix4 0 0 u j) = t (ix2 0 j) := by pointwise [k2_pay33]

end Cert.KernelIdeal.Dkv
-- ==== Proof.Dkv.lean ====
module

public import proofs.«01_k».proof.Proof.Gen.KernelIdeal.Frame
public import proofs.«01_k».proof.Proof.DkvPay
public import proofs.«01_k».proof.Proof.Blocks

/-! # The blocks of the kernel of the keys', values' and gates' gradients -/

@[expose] public section

noncomputable section

namespace Cert.KernelIdeal.Dkv

open Cert.KernelIdeal Cert.KernelIdeal.Gen Cert.Fox Idealize.ShloMosaic Idealize.ShloMosaic.TcCoe Idealize.SL.Sem

theorem trips1 : ∀ i : grid2.Coords, (k2_t1_loop i).trips = 3 - (i 1).val := by decide +kernel
theorem trips2 : ∀ i : grid2.Coords, (k2_t2_loop i).trips = 0 := by decide +kernel
theorem off1 : ∀ i : grid2.Coords, k2_off1 i = ![0, (i 0).val % 8, 0] := by decide +kernel
theorem off2 : ∀ i : grid2.Coords, k2_off2 i = ![1024 * (i 1).val, 0] := by decide +kernel
theorem off3 : ∀ i : grid2.Coords, k2_off3 i = ![0, 1024 * (i 1).val, 0] := by decide +kernel
theorem off4 : ∀ (i : grid2.Coords) (k : Fin (k2_t1_loop i).trips), k2_off4 i k = ![1024 * ((i 1).val + 1 + k.val), 0] := by
  decide +kernel
theorem off5 : ∀ (i : grid2.Coords) (k : Fin (k2_t1_loop i).trips), k2_off5 i k = ![0, 1024 * ((i 1).val + 1 + k.val), 0] := by
  decide +kernel

theorem i1_lt (i : grid2.Coords) : (i 1).val < 4 := (i 1).isLt

/-- The blocks a point of the grid reads, as real numbers. -/
structure In (I : Inp) (h : ℕ) (i : grid2.Coords) (x0 : Vec Ideal S4096x128 .bf16) (x1 x2 : Vec Ideal S1024x128 .bf16) (x3 : Vec Ideal S4096x128 .bf16)
    (x4 x5 : Vec Ideal S1x4096x128 .f32) (x6 : Vec Ideal S1x8x1024 .f32) : Prop where
  q : ∀ (n : Fin 4096) (d : Fin 128), x0 (ix2 n d) = ((I.q n.val (128 * h + d.val) * I.c : ℝ) : EReal)
  k : ∀ (j : Fin 1024) (d : Fin 128), x1 (ix2 j d) = (I.k (1024 * (i 1).val + j.val) (128 * h + d.val) : EReal)
  v : ∀ (j : Fin 1024) (d : Fin 128), x2 (ix2 j d) = (I.v (1024 * (i 1).val + j.val) (128 * h + d.val) : EReal)
  g : ∀ (n : Fin 4096) (d : Fin 128), x3 (ix2 n d) = (I.g n.val (128 * h + d.val) : EReal)
  w : ∀ n : Fin 4096, x4 (ix3 0 n 0) = (I.rt h n.val : EReal)
  l : ∀ n : Fin 4096, x5 (ix3 0 n 0) = (Real.log (I.z h n.val) : EReal)
  f : ∀ s : Fin 1024, x6 (ix3 0 ⟨(i 0).val % 8, Nat.mod_lt _ (by norm_num)⟩ s) = (I.f h (1024 * (i 1).val + s.val) : EReal)

variable (c : Dev nD) (i : grid2.Coords)
  (arg2 : Memref sig .tc .vmem S4096x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S4096x128 .bf16) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x8x1024 .f32) (harg8 : arg8.IsWhole)
  (arg9 : Memref sig .tc .vmem S1024x128 .bf16) (harg9 : arg9.IsWhole)
  (arg10 : Memref sig .tc .vmem S1024x128 .bf16) (harg10 : arg10.IsWhole)
  (arg11 : Memref sig .tc .vmem S1x1x8x1024 .f32) (harg11 : arg11.IsWhole)
  {x0 x3 : Vec Ideal S4096x128 .bf16} {x1 x2 : Vec Ideal S1024x128 .bf16} {x4 x5 : Vec Ideal S1x4096x128 .f32}
  {x6 : Vec Ideal S1x8x1024 .f32} {I : Inp} {h : ℕ} (H : In I h i x0 x1 x2 x3 x4 x5 x6)

/-! ## The blocks the body reads -/

/-- The gate row. -/
def fr (x6 : Vec Ideal S1x8x1024 .f32) : Vec Ideal S1x1x1024 .f32 :=
  View.ld x6 (Rect.unit (s := S1x8x1024) (k2_off1 i) S1x1x1024.size (k2_off1_inb i))
/-- A block of rows, and of a column, on the diagonal. -/
def bd (x : Vec Ideal S4096x128 .bf16) : Vec Ideal S1024x128 .bf16 :=
  View.ld x (Rect.unit (s := S4096x128) (k2_off2 i) S1024x128.size (k2_off2_inb i))
def cd (x : Vec Ideal S1x4096x128 .f32) : Vec Ideal S1x1024x1 .f32 :=
  View.ld x (Rect.unit (s := S1x4096x128) (k2_off3 i) S1x1024x1.size (k2_off3_inb i))
/-- A block of rows, and of a column, of trip `k`. -/
def bk (x : Vec Ideal S4096x128 .bf16) (k : Fin (k2_t1_loop i).trips) : Vec Ideal S1024x128 .bf16 :=
  View.ld x (Rect.unit (s := S4096x128) (k2_off4 i k) S1024x128.size (k2_off4_inb i k))
def ck (x : Vec Ideal S1x4096x128 .f32) (k : Fin (k2_t1_loop i).trips) : Vec Ideal S1x1024x1 .f32 :=
  View.ld x (Rect.unit (s := S1x4096x128) (k2_off5 i k) S1x1024x1.size (k2_off5_inb i k))

include H in
theorem fr_f (j : Fin 1024) : fr i x6 (ix3 0 0 j) = (I.f h (1024 * (i 1).val + j.val) : EReal) :=
  (ld_row3 x6 _ _ _ _ (off1 i) j (by norm_num) (Nat.mod_lt _ (by norm_num))).trans (H.f j)

include H in
theorem bd_q (r : Fin 1024) (d : Fin 128) :
    bd i x0 (ix2 r d) = ((I.q (1024 * (i 1).val + r.val) (128 * h + d.val) * I.c : ℝ) : EReal) := by
  have hi := i1_lt i
  exact (ld_rows x0 _ _ _ (off2 i) r d (by omega)).trans (H.q _ d)

include H in
theorem bd_g (r : Fin 1024) (d : Fin 128) :
    bd i x3 (ix2 r d) = (I.g (1024 * (i 1).val + r.val) (128 * h + d.val) : EReal) := by
  have hi := i1_lt i
  exact (ld_rows x3 _ _ _ (off2 i) r d (by omega)).trans (H.g _ d)

include H in
theorem cd_w (r : Fin 1024) : cd i x4 (ix3 0 r 0) = (I.rt h (1024 * (i 1).val + r.val) : EReal) := by
  have hi := i1_lt i
  exact (ld_col3 x4 _ _ _ (off3 i) r (by omega) (by norm_num)).trans (H.w _)

include H in
theorem cd_l (r : Fin 1024) : cd i x5 (ix3 0 r 0) = (Real.log (I.z h (1024 * (i 1).val + r.val)) : EReal) := by
  have hi := i1_lt i
  exact (ld_col3 x5 _ _ _ (off3 i) r (by omega) (by norm_num)).trans (H.l _)

theorem k_lt (k : Fin (k2_t1_loop i).trips) : (i 1).val + 1 + k.val < 4 := by
  have hi := i1_lt i
  have hk : k.val < 3 - (i 1).val := lt_of_lt_of_eq k.isLt (trips1 i)
  omega

include H in
theorem bk_q (k : Fin (k2_t1_loop i).trips) (r : Fin 1024) (d : Fin 128) :
    bk i x0 k (ix2 r d) = ((I.q (1024 * ((i 1).val + 1 + k.val) + r.val) (128 * h + d.val) * I.c : ℝ) : EReal) := by
  have hk := k_lt i k
  exact (ld_rows x0 _ _ _ (off4 i k) r d (by omega)).trans (H.q _ d)

include H in
theorem bk_g (k : Fin (k2_t1_loop i).trips) (r : Fin 1024) (d : Fin 128) :
    bk i x3 k (ix2 r d) = (I.g (1024 * ((i 1).val + 1 + k.val) + r.val) (128 * h + d.val) : EReal) := by
  have hk := k_lt i k
  exact (ld_rows x3 _ _ _ (off4 i k) r d (by omega)).trans (H.g _ d)

include H in
theorem ck_w (k : Fin (k2_t1_loop i).trips) (r : Fin 1024) :
    ck i x4 k (ix3 0 r 0) = (I.rt h (1024 * ((i 1).val + 1 + k.val) + r.val) : EReal) := by
  have hk := k_lt i k
  exact (ld_col3 x4 _ _ _ (off5 i k) r (by omega) (by norm_num)).trans (H.w _)

include H in
theorem ck_l (k : Fin (k2_t1_loop i).trips) (r : Fin 1024) :
    ck i x5 k (ix3 0 r 0) = (Real.log (I.z h (1024 * ((i 1).val + 1 + k.val) + r.val)) : EReal) := by
  have hk := k_lt i k
  exact (ld_col3 x5 _ _ _ (off5 i k) r (by omega) (by norm_num)).trans (H.l _)

/-! ## The sweep -/

/-- The sums over the first `n` blocks of queries. -/
def Inv (I : Inp) (h : ℕ) (i : grid2.Coords) (j : Fin 1024) (n : ℕ) (s : FVec Ideal S1024x128 .f32 × FVec Ideal S1024x128 .f32 × FVec Ideal S1x1024 .f32) : Prop :=
  (∀ d : Fin 128, s.1 (ix2 j d) = ((∑ r ∈ Finset.range (1024 * n),
      I.ds h r (1024 * (i 1).val + j.val) * (I.q r (128 * h + d.val) * I.c) : ℝ) : EReal))
    ∧ (∀ d : Fin 128, s.2.1 (ix2 j d) = ((∑ r ∈ Finset.range (1024 * n),
      I.p h r (1024 * (i 1).val + j.val) * I.g r (128 * h + d.val) : ℝ) : EReal))
    ∧ s.2.2 (ix2 0 j) = ((-∑ r ∈ Finset.range (1024 * n), I.ds h r (1024 * (i 1).val + j.val) : ℝ) : EReal)

/-- The diagonal block's state. -/
abbrev init (x0 : Vec Ideal S4096x128 .bf16) (x1 x2 : Vec Ideal S1024x128 .bf16) (x3 : Vec Ideal S4096x128 .bf16)
    (x4 x5 : Vec Ideal S1x4096x128 .f32) (x6 : Vec Ideal S1x8x1024 .f32) : FVec Ideal S1024x128 .f32 × FVec Ideal S1024x128 .f32 × FVec Ideal S1x1024 .f32 :=
  (k2_pay15 (k2_pay2 x2) (k2_pay3 (fr i x6)) k2_pay4 (k2_pay7 (bd i x0)) (k2_pay8 (bd i x3)) (k2_pay9 (cd i x4))
      (k2_pay10 (cd i x5)) (k2_pay11 x1 (bd i x0)),
    k2_pay13 (k2_pay3 (fr i x6)) k2_pay5 (k2_pay8 (bd i x3)) (k2_pay10 (cd i x5)) (k2_pay11 x1 (bd i x0)),
    k2_pay16 (k2_pay2 x2) (k2_pay3 (fr i x6)) k2_pay6 (k2_pay8 (bd i x3)) (k2_pay9 (cd i x4))
      (k2_pay10 (cd i x5)) (k2_pay11 x1 (bd i x0)))

include H in
theorem p_d (r j : Fin 1024) : k2_pay12 (k2_pay3 (fr i x6)) (k2_pay10 (cd i x5)) (k2_pay11 x1 (bd i x0)) (ix2 r j)
    = (I.p h (1024 * (i 1).val + r.val) (1024 * (i 1).val + j.val) : EReal) := by
  rw [pay12_apply, pay10_apply, cd_l i H, pay11_apply, pay3_apply]
  exact prob_mask I h (1024 * (i 1).val) (score I h _ _ (fun d => bd_q i H r d) (fun d => H.k j d) (fr_f i H j))

include H in
theorem ds_d (r j : Fin 1024) : k2_pay14 (k2_pay2 x2) (k2_pay3 (fr i x6)) (k2_pay8 (bd i x3)) (k2_pay9 (cd i x4))
      (k2_pay10 (cd i x5)) (k2_pay11 x1 (bd i x0)) (ix2 r j)
    = (I.ds h (1024 * (i 1).val + r.val) (1024 * (i 1).val + j.val) : EReal) := by
  rw [pay14_apply, p_d i H, pay9_apply, cd_w i H, cot I h (1024 * (i 1).val + r.val) (1024 * (i 1).val + j.val)
    (fun d => (pay8_apply _ r d).trans (bd_g i H r d)) (fun d => (pay2_apply _ j d).trans (H.v j d)), ← EReal.coe_sub,
    ← EReal.coe_mul]
  rfl

include H in
theorem inv_init (j : Fin 1024) : Inv I h i j ((i 1).val + 1) (init i x0 x1 x2 x3 x4 x5 x6) := by
  refine ⟨fun d => ?_, fun d => ?_, ?_⟩
  · refine (pay15_apply _ _ _ _ _ _ _ _ j d).trans (add_block (fun r => I.ds h r (1024 * (i 1).val + j.val)
      * (I.q r (128 * h + d.val) * I.c)) _ ?_ fun r => ?_)
    · rw [sum_before _ fun r hr => by rw [I.ds_of_lt (by omega), zero_mul]]; exact pay4_apply j d
    · rw [ds_d i H, pay7_apply, bd_q i H, ← EReal.coe_mul]
  · refine (pay13_apply _ _ _ _ _ j d).trans (add_block (fun r => I.p h r (1024 * (i 1).val + j.val)
      * I.g r (128 * h + d.val)) _ ?_ fun r => ?_)
    · rw [sum_before _ fun r hr => by rw [I.p_of_lt (by omega), zero_mul]]; exact pay5_apply j d
    · rw [p_d i H, pay8_apply, bd_g i H, ← EReal.coe_mul]
  · refine (pay16_apply _ _ _ _ _ _ _ j).trans (sub_block (fun r => I.ds h r (1024 * (i 1).val + j.val)) _ ?_ fun r => ?_)
    · rw [sum_before _ fun r hr => I.ds_of_lt (by omega), neg_zero]; exact pay6_apply j
    · exact ds_d i H r j

/-- One trip of the sweep. -/
abbrev next (x0 : Vec Ideal S4096x128 .bf16) (x1 x2 : Vec Ideal S1024x128 .bf16) (x3 : Vec Ideal S4096x128 .bf16)
    (x4 x5 : Vec Ideal S1x4096x128 .f32) (x6 : Vec Ideal S1x8x1024 .f32) (k : Fin (k2_t1_loop i).trips) (s : FVec Ideal S1024x128 .f32 × FVec Ideal S1024x128 .f32 × FVec Ideal S1x1024 .f32) : FVec Ideal S1024x128 .f32 × FVec Ideal S1024x128 .f32 × FVec Ideal S1x1024 .f32 :=
  (k2_pay22 (k2_pay1 x1) (k2_pay2 x2) (k2_pay3 (fr i x6)) s.1 (bk i x0 k) (bk i x3 k) (ck i x4 k) (ck i x5 k),
    k2_pay20 (k2_pay1 x1) (k2_pay3 (fr i x6)) s.2.1 (bk i x0 k) (bk i x3 k) (ck i x5 k),
    k2_pay23 (k2_pay1 x1) (k2_pay2 x2) (k2_pay3 (fr i x6)) s.2.2 (bk i x0 k) (bk i x3 k) (ck i x4 k) (ck i x5 k))

include H in
theorem p_k (k : Fin (k2_t1_loop i).trips) (r j : Fin 1024) :
    k2_pay19 (k2_pay1 x1) (k2_pay3 (fr i x6)) (bk i x0 k) (ck i x5 k) (ix2 r j)
    = (I.p h (1024 * ((i 1).val + 1 + k.val) + r.val) (1024 * (i 1).val + j.val) : EReal) := by
  rw [pay19_apply, ck_l i H, pay3_apply, score I h (1024 * ((i 1).val + 1 + k.val) + r.val) (1024 * (i 1).val + j.val)
    (fun d => bk_q i H k r d) (fun d => (pay1_apply _ j d).trans (H.k j d)) (fr_f i H j)]
  exact prob I (by omega)

include H in
theorem ds_k (k : Fin (k2_t1_loop i).trips) (r j : Fin 1024) :
    k2_pay21 (k2_pay1 x1) (k2_pay2 x2) (k2_pay3 (fr i x6)) (bk i x0 k) (bk i x3 k) (ck i x4 k) (ck i x5 k) (ix2 r j)
    = (I.ds h (1024 * ((i 1).val + 1 + k.val) + r.val) (1024 * (i 1).val + j.val) : EReal) := by
  rw [pay21_apply, p_k i H, ck_w i H, cot I h (1024 * ((i 1).val + 1 + k.val) + r.val) (1024 * (i 1).val + j.val)
    (fun d => bk_g i H k r d) (fun d => (pay2_apply _ j d).trans (H.v j d)), ← EReal.coe_sub, ← EReal.coe_mul]
  rfl

include H in
theorem step (j : Fin 1024) (k : Fin (k2_t1_loop i).trips) (s : FVec Ideal S1024x128 .f32 × FVec Ideal S1024x128 .f32 × FVec Ideal S1x1024 .f32)
    (ih : Inv I h i j ((i 1).val + 1 + k.val) s) : Inv I h i j ((i 1).val + 1 + (k.val + 1)) (next i x0 x1 x2 x3 x4 x5 x6 k s) := by
  obtain ⟨h1, h2, h3⟩ := ih
  refine ⟨fun d => ?_, fun d => ?_, ?_⟩
  · refine (pay22_apply _ _ _ _ _ _ _ _ j d).trans (add_block (fun r => I.ds h r (1024 * (i 1).val + j.val)
      * (I.q r (128 * h + d.val) * I.c)) _ (h1 d) fun r => ?_)
    rw [ds_k i H, bk_q i H, ← EReal.coe_mul]
    rfl
  · refine (pay20_apply _ _ _ _ _ _ j d).trans (add_block (fun r => I.p h r (1024 * (i 1).val + j.val)
      * I.g r (128 * h + d.val)) _ (h2 d) fun r => ?_)
    rw [p_k i H, bk_g i H, ← EReal.coe_mul]
    rfl
  · refine (pay23_apply _ _ _ _ _ _ _ _ j).trans (sub_block (fun r => I.ds h r (1024 * (i 1).val + j.val)) _ h3 fun r => ?_)
    exact ds_k i H k r j

theorem trip (a1 : BitVec 32) (u17 u18 : FVec Ideal S1024x128 .f32) (u19 : FVec Ideal S1x1024 .f32)
    (u24 u27 : FVec Ideal S1024x128 .bf16) (u30 u33 : FVec Ideal S1024x1 .f32) (u34 : FVec Ideal S1024x1024 .f32) (x0 : Vec Ideal S4096x128 .bf16) (x1 x2 : Vec Ideal S1024x128 .bf16) (x3 : Vec Ideal S4096x128 .bf16)
    (x4 x5 : Vec Ideal S1x4096x128 .f32) (x6 : Vec Ideal S1x8x1024 .f32)
    (k : Fin (k2_t1_loop i).trips) (acc : FVec Ideal S1024x128 .f32 × FVec Ideal S1024x128 .f32 × FVec Ideal S1x1024 .f32) :
    tripR_k2_t1 (F := Ideal) Variants.none c none i arg2 harg2 arg3 harg3 arg4 harg4 arg5 harg5 arg6 harg6 arg7 harg7 arg8 harg8 arg9 harg9 arg10 harg10 arg11 harg11 a1 (k2_pay1 x1) (k2_pay2 x2) (k2_pay3 (fr i x6))
      u17 u18 u19 u24 u27 u30 u33 u34 (harg2.unread x0) (harg5.unread x3) (harg6.unread x4) (harg7.unread x5) k acc
    = next i x0 x1 x2 x3 x4 x5 x6 k acc := by
  unfold tripR_k2_t1 trip_k2_t1
  dsimp only
  simp only [View.readAt_eq_ld, harg2.read_unread, harg5.read_unread, harg6.read_unread, harg7.read_unread]
  rfl

/-- The state of the sweep after `n` trips. -/
abbrev st (a1 : BitVec 32) (x0 : Vec Ideal S4096x128 .bf16) (x1 x2 : Vec Ideal S1024x128 .bf16) (x3 : Vec Ideal S4096x128 .bf16)
    (x4 x5 : Vec Ideal S1x4096x128 .f32) (x6 : Vec Ideal S1x8x1024 .f32) (n : ℕ) :=
  st_k2_t1 (F := Ideal) Variants.none c none i arg2 harg2 arg3 harg3 arg4 harg4 arg5 harg5 arg6 harg6 arg7 harg7 arg8 harg8 arg9 harg9 arg10 harg10 arg11 harg11 a1 (k2_pay1 x1) (k2_pay2 x2) (k2_pay3 (fr i x6))
    k2_pay4 k2_pay5 k2_pay6 (k2_pay7 (bd i x0)) (k2_pay8 (bd i x3)) (k2_pay9 (cd i x4)) (k2_pay10 (cd i x5))
    (k2_pay11 x1 (bd i x0)) (harg2.unread x0) (harg5.unread x3) (harg6.unread x4) (harg7.unread x5) (init i x0 x1 x2 x3 x4 x5 x6) n

include H in
theorem inv (a1 : BitVec 32) (j : Fin 1024) : ∀ n : ℕ, n ≤ 3 - (i 1).val →
    Inv I h i j ((i 1).val + 1 + n) (st c i arg2 harg2 arg3 harg3 arg4 harg4 arg5 harg5 arg6 harg6 arg7 harg7 arg8 harg8 arg9 harg9 arg10 harg10 arg11 harg11 a1 x0 x1 x2 x3 x4 x5 x6 n)
  | 0, _ => by
    unfold st
    rw [st_k2_t1_zero]
    exact inv_init i H j
  | n + 1, hn => by
    have ih := inv a1 j n (by omega)
    obtain ⟨k, rfl⟩ : ∃ k : Fin (k2_t1_loop i).trips, k.val = n := ⟨⟨n, by rw [trips1]; omega⟩, rfl⟩
    unfold st
    rw [st_k2_t1_succ, trip]
    exact step i H j k _ ih

/-! ## The output blocks -/

theorem hz2 : (![0, 0] : Fin 2 → ℕ) = fun _ => 0 := funext fun a => by fin_cases a <;> rfl
theorem hz4 : (![0, 0, 0, 0] : Fin 4 → ℕ) = fun _ => 0 := funext fun a => by fin_cases a <;> rfl

/-- The state after both loops; the second has no trips. -/
abbrev fin (a1 b1 : BitVec 32) (x0 : Vec Ideal S4096x128 .bf16) (x1 x2 : Vec Ideal S1024x128 .bf16) (x3 : Vec Ideal S4096x128 .bf16)
    (x4 x5 : Vec Ideal S1x4096x128 .f32) (x6 : Vec Ideal S1x8x1024 .f32) :=
  st_k2_t2 (F := Ideal) Variants.none c none i arg2 harg2 arg3 harg3 arg4 harg4 arg5 harg5 arg6 harg6 arg7 harg7 arg8 harg8 arg9 harg9 arg10 harg10 arg11 harg11 b1 (k2_pay1 x1) (k2_pay2 x2) (k2_pay3 (fr i x6))
    k2_pay4 k2_pay5 k2_pay6 (k2_pay7 (bd i x0)) (k2_pay8 (bd i x3)) (k2_pay9 (cd i x4)) (k2_pay10 (cd i x5))
    (k2_pay11 x1 (bd i x0)) (harg2.unread x0) (harg5.unread x3) (harg6.unread x4) (harg7.unread x5)
    (st c i arg2 harg2 arg3 harg3 arg4 harg4 arg5 harg5 arg6 harg6 arg7 harg7 arg8 harg8 arg9 harg9 arg10 harg10 arg11 harg11 a1 x0 x1 x2 x3 x4 x5 x6 (k2_t1_loop i).trips) (k2_t2_loop i).trips

include H in
theorem fin_inv (a1 b1 : BitVec 32) (j : Fin 1024) : Inv I h i j 4 (fin c i arg2 harg2 arg3 harg3 arg4 harg4 arg5 harg5 arg6 harg6 arg7 harg7 arg8 harg8 arg9 harg9 arg10 harg10 arg11 harg11 a1 b1 x0 x1 x2 x3 x4 x5 x6) := by
  have hi := i1_lt i
  have := inv c i arg2 harg2 arg3 harg3 arg4 harg4 arg5 harg5 arg6 harg6 arg7 harg7 arg8 harg8 arg9 harg9 arg10 harg10 arg11 harg11 H a1 j _ le_rfl
  rw [show (i 1).val + 1 + (3 - (i 1).val) = 4 by omega] at this
  unfold fin
  rw [trips2, trips1, st_k2_t2_zero]
  exact this

/-- The block of the keys' gradient, opened. -/
theorem out7_open (x0 : Vec Ideal S4096x128 .bf16) (x1 x2 : Vec Ideal S1024x128 .bf16) (x3 : Vec Ideal S4096x128 .bf16)
    (x4 x5 : Vec Ideal S1x4096x128 .f32) (x6 : Vec Ideal S1x8x1024 .f32) :
    ∃ a1 b1 : BitVec 32, out2_A_7 (F := Ideal) c i arg2 harg2 arg3 harg3 arg4 harg4 arg5 harg5 arg6 harg6 arg7 harg7 arg8 harg8 arg9 harg9 arg10 harg10 arg11 harg11 x0 x1 x2 x3 x4 x5 x6
    = k2_pay31 (fin c i arg2 harg2 arg3 harg3 arg4 harg4 arg5 harg5 arg6 harg6 arg7 harg7 arg8 harg8 arg9 harg9 arg10 harg10 arg11 harg11 a1 b1 x0 x1 x2 x3 x4 x5 x6).1 := by
  iterate 2 apply Exists.intro
  unfold out2_A_7
  rw [View.read_writes_eq_canon _ _ _ (cover2_A_7 (F := Ideal) c i arg2 harg2 arg3 harg3 arg4 harg4 arg5 harg5 arg6 harg6 arg7 harg7 arg8 harg8 arg9 harg9 arg10 harg10 arg11 harg11 x0 x1 x2 x3 x4 x5 x6)]
  unfold kernelRun2_A
  dsimp only
  rw [View.canon_unit_zero hz2]
  sl_unfold_words
  simp only [View.readAt_eq_ld, harg2.read_unread, harg3.read_unread, harg4.read_unread, harg5.read_unread, harg6.read_unread,
    harg7.read_unread, harg8.read_unread,
    View.ld_unit_zero (S := S1024x128) hz2]
  rfl

/-- The block of the values' gradient, opened. -/
theorem out8_open (x0 : Vec Ideal S4096x128 .bf16) (x1 x2 : Vec Ideal S1024x128 .bf16) (x3 : Vec Ideal S4096x128 .bf16)
    (x4 x5 : Vec Ideal S1x4096x128 .f32) (x6 : Vec Ideal S1x8x1024 .f32) :
    ∃ a1 b1 : BitVec 32, out2_A_8 (F := Ideal) c i arg2 harg2 arg3 harg3 arg4 harg4 arg5 harg5 arg6 harg6 arg7 harg7 arg8 harg8 arg9 harg9 arg10 harg10 arg11 harg11 x0 x1 x2 x3 x4 x5 x6
    = k2_pay32 (fin c i arg2 harg2 arg3 harg3 arg4 harg4 arg5 harg5 arg6 harg6 arg7 harg7 arg8 harg8 arg9 harg9 arg10 harg10 arg11 harg11 a1 b1 x0 x1 x2 x3 x4 x5 x6).2.1 := by
  iterate 2 apply Exists.intro
  unfold out2_A_8
  rw [View.read_writes_eq_canon _ _ _ (cover2_A_8 (F := Ideal) c i arg2 harg2 arg3 harg3 arg4 harg4 arg5 harg5 arg6 harg6 arg7 harg7 arg8 harg8 arg9 harg9 arg10 harg10 arg11 harg11 x0 x1 x2 x3 x4 x5 x6)]
  unfold kernelRun2_A
  dsimp only
  rw [View.canon_unit_zero hz2]
  sl_unfold_words
  simp only [View.readAt_eq_ld, harg2.read_unread, harg3.read_unread, harg4.read_unread, harg5.read_unread, harg6.read_unread,
    harg7.read_unread, harg8.read_unread,
    View.ld_unit_zero (S := S1024x128) hz2]
  rfl

/-- The block of the gates' gradient, opened. -/
theorem out9_open (x0 : Vec Ideal S4096x128 .bf16) (x1 x2 : Vec Ideal S1024x128 .bf16) (x3 : Vec Ideal S4096x128 .bf16)
    (x4 x5 : Vec Ideal S1x4096x128 .f32) (x6 : Vec Ideal S1x8x1024 .f32) :
    ∃ a1 b1 : BitVec 32, out2_A_9 (F := Ideal) c i arg2 harg2 arg3 harg3 arg4 harg4 arg5 harg5 arg6 harg6 arg7 harg7 arg8 harg8 arg9 harg9 arg10 harg10 arg11 harg11 x0 x1 x2 x3 x4 x5 x6
    = k2_pay33 (fin c i arg2 harg2 arg3 harg3 arg4 harg4 arg5 harg5 arg6 harg6 arg7 harg7 arg8 harg8 arg9 harg9 arg10 harg10 arg11 harg11 a1 b1 x0 x1 x2 x3 x4 x5 x6).2.2 := by
  iterate 2 apply Exists.intro
  unfold out2_A_9
  rw [View.read_writes_eq_canon _ _ _ (cover2_A_9 (F := Ideal) c i arg2 harg2 arg3 harg3 arg4 harg4 arg5 harg5 arg6 harg6 arg7 harg7 arg8 harg8 arg9 harg9 arg10 harg10 arg11 harg11 x0 x1 x2 x3 x4 x5 x6)]
  unfold kernelRun2_A
  dsimp only
  rw [View.canon_unit_zero hz4]
  sl_unfold_words
  simp only [View.readAt_eq_ld, harg2.read_unread, harg3.read_unread, harg4.read_unread, harg5.read_unread, harg6.read_unread,
    harg7.read_unread, harg8.read_unread,
    View.ld_unit_zero (S := S1024x128) hz2]
  rfl

include H in
/-- The block of the keys' gradient of a point. -/
theorem out7 (j : Fin 1024) (d : Fin 128) : out2_A_7 (F := Ideal) c i arg2 harg2 arg3 harg3 arg4 harg4 arg5 harg5 arg6 harg6 arg7 harg7 arg8 harg8 arg9 harg9 arg10 harg10 arg11 harg11 x0 x1 x2 x3 x4 x5 x6 (ix2 j d)
    = (I.dk h (1024 * (i 1).val + j.val) d.val : EReal) := by
  obtain ⟨a1, b1, e⟩ := out7_open c i arg2 harg2 arg3 harg3 arg4 harg4 arg5 harg5 arg6 harg6 arg7 harg7 arg8 harg8 arg9 harg9 arg10 harg10 arg11 harg11 x0 x1 x2 x3 x4 x5 x6
  rw [e, pay31_apply]
  exact (fin_inv c i arg2 harg2 arg3 harg3 arg4 harg4 arg5 harg5 arg6 harg6 arg7 harg7 arg8 harg8 arg9 harg9 arg10 harg10 arg11 harg11 H a1 b1 j).1 d

include H in
/-- The block of the values' gradient of a point. -/
theorem out8 (j : Fin 1024) (d : Fin 128) : out2_A_8 (F := Ideal) c i arg2 harg2 arg3 harg3 arg4 harg4 arg5 harg5 arg6 harg6 arg7 harg7 arg8 harg8 arg9 harg9 arg10 harg10 arg11 harg11 x0 x1 x2 x3 x4 x5 x6 (ix2 j d)
    = (I.dv h (1024 * (i 1).val + j.val) d.val : EReal) := by
  obtain ⟨a1, b1, e⟩ := out8_open c i arg2 harg2 arg3 harg3 arg4 harg4 arg5 harg5 arg6 harg6 arg7 harg7 arg8 harg8 arg9 harg9 arg10 harg10 arg11 harg11 x0 x1 x2 x3 x4 x5 x6
  rw [e, pay32_apply]
  exact (fin_inv c i arg2 harg2 arg3 harg3 arg4 harg4 arg5 harg5 arg6 harg6 arg7 harg7 arg8 harg8 arg9 harg9 arg10 harg10 arg11 harg11 H a1 b1 j).2.1 d

include H in
/-- The block of the gates' gradient of a point. -/
theorem out9 (u : Fin 8) (j : Fin 1024) : out2_A_9 (F := Ideal) c i arg2 harg2 arg3 harg3 arg4 harg4 arg5 harg5 arg6 harg6 arg7 harg7 arg8 harg8 arg9 harg9 arg10 harg10 arg11 harg11 x0 x1 x2 x3 x4 x5 x6 (ix4 0 0 u j)
    = (I.df h (1024 * (i 1).val + j.val) : EReal) := by
  obtain ⟨a1, b1, e⟩ := out9_open c i arg2 harg2 arg3 harg3 arg4 harg4 arg5 harg5 arg6 harg6 arg7 harg7 arg8 harg8 arg9 harg9 arg10 harg10 arg11 harg11 x0 x1 x2 x3 x4 x5 x6
  rw [e, pay33_apply]
  exact (fin_inv c i arg2 harg2 arg3 harg3 arg4 harg4 arg5 harg5 arg6 harg6 arg7 harg7 arg8 harg8 arg9 harg9 arg10 harg10 arg11 harg11 H a1 b1 j).2.2

end Cert.KernelIdeal.Dkv
-- ==== Proof.Arr2.lean ====
module

public import proofs.«01_k».proof.Proof.Dkv
public import proofs.«01_k».proof.Proof.Arrays
public import Idealize.ShloMosaic.Lib.Pipeline.ValueKit

/-! # The arrays the kernel of the keys', values' and gates' gradients leaves -/

@[expose] public section

noncomputable section

set_option maxRecDepth 16384

namespace Cert.KernelIdeal.Dkv

open Cert.KernelIdeal Cert.KernelIdeal.Gen Cert.KernelIdeal.Arr Cert.Fox Idealize.ShloMosaic Idealize.ShloMosaic.TcCoe Idealize.SL.Sem

/-- Where the blocks of a point of the grid lie. -/
theorem idx : ∀ t : Fin cfg2.N, win2_0.index t = ![0, (grid2.coords t 0).val]
    ∧ win2_1.index t = ![(grid2.coords t 1).val, (grid2.coords t 0).val]
    ∧ win2_2.index t = ![(grid2.coords t 1).val, (grid2.coords t 0).val]
    ∧ win2_3.index t = ![0, (grid2.coords t 0).val]
    ∧ win2_4.index t = ![(grid2.coords t 0).val, 0, 0]
    ∧ win2_5.index t = ![(grid2.coords t 0).val, 0, 0]
    ∧ win2_6.index t = ![(grid2.coords t 1).val, (grid2.coords t 0).val / 8, 0]
    ∧ win2_7.index t = ![(grid2.coords t 1).val, (grid2.coords t 0).val]
    ∧ win2_8.index t = ![(grid2.coords t 1).val, (grid2.coords t 0).val]
    ∧ win2_9.index t = ![(grid2.coords t 0).val, (grid2.coords t 1).val, 0, 0]
    ∧ (grid2.coords t 0).val < 16
    ∧ (grid2.coords t 1).val < 4 :=
  (by decide +kernel : ∀ t : Fin grid2.N, _)

variable (V : (c : Dev nD) → (b : Ref sig .tc) → Buf (Elt Ideal) ((c : Thread nD τ).loc b)) (c : Dev nD) (I : Inp) (t : Fin cfg2.N)

theorem rd0 (r : Fin 4096) (d : Fin 128) (hd : 128 * (grid2.coords t 0).val + d.val < 2048) :
    iblk2 V c 0 t (ix2 r d)
    = (V c main_v2 : FVec Ideal S4096x2048 .bf16) (ix2 r ⟨128 * (grid2.coords t 0).val + d.val, hd⟩) := by
  blk_ext [iblk2, idx t]

theorem rd1 (r : Fin 1024) (d : Fin 128) (hr : 1024 * (grid2.coords t 1).val + r.val < 4096) (hd : 128 * (grid2.coords t 0).val + d.val < 2048) :
    iblk2 V c 1 t (ix2 r d)
    = (V c main_v3 : FVec Ideal S4096x2048 .bf16) (ix2 ⟨1024 * (grid2.coords t 1).val + r.val, hr⟩ ⟨128 * (grid2.coords t 0).val + d.val, hd⟩) := by
  blk_ext [iblk2, idx t]

theorem rd2 (r : Fin 1024) (d : Fin 128) (hr : 1024 * (grid2.coords t 1).val + r.val < 4096) (hd : 128 * (grid2.coords t 0).val + d.val < 2048) :
    iblk2 V c 2 t (ix2 r d)
    = (V c main_v4 : FVec Ideal S4096x2048 .bf16) (ix2 ⟨1024 * (grid2.coords t 1).val + r.val, hr⟩ ⟨128 * (grid2.coords t 0).val + d.val, hd⟩) := by
  blk_ext [iblk2, idx t]

theorem rd3 (r : Fin 4096) (d : Fin 128) (hd : 128 * (grid2.coords t 0).val + d.val < 2048) :
    iblk2 V c 3 t (ix2 r d)
    = (V c main_v5 : FVec Ideal S4096x2048 .bf16) (ix2 r ⟨128 * (grid2.coords t 0).val + d.val, hd⟩) := by
  blk_ext [iblk2, idx t]

theorem rd4 (r : Fin 4096) (h0 : (grid2.coords t 0).val < 16) :
    iblk2 V c 4 t (ix3 0 r 0)
    = (V c main_v10_1 : FVec Ideal S16x4096x128 .f32) (ix3 ⟨(grid2.coords t 0).val, h0⟩ r 0) := by
  blk_ext [iblk2, idx t]

theorem rd5 (r : Fin 4096) (h0 : (grid2.coords t 0).val < 16) :
    iblk2 V c 5 t (ix3 0 r 0)
    = (V c main_v9_1 : FVec Ideal S16x4096x128 .f32) (ix3 ⟨(grid2.coords t 0).val, h0⟩ r 0) := by
  blk_ext [iblk2, idx t]

theorem rd6 (s : Fin 1024) (hm : (grid2.coords t 0).val % 8 < 8) (h1 : (grid2.coords t 1).val < 4) (h0 : (grid2.coords t 0).val < 128) :
    iblk2 V c 6 t (ix3 0 ⟨(grid2.coords t 0).val % 8, hm⟩ s)
    = (V c main_v8 : FVec Ideal S4x128x1024 .f32) (ix3 ⟨(grid2.coords t 1).val, h1⟩ ⟨(grid2.coords t 0).val, h0⟩ s) := by
  blk_ext [iblk2, idx t]

variable {V c I} (E : Ent I (V c))
  (hl : (V c main_v9_1 : FVec Ideal S16x4096x128 .f32) = colsArr fun h i => Real.log (I.z h i))
  (hw : (V c main_v10_1 : FVec Ideal S16x4096x128 .f32) = colsArr I.rt)

include E hl hw in
theorem input : In I (grid2.coords t 0).val (grid2.coords t) (iblk2 V c 0 t) (iblk2 V c 1 t) (iblk2 V c 2 t) (iblk2 V c 3 t) (iblk2 V c 4 t) (iblk2 V c 5 t) (iblk2 V c 6 t) :=
  have h0 : (grid2.coords t 0).val < 16 := (idx t).2.2.2.2.2.2.2.2.2.2.1
  have h1 : (grid2.coords t 1).val < 4 := (idx t).2.2.2.2.2.2.2.2.2.2.2
  {
    q r d := (rd0 V c t r d (by omega)).trans (E.q _ _)
    k r d := (rd1 V c t r d (by omega) (by omega)).trans (E.k _ _)
    v r d := (rd2 V c t r d (by omega) (by omega)).trans (E.v _ _)
    g r d := (rd3 V c t r d (by omega)).trans (E.g _ _)
    w r := by rw [rd4 V c t r h0, hw]; rfl
    l r := by rw [rd5 V c t r h0, hl]; rfl
    f s := (rd6 V c t s _ h1 (by omega)).trans (E.f _ _ _ h0) }

include E hl hw in
theorem at7 (r : Fin 1024) (d : Fin 128) : (outsAt2 V c t).1 (ix2 r d)
    = (((I.dk) (grid2.coords t 0).val (1024 * (grid2.coords t 1).val + r.val) d.val : ℝ) : EReal) := by
  unfold outsAt2
  dsimp only
  exact out7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (input t E hl hw) r d

include E hl hw in
theorem point7 (y : S1024x128.Idx) : (outsAt2 V c t).1 y = rowsArr (I.dk) (((cfg2.win 7).blk t).view.emb y) := by
  idx_vars y
  refine (at7 t E hl hw y0 y1).trans ?_
  unfold rowsArr
  blk_simp [idx t]
  rw [show (grid2.coords t 0).val * 128 + y1.val = 128 * (grid2.coords t 0).val + y1.val by omega, Nat.mul_add_div (by norm_num),
    Nat.mul_add_mod, Nat.div_eq_of_lt y1.isLt, Nat.mod_eq_of_lt y1.isLt, Nat.mul_comm (grid2.coords t 1).val, Nat.add_zero]

include E hl hw in
theorem final7 : (dat2 V c).arrAt 7 cfg2.N = rowsArr (I.dk) := by
  refine (dat2 V c).arrAt_eq_of_covers 7 _ (by decide +kernel) fun t _ y => ?_
  blk_simp
  rw [after2_7]
  exact point7 t E hl hw y

include E hl hw in
theorem at8 (r : Fin 1024) (d : Fin 128) : (outsAt2 V c t).2.1 (ix2 r d)
    = (((I.dv) (grid2.coords t 0).val (1024 * (grid2.coords t 1).val + r.val) d.val : ℝ) : EReal) := by
  unfold outsAt2
  dsimp only
  exact out8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (input t E hl hw) r d

include E hl hw in
theorem point8 (y : S1024x128.Idx) : (outsAt2 V c t).2.1 y = rowsArr (I.dv) (((cfg2.win 8).blk t).view.emb y) := by
  idx_vars y
  refine (at8 t E hl hw y0 y1).trans ?_
  unfold rowsArr
  blk_simp [idx t]
  rw [show (grid2.coords t 0).val * 128 + y1.val = 128 * (grid2.coords t 0).val + y1.val by omega, Nat.mul_add_div (by norm_num),
    Nat.mul_add_mod, Nat.div_eq_of_lt y1.isLt, Nat.mod_eq_of_lt y1.isLt, Nat.mul_comm (grid2.coords t 1).val, Nat.add_zero]

include E hl hw in
theorem final8 : (dat2 V c).arrAt 8 cfg2.N = rowsArr (I.dv) := by
  refine (dat2 V c).arrAt_eq_of_covers 8 _ (by decide +kernel) fun t _ y => ?_
  blk_simp
  rw [after2_8]
  exact point8 t E hl hw y

include E hl hw in
theorem at9 (a b : Fin 1) (u : Fin 8) (r : Fin 1024) : (outsAt2 V c t).2.2 (ix4 a b u r)
    = (((I.df) (grid2.coords t 0).val (1024 * (grid2.coords t 1).val + r.val) : ℝ) : EReal) := by
  obtain rfl : a = 0 := Subsingleton.elim _ _
  obtain rfl : b = 0 := Subsingleton.elim _ _
  unfold outsAt2
  dsimp only
  exact out9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (input t E hl hw) u r

include E hl hw in
theorem point9 (y : S1x1x8x1024.Idx) : (outsAt2 V c t).2.2 y = gatesArr (I.df) (((cfg2.win 9).blk t).view.emb y) := by
  idx_vars y
  refine (at9 t E hl hw y0 y1 y2 y3).trans ?_
  unfold gatesArr
  blk_simp [idx t]

include E hl hw in
theorem final9 : (dat2 V c).arrAt 9 cfg2.N = gatesArr (I.df) := by
  refine (dat2 V c).arrAt_eq_of_covers 9 _ (by decide +kernel) fun t _ y => ?_
  blk_simp
  rw [after2_9]
  exact point9 t E hl hw y

end Cert.KernelIdeal.Dkv
-- ==== Proof.Host.lean ====
module

public import proofs.«01_k».proof.Proof.Arrays
public import proofs.«01_k».proof.Proof.Consts
public import Idealize.ShloMosaic.Lib.StableHlo.ReadAt

/-! # What the host operations before the kernels leave -/

@[expose] public section

noncomputable section

set_option maxRecDepth 16384

namespace Cert.KernelIdeal.Arr

open Cert.KernelIdeal Cert.KernelIdeal.Gen Cert.Fox Idealize.ShloMosaic Idealize.ShloMosaic.TcCoe Idealize.SL.Sem

variable (m : (ℓ : Loc nD τ sig) → Buf (Elt Ideal) ℓ) (ρ : Dev nD → PrngReg) (c : Dev nD)

variable (I : Inp) (H : Reals I (m ((c : Thread nD τ).loc main_arg0)) (m ((c : Thread nD τ).loc main_arg1))
  (m ((c : Thread nD τ).loc main_arg2)) (m ((c : Thread nD τ).loc main_arg3)) (m ((c : Thread nD τ).loc main_arg4)))

include H in
theorem read_q (n : Fin 4096) (e : Fin 2048) :
    (W3 m ρ c main_v2 : FVec Ideal S4096x2048 .bf16) (ix2 n e) = ((I.q n.val e.val * I.c : ℝ) : EReal) := by
  rw [EReal.coe_mul, ← H.q, H.c, ← ofBits_scale]
  unfold W3 W2 W1 W0
  after_reads_at

include H in
theorem read_k (n : Fin 4096) (e : Fin 2048) :
    (W3 m ρ c main_v3 : FVec Ideal S4096x2048 .bf16) (ix2 n e) = (I.k n.val e.val : EReal) := by
  rw [← H.k]
  unfold W3 W2 W1 W0
  after_reads_at

include H in
theorem read_v (n : Fin 4096) (e : Fin 2048) :
    (W3 m ρ c main_v4 : FVec Ideal S4096x2048 .bf16) (ix2 n e) = (I.v n.val e.val : EReal) := by
  rw [← H.v]
  unfold W3 W2 W1 W0
  after_reads_at

include H in
theorem read_g (n : Fin 4096) (e : Fin 2048) :
    (W3 m ρ c main_v5 : FVec Ideal S4096x2048 .bf16) (ix2 n e) = (I.g n.val e.val : EReal) := by
  rw [← H.g]
  unfold W3 W2 W1 W0
  after_reads_at

include H in
theorem read_f (b : Fin 4) (h : Fin 128) (s : Fin 1024) (hh : h.val < 16) :
    (W3 m ρ c main_v8 : FVec Ideal S4x128x1024 .f32) (ix3 b h s) = (I.f h.val (1024 * b.val + s.val) : EReal) := by
  have hn : b.val * 1024 + s.val < 4096 := by omega
  rw [show 1024 * b.val + s.val = b.val * 1024 + s.val by omega]
  refine Eq.trans ?_ (H.f ⟨h.val, hh⟩ ⟨b.val * 1024 + s.val, hn⟩)
  unfold W3 W2 W1 W0
  after_reads_at
  exact dif_pos ⟨hh, hn⟩

include H in
/-- The arrays of the kernels when the first is entered. -/
theorem ent : Ent I (V3 m ρ c) :=
  ⟨read_q m ρ c I H, read_k m ρ c I H, read_v m ρ c I H, read_g m ρ c I H, read_f m ρ c I H⟩

end Cert.KernelIdeal.Arr
-- ==== Proof.RunAll.lean ====
module

public import proofs.«01_k».proof.Proof.Gen.KernelIdeal.Frame

/-! # The run of the three kernels, with the contents of every buffer -/

@[expose] public section

noncomputable section

set_option maxRecDepth 16384

namespace Cert.KernelIdeal.Arr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option backward.isDefEq.respectTransparency.types false in
/-- Every run ends with every buffer at what the last kernel leaves. -/
theorem run_all (m : (ℓ : Loc nD τ sig) → Buf (Elt F) ℓ) (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.KernelIdeal.Arr
-- ==== Proof.Run.lean ====
module

public import proofs.«01_k».proof.Proof.Arr0
public import proofs.«01_k».proof.Proof.Arr1
public import proofs.«01_k».proof.Proof.Arr2
public import proofs.«01_k».proof.Proof.Host
public import proofs.«01_k».proof.Proof.RunAll

/-! # The run of the three kernels, with the contents of every result -/

@[expose] public section

noncomputable section

set_option maxRecDepth 16384

namespace Cert.KernelIdeal.Arr

open Cert.KernelIdeal Cert.KernelIdeal.Gen Cert.Fox
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The arrays the kernels read are as they were when the first was entered. -/
theorem ent_of {I : Inp} {V V' : (b : Ref sig .tc) → (b.ty : BufTy).Contents (Elt Ideal)} (E : Ent I V)
    (h2 : V' main_v2 = V main_v2) (h3 : V' main_v3 = V main_v3) (h4 : V' main_v4 = V main_v4)
    (h5 : V' main_v5 = V main_v5) (h8 : V' main_v8 = V main_v8) : Ent I V' :=
  ⟨fun n e => by rw [h2]; exact E.q n e, fun n e => by rw [h3]; exact E.k n e, fun n e => by rw [h4]; exact E.v n e,
    fun n e => by rw [h5]; exact E.g n e, fun b h s hh => by rw [h8]; exact E.f b h s hh⟩

section Values

variable (c : Dev nD) (I : Inp) (H : Reals I (m ((c : Thread nD τ).loc main_arg0)) (m ((c : Thread nD τ).loc main_arg1))
  (m ((c : Thread nD τ).loc main_arg2)) (m ((c : Thread nD τ).loc main_arg3)) (m ((c : Thread nD τ).loc main_arg4)))

include H in
theorem ent4 : Ent I (V4 m ρ c) :=
  ent_of (ent m ρ c I H) (W4_of m ρ c main_v2 (by decide +kernel)) (W4_of m ρ c main_v3 (by decide +kernel))
    (W4_of m ρ c main_v4 (by decide +kernel)) (W4_of m ρ c main_v5 (by decide +kernel)) (W4_of m ρ c main_v8 (by decide +kernel))

include H in
theorem ent5 : Ent I (V5 m ρ c) :=
  ent_of (ent4 m ρ c I H) (W5_of m ρ c main_v2 (by decide +kernel)) (W5_of m ρ c main_v3 (by decide +kernel))
    (W5_of m ρ c main_v4 (by decide +kernel)) (W5_of m ρ c main_v5 (by decide +kernel)) (W5_of m ρ c main_v8 (by decide +kernel))

include H in
theorem lse4 : (V4 m ρ c main_v9_1 : FVec Ideal S16x4096x128 .f32) = colsArr fun h i => Real.log (I.z h i) :=
  (W4_arr m ρ c 5).trans (Fwd.final5 (ent m ρ c I H))

include H in
theorem lse5 : (V5 m ρ c main_v9_1 : FVec Ideal S16x4096x128 .f32) = colsArr fun h i => Real.log (I.z h i) :=
  (W5_of m ρ c main_v9_1 (by decide +kernel)).trans (lse4 m ρ c I H)

include H in
theorem rt5 : (V5 m ρ c main_v10_1 : FVec Ideal S16x4096x128 .f32) = colsArr I.rt :=
  (W5_arr m ρ c 7).trans (Dq.final7 (ent4 m ρ c I H) H.c (lse4 m ρ c I H))

include H in
theorem res_o : (W6 m ρ c main_v9_0 : FVec Ideal S4096x2048 .bf16) = rowsArr I.o :=
  (W6_of m ρ c main_v9_0 (by decide +kernel)).trans <| (W5_of m ρ c main_v9_0 (by decide +kernel)).trans <|
    (W4_arr m ρ c 4).trans (Fwd.final4 (ent m ρ c I H))

include H in
theorem res_dq : (W6 m ρ c main_v10_0 : FVec Ideal S4096x2048 .bf16) = rowsArr I.dq :=
  (W6_of m ρ c main_v10_0 (by decide +kernel)).trans <|
    (W5_arr m ρ c 6).trans (Dq.final6 (ent4 m ρ c I H) H.c (lse4 m ρ c I H))

include H in
theorem res_dk : (W6 m ρ c main_v11_0 : FVec Ideal S4096x2048 .bf16) = rowsArr I.dk :=
  (W6_arr m ρ c 7).trans (Dkv.final7 (ent5 m ρ c I H) (lse5 m ρ c I H) (rt5 m ρ c I H))

include H in
theorem res_dv : (W6 m ρ c main_v11_1 : FVec Ideal S4096x2048 .bf16) = rowsArr I.dv :=
  (W6_arr m ρ c 8).trans (Dkv.final8 (ent5 m ρ c I H) (lse5 m ρ c I H) (rt5 m ρ c I H))

include H in
theorem res_df : (W6 m ρ c main_v11_2 : FVec Ideal S16x4x8x1024 .f32) = gatesArr I.df :=
  (W6_arr m ρ c 9).trans (Dkv.final9 (ent5 m ρ c I H) (lse5 m ρ c I H) (rt5 m ρ c I H))

end Values

/-- Every run from arrays of real numbers ends with the attention's output and its gradients. -/
theorem run (I : Dev nD → Inp) (H : ∀ c : Dev nD, Reals (I c) (m ((c : Thread nD τ).loc main_arg0)) (m ((c : Thread nD τ).loc main_arg1))
    (m ((c : Thread nD τ).loc main_arg2)) (m ((c : Thread nD τ).loc main_arg3)) (m ((c : Thread nD τ).loc main_arg4))) :
    θ_run defs (onTc (τ := τ) (main (F := Ideal))) ⟨m, fun _ => 0, ρ⟩ (fun r => ∀ c : Dev nD,
      r.2.mem ((c.tc : Thread nD τ).loc main_v9_0) = rowsArr (I c).o
      ∧ r.2.mem ((c.tc : Thread nD τ).loc main_v10_0) = rowsArr (I c).dq
      ∧ r.2.mem ((c.tc : Thread nD τ).loc main_v11_0) = rowsArr (I c).dk
      ∧ r.2.mem ((c.tc : Thread nD τ).loc main_v11_1) = rowsArr (I c).dv
      ∧ r.2.mem ((c.tc : Thread nD τ).loc main_v11_2) = gatesArr (I c).df
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9_0 (by decide))).trans (res_o m ρ c _ (H c)),
     (h c _ (mem_uc main_v10_0 (by decide))).trans (res_dq m ρ c _ (H c)),
     (h c _ (mem_uc main_v11_0 (by decide))).trans (res_dk m ρ c _ (H c)),
     (h c _ (mem_uc main_v11_1 (by decide))).trans (res_dv m ρ c _ (H c)),
     (h c _ (mem_uc main_v11_2 (by decide))).trans (res_df m ρ c _ (H c)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Arr
-- ==== Proof.RefPay.lean ====
module

public import proofs.«01_k».proof.Proof.Gen.ReferenceIdeal.Read
public import proofs.«01_k».proof.Proof.Consts
public import Idealize.ShloMosaic.Lib.Pipeline.ValueKit

/-! # The reference's values, read at an index -/

@[expose] public section

noncomputable section

set_option maxRecDepth 16384

namespace Cert.ReferenceIdeal.Val

open Cert.ReferenceIdeal Cert.ReferenceIdeal.Gen Cert.ReferenceIdeal.Read Cert.Fox Idealize.ShloMosaic

variable (q k v g : FVec Ideal S4096x2048 .f32) (f : FVec Ideal S16x4096 .f32)
  (h : Fin 16) (i j : Fin 4096) (d : Fin 128)

/-- The greatest entry along the last axis. -/
theorem hostMax {a b n : ℕ} (x : FVec Ideal ⟨3, ![a, b, n]⟩ .f32) (e : FVec Ideal ⟨0, ![]⟩ .f32)
    (hr : (⟨3, ![a, b, n]⟩ : Shape).ReducesTo [2] ⟨2, ![a, b]⟩) (hu : 0 < (⟨0, ![]⟩ : Shape).numel) (h : Fin a) (i : Fin b) :
    Host.reduce FloatOps.maximumf x e hr hu (ix2 h i)
      = Finset.univ.fold max (e (Shape.Idx.first hu)) (fun j : Fin n => x (ix3 h i j)) := by
  simp only [pointwise]

/-- A choice by the order of two rows. -/
theorem select_row {α : Type} (a b : Fin 4096) (x y : α) :
    Scalar.select (IntOp.cmpi .sle (BitVec.ofNat 32 a.val) (BitVec.ofNat 32 b.val)) x y = if a.val ≤ b.val then x else y :=
  select_le (by omega) (by omega) x y

theorem one_pat : Ideal.ofBits .f32 0x3F800000#32 = ((1 : ℝ) : EReal) := by
  simp [Ideal.ofBits, Ideal.ieee]
  rw [← EReal.coe_mul]
  norm_num

/-! ## The heads -/

theorem r1 (hd : h.val * 128 + d.val < 2048) : val_main_v1 (F := Ideal) q (ix3 h i d) = q (ix2 i ⟨h.val * 128 + d.val, hd⟩) := by
  pointwise [val_main_v1, val_main_v0]
theorem r3 (hd : h.val * 128 + d.val < 2048) : val_main_v3 (F := Ideal) k (ix3 h i d) = k (ix2 i ⟨h.val * 128 + d.val, hd⟩) := by
  pointwise [val_main_v3, val_main_v2]
theorem r5 (hd : h.val * 128 + d.val < 2048) : val_main_v5 (F := Ideal) v (ix3 h i d) = v (ix2 i ⟨h.val * 128 + d.val, hd⟩) := by
  pointwise [val_main_v5, val_main_v4]
theorem r54 (hd : h.val * 128 + d.val < 2048) : val_main_v54 (F := Ideal) g (ix3 h i d) = g (ix2 i ⟨h.val * 128 + d.val, hd⟩) := by
  pointwise [val_main_v54, val_main_v53]

/-! ## The forward pass -/

theorem r6 : val_main_v6 (F := Ideal) q k (ix3 h i j)
    = ∑ d : Fin 128, val_main_v1 (F := Ideal) q (ix3 h i d) * val_main_v3 (F := Ideal) k (ix3 h j d) := by
  pointwise [val_main_v6]

theorem r14 : val_main_v14 (F := Ideal) q k f (ix3 h i j)
    = val_main_v6 (F := Ideal) q k (ix3 h i j) * Ideal.ofBits .f32 0x3DB504F3#32 + (f (ix2 h i) - f (ix2 h j)) := by
  pointwise [val_main_v14, val_main_v8, val_main_v7, val_main_cst, val_main_v13, val_main_v11, val_main_v12, val_main_v9, val_main_v10]

theorem r21_1 {α : Type} (x y : α) :
    Scalar.select (val_main_v21_1 (F := Ideal) (ix3 h i j)) x y = if j.val ≤ i.val then x else y := by
  rw [← select_row]
  pointwise [val_main_v21_1, val_main_v20, val_main_v18, val_main_v19, val_main_v17, val_main_v16, val_main_v15]

theorem r21 : val_main_v21_0 (F := Ideal) q k f (ix3 h i j)
    = if j.val ≤ i.val then val_main_v14 (F := Ideal) q k f (ix3 h i j) else ⊥ := by
  rw [← r21_1 h i j, ← ofBits_neg_inf]
  rfl

theorem r22 : val_main_v22 (F := Ideal) q k f (ix2 h i)
    = Finset.univ.fold max ⊥ fun j : Fin 4096 => val_main_v21_0 (F := Ideal) q k f (ix3 h i j) := by
  have e := hostMax (val_main_v21_0 (F := Ideal) q k f) (val_main_cst_1 (F := Ideal)) reducesTo_S16x4096x4096_S16x4096_d2 h_S_ h i
  rw [val_main_cst_1_apply] at e
  rw [← ofBits_neg_inf]
  exact e

theorem r29 : val_main_v29 (F := Ideal) q k f (ix2 h i)
    = max (Ideal.ofBits .f32 0xFF800000#32) (val_main_v22 (F := Ideal) q k f (ix2 h i)) := by
  rw [val_main_v29_apply, val_main_v28_apply, val_main_cst_3_apply]
  generalize val_main_v22 (F := Ideal) q k f (ix2 h i) = y
  rfl

theorem r42 : val_main_v42 (F := Ideal) q k f (ix3 h i j)
    = Ideal.exp (val_main_v21_0 (F := Ideal) q k f (ix3 h i j) - max ⊥ (val_main_v22 (F := Ideal) q k f (ix2 h i))) := by
  rw [← ofBits_neg_inf, ← r29]
  rw [val_main_v42_apply, val_main_v41_apply, val_main_v40_apply, val_main_v39_apply]
  have e : idx_main_v39 (idx_main_v40 (ix3 h i j)) = ix2 h i := by
    funext a; match a with | ⟨0, _⟩ => rfl | ⟨1, _⟩ => rfl
  rw [e]
  generalize val_main_v29 (F := Ideal) q k f (ix2 h i) = y
  generalize val_main_v21_0 (F := Ideal) q k f (ix3 h i j) = x
  rfl

theorem r43 : val_main_v43 (F := Ideal) q k f (ix2 h i) = ∑ j : Fin 4096, val_main_v42 (F := Ideal) q k f (ix3 h i j) := by
  pointwise [val_main_v43, val_main_cst_9]

theorem r44 : val_main_v44 (F := Ideal) q k f (ix3 h i 0) = val_main_v43 (F := Ideal) q k f (ix2 h i) := by
  pointwise [val_main_v44]

theorem r46 : val_main_v46 (F := Ideal) q k f (ix3 h i j)
    = Ideal.div (val_main_v42 (F := Ideal) q k f (ix3 h i j)) (val_main_v43 (F := Ideal) q k f (ix2 h i)) := by
  pointwise [val_main_v46, val_main_v45, val_main_v44]

theorem r50 : val_main_v50 (F := Ideal) q k v f (ix3 h i d)
    = ∑ j : Fin 4096, val_main_v46 (F := Ideal) q k f (ix3 h i j) * val_main_v5 (F := Ideal) v (ix3 h j d) := by
  pointwise [val_main_v50]

/-! ## The backward pass -/

theorem r49 : val_main_v49 (F := Ideal) q k f (ix3 h i 0)
    = Ideal.div (Ideal.ofBits .f32 0x3F800000#32)
      (val_main_v44 (F := Ideal) q k f (ix3 h i 0) * val_main_v44 (F := Ideal) q k f (ix3 h i 0)) := by
  pointwise [val_main_v49, val_main_v48, val_main_v47, val_main_cst_10]

theorem r55 : val_main_v55 (F := Ideal) q k f g (ix3 h d j)
    = ∑ i : Fin 4096, val_main_v54 (F := Ideal) g (ix3 h i d) * val_main_v46 (F := Ideal) q k f (ix3 h i j) := by
  pointwise [val_main_v55]

theorem r57 : val_main_v57 (F := Ideal) v g (ix3 h i j)
    = ∑ d : Fin 128, val_main_v54 (F := Ideal) g (ix3 h i d) * val_main_v5 (F := Ideal) v (ix3 h j d) := by
  pointwise [val_main_v57]

theorem r60 : val_main_v60 (F := Ideal) q k v f g (ix3 h i j)
    = val_main_v57 (F := Ideal) v g (ix3 h i j) * val_main_v49 (F := Ideal) q k f (ix3 h i 0) * val_main_v42 (F := Ideal) q k f (ix3 h i j) := by
  pointwise [val_main_v60, val_main_v59, val_main_v58]

theorem r61 : val_main_v61 (F := Ideal) q k v f g (ix2 h i) = ∑ j : Fin 4096, val_main_v60 (F := Ideal) q k v f g (ix3 h i j) := by
  pointwise [val_main_v61, val_main_cst_11]

theorem r66 : val_main_v66 (F := Ideal) q k v f g (ix2 h i) = -val_main_v61 (F := Ideal) q k v f g (ix2 h i) := by
  pointwise [val_main_v66, val_main_v63, val_main_v62, val_main_cst_12]
  simp only [Finset.univ_unique, Finset.sum_singleton]

theorem r65 : val_main_v65 (F := Ideal) q k v f g (ix3 h i j)
    = Ideal.div (val_main_v57 (F := Ideal) v g (ix3 h i j)) (val_main_v44 (F := Ideal) q k f (ix3 h i 0)) := by
  pointwise [val_main_v65, val_main_v64]

theorem r69 : val_main_v69 (F := Ideal) q k v f g (ix3 h i j)
    = (val_main_v65 (F := Ideal) q k v f g (ix3 h i j) + val_main_v66 (F := Ideal) q k v f g (ix2 h i))
      * val_main_v42 (F := Ideal) q k f (ix3 h i j) := by
  pointwise [val_main_v69, val_main_v68, val_main_v67]

theorem r70 : val_main_v70 (F := Ideal) q k v f g (ix3 h i j)
    = if j.val ≤ i.val then val_main_v69 (F := Ideal) q k v f g (ix3 h i j) else 0 := by
  rw [← r21_1 h i j]
  pointwise [val_main_v70, val_main_call1_v0, val_main_call1_cst]

theorem r77 : val_main_v77 (F := Ideal) q k v f g (ix2 h i) = ∑ j : Fin 4096, val_main_v70 (F := Ideal) q k v f g (ix3 h i j) := by
  pointwise [val_main_v77, val_main_v72, val_main_v71, val_main_cst_13, val_main_cst_16]
  simp only [Finset.univ_unique, Finset.sum_singleton]

theorem r76 : val_main_v76 (F := Ideal) q k v f g (ix2 h j) = ∑ i : Fin 4096, -val_main_v70 (F := Ideal) q k v f g (ix3 h i j) := by
  pointwise [val_main_v76, val_main_v75, val_main_v74, val_main_v73, val_main_cst_14, val_main_cst_15]
  simp only [Finset.univ_unique, Finset.sum_singleton]

theorem r78 : val_main_v78 (F := Ideal) q k v f g (ix2 h j)
    = val_main_v76 (F := Ideal) q k v f g (ix2 h j) + val_main_v77 (F := Ideal) q k v f g (ix2 h j) := by
  pointwise [val_main_v78]

theorem r80 : val_main_v80 (F := Ideal) q k v f g (ix3 h i j)
    = val_main_v70 (F := Ideal) q k v f g (ix3 h i j) * Ideal.ofBits .f32 0x3DB504F3#32 := by
  pointwise [val_main_v80, val_main_v79, val_main_cst_17]

theorem r81 : val_main_v81 (F := Ideal) q k v f g (ix3 h j d)
    = ∑ i : Fin 4096, val_main_v80 (F := Ideal) q k v f g (ix3 h i j) * val_main_v1 (F := Ideal) q (ix3 h i d) := by
  pointwise [val_main_v81]

theorem r82 : val_main_v82 (F := Ideal) q k v f g (ix3 h i d)
    = ∑ j : Fin 4096, val_main_v80 (F := Ideal) q k v f g (ix3 h i j) * val_main_v3 (F := Ideal) k (ix3 h j d) := by
  pointwise [val_main_v82]

/-! ## The results -/

variable (n : Fin 4096) (e : Fin 2048) (hh : e.val / 128 < 16) (hd : e.val % 128 < 128)

theorem r91 : val_main_v91 (F := Ideal) q k v f (ix2 n e) = val_main_v50 (F := Ideal) q k v f (ix3 ⟨e.val / 128, hh⟩ n ⟨e.val % 128, hd⟩) := by
  pointwise [val_main_v91, val_main_v52, val_main_v51]
theorem r92 : val_main_v92 (F := Ideal) q k v f g (ix2 n e)
    = val_main_v82 (F := Ideal) q k v f g (ix3 ⟨e.val / 128, hh⟩ n ⟨e.val % 128, hd⟩) := by
  pointwise [val_main_v92, val_main_v88, val_main_v87]
theorem r93 : val_main_v93 (F := Ideal) q k v f g (ix2 n e)
    = val_main_v81 (F := Ideal) q k v f g (ix3 ⟨e.val / 128, hh⟩ n ⟨e.val % 128, hd⟩) := by
  pointwise [val_main_v93, val_main_v86, val_main_v85]
theorem r94 : val_main_v94 (F := Ideal) q k f g (ix2 n e)
    = val_main_v55 (F := Ideal) q k f g (ix3 ⟨e.val / 128, hh⟩ ⟨e.val % 128, hd⟩ n) := by
  pointwise [val_main_v94, val_main_v84, val_main_v83, val_main_v56]
theorem r90 (b : Fin 4) (u : Fin 8) (s : Fin 1024) (hs : b.val * 1024 + s.val < 4096) :
    val_main_v90 (F := Ideal) q k v f g (ix4 h b u s) = val_main_v78 (F := Ideal) q k v f g (ix2 h ⟨b.val * 1024 + s.val, hs⟩) := by
  pointwise [val_main_v90, val_main_v89]

end Cert.ReferenceIdeal.Val
-- ==== Proof.Ref.lean ====
module

public import proofs.«01_k».proof.Proof.RefPay
public import proofs.«01_k».proof.Proof.Spec

/-! # The reference's results as real numbers -/

@[expose] public section

noncomputable section

set_option maxRecDepth 16384

namespace Cert.ReferenceIdeal.Val

open Cert.ReferenceIdeal Cert.ReferenceIdeal.Gen Cert.ReferenceIdeal.Read Cert.Fox Idealize.ShloMosaic

variable {q k v g : FVec Ideal S4096x2048 .f32} {f : FVec Ideal S16x4096 .f32} {I : Inp} (H : Reals I q k v f g)
  (h : Fin 16) (i j : Fin 4096) (d : Fin 128)

/-! ## The heads -/

include H in
theorem e1 : val_main_v1 (F := Ideal) q (ix3 h i d) = ↑(I.q i.val (128 * h.val + d.val)) := by
  rw [r1 q h i d (by omega), H.q]
  exact congrArg (fun n => ((I.q i.val n : ℝ) : EReal)) (by simp only; omega)
include H in
theorem e3 : val_main_v3 (F := Ideal) k (ix3 h i d) = ↑(I.k i.val (128 * h.val + d.val)) := by
  rw [r3 k h i d (by omega), H.k]
  exact congrArg (fun n => ((I.k i.val n : ℝ) : EReal)) (by simp only; omega)
include H in
theorem e5 : val_main_v5 (F := Ideal) v (ix3 h i d) = ↑(I.v i.val (128 * h.val + d.val)) := by
  rw [r5 v h i d (by omega), H.v]
  exact congrArg (fun n => ((I.v i.val n : ℝ) : EReal)) (by simp only; omega)
include H in
theorem e54 : val_main_v54 (F := Ideal) g (ix3 h i d) = ↑(I.g i.val (128 * h.val + d.val)) := by
  rw [r54 g h i d (by omega), H.g]
  exact congrArg (fun n => ((I.g i.val n : ℝ) : EReal)) (by simp only; omega)

/-! ## The forward pass -/

include H in
theorem e14 : val_main_v14 (F := Ideal) q k f (ix3 h i j) = ↑(I.x h.val i.val j.val + I.f h.val i.val) := by
  rw [r14, r6]
  simp only [e1 H, e3 H, ofBits_scale, H.f, ← EReal.coe_mul, ← coe_sum, ← EReal.coe_sub, ← EReal.coe_add]
  congr 1
  unfold Inp.x
  rw [H.c, Finset.sum_range, Finset.sum_mul]
  rw [show ∀ a b c : ℝ, a - b + c = a + (c - b) from fun a b c => by ring]
  congr 1
  exact Finset.sum_congr rfl fun _ _ => by ring

include H in
/-- A row's weights: those of the real attention times one positive number. -/
theorem row : ∃ E : ℝ, 0 < E ∧ ∀ j : Fin 4096, val_main_v42 (F := Ideal) q k f (ix3 h i j) = ↑(E * I.e h.val i.val j.val) := by
  have hs : ∀ j : Fin 4096, Lg (val_main_v21_0 (F := Ideal) q k f (ix3 h i j)) (Real.exp (I.f h.val i.val) * I.e h.val i.val j.val) := by
    intro j
    rw [r21, e14 H]
    unfold Inp.e
    by_cases hj : j.val ≤ i.val
    · rw [if_pos hj, if_pos hj]
      exact Or.inl ⟨_, rfl, by rw [Real.exp_add, mul_comm]⟩
    · rw [if_neg hj, if_neg hj]
      exact Or.inr ⟨rfl, mul_zero _⟩
  obtain ⟨μ, hμ⟩ := fold_max_real ⊥ bot_ne_top (fun j : Fin 4096 => val_main_v21_0 (F := Ideal) q k f (ix3 h i j))
    (fun j => (hs j).ne_top) ⟨⟨0, by norm_num⟩, by
      simp only [r21, e14 H]
      rw [if_pos (Nat.zero_le _)]
      exact EReal.coe_ne_bot _⟩
  refine ⟨Real.exp (-μ) * Real.exp (I.f h.val i.val), mul_pos (Real.exp_pos _) (Real.exp_pos _), fun j => ?_⟩
  rw [r42, r22, hμ, max_eq_right bot_le, (hs j).exp_sub, mul_assoc]

theorem e43 {E : ℝ} (hE : ∀ j : Fin 4096, val_main_v42 (F := Ideal) q k f (ix3 h i j) = ↑(E * I.e h.val i.val j.val)) :
    val_main_v43 (F := Ideal) q k f (ix2 h i) = ↑(E * I.z h.val i.val) := by
  rw [r43]
  simp only [hE, ← coe_sum]
  unfold Inp.z Inp.zs
  rw [Finset.mul_sum, Finset.sum_range]

include H in
theorem e46 : val_main_v46 (F := Ideal) q k f (ix3 h i j) = ↑(I.p h.val i.val j.val) := by
  obtain ⟨E, hE, hw⟩ := row H h i
  have hz := I.z_ne h.val i.val
  rw [r46, e43 h i hw, hw, div_coe (mul_ne_zero hE.ne' hz)]
  unfold Inp.p
  rw [mul_div_mul_left _ _ hE.ne']

include H in
theorem e50 : val_main_v50 (F := Ideal) q k v f (ix3 h i d) = ↑(I.o h.val i.val d.val) := by
  rw [r50]
  simp only [e46 H, e5 H, ← EReal.coe_mul, ← coe_sum]
  unfold Inp.o
  rw [Finset.sum_range]

/-! ## The backward pass -/

include H in
theorem e55 : val_main_v55 (F := Ideal) q k f g (ix3 h d j) = ↑(I.dv h.val j.val d.val) := by
  rw [r55]
  simp only [e46 H, e54 H, ← EReal.coe_mul, ← coe_sum]
  unfold Inp.dv
  rw [Finset.sum_range]
  exact congrArg _ (Finset.sum_congr rfl fun _ _ => mul_comm _ _)

include H in
theorem e57 : val_main_v57 (F := Ideal) v g (ix3 h i j) = ↑(I.dp h.val i.val j.val) := by
  rw [r57]
  simp only [e5 H, e54 H, ← EReal.coe_mul, ← coe_sum]
  unfold Inp.dp
  rw [Finset.sum_range]

include H in
theorem e70 : val_main_v70 (F := Ideal) q k v f g (ix3 h i j) = ↑(I.ds h.val i.val j.val) := by
  obtain ⟨E, hE, hw⟩ := row H h i
  have hE := hE.ne'
  have hz := I.z_ne h.val i.val
  have h43 := e43 h i hw
  have h61 : val_main_v61 (F := Ideal) q k v f g (ix2 h i) = ↑(I.rt h.val i.val / (E * I.z h.val i.val)) := by
    rw [r61]
    simp only [r60, r49, r44, h43, one_pat, e57 H, hw, ← EReal.coe_mul, div_coe (mul_ne_zero (mul_ne_zero hE hz) (mul_ne_zero hE hz)),
      ← coe_sum]
    unfold Inp.rt Inp.p
    rw [Finset.sum_range, Finset.sum_div]
    refine congrArg _ (Finset.sum_congr rfl fun _ _ => ?_)
    field_simp
  rw [r70]
  split
  · rw [r69, r65, r66, r44, h43, h61, e57 H, hw, div_coe (mul_ne_zero hE hz), ← EReal.coe_neg, ← EReal.coe_add, ← EReal.coe_mul]
    congr 1
    unfold Inp.ds Inp.p
    field_simp
    ring
  · rw [I.ds_of_lt (by omega), EReal.coe_zero]

include H in
theorem e77 : val_main_v77 (F := Ideal) q k v f g (ix2 h i) = 0 := by
  rw [r77]
  simp only [e70 H, ← coe_sum]
  rw [← EReal.coe_zero, ← I.sum_ds h.val i.val, Finset.sum_range]

include H in
theorem e78 : val_main_v78 (F := Ideal) q k v f g (ix2 h j) = ↑(I.df h.val j.val) := by
  rw [r78, e77 H, add_zero, r76]
  simp only [e70 H, ← EReal.coe_neg, ← coe_sum]
  unfold Inp.df
  rw [Finset.sum_range, Finset.sum_neg_distrib]

include H in
theorem e81 : val_main_v81 (F := Ideal) q k v f g (ix3 h j d) = ↑(I.dk h.val j.val d.val) := by
  rw [r81]
  simp only [r80, e70 H, e1 H, ofBits_scale, ← EReal.coe_mul, ← coe_sum]
  unfold Inp.dk
  rw [Finset.sum_range, H.c]
  exact congrArg _ (Finset.sum_congr rfl fun _ _ => by ring)

include H in
theorem e82 : val_main_v82 (F := Ideal) q k v f g (ix3 h i d) = ↑(I.dq h.val i.val d.val) := by
  rw [r82]
  simp only [r80, e70 H, e3 H, ofBits_scale, ← EReal.coe_mul, ← coe_sum]
  unfold Inp.dq
  rw [Finset.sum_range, H.c, Finset.mul_sum]
  exact congrArg _ (Finset.sum_congr rfl fun _ _ => by ring)

/-! ## The results -/

include H in
theorem o : val_main_v91 (F := Ideal) q k v f = fun y => ((I.o ((y 1).val / 128) (y 0).val ((y 1).val % 128) : ℝ) : EReal) := by
  funext y
  idx_vars y
  rw [r91 _ _ _ _ _ _ (by omega) (by omega), e50 H]
include H in
theorem dq : val_main_v92 (F := Ideal) q k v f g = fun y => ((I.dq ((y 1).val / 128) (y 0).val ((y 1).val % 128) : ℝ) : EReal) := by
  funext y
  idx_vars y
  rw [r92 _ _ _ _ _ _ _ (by omega) (by omega), e82 H]
include H in
theorem dk : val_main_v93 (F := Ideal) q k v f g = fun y => ((I.dk ((y 1).val / 128) (y 0).val ((y 1).val % 128) : ℝ) : EReal) := by
  funext y
  idx_vars y
  rw [r93 _ _ _ _ _ _ _ (by omega) (by omega), e81 H]
include H in
theorem dv : val_main_v94 (F := Ideal) q k f g = fun y => ((I.dv ((y 1).val / 128) (y 0).val ((y 1).val % 128) : ℝ) : EReal) := by
  funext y
  idx_vars y
  rw [r94 _ _ _ _ _ _ (by omega) (by omega), e55 H]
include H in
theorem df : val_main_v90 (F := Ideal) q k v f g = fun y => ((I.df (y 0).val (1024 * (y 1).val + (y 3).val) : ℝ) : EReal) := by
  funext y
  idx_vars y
  rw [r90 _ _ _ _ _ _ _ _ _ (by omega), e78 H]
  exact congrArg (fun n => ((I.df _ n : ℝ) : EReal)) (by simp only; omega)

end Cert.ReferenceIdeal.Val
-- ==== Proof.Fin.lean ====
module

public import proofs.«01_k».proof.Proof.Gen.Pre_finite
public import proofs.«01_k».proof.Proof.Consts
public import Idealize.ShloMosaic.Lib.ReduceAll

/-! # The precondition: every input is a real number -/

@[expose] public section

noncomputable section

namespace Cert.Pre_finite

open Cert.Fox Idealize.ShloMosaic

instance : Subsingleton S_.Idx := ⟨fun _ _ => funext fun a => a.elim0⟩

/-- A number whose magnitude is below infinity is the real number it reads as. -/
theorem real_of_lt {x : EReal} (h : Ideal.cmp .olt (max x (-x)) (Ideal.ofBits .f32 0x7F800000#32) = 1#1) :
    x = ((x.toReal : ℝ) : EReal) := by
  rw [ofBits_inf] at h
  have h' : max x (-x) < ⊤ := by
    by_contra hc
    simp [Ideal.cmp, hc] at h
  rw [max_lt_iff] at h'
  refine (EReal.coe_toReal h'.1.ne ?_).symm
  rintro rfl
  exact absurd h'.2 (by simp)

theorem and_left {a b : IVec S_ 1} {j : S_.Idx} (h : andi a b j = 1#1) : a j = 1#1 := (IntOp.andi_eq_one.1 h).1
theorem and_right {a b : IVec S_ 1} {j : S_.Idx} (h : andi a b j = 1#1) : b j = 1#1 := (IntOp.andi_eq_one.1 h).2

/-- A matrix's real numbers as a function on the naturals, zero outside it. -/
def nat {a b : ℕ} (x : FVec Ideal ⟨2, ![a, b]⟩ .f32) (n e : ℕ) : ℝ :=
  if h : n < a ∧ e < b then (x (ix2 ⟨n, h.1⟩ ⟨e, h.2⟩) : EReal).toReal else 0

theorem nat_val {a b : ℕ} (x : FVec Ideal ⟨2, ![a, b]⟩ .f32) (n : Fin a) (e : Fin b) :
    nat x n.val e.val = (x (ix2 n e) : EReal).toReal := dif_pos ⟨n.isLt, e.isLt⟩

/-- The inputs as real numbers. -/
def inp (q k v : FVec Ideal S4096x2048 .f32) (f : FVec Ideal S16x4096 .f32) (g : FVec Ideal S4096x2048 .f32) : Inp :=
  ⟨nat q, nat k, nat v, nat g, nat f, scale⟩

theorem reals (q k v : FVec Ideal S4096x2048 .f32) (f : FVec Ideal S16x4096 .f32) (g : FVec Ideal S4096x2048 .f32)
    (h : Cert.Pre_finite.fn (F := Ideal) q k v f g = fun _ => 1#1) : Reals (inp q k v f g) q k v f g := by
  have e := congrFun h (fun a => a.elim0)
  unfold fn fn_part1 at e
  dsimp only at e
  have e4 := and_right e
  have e3 := and_right (and_left e)
  have e2 := and_right (and_left (and_left e))
  have e1 := and_right (and_left (and_left (and_left e)))
  have e0 := and_left (and_left (and_left (and_left e)))
  refine ⟨rfl, fun n d => ?_, fun n d => ?_, fun n d => ?_, fun a n => ?_, fun n d => ?_⟩
  · exact (real_of_lt (Host.reduce_andi_all _ _ _ _ _ e0 (ix2 n d))).trans (congrArg _ (nat_val _ _ _).symm)
  · exact (real_of_lt (Host.reduce_andi_all _ _ _ _ _ e1 (ix2 n d))).trans (congrArg _ (nat_val _ _ _).symm)
  · exact (real_of_lt (Host.reduce_andi_all _ _ _ _ _ e2 (ix2 n d))).trans (congrArg _ (nat_val _ _ _).symm)
  · exact (real_of_lt (Host.reduce_andi_all _ _ _ _ _ e3 (ix2 a n))).trans (congrArg _ (nat_val _ _ _).symm)
  · exact (real_of_lt (Host.reduce_andi_all _ _ _ _ _ e4 (ix2 n d))).trans (congrArg _ (nat_val _ _ _).symm)

end Cert.Pre_finite
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal

public import proofs.«01_k».proof.Proof.Gen.Pre_finite
public import proofs.«01_k».proof.Proof.Gen.W1Grad.Frame
public import proofs.«01_k».proof.Proof.Gen.W1GradIdeal.Frame
public import proofs.«01_k».proof.Proof.Gen.RefW1GradIdeal
public import proofs.«01_k».proof.Proof.Gen.UpBwd.Frame
public import proofs.«01_k».proof.Proof.Gen.UpBwdIdeal.Frame
public import proofs.«01_k».proof.Proof.Gen.RefUpBwdIdeal
public import proofs.«01_k».proof.Proof.Gen.W2Grad.Frame
public import proofs.«01_k».proof.Proof.Gen.W2GradIdeal.Frame
public import proofs.«01_k».proof.Proof.Gen.RefW2GradIdeal
public import proofs.«01_k».proof.Proof.Gen.DownBwd.Frame
public import proofs.«01_k».proof.Proof.Gen.DownBwdIdeal.Frame
public import proofs.«01_k».proof.Proof.Gen.RefDownBwdIdeal
public import proofs.«01_k».proof.Proof.Gen.WinGrad.Frame
public import proofs.«01_k».proof.Proof.Gen.WinGradIdeal.Frame
public import proofs.«01_k».proof.Proof.Gen.RefWinGradIdeal
public import proofs.«01_k».proof.Proof.Gen.InBwd.Frame
public import proofs.«01_k».proof.Proof.Gen.InBwdIdeal.Frame
public import proofs.«01_k».proof.Proof.Gen.RefInBwdIdeal
public import proofs.«01_k».proof.Proof.Gen.WoutGrad.Frame
public import proofs.«01_k».proof.Proof.Gen.WoutGradIdeal.Frame
public import proofs.«01_k».proof.Proof.Gen.RefWoutGradIdeal
public import proofs.«01_k».proof.Proof.Gen.OutBwd.Frame
public import proofs.«01_k».proof.Proof.Gen.OutBwdIdeal.Frame
public import proofs.«01_k».proof.Proof.Gen.RefOutBwdIdeal
public import proofs.«01_k».proof.Proof.Gen.MlpUp.Frame
public import proofs.«01_k».proof.Proof.Gen.MlpUpIdeal.Frame
public import proofs.«01_k».proof.Proof.Gen.RefMlpUpIdeal
public import proofs.«01_k».proof.Proof.Gen.MlpDown.Frame
public import proofs.«01_k».proof.Proof.Gen.MlpDownIdeal.Frame
public import proofs.«01_k».proof.Proof.Gen.RefMlpDownIdeal
public import proofs.«01_k».proof.Proof.Gen.GmlpOut.Frame
public import proofs.«01_k».proof.Proof.Gen.GmlpOutIdeal.Frame
public import proofs.«01_k».proof.Proof.Gen.RefGmlpOutIdeal
public import proofs.«01_k».proof.Proof.Gen.GmlpIn.Frame
public import proofs.«01_k».proof.Proof.Gen.GmlpInIdeal.Frame
public import proofs.«01_k».proof.Proof.Gen.RefGmlpInIdeal
public import proofs.«01_k».proof.Proof.Gen.WoGrad.Frame
public import proofs.«01_k».proof.Proof.Gen.WoGradIdeal.Frame
public import proofs.«01_k».proof.Proof.Gen.RefWoGradIdeal
public import proofs.«01_k».proof.Proof.Gen.OBwd.Frame
public import proofs.«01_k».proof.Proof.Gen.OBwdIdeal.Frame
public import proofs.«01_k».proof.Proof.Gen.RefOBwdIdeal
public import proofs.«01_k».proof.Proof.Gen.AttnO.Frame
public import proofs.«01_k».proof.Proof.Gen.AttnOIdeal.Frame
public import proofs.«01_k».proof.Proof.Gen.RefAttnOIdeal
public import proofs.«01_k».proof.Proof.Gen.WqGrad.Frame
public import proofs.«01_k».proof.Proof.Gen.WqGradIdeal.Frame
public import proofs.«01_k».proof.Proof.Gen.RefWqGradIdeal
public import proofs.«01_k».proof.Proof.Gen.QBwd.Frame
public import proofs.«01_k».proof.Proof.Gen.QBwdIdeal.Frame
public import proofs.«01_k».proof.Proof.Gen.RefQBwdIdeal
public import proofs.«01_k».proof.Proof.Gen.KvGrad.Frame
public import proofs.«01_k».proof.Proof.Gen.KvGradIdeal.Frame
public import proofs.«01_k».proof.Proof.Gen.RefKvGradIdeal
public import proofs.«01_k».proof.Proof.Gen.KvBwd.Frame
public import proofs.«01_k».proof.Proof.Gen.KvBwdIdeal.Frame
public import proofs.«01_k».proof.Proof.Gen.RefKvBwdIdeal
public import proofs.«01_k».proof.Proof.Gen.KvV.Frame
public import proofs.«01_k».proof.Proof.Gen.KvVIdeal.Frame
public import proofs.«01_k».proof.Proof.Gen.RefKvVIdeal
public import proofs.«01_k».proof.Proof.Gen.AdamBig1.Frame
public import proofs.«01_k».proof.Proof.Gen.AdamBig1Ideal.Frame
public import proofs.«01_k».proof.Proof.Gen.RefAdamBig1Ideal
public import proofs.«01_k».proof.Proof.Gen.AdamBig2.Frame
public import proofs.«01_k».proof.Proof.Gen.AdamBig2Ideal.Frame
public import proofs.«01_k».proof.Proof.Gen.RefAdamBig2Ideal
public import proofs.«01_k».proof.Proof.Gen.AdamBig3.Frame
public import proofs.«01_k».proof.Proof.Gen.AdamBig3Ideal.Frame
public import proofs.«01_k».proof.Proof.Gen.RefAdamBig3Ideal
public import proofs.«01_k».proof.Proof.Gen.AdamBig4.Frame
public import proofs.«01_k».proof.Proof.Gen.AdamBig4Ideal.Frame
public import proofs.«01_k».proof.Proof.Gen.RefAdamBig4Ideal
public import proofs.«01_k».proof.Proof.Gen.AdamBig5.Frame
public import proofs.«01_k».proof.Proof.Gen.AdamBig5Ideal.Frame
public import proofs.«01_k».proof.Proof.Gen.RefAdamBig5Ideal
public import proofs.«01_k».proof.Proof.Gen.AdamAdaB.Frame
public import proofs.«01_k».proof.Proof.Gen.AdamAdaBIdeal.Frame
public import proofs.«01_k».proof.Proof.Gen.RefAdamAdaBIdeal
public import proofs.«01_k».proof.Proof.Gen.AdamNormG.Frame
public import proofs.«01_k».proof.Proof.Gen.AdamNormGIdeal.Frame
public import proofs.«01_k».proof.Proof.Gen.RefAdamNormGIdeal
public import proofs.«01_k».proof.Proof.Gen.AdamLnG.Frame
public import proofs.«01_k».proof.Proof.Gen.AdamLnGIdeal.Frame
public import proofs.«01_k».proof.Proof.Gen.RefAdamLnGIdeal
public import proofs.«01_k».proof.Proof.Gen.AdamWs.Frame
public import proofs.«01_k».proof.Proof.Gen.AdamWsIdeal.Frame
public import proofs.«01_k».proof.Proof.Gen.RefAdamWsIdeal
public import proofs.«01_k».proof.Proof.Gen.AdamBs.Frame
public import proofs.«01_k».proof.Proof.Gen.AdamBsIdeal.Frame
public import proofs.«01_k».proof.Proof.Gen.RefAdamBsIdeal
public import proofs.«01_k».proof.Proof.Gen.AdamKvNormG.Frame
public import proofs.«01_k».proof.Proof.Gen.AdamKvNormGIdeal.Frame
public import proofs.«01_k».proof.Proof.Gen.RefAdamKvNormGIdeal
public import proofs.«01_k».proof.Proof.Gen.AdamKvAdaB.Frame
public import proofs.«01_k».proof.Proof.Gen.AdamKvAdaBIdeal.Frame
public import proofs.«01_k».proof.Proof.Gen.RefAdamKvAdaBIdeal
public import proofs.«01_k».proof.Proof.Gen.AdamKNormG.Frame
public import proofs.«01_k».proof.Proof.Gen.AdamKNormGIdeal.Frame
public import proofs.«01_k».proof.Proof.Gen.RefAdamKNormGIdeal
public import proofs.«01_k».proof.Proof.Gen.AdamWf.Frame
public import proofs.«01_k».proof.Proof.Gen.AdamWfIdeal.Frame
public import proofs.«01_k».proof.Proof.Gen.RefAdamWfIdeal
public import proofs.«01_k».proof.Proof.Gen.AdamBf.Frame
public import proofs.«01_k».proof.Proof.Gen.AdamBfIdeal.Frame
public import proofs.«01_k».proof.Proof.Gen.RefAdamBfIdeal
public import proofs.«01_k».proof.Proof.Gen.AdamQNormG.Frame
public import proofs.«01_k».proof.Proof.Gen.AdamQNormGIdeal.Frame
public import proofs.«01_k».proof.Proof.Gen.RefAdamQNormGIdeal
public import proofs.«01_k».proof.Proof.Gen.AdamAda.Frame
public import proofs.«01_k».proof.Proof.Gen.AdamAdaIdeal.Frame
public import proofs.«01_k».proof.Proof.Gen.RefAdamAdaIdeal
public import proofs.«01_k».proof.Proof.Gen.AdamKvAda.Frame
public import proofs.«01_k».proof.Proof.Gen.AdamKvAdaIdeal.Frame
public import proofs.«01_k».proof.Proof.Gen.RefAdamKvAdaIdeal
public import proofs.«01_k».proof.Proof.Gen.MixBwd.Frame
public import proofs.«01_k».proof.Proof.Gen.MixBwdIdeal.Frame
public import proofs.«01_k».proof.Proof.Gen.RefMixBwdIdeal
public import proofs.«01_k».proof.Proof.Gen.MixFwd.Frame
public import proofs.«01_k».proof.Proof.Gen.MixFwdIdeal.Frame
public import proofs.«01_k».proof.Proof.Gen.RefMixFwdIdeal
public import proofs.«01_k».proof.Proof.Gen.GateBwd.Frame
public import proofs.«01_k».proof.Proof.Gen.GateBwdIdeal.Frame
public import proofs.«01_k».proof.Proof.Gen.RefGateBwdIdeal
public import proofs.«01_k».proof.Proof.Gen.ModNorm.Frame
public import proofs.«01_k».proof.Proof.Gen.ModNormIdeal.Frame
public import proofs.«01_k».proof.Proof.Gen.RefModNormIdeal
public import proofs.«01_k».proof.Proof.Gen.LnFwd.Frame
public import proofs.«01_k».proof.Proof.Gen.LnFwdIdeal.Frame
public import proofs.«01_k».proof.Proof.Gen.RefLnFwdIdeal

public import proofs.«01_k».proof.Proof.W1GradR
public import proofs.«01_k».proof.Proof.UpBwdR
public import proofs.«01_k».proof.Proof.W2GradR
public import proofs.«01_k».proof.Proof.DownBwdR
public import proofs.«01_k».proof.Proof.WinGradR
public import proofs.«01_k».proof.Proof.InBwdR
public import proofs.«01_k».proof.Proof.WoutGradR
public import proofs.«01_k».proof.Proof.OutBwdR
public import proofs.«01_k».proof.Proof.MlpUpR
public import proofs.«01_k».proof.Proof.MlpDownR
public import proofs.«01_k».proof.Proof.GmlpOutR
public import proofs.«01_k».proof.Proof.GmlpInR
public import proofs.«01_k».proof.Proof.WoGradR
public import proofs.«01_k».proof.Proof.OBwdR
public import proofs.«01_k».proof.Proof.AttnOR
public import proofs.«01_k».proof.Proof.WqGradR
public import proofs.«01_k».proof.Proof.QBwdR
public import proofs.«01_k».proof.Proof.KvGradR
public import proofs.«01_k».proof.Proof.KvBwdR
public import proofs.«01_k».proof.Proof.KvVR
public import proofs.«01_k».proof.Proof.AdamBig1R
public import proofs.«01_k».proof.Proof.AdamBig2R
public import proofs.«01_k».proof.Proof.AdamBig3R
public import proofs.«01_k».proof.Proof.AdamBig4R
public import proofs.«01_k».proof.Proof.AdamBig5R
public import proofs.«01_k».proof.Proof.AdamAdaBR
public import proofs.«01_k».proof.Proof.AdamNormGR
public import proofs.«01_k».proof.Proof.AdamLnGR
public import proofs.«01_k».proof.Proof.AdamWsR
public import proofs.«01_k».proof.Proof.AdamBsR
public import proofs.«01_k».proof.Proof.AdamKvNormGR
public import proofs.«01_k».proof.Proof.AdamKvAdaBR
public import proofs.«01_k».proof.Proof.AdamKNormGR
public import proofs.«01_k».proof.Proof.AdamWfR
public import proofs.«01_k».proof.Proof.AdamBfR
public import proofs.«01_k».proof.Proof.AdamQNormGR
public import proofs.«01_k».proof.Proof.AdamAdaR
public import proofs.«01_k».proof.Proof.AdamKvAdaR
public import proofs.«01_k».proof.Proof.MixBwdR
public import proofs.«01_k».proof.Proof.MixFwdR
public import proofs.«01_k».proof.Proof.GateBwdR
public import proofs.«01_k».proof.Proof.ModNormR
public import proofs.«01_k».proof.Proof.LnFwdR
public import proofs.«01_k».proof.Proof.Run
public import proofs.«01_k».proof.Proof.Ref
public import proofs.«01_k».proof.Proof.Fin

public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite := by
  intro m g m' g' hpre hargs
  have H := fun c => Cert.Pre_finite.reals _ _ _ _ _ (hpre c)
  refine ⟨fun c => _, fun c => _, fun c => _, fun c => _, fun c => _, Cert.KernelIdeal.Arr.run m g _ H,
    (θ_run Cert.ReferenceIdeal.defs _ _).mono (fun r h c => ?_) (Cert.ReferenceIdeal.Value.run (F := Ideal) m' g')⟩
  obtain ⟨ho, hq, hk, hv, hf, hrest⟩ := h c
  obtain ⟨a0, a1, a2, a3, a4⟩ := hargs c
  refine ⟨ho.trans ?_, hq.trans ?_, hk.trans ?_, hv.trans ?_, hf.trans ?_, hrest⟩
  · rw [Cert.ReferenceIdeal.Read.val_main_v91_eq, a0, a1, a2, a3]
    exact Cert.ReferenceIdeal.Val.o (H c)
  · rw [Cert.ReferenceIdeal.Read.val_main_v92_eq, a0, a1, a2, a3, a4]
    exact Cert.ReferenceIdeal.Val.dq (H c)
  · rw [Cert.ReferenceIdeal.Read.val_main_v93_eq, a0, a1, a2, a3, a4]
    exact Cert.ReferenceIdeal.Val.dk (H c)
  · rw [Cert.ReferenceIdeal.Read.val_main_v94_eq, a0, a1, a3, a4]
    exact Cert.ReferenceIdeal.Val.dv (H c)
  · rw [Cert.ReferenceIdeal.Read.val_main_v90_eq, a0, a1, a2, a3, a4]
    exact Cert.ReferenceIdeal.Val.df (H c)

theorem claim : Cert.Claim :=
  ⟨Cert.Kernel.Gen.facts, Cert.KernelIdeal.Gen.facts, Cert.ReferenceIdeal.Gen.facts, Cert.W1Grad.Gen.facts,
    Cert.W1GradIdeal.Gen.facts, Cert.RefW1GradIdeal.Gen.facts, Cert.UpBwd.Gen.facts, Cert.UpBwdIdeal.Gen.facts,
    Cert.RefUpBwdIdeal.Gen.facts, Cert.W2Grad.Gen.facts, Cert.W2GradIdeal.Gen.facts, Cert.RefW2GradIdeal.Gen.facts,
    Cert.DownBwd.Gen.facts, Cert.DownBwdIdeal.Gen.facts, Cert.RefDownBwdIdeal.Gen.facts, Cert.WinGrad.Gen.facts,
    Cert.WinGradIdeal.Gen.facts, Cert.RefWinGradIdeal.Gen.facts, Cert.InBwd.Gen.facts, Cert.InBwdIdeal.Gen.facts,
    Cert.RefInBwdIdeal.Gen.facts, Cert.WoutGrad.Gen.facts, Cert.WoutGradIdeal.Gen.facts, Cert.RefWoutGradIdeal.Gen.facts,
    Cert.OutBwd.Gen.facts, Cert.OutBwdIdeal.Gen.facts, Cert.RefOutBwdIdeal.Gen.facts, Cert.MlpUp.Gen.facts,
    Cert.MlpUpIdeal.Gen.facts, Cert.RefMlpUpIdeal.Gen.facts, Cert.MlpDown.Gen.facts, Cert.MlpDownIdeal.Gen.facts,
    Cert.RefMlpDownIdeal.Gen.facts, Cert.GmlpOut.Gen.facts, Cert.GmlpOutIdeal.Gen.facts, Cert.RefGmlpOutIdeal.Gen.facts,
    Cert.GmlpIn.Gen.facts, Cert.GmlpInIdeal.Gen.facts, Cert.RefGmlpInIdeal.Gen.facts, Cert.WoGrad.Gen.facts,
    Cert.WoGradIdeal.Gen.facts, Cert.RefWoGradIdeal.Gen.facts, Cert.OBwd.Gen.facts, Cert.OBwdIdeal.Gen.facts,
    Cert.RefOBwdIdeal.Gen.facts, Cert.AttnO.Gen.facts, Cert.AttnOIdeal.Gen.facts, Cert.RefAttnOIdeal.Gen.facts,
    Cert.WqGrad.Gen.facts, Cert.WqGradIdeal.Gen.facts, Cert.RefWqGradIdeal.Gen.facts, Cert.QBwd.Gen.facts,
    Cert.QBwdIdeal.Gen.facts, Cert.RefQBwdIdeal.Gen.facts, Cert.KvGrad.Gen.facts, Cert.KvGradIdeal.Gen.facts,
    Cert.RefKvGradIdeal.Gen.facts, Cert.KvBwd.Gen.facts, Cert.KvBwdIdeal.Gen.facts, Cert.RefKvBwdIdeal.Gen.facts,
    Cert.KvV.Gen.facts, Cert.KvVIdeal.Gen.facts, Cert.RefKvVIdeal.Gen.facts, Cert.AdamBig1.Gen.facts,
    Cert.AdamBig1Ideal.Gen.facts, Cert.RefAdamBig1Ideal.Gen.facts, Cert.AdamBig2.Gen.facts, Cert.AdamBig2Ideal.Gen.facts,
    Cert.RefAdamBig2Ideal.Gen.facts, Cert.AdamBig3.Gen.facts, Cert.AdamBig3Ideal.Gen.facts, Cert.RefAdamBig3Ideal.Gen.facts,
    Cert.AdamBig4.Gen.facts, Cert.AdamBig4Ideal.Gen.facts, Cert.RefAdamBig4Ideal.Gen.facts, Cert.AdamBig5.Gen.facts,
    Cert.AdamBig5Ideal.Gen.facts, Cert.RefAdamBig5Ideal.Gen.facts, Cert.AdamAdaB.Gen.facts, Cert.AdamAdaBIdeal.Gen.facts,
    Cert.RefAdamAdaBIdeal.Gen.facts, Cert.AdamNormG.Gen.facts, Cert.AdamNormGIdeal.Gen.facts,
    Cert.RefAdamNormGIdeal.Gen.facts, Cert.AdamLnG.Gen.facts, Cert.AdamLnGIdeal.Gen.facts, Cert.RefAdamLnGIdeal.Gen.facts,
    Cert.AdamWs.Gen.facts, Cert.AdamWsIdeal.Gen.facts, Cert.RefAdamWsIdeal.Gen.facts, Cert.AdamBs.Gen.facts,
    Cert.AdamBsIdeal.Gen.facts, Cert.RefAdamBsIdeal.Gen.facts, Cert.AdamKvNormG.Gen.facts, Cert.AdamKvNormGIdeal.Gen.facts,
    Cert.RefAdamKvNormGIdeal.Gen.facts, Cert.AdamKvAdaB.Gen.facts, Cert.AdamKvAdaBIdeal.Gen.facts,
    Cert.RefAdamKvAdaBIdeal.Gen.facts, Cert.AdamKNormG.Gen.facts, Cert.AdamKNormGIdeal.Gen.facts,
    Cert.RefAdamKNormGIdeal.Gen.facts, Cert.AdamWf.Gen.facts, Cert.AdamWfIdeal.Gen.facts, Cert.RefAdamWfIdeal.Gen.facts,
    Cert.AdamBf.Gen.facts, Cert.AdamBfIdeal.Gen.facts, Cert.RefAdamBfIdeal.Gen.facts, Cert.AdamQNormG.Gen.facts,
    Cert.AdamQNormGIdeal.Gen.facts, Cert.RefAdamQNormGIdeal.Gen.facts, Cert.AdamAda.Gen.facts, Cert.AdamAdaIdeal.Gen.facts,
    Cert.RefAdamAdaIdeal.Gen.facts, Cert.AdamKvAda.Gen.facts, Cert.AdamKvAdaIdeal.Gen.facts,
    Cert.RefAdamKvAdaIdeal.Gen.facts, Cert.MixBwd.Gen.facts, Cert.MixBwdIdeal.Gen.facts, Cert.RefMixBwdIdeal.Gen.facts,
    Cert.MixFwd.Gen.facts, Cert.MixFwdIdeal.Gen.facts, Cert.RefMixFwdIdeal.Gen.facts, Cert.GateBwd.Gen.facts,
    Cert.GateBwdIdeal.Gen.facts, Cert.RefGateBwdIdeal.Gen.facts, Cert.ModNorm.Gen.facts, Cert.ModNormIdeal.Gen.facts,
    Cert.RefModNormIdeal.Gen.facts, Cert.LnFwd.Gen.facts, Cert.LnFwdIdeal.Gen.facts, Cert.RefLnFwdIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.W1Grad.Gen.frame m ρ, fun m ρ _ => Cert.W1GradIdeal.Gen.frame m ρ,
    Cert.W1GradIdeal.Val.frame_reference, fun m ρ _ => Cert.UpBwd.Gen.frame m ρ, fun m ρ _ => Cert.UpBwdIdeal.Gen.frame m ρ,
    Cert.UpBwdIdeal.Val.frame_reference, fun m ρ _ => Cert.W2Grad.Gen.frame m ρ, fun m ρ _ => Cert.W2GradIdeal.Gen.frame m ρ,
    Cert.W2GradIdeal.Val.frame_reference, fun m ρ _ => Cert.DownBwd.Gen.frame m ρ,
    fun m ρ _ => Cert.DownBwdIdeal.Gen.frame m ρ, Cert.DownBwdIdeal.Val.frame_reference,
    fun m ρ _ => Cert.WinGrad.Gen.frame m ρ, fun m ρ _ => Cert.WinGradIdeal.Gen.frame m ρ,
    Cert.WinGradIdeal.Val.frame_reference, fun m ρ _ => Cert.InBwd.Gen.frame m ρ, fun m ρ _ => Cert.InBwdIdeal.Gen.frame m ρ,
    Cert.InBwdIdeal.Val.frame_reference, fun m ρ _ => Cert.WoutGrad.Gen.frame m ρ,
    fun m ρ _ => Cert.WoutGradIdeal.Gen.frame m ρ, Cert.WoutGradIdeal.Val.frame_reference,
    fun m ρ _ => Cert.OutBwd.Gen.frame m ρ, fun m ρ _ => Cert.OutBwdIdeal.Gen.frame m ρ,
    Cert.OutBwdIdeal.Val.frame_reference, fun m ρ _ => Cert.MlpUp.Gen.frame m ρ, fun m ρ _ => Cert.MlpUpIdeal.Gen.frame m ρ,
    Cert.MlpUpIdeal.Val.frame_reference, fun m ρ _ => Cert.MlpDown.Gen.frame m ρ,
    fun m ρ _ => Cert.MlpDownIdeal.Gen.frame m ρ, Cert.MlpDownIdeal.Val.frame_reference,
    fun m ρ _ => Cert.GmlpOut.Gen.frame m ρ, fun m ρ _ => Cert.GmlpOutIdeal.Gen.frame m ρ,
    Cert.GmlpOutIdeal.Val.frame_reference, fun m ρ _ => Cert.GmlpIn.Gen.frame m ρ,
    fun m ρ _ => Cert.GmlpInIdeal.Gen.frame m ρ, Cert.GmlpInIdeal.Val.frame_reference,
    fun m ρ _ => Cert.WoGrad.Gen.frame m ρ, fun m ρ _ => Cert.WoGradIdeal.Gen.frame m ρ,
    Cert.WoGradIdeal.Val.frame_reference, fun m ρ _ => Cert.OBwd.Gen.frame m ρ, fun m ρ _ => Cert.OBwdIdeal.Gen.frame m ρ,
    Cert.OBwdIdeal.Val.frame_reference, fun m ρ _ => Cert.AttnO.Gen.frame m ρ, fun m ρ _ => Cert.AttnOIdeal.Gen.frame m ρ,
    Cert.AttnOIdeal.Val.frame_reference, fun m ρ _ => Cert.WqGrad.Gen.frame m ρ, fun m ρ _ => Cert.WqGradIdeal.Gen.frame m ρ,
    Cert.WqGradIdeal.Val.frame_reference, fun m ρ _ => Cert.QBwd.Gen.frame m ρ, fun m ρ _ => Cert.QBwdIdeal.Gen.frame m ρ,
    Cert.QBwdIdeal.Val.frame_reference, fun m ρ _ => Cert.KvGrad.Gen.frame m ρ, fun m ρ _ => Cert.KvGradIdeal.Gen.frame m ρ,
    Cert.KvGradIdeal.Val.frame_reference, fun m ρ _ => Cert.KvBwd.Gen.frame m ρ, fun m ρ _ => Cert.KvBwdIdeal.Gen.frame m ρ,
    Cert.KvBwdIdeal.Val.frame_reference, fun m ρ _ => Cert.KvV.Gen.frame m ρ, fun m ρ _ => Cert.KvVIdeal.Gen.frame m ρ,
    Cert.KvVIdeal.Val.frame_reference, fun m ρ _ => Cert.AdamBig1.Gen.frame m ρ,
    fun m ρ _ => Cert.AdamBig1Ideal.Gen.frame m ρ, Cert.AdamBig1Ideal.Val.frame_reference,
    fun m ρ _ => Cert.AdamBig2.Gen.frame m ρ, fun m ρ _ => Cert.AdamBig2Ideal.Gen.frame m ρ,
    Cert.AdamBig2Ideal.Val.frame_reference, fun m ρ _ => Cert.AdamBig3.Gen.frame m ρ,
    fun m ρ _ => Cert.AdamBig3Ideal.Gen.frame m ρ, Cert.AdamBig3Ideal.Val.frame_reference,
    fun m ρ _ => Cert.AdamBig4.Gen.frame m ρ, fun m ρ _ => Cert.AdamBig4Ideal.Gen.frame m ρ,
    Cert.AdamBig4Ideal.Val.frame_reference, fun m ρ _ => Cert.AdamBig5.Gen.frame m ρ,
    fun m ρ _ => Cert.AdamBig5Ideal.Gen.frame m ρ, Cert.AdamBig5Ideal.Val.frame_reference,
    fun m ρ _ => Cert.AdamAdaB.Gen.frame m ρ, fun m ρ _ => Cert.AdamAdaBIdeal.Gen.frame m ρ,
    Cert.AdamAdaBIdeal.Val.frame_reference, fun m ρ _ => Cert.AdamNormG.Gen.frame m ρ,
    fun m ρ _ => Cert.AdamNormGIdeal.Gen.frame m ρ, Cert.AdamNormGIdeal.Val.frame_reference,
    fun m ρ _ => Cert.AdamLnG.Gen.frame m ρ, fun m ρ _ => Cert.AdamLnGIdeal.Gen.frame m ρ,
    Cert.AdamLnGIdeal.Val.frame_reference, fun m ρ _ => Cert.AdamWs.Gen.frame m ρ,
    fun m ρ _ => Cert.AdamWsIdeal.Gen.frame m ρ, Cert.AdamWsIdeal.Val.frame_reference,
    fun m ρ _ => Cert.AdamBs.Gen.frame m ρ, fun m ρ _ => Cert.AdamBsIdeal.Gen.frame m ρ,
    Cert.AdamBsIdeal.Val.frame_reference, fun m ρ _ => Cert.AdamKvNormG.Gen.frame m ρ,
    fun m ρ _ => Cert.AdamKvNormGIdeal.Gen.frame m ρ, Cert.AdamKvNormGIdeal.Val.frame_reference,
    fun m ρ _ => Cert.AdamKvAdaB.Gen.frame m ρ, fun m ρ _ => Cert.AdamKvAdaBIdeal.Gen.frame m ρ,
    Cert.AdamKvAdaBIdeal.Val.frame_reference, fun m ρ _ => Cert.AdamKNormG.Gen.frame m ρ,
    fun m ρ _ => Cert.AdamKNormGIdeal.Gen.frame m ρ, Cert.AdamKNormGIdeal.Val.frame_reference,
    fun m ρ _ => Cert.AdamWf.Gen.frame m ρ, fun m ρ _ => Cert.AdamWfIdeal.Gen.frame m ρ,
    Cert.AdamWfIdeal.Val.frame_reference, fun m ρ _ => Cert.AdamBf.Gen.frame m ρ,
    fun m ρ _ => Cert.AdamBfIdeal.Gen.frame m ρ, Cert.AdamBfIdeal.Val.frame_reference,
    fun m ρ _ => Cert.AdamQNormG.Gen.frame m ρ, fun m ρ _ => Cert.AdamQNormGIdeal.Gen.frame m ρ,
    Cert.AdamQNormGIdeal.Val.frame_reference, fun m ρ _ => Cert.AdamAda.Gen.frame m ρ,
    fun m ρ _ => Cert.AdamAdaIdeal.Gen.frame m ρ, Cert.AdamAdaIdeal.Val.frame_reference,
    fun m ρ _ => Cert.AdamKvAda.Gen.frame m ρ, fun m ρ _ => Cert.AdamKvAdaIdeal.Gen.frame m ρ,
    Cert.AdamKvAdaIdeal.Val.frame_reference, fun m ρ _ => Cert.MixBwd.Gen.frame m ρ,
    fun m ρ _ => Cert.MixBwdIdeal.Gen.frame m ρ, Cert.MixBwdIdeal.Val.frame_reference,
    fun m ρ _ => Cert.MixFwd.Gen.frame m ρ, fun m ρ _ => Cert.MixFwdIdeal.Gen.frame m ρ,
    Cert.MixFwdIdeal.Val.frame_reference, fun m ρ _ => Cert.GateBwd.Gen.frame m ρ,
    fun m ρ _ => Cert.GateBwdIdeal.Gen.frame m ρ, Cert.GateBwdIdeal.Val.frame_reference,
    fun m ρ _ => Cert.ModNorm.Gen.frame m ρ, fun m ρ _ => Cert.ModNormIdeal.Gen.frame m ρ,
    Cert.ModNormIdeal.Val.frame_reference, fun m ρ _ => Cert.LnFwd.Gen.frame m ρ, fun m ρ _ => Cert.LnFwdIdeal.Gen.frame m ρ,
    Cert.LnFwdIdeal.Val.frame_reference,
    preserves, algebraic, trivial, Cert.W1GradIdeal.Val.algebraic, trivial, Cert.UpBwdIdeal.Val.algebraic, trivial,
    Cert.W2GradIdeal.Val.algebraic, trivial, Cert.DownBwdIdeal.Val.algebraic, trivial, Cert.WinGradIdeal.Val.algebraic,
    trivial, Cert.InBwdIdeal.Val.algebraic, trivial, Cert.WoutGradIdeal.Val.algebraic, trivial,
    Cert.OutBwdIdeal.Val.algebraic, trivial, Cert.MlpUpIdeal.Val.algebraic, trivial, Cert.MlpDownIdeal.Val.algebraic,
    trivial, Cert.GmlpOutIdeal.Val.algebraic, trivial, Cert.GmlpInIdeal.Val.algebraic, trivial,
    Cert.WoGradIdeal.Val.algebraic, trivial, Cert.OBwdIdeal.Val.algebraic, trivial, Cert.AttnOIdeal.Val.algebraic, trivial,
    Cert.WqGradIdeal.Val.algebraic, trivial, Cert.QBwdIdeal.Val.algebraic, trivial, Cert.KvGradIdeal.Val.algebraic, trivial,
    Cert.KvBwdIdeal.Val.algebraic, trivial, Cert.KvVIdeal.Val.algebraic, trivial, Cert.AdamBig1Ideal.Val.algebraic, trivial,
    Cert.AdamBig2Ideal.Val.algebraic, trivial, Cert.AdamBig3Ideal.Val.algebraic, trivial, Cert.AdamBig4Ideal.Val.algebraic,
    trivial, Cert.AdamBig5Ideal.Val.algebraic, trivial, Cert.AdamAdaBIdeal.Val.algebraic, trivial,
    Cert.AdamNormGIdeal.Val.algebraic, trivial, Cert.AdamLnGIdeal.Val.algebraic, trivial, Cert.AdamWsIdeal.Val.algebraic,
    trivial, Cert.AdamBsIdeal.Val.algebraic, trivial, Cert.AdamKvNormGIdeal.Val.algebraic, trivial,
    Cert.AdamKvAdaBIdeal.Val.algebraic, trivial, Cert.AdamKNormGIdeal.Val.algebraic, trivial, Cert.AdamWfIdeal.Val.algebraic,
    trivial, Cert.AdamBfIdeal.Val.algebraic, trivial, Cert.AdamQNormGIdeal.Val.algebraic, trivial,
    Cert.AdamAdaIdeal.Val.algebraic, trivial, Cert.AdamKvAdaIdeal.Val.algebraic, trivial, Cert.MixBwdIdeal.Val.algebraic,
    trivial, Cert.MixFwdIdeal.Val.algebraic, trivial, Cert.GateBwdIdeal.Val.algebraic, trivial,
    Cert.ModNormIdeal.Val.algebraic, trivial, Cert.LnFwdIdeal.Val.algebraic⟩

end Cert.Proof

end
